-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_in_range [hPre_gates_in_range : Cert.Pre_gates_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.1 = (fun _ => 1#1)
    ∧ (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_in_range [hPre_gates_in_range : Cert.Pre_gates_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.1 = (fun _ => 1#1)
    ∧ (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2 = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_RefFfnOutIdeal (m : (ℓ : Loc Cert.RefFfnOutIdeal.nD Cert.RefFfnOutIdeal.τ Cert.RefFfnOutIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_RefDH2Ideal (m : (ℓ : Loc Cert.RefDH2Ideal.nD Cert.RefDH2Ideal.τ Cert.RefDH2Ideal.sig) → Buf (Elt Ideal) ℓ) : Prop :=
  True

def Pre_DwFfnIn (m : (ℓ : Loc Cert.DwFfnIn.nD Cert.DwFfnIn.τ Cert.DwFfnIn.sig) → Buf (Elt Bits) ℓ) : Prop :=
  True

def Pre_DwFfnInIdeal (m : (ℓ : Loc Cert.DwFfnInIdeal.nD Cert.DwFfnInIdeal.τ Cert.DwFfnInIdeal.sig) → Buf (Elt Ideal) ℓ) : Prop :=
  True

def Pre_RefDwFfnInIdeal (m : (ℓ : Loc Cert.RefDwFfnInIdeal.nD Cert.RefDwFfnInIdeal.τ Cert.RefDwFfnInIdeal.sig) → Buf (Elt Ideal) ℓ) : Prop :=
  True

def Pre_DwFfnOut (m : (ℓ : Loc Cert.DwFfnOut.nD Cert.DwFfnOut.τ Cert.DwFfnOut.sig) → Buf (Elt Bits) ℓ) : Prop :=
  True

def Pre_DwFfnOutIdeal (m : (ℓ : Loc Cert.DwFfnOutIdeal.nD Cert.DwFfnOutIdeal.τ Cert.DwFfnOutIdeal.sig) → Buf (Elt Ideal) ℓ) : Prop :=
  True

def Pre_RefDwFfnOutIdeal (m : (ℓ : Loc Cert.RefDwFfnOutIdeal.nD Cert.RefDwFfnOutIdeal.τ Cert.RefDwFfnOutIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_RefFfnInIdeal (m : (ℓ : Loc Cert.RefFfnInIdeal.nD Cert.RefFfnInIdeal.τ Cert.RefFfnInIdeal.sig) → Buf (Elt Ideal) ℓ) : Prop :=
  True

def Pre_ProjP (m : (ℓ : Loc Cert.ProjP.nD Cert.ProjP.τ Cert.ProjP.sig) → Buf (Elt Bits) ℓ) : Prop :=
  True

def Pre_ProjPIdeal (m : (ℓ : Loc Cert.ProjPIdeal.nD Cert.ProjPIdeal.τ Cert.ProjPIdeal.sig) → Buf (Elt Ideal) ℓ) : Prop :=
  True

def Pre_RefProjPIdeal (m : (ℓ : Loc Cert.RefProjPIdeal.nD Cert.RefProjPIdeal.τ Cert.RefProjPIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_RefProjOutIdeal (m : (ℓ : Loc Cert.RefProjOutIdeal.nD Cert.RefProjOutIdeal.τ Cert.RefProjOutIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefDwOutIdeal (m : (ℓ : Loc Cert.RefDwOutIdeal.nD Cert.RefDwOutIdeal.τ Cert.RefDwOutIdeal.sig) → Buf (Elt Ideal) ℓ) : Prop :=
  True

def Pre_DOna (m : (ℓ : Loc Cert.DOna.nD Cert.DOna.τ Cert.DOna.sig) → Buf (Elt Bits) ℓ) : Prop :=
  True

def Pre_DOnaIdeal (m : (ℓ : Loc Cert.DOnaIdeal.nD Cert.DOnaIdeal.τ Cert.DOnaIdeal.sig) → Buf (Elt Ideal) ℓ) : Prop :=
  True

def Pre_RefDOnaIdeal (m : (ℓ : Loc Cert.RefDOnaIdeal.nD Cert.RefDOnaIdeal.τ Cert.RefDOnaIdeal.sig) → Buf (Elt Ideal) ℓ) : Prop :=
  True

def Pre_DOb (m : (ℓ : Loc Cert.DOb.nD Cert.DOb.τ Cert.DOb.sig) → Buf (Elt Bits) ℓ) : Prop :=
  True

def Pre_DObIdeal (m : (ℓ : Loc Cert.DObIdeal.nD Cert.DObIdeal.τ Cert.DObIdeal.sig) → Buf (Elt Ideal) ℓ) : Prop :=
  True

def Pre_RefDObIdeal (m : (ℓ : Loc Cert.RefDObIdeal.nD Cert.RefDObIdeal.τ Cert.RefDObIdeal.sig) → Buf (Elt Ideal) ℓ) : Prop :=
  True

def Pre_DwP (m : (ℓ : Loc Cert.DwP.nD Cert.DwP.τ Cert.DwP.sig) → Buf (Elt Bits) ℓ) : Prop :=
  True

def Pre_DwPIdeal (m : (ℓ : Loc Cert.DwPIdeal.nD Cert.DwPIdeal.τ Cert.DwPIdeal.sig) → Buf (Elt Ideal) ℓ) : Prop :=
  True

def Pre_RefDwPIdeal (m : (ℓ : Loc Cert.RefDwPIdeal.nD Cert.RefDwPIdeal.τ Cert.RefDwPIdeal.sig) → Buf (Elt Ideal) ℓ) : Prop :=
  True

def Pre_DSw (m : (ℓ : Loc Cert.DSw.nD Cert.DSw.τ Cert.DSw.sig) → Buf (Elt Bits) ℓ) : Prop :=
  True

def Pre_DSwIdeal (m : (ℓ : Loc Cert.DSwIdeal.nD Cert.DSwIdeal.τ Cert.DSwIdeal.sig) → Buf (Elt Ideal) ℓ) : Prop :=
  True

def Pre_DSwIdeal_factors_finite [hPre_factors_finite : Cert.Pre_factors_finite.Facts] (m : (ℓ : Loc Cert.DSwIdeal.nD Cert.DSwIdeal.τ Cert.DSwIdeal.sig) → Buf (Elt Ideal) ℓ) : Prop :=
  ∀ c : Dev Cert.DSwIdeal.nD,
    (Cert.Pre_factors_finite.fn (F := Ideal) (m ((c.tc : Thread Cert.DSwIdeal.nD Cert.DSwIdeal.τ).loc Cert.DSwIdeal.main_arg0)) (m ((c.tc : Thread Cert.DSwIdeal.nD Cert.DSwIdeal.τ).loc Cert.DSwIdeal.main_arg1)) (m ((c.tc : Thread Cert.DSwIdeal.nD Cert.DSwIdeal.τ).loc Cert.DSwIdeal.main_arg2))).1 = (fun _ => 1#1)
    ∧ (Cert.Pre_factors_finite.fn (F := Ideal) (m ((c.tc : Thread Cert.DSwIdeal.nD Cert.DSwIdeal.τ).loc Cert.DSwIdeal.main_arg0)) (m ((c.tc : Thread Cert.DSwIdeal.nD Cert.DSwIdeal.τ).loc Cert.DSwIdeal.main_arg1)) (m ((c.tc : Thread Cert.DSwIdeal.nD Cert.DSwIdeal.τ).loc Cert.DSwIdeal.main_arg2))).2.1 = (fun _ => 1#1)
    ∧ (Cert.Pre_factors_finite.fn (F := Ideal) (m ((c.tc : Thread Cert.DSwIdeal.nD Cert.DSwIdeal.τ).loc Cert.DSwIdeal.main_arg0)) (m ((c.tc : Thread Cert.DSwIdeal.nD Cert.DSwIdeal.τ).loc Cert.DSwIdeal.main_arg1)) (m ((c.tc : Thread Cert.DSwIdeal.nD Cert.DSwIdeal.τ).loc Cert.DSwIdeal.main_arg2))).2.2 = (fun _ => 1#1)

def Pre_RefDSwIdeal (m : (ℓ : Loc Cert.RefDSwIdeal.nD Cert.RefDSwIdeal.τ Cert.RefDSwIdeal.sig) → Buf (Elt Ideal) ℓ) : Prop :=
  True

def Pre_RefDSwIdeal_factors_finite [hPre_factors_finite : Cert.Pre_factors_finite.Facts] (m : (ℓ : Loc Cert.RefDSwIdeal.nD Cert.RefDSwIdeal.τ Cert.RefDSwIdeal.sig) → Buf (Elt Ideal) ℓ) : Prop :=
  ∀ c : Dev Cert.RefDSwIdeal.nD,
    (Cert.Pre_factors_finite.fn (F := Ideal) (m ((c.tc : Thread Cert.RefDSwIdeal.nD Cert.RefDSwIdeal.τ).loc Cert.RefDSwIdeal.main_arg0)) (m ((c.tc : Thread Cert.RefDSwIdeal.nD Cert.RefDSwIdeal.τ).loc Cert.RefDSwIdeal.main_arg1)) (m ((c.tc : Thread Cert.RefDSwIdeal.nD Cert.RefDSwIdeal.τ).loc Cert.RefDSwIdeal.main_arg2))).1 = (fun _ => 1#1)
    ∧ (Cert.Pre_factors_finite.fn (F := Ideal) (m ((c.tc : Thread Cert.RefDSwIdeal.nD Cert.RefDSwIdeal.τ).loc Cert.RefDSwIdeal.main_arg0)) (m ((c.tc : Thread Cert.RefDSwIdeal.nD Cert.RefDSwIdeal.τ).loc Cert.RefDSwIdeal.main_arg1)) (m ((c.tc : Thread Cert.RefDSwIdeal.nD Cert.RefDSwIdeal.τ).loc Cert.RefDSwIdeal.main_arg2))).2.1 = (fun _ => 1#1)
    ∧ (Cert.Pre_factors_finite.fn (F := Ideal) (m ((c.tc : Thread Cert.RefDSwIdeal.nD Cert.RefDSwIdeal.τ).loc Cert.RefDSwIdeal.main_arg0)) (m ((c.tc : Thread Cert.RefDSwIdeal.nD Cert.RefDSwIdeal.τ).loc Cert.RefDSwIdeal.main_arg1)) (m ((c.tc : Thread Cert.RefDSwIdeal.nD Cert.RefDSwIdeal.τ).loc Cert.RefDSwIdeal.main_arg2))).2.2 = (fun _ => 1#1)

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_RefDYIdeal (m : (ℓ : Loc Cert.RefDYIdeal.nD Cert.RefDYIdeal.τ Cert.RefDYIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_RefAdInIdeal (m : (ℓ : Loc Cert.RefAdInIdeal.nD Cert.RefAdInIdeal.τ Cert.RefAdInIdeal.sig) → Buf (Elt Ideal) ℓ) : Prop :=
  True

def Pre_AdFi (m : (ℓ : Loc Cert.AdFi.nD Cert.AdFi.τ Cert.AdFi.sig) → Buf (Elt Bits) ℓ) : Prop :=
  True

def Pre_AdFiIdeal (m : (ℓ : Loc Cert.AdFiIdeal.nD Cert.AdFiIdeal.τ Cert.AdFiIdeal.sig) → Buf (Elt Ideal) ℓ) : Prop :=
  True

def Pre_RefAdFiIdeal (m : (ℓ : Loc Cert.RefAdFiIdeal.nD Cert.RefAdFiIdeal.τ Cert.RefAdFiIdeal.sig) → Buf (Elt Ideal) ℓ) : Prop :=
  True

def Pre_AdFo (m : (ℓ : Loc Cert.AdFo.nD Cert.AdFo.τ Cert.AdFo.sig) → Buf (Elt Bits) ℓ) : Prop :=
  True

def Pre_AdFoIdeal (m : (ℓ : Loc Cert.AdFoIdeal.nD Cert.AdFoIdeal.τ Cert.AdFoIdeal.sig) → Buf (Elt Ideal) ℓ) : Prop :=
  True

def Pre_RefAdFoIdeal (m : (ℓ : Loc Cert.RefAdFoIdeal.nD Cert.RefAdFoIdeal.τ Cert.RefAdFoIdeal.sig) → Buf (Elt Ideal) ℓ) : Prop :=
  True

def Pre_AdP (m : (ℓ : Loc Cert.AdP.nD Cert.AdP.τ Cert.AdP.sig) → Buf (Elt Bits) ℓ) : Prop :=
  True

def Pre_AdPIdeal (m : (ℓ : Loc Cert.AdPIdeal.nD Cert.AdPIdeal.τ Cert.AdPIdeal.sig) → Buf (Elt Ideal) ℓ) : Prop :=
  True

def Pre_RefAdPIdeal (m : (ℓ : Loc Cert.RefAdPIdeal.nD Cert.RefAdPIdeal.τ Cert.RefAdPIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_RefAdOutIdeal (m : (ℓ : Loc Cert.RefAdOutIdeal.nD Cert.RefAdOutIdeal.τ Cert.RefAdOutIdeal.sig) → Buf (Elt Ideal) ℓ) : Prop :=
  True

def Pre_AdRow (m : (ℓ : Loc Cert.AdRow.nD Cert.AdRow.τ Cert.AdRow.sig) → Buf (Elt Bits) ℓ) : Prop :=
  True

def Pre_AdRowIdeal (m : (ℓ : Loc Cert.AdRowIdeal.nD Cert.AdRowIdeal.τ Cert.AdRowIdeal.sig) → Buf (Elt Ideal) ℓ) : Prop :=
  True

def Pre_RefAdRowIdeal (m : (ℓ : Loc Cert.RefAdRowIdeal.nD Cert.RefAdRowIdeal.τ Cert.RefAdRowIdeal.sig) → Buf (Elt Ideal) ℓ) : Prop :=
  True

def Pre_AdB (m : (ℓ : Loc Cert.AdB.nD Cert.AdB.τ Cert.AdB.sig) → Buf (Elt Bits) ℓ) : Prop :=
  True

def Pre_AdBIdeal (m : (ℓ : Loc Cert.AdBIdeal.nD Cert.AdBIdeal.τ Cert.AdBIdeal.sig) → Buf (Elt Ideal) ℓ) : Prop :=
  True

def Pre_RefAdBIdeal (m : (ℓ : Loc Cert.RefAdBIdeal.nD Cert.RefAdBIdeal.τ Cert.RefAdBIdeal.sig) → Buf (Elt Ideal) ℓ) : Prop :=
  True

def Pre_AdRpb (m : (ℓ : Loc Cert.AdRpb.nD Cert.AdRpb.τ Cert.AdRpb.sig) → Buf (Elt Bits) ℓ) : Prop :=
  True

def Pre_AdRpbIdeal (m : (ℓ : Loc Cert.AdRpbIdeal.nD Cert.AdRpbIdeal.τ Cert.AdRpbIdeal.sig) → Buf (Elt Ideal) ℓ) : Prop :=
  True

def Pre_RefAdRpbIdeal (m : (ℓ : Loc Cert.RefAdRpbIdeal.nD Cert.RefAdRpbIdeal.τ Cert.RefAdRpbIdeal.sig) → Buf (Elt Ideal) ℓ) : Prop :=
  True

def Pre_AdLb (m : (ℓ : Loc Cert.AdLb.nD Cert.AdLb.τ Cert.AdLb.sig) → Buf (Elt Bits) ℓ) : Prop :=
  True

def Pre_AdLbIdeal (m : (ℓ : Loc Cert.AdLbIdeal.nD Cert.AdLbIdeal.τ Cert.AdLbIdeal.sig) → Buf (Elt Ideal) ℓ) : Prop :=
  True

def Pre_RefAdLbIdeal (m : (ℓ : Loc Cert.RefAdLbIdeal.nD Cert.RefAdLbIdeal.τ Cert.RefAdLbIdeal.sig) → Buf (Elt Ideal) ℓ) : Prop :=
  True

def Pre_AdHn (m : (ℓ : Loc Cert.AdHn.nD Cert.AdHn.τ Cert.AdHn.sig) → Buf (Elt Bits) ℓ) : Prop :=
  True

def Pre_AdHnIdeal (m : (ℓ : Loc Cert.AdHnIdeal.nD Cert.AdHnIdeal.τ Cert.AdHnIdeal.sig) → Buf (Elt Ideal) ℓ) : Prop :=
  True

def Pre_RefAdHnIdeal (m : (ℓ : Loc Cert.RefAdHnIdeal.nD Cert.RefAdHnIdeal.τ Cert.RefAdHnIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_RefAdaFwdIdeal (m : (ℓ : Loc Cert.RefAdaFwdIdeal.nD Cert.RefAdaFwdIdeal.τ Cert.RefAdaFwdIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_RefAdaBwdIdeal (m : (ℓ : Loc Cert.RefAdaBwdIdeal.nD Cert.RefAdaBwdIdeal.τ Cert.RefAdaBwdIdeal.sig) → Buf (Elt Ideal) ℓ) : Prop :=
  True

def Pre_Sum8 (m : (ℓ : Loc Cert.Sum8.nD Cert.Sum8.τ Cert.Sum8.sig) → Buf (Elt Bits) ℓ) : Prop :=
  True

def Pre_Sum8Ideal (m : (ℓ : Loc Cert.Sum8Ideal.nD Cert.Sum8Ideal.τ Cert.Sum8Ideal.sig) → Buf (Elt Ideal) ℓ) : Prop :=
  True

def Pre_RefSum8Ideal (m : (ℓ : Loc Cert.RefSum8Ideal.nD Cert.RefSum8Ideal.τ Cert.RefSum8Ideal.sig) → Buf (Elt Ideal) ℓ) : Prop :=
  True

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_RefLn1Ideal (m : (ℓ : Loc Cert.RefLn1Ideal.nD Cert.RefLn1Ideal.τ Cert.RefLn1Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_in_range [hKernelIdeal : Cert.KernelIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_in_range [hReferenceIdeal : Cert.ReferenceIdeal.Facts] [hPre_gates_in_range : Cert.Pre_gates_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_RefFfnOutIdeal [hRefFfnOutIdeal : Cert.RefFfnOutIdeal.Facts] : Prop :=
  ∀ (m : (ℓ : Loc Cert.RefFfnOutIdeal.nD Cert.RefFfnOutIdeal.τ Cert.RefFfnOutIdeal.sig) → Buf (Elt Ideal) ℓ) (g : Dev Cert.RefFfnOutIdeal.nD → PrngReg), Pre_RefFfnOutIdeal m →
    θ_run (Cert.RefFfnOutIdeal.defs (F := Ideal)) (onTc (τ := Cert.RefFfnOutIdeal.τ) (Cert.RefFfnOutIdeal.main (F := Ideal))) ⟨m, fun _ => 0, g⟩ (fun r => (∀ c : Dev Cert.RefFfnOutIdeal.nD,
      r.2.mem ((c.tc : Thread Cert.RefFfnOutIdeal.nD Cert.RefFfnOutIdeal.τ).loc Cert.RefFfnOutIdeal.main_arg0) = m ((c.tc : Thread Cert.RefFfnOutIdeal.nD Cert.RefFfnOutIdeal.τ).loc Cert.RefFfnOutIdeal.main_arg0)
      ∧ r.2.mem ((c.tc : Thread Cert.RefFfnOutIdeal.nD Cert.RefFfnOutIdeal.τ).loc Cert.RefFfnOutIdeal.main_arg1) = m ((c.tc : Thread Cert.RefFfnOutIdeal.nD Cert.RefFfnOutIdeal.τ).loc Cert.RefFfnOutIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_RefDH2Ideal [hRefDH2Ideal : Cert.RefDH2Ideal.Facts] : Prop :=
  ∀ (m : (ℓ : Loc Cert.RefDH2Ideal.nD Cert.RefDH2Ideal.τ Cert.RefDH2Ideal.sig) → Buf (Elt Ideal) ℓ) (g : Dev Cert.RefDH2Ideal.nD → PrngReg), Pre_RefDH2Ideal m →
    θ_run (Cert.RefDH2Ideal.defs (F := Ideal)) (onTc (τ := Cert.RefDH2Ideal.τ) (Cert.RefDH2Ideal.main (F := Ideal))) ⟨m, fun _ => 0, g⟩ (fun r => (∀ c : Dev Cert.RefDH2Ideal.nD,
      r.2.mem ((c.tc : Thread Cert.RefDH2Ideal.nD Cert.RefDH2Ideal.τ).loc Cert.RefDH2Ideal.main_arg0) = m ((c.tc : Thread Cert.RefDH2Ideal.nD Cert.RefDH2Ideal.τ).loc Cert.RefDH2Ideal.main_arg0)
      ∧ r.2.mem ((c.tc : Thread Cert.RefDH2Ideal.nD Cert.RefDH2Ideal.τ).loc Cert.RefDH2Ideal.main_arg1) = m ((c.tc : Thread Cert.RefDH2Ideal.nD Cert.RefDH2Ideal.τ).loc Cert.RefDH2Ideal.main_arg1))
      ∧ r.2.sem = fun _ => 0)

def quiescent_DwFfnIn [hDwFfnIn : Cert.DwFfnIn.Facts] : Prop :=
  ∀ (m : (ℓ : Loc Cert.DwFfnIn.nD Cert.DwFfnIn.τ Cert.DwFfnIn.sig) → Buf (Elt Bits) ℓ) (g : Dev Cert.DwFfnIn.nD → PrngReg), Pre_DwFfnIn m →
    θ_run (Cert.DwFfnIn.defs (F := Bits)) (onTc (τ := Cert.DwFfnIn.τ) (Cert.DwFfnIn.main (F := Bits))) ⟨m, fun _ => 0, g⟩ (fun r => (∀ c : Dev Cert.DwFfnIn.nD,
      r.2.mem ((c.tc : Thread Cert.DwFfnIn.nD Cert.DwFfnIn.τ).loc Cert.DwFfnIn.main_arg0) = m ((c.tc : Thread Cert.DwFfnIn.nD Cert.DwFfnIn.τ).loc Cert.DwFfnIn.main_arg0)
      ∧ r.2.mem ((c.tc : Thread Cert.DwFfnIn.nD Cert.DwFfnIn.τ).loc Cert.DwFfnIn.main_arg1) = m ((c.tc : Thread Cert.DwFfnIn.nD Cert.DwFfnIn.τ).loc Cert.DwFfnIn.main_arg1))
      ∧ r.2.sem = fun _ => 0)

def quiescent_DwFfnInIdeal [hDwFfnInIdeal : Cert.DwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg), Pre_DwFfnInIdeal m →
    θ_run (Cert.DwFfnInIdeal.defs (F := Ideal)) (onTc (τ := Cert.DwFfnInIdeal.τ) (Cert.DwFfnInIdeal.main (F := Ideal))) ⟨m, fun _ => 0, g⟩ (fun r => (∀ c : Dev Cert.DwFfnInIdeal.nD,
      r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
      ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ r.2.sem = fun _ => 0)

def quiescent_RefDwFfnInIdeal [hRefDwFfnInIdeal : Cert.RefDwFfnInIdeal.Facts] : Prop :=
  ∀ (m : (ℓ : Loc Cert.RefDwFfnInIdeal.nD Cert.RefDwFfnInIdeal.τ Cert.RefDwFfnInIdeal.sig) → Buf (Elt Ideal) ℓ) (g : Dev Cert.RefDwFfnInIdeal.nD → PrngReg), Pre_RefDwFfnInIdeal m →
    θ_run (Cert.RefDwFfnInIdeal.defs (F := Ideal)) (onTc (τ := Cert.RefDwFfnInIdeal.τ) (Cert.RefDwFfnInIdeal.main (F := Ideal))) ⟨m, fun _ => 0, g⟩ (fun r => (∀ c : Dev Cert.RefDwFfnInIdeal.nD,
      r.2.mem ((c.tc : Thread Cert.RefDwFfnInIdeal.nD Cert.RefDwFfnInIdeal.τ).loc Cert.RefDwFfnInIdeal.main_arg0) = m ((c.tc : Thread Cert.RefDwFfnInIdeal.nD Cert.RefDwFfnInIdeal.τ).loc Cert.RefDwFfnInIdeal.main_arg0)
      ∧ r.2.mem ((c.tc : Thread Cert.RefDwFfnInIdeal.nD Cert.RefDwFfnInIdeal.τ).loc Cert.RefDwFfnInIdeal.main_arg1) = m ((c.tc : Thread Cert.RefDwFfnInIdeal.nD Cert.RefDwFfnInIdeal.τ).loc Cert.RefDwFfnInIdeal.main_arg1))
      ∧ r.2.sem = fun _ => 0)

def quiescent_DwFfnOut [hDwFfnOut : Cert.DwFfnOut.Facts] : Prop :=
  ∀ (m : (ℓ : Loc Cert.DwFfnOut.nD Cert.DwFfnOut.τ Cert.DwFfnOut.sig) → Buf (Elt Bits) ℓ) (g : Dev Cert.DwFfnOut.nD → PrngReg), Pre_DwFfnOut m →
    θ_run (Cert.DwFfnOut.defs (F := Bits)) (onTc (τ := Cert.DwFfnOut.τ) (Cert.DwFfnOut.main (F := Bits))) ⟨m, fun _ => 0, g⟩ (fun r => (∀ c : Dev Cert.DwFfnOut.nD,
      r.2.mem ((c.tc : Thread Cert.DwFfnOut.nD Cert.DwFfnOut.τ).loc Cert.DwFfnOut.main_arg0) = m ((c.tc : Thread Cert.DwFfnOut.nD Cert.DwFfnOut.τ).loc Cert.DwFfnOut.main_arg0)
      ∧ r.2.mem ((c.tc : Thread Cert.DwFfnOut.nD Cert.DwFfnOut.τ).loc Cert.DwFfnOut.main_arg1) = m ((c.tc : Thread Cert.DwFfnOut.nD Cert.DwFfnOut.τ).loc Cert.DwFfnOut.main_arg1))
      ∧ r.2.sem = fun _ => 0)

def quiescent_DwFfnOutIdeal [hDwFfnOutIdeal : Cert.DwFfnOutIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg), Pre_DwFfnOutIdeal m →
    θ_run (Cert.DwFfnOutIdeal.defs (F := Ideal)) (onTc (τ := Cert.DwFfnOutIdeal.τ) (Cert.DwFfnOutIdeal.main (F := Ideal))) ⟨m, fun _ => 0, g⟩ (fun r => (∀ c : Dev Cert.DwFfnOutIdeal.nD,
      r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
      ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ r.2.sem = fun _ => 0)

def quiescent_RefDwFfnOutIdeal [hRefDwFfnOutIdeal : Cert.RefDwFfnOutIdeal.Facts] : Prop :=
  ∀ (m : (ℓ : Loc Cert.RefDwFfnOutIdeal.nD Cert.RefDwFfnOutIdeal.τ Cert.RefDwFfnOutIdeal.sig) → Buf (Elt Ideal) ℓ) (g : Dev Cert.RefDwFfnOutIdeal.nD → PrngReg), Pre_RefDwFfnOutIdeal m →
    θ_run (Cert.RefDwFfnOutIdeal.defs (F := Ideal)) (onTc (τ := Cert.RefDwFfnOutIdeal.τ) (Cert.RefDwFfnOutIdeal.main (F := Ideal))) ⟨m, fun _ => 0, g⟩ (fun r => (∀ c : Dev Cert.RefDwFfnOutIdeal.nD,
      r.2.mem ((c.tc : Thread Cert.RefDwFfnOutIdeal.nD Cert.RefDwFfnOutIdeal.τ).loc Cert.RefDwFfnOutIdeal.main_arg0) = m ((c.tc : Thread Cert.RefDwFfnOutIdeal.nD Cert.RefDwFfnOutIdeal.τ).loc Cert.RefDwFfnOutIdeal.main_arg0)
      ∧ r.2.mem ((c.tc : Thread Cert.RefDwFfnOutIdeal.nD Cert.RefDwFfnOutIdeal.τ).loc Cert.RefDwFfnOutIdeal.main_arg1) = m ((c.tc : Thread Cert.RefDwFfnOutIdeal.nD Cert.RefDwFfnOutIdeal.τ).loc Cert.RefDwFfnOutIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_RefFfnInIdeal [hRefFfnInIdeal : Cert.RefFfnInIdeal.Facts] : Prop :=
  ∀ (m : (ℓ : Loc Cert.RefFfnInIdeal.nD Cert.RefFfnInIdeal.τ Cert.RefFfnInIdeal.sig) → Buf (Elt Ideal) ℓ) (g : Dev Cert.RefFfnInIdeal.nD → PrngReg), Pre_RefFfnInIdeal m →
    θ_run (Cert.RefFfnInIdeal.defs (F := Ideal)) (onTc (τ := Cert.RefFfnInIdeal.τ) (Cert.RefFfnInIdeal.main (F := Ideal))) ⟨m, fun _ => 0, g⟩ (fun r => (∀ c : Dev Cert.RefFfnInIdeal.nD,
      r.2.mem ((c.tc : Thread Cert.RefFfnInIdeal.nD Cert.RefFfnInIdeal.τ).loc Cert.RefFfnInIdeal.main_arg0) = m ((c.tc : Thread Cert.RefFfnInIdeal.nD Cert.RefFfnInIdeal.τ).loc Cert.RefFfnInIdeal.main_arg0)
      ∧ r.2.mem ((c.tc : Thread Cert.RefFfnInIdeal.nD Cert.RefFfnInIdeal.τ).loc Cert.RefFfnInIdeal.main_arg1) = m ((c.tc : Thread Cert.RefFfnInIdeal.nD Cert.RefFfnInIdeal.τ).loc Cert.RefFfnInIdeal.main_arg1))
      ∧ r.2.sem = fun _ => 0)

def quiescent_ProjP [hProjP : Cert.ProjP.Facts] : Prop :=
  ∀ (m : (ℓ : Loc Cert.ProjP.nD Cert.ProjP.τ Cert.ProjP.sig) → Buf (Elt Bits) ℓ) (g : Dev Cert.ProjP.nD → PrngReg), Pre_ProjP m →
    θ_run (Cert.ProjP.defs (F := Bits)) (onTc (τ := Cert.ProjP.τ) (Cert.ProjP.main (F := Bits))) ⟨m, fun _ => 0, g⟩ (fun r => (∀ c : Dev Cert.ProjP.nD,
      r.2.mem ((c.tc : Thread Cert.ProjP.nD Cert.ProjP.τ).loc Cert.ProjP.main_arg0) = m ((c.tc : Thread Cert.ProjP.nD Cert.ProjP.τ).loc Cert.ProjP.main_arg0)
      ∧ r.2.mem ((c.tc : Thread Cert.ProjP.nD Cert.ProjP.τ).loc Cert.ProjP.main_arg1) = m ((c.tc : Thread Cert.ProjP.nD Cert.ProjP.τ).loc Cert.ProjP.main_arg1))
      ∧ r.2.sem = fun _ => 0)

def quiescent_ProjPIdeal [hProjPIdeal : Cert.ProjPIdeal.Facts] : Prop :=
  ∀ (m : (ℓ : Loc Cert.ProjPIdeal.nD Cert.ProjPIdeal.τ Cert.ProjPIdeal.sig) → Buf (Elt Ideal) ℓ) (g : Dev Cert.ProjPIdeal.nD → PrngReg), Pre_ProjPIdeal m →
    θ_run (Cert.ProjPIdeal.defs (F := Ideal)) (onTc (τ := Cert.ProjPIdeal.τ) (Cert.ProjPIdeal.main (F := Ideal))) ⟨m, fun _ => 0, g⟩ (fun r => (∀ c : Dev Cert.ProjPIdeal.nD,
      r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
      ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1))
      ∧ r.2.sem = fun _ => 0)

def quiescent_RefProjPIdeal [hRefProjPIdeal : Cert.RefProjPIdeal.Facts] : Prop :=
  ∀ (m : (ℓ : Loc Cert.RefProjPIdeal.nD Cert.RefProjPIdeal.τ Cert.RefProjPIdeal.sig) → Buf (Elt Ideal) ℓ) (g : Dev Cert.RefProjPIdeal.nD → PrngReg), Pre_RefProjPIdeal m →
    θ_run (Cert.RefProjPIdeal.defs (F := Ideal)) (onTc (τ := Cert.RefProjPIdeal.τ) (Cert.RefProjPIdeal.main (F := Ideal))) ⟨m, fun _ => 0, g⟩ (fun r => (∀ c : Dev Cert.RefProjPIdeal.nD,
      r.2.mem ((c.tc : Thread Cert.RefProjPIdeal.nD Cert.RefProjPIdeal.τ).loc Cert.RefProjPIdeal.main_arg0) = m ((c.tc : Thread Cert.RefProjPIdeal.nD Cert.RefProjPIdeal.τ).loc Cert.RefProjPIdeal.main_arg0)
      ∧ r.2.mem ((c.tc : Thread Cert.RefProjPIdeal.nD Cert.RefProjPIdeal.τ).loc Cert.RefProjPIdeal.main_arg1) = m ((c.tc : Thread Cert.RefProjPIdeal.nD Cert.RefProjPIdeal.τ).loc Cert.RefProjPIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_RefProjOutIdeal [hRefProjOutIdeal : Cert.RefProjOutIdeal.Facts] : Prop :=
  ∀ (m : (ℓ : Loc Cert.RefProjOutIdeal.nD Cert.RefProjOutIdeal.τ Cert.RefProjOutIdeal.sig) → Buf (Elt Ideal) ℓ) (g : Dev Cert.RefProjOutIdeal.nD → PrngReg), Pre_RefProjOutIdeal m →
    θ_run (Cert.RefProjOutIdeal.defs (F := Ideal)) (onTc (τ := Cert.RefProjOutIdeal.τ) (Cert.RefProjOutIdeal.main (F := Ideal))) ⟨m, fun _ => 0, g⟩ (fun r => (∀ c : Dev Cert.RefProjOutIdeal.nD,
      r.2.mem ((c.tc : Thread Cert.RefProjOutIdeal.nD Cert.RefProjOutIdeal.τ).loc Cert.RefProjOutIdeal.main_arg0) = m ((c.tc : Thread Cert.RefProjOutIdeal.nD Cert.RefProjOutIdeal.τ).loc Cert.RefProjOutIdeal.main_arg0)
      ∧ r.2.mem ((c.tc : Thread Cert.RefProjOutIdeal.nD Cert.RefProjOutIdeal.τ).loc Cert.RefProjOutIdeal.main_arg1) = m ((c.tc : Thread Cert.RefProjOutIdeal.nD Cert.RefProjOutIdeal.τ).loc Cert.RefProjOutIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_RefDwOutIdeal [hRefDwOutIdeal : Cert.RefDwOutIdeal.Facts] : Prop :=
  ∀ (m : (ℓ : Loc Cert.RefDwOutIdeal.nD Cert.RefDwOutIdeal.τ Cert.RefDwOutIdeal.sig) → Buf (Elt Ideal) ℓ) (g : Dev Cert.RefDwOutIdeal.nD → PrngReg), Pre_RefDwOutIdeal m →
    θ_run (Cert.RefDwOutIdeal.defs (F := Ideal)) (onTc (τ := Cert.RefDwOutIdeal.τ) (Cert.RefDwOutIdeal.main (F := Ideal))) ⟨m, fun _ => 0, g⟩ (fun r => (∀ c : Dev Cert.RefDwOutIdeal.nD,
      r.2.mem ((c.tc : Thread Cert.RefDwOutIdeal.nD Cert.RefDwOutIdeal.τ).loc Cert.RefDwOutIdeal.main_arg0) = m ((c.tc : Thread Cert.RefDwOutIdeal.nD Cert.RefDwOutIdeal.τ).loc Cert.RefDwOutIdeal.main_arg0)
      ∧ r.2.mem ((c.tc : Thread Cert.RefDwOutIdeal.nD Cert.RefDwOutIdeal.τ).loc Cert.RefDwOutIdeal.main_arg1) = m ((c.tc : Thread Cert.RefDwOutIdeal.nD Cert.RefDwOutIdeal.τ).loc Cert.RefDwOutIdeal.main_arg1))
      ∧ r.2.sem = fun _ => 0)

def quiescent_DOna [hDOna : Cert.DOna.Facts] : Prop :=
  ∀ (m : (ℓ : Loc Cert.DOna.nD Cert.DOna.τ Cert.DOna.sig) → Buf (Elt Bits) ℓ) (g : Dev Cert.DOna.nD → PrngReg), Pre_DOna m →
    θ_run (Cert.DOna.defs (F := Bits)) (onTc (τ := Cert.DOna.τ) (Cert.DOna.main (F := Bits))) ⟨m, fun _ => 0, g⟩ (fun r => (∀ c : Dev Cert.DOna.nD,
      r.2.mem ((c.tc : Thread Cert.DOna.nD Cert.DOna.τ).loc Cert.DOna.main_arg0) = m ((c.tc : Thread Cert.DOna.nD Cert.DOna.τ).loc Cert.DOna.main_arg0)
      ∧ r.2.mem ((c.tc : Thread Cert.DOna.nD Cert.DOna.τ).loc Cert.DOna.main_arg1) = m ((c.tc : Thread Cert.DOna.nD Cert.DOna.τ).loc Cert.DOna.main_arg1))
      ∧ r.2.sem = fun _ => 0)

def quiescent_DOnaIdeal [hDOnaIdeal : Cert.DOnaIdeal.Facts] : Prop :=
  ∀ (m : (ℓ : Loc Cert.DOnaIdeal.nD Cert.DOnaIdeal.τ Cert.DOnaIdeal.sig) → Buf (Elt Ideal) ℓ) (g : Dev Cert.DOnaIdeal.nD → PrngReg), Pre_DOnaIdeal m →
    θ_run (Cert.DOnaIdeal.defs (F := Ideal)) (onTc (τ := Cert.DOnaIdeal.τ) (Cert.DOnaIdeal.main (F := Ideal))) ⟨m, fun _ => 0, g⟩ (fun r => (∀ c : Dev Cert.DOnaIdeal.nD,
      r.2.mem ((c.tc : Thread Cert.DOnaIdeal.nD Cert.DOnaIdeal.τ).loc Cert.DOnaIdeal.main_arg0) = m ((c.tc : Thread Cert.DOnaIdeal.nD Cert.DOnaIdeal.τ).loc Cert.DOnaIdeal.main_arg0)
      ∧ r.2.mem ((c.tc : Thread Cert.DOnaIdeal.nD Cert.DOnaIdeal.τ).loc Cert.DOnaIdeal.main_arg1) = m ((c.tc : Thread Cert.DOnaIdeal.nD Cert.DOnaIdeal.τ).loc Cert.DOnaIdeal.main_arg1))
      ∧ r.2.sem = fun _ => 0)

def quiescent_RefDOnaIdeal [hRefDOnaIdeal : Cert.RefDOnaIdeal.Facts] : Prop :=
  ∀ (m : (ℓ : Loc Cert.RefDOnaIdeal.nD Cert.RefDOnaIdeal.τ Cert.RefDOnaIdeal.sig) → Buf (Elt Ideal) ℓ) (g : Dev Cert.RefDOnaIdeal.nD → PrngReg), Pre_RefDOnaIdeal m →
    θ_run (Cert.RefDOnaIdeal.defs (F := Ideal)) (onTc (τ := Cert.RefDOnaIdeal.τ) (Cert.RefDOnaIdeal.main (F := Ideal))) ⟨m, fun _ => 0, g⟩ (fun r => (∀ c : Dev Cert.RefDOnaIdeal.nD,
      r.2.mem ((c.tc : Thread Cert.RefDOnaIdeal.nD Cert.RefDOnaIdeal.τ).loc Cert.RefDOnaIdeal.main_arg0) = m ((c.tc : Thread Cert.RefDOnaIdeal.nD Cert.RefDOnaIdeal.τ).loc Cert.RefDOnaIdeal.main_arg0)
      ∧ r.2.mem ((c.tc : Thread Cert.RefDOnaIdeal.nD Cert.RefDOnaIdeal.τ).loc Cert.RefDOnaIdeal.main_arg1) = m ((c.tc : Thread Cert.RefDOnaIdeal.nD Cert.RefDOnaIdeal.τ).loc Cert.RefDOnaIdeal.main_arg1))
      ∧ r.2.sem = fun _ => 0)

def quiescent_DOb [hDOb : Cert.DOb.Facts] : Prop :=
  ∀ (m : (ℓ : Loc Cert.DOb.nD Cert.DOb.τ Cert.DOb.sig) → Buf (Elt Bits) ℓ) (g : Dev Cert.DOb.nD → PrngReg), Pre_DOb m →
    θ_run (Cert.DOb.defs (F := Bits)) (onTc (τ := Cert.DOb.τ) (Cert.DOb.main (F := Bits))) ⟨m, fun _ => 0, g⟩ (fun r => (∀ c : Dev Cert.DOb.nD,
      r.2.mem ((c.tc : Thread Cert.DOb.nD Cert.DOb.τ).loc Cert.DOb.main_arg0) = m ((c.tc : Thread Cert.DOb.nD Cert.DOb.τ).loc Cert.DOb.main_arg0)
      ∧ r.2.mem ((c.tc : Thread Cert.DOb.nD Cert.DOb.τ).loc Cert.DOb.main_arg1) = m ((c.tc : Thread Cert.DOb.nD Cert.DOb.τ).loc Cert.DOb.main_arg1))
      ∧ r.2.sem = fun _ => 0)

def quiescent_DObIdeal [hDObIdeal : Cert.DObIdeal.Facts] : Prop :=
  ∀ (m : (ℓ : Loc Cert.DObIdeal.nD Cert.DObIdeal.τ Cert.DObIdeal.sig) → Buf (Elt Ideal) ℓ) (g : Dev Cert.DObIdeal.nD → PrngReg), Pre_DObIdeal m →
    θ_run (Cert.DObIdeal.defs (F := Ideal)) (onTc (τ := Cert.DObIdeal.τ) (Cert.DObIdeal.main (F := Ideal))) ⟨m, fun _ => 0, g⟩ (fun r => (∀ c : Dev Cert.DObIdeal.nD,
      r.2.mem ((c.tc : Thread Cert.DObIdeal.nD Cert.DObIdeal.τ).loc Cert.DObIdeal.main_arg0) = m ((c.tc : Thread Cert.DObIdeal.nD Cert.DObIdeal.τ).loc Cert.DObIdeal.main_arg0)
      ∧ r.2.mem ((c.tc : Thread Cert.DObIdeal.nD Cert.DObIdeal.τ).loc Cert.DObIdeal.main_arg1) = m ((c.tc : Thread Cert.DObIdeal.nD Cert.DObIdeal.τ).loc Cert.DObIdeal.main_arg1))
      ∧ r.2.sem = fun _ => 0)

def quiescent_RefDObIdeal [hRefDObIdeal : Cert.RefDObIdeal.Facts] : Prop :=
  ∀ (m : (ℓ : Loc Cert.RefDObIdeal.nD Cert.RefDObIdeal.τ Cert.RefDObIdeal.sig) → Buf (Elt Ideal) ℓ) (g : Dev Cert.RefDObIdeal.nD → PrngReg), Pre_RefDObIdeal m →
    θ_run (Cert.RefDObIdeal.defs (F := Ideal)) (onTc (τ := Cert.RefDObIdeal.τ) (Cert.RefDObIdeal.main (F := Ideal))) ⟨m, fun _ => 0, g⟩ (fun r => (∀ c : Dev Cert.RefDObIdeal.nD,
      r.2.mem ((c.tc : Thread Cert.RefDObIdeal.nD Cert.RefDObIdeal.τ).loc Cert.RefDObIdeal.main_arg0) = m ((c.tc : Thread Cert.RefDObIdeal.nD Cert.RefDObIdeal.τ).loc Cert.RefDObIdeal.main_arg0)
      ∧ r.2.mem ((c.tc : Thread Cert.RefDObIdeal.nD Cert.RefDObIdeal.τ).loc Cert.RefDObIdeal.main_arg1) = m ((c.tc : Thread Cert.RefDObIdeal.nD Cert.RefDObIdeal.τ).loc Cert.RefDObIdeal.main_arg1))
      ∧ r.2.sem = fun _ => 0)

def quiescent_DwP [hDwP : Cert.DwP.Facts] : Prop :=
  ∀ (m : (ℓ : Loc Cert.DwP.nD Cert.DwP.τ Cert.DwP.sig) → Buf (Elt Bits) ℓ) (g : Dev Cert.DwP.nD → PrngReg), Pre_DwP m →
    θ_run (Cert.DwP.defs (F := Bits)) (onTc (τ := Cert.DwP.τ) (Cert.DwP.main (F := Bits))) ⟨m, fun _ => 0, g⟩ (fun r => (∀ c : Dev Cert.DwP.nD,
      r.2.mem ((c.tc : Thread Cert.DwP.nD Cert.DwP.τ).loc Cert.DwP.main_arg0) = m ((c.tc : Thread Cert.DwP.nD Cert.DwP.τ).loc Cert.DwP.main_arg0)
      ∧ r.2.mem ((c.tc : Thread Cert.DwP.nD Cert.DwP.τ).loc Cert.DwP.main_arg1) = m ((c.tc : Thread Cert.DwP.nD Cert.DwP.τ).loc Cert.DwP.main_arg1))
      ∧ r.2.sem = fun _ => 0)

def quiescent_DwPIdeal [hDwPIdeal : Cert.DwPIdeal.Facts] : Prop :=
  ∀ (m : (ℓ : Loc Cert.DwPIdeal.nD Cert.DwPIdeal.τ Cert.DwPIdeal.sig) → Buf (Elt Ideal) ℓ) (g : Dev Cert.DwPIdeal.nD → PrngReg), Pre_DwPIdeal m →
    θ_run (Cert.DwPIdeal.defs (F := Ideal)) (onTc (τ := Cert.DwPIdeal.τ) (Cert.DwPIdeal.main (F := Ideal))) ⟨m, fun _ => 0, g⟩ (fun r => (∀ c : Dev Cert.DwPIdeal.nD,
      r.2.mem ((c.tc : Thread Cert.DwPIdeal.nD Cert.DwPIdeal.τ).loc Cert.DwPIdeal.main_arg0) = m ((c.tc : Thread Cert.DwPIdeal.nD Cert.DwPIdeal.τ).loc Cert.DwPIdeal.main_arg0)
      ∧ r.2.mem ((c.tc : Thread Cert.DwPIdeal.nD Cert.DwPIdeal.τ).loc Cert.DwPIdeal.main_arg1) = m ((c.tc : Thread Cert.DwPIdeal.nD Cert.DwPIdeal.τ).loc Cert.DwPIdeal.main_arg1))
      ∧ r.2.sem = fun _ => 0)

def quiescent_RefDwPIdeal [hRefDwPIdeal : Cert.RefDwPIdeal.Facts] : Prop :=
  ∀ (m : (ℓ : Loc Cert.RefDwPIdeal.nD Cert.RefDwPIdeal.τ Cert.RefDwPIdeal.sig) → Buf (Elt Ideal) ℓ) (g : Dev Cert.RefDwPIdeal.nD → PrngReg), Pre_RefDwPIdeal m →
    θ_run (Cert.RefDwPIdeal.defs (F := Ideal)) (onTc (τ := Cert.RefDwPIdeal.τ) (Cert.RefDwPIdeal.main (F := Ideal))) ⟨m, fun _ => 0, g⟩ (fun r => (∀ c : Dev Cert.RefDwPIdeal.nD,
      r.2.mem ((c.tc : Thread Cert.RefDwPIdeal.nD Cert.RefDwPIdeal.τ).loc Cert.RefDwPIdeal.main_arg0) = m ((c.tc : Thread Cert.RefDwPIdeal.nD Cert.RefDwPIdeal.τ).loc Cert.RefDwPIdeal.main_arg0)
      ∧ r.2.mem ((c.tc : Thread Cert.RefDwPIdeal.nD Cert.RefDwPIdeal.τ).loc Cert.RefDwPIdeal.main_arg1) = m ((c.tc : Thread Cert.RefDwPIdeal.nD Cert.RefDwPIdeal.τ).loc Cert.RefDwPIdeal.main_arg1))
      ∧ r.2.sem = fun _ => 0)

def quiescent_DSw [hDSw : Cert.DSw.Facts] : Prop :=
  ∀ (m : (ℓ : Loc Cert.DSw.nD Cert.DSw.τ Cert.DSw.sig) → Buf (Elt Bits) ℓ) (g : Dev Cert.DSw.nD → PrngReg), Pre_DSw m →
    θ_run (Cert.DSw.defs (F := Bits)) (onTc (τ := Cert.DSw.τ) (Cert.DSw.main (F := Bits))) ⟨m, fun _ => 0, g⟩ (fun r => (∀ c : Dev Cert.DSw.nD,
      r.2.mem ((c.tc : Thread Cert.DSw.nD Cert.DSw.τ).loc Cert.DSw.main_arg0) = m ((c.tc : Thread Cert.DSw.nD Cert.DSw.τ).loc Cert.DSw.main_arg0)
      ∧ r.2.mem ((c.tc : Thread Cert.DSw.nD Cert.DSw.τ).loc Cert.DSw.main_arg1) = m ((c.tc : Thread Cert.DSw.nD Cert.DSw.τ).loc Cert.DSw.main_arg1)
      ∧ r.2.mem ((c.tc : Thread Cert.DSw.nD Cert.DSw.τ).loc Cert.DSw.main_arg2) = m ((c.tc : Thread Cert.DSw.nD Cert.DSw.τ).loc Cert.DSw.main_arg2))
      ∧ r.2.sem = fun _ => 0)

def quiescent_DSwIdeal [hDSwIdeal : Cert.DSwIdeal.Facts] : Prop :=
  ∀ (m : (ℓ : Loc Cert.DSwIdeal.nD Cert.DSwIdeal.τ Cert.DSwIdeal.sig) → Buf (Elt Ideal) ℓ) (g : Dev Cert.DSwIdeal.nD → PrngReg), Pre_DSwIdeal m →
    θ_run (Cert.DSwIdeal.defs (F := Ideal)) (onTc (τ := Cert.DSwIdeal.τ) (Cert.DSwIdeal.main (F := Ideal))) ⟨m, fun _ => 0, g⟩ (fun r => (∀ c : Dev Cert.DSwIdeal.nD,
      r.2.mem ((c.tc : Thread Cert.DSwIdeal.nD Cert.DSwIdeal.τ).loc Cert.DSwIdeal.main_arg0) = m ((c.tc : Thread Cert.DSwIdeal.nD Cert.DSwIdeal.τ).loc Cert.DSwIdeal.main_arg0)
      ∧ r.2.mem ((c.tc : Thread Cert.DSwIdeal.nD Cert.DSwIdeal.τ).loc Cert.DSwIdeal.main_arg1) = m ((c.tc : Thread Cert.DSwIdeal.nD Cert.DSwIdeal.τ).loc Cert.DSwIdeal.main_arg1)
      ∧ r.2.mem ((c.tc : Thread Cert.DSwIdeal.nD Cert.DSwIdeal.τ).loc Cert.DSwIdeal.main_arg2) = m ((c.tc : Thread Cert.DSwIdeal.nD Cert.DSwIdeal.τ).loc Cert.DSwIdeal.main_arg2))
      ∧ r.2.sem = fun _ => 0)

def quiescent_DSwIdeal_pre_factors_finite [hDSwIdeal : Cert.DSwIdeal.Facts] [hPre_factors_finite : Cert.Pre_factors_finite.Facts] : Prop :=
  ∀ (m : (ℓ : Loc Cert.DSwIdeal.nD Cert.DSwIdeal.τ Cert.DSwIdeal.sig) → Buf (Elt Ideal) ℓ) (g : Dev Cert.DSwIdeal.nD → PrngReg), Pre_DSwIdeal_factors_finite m →
    θ_run (Cert.DSwIdeal.defs (F := Ideal)) (onTc (τ := Cert.DSwIdeal.τ) (Cert.DSwIdeal.main (F := Ideal))) ⟨m, fun _ => 0, g⟩ (fun r => (∀ c : Dev Cert.DSwIdeal.nD,
      r.2.mem ((c.tc : Thread Cert.DSwIdeal.nD Cert.DSwIdeal.τ).loc Cert.DSwIdeal.main_arg0) = m ((c.tc : Thread Cert.DSwIdeal.nD Cert.DSwIdeal.τ).loc Cert.DSwIdeal.main_arg0)
      ∧ r.2.mem ((c.tc : Thread Cert.DSwIdeal.nD Cert.DSwIdeal.τ).loc Cert.DSwIdeal.main_arg1) = m ((c.tc : Thread Cert.DSwIdeal.nD Cert.DSwIdeal.τ).loc Cert.DSwIdeal.main_arg1)
      ∧ r.2.mem ((c.tc : Thread Cert.DSwIdeal.nD Cert.DSwIdeal.τ).loc Cert.DSwIdeal.main_arg2) = m ((c.tc : Thread Cert.DSwIdeal.nD Cert.DSwIdeal.τ).loc Cert.DSwIdeal.main_arg2))
      ∧ r.2.sem = fun _ => 0)

def quiescent_RefDSwIdeal [hRefDSwIdeal : Cert.RefDSwIdeal.Facts] : Prop :=
  ∀ (m : (ℓ : Loc Cert.RefDSwIdeal.nD Cert.RefDSwIdeal.τ Cert.RefDSwIdeal.sig) → Buf (Elt Ideal) ℓ) (g : Dev Cert.RefDSwIdeal.nD → PrngReg), Pre_RefDSwIdeal m →
    θ_run (Cert.RefDSwIdeal.defs (F := Ideal)) (onTc (τ := Cert.RefDSwIdeal.τ) (Cert.RefDSwIdeal.main (F := Ideal))) ⟨m, fun _ => 0, g⟩ (fun r => (∀ c : Dev Cert.RefDSwIdeal.nD,
      r.2.mem ((c.tc : Thread Cert.RefDSwIdeal.nD Cert.RefDSwIdeal.τ).loc Cert.RefDSwIdeal.main_arg0) = m ((c.tc : Thread Cert.RefDSwIdeal.nD Cert.RefDSwIdeal.τ).loc Cert.RefDSwIdeal.main_arg0)
      ∧ r.2.mem ((c.tc : Thread Cert.RefDSwIdeal.nD Cert.RefDSwIdeal.τ).loc Cert.RefDSwIdeal.main_arg1) = m ((c.tc : Thread Cert.RefDSwIdeal.nD Cert.RefDSwIdeal.τ).loc Cert.RefDSwIdeal.main_arg1)
      ∧ r.2.mem ((c.tc : Thread Cert.RefDSwIdeal.nD Cert.RefDSwIdeal.τ).loc Cert.RefDSwIdeal.main_arg2) = m ((c.tc : Thread Cert.RefDSwIdeal.nD Cert.RefDSwIdeal.τ).loc Cert.RefDSwIdeal.main_arg2))
      ∧ r.2.sem = fun _ => 0)

def quiescent_RefDSwIdeal_pre_factors_finite [hRefDSwIdeal : Cert.RefDSwIdeal.Facts] [hPre_factors_finite : Cert.Pre_factors_finite.Facts] : Prop :=
  ∀ (m : (ℓ : Loc Cert.RefDSwIdeal.nD Cert.RefDSwIdeal.τ Cert.RefDSwIdeal.sig) → Buf (Elt Ideal) ℓ) (g : Dev Cert.RefDSwIdeal.nD → PrngReg), Pre_RefDSwIdeal_factors_finite m →
    θ_run (Cert.RefDSwIdeal.defs (F := Ideal)) (onTc (τ := Cert.RefDSwIdeal.τ) (Cert.RefDSwIdeal.main (F := Ideal))) ⟨m, fun _ => 0, g⟩ (fun r => (∀ c : Dev Cert.RefDSwIdeal.nD,
      r.2.mem ((c.tc : Thread Cert.RefDSwIdeal.nD Cert.RefDSwIdeal.τ).loc Cert.RefDSwIdeal.main_arg0) = m ((c.tc : Thread Cert.RefDSwIdeal.nD Cert.RefDSwIdeal.τ).loc Cert.RefDSwIdeal.main_arg0)
      ∧ r.2.mem ((c.tc : Thread Cert.RefDSwIdeal.nD Cert.RefDSwIdeal.τ).loc Cert.RefDSwIdeal.main_arg1) = m ((c.tc : Thread Cert.RefDSwIdeal.nD Cert.RefDSwIdeal.τ).loc Cert.RefDSwIdeal.main_arg1)
      ∧ r.2.mem ((c.tc : Thread Cert.RefDSwIdeal.nD Cert.RefDSwIdeal.τ).loc Cert.RefDSwIdeal.main_arg2) = m ((c.tc : Thread Cert.RefDSwIdeal.nD Cert.RefDSwIdeal.τ).loc Cert.RefDSwIdeal.main_arg2))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1)
      ∧ r.2.mem ((c.tc : Thread Cert.DY.nD Cert.DY.τ).loc Cert.DY.main_arg2) = m ((c.tc : Thread Cert.DY.nD Cert.DY.τ).loc Cert.DY.main_arg2)
      ∧ r.2.mem ((c.tc : Thread Cert.DY.nD Cert.DY.τ).loc Cert.DY.main_arg3) = m ((c.tc : Thread Cert.DY.nD Cert.DY.τ).loc Cert.DY.main_arg3)
      ∧ r.2.mem ((c.tc : Thread Cert.DY.nD Cert.DY.τ).loc Cert.DY.main_arg4) = m ((c.tc : Thread Cert.DY.nD Cert.DY.τ).loc Cert.DY.main_arg4))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1)
      ∧ r.2.mem ((c.tc : Thread Cert.DYIdeal.nD Cert.DYIdeal.τ).loc Cert.DYIdeal.main_arg2) = m ((c.tc : Thread Cert.DYIdeal.nD Cert.DYIdeal.τ).loc Cert.DYIdeal.main_arg2)
      ∧ r.2.mem ((c.tc : Thread Cert.DYIdeal.nD Cert.DYIdeal.τ).loc Cert.DYIdeal.main_arg3) = m ((c.tc : Thread Cert.DYIdeal.nD Cert.DYIdeal.τ).loc Cert.DYIdeal.main_arg3)
      ∧ r.2.mem ((c.tc : Thread Cert.DYIdeal.nD Cert.DYIdeal.τ).loc Cert.DYIdeal.main_arg4) = m ((c.tc : Thread Cert.DYIdeal.nD Cert.DYIdeal.τ).loc Cert.DYIdeal.main_arg4))
      ∧ r.2.sem = fun _ => 0)

def quiescent_RefDYIdeal [hRefDYIdeal : Cert.RefDYIdeal.Facts] : Prop :=
  ∀ (m : (ℓ : Loc Cert.RefDYIdeal.nD Cert.RefDYIdeal.τ Cert.RefDYIdeal.sig) → Buf (Elt Ideal) ℓ) (g : Dev Cert.RefDYIdeal.nD → PrngReg), Pre_RefDYIdeal m →
    θ_run (Cert.RefDYIdeal.defs (F := Ideal)) (onTc (τ := Cert.RefDYIdeal.τ) (Cert.RefDYIdeal.main (F := Ideal))) ⟨m, fun _ => 0, g⟩ (fun r => (∀ c : Dev Cert.RefDYIdeal.nD,
      r.2.mem ((c.tc : Thread Cert.RefDYIdeal.nD Cert.RefDYIdeal.τ).loc Cert.RefDYIdeal.main_arg0) = m ((c.tc : Thread Cert.RefDYIdeal.nD Cert.RefDYIdeal.τ).loc Cert.RefDYIdeal.main_arg0)
      ∧ r.2.mem ((c.tc : Thread Cert.RefDYIdeal.nD Cert.RefDYIdeal.τ).loc Cert.RefDYIdeal.main_arg1) = m ((c.tc : Thread Cert.RefDYIdeal.nD Cert.RefDYIdeal.τ).loc Cert.RefDYIdeal.main_arg1)
      ∧ r.2.mem ((c.tc : Thread Cert.RefDYIdeal.nD Cert.RefDYIdeal.τ).loc Cert.RefDYIdeal.main_arg2) = m ((c.tc : Thread Cert.RefDYIdeal.nD Cert.RefDYIdeal.τ).loc Cert.RefDYIdeal.main_arg2)
      ∧ r.2.mem ((c.tc : Thread Cert.RefDYIdeal.nD Cert.RefDYIdeal.τ).loc Cert.RefDYIdeal.main_arg3) = m ((c.tc : Thread Cert.RefDYIdeal.nD Cert.RefDYIdeal.τ).loc Cert.RefDYIdeal.main_arg3)
      ∧ r.2.mem ((c.tc : Thread Cert.RefDYIdeal.nD Cert.RefDYIdeal.τ).loc Cert.RefDYIdeal.main_arg4) = m ((c.tc : Thread Cert.RefDYIdeal.nD Cert.RefDYIdeal.τ).loc Cert.RefDYIdeal.main_arg4))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_RefAdInIdeal [hRefAdInIdeal : Cert.RefAdInIdeal.Facts] : Prop :=
  ∀ (m : (ℓ : Loc Cert.RefAdInIdeal.nD Cert.RefAdInIdeal.τ Cert.RefAdInIdeal.sig) → Buf (Elt Ideal) ℓ) (g : Dev Cert.RefAdInIdeal.nD → PrngReg), Pre_RefAdInIdeal m →
    θ_run (Cert.RefAdInIdeal.defs (F := Ideal)) (onTc (τ := Cert.RefAdInIdeal.τ) (Cert.RefAdInIdeal.main (F := Ideal))) ⟨m, fun _ => 0, g⟩ (fun r => (∀ c : Dev Cert.RefAdInIdeal.nD,
      r.2.mem ((c.tc : Thread Cert.RefAdInIdeal.nD Cert.RefAdInIdeal.τ).loc Cert.RefAdInIdeal.main_arg0) = m ((c.tc : Thread Cert.RefAdInIdeal.nD Cert.RefAdInIdeal.τ).loc Cert.RefAdInIdeal.main_arg0)
      ∧ r.2.mem ((c.tc : Thread Cert.RefAdInIdeal.nD Cert.RefAdInIdeal.τ).loc Cert.RefAdInIdeal.main_arg1) = m ((c.tc : Thread Cert.RefAdInIdeal.nD Cert.RefAdInIdeal.τ).loc Cert.RefAdInIdeal.main_arg1)
      ∧ r.2.mem ((c.tc : Thread Cert.RefAdInIdeal.nD Cert.RefAdInIdeal.τ).loc Cert.RefAdInIdeal.main_arg2) = m ((c.tc : Thread Cert.RefAdInIdeal.nD Cert.RefAdInIdeal.τ).loc Cert.RefAdInIdeal.main_arg2)
      ∧ r.2.mem ((c.tc : Thread Cert.RefAdInIdeal.nD Cert.RefAdInIdeal.τ).loc Cert.RefAdInIdeal.main_arg3) = m ((c.tc : Thread Cert.RefAdInIdeal.nD Cert.RefAdInIdeal.τ).loc Cert.RefAdInIdeal.main_arg3))
      ∧ r.2.sem = fun _ => 0)

def quiescent_AdFi [hAdFi : Cert.AdFi.Facts] : Prop :=
  ∀ (m : (ℓ : Loc Cert.AdFi.nD Cert.AdFi.τ Cert.AdFi.sig) → Buf (Elt Bits) ℓ) (g : Dev Cert.AdFi.nD → PrngReg), Pre_AdFi m →
    θ_run (Cert.AdFi.defs (F := Bits)) (onTc (τ := Cert.AdFi.τ) (Cert.AdFi.main (F := Bits))) ⟨m, fun _ => 0, g⟩ (fun r => (∀ c : Dev Cert.AdFi.nD,
      r.2.mem ((c.tc : Thread Cert.AdFi.nD Cert.AdFi.τ).loc Cert.AdFi.main_arg0) = m ((c.tc : Thread Cert.AdFi.nD Cert.AdFi.τ).loc Cert.AdFi.main_arg0)
      ∧ r.2.mem ((c.tc : Thread Cert.AdFi.nD Cert.AdFi.τ).loc Cert.AdFi.main_arg1) = m ((c.tc : Thread Cert.AdFi.nD Cert.AdFi.τ).loc Cert.AdFi.main_arg1)
      ∧ r.2.mem ((c.tc : Thread Cert.AdFi.nD Cert.AdFi.τ).loc Cert.AdFi.main_arg2) = m ((c.tc : Thread Cert.AdFi.nD Cert.AdFi.τ).loc Cert.AdFi.main_arg2)
      ∧ r.2.mem ((c.tc : Thread Cert.AdFi.nD Cert.AdFi.τ).loc Cert.AdFi.main_arg3) = m ((c.tc : Thread Cert.AdFi.nD Cert.AdFi.τ).loc Cert.AdFi.main_arg3))
      ∧ r.2.sem = fun _ => 0)

def quiescent_AdFiIdeal [hAdFiIdeal : Cert.AdFiIdeal.Facts] : Prop :=
  ∀ (m : (ℓ : Loc Cert.AdFiIdeal.nD Cert.AdFiIdeal.τ Cert.AdFiIdeal.sig) → Buf (Elt Ideal) ℓ) (g : Dev Cert.AdFiIdeal.nD → PrngReg), Pre_AdFiIdeal m →
    θ_run (Cert.AdFiIdeal.defs (F := Ideal)) (onTc (τ := Cert.AdFiIdeal.τ) (Cert.AdFiIdeal.main (F := Ideal))) ⟨m, fun _ => 0, g⟩ (fun r => (∀ c : Dev Cert.AdFiIdeal.nD,
      r.2.mem ((c.tc : Thread Cert.AdFiIdeal.nD Cert.AdFiIdeal.τ).loc Cert.AdFiIdeal.main_arg0) = m ((c.tc : Thread Cert.AdFiIdeal.nD Cert.AdFiIdeal.τ).loc Cert.AdFiIdeal.main_arg0)
      ∧ r.2.mem ((c.tc : Thread Cert.AdFiIdeal.nD Cert.AdFiIdeal.τ).loc Cert.AdFiIdeal.main_arg1) = m ((c.tc : Thread Cert.AdFiIdeal.nD Cert.AdFiIdeal.τ).loc Cert.AdFiIdeal.main_arg1)
      ∧ r.2.mem ((c.tc : Thread Cert.AdFiIdeal.nD Cert.AdFiIdeal.τ).loc Cert.AdFiIdeal.main_arg2) = m ((c.tc : Thread Cert.AdFiIdeal.nD Cert.AdFiIdeal.τ).loc Cert.AdFiIdeal.main_arg2)
      ∧ r.2.mem ((c.tc : Thread Cert.AdFiIdeal.nD Cert.AdFiIdeal.τ).loc Cert.AdFiIdeal.main_arg3) = m ((c.tc : Thread Cert.AdFiIdeal.nD Cert.AdFiIdeal.τ).loc Cert.AdFiIdeal.main_arg3))
      ∧ r.2.sem = fun _ => 0)

def quiescent_RefAdFiIdeal [hRefAdFiIdeal : Cert.RefAdFiIdeal.Facts] : Prop :=
  ∀ (m : (ℓ : Loc Cert.RefAdFiIdeal.nD Cert.RefAdFiIdeal.τ Cert.RefAdFiIdeal.sig) → Buf (Elt Ideal) ℓ) (g : Dev Cert.RefAdFiIdeal.nD → PrngReg), Pre_RefAdFiIdeal m →
    θ_run (Cert.RefAdFiIdeal.defs (F := Ideal)) (onTc (τ := Cert.RefAdFiIdeal.τ) (Cert.RefAdFiIdeal.main (F := Ideal))) ⟨m, fun _ => 0, g⟩ (fun r => (∀ c : Dev Cert.RefAdFiIdeal.nD,
      r.2.mem ((c.tc : Thread Cert.RefAdFiIdeal.nD Cert.RefAdFiIdeal.τ).loc Cert.RefAdFiIdeal.main_arg0) = m ((c.tc : Thread Cert.RefAdFiIdeal.nD Cert.RefAdFiIdeal.τ).loc Cert.RefAdFiIdeal.main_arg0)
      ∧ r.2.mem ((c.tc : Thread Cert.RefAdFiIdeal.nD Cert.RefAdFiIdeal.τ).loc Cert.RefAdFiIdeal.main_arg1) = m ((c.tc : Thread Cert.RefAdFiIdeal.nD Cert.RefAdFiIdeal.τ).loc Cert.RefAdFiIdeal.main_arg1)
      ∧ r.2.mem ((c.tc : Thread Cert.RefAdFiIdeal.nD Cert.RefAdFiIdeal.τ).loc Cert.RefAdFiIdeal.main_arg2) = m ((c.tc : Thread Cert.RefAdFiIdeal.nD Cert.RefAdFiIdeal.τ).loc Cert.RefAdFiIdeal.main_arg2)
      ∧ r.2.mem ((c.tc : Thread Cert.RefAdFiIdeal.nD Cert.RefAdFiIdeal.τ).loc Cert.RefAdFiIdeal.main_arg3) = m ((c.tc : Thread Cert.RefAdFiIdeal.nD Cert.RefAdFiIdeal.τ).loc Cert.RefAdFiIdeal.main_arg3))
      ∧ r.2.sem = fun _ => 0)

def quiescent_AdFo [hAdFo : Cert.AdFo.Facts] : Prop :=
  ∀ (m : (ℓ : Loc Cert.AdFo.nD Cert.AdFo.τ Cert.AdFo.sig) → Buf (Elt Bits) ℓ) (g : Dev Cert.AdFo.nD → PrngReg), Pre_AdFo m →
    θ_run (Cert.AdFo.defs (F := Bits)) (onTc (τ := Cert.AdFo.τ) (Cert.AdFo.main (F := Bits))) ⟨m, fun _ => 0, g⟩ (fun r => (∀ c : Dev Cert.AdFo.nD,
      r.2.mem ((c.tc : Thread Cert.AdFo.nD Cert.AdFo.τ).loc Cert.AdFo.main_arg0) = m ((c.tc : Thread Cert.AdFo.nD Cert.AdFo.τ).loc Cert.AdFo.main_arg0)
      ∧ r.2.mem ((c.tc : Thread Cert.AdFo.nD Cert.AdFo.τ).loc Cert.AdFo.main_arg1) = m ((c.tc : Thread Cert.AdFo.nD Cert.AdFo.τ).loc Cert.AdFo.main_arg1)
      ∧ r.2.mem ((c.tc : Thread Cert.AdFo.nD Cert.AdFo.τ).loc Cert.AdFo.main_arg2) = m ((c.tc : Thread Cert.AdFo.nD Cert.AdFo.τ).loc Cert.AdFo.main_arg2)
      ∧ r.2.mem ((c.tc : Thread Cert.AdFo.nD Cert.AdFo.τ).loc Cert.AdFo.main_arg3) = m ((c.tc : Thread Cert.AdFo.nD Cert.AdFo.τ).loc Cert.AdFo.main_arg3))
      ∧ r.2.sem = fun _ => 0)

def quiescent_AdFoIdeal [hAdFoIdeal : Cert.AdFoIdeal.Facts] : Prop :=
  ∀ (m : (ℓ : Loc Cert.AdFoIdeal.nD Cert.AdFoIdeal.τ Cert.AdFoIdeal.sig) → Buf (Elt Ideal) ℓ) (g : Dev Cert.AdFoIdeal.nD → PrngReg), Pre_AdFoIdeal m →
    θ_run (Cert.AdFoIdeal.defs (F := Ideal)) (onTc (τ := Cert.AdFoIdeal.τ) (Cert.AdFoIdeal.main (F := Ideal))) ⟨m, fun _ => 0, g⟩ (fun r => (∀ c : Dev Cert.AdFoIdeal.nD,
      r.2.mem ((c.tc : Thread Cert.AdFoIdeal.nD Cert.AdFoIdeal.τ).loc Cert.AdFoIdeal.main_arg0) = m ((c.tc : Thread Cert.AdFoIdeal.nD Cert.AdFoIdeal.τ).loc Cert.AdFoIdeal.main_arg0)
      ∧ r.2.mem ((c.tc : Thread Cert.AdFoIdeal.nD Cert.AdFoIdeal.τ).loc Cert.AdFoIdeal.main_arg1) = m ((c.tc : Thread Cert.AdFoIdeal.nD Cert.AdFoIdeal.τ).loc Cert.AdFoIdeal.main_arg1)
      ∧ r.2.mem ((c.tc : Thread Cert.AdFoIdeal.nD Cert.AdFoIdeal.τ).loc Cert.AdFoIdeal.main_arg2) = m ((c.tc : Thread Cert.AdFoIdeal.nD Cert.AdFoIdeal.τ).loc Cert.AdFoIdeal.main_arg2)
      ∧ r.2.mem ((c.tc : Thread Cert.AdFoIdeal.nD Cert.AdFoIdeal.τ).loc Cert.AdFoIdeal.main_arg3) = m ((c.tc : Thread Cert.AdFoIdeal.nD Cert.AdFoIdeal.τ).loc Cert.AdFoIdeal.main_arg3))
      ∧ r.2.sem = fun _ => 0)

def quiescent_RefAdFoIdeal [hRefAdFoIdeal : Cert.RefAdFoIdeal.Facts] : Prop :=
  ∀ (m : (ℓ : Loc Cert.RefAdFoIdeal.nD Cert.RefAdFoIdeal.τ Cert.RefAdFoIdeal.sig) → Buf (Elt Ideal) ℓ) (g : Dev Cert.RefAdFoIdeal.nD → PrngReg), Pre_RefAdFoIdeal m →
    θ_run (Cert.RefAdFoIdeal.defs (F := Ideal)) (onTc (τ := Cert.RefAdFoIdeal.τ) (Cert.RefAdFoIdeal.main (F := Ideal))) ⟨m, fun _ => 0, g⟩ (fun r => (∀ c : Dev Cert.RefAdFoIdeal.nD,
      r.2.mem ((c.tc : Thread Cert.RefAdFoIdeal.nD Cert.RefAdFoIdeal.τ).loc Cert.RefAdFoIdeal.main_arg0) = m ((c.tc : Thread Cert.RefAdFoIdeal.nD Cert.RefAdFoIdeal.τ).loc Cert.RefAdFoIdeal.main_arg0)
      ∧ r.2.mem ((c.tc : Thread Cert.RefAdFoIdeal.nD Cert.RefAdFoIdeal.τ).loc Cert.RefAdFoIdeal.main_arg1) = m ((c.tc : Thread Cert.RefAdFoIdeal.nD Cert.RefAdFoIdeal.τ).loc Cert.RefAdFoIdeal.main_arg1)
      ∧ r.2.mem ((c.tc : Thread Cert.RefAdFoIdeal.nD Cert.RefAdFoIdeal.τ).loc Cert.RefAdFoIdeal.main_arg2) = m ((c.tc : Thread Cert.RefAdFoIdeal.nD Cert.RefAdFoIdeal.τ).loc Cert.RefAdFoIdeal.main_arg2)
      ∧ r.2.mem ((c.tc : Thread Cert.RefAdFoIdeal.nD Cert.RefAdFoIdeal.τ).loc Cert.RefAdFoIdeal.main_arg3) = m ((c.tc : Thread Cert.RefAdFoIdeal.nD Cert.RefAdFoIdeal.τ).loc Cert.RefAdFoIdeal.main_arg3))
      ∧ r.2.sem = fun _ => 0)

def quiescent_AdP [hAdP : Cert.AdP.Facts] : Prop :=
  ∀ (m : (ℓ : Loc Cert.AdP.nD Cert.AdP.τ Cert.AdP.sig) → Buf (Elt Bits) ℓ) (g : Dev Cert.AdP.nD → PrngReg), Pre_AdP m →
    θ_run (Cert.AdP.defs (F := Bits)) (onTc (τ := Cert.AdP.τ) (Cert.AdP.main (F := Bits))) ⟨m, fun _ => 0, g⟩ (fun r => (∀ c : Dev Cert.AdP.nD,
      r.2.mem ((c.tc : Thread Cert.AdP.nD Cert.AdP.τ).loc Cert.AdP.main_arg0) = m ((c.tc : Thread Cert.AdP.nD Cert.AdP.τ).loc Cert.AdP.main_arg0)
      ∧ r.2.mem ((c.tc : Thread Cert.AdP.nD Cert.AdP.τ).loc Cert.AdP.main_arg1) = m ((c.tc : Thread Cert.AdP.nD Cert.AdP.τ).loc Cert.AdP.main_arg1)
      ∧ r.2.mem ((c.tc : Thread Cert.AdP.nD Cert.AdP.τ).loc Cert.AdP.main_arg2) = m ((c.tc : Thread Cert.AdP.nD Cert.AdP.τ).loc Cert.AdP.main_arg2)
      ∧ r.2.mem ((c.tc : Thread Cert.AdP.nD Cert.AdP.τ).loc Cert.AdP.main_arg3) = m ((c.tc : Thread Cert.AdP.nD Cert.AdP.τ).loc Cert.AdP.main_arg3))
      ∧ r.2.sem = fun _ => 0)

def quiescent_AdPIdeal [hAdPIdeal : Cert.AdPIdeal.Facts] : Prop :=
  ∀ (m : (ℓ : Loc Cert.AdPIdeal.nD Cert.AdPIdeal.τ Cert.AdPIdeal.sig) → Buf (Elt Ideal) ℓ) (g : Dev Cert.AdPIdeal.nD → PrngReg), Pre_AdPIdeal m →
    θ_run (Cert.AdPIdeal.defs (F := Ideal)) (onTc (τ := Cert.AdPIdeal.τ) (Cert.AdPIdeal.main (F := Ideal))) ⟨m, fun _ => 0, g⟩ (fun r => (∀ c : Dev Cert.AdPIdeal.nD,
      r.2.mem ((c.tc : Thread Cert.AdPIdeal.nD Cert.AdPIdeal.τ).loc Cert.AdPIdeal.main_arg0) = m ((c.tc : Thread Cert.AdPIdeal.nD Cert.AdPIdeal.τ).loc Cert.AdPIdeal.main_arg0)
      ∧ r.2.mem ((c.tc : Thread Cert.AdPIdeal.nD Cert.AdPIdeal.τ).loc Cert.AdPIdeal.main_arg1) = m ((c.tc : Thread Cert.AdPIdeal.nD Cert.AdPIdeal.τ).loc Cert.AdPIdeal.main_arg1)
      ∧ r.2.mem ((c.tc : Thread Cert.AdPIdeal.nD Cert.AdPIdeal.τ).loc Cert.AdPIdeal.main_arg2) = m ((c.tc : Thread Cert.AdPIdeal.nD Cert.AdPIdeal.τ).loc Cert.AdPIdeal.main_arg2)
      ∧ r.2.mem ((c.tc : Thread Cert.AdPIdeal.nD Cert.AdPIdeal.τ).loc Cert.AdPIdeal.main_arg3) = m ((c.tc : Thread Cert.AdPIdeal.nD Cert.AdPIdeal.τ).loc Cert.AdPIdeal.main_arg3))
      ∧ r.2.sem = fun _ => 0)

def quiescent_RefAdPIdeal [hRefAdPIdeal : Cert.RefAdPIdeal.Facts] : Prop :=
  ∀ (m : (ℓ : Loc Cert.RefAdPIdeal.nD Cert.RefAdPIdeal.τ Cert.RefAdPIdeal.sig) → Buf (Elt Ideal) ℓ) (g : Dev Cert.RefAdPIdeal.nD → PrngReg), Pre_RefAdPIdeal m →
    θ_run (Cert.RefAdPIdeal.defs (F := Ideal)) (onTc (τ := Cert.RefAdPIdeal.τ) (Cert.RefAdPIdeal.main (F := Ideal))) ⟨m, fun _ => 0, g⟩ (fun r => (∀ c : Dev Cert.RefAdPIdeal.nD,
      r.2.mem ((c.tc : Thread Cert.RefAdPIdeal.nD Cert.RefAdPIdeal.τ).loc Cert.RefAdPIdeal.main_arg0) = m ((c.tc : Thread Cert.RefAdPIdeal.nD Cert.RefAdPIdeal.τ).loc Cert.RefAdPIdeal.main_arg0)
      ∧ r.2.mem ((c.tc : Thread Cert.RefAdPIdeal.nD Cert.RefAdPIdeal.τ).loc Cert.RefAdPIdeal.main_arg1) = m ((c.tc : Thread Cert.RefAdPIdeal.nD Cert.RefAdPIdeal.τ).loc Cert.RefAdPIdeal.main_arg1)
      ∧ r.2.mem ((c.tc : Thread Cert.RefAdPIdeal.nD Cert.RefAdPIdeal.τ).loc Cert.RefAdPIdeal.main_arg2) = m ((c.tc : Thread Cert.RefAdPIdeal.nD Cert.RefAdPIdeal.τ).loc Cert.RefAdPIdeal.main_arg2)
      ∧ r.2.mem ((c.tc : Thread Cert.RefAdPIdeal.nD Cert.RefAdPIdeal.τ).loc Cert.RefAdPIdeal.main_arg3) = m ((c.tc : Thread Cert.RefAdPIdeal.nD Cert.RefAdPIdeal.τ).loc Cert.RefAdPIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_RefAdOutIdeal [hRefAdOutIdeal : Cert.RefAdOutIdeal.Facts] : Prop :=
  ∀ (m : (ℓ : Loc Cert.RefAdOutIdeal.nD Cert.RefAdOutIdeal.τ Cert.RefAdOutIdeal.sig) → Buf (Elt Ideal) ℓ) (g : Dev Cert.RefAdOutIdeal.nD → PrngReg), Pre_RefAdOutIdeal m →
    θ_run (Cert.RefAdOutIdeal.defs (F := Ideal)) (onTc (τ := Cert.RefAdOutIdeal.τ) (Cert.RefAdOutIdeal.main (F := Ideal))) ⟨m, fun _ => 0, g⟩ (fun r => (∀ c : Dev Cert.RefAdOutIdeal.nD,
      r.2.mem ((c.tc : Thread Cert.RefAdOutIdeal.nD Cert.RefAdOutIdeal.τ).loc Cert.RefAdOutIdeal.main_arg0) = m ((c.tc : Thread Cert.RefAdOutIdeal.nD Cert.RefAdOutIdeal.τ).loc Cert.RefAdOutIdeal.main_arg0)
      ∧ r.2.mem ((c.tc : Thread Cert.RefAdOutIdeal.nD Cert.RefAdOutIdeal.τ).loc Cert.RefAdOutIdeal.main_arg1) = m ((c.tc : Thread Cert.RefAdOutIdeal.nD Cert.RefAdOutIdeal.τ).loc Cert.RefAdOutIdeal.main_arg1)
      ∧ r.2.mem ((c.tc : Thread Cert.RefAdOutIdeal.nD Cert.RefAdOutIdeal.τ).loc Cert.RefAdOutIdeal.main_arg2) = m ((c.tc : Thread Cert.RefAdOutIdeal.nD Cert.RefAdOutIdeal.τ).loc Cert.RefAdOutIdeal.main_arg2)
      ∧ r.2.mem ((c.tc : Thread Cert.RefAdOutIdeal.nD Cert.RefAdOutIdeal.τ).loc Cert.RefAdOutIdeal.main_arg3) = m ((c.tc : Thread Cert.RefAdOutIdeal.nD Cert.RefAdOutIdeal.τ).loc Cert.RefAdOutIdeal.main_arg3))
      ∧ r.2.sem = fun _ => 0)

def quiescent_AdRow [hAdRow : Cert.AdRow.Facts] : Prop :=
  ∀ (m : (ℓ : Loc Cert.AdRow.nD Cert.AdRow.τ Cert.AdRow.sig) → Buf (Elt Bits) ℓ) (g : Dev Cert.AdRow.nD → PrngReg), Pre_AdRow m →
    θ_run (Cert.AdRow.defs (F := Bits)) (onTc (τ := Cert.AdRow.τ) (Cert.AdRow.main (F := Bits))) ⟨m, fun _ => 0, g⟩ (fun r => (∀ c : Dev Cert.AdRow.nD,
      r.2.mem ((c.tc : Thread Cert.AdRow.nD Cert.AdRow.τ).loc Cert.AdRow.main_arg0) = m ((c.tc : Thread Cert.AdRow.nD Cert.AdRow.τ).loc Cert.AdRow.main_arg0)
      ∧ r.2.mem ((c.tc : Thread Cert.AdRow.nD Cert.AdRow.τ).loc Cert.AdRow.main_arg1) = m ((c.tc : Thread Cert.AdRow.nD Cert.AdRow.τ).loc Cert.AdRow.main_arg1)
      ∧ r.2.mem ((c.tc : Thread Cert.AdRow.nD Cert.AdRow.τ).loc Cert.AdRow.main_arg2) = m ((c.tc : Thread Cert.AdRow.nD Cert.AdRow.τ).loc Cert.AdRow.main_arg2)
      ∧ r.2.mem ((c.tc : Thread Cert.AdRow.nD Cert.AdRow.τ).loc Cert.AdRow.main_arg3) = m ((c.tc : Thread Cert.AdRow.nD Cert.AdRow.τ).loc Cert.AdRow.main_arg3))
      ∧ r.2.sem = fun _ => 0)

def quiescent_AdRowIdeal [hAdRowIdeal : Cert.AdRowIdeal.Facts] : Prop :=
  ∀ (m : (ℓ : Loc Cert.AdRowIdeal.nD Cert.AdRowIdeal.τ Cert.AdRowIdeal.sig) → Buf (Elt Ideal) ℓ) (g : Dev Cert.AdRowIdeal.nD → PrngReg), Pre_AdRowIdeal m →
    θ_run (Cert.AdRowIdeal.defs (F := Ideal)) (onTc (τ := Cert.AdRowIdeal.τ) (Cert.AdRowIdeal.main (F := Ideal))) ⟨m, fun _ => 0, g⟩ (fun r => (∀ c : Dev Cert.AdRowIdeal.nD,
      r.2.mem ((c.tc : Thread Cert.AdRowIdeal.nD Cert.AdRowIdeal.τ).loc Cert.AdRowIdeal.main_arg0) = m ((c.tc : Thread Cert.AdRowIdeal.nD Cert.AdRowIdeal.τ).loc Cert.AdRowIdeal.main_arg0)
      ∧ r.2.mem ((c.tc : Thread Cert.AdRowIdeal.nD Cert.AdRowIdeal.τ).loc Cert.AdRowIdeal.main_arg1) = m ((c.tc : Thread Cert.AdRowIdeal.nD Cert.AdRowIdeal.τ).loc Cert.AdRowIdeal.main_arg1)
      ∧ r.2.mem ((c.tc : Thread Cert.AdRowIdeal.nD Cert.AdRowIdeal.τ).loc Cert.AdRowIdeal.main_arg2) = m ((c.tc : Thread Cert.AdRowIdeal.nD Cert.AdRowIdeal.τ).loc Cert.AdRowIdeal.main_arg2)
      ∧ r.2.mem ((c.tc : Thread Cert.AdRowIdeal.nD Cert.AdRowIdeal.τ).loc Cert.AdRowIdeal.main_arg3) = m ((c.tc : Thread Cert.AdRowIdeal.nD Cert.AdRowIdeal.τ).loc Cert.AdRowIdeal.main_arg3))
      ∧ r.2.sem = fun _ => 0)

def quiescent_RefAdRowIdeal [hRefAdRowIdeal : Cert.RefAdRowIdeal.Facts] : Prop :=
  ∀ (m : (ℓ : Loc Cert.RefAdRowIdeal.nD Cert.RefAdRowIdeal.τ Cert.RefAdRowIdeal.sig) → Buf (Elt Ideal) ℓ) (g : Dev Cert.RefAdRowIdeal.nD → PrngReg), Pre_RefAdRowIdeal m →
    θ_run (Cert.RefAdRowIdeal.defs (F := Ideal)) (onTc (τ := Cert.RefAdRowIdeal.τ) (Cert.RefAdRowIdeal.main (F := Ideal))) ⟨m, fun _ => 0, g⟩ (fun r => (∀ c : Dev Cert.RefAdRowIdeal.nD,
      r.2.mem ((c.tc : Thread Cert.RefAdRowIdeal.nD Cert.RefAdRowIdeal.τ).loc Cert.RefAdRowIdeal.main_arg0) = m ((c.tc : Thread Cert.RefAdRowIdeal.nD Cert.RefAdRowIdeal.τ).loc Cert.RefAdRowIdeal.main_arg0)
      ∧ r.2.mem ((c.tc : Thread Cert.RefAdRowIdeal.nD Cert.RefAdRowIdeal.τ).loc Cert.RefAdRowIdeal.main_arg1) = m ((c.tc : Thread Cert.RefAdRowIdeal.nD Cert.RefAdRowIdeal.τ).loc Cert.RefAdRowIdeal.main_arg1)
      ∧ r.2.mem ((c.tc : Thread Cert.RefAdRowIdeal.nD Cert.RefAdRowIdeal.τ).loc Cert.RefAdRowIdeal.main_arg2) = m ((c.tc : Thread Cert.RefAdRowIdeal.nD Cert.RefAdRowIdeal.τ).loc Cert.RefAdRowIdeal.main_arg2)
      ∧ r.2.mem ((c.tc : Thread Cert.RefAdRowIdeal.nD Cert.RefAdRowIdeal.τ).loc Cert.RefAdRowIdeal.main_arg3) = m ((c.tc : Thread Cert.RefAdRowIdeal.nD Cert.RefAdRowIdeal.τ).loc Cert.RefAdRowIdeal.main_arg3))
      ∧ r.2.sem = fun _ => 0)

def quiescent_AdB [hAdB : Cert.AdB.Facts] : Prop :=
  ∀ (m : (ℓ : Loc Cert.AdB.nD Cert.AdB.τ Cert.AdB.sig) → Buf (Elt Bits) ℓ) (g : Dev Cert.AdB.nD → PrngReg), Pre_AdB m →
    θ_run (Cert.AdB.defs (F := Bits)) (onTc (τ := Cert.AdB.τ) (Cert.AdB.main (F := Bits))) ⟨m, fun _ => 0, g⟩ (fun r => (∀ c : Dev Cert.AdB.nD,
      r.2.mem ((c.tc : Thread Cert.AdB.nD Cert.AdB.τ).loc Cert.AdB.main_arg0) = m ((c.tc : Thread Cert.AdB.nD Cert.AdB.τ).loc Cert.AdB.main_arg0)
      ∧ r.2.mem ((c.tc : Thread Cert.AdB.nD Cert.AdB.τ).loc Cert.AdB.main_arg1) = m ((c.tc : Thread Cert.AdB.nD Cert.AdB.τ).loc Cert.AdB.main_arg1)
      ∧ r.2.mem ((c.tc : Thread Cert.AdB.nD Cert.AdB.τ).loc Cert.AdB.main_arg2) = m ((c.tc : Thread Cert.AdB.nD Cert.AdB.τ).loc Cert.AdB.main_arg2)
      ∧ r.2.mem ((c.tc : Thread Cert.AdB.nD Cert.AdB.τ).loc Cert.AdB.main_arg3) = m ((c.tc : Thread Cert.AdB.nD Cert.AdB.τ).loc Cert.AdB.main_arg3))
      ∧ r.2.sem = fun _ => 0)

def quiescent_AdBIdeal [hAdBIdeal : Cert.AdBIdeal.Facts] : Prop :=
  ∀ (m : (ℓ : Loc Cert.AdBIdeal.nD Cert.AdBIdeal.τ Cert.AdBIdeal.sig) → Buf (Elt Ideal) ℓ) (g : Dev Cert.AdBIdeal.nD → PrngReg), Pre_AdBIdeal m →
    θ_run (Cert.AdBIdeal.defs (F := Ideal)) (onTc (τ := Cert.AdBIdeal.τ) (Cert.AdBIdeal.main (F := Ideal))) ⟨m, fun _ => 0, g⟩ (fun r => (∀ c : Dev Cert.AdBIdeal.nD,
      r.2.mem ((c.tc : Thread Cert.AdBIdeal.nD Cert.AdBIdeal.τ).loc Cert.AdBIdeal.main_arg0) = m ((c.tc : Thread Cert.AdBIdeal.nD Cert.AdBIdeal.τ).loc Cert.AdBIdeal.main_arg0)
      ∧ r.2.mem ((c.tc : Thread Cert.AdBIdeal.nD Cert.AdBIdeal.τ).loc Cert.AdBIdeal.main_arg1) = m ((c.tc : Thread Cert.AdBIdeal.nD Cert.AdBIdeal.τ).loc Cert.AdBIdeal.main_arg1)
      ∧ r.2.mem ((c.tc : Thread Cert.AdBIdeal.nD Cert.AdBIdeal.τ).loc Cert.AdBIdeal.main_arg2) = m ((c.tc : Thread Cert.AdBIdeal.nD Cert.AdBIdeal.τ).loc Cert.AdBIdeal.main_arg2)
      ∧ r.2.mem ((c.tc : Thread Cert.AdBIdeal.nD Cert.AdBIdeal.τ).loc Cert.AdBIdeal.main_arg3) = m ((c.tc : Thread Cert.AdBIdeal.nD Cert.AdBIdeal.τ).loc Cert.AdBIdeal.main_arg3))
      ∧ r.2.sem = fun _ => 0)

def quiescent_RefAdBIdeal [hRefAdBIdeal : Cert.RefAdBIdeal.Facts] : Prop :=
  ∀ (m : (ℓ : Loc Cert.RefAdBIdeal.nD Cert.RefAdBIdeal.τ Cert.RefAdBIdeal.sig) → Buf (Elt Ideal) ℓ) (g : Dev Cert.RefAdBIdeal.nD → PrngReg), Pre_RefAdBIdeal m →
    θ_run (Cert.RefAdBIdeal.defs (F := Ideal)) (onTc (τ := Cert.RefAdBIdeal.τ) (Cert.RefAdBIdeal.main (F := Ideal))) ⟨m, fun _ => 0, g⟩ (fun r => (∀ c : Dev Cert.RefAdBIdeal.nD,
      r.2.mem ((c.tc : Thread Cert.RefAdBIdeal.nD Cert.RefAdBIdeal.τ).loc Cert.RefAdBIdeal.main_arg0) = m ((c.tc : Thread Cert.RefAdBIdeal.nD Cert.RefAdBIdeal.τ).loc Cert.RefAdBIdeal.main_arg0)
      ∧ r.2.mem ((c.tc : Thread Cert.RefAdBIdeal.nD Cert.RefAdBIdeal.τ).loc Cert.RefAdBIdeal.main_arg1) = m ((c.tc : Thread Cert.RefAdBIdeal.nD Cert.RefAdBIdeal.τ).loc Cert.RefAdBIdeal.main_arg1)
      ∧ r.2.mem ((c.tc : Thread Cert.RefAdBIdeal.nD Cert.RefAdBIdeal.τ).loc Cert.RefAdBIdeal.main_arg2) = m ((c.tc : Thread Cert.RefAdBIdeal.nD Cert.RefAdBIdeal.τ).loc Cert.RefAdBIdeal.main_arg2)
      ∧ r.2.mem ((c.tc : Thread Cert.RefAdBIdeal.nD Cert.RefAdBIdeal.τ).loc Cert.RefAdBIdeal.main_arg3) = m ((c.tc : Thread Cert.RefAdBIdeal.nD Cert.RefAdBIdeal.τ).loc Cert.RefAdBIdeal.main_arg3))
      ∧ r.2.sem = fun _ => 0)

def quiescent_AdRpb [hAdRpb : Cert.AdRpb.Facts] : Prop :=
  ∀ (m : (ℓ : Loc Cert.AdRpb.nD Cert.AdRpb.τ Cert.AdRpb.sig) → Buf (Elt Bits) ℓ) (g : Dev Cert.AdRpb.nD → PrngReg), Pre_AdRpb m →
    θ_run (Cert.AdRpb.defs (F := Bits)) (onTc (τ := Cert.AdRpb.τ) (Cert.AdRpb.main (F := Bits))) ⟨m, fun _ => 0, g⟩ (fun r => (∀ c : Dev Cert.AdRpb.nD,
      r.2.mem ((c.tc : Thread Cert.AdRpb.nD Cert.AdRpb.τ).loc Cert.AdRpb.main_arg0) = m ((c.tc : Thread Cert.AdRpb.nD Cert.AdRpb.τ).loc Cert.AdRpb.main_arg0)
      ∧ r.2.mem ((c.tc : Thread Cert.AdRpb.nD Cert.AdRpb.τ).loc Cert.AdRpb.main_arg1) = m ((c.tc : Thread Cert.AdRpb.nD Cert.AdRpb.τ).loc Cert.AdRpb.main_arg1)
      ∧ r.2.mem ((c.tc : Thread Cert.AdRpb.nD Cert.AdRpb.τ).loc Cert.AdRpb.main_arg2) = m ((c.tc : Thread Cert.AdRpb.nD Cert.AdRpb.τ).loc Cert.AdRpb.main_arg2)
      ∧ r.2.mem ((c.tc : Thread Cert.AdRpb.nD Cert.AdRpb.τ).loc Cert.AdRpb.main_arg3) = m ((c.tc : Thread Cert.AdRpb.nD Cert.AdRpb.τ).loc Cert.AdRpb.main_arg3))
      ∧ r.2.sem = fun _ => 0)

def quiescent_AdRpbIdeal [hAdRpbIdeal : Cert.AdRpbIdeal.Facts] : Prop :=
  ∀ (m : (ℓ : Loc Cert.AdRpbIdeal.nD Cert.AdRpbIdeal.τ Cert.AdRpbIdeal.sig) → Buf (Elt Ideal) ℓ) (g : Dev Cert.AdRpbIdeal.nD → PrngReg), Pre_AdRpbIdeal m →
    θ_run (Cert.AdRpbIdeal.defs (F := Ideal)) (onTc (τ := Cert.AdRpbIdeal.τ) (Cert.AdRpbIdeal.main (F := Ideal))) ⟨m, fun _ => 0, g⟩ (fun r => (∀ c : Dev Cert.AdRpbIdeal.nD,
      r.2.mem ((c.tc : Thread Cert.AdRpbIdeal.nD Cert.AdRpbIdeal.τ).loc Cert.AdRpbIdeal.main_arg0) = m ((c.tc : Thread Cert.AdRpbIdeal.nD Cert.AdRpbIdeal.τ).loc Cert.AdRpbIdeal.main_arg0)
      ∧ r.2.mem ((c.tc : Thread Cert.AdRpbIdeal.nD Cert.AdRpbIdeal.τ).loc Cert.AdRpbIdeal.main_arg1) = m ((c.tc : Thread Cert.AdRpbIdeal.nD Cert.AdRpbIdeal.τ).loc Cert.AdRpbIdeal.main_arg1)
      ∧ r.2.mem ((c.tc : Thread Cert.AdRpbIdeal.nD Cert.AdRpbIdeal.τ).loc Cert.AdRpbIdeal.main_arg2) = m ((c.tc : Thread Cert.AdRpbIdeal.nD Cert.AdRpbIdeal.τ).loc Cert.AdRpbIdeal.main_arg2)
      ∧ r.2.mem ((c.tc : Thread Cert.AdRpbIdeal.nD Cert.AdRpbIdeal.τ).loc Cert.AdRpbIdeal.main_arg3) = m ((c.tc : Thread Cert.AdRpbIdeal.nD Cert.AdRpbIdeal.τ).loc Cert.AdRpbIdeal.main_arg3))
      ∧ r.2.sem = fun _ => 0)

def quiescent_RefAdRpbIdeal [hRefAdRpbIdeal : Cert.RefAdRpbIdeal.Facts] : Prop :=
  ∀ (m : (ℓ : Loc Cert.RefAdRpbIdeal.nD Cert.RefAdRpbIdeal.τ Cert.RefAdRpbIdeal.sig) → Buf (Elt Ideal) ℓ) (g : Dev Cert.RefAdRpbIdeal.nD → PrngReg), Pre_RefAdRpbIdeal m →
    θ_run (Cert.RefAdRpbIdeal.defs (F := Ideal)) (onTc (τ := Cert.RefAdRpbIdeal.τ) (Cert.RefAdRpbIdeal.main (F := Ideal))) ⟨m, fun _ => 0, g⟩ (fun r => (∀ c : Dev Cert.RefAdRpbIdeal.nD,
      r.2.mem ((c.tc : Thread Cert.RefAdRpbIdeal.nD Cert.RefAdRpbIdeal.τ).loc Cert.RefAdRpbIdeal.main_arg0) = m ((c.tc : Thread Cert.RefAdRpbIdeal.nD Cert.RefAdRpbIdeal.τ).loc Cert.RefAdRpbIdeal.main_arg0)
      ∧ r.2.mem ((c.tc : Thread Cert.RefAdRpbIdeal.nD Cert.RefAdRpbIdeal.τ).loc Cert.RefAdRpbIdeal.main_arg1) = m ((c.tc : Thread Cert.RefAdRpbIdeal.nD Cert.RefAdRpbIdeal.τ).loc Cert.RefAdRpbIdeal.main_arg1)
      ∧ r.2.mem ((c.tc : Thread Cert.RefAdRpbIdeal.nD Cert.RefAdRpbIdeal.τ).loc Cert.RefAdRpbIdeal.main_arg2) = m ((c.tc : Thread Cert.RefAdRpbIdeal.nD Cert.RefAdRpbIdeal.τ).loc Cert.RefAdRpbIdeal.main_arg2)
      ∧ r.2.mem ((c.tc : Thread Cert.RefAdRpbIdeal.nD Cert.RefAdRpbIdeal.τ).loc Cert.RefAdRpbIdeal.main_arg3) = m ((c.tc : Thread Cert.RefAdRpbIdeal.nD Cert.RefAdRpbIdeal.τ).loc Cert.RefAdRpbIdeal.main_arg3))
      ∧ r.2.sem = fun _ => 0)

def quiescent_AdLb [hAdLb : Cert.AdLb.Facts] : Prop :=
  ∀ (m : (ℓ : Loc Cert.AdLb.nD Cert.AdLb.τ Cert.AdLb.sig) → Buf (Elt Bits) ℓ) (g : Dev Cert.AdLb.nD → PrngReg), Pre_AdLb m →
    θ_run (Cert.AdLb.defs (F := Bits)) (onTc (τ := Cert.AdLb.τ) (Cert.AdLb.main (F := Bits))) ⟨m, fun _ => 0, g⟩ (fun r => (∀ c : Dev Cert.AdLb.nD,
      r.2.mem ((c.tc : Thread Cert.AdLb.nD Cert.AdLb.τ).loc Cert.AdLb.main_arg0) = m ((c.tc : Thread Cert.AdLb.nD Cert.AdLb.τ).loc Cert.AdLb.main_arg0)
      ∧ r.2.mem ((c.tc : Thread Cert.AdLb.nD Cert.AdLb.τ).loc Cert.AdLb.main_arg1) = m ((c.tc : Thread Cert.AdLb.nD Cert.AdLb.τ).loc Cert.AdLb.main_arg1)
      ∧ r.2.mem ((c.tc : Thread Cert.AdLb.nD Cert.AdLb.τ).loc Cert.AdLb.main_arg2) = m ((c.tc : Thread Cert.AdLb.nD Cert.AdLb.τ).loc Cert.AdLb.main_arg2)
      ∧ r.2.mem ((c.tc : Thread Cert.AdLb.nD Cert.AdLb.τ).loc Cert.AdLb.main_arg3) = m ((c.tc : Thread Cert.AdLb.nD Cert.AdLb.τ).loc Cert.AdLb.main_arg3))
      ∧ r.2.sem = fun _ => 0)

def quiescent_AdLbIdeal [hAdLbIdeal : Cert.AdLbIdeal.Facts] : Prop :=
  ∀ (m : (ℓ : Loc Cert.AdLbIdeal.nD Cert.AdLbIdeal.τ Cert.AdLbIdeal.sig) → Buf (Elt Ideal) ℓ) (g : Dev Cert.AdLbIdeal.nD → PrngReg), Pre_AdLbIdeal m →
    θ_run (Cert.AdLbIdeal.defs (F := Ideal)) (onTc (τ := Cert.AdLbIdeal.τ) (Cert.AdLbIdeal.main (F := Ideal))) ⟨m, fun _ => 0, g⟩ (fun r => (∀ c : Dev Cert.AdLbIdeal.nD,
      r.2.mem ((c.tc : Thread Cert.AdLbIdeal.nD Cert.AdLbIdeal.τ).loc Cert.AdLbIdeal.main_arg0) = m ((c.tc : Thread Cert.AdLbIdeal.nD Cert.AdLbIdeal.τ).loc Cert.AdLbIdeal.main_arg0)
      ∧ r.2.mem ((c.tc : Thread Cert.AdLbIdeal.nD Cert.AdLbIdeal.τ).loc Cert.AdLbIdeal.main_arg1) = m ((c.tc : Thread Cert.AdLbIdeal.nD Cert.AdLbIdeal.τ).loc Cert.AdLbIdeal.main_arg1)
      ∧ r.2.mem ((c.tc : Thread Cert.AdLbIdeal.nD Cert.AdLbIdeal.τ).loc Cert.AdLbIdeal.main_arg2) = m ((c.tc : Thread Cert.AdLbIdeal.nD Cert.AdLbIdeal.τ).loc Cert.AdLbIdeal.main_arg2)
      ∧ r.2.mem ((c.tc : Thread Cert.AdLbIdeal.nD Cert.AdLbIdeal.τ).loc Cert.AdLbIdeal.main_arg3) = m ((c.tc : Thread Cert.AdLbIdeal.nD Cert.AdLbIdeal.τ).loc Cert.AdLbIdeal.main_arg3))
      ∧ r.2.sem = fun _ => 0)

def quiescent_RefAdLbIdeal [hRefAdLbIdeal : Cert.RefAdLbIdeal.Facts] : Prop :=
  ∀ (m : (ℓ : Loc Cert.RefAdLbIdeal.nD Cert.RefAdLbIdeal.τ Cert.RefAdLbIdeal.sig) → Buf (Elt Ideal) ℓ) (g : Dev Cert.RefAdLbIdeal.nD → PrngReg), Pre_RefAdLbIdeal m →
    θ_run (Cert.RefAdLbIdeal.defs (F := Ideal)) (onTc (τ := Cert.RefAdLbIdeal.τ) (Cert.RefAdLbIdeal.main (F := Ideal))) ⟨m, fun _ => 0, g⟩ (fun r => (∀ c : Dev Cert.RefAdLbIdeal.nD,
      r.2.mem ((c.tc : Thread Cert.RefAdLbIdeal.nD Cert.RefAdLbIdeal.τ).loc Cert.RefAdLbIdeal.main_arg0) = m ((c.tc : Thread Cert.RefAdLbIdeal.nD Cert.RefAdLbIdeal.τ).loc Cert.RefAdLbIdeal.main_arg0)
      ∧ r.2.mem ((c.tc : Thread Cert.RefAdLbIdeal.nD Cert.RefAdLbIdeal.τ).loc Cert.RefAdLbIdeal.main_arg1) = m ((c.tc : Thread Cert.RefAdLbIdeal.nD Cert.RefAdLbIdeal.τ).loc Cert.RefAdLbIdeal.main_arg1)
      ∧ r.2.mem ((c.tc : Thread Cert.RefAdLbIdeal.nD Cert.RefAdLbIdeal.τ).loc Cert.RefAdLbIdeal.main_arg2) = m ((c.tc : Thread Cert.RefAdLbIdeal.nD Cert.RefAdLbIdeal.τ).loc Cert.RefAdLbIdeal.main_arg2)
      ∧ r.2.mem ((c.tc : Thread Cert.RefAdLbIdeal.nD Cert.RefAdLbIdeal.τ).loc Cert.RefAdLbIdeal.main_arg3) = m ((c.tc : Thread Cert.RefAdLbIdeal.nD Cert.RefAdLbIdeal.τ).loc Cert.RefAdLbIdeal.main_arg3))
      ∧ r.2.sem = fun _ => 0)

def quiescent_AdHn [hAdHn : Cert.AdHn.Facts] : Prop :=
  ∀ (m : (ℓ : Loc Cert.AdHn.nD Cert.AdHn.τ Cert.AdHn.sig) → Buf (Elt Bits) ℓ) (g : Dev Cert.AdHn.nD → PrngReg), Pre_AdHn m →
    θ_run (Cert.AdHn.defs (F := Bits)) (onTc (τ := Cert.AdHn.τ) (Cert.AdHn.main (F := Bits))) ⟨m, fun _ => 0, g⟩ (fun r => (∀ c : Dev Cert.AdHn.nD,
      r.2.mem ((c.tc : Thread Cert.AdHn.nD Cert.AdHn.τ).loc Cert.AdHn.main_arg0) = m ((c.tc : Thread Cert.AdHn.nD Cert.AdHn.τ).loc Cert.AdHn.main_arg0)
      ∧ r.2.mem ((c.tc : Thread Cert.AdHn.nD Cert.AdHn.τ).loc Cert.AdHn.main_arg1) = m ((c.tc : Thread Cert.AdHn.nD Cert.AdHn.τ).loc Cert.AdHn.main_arg1)
      ∧ r.2.mem ((c.tc : Thread Cert.AdHn.nD Cert.AdHn.τ).loc Cert.AdHn.main_arg2) = m ((c.tc : Thread Cert.AdHn.nD Cert.AdHn.τ).loc Cert.AdHn.main_arg2)
      ∧ r.2.mem ((c.tc : Thread Cert.AdHn.nD Cert.AdHn.τ).loc Cert.AdHn.main_arg3) = m ((c.tc : Thread Cert.AdHn.nD Cert.AdHn.τ).loc Cert.AdHn.main_arg3))
      ∧ r.2.sem = fun _ => 0)

def quiescent_AdHnIdeal [hAdHnIdeal : Cert.AdHnIdeal.Facts] : Prop :=
  ∀ (m : (ℓ : Loc Cert.AdHnIdeal.nD Cert.AdHnIdeal.τ Cert.AdHnIdeal.sig) → Buf (Elt Ideal) ℓ) (g : Dev Cert.AdHnIdeal.nD → PrngReg), Pre_AdHnIdeal m →
    θ_run (Cert.AdHnIdeal.defs (F := Ideal)) (onTc (τ := Cert.AdHnIdeal.τ) (Cert.AdHnIdeal.main (F := Ideal))) ⟨m, fun _ => 0, g⟩ (fun r => (∀ c : Dev Cert.AdHnIdeal.nD,
      r.2.mem ((c.tc : Thread Cert.AdHnIdeal.nD Cert.AdHnIdeal.τ).loc Cert.AdHnIdeal.main_arg0) = m ((c.tc : Thread Cert.AdHnIdeal.nD Cert.AdHnIdeal.τ).loc Cert.AdHnIdeal.main_arg0)
      ∧ r.2.mem ((c.tc : Thread Cert.AdHnIdeal.nD Cert.AdHnIdeal.τ).loc Cert.AdHnIdeal.main_arg1) = m ((c.tc : Thread Cert.AdHnIdeal.nD Cert.AdHnIdeal.τ).loc Cert.AdHnIdeal.main_arg1)
      ∧ r.2.mem ((c.tc : Thread Cert.AdHnIdeal.nD Cert.AdHnIdeal.τ).loc Cert.AdHnIdeal.main_arg2) = m ((c.tc : Thread Cert.AdHnIdeal.nD Cert.AdHnIdeal.τ).loc Cert.AdHnIdeal.main_arg2)
      ∧ r.2.mem ((c.tc : Thread Cert.AdHnIdeal.nD Cert.AdHnIdeal.τ).loc Cert.AdHnIdeal.main_arg3) = m ((c.tc : Thread Cert.AdHnIdeal.nD Cert.AdHnIdeal.τ).loc Cert.AdHnIdeal.main_arg3))
      ∧ r.2.sem = fun _ => 0)

def quiescent_RefAdHnIdeal [hRefAdHnIdeal : Cert.RefAdHnIdeal.Facts] : Prop :=
  ∀ (m : (ℓ : Loc Cert.RefAdHnIdeal.nD Cert.RefAdHnIdeal.τ Cert.RefAdHnIdeal.sig) → Buf (Elt Ideal) ℓ) (g : Dev Cert.RefAdHnIdeal.nD → PrngReg), Pre_RefAdHnIdeal m →
    θ_run (Cert.RefAdHnIdeal.defs (F := Ideal)) (onTc (τ := Cert.RefAdHnIdeal.τ) (Cert.RefAdHnIdeal.main (F := Ideal))) ⟨m, fun _ => 0, g⟩ (fun r => (∀ c : Dev Cert.RefAdHnIdeal.nD,
      r.2.mem ((c.tc : Thread Cert.RefAdHnIdeal.nD Cert.RefAdHnIdeal.τ).loc Cert.RefAdHnIdeal.main_arg0) = m ((c.tc : Thread Cert.RefAdHnIdeal.nD Cert.RefAdHnIdeal.τ).loc Cert.RefAdHnIdeal.main_arg0)
      ∧ r.2.mem ((c.tc : Thread Cert.RefAdHnIdeal.nD Cert.RefAdHnIdeal.τ).loc Cert.RefAdHnIdeal.main_arg1) = m ((c.tc : Thread Cert.RefAdHnIdeal.nD Cert.RefAdHnIdeal.τ).loc Cert.RefAdHnIdeal.main_arg1)
      ∧ r.2.mem ((c.tc : Thread Cert.RefAdHnIdeal.nD Cert.RefAdHnIdeal.τ).loc Cert.RefAdHnIdeal.main_arg2) = m ((c.tc : Thread Cert.RefAdHnIdeal.nD Cert.RefAdHnIdeal.τ).loc Cert.RefAdHnIdeal.main_arg2)
      ∧ r.2.mem ((c.tc : Thread Cert.RefAdHnIdeal.nD Cert.RefAdHnIdeal.τ).loc Cert.RefAdHnIdeal.main_arg3) = m ((c.tc : Thread Cert.RefAdHnIdeal.nD Cert.RefAdHnIdeal.τ).loc Cert.RefAdHnIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_RefAdaFwdIdeal [hRefAdaFwdIdeal : Cert.RefAdaFwdIdeal.Facts] : Prop :=
  ∀ (m : (ℓ : Loc Cert.RefAdaFwdIdeal.nD Cert.RefAdaFwdIdeal.τ Cert.RefAdaFwdIdeal.sig) → Buf (Elt Ideal) ℓ) (g : Dev Cert.RefAdaFwdIdeal.nD → PrngReg), Pre_RefAdaFwdIdeal m →
    θ_run (Cert.RefAdaFwdIdeal.defs (F := Ideal)) (onTc (τ := Cert.RefAdaFwdIdeal.τ) (Cert.RefAdaFwdIdeal.main (F := Ideal))) ⟨m, fun _ => 0, g⟩ (fun r => (∀ c : Dev Cert.RefAdaFwdIdeal.nD,
      r.2.mem ((c.tc : Thread Cert.RefAdaFwdIdeal.nD Cert.RefAdaFwdIdeal.τ).loc Cert.RefAdaFwdIdeal.main_arg0) = m ((c.tc : Thread Cert.RefAdaFwdIdeal.nD Cert.RefAdaFwdIdeal.τ).loc Cert.RefAdaFwdIdeal.main_arg0)
      ∧ r.2.mem ((c.tc : Thread Cert.RefAdaFwdIdeal.nD Cert.RefAdaFwdIdeal.τ).loc Cert.RefAdaFwdIdeal.main_arg1) = m ((c.tc : Thread Cert.RefAdaFwdIdeal.nD Cert.RefAdaFwdIdeal.τ).loc Cert.RefAdaFwdIdeal.main_arg1)
      ∧ r.2.mem ((c.tc : Thread Cert.RefAdaFwdIdeal.nD Cert.RefAdaFwdIdeal.τ).loc Cert.RefAdaFwdIdeal.main_arg2) = m ((c.tc : Thread Cert.RefAdaFwdIdeal.nD Cert.RefAdaFwdIdeal.τ).loc Cert.RefAdaFwdIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_RefAdaBwdIdeal [hRefAdaBwdIdeal : Cert.RefAdaBwdIdeal.Facts] : Prop :=
  ∀ (m : (ℓ : Loc Cert.RefAdaBwdIdeal.nD Cert.RefAdaBwdIdeal.τ Cert.RefAdaBwdIdeal.sig) → Buf (Elt Ideal) ℓ) (g : Dev Cert.RefAdaBwdIdeal.nD → PrngReg), Pre_RefAdaBwdIdeal m →
    θ_run (Cert.RefAdaBwdIdeal.defs (F := Ideal)) (onTc (τ := Cert.RefAdaBwdIdeal.τ) (Cert.RefAdaBwdIdeal.main (F := Ideal))) ⟨m, fun _ => 0, g⟩ (fun r => (∀ c : Dev Cert.RefAdaBwdIdeal.nD,
      r.2.mem ((c.tc : Thread Cert.RefAdaBwdIdeal.nD Cert.RefAdaBwdIdeal.τ).loc Cert.RefAdaBwdIdeal.main_arg0) = m ((c.tc : Thread Cert.RefAdaBwdIdeal.nD Cert.RefAdaBwdIdeal.τ).loc Cert.RefAdaBwdIdeal.main_arg0)
      ∧ r.2.mem ((c.tc : Thread Cert.RefAdaBwdIdeal.nD Cert.RefAdaBwdIdeal.τ).loc Cert.RefAdaBwdIdeal.main_arg1) = m ((c.tc : Thread Cert.RefAdaBwdIdeal.nD Cert.RefAdaBwdIdeal.τ).loc Cert.RefAdaBwdIdeal.main_arg1)
      ∧ r.2.mem ((c.tc : Thread Cert.RefAdaBwdIdeal.nD Cert.RefAdaBwdIdeal.τ).loc Cert.RefAdaBwdIdeal.main_arg2) = m ((c.tc : Thread Cert.RefAdaBwdIdeal.nD Cert.RefAdaBwdIdeal.τ).loc Cert.RefAdaBwdIdeal.main_arg2))
      ∧ r.2.sem = fun _ => 0)

def quiescent_Sum8 [hSum8 : Cert.Sum8.Facts] : Prop :=
  ∀ (m : (ℓ : Loc Cert.Sum8.nD Cert.Sum8.τ Cert.Sum8.sig) → Buf (Elt Bits) ℓ) (g : Dev Cert.Sum8.nD → PrngReg), Pre_Sum8 m →
    θ_run (Cert.Sum8.defs (F := Bits)) (onTc (τ := Cert.Sum8.τ) (Cert.Sum8.main (F := Bits))) ⟨m, fun _ => 0, g⟩ (fun r => (∀ c : Dev Cert.Sum8.nD,
      r.2.mem ((c.tc : Thread Cert.Sum8.nD Cert.Sum8.τ).loc Cert.Sum8.main_arg0) = m ((c.tc : Thread Cert.Sum8.nD Cert.Sum8.τ).loc Cert.Sum8.main_arg0))
      ∧ r.2.sem = fun _ => 0)

def quiescent_Sum8Ideal [hSum8Ideal : Cert.Sum8Ideal.Facts] : Prop :=
  ∀ (m : (ℓ : Loc Cert.Sum8Ideal.nD Cert.Sum8Ideal.τ Cert.Sum8Ideal.sig) → Buf (Elt Ideal) ℓ) (g : Dev Cert.Sum8Ideal.nD → PrngReg), Pre_Sum8Ideal m →
    θ_run (Cert.Sum8Ideal.defs (F := Ideal)) (onTc (τ := Cert.Sum8Ideal.τ) (Cert.Sum8Ideal.main (F := Ideal))) ⟨m, fun _ => 0, g⟩ (fun r => (∀ c : Dev Cert.Sum8Ideal.nD,
      r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ r.2.sem = fun _ => 0)

def quiescent_RefSum8Ideal [hRefSum8Ideal : Cert.RefSum8Ideal.Facts] : Prop :=
  ∀ (m : (ℓ : Loc Cert.RefSum8Ideal.nD Cert.RefSum8Ideal.τ Cert.RefSum8Ideal.sig) → Buf (Elt Ideal) ℓ) (g : Dev Cert.RefSum8Ideal.nD → PrngReg), Pre_RefSum8Ideal m →
    θ_run (Cert.RefSum8Ideal.defs (F := Ideal)) (onTc (τ := Cert.RefSum8Ideal.τ) (Cert.RefSum8Ideal.main (F := Ideal))) ⟨m, fun _ => 0, g⟩ (fun r => (∀ c : Dev Cert.RefSum8Ideal.nD,
      r.2.mem ((c.tc : Thread Cert.RefSum8Ideal.nD Cert.RefSum8Ideal.τ).loc Cert.RefSum8Ideal.main_arg0) = m ((c.tc : Thread Cert.RefSum8Ideal.nD Cert.RefSum8Ideal.τ).loc Cert.RefSum8Ideal.main_arg0))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3)
      ∧ r.2.mem ((c.tc : Thread Cert.Ln1.nD Cert.Ln1.τ).loc Cert.Ln1.main_arg4) = m ((c.tc : Thread Cert.Ln1.nD Cert.Ln1.τ).loc Cert.Ln1.main_arg4))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4))
      ∧ r.2.sem = fun _ => 0)

def quiescent_RefLn1Ideal [hRefLn1Ideal : Cert.RefLn1Ideal.Facts] : Prop :=
  ∀ (m : (ℓ : Loc Cert.RefLn1Ideal.nD Cert.RefLn1Ideal.τ Cert.RefLn1Ideal.sig) → Buf (Elt Ideal) ℓ) (g : Dev Cert.RefLn1Ideal.nD → PrngReg), Pre_RefLn1Ideal m →
    θ_run (Cert.RefLn1Ideal.defs (F := Ideal)) (onTc (τ := Cert.RefLn1Ideal.τ) (Cert.RefLn1Ideal.main (F := Ideal))) ⟨m, fun _ => 0, g⟩ (fun r => (∀ c : Dev Cert.RefLn1Ideal.nD,
      r.2.mem ((c.tc : Thread Cert.RefLn1Ideal.nD Cert.RefLn1Ideal.τ).loc Cert.RefLn1Ideal.main_arg0) = m ((c.tc : Thread Cert.RefLn1Ideal.nD Cert.RefLn1Ideal.τ).loc Cert.RefLn1Ideal.main_arg0)
      ∧ r.2.mem ((c.tc : Thread Cert.RefLn1Ideal.nD Cert.RefLn1Ideal.τ).loc Cert.RefLn1Ideal.main_arg1) = m ((c.tc : Thread Cert.RefLn1Ideal.nD Cert.RefLn1Ideal.τ).loc Cert.RefLn1Ideal.main_arg1)
      ∧ r.2.mem ((c.tc : Thread Cert.RefLn1Ideal.nD Cert.RefLn1Ideal.τ).loc Cert.RefLn1Ideal.main_arg2) = m ((c.tc : Thread Cert.RefLn1Ideal.nD Cert.RefLn1Ideal.τ).loc Cert.RefLn1Ideal.main_arg2)
      ∧ r.2.mem ((c.tc : Thread Cert.RefLn1Ideal.nD Cert.RefLn1Ideal.τ).loc Cert.RefLn1Ideal.main_arg3) = m ((c.tc : Thread Cert.RefLn1Ideal.nD Cert.RefLn1Ideal.τ).loc Cert.RefLn1Ideal.main_arg3)
      ∧ r.2.mem ((c.tc : Thread Cert.RefLn1Ideal.nD Cert.RefLn1Ideal.τ).loc Cert.RefLn1Ideal.main_arg4) = m ((c.tc : Thread Cert.RefLn1Ideal.nD Cert.RefLn1Ideal.τ).loc Cert.RefLn1Ideal.main_arg4))
      ∧ r.2.sem = fun _ => 0)

def preserves_Kernel_KernelIdeal : Prop :=
  True

def algebraic_KernelIdeal_ReferenceIdeal_pre_gates_in_range [hKernelIdeal : Cert.KernelIdeal.Facts] [hReferenceIdeal : Cert.ReferenceIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v117_0)) (v1 : (c : Dev Cert.KernelIdeal.nD) → Buf (Elt Ideal) ((c.tc : Thread Cert.KernelIdeal.nD Cert.KernelIdeal.τ).loc Cert.KernelIdeal.main_v117_1)) (v2 : (c : Dev Cert.KernelIdeal.nD) → Buf (Elt Ideal) ((c.tc : Thread Cert.KernelIdeal.nD Cert.KernelIdeal.τ).loc Cert.KernelIdeal.main_v117_2)) (v3 : (c : Dev Cert.KernelIdeal.nD) → Buf (Elt Ideal) ((c.tc : Thread Cert.KernelIdeal.nD Cert.KernelIdeal.τ).loc Cert.KernelIdeal.main_v117_3)) (v4 : (c : Dev Cert.KernelIdeal.nD) → Buf (Elt Ideal) ((c.tc : Thread Cert.KernelIdeal.nD Cert.KernelIdeal.τ).loc Cert.KernelIdeal.main_v117_4)) (v5 : (c : Dev Cert.KernelIdeal.nD) → Buf (Elt Ideal) ((c.tc : Thread Cert.KernelIdeal.nD Cert.KernelIdeal.τ).loc Cert.KernelIdeal.main_v117_5)) (v6 : (c : Dev Cert.KernelIdeal.nD) → Buf (Elt Ideal) ((c.tc : Thread Cert.KernelIdeal.nD Cert.KernelIdeal.τ).loc Cert.KernelIdeal.main_v117_6)) (v7 : (c : Dev Cert.KernelIdeal.nD) → Buf (Elt Ideal) ((c.tc : Thread Cert.KernelIdeal.nD Cert.KernelIdeal.τ).loc Cert.KernelIdeal.main_v117_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117_0) = v0 c
          ∧ r.2.mem ((c.tc : Thread Cert.KernelIdeal.nD Cert.KernelIdeal.τ).loc Cert.KernelIdeal.main_v117_1) = v1 c
          ∧ r.2.mem ((c.tc : Thread Cert.KernelIdeal.nD Cert.KernelIdeal.τ).loc Cert.KernelIdeal.main_v117_2) = v2 c
          ∧ r.2.mem ((c.tc : Thread Cert.KernelIdeal.nD Cert.KernelIdeal.τ).loc Cert.KernelIdeal.main_v117_3) = v3 c
          ∧ r.2.mem ((c.tc : Thread Cert.KernelIdeal.nD Cert.KernelIdeal.τ).loc Cert.KernelIdeal.main_v117_4) = v4 c
          ∧ r.2.mem ((c.tc : Thread Cert.KernelIdeal.nD Cert.KernelIdeal.τ).loc Cert.KernelIdeal.main_v117_5) = v5 c
          ∧ r.2.mem ((c.tc : Thread Cert.KernelIdeal.nD Cert.KernelIdeal.τ).loc Cert.KernelIdeal.main_v117_6) = v6 c
          ∧ r.2.mem ((c.tc : Thread Cert.KernelIdeal.nD Cert.KernelIdeal.τ).loc Cert.KernelIdeal.main_v117_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v220) = v4 c
          ∧ r.2.mem ((c.tc : Thread Cert.ReferenceIdeal.nD Cert.ReferenceIdeal.τ).loc Cert.ReferenceIdeal.main_v221) = v5 c
          ∧ r.2.mem ((c.tc : Thread Cert.ReferenceIdeal.nD Cert.ReferenceIdeal.τ).loc Cert.ReferenceIdeal.main_v222) = v6 c
          ∧ r.2.mem ((c.tc : Thread Cert.ReferenceIdeal.nD Cert.ReferenceIdeal.τ).loc Cert.ReferenceIdeal.main_v219) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnOut_FfnOutIdeal : Prop :=
  True

def algebraic_FfnOutIdeal_RefFfnOutIdeal [hFfnOutIdeal : Cert.FfnOutIdeal.Facts] [hRefFfnOutIdeal : Cert.RefFfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.RefFfnOutIdeal.nD Cert.RefFfnOutIdeal.τ Cert.RefFfnOutIdeal.sig) → Buf (Elt Ideal) ℓ) (g' : Dev Cert.RefFfnOutIdeal.nD → PrngReg), Pre_FfnOutIdeal m →
    (∀ c : Dev Cert.FfnOutIdeal.nD,
      m' ((c.tc : Thread Cert.RefFfnOutIdeal.nD Cert.RefFfnOutIdeal.τ).loc Cert.RefFfnOutIdeal.main_arg0) = m ((c.tc : Thread Cert.FfnOutIdeal.nD Cert.FfnOutIdeal.τ).loc Cert.FfnOutIdeal.main_arg0)
      ∧ m' ((c.tc : Thread Cert.RefFfnOutIdeal.nD Cert.RefFfnOutIdeal.τ).loc Cert.RefFfnOutIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.RefFfnOutIdeal.defs (F := Ideal)) (onTc (τ := Cert.RefFfnOutIdeal.τ) (Cert.RefFfnOutIdeal.main (F := Ideal))) ⟨m', fun _ => 0, g'⟩ (fun r => ∀ c : Dev Cert.RefFfnOutIdeal.nD,
          r.2.mem ((c.tc : Thread Cert.RefFfnOutIdeal.nD Cert.RefFfnOutIdeal.τ).loc Cert.RefFfnOutIdeal.main_v2) = v0 c
          ∧ r.2.mem ((c.tc : Thread Cert.RefFfnOutIdeal.nD Cert.RefFfnOutIdeal.τ).loc Cert.RefFfnOutIdeal.main_arg0) = m' ((c.tc : Thread Cert.RefFfnOutIdeal.nD Cert.RefFfnOutIdeal.τ).loc Cert.RefFfnOutIdeal.main_arg0)
          ∧ r.2.mem ((c.tc : Thread Cert.RefFfnOutIdeal.nD Cert.RefFfnOutIdeal.τ).loc Cert.RefFfnOutIdeal.main_arg1) = m' ((c.tc : Thread Cert.RefFfnOutIdeal.nD Cert.RefFfnOutIdeal.τ).loc Cert.RefFfnOutIdeal.main_arg1))

def preserves_DH2_DH2Ideal : Prop :=
  True

def algebraic_DH2Ideal_RefDH2Ideal [hDH2Ideal : Cert.DH2Ideal.Facts] [hRefDH2Ideal : Cert.RefDH2Ideal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.RefDH2Ideal.nD Cert.RefDH2Ideal.τ Cert.RefDH2Ideal.sig) → Buf (Elt Ideal) ℓ) (g' : Dev Cert.RefDH2Ideal.nD → PrngReg), Pre_DH2Ideal m →
    (∀ c : Dev Cert.DH2Ideal.nD,
      m' ((c.tc : Thread Cert.RefDH2Ideal.nD Cert.RefDH2Ideal.τ).loc Cert.RefDH2Ideal.main_arg0) = m ((c.tc : Thread Cert.DH2Ideal.nD Cert.DH2Ideal.τ).loc Cert.DH2Ideal.main_arg0)
      ∧ m' ((c.tc : Thread Cert.RefDH2Ideal.nD Cert.RefDH2Ideal.τ).loc Cert.RefDH2Ideal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v2)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v2) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.RefDH2Ideal.defs (F := Ideal)) (onTc (τ := Cert.RefDH2Ideal.τ) (Cert.RefDH2Ideal.main (F := Ideal))) ⟨m', fun _ => 0, g'⟩ (fun r => ∀ c : Dev Cert.RefDH2Ideal.nD,
          r.2.mem ((c.tc : Thread Cert.RefDH2Ideal.nD Cert.RefDH2Ideal.τ).loc Cert.RefDH2Ideal.main_v9) = v0 c
          ∧ r.2.mem ((c.tc : Thread Cert.RefDH2Ideal.nD Cert.RefDH2Ideal.τ).loc Cert.RefDH2Ideal.main_arg0) = m' ((c.tc : Thread Cert.RefDH2Ideal.nD Cert.RefDH2Ideal.τ).loc Cert.RefDH2Ideal.main_arg0)
          ∧ r.2.mem ((c.tc : Thread Cert.RefDH2Ideal.nD Cert.RefDH2Ideal.τ).loc Cert.RefDH2Ideal.main_arg1) = m' ((c.tc : Thread Cert.RefDH2Ideal.nD Cert.RefDH2Ideal.τ).loc Cert.RefDH2Ideal.main_arg1))

def preserves_DwFfnIn_DwFfnInIdeal : Prop :=
  True

def algebraic_DwFfnInIdeal_RefDwFfnInIdeal [hDwFfnInIdeal : Cert.DwFfnInIdeal.Facts] [hRefDwFfnInIdeal : Cert.RefDwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg)
    (m' : (ℓ : Loc Cert.RefDwFfnInIdeal.nD Cert.RefDwFfnInIdeal.τ Cert.RefDwFfnInIdeal.sig) → Buf (Elt Ideal) ℓ) (g' : Dev Cert.RefDwFfnInIdeal.nD → PrngReg), Pre_DwFfnInIdeal m →
    (∀ c : Dev Cert.DwFfnInIdeal.nD,
      m' ((c.tc : Thread Cert.RefDwFfnInIdeal.nD Cert.RefDwFfnInIdeal.τ).loc Cert.RefDwFfnInIdeal.main_arg0) = m ((c.tc : Thread Cert.DwFfnInIdeal.nD Cert.DwFfnInIdeal.τ).loc Cert.DwFfnInIdeal.main_arg0)
      ∧ m' ((c.tc : Thread Cert.RefDwFfnInIdeal.nD Cert.RefDwFfnInIdeal.τ).loc Cert.RefDwFfnInIdeal.main_arg1) = m ((c.tc : Thread Cert.DwFfnInIdeal.nD Cert.DwFfnInIdeal.τ).loc Cert.DwFfnInIdeal.main_arg1)) →
    ∃ (v0 : (c : Dev Cert.DwFfnInIdeal.nD) → Buf (Elt Ideal) ((c.tc : Thread Cert.DwFfnInIdeal.nD Cert.DwFfnInIdeal.τ).loc Cert.DwFfnInIdeal.main_v0)),
      θ_run (Cert.DwFfnInIdeal.defs (F := Ideal)) (onTc (τ := Cert.DwFfnInIdeal.τ) (Cert.DwFfnInIdeal.main (F := Ideal))) ⟨m, fun _ => 0, g⟩ (fun r => ∀ c : Dev Cert.DwFfnInIdeal.nD,
          r.2.mem ((c.tc : Thread Cert.DwFfnInIdeal.nD Cert.DwFfnInIdeal.τ).loc Cert.DwFfnInIdeal.main_v0) = v0 c
          ∧ r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
          ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ θ_run (Cert.RefDwFfnInIdeal.defs (F := Ideal)) (onTc (τ := Cert.RefDwFfnInIdeal.τ) (Cert.RefDwFfnInIdeal.main (F := Ideal))) ⟨m', fun _ => 0, g'⟩ (fun r => ∀ c : Dev Cert.RefDwFfnInIdeal.nD,
          r.2.mem ((c.tc : Thread Cert.RefDwFfnInIdeal.nD Cert.RefDwFfnInIdeal.τ).loc Cert.RefDwFfnInIdeal.main_v13) = v0 c
          ∧ r.2.mem ((c.tc : Thread Cert.RefDwFfnInIdeal.nD Cert.RefDwFfnInIdeal.τ).loc Cert.RefDwFfnInIdeal.main_arg0) = m' ((c.tc : Thread Cert.RefDwFfnInIdeal.nD Cert.RefDwFfnInIdeal.τ).loc Cert.RefDwFfnInIdeal.main_arg0)
          ∧ r.2.mem ((c.tc : Thread Cert.RefDwFfnInIdeal.nD Cert.RefDwFfnInIdeal.τ).loc Cert.RefDwFfnInIdeal.main_arg1) = m' ((c.tc : Thread Cert.RefDwFfnInIdeal.nD Cert.RefDwFfnInIdeal.τ).loc Cert.RefDwFfnInIdeal.main_arg1))

def preserves_DwFfnOut_DwFfnOutIdeal : Prop :=
  True

def algebraic_DwFfnOutIdeal_RefDwFfnOutIdeal [hDwFfnOutIdeal : Cert.DwFfnOutIdeal.Facts] [hRefDwFfnOutIdeal : Cert.RefDwFfnOutIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg)
    (m' : (ℓ : Loc Cert.RefDwFfnOutIdeal.nD Cert.RefDwFfnOutIdeal.τ Cert.RefDwFfnOutIdeal.sig) → Buf (Elt Ideal) ℓ) (g' : Dev Cert.RefDwFfnOutIdeal.nD → PrngReg), Pre_DwFfnOutIdeal m →
    (∀ c : Dev Cert.DwFfnOutIdeal.nD,
      m' ((c.tc : Thread Cert.RefDwFfnOutIdeal.nD Cert.RefDwFfnOutIdeal.τ).loc Cert.RefDwFfnOutIdeal.main_arg0) = m ((c.tc : Thread Cert.DwFfnOutIdeal.nD Cert.DwFfnOutIdeal.τ).loc Cert.DwFfnOutIdeal.main_arg0)
      ∧ m' ((c.tc : Thread Cert.RefDwFfnOutIdeal.nD Cert.RefDwFfnOutIdeal.τ).loc Cert.RefDwFfnOutIdeal.main_arg1) = m ((c.tc : Thread Cert.DwFfnOutIdeal.nD Cert.DwFfnOutIdeal.τ).loc Cert.DwFfnOutIdeal.main_arg1)) →
    ∃ (v0 : (c : Dev Cert.DwFfnOutIdeal.nD) → Buf (Elt Ideal) ((c.tc : Thread Cert.DwFfnOutIdeal.nD Cert.DwFfnOutIdeal.τ).loc Cert.DwFfnOutIdeal.main_v1)),
      θ_run (Cert.DwFfnOutIdeal.defs (F := Ideal)) (onTc (τ := Cert.DwFfnOutIdeal.τ) (Cert.DwFfnOutIdeal.main (F := Ideal))) ⟨m, fun _ => 0, g⟩ (fun r => ∀ c : Dev Cert.DwFfnOutIdeal.nD,
          r.2.mem ((c.tc : Thread Cert.DwFfnOutIdeal.nD Cert.DwFfnOutIdeal.τ).loc Cert.DwFfnOutIdeal.main_v1) = v0 c
          ∧ r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
          ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ θ_run (Cert.RefDwFfnOutIdeal.defs (F := Ideal)) (onTc (τ := Cert.RefDwFfnOutIdeal.τ) (Cert.RefDwFfnOutIdeal.main (F := Ideal))) ⟨m', fun _ => 0, g'⟩ (fun r => ∀ c : Dev Cert.RefDwFfnOutIdeal.nD,
          r.2.mem ((c.tc : Thread Cert.RefDwFfnOutIdeal.nD Cert.RefDwFfnOutIdeal.τ).loc Cert.RefDwFfnOutIdeal.main_v7) = v0 c
          ∧ r.2.mem ((c.tc : Thread Cert.RefDwFfnOutIdeal.nD Cert.RefDwFfnOutIdeal.τ).loc Cert.RefDwFfnOutIdeal.main_arg0) = m' ((c.tc : Thread Cert.RefDwFfnOutIdeal.nD Cert.RefDwFfnOutIdeal.τ).loc Cert.RefDwFfnOutIdeal.main_arg0)
          ∧ r.2.mem ((c.tc : Thread Cert.RefDwFfnOutIdeal.nD Cert.RefDwFfnOutIdeal.τ).loc Cert.RefDwFfnOutIdeal.main_arg1) = m' ((c.tc : Thread Cert.RefDwFfnOutIdeal.nD Cert.RefDwFfnOutIdeal.τ).loc Cert.RefDwFfnOutIdeal.main_arg1))

def preserves_FfnIn_FfnInIdeal : Prop :=
  True

def algebraic_FfnInIdeal_RefFfnInIdeal [hFfnInIdeal : Cert.FfnInIdeal.Facts] [hRefFfnInIdeal : Cert.RefFfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.RefFfnInIdeal.nD Cert.RefFfnInIdeal.τ Cert.RefFfnInIdeal.sig) → Buf (Elt Ideal) ℓ) (g' : Dev Cert.RefFfnInIdeal.nD → PrngReg), Pre_FfnInIdeal m →
    (∀ c : Dev Cert.FfnInIdeal.nD,
      m' ((c.tc : Thread Cert.RefFfnInIdeal.nD Cert.RefFfnInIdeal.τ).loc Cert.RefFfnInIdeal.main_arg0) = m ((c.tc : Thread Cert.FfnInIdeal.nD Cert.FfnInIdeal.τ).loc Cert.FfnInIdeal.main_arg0)
      ∧ m' ((c.tc : Thread Cert.RefFfnInIdeal.nD Cert.RefFfnInIdeal.τ).loc Cert.RefFfnInIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v2_0)) (v1 : (c : Dev Cert.FfnInIdeal.nD) → Buf (Elt Ideal) ((c.tc : Thread Cert.FfnInIdeal.nD Cert.FfnInIdeal.τ).loc Cert.FfnInIdeal.main_v2_1)) (v2 : (c : Dev Cert.FfnInIdeal.nD) → Buf (Elt Ideal) ((c.tc : Thread Cert.FfnInIdeal.nD Cert.FfnInIdeal.τ).loc Cert.FfnInIdeal.main_v2_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2_0) = v0 c
          ∧ r.2.mem ((c.tc : Thread Cert.FfnInIdeal.nD Cert.FfnInIdeal.τ).loc Cert.FfnInIdeal.main_v2_1) = v1 c
          ∧ r.2.mem ((c.tc : Thread Cert.FfnInIdeal.nD Cert.FfnInIdeal.τ).loc Cert.FfnInIdeal.main_v2_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.RefFfnInIdeal.defs (F := Ideal)) (onTc (τ := Cert.RefFfnInIdeal.τ) (Cert.RefFfnInIdeal.main (F := Ideal))) ⟨m', fun _ => 0, g'⟩ (fun r => ∀ c : Dev Cert.RefFfnInIdeal.nD,
          r.2.mem ((c.tc : Thread Cert.RefFfnInIdeal.nD Cert.RefFfnInIdeal.τ).loc Cert.RefFfnInIdeal.main_v10) = v0 c
          ∧ r.2.mem ((c.tc : Thread Cert.RefFfnInIdeal.nD Cert.RefFfnInIdeal.τ).loc Cert.RefFfnInIdeal.main_v11) = v1 c
          ∧ r.2.mem ((c.tc : Thread Cert.RefFfnInIdeal.nD Cert.RefFfnInIdeal.τ).loc Cert.RefFfnInIdeal.main_v13) = v2 c
          ∧ r.2.mem ((c.tc : Thread Cert.RefFfnInIdeal.nD Cert.RefFfnInIdeal.τ).loc Cert.RefFfnInIdeal.main_arg0) = m' ((c.tc : Thread Cert.RefFfnInIdeal.nD Cert.RefFfnInIdeal.τ).loc Cert.RefFfnInIdeal.main_arg0)
          ∧ r.2.mem ((c.tc : Thread Cert.RefFfnInIdeal.nD Cert.RefFfnInIdeal.τ).loc Cert.RefFfnInIdeal.main_arg1) = m' ((c.tc : Thread Cert.RefFfnInIdeal.nD Cert.RefFfnInIdeal.τ).loc Cert.RefFfnInIdeal.main_arg1))

def preserves_ProjP_ProjPIdeal : Prop :=
  True

def algebraic_ProjPIdeal_RefProjPIdeal [hProjPIdeal : Cert.ProjPIdeal.Facts] [hRefProjPIdeal : Cert.RefProjPIdeal.Facts] : Prop :=
  ∀ (m : (ℓ : Loc Cert.ProjPIdeal.nD Cert.ProjPIdeal.τ Cert.ProjPIdeal.sig) → Buf (Elt Ideal) ℓ) (g : Dev Cert.ProjPIdeal.nD → PrngReg)
    (m' : (ℓ : Loc Cert.RefProjPIdeal.nD Cert.RefProjPIdeal.τ Cert.RefProjPIdeal.sig) → Buf (Elt Ideal) ℓ) (g' : Dev Cert.RefProjPIdeal.nD → PrngReg), Pre_ProjPIdeal m →
    (∀ c : Dev Cert.ProjPIdeal.nD,
      m' ((c.tc : Thread Cert.RefProjPIdeal.nD Cert.RefProjPIdeal.τ).loc Cert.RefProjPIdeal.main_arg0) = m ((c.tc : Thread Cert.ProjPIdeal.nD Cert.ProjPIdeal.τ).loc Cert.ProjPIdeal.main_arg0)
      ∧ m' ((c.tc : Thread Cert.RefProjPIdeal.nD Cert.RefProjPIdeal.τ).loc Cert.RefProjPIdeal.main_arg1) = m ((c.tc : Thread Cert.ProjPIdeal.nD Cert.ProjPIdeal.τ).loc Cert.ProjPIdeal.main_arg1)) →
    ∃ (v0 : (c : Dev Cert.ProjPIdeal.nD) → Buf (Elt Ideal) ((c.tc : Thread Cert.ProjPIdeal.nD Cert.ProjPIdeal.τ).loc Cert.ProjPIdeal.main_v2)),
      θ_run (Cert.ProjPIdeal.defs (F := Ideal)) (onTc (τ := Cert.ProjPIdeal.τ) (Cert.ProjPIdeal.main (F := Ideal))) ⟨m, fun _ => 0, g⟩ (fun r => ∀ c : Dev Cert.ProjPIdeal.nD,
          r.2.mem ((c.tc : Thread Cert.ProjPIdeal.nD Cert.ProjPIdeal.τ).loc Cert.ProjPIdeal.main_v2) = v0 c
          ∧ r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
          ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1))
      ∧ θ_run (Cert.RefProjPIdeal.defs (F := Ideal)) (onTc (τ := Cert.RefProjPIdeal.τ) (Cert.RefProjPIdeal.main (F := Ideal))) ⟨m', fun _ => 0, g'⟩ (fun r => ∀ c : Dev Cert.RefProjPIdeal.nD,
          r.2.mem ((c.tc : Thread Cert.RefProjPIdeal.nD Cert.RefProjPIdeal.τ).loc Cert.RefProjPIdeal.main_v3) = v0 c
          ∧ r.2.mem ((c.tc : Thread Cert.RefProjPIdeal.nD Cert.RefProjPIdeal.τ).loc Cert.RefProjPIdeal.main_arg0) = m' ((c.tc : Thread Cert.RefProjPIdeal.nD Cert.RefProjPIdeal.τ).loc Cert.RefProjPIdeal.main_arg0)
          ∧ r.2.mem ((c.tc : Thread Cert.RefProjPIdeal.nD Cert.RefProjPIdeal.τ).loc Cert.RefProjPIdeal.main_arg1) = m' ((c.tc : Thread Cert.RefProjPIdeal.nD Cert.RefProjPIdeal.τ).loc Cert.RefProjPIdeal.main_arg1))

def preserves_ProjOut_ProjOutIdeal : Prop :=
  True

def algebraic_ProjOutIdeal_RefProjOutIdeal [hProjOutIdeal : Cert.ProjOutIdeal.Facts] [hRefProjOutIdeal : Cert.RefProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.RefProjOutIdeal.nD Cert.RefProjOutIdeal.τ Cert.RefProjOutIdeal.sig) → Buf (Elt Ideal) ℓ) (g' : Dev Cert.RefProjOutIdeal.nD → PrngReg), Pre_ProjOutIdeal m →
    (∀ c : Dev Cert.ProjOutIdeal.nD,
      m' ((c.tc : Thread Cert.RefProjOutIdeal.nD Cert.RefProjOutIdeal.τ).loc Cert.RefProjOutIdeal.main_arg0) = m ((c.tc : Thread Cert.ProjOutIdeal.nD Cert.ProjOutIdeal.τ).loc Cert.ProjOutIdeal.main_arg0)
      ∧ m' ((c.tc : Thread Cert.RefProjOutIdeal.nD Cert.RefProjOutIdeal.τ).loc Cert.RefProjOutIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v1) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.RefProjOutIdeal.defs (F := Ideal)) (onTc (τ := Cert.RefProjOutIdeal.τ) (Cert.RefProjOutIdeal.main (F := Ideal))) ⟨m', fun _ => 0, g'⟩ (fun r => ∀ c : Dev Cert.RefProjOutIdeal.nD,
          r.2.mem ((c.tc : Thread Cert.RefProjOutIdeal.nD Cert.RefProjOutIdeal.τ).loc Cert.RefProjOutIdeal.main_v2) = v0 c
          ∧ r.2.mem ((c.tc : Thread Cert.RefProjOutIdeal.nD Cert.RefProjOutIdeal.τ).loc Cert.RefProjOutIdeal.main_arg0) = m' ((c.tc : Thread Cert.RefProjOutIdeal.nD Cert.RefProjOutIdeal.τ).loc Cert.RefProjOutIdeal.main_arg0)
          ∧ r.2.mem ((c.tc : Thread Cert.RefProjOutIdeal.nD Cert.RefProjOutIdeal.τ).loc Cert.RefProjOutIdeal.main_arg1) = m' ((c.tc : Thread Cert.RefProjOutIdeal.nD Cert.RefProjOutIdeal.τ).loc Cert.RefProjOutIdeal.main_arg1))

def preserves_DwOut_DwOutIdeal : Prop :=
  True

def algebraic_DwOutIdeal_RefDwOutIdeal [hDwOutIdeal : Cert.DwOutIdeal.Facts] [hRefDwOutIdeal : Cert.RefDwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefDwOutIdeal.nD Cert.RefDwOutIdeal.τ Cert.RefDwOutIdeal.sig) → Buf (Elt Ideal) ℓ) (g' : Dev Cert.RefDwOutIdeal.nD → PrngReg), Pre_DwOutIdeal m →
    (∀ c : Dev Cert.DwOutIdeal.nD,
      m' ((c.tc : Thread Cert.RefDwOutIdeal.nD Cert.RefDwOutIdeal.τ).loc Cert.RefDwOutIdeal.main_arg0) = m ((c.tc : Thread Cert.DwOutIdeal.nD Cert.DwOutIdeal.τ).loc Cert.DwOutIdeal.main_arg0)
      ∧ m' ((c.tc : Thread Cert.RefDwOutIdeal.nD Cert.RefDwOutIdeal.τ).loc Cert.RefDwOutIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v1) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.RefDwOutIdeal.defs (F := Ideal)) (onTc (τ := Cert.RefDwOutIdeal.τ) (Cert.RefDwOutIdeal.main (F := Ideal))) ⟨m', fun _ => 0, g'⟩ (fun r => ∀ c : Dev Cert.RefDwOutIdeal.nD,
          r.2.mem ((c.tc : Thread Cert.RefDwOutIdeal.nD Cert.RefDwOutIdeal.τ).loc Cert.RefDwOutIdeal.main_v6) = v0 c
          ∧ r.2.mem ((c.tc : Thread Cert.RefDwOutIdeal.nD Cert.RefDwOutIdeal.τ).loc Cert.RefDwOutIdeal.main_arg0) = m' ((c.tc : Thread Cert.RefDwOutIdeal.nD Cert.RefDwOutIdeal.τ).loc Cert.RefDwOutIdeal.main_arg0)
          ∧ r.2.mem ((c.tc : Thread Cert.RefDwOutIdeal.nD Cert.RefDwOutIdeal.τ).loc Cert.RefDwOutIdeal.main_arg1) = m' ((c.tc : Thread Cert.RefDwOutIdeal.nD Cert.RefDwOutIdeal.τ).loc Cert.RefDwOutIdeal.main_arg1))

def preserves_DOna_DOnaIdeal : Prop :=
  True

def algebraic_DOnaIdeal_RefDOnaIdeal [hDOnaIdeal : Cert.DOnaIdeal.Facts] [hRefDOnaIdeal : Cert.RefDOnaIdeal.Facts] : Prop :=
  ∀ (m : (ℓ : Loc Cert.DOnaIdeal.nD Cert.DOnaIdeal.τ Cert.DOnaIdeal.sig) → Buf (Elt Ideal) ℓ) (g : Dev Cert.DOnaIdeal.nD → PrngReg)
    (m' : (ℓ : Loc Cert.RefDOnaIdeal.nD Cert.RefDOnaIdeal.τ Cert.RefDOnaIdeal.sig) → Buf (Elt Ideal) ℓ) (g' : Dev Cert.RefDOnaIdeal.nD → PrngReg), Pre_DOnaIdeal m →
    (∀ c : Dev Cert.DOnaIdeal.nD,
      m' ((c.tc : Thread Cert.RefDOnaIdeal.nD Cert.RefDOnaIdeal.τ).loc Cert.RefDOnaIdeal.main_arg0) = m ((c.tc : Thread Cert.DOnaIdeal.nD Cert.DOnaIdeal.τ).loc Cert.DOnaIdeal.main_arg0)
      ∧ m' ((c.tc : Thread Cert.RefDOnaIdeal.nD Cert.RefDOnaIdeal.τ).loc Cert.RefDOnaIdeal.main_arg1) = m ((c.tc : Thread Cert.DOnaIdeal.nD Cert.DOnaIdeal.τ).loc Cert.DOnaIdeal.main_arg1)) →
    ∃ (v0 : (c : Dev Cert.DOnaIdeal.nD) → Buf (Elt Ideal) ((c.tc : Thread Cert.DOnaIdeal.nD Cert.DOnaIdeal.τ).loc Cert.DOnaIdeal.main_v3)),
      θ_run (Cert.DOnaIdeal.defs (F := Ideal)) (onTc (τ := Cert.DOnaIdeal.τ) (Cert.DOnaIdeal.main (F := Ideal))) ⟨m, fun _ => 0, g⟩ (fun r => ∀ c : Dev Cert.DOnaIdeal.nD,
          r.2.mem ((c.tc : Thread Cert.DOnaIdeal.nD Cert.DOnaIdeal.τ).loc Cert.DOnaIdeal.main_v3) = v0 c
          ∧ r.2.mem ((c.tc : Thread Cert.DOnaIdeal.nD Cert.DOnaIdeal.τ).loc Cert.DOnaIdeal.main_arg0) = m ((c.tc : Thread Cert.DOnaIdeal.nD Cert.DOnaIdeal.τ).loc Cert.DOnaIdeal.main_arg0)
          ∧ r.2.mem ((c.tc : Thread Cert.DOnaIdeal.nD Cert.DOnaIdeal.τ).loc Cert.DOnaIdeal.main_arg1) = m ((c.tc : Thread Cert.DOnaIdeal.nD Cert.DOnaIdeal.τ).loc Cert.DOnaIdeal.main_arg1))
      ∧ θ_run (Cert.RefDOnaIdeal.defs (F := Ideal)) (onTc (τ := Cert.RefDOnaIdeal.τ) (Cert.RefDOnaIdeal.main (F := Ideal))) ⟨m', fun _ => 0, g'⟩ (fun r => ∀ c : Dev Cert.RefDOnaIdeal.nD,
          r.2.mem ((c.tc : Thread Cert.RefDOnaIdeal.nD Cert.RefDOnaIdeal.τ).loc Cert.RefDOnaIdeal.main_v5) = v0 c
          ∧ r.2.mem ((c.tc : Thread Cert.RefDOnaIdeal.nD Cert.RefDOnaIdeal.τ).loc Cert.RefDOnaIdeal.main_arg0) = m' ((c.tc : Thread Cert.RefDOnaIdeal.nD Cert.RefDOnaIdeal.τ).loc Cert.RefDOnaIdeal.main_arg0)
          ∧ r.2.mem ((c.tc : Thread Cert.RefDOnaIdeal.nD Cert.RefDOnaIdeal.τ).loc Cert.RefDOnaIdeal.main_arg1) = m' ((c.tc : Thread Cert.RefDOnaIdeal.nD Cert.RefDOnaIdeal.τ).loc Cert.RefDOnaIdeal.main_arg1))

def preserves_DOb_DObIdeal : Prop :=
  True

def algebraic_DObIdeal_RefDObIdeal [hDObIdeal : Cert.DObIdeal.Facts] [hRefDObIdeal : Cert.RefDObIdeal.Facts] : Prop :=
  ∀ (m : (ℓ : Loc Cert.DObIdeal.nD Cert.DObIdeal.τ Cert.DObIdeal.sig) → Buf (Elt Ideal) ℓ) (g : Dev Cert.DObIdeal.nD → PrngReg)
    (m' : (ℓ : Loc Cert.RefDObIdeal.nD Cert.RefDObIdeal.τ Cert.RefDObIdeal.sig) → Buf (Elt Ideal) ℓ) (g' : Dev Cert.RefDObIdeal.nD → PrngReg), Pre_DObIdeal m →
    (∀ c : Dev Cert.DObIdeal.nD,
      m' ((c.tc : Thread Cert.RefDObIdeal.nD Cert.RefDObIdeal.τ).loc Cert.RefDObIdeal.main_arg0) = m ((c.tc : Thread Cert.DObIdeal.nD Cert.DObIdeal.τ).loc Cert.DObIdeal.main_arg0)
      ∧ m' ((c.tc : Thread Cert.RefDObIdeal.nD Cert.RefDObIdeal.τ).loc Cert.RefDObIdeal.main_arg1) = m ((c.tc : Thread Cert.DObIdeal.nD Cert.DObIdeal.τ).loc Cert.DObIdeal.main_arg1)) →
    ∃ (v0 : (c : Dev Cert.DObIdeal.nD) → Buf (Elt Ideal) ((c.tc : Thread Cert.DObIdeal.nD Cert.DObIdeal.τ).loc Cert.DObIdeal.main_v3)),
      θ_run (Cert.DObIdeal.defs (F := Ideal)) (onTc (τ := Cert.DObIdeal.τ) (Cert.DObIdeal.main (F := Ideal))) ⟨m, fun _ => 0, g⟩ (fun r => ∀ c : Dev Cert.DObIdeal.nD,
          r.2.mem ((c.tc : Thread Cert.DObIdeal.nD Cert.DObIdeal.τ).loc Cert.DObIdeal.main_v3) = v0 c
          ∧ r.2.mem ((c.tc : Thread Cert.DObIdeal.nD Cert.DObIdeal.τ).loc Cert.DObIdeal.main_arg0) = m ((c.tc : Thread Cert.DObIdeal.nD Cert.DObIdeal.τ).loc Cert.DObIdeal.main_arg0)
          ∧ r.2.mem ((c.tc : Thread Cert.DObIdeal.nD Cert.DObIdeal.τ).loc Cert.DObIdeal.main_arg1) = m ((c.tc : Thread Cert.DObIdeal.nD Cert.DObIdeal.τ).loc Cert.DObIdeal.main_arg1))
      ∧ θ_run (Cert.RefDObIdeal.defs (F := Ideal)) (onTc (τ := Cert.RefDObIdeal.τ) (Cert.RefDObIdeal.main (F := Ideal))) ⟨m', fun _ => 0, g'⟩ (fun r => ∀ c : Dev Cert.RefDObIdeal.nD,
          r.2.mem ((c.tc : Thread Cert.RefDObIdeal.nD Cert.RefDObIdeal.τ).loc Cert.RefDObIdeal.main_v4) = v0 c
          ∧ r.2.mem ((c.tc : Thread Cert.RefDObIdeal.nD Cert.RefDObIdeal.τ).loc Cert.RefDObIdeal.main_arg0) = m' ((c.tc : Thread Cert.RefDObIdeal.nD Cert.RefDObIdeal.τ).loc Cert.RefDObIdeal.main_arg0)
          ∧ r.2.mem ((c.tc : Thread Cert.RefDObIdeal.nD Cert.RefDObIdeal.τ).loc Cert.RefDObIdeal.main_arg1) = m' ((c.tc : Thread Cert.RefDObIdeal.nD Cert.RefDObIdeal.τ).loc Cert.RefDObIdeal.main_arg1))

def preserves_DwP_DwPIdeal : Prop :=
  True

def algebraic_DwPIdeal_RefDwPIdeal [hDwPIdeal : Cert.DwPIdeal.Facts] [hRefDwPIdeal : Cert.RefDwPIdeal.Facts] : Prop :=
  ∀ (m : (ℓ : Loc Cert.DwPIdeal.nD Cert.DwPIdeal.τ Cert.DwPIdeal.sig) → Buf (Elt Ideal) ℓ) (g : Dev Cert.DwPIdeal.nD → PrngReg)
    (m' : (ℓ : Loc Cert.RefDwPIdeal.nD Cert.RefDwPIdeal.τ Cert.RefDwPIdeal.sig) → Buf (Elt Ideal) ℓ) (g' : Dev Cert.RefDwPIdeal.nD → PrngReg), Pre_DwPIdeal m →
    (∀ c : Dev Cert.DwPIdeal.nD,
      m' ((c.tc : Thread Cert.RefDwPIdeal.nD Cert.RefDwPIdeal.τ).loc Cert.RefDwPIdeal.main_arg0) = m ((c.tc : Thread Cert.DwPIdeal.nD Cert.DwPIdeal.τ).loc Cert.DwPIdeal.main_arg0)
      ∧ m' ((c.tc : Thread Cert.RefDwPIdeal.nD Cert.RefDwPIdeal.τ).loc Cert.RefDwPIdeal.main_arg1) = m ((c.tc : Thread Cert.DwPIdeal.nD Cert.DwPIdeal.τ).loc Cert.DwPIdeal.main_arg1)) →
    ∃ (v0 : (c : Dev Cert.DwPIdeal.nD) → Buf (Elt Ideal) ((c.tc : Thread Cert.DwPIdeal.nD Cert.DwPIdeal.τ).loc Cert.DwPIdeal.main_v1)),
      θ_run (Cert.DwPIdeal.defs (F := Ideal)) (onTc (τ := Cert.DwPIdeal.τ) (Cert.DwPIdeal.main (F := Ideal))) ⟨m, fun _ => 0, g⟩ (fun r => ∀ c : Dev Cert.DwPIdeal.nD,
          r.2.mem ((c.tc : Thread Cert.DwPIdeal.nD Cert.DwPIdeal.τ).loc Cert.DwPIdeal.main_v1) = v0 c
          ∧ r.2.mem ((c.tc : Thread Cert.DwPIdeal.nD Cert.DwPIdeal.τ).loc Cert.DwPIdeal.main_arg0) = m ((c.tc : Thread Cert.DwPIdeal.nD Cert.DwPIdeal.τ).loc Cert.DwPIdeal.main_arg0)
          ∧ r.2.mem ((c.tc : Thread Cert.DwPIdeal.nD Cert.DwPIdeal.τ).loc Cert.DwPIdeal.main_arg1) = m ((c.tc : Thread Cert.DwPIdeal.nD Cert.DwPIdeal.τ).loc Cert.DwPIdeal.main_arg1))
      ∧ θ_run (Cert.RefDwPIdeal.defs (F := Ideal)) (onTc (τ := Cert.RefDwPIdeal.τ) (Cert.RefDwPIdeal.main (F := Ideal))) ⟨m', fun _ => 0, g'⟩ (fun r => ∀ c : Dev Cert.RefDwPIdeal.nD,
          r.2.mem ((c.tc : Thread Cert.RefDwPIdeal.nD Cert.RefDwPIdeal.τ).loc Cert.RefDwPIdeal.main_v7) = v0 c
          ∧ r.2.mem ((c.tc : Thread Cert.RefDwPIdeal.nD Cert.RefDwPIdeal.τ).loc Cert.RefDwPIdeal.main_arg0) = m' ((c.tc : Thread Cert.RefDwPIdeal.nD Cert.RefDwPIdeal.τ).loc Cert.RefDwPIdeal.main_arg0)
          ∧ r.2.mem ((c.tc : Thread Cert.RefDwPIdeal.nD Cert.RefDwPIdeal.τ).loc Cert.RefDwPIdeal.main_arg1) = m' ((c.tc : Thread Cert.RefDwPIdeal.nD Cert.RefDwPIdeal.τ).loc Cert.RefDwPIdeal.main_arg1))

def preserves_DSw_DSwIdeal : Prop :=
  True

def algebraic_DSwIdeal_RefDSwIdeal_pre_factors_finite [hDSwIdeal : Cert.DSwIdeal.Facts] [hRefDSwIdeal : Cert.RefDSwIdeal.Facts] [hPre_factors_finite : Cert.Pre_factors_finite.Facts] : Prop :=
  ∀ (m : (ℓ : Loc Cert.DSwIdeal.nD Cert.DSwIdeal.τ Cert.DSwIdeal.sig) → Buf (Elt Ideal) ℓ) (g : Dev Cert.DSwIdeal.nD → PrngReg)
    (m' : (ℓ : Loc Cert.RefDSwIdeal.nD Cert.RefDSwIdeal.τ Cert.RefDSwIdeal.sig) → Buf (Elt Ideal) ℓ) (g' : Dev Cert.RefDSwIdeal.nD → PrngReg), Pre_DSwIdeal_factors_finite m →
    (∀ c : Dev Cert.DSwIdeal.nD,
      m' ((c.tc : Thread Cert.RefDSwIdeal.nD Cert.RefDSwIdeal.τ).loc Cert.RefDSwIdeal.main_arg0) = m ((c.tc : Thread Cert.DSwIdeal.nD Cert.DSwIdeal.τ).loc Cert.DSwIdeal.main_arg0)
      ∧ m' ((c.tc : Thread Cert.RefDSwIdeal.nD Cert.RefDSwIdeal.τ).loc Cert.RefDSwIdeal.main_arg1) = m ((c.tc : Thread Cert.DSwIdeal.nD Cert.DSwIdeal.τ).loc Cert.DSwIdeal.main_arg1)
      ∧ m' ((c.tc : Thread Cert.RefDSwIdeal.nD Cert.RefDSwIdeal.τ).loc Cert.RefDSwIdeal.main_arg2) = m ((c.tc : Thread Cert.DSwIdeal.nD Cert.DSwIdeal.τ).loc Cert.DSwIdeal.main_arg2)) →
    ∃ (v0 : (c : Dev Cert.DSwIdeal.nD) → Buf (Elt Ideal) ((c.tc : Thread Cert.DSwIdeal.nD Cert.DSwIdeal.τ).loc Cert.DSwIdeal.main_v2)),
      θ_run (Cert.DSwIdeal.defs (F := Ideal)) (onTc (τ := Cert.DSwIdeal.τ) (Cert.DSwIdeal.main (F := Ideal))) ⟨m, fun _ => 0, g⟩ (fun r => ∀ c : Dev Cert.DSwIdeal.nD,
          r.2.mem ((c.tc : Thread Cert.DSwIdeal.nD Cert.DSwIdeal.τ).loc Cert.DSwIdeal.main_v2) = v0 c
          ∧ r.2.mem ((c.tc : Thread Cert.DSwIdeal.nD Cert.DSwIdeal.τ).loc Cert.DSwIdeal.main_arg0) = m ((c.tc : Thread Cert.DSwIdeal.nD Cert.DSwIdeal.τ).loc Cert.DSwIdeal.main_arg0)
          ∧ r.2.mem ((c.tc : Thread Cert.DSwIdeal.nD Cert.DSwIdeal.τ).loc Cert.DSwIdeal.main_arg1) = m ((c.tc : Thread Cert.DSwIdeal.nD Cert.DSwIdeal.τ).loc Cert.DSwIdeal.main_arg1)
          ∧ r.2.mem ((c.tc : Thread Cert.DSwIdeal.nD Cert.DSwIdeal.τ).loc Cert.DSwIdeal.main_arg2) = m ((c.tc : Thread Cert.DSwIdeal.nD Cert.DSwIdeal.τ).loc Cert.DSwIdeal.main_arg2))
      ∧ θ_run (Cert.RefDSwIdeal.defs (F := Ideal)) (onTc (τ := Cert.RefDSwIdeal.τ) (Cert.RefDSwIdeal.main (F := Ideal))) ⟨m', fun _ => 0, g'⟩ (fun r => ∀ c : Dev Cert.RefDSwIdeal.nD,
          r.2.mem ((c.tc : Thread Cert.RefDSwIdeal.nD Cert.RefDSwIdeal.τ).loc Cert.RefDSwIdeal.main_v17) = v0 c
          ∧ r.2.mem ((c.tc : Thread Cert.RefDSwIdeal.nD Cert.RefDSwIdeal.τ).loc Cert.RefDSwIdeal.main_arg0) = m' ((c.tc : Thread Cert.RefDSwIdeal.nD Cert.RefDSwIdeal.τ).loc Cert.RefDSwIdeal.main_arg0)
          ∧ r.2.mem ((c.tc : Thread Cert.RefDSwIdeal.nD Cert.RefDSwIdeal.τ).loc Cert.RefDSwIdeal.main_arg1) = m' ((c.tc : Thread Cert.RefDSwIdeal.nD Cert.RefDSwIdeal.τ).loc Cert.RefDSwIdeal.main_arg1)
          ∧ r.2.mem ((c.tc : Thread Cert.RefDSwIdeal.nD Cert.RefDSwIdeal.τ).loc Cert.RefDSwIdeal.main_arg2) = m' ((c.tc : Thread Cert.RefDSwIdeal.nD Cert.RefDSwIdeal.τ).loc Cert.RefDSwIdeal.main_arg2))

def preserves_DY_DYIdeal : Prop :=
  True

def algebraic_DYIdeal_RefDYIdeal [hDYIdeal : Cert.DYIdeal.Facts] [hRefDYIdeal : Cert.RefDYIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.RefDYIdeal.nD Cert.RefDYIdeal.τ Cert.RefDYIdeal.sig) → Buf (Elt Ideal) ℓ) (g' : Dev Cert.RefDYIdeal.nD → PrngReg), Pre_DYIdeal m →
    (∀ c : Dev Cert.DYIdeal.nD,
      m' ((c.tc : Thread Cert.RefDYIdeal.nD Cert.RefDYIdeal.τ).loc Cert.RefDYIdeal.main_arg0) = m ((c.tc : Thread Cert.DYIdeal.nD Cert.DYIdeal.τ).loc Cert.DYIdeal.main_arg0)
      ∧ m' ((c.tc : Thread Cert.RefDYIdeal.nD Cert.RefDYIdeal.τ).loc Cert.RefDYIdeal.main_arg1) = m ((c.tc : Thread Cert.DYIdeal.nD Cert.DYIdeal.τ).loc Cert.DYIdeal.main_arg1)
      ∧ m' ((c.tc : Thread Cert.RefDYIdeal.nD Cert.RefDYIdeal.τ).loc Cert.RefDYIdeal.main_arg2) = m ((c.tc : Thread Cert.DYIdeal.nD Cert.DYIdeal.τ).loc Cert.DYIdeal.main_arg2)
      ∧ m' ((c.tc : Thread Cert.RefDYIdeal.nD Cert.RefDYIdeal.τ).loc Cert.RefDYIdeal.main_arg3) = m ((c.tc : Thread Cert.DYIdeal.nD Cert.DYIdeal.τ).loc Cert.DYIdeal.main_arg3)
      ∧ m' ((c.tc : Thread Cert.RefDYIdeal.nD Cert.RefDYIdeal.τ).loc Cert.RefDYIdeal.main_arg4) = m ((c.tc : Thread Cert.DYIdeal.nD Cert.DYIdeal.τ).loc Cert.DYIdeal.main_arg4)) →
    ∃ (v0 : (c : Dev Cert.DYIdeal.nD) → Buf (Elt Ideal) ((c.tc : Thread Cert.DYIdeal.nD Cert.DYIdeal.τ).loc Cert.DYIdeal.main_v2_0)) (v1 : (c : Dev Cert.DYIdeal.nD) → Buf (Elt Ideal) ((c.tc : Thread Cert.DYIdeal.nD Cert.DYIdeal.τ).loc Cert.DYIdeal.main_v2_1)) (v2 : (c : Dev Cert.DYIdeal.nD) → Buf (Elt Ideal) ((c.tc : Thread Cert.DYIdeal.nD Cert.DYIdeal.τ).loc Cert.DYIdeal.main_v2_2)) (v3 : (c : Dev Cert.DYIdeal.nD) → Buf (Elt Ideal) ((c.tc : Thread Cert.DYIdeal.nD Cert.DYIdeal.τ).loc Cert.DYIdeal.main_v2_3)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v2_0) = v0 c
          ∧ r.2.mem ((c.tc : Thread Cert.DYIdeal.nD Cert.DYIdeal.τ).loc Cert.DYIdeal.main_v2_1) = v1 c
          ∧ r.2.mem ((c.tc : Thread Cert.DYIdeal.nD Cert.DYIdeal.τ).loc Cert.DYIdeal.main_v2_2) = v2 c
          ∧ r.2.mem ((c.tc : Thread Cert.DYIdeal.nD Cert.DYIdeal.τ).loc Cert.DYIdeal.main_v2_3) = v3 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1)
          ∧ r.2.mem ((c.tc : Thread Cert.DYIdeal.nD Cert.DYIdeal.τ).loc Cert.DYIdeal.main_arg2) = m ((c.tc : Thread Cert.DYIdeal.nD Cert.DYIdeal.τ).loc Cert.DYIdeal.main_arg2)
          ∧ r.2.mem ((c.tc : Thread Cert.DYIdeal.nD Cert.DYIdeal.τ).loc Cert.DYIdeal.main_arg3) = m ((c.tc : Thread Cert.DYIdeal.nD Cert.DYIdeal.τ).loc Cert.DYIdeal.main_arg3)
          ∧ r.2.mem ((c.tc : Thread Cert.DYIdeal.nD Cert.DYIdeal.τ).loc Cert.DYIdeal.main_arg4) = m ((c.tc : Thread Cert.DYIdeal.nD Cert.DYIdeal.τ).loc Cert.DYIdeal.main_arg4))
      ∧ θ_run (Cert.RefDYIdeal.defs (F := Ideal)) (onTc (τ := Cert.RefDYIdeal.τ) (Cert.RefDYIdeal.main (F := Ideal))) ⟨m', fun _ => 0, g'⟩ (fun r => ∀ c : Dev Cert.RefDYIdeal.nD,
          r.2.mem ((c.tc : Thread Cert.RefDYIdeal.nD Cert.RefDYIdeal.τ).loc Cert.RefDYIdeal.main_v35) = v0 c
          ∧ r.2.mem ((c.tc : Thread Cert.RefDYIdeal.nD Cert.RefDYIdeal.τ).loc Cert.RefDYIdeal.main_v36) = v1 c
          ∧ r.2.mem ((c.tc : Thread Cert.RefDYIdeal.nD Cert.RefDYIdeal.τ).loc Cert.RefDYIdeal.main_v37) = v2 c
          ∧ r.2.mem ((c.tc : Thread Cert.RefDYIdeal.nD Cert.RefDYIdeal.τ).loc Cert.RefDYIdeal.main_v38) = v3 c
          ∧ r.2.mem ((c.tc : Thread Cert.RefDYIdeal.nD Cert.RefDYIdeal.τ).loc Cert.RefDYIdeal.main_arg0) = m' ((c.tc : Thread Cert.RefDYIdeal.nD Cert.RefDYIdeal.τ).loc Cert.RefDYIdeal.main_arg0)
          ∧ r.2.mem ((c.tc : Thread Cert.RefDYIdeal.nD Cert.RefDYIdeal.τ).loc Cert.RefDYIdeal.main_arg1) = m' ((c.tc : Thread Cert.RefDYIdeal.nD Cert.RefDYIdeal.τ).loc Cert.RefDYIdeal.main_arg1)
          ∧ r.2.mem ((c.tc : Thread Cert.RefDYIdeal.nD Cert.RefDYIdeal.τ).loc Cert.RefDYIdeal.main_arg2) = m' ((c.tc : Thread Cert.RefDYIdeal.nD Cert.RefDYIdeal.τ).loc Cert.RefDYIdeal.main_arg2)
          ∧ r.2.mem ((c.tc : Thread Cert.RefDYIdeal.nD Cert.RefDYIdeal.τ).loc Cert.RefDYIdeal.main_arg3) = m' ((c.tc : Thread Cert.RefDYIdeal.nD Cert.RefDYIdeal.τ).loc Cert.RefDYIdeal.main_arg3)
          ∧ r.2.mem ((c.tc : Thread Cert.RefDYIdeal.nD Cert.RefDYIdeal.τ).loc Cert.RefDYIdeal.main_arg4) = m' ((c.tc : Thread Cert.RefDYIdeal.nD Cert.RefDYIdeal.τ).loc Cert.RefDYIdeal.main_arg4))

def preserves_AdIn_AdInIdeal : Prop :=
  IdealRules.named_const.Statement Cert.AdInIdeal.κ "c1" .f32 0x3FC48605#32 (((5463681 / 8388608)⁻¹ : ℝ) : EReal)
  ∧ IdealRules.named_const.Statement Cert.AdInIdeal.κ "c2" .f32 0x42C8E6D3#32 (((2672307 / 268435456)⁻¹ : ℝ) : EReal)

def algebraic_AdInIdeal_RefAdInIdeal [hAdInIdeal : Cert.AdInIdeal.Facts] [hRefAdInIdeal : Cert.RefAdInIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.RefAdInIdeal.nD Cert.RefAdInIdeal.τ Cert.RefAdInIdeal.sig) → Buf (Elt Ideal) ℓ) (g' : Dev Cert.RefAdInIdeal.nD → PrngReg), Pre_AdInIdeal m →
    (∀ c : Dev Cert.AdInIdeal.nD,
      m' ((c.tc : Thread Cert.RefAdInIdeal.nD Cert.RefAdInIdeal.τ).loc Cert.RefAdInIdeal.main_arg0) = m ((c.tc : Thread Cert.AdInIdeal.nD Cert.AdInIdeal.τ).loc Cert.AdInIdeal.main_arg0)
      ∧ m' ((c.tc : Thread Cert.RefAdInIdeal.nD Cert.RefAdInIdeal.τ).loc Cert.RefAdInIdeal.main_arg1) = m ((c.tc : Thread Cert.AdInIdeal.nD Cert.AdInIdeal.τ).loc Cert.AdInIdeal.main_arg1)
      ∧ m' ((c.tc : Thread Cert.RefAdInIdeal.nD Cert.RefAdInIdeal.τ).loc Cert.RefAdInIdeal.main_arg2) = m ((c.tc : Thread Cert.AdInIdeal.nD Cert.AdInIdeal.τ).loc Cert.AdInIdeal.main_arg2)
      ∧ m' ((c.tc : Thread Cert.RefAdInIdeal.nD Cert.RefAdInIdeal.τ).loc Cert.RefAdInIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.RefAdInIdeal.defs (F := Ideal)) (onTc (τ := Cert.RefAdInIdeal.τ) (Cert.RefAdInIdeal.main (F := Ideal))) ⟨m', fun _ => 0, g'⟩ (fun r => ∀ c : Dev Cert.RefAdInIdeal.nD,
          r.2.mem ((c.tc : Thread Cert.RefAdInIdeal.nD Cert.RefAdInIdeal.τ).loc Cert.RefAdInIdeal.main_v23) = v0 c
          ∧ r.2.mem ((c.tc : Thread Cert.RefAdInIdeal.nD Cert.RefAdInIdeal.τ).loc Cert.RefAdInIdeal.main_v4) = v1 c
          ∧ r.2.mem ((c.tc : Thread Cert.RefAdInIdeal.nD Cert.RefAdInIdeal.τ).loc Cert.RefAdInIdeal.main_v10) = v2 c
          ∧ r.2.mem ((c.tc : Thread Cert.RefAdInIdeal.nD Cert.RefAdInIdeal.τ).loc Cert.RefAdInIdeal.main_arg0) = m' ((c.tc : Thread Cert.RefAdInIdeal.nD Cert.RefAdInIdeal.τ).loc Cert.RefAdInIdeal.main_arg0)
          ∧ r.2.mem ((c.tc : Thread Cert.RefAdInIdeal.nD Cert.RefAdInIdeal.τ).loc Cert.RefAdInIdeal.main_arg1) = m' ((c.tc : Thread Cert.RefAdInIdeal.nD Cert.RefAdInIdeal.τ).loc Cert.RefAdInIdeal.main_arg1)
          ∧ r.2.mem ((c.tc : Thread Cert.RefAdInIdeal.nD Cert.RefAdInIdeal.τ).loc Cert.RefAdInIdeal.main_arg2) = m' ((c.tc : Thread Cert.RefAdInIdeal.nD Cert.RefAdInIdeal.τ).loc Cert.RefAdInIdeal.main_arg2)
          ∧ r.2.mem ((c.tc : Thread Cert.RefAdInIdeal.nD Cert.RefAdInIdeal.τ).loc Cert.RefAdInIdeal.main_arg3) = m' ((c.tc : Thread Cert.RefAdInIdeal.nD Cert.RefAdInIdeal.τ).loc Cert.RefAdInIdeal.main_arg3))

def preserves_AdFi_AdFiIdeal : Prop :=
  IdealRules.named_const.Statement Cert.AdFiIdeal.κ "c1" .f32 0x3FC48605#32 (((5463681 / 8388608)⁻¹ : ℝ) : EReal)
  ∧ IdealRules.named_const.Statement Cert.AdFiIdeal.κ "c2" .f32 0x42C8E6D3#32 (((2672307 / 268435456)⁻¹ : ℝ) : EReal)

def algebraic_AdFiIdeal_RefAdFiIdeal [hAdFiIdeal : Cert.AdFiIdeal.Facts] [hRefAdFiIdeal : Cert.RefAdFiIdeal.Facts] : Prop :=
  ∀ (m : (ℓ : Loc Cert.AdFiIdeal.nD Cert.AdFiIdeal.τ Cert.AdFiIdeal.sig) → Buf (Elt Ideal) ℓ) (g : Dev Cert.AdFiIdeal.nD → PrngReg)
    (m' : (ℓ : Loc Cert.RefAdFiIdeal.nD Cert.RefAdFiIdeal.τ Cert.RefAdFiIdeal.sig) → Buf (Elt Ideal) ℓ) (g' : Dev Cert.RefAdFiIdeal.nD → PrngReg), Pre_AdFiIdeal m →
    (∀ c : Dev Cert.AdFiIdeal.nD,
      m' ((c.tc : Thread Cert.RefAdFiIdeal.nD Cert.RefAdFiIdeal.τ).loc Cert.RefAdFiIdeal.main_arg0) = m ((c.tc : Thread Cert.AdFiIdeal.nD Cert.AdFiIdeal.τ).loc Cert.AdFiIdeal.main_arg0)
      ∧ m' ((c.tc : Thread Cert.RefAdFiIdeal.nD Cert.RefAdFiIdeal.τ).loc Cert.RefAdFiIdeal.main_arg1) = m ((c.tc : Thread Cert.AdFiIdeal.nD Cert.AdFiIdeal.τ).loc Cert.AdFiIdeal.main_arg1)
      ∧ m' ((c.tc : Thread Cert.RefAdFiIdeal.nD Cert.RefAdFiIdeal.τ).loc Cert.RefAdFiIdeal.main_arg2) = m ((c.tc : Thread Cert.AdFiIdeal.nD Cert.AdFiIdeal.τ).loc Cert.AdFiIdeal.main_arg2)
      ∧ m' ((c.tc : Thread Cert.RefAdFiIdeal.nD Cert.RefAdFiIdeal.τ).loc Cert.RefAdFiIdeal.main_arg3) = m ((c.tc : Thread Cert.AdFiIdeal.nD Cert.AdFiIdeal.τ).loc Cert.AdFiIdeal.main_arg3)) →
    ∃ (v0 : (c : Dev Cert.AdFiIdeal.nD) → Buf (Elt Ideal) ((c.tc : Thread Cert.AdFiIdeal.nD Cert.AdFiIdeal.τ).loc Cert.AdFiIdeal.main_v0_0)) (v1 : (c : Dev Cert.AdFiIdeal.nD) → Buf (Elt Ideal) ((c.tc : Thread Cert.AdFiIdeal.nD Cert.AdFiIdeal.τ).loc Cert.AdFiIdeal.main_v0_1)) (v2 : (c : Dev Cert.AdFiIdeal.nD) → Buf (Elt Ideal) ((c.tc : Thread Cert.AdFiIdeal.nD Cert.AdFiIdeal.τ).loc Cert.AdFiIdeal.main_v0_2)),
      θ_run (Cert.AdFiIdeal.defs (F := Ideal)) (onTc (τ := Cert.AdFiIdeal.τ) (Cert.AdFiIdeal.main (F := Ideal))) ⟨m, fun _ => 0, g⟩ (fun r => ∀ c : Dev Cert.AdFiIdeal.nD,
          r.2.mem ((c.tc : Thread Cert.AdFiIdeal.nD Cert.AdFiIdeal.τ).loc Cert.AdFiIdeal.main_v0_0) = v0 c
          ∧ r.2.mem ((c.tc : Thread Cert.AdFiIdeal.nD Cert.AdFiIdeal.τ).loc Cert.AdFiIdeal.main_v0_1) = v1 c
          ∧ r.2.mem ((c.tc : Thread Cert.AdFiIdeal.nD Cert.AdFiIdeal.τ).loc Cert.AdFiIdeal.main_v0_2) = v2 c
          ∧ r.2.mem ((c.tc : Thread Cert.AdFiIdeal.nD Cert.AdFiIdeal.τ).loc Cert.AdFiIdeal.main_arg0) = m ((c.tc : Thread Cert.AdFiIdeal.nD Cert.AdFiIdeal.τ).loc Cert.AdFiIdeal.main_arg0)
          ∧ r.2.mem ((c.tc : Thread Cert.AdFiIdeal.nD Cert.AdFiIdeal.τ).loc Cert.AdFiIdeal.main_arg1) = m ((c.tc : Thread Cert.AdFiIdeal.nD Cert.AdFiIdeal.τ).loc Cert.AdFiIdeal.main_arg1)
          ∧ r.2.mem ((c.tc : Thread Cert.AdFiIdeal.nD Cert.AdFiIdeal.τ).loc Cert.AdFiIdeal.main_arg2) = m ((c.tc : Thread Cert.AdFiIdeal.nD Cert.AdFiIdeal.τ).loc Cert.AdFiIdeal.main_arg2)
          ∧ r.2.mem ((c.tc : Thread Cert.AdFiIdeal.nD Cert.AdFiIdeal.τ).loc Cert.AdFiIdeal.main_arg3) = m ((c.tc : Thread Cert.AdFiIdeal.nD Cert.AdFiIdeal.τ).loc Cert.AdFiIdeal.main_arg3))
      ∧ θ_run (Cert.RefAdFiIdeal.defs (F := Ideal)) (onTc (τ := Cert.RefAdFiIdeal.τ) (Cert.RefAdFiIdeal.main (F := Ideal))) ⟨m', fun _ => 0, g'⟩ (fun r => ∀ c : Dev Cert.RefAdFiIdeal.nD,
          r.2.mem ((c.tc : Thread Cert.RefAdFiIdeal.nD Cert.RefAdFiIdeal.τ).loc Cert.RefAdFiIdeal.main_v23) = v0 c
          ∧ r.2.mem ((c.tc : Thread Cert.RefAdFiIdeal.nD Cert.RefAdFiIdeal.τ).loc Cert.RefAdFiIdeal.main_v4) = v1 c
          ∧ r.2.mem ((c.tc : Thread Cert.RefAdFiIdeal.nD Cert.RefAdFiIdeal.τ).loc Cert.RefAdFiIdeal.main_v10) = v2 c
          ∧ r.2.mem ((c.tc : Thread Cert.RefAdFiIdeal.nD Cert.RefAdFiIdeal.τ).loc Cert.RefAdFiIdeal.main_arg0) = m' ((c.tc : Thread Cert.RefAdFiIdeal.nD Cert.RefAdFiIdeal.τ).loc Cert.RefAdFiIdeal.main_arg0)
          ∧ r.2.mem ((c.tc : Thread Cert.RefAdFiIdeal.nD Cert.RefAdFiIdeal.τ).loc Cert.RefAdFiIdeal.main_arg1) = m' ((c.tc : Thread Cert.RefAdFiIdeal.nD Cert.RefAdFiIdeal.τ).loc Cert.RefAdFiIdeal.main_arg1)
          ∧ r.2.mem ((c.tc : Thread Cert.RefAdFiIdeal.nD Cert.RefAdFiIdeal.τ).loc Cert.RefAdFiIdeal.main_arg2) = m' ((c.tc : Thread Cert.RefAdFiIdeal.nD Cert.RefAdFiIdeal.τ).loc Cert.RefAdFiIdeal.main_arg2)
          ∧ r.2.mem ((c.tc : Thread Cert.RefAdFiIdeal.nD Cert.RefAdFiIdeal.τ).loc Cert.RefAdFiIdeal.main_arg3) = m' ((c.tc : Thread Cert.RefAdFiIdeal.nD Cert.RefAdFiIdeal.τ).loc Cert.RefAdFiIdeal.main_arg3))

def preserves_AdFo_AdFoIdeal : Prop :=
  IdealRules.named_const.Statement Cert.AdFoIdeal.κ "c1" .f32 0x3FC48605#32 (((5463681 / 8388608)⁻¹ : ℝ) : EReal)
  ∧ IdealRules.named_const.Statement Cert.AdFoIdeal.κ "c2" .f32 0x42C8E6D3#32 (((2672307 / 268435456)⁻¹ : ℝ) : EReal)

def algebraic_AdFoIdeal_RefAdFoIdeal [hAdFoIdeal : Cert.AdFoIdeal.Facts] [hRefAdFoIdeal : Cert.RefAdFoIdeal.Facts] : Prop :=
  ∀ (m : (ℓ : Loc Cert.AdFoIdeal.nD Cert.AdFoIdeal.τ Cert.AdFoIdeal.sig) → Buf (Elt Ideal) ℓ) (g : Dev Cert.AdFoIdeal.nD → PrngReg)
    (m' : (ℓ : Loc Cert.RefAdFoIdeal.nD Cert.RefAdFoIdeal.τ Cert.RefAdFoIdeal.sig) → Buf (Elt Ideal) ℓ) (g' : Dev Cert.RefAdFoIdeal.nD → PrngReg), Pre_AdFoIdeal m →
    (∀ c : Dev Cert.AdFoIdeal.nD,
      m' ((c.tc : Thread Cert.RefAdFoIdeal.nD Cert.RefAdFoIdeal.τ).loc Cert.RefAdFoIdeal.main_arg0) = m ((c.tc : Thread Cert.AdFoIdeal.nD Cert.AdFoIdeal.τ).loc Cert.AdFoIdeal.main_arg0)
      ∧ m' ((c.tc : Thread Cert.RefAdFoIdeal.nD Cert.RefAdFoIdeal.τ).loc Cert.RefAdFoIdeal.main_arg1) = m ((c.tc : Thread Cert.AdFoIdeal.nD Cert.AdFoIdeal.τ).loc Cert.AdFoIdeal.main_arg1)
      ∧ m' ((c.tc : Thread Cert.RefAdFoIdeal.nD Cert.RefAdFoIdeal.τ).loc Cert.RefAdFoIdeal.main_arg2) = m ((c.tc : Thread Cert.AdFoIdeal.nD Cert.AdFoIdeal.τ).loc Cert.AdFoIdeal.main_arg2)
      ∧ m' ((c.tc : Thread Cert.RefAdFoIdeal.nD Cert.RefAdFoIdeal.τ).loc Cert.RefAdFoIdeal.main_arg3) = m ((c.tc : Thread Cert.AdFoIdeal.nD Cert.AdFoIdeal.τ).loc Cert.AdFoIdeal.main_arg3)) →
    ∃ (v0 : (c : Dev Cert.AdFoIdeal.nD) → Buf (Elt Ideal) ((c.tc : Thread Cert.AdFoIdeal.nD Cert.AdFoIdeal.τ).loc Cert.AdFoIdeal.main_v0_0)) (v1 : (c : Dev Cert.AdFoIdeal.nD) → Buf (Elt Ideal) ((c.tc : Thread Cert.AdFoIdeal.nD Cert.AdFoIdeal.τ).loc Cert.AdFoIdeal.main_v0_1)) (v2 : (c : Dev Cert.AdFoIdeal.nD) → Buf (Elt Ideal) ((c.tc : Thread Cert.AdFoIdeal.nD Cert.AdFoIdeal.τ).loc Cert.AdFoIdeal.main_v0_2)),
      θ_run (Cert.AdFoIdeal.defs (F := Ideal)) (onTc (τ := Cert.AdFoIdeal.τ) (Cert.AdFoIdeal.main (F := Ideal))) ⟨m, fun _ => 0, g⟩ (fun r => ∀ c : Dev Cert.AdFoIdeal.nD,
          r.2.mem ((c.tc : Thread Cert.AdFoIdeal.nD Cert.AdFoIdeal.τ).loc Cert.AdFoIdeal.main_v0_0) = v0 c
          ∧ r.2.mem ((c.tc : Thread Cert.AdFoIdeal.nD Cert.AdFoIdeal.τ).loc Cert.AdFoIdeal.main_v0_1) = v1 c
          ∧ r.2.mem ((c.tc : Thread Cert.AdFoIdeal.nD Cert.AdFoIdeal.τ).loc Cert.AdFoIdeal.main_v0_2) = v2 c
          ∧ r.2.mem ((c.tc : Thread Cert.AdFoIdeal.nD Cert.AdFoIdeal.τ).loc Cert.AdFoIdeal.main_arg0) = m ((c.tc : Thread Cert.AdFoIdeal.nD Cert.AdFoIdeal.τ).loc Cert.AdFoIdeal.main_arg0)
          ∧ r.2.mem ((c.tc : Thread Cert.AdFoIdeal.nD Cert.AdFoIdeal.τ).loc Cert.AdFoIdeal.main_arg1) = m ((c.tc : Thread Cert.AdFoIdeal.nD Cert.AdFoIdeal.τ).loc Cert.AdFoIdeal.main_arg1)
          ∧ r.2.mem ((c.tc : Thread Cert.AdFoIdeal.nD Cert.AdFoIdeal.τ).loc Cert.AdFoIdeal.main_arg2) = m ((c.tc : Thread Cert.AdFoIdeal.nD Cert.AdFoIdeal.τ).loc Cert.AdFoIdeal.main_arg2)
          ∧ r.2.mem ((c.tc : Thread Cert.AdFoIdeal.nD Cert.AdFoIdeal.τ).loc Cert.AdFoIdeal.main_arg3) = m ((c.tc : Thread Cert.AdFoIdeal.nD Cert.AdFoIdeal.τ).loc Cert.AdFoIdeal.main_arg3))
      ∧ θ_run (Cert.RefAdFoIdeal.defs (F := Ideal)) (onTc (τ := Cert.RefAdFoIdeal.τ) (Cert.RefAdFoIdeal.main (F := Ideal))) ⟨m', fun _ => 0, g'⟩ (fun r => ∀ c : Dev Cert.RefAdFoIdeal.nD,
          r.2.mem ((c.tc : Thread Cert.RefAdFoIdeal.nD Cert.RefAdFoIdeal.τ).loc Cert.RefAdFoIdeal.main_v23) = v0 c
          ∧ r.2.mem ((c.tc : Thread Cert.RefAdFoIdeal.nD Cert.RefAdFoIdeal.τ).loc Cert.RefAdFoIdeal.main_v4) = v1 c
          ∧ r.2.mem ((c.tc : Thread Cert.RefAdFoIdeal.nD Cert.RefAdFoIdeal.τ).loc Cert.RefAdFoIdeal.main_v10) = v2 c
          ∧ r.2.mem ((c.tc : Thread Cert.RefAdFoIdeal.nD Cert.RefAdFoIdeal.τ).loc Cert.RefAdFoIdeal.main_arg0) = m' ((c.tc : Thread Cert.RefAdFoIdeal.nD Cert.RefAdFoIdeal.τ).loc Cert.RefAdFoIdeal.main_arg0)
          ∧ r.2.mem ((c.tc : Thread Cert.RefAdFoIdeal.nD Cert.RefAdFoIdeal.τ).loc Cert.RefAdFoIdeal.main_arg1) = m' ((c.tc : Thread Cert.RefAdFoIdeal.nD Cert.RefAdFoIdeal.τ).loc Cert.RefAdFoIdeal.main_arg1)
          ∧ r.2.mem ((c.tc : Thread Cert.RefAdFoIdeal.nD Cert.RefAdFoIdeal.τ).loc Cert.RefAdFoIdeal.main_arg2) = m' ((c.tc : Thread Cert.RefAdFoIdeal.nD Cert.RefAdFoIdeal.τ).loc Cert.RefAdFoIdeal.main_arg2)
          ∧ r.2.mem ((c.tc : Thread Cert.RefAdFoIdeal.nD Cert.RefAdFoIdeal.τ).loc Cert.RefAdFoIdeal.main_arg3) = m' ((c.tc : Thread Cert.RefAdFoIdeal.nD Cert.RefAdFoIdeal.τ).loc Cert.RefAdFoIdeal.main_arg3))

def preserves_AdP_AdPIdeal : Prop :=
  IdealRules.named_const.Statement Cert.AdPIdeal.κ "c1" .f32 0x3FC48605#32 (((5463681 / 8388608)⁻¹ : ℝ) : EReal)
  ∧ IdealRules.named_const.Statement Cert.AdPIdeal.κ "c2" .f32 0x42C8E6D3#32 (((2672307 / 268435456)⁻¹ : ℝ) : EReal)

def algebraic_AdPIdeal_RefAdPIdeal [hAdPIdeal : Cert.AdPIdeal.Facts] [hRefAdPIdeal : Cert.RefAdPIdeal.Facts] : Prop :=
  ∀ (m : (ℓ : Loc Cert.AdPIdeal.nD Cert.AdPIdeal.τ Cert.AdPIdeal.sig) → Buf (Elt Ideal) ℓ) (g : Dev Cert.AdPIdeal.nD → PrngReg)
    (m' : (ℓ : Loc Cert.RefAdPIdeal.nD Cert.RefAdPIdeal.τ Cert.RefAdPIdeal.sig) → Buf (Elt Ideal) ℓ) (g' : Dev Cert.RefAdPIdeal.nD → PrngReg), Pre_AdPIdeal m →
    (∀ c : Dev Cert.AdPIdeal.nD,
      m' ((c.tc : Thread Cert.RefAdPIdeal.nD Cert.RefAdPIdeal.τ).loc Cert.RefAdPIdeal.main_arg0) = m ((c.tc : Thread Cert.AdPIdeal.nD Cert.AdPIdeal.τ).loc Cert.AdPIdeal.main_arg0)
      ∧ m' ((c.tc : Thread Cert.RefAdPIdeal.nD Cert.RefAdPIdeal.τ).loc Cert.RefAdPIdeal.main_arg1) = m ((c.tc : Thread Cert.AdPIdeal.nD Cert.AdPIdeal.τ).loc Cert.AdPIdeal.main_arg1)
      ∧ m' ((c.tc : Thread Cert.RefAdPIdeal.nD Cert.RefAdPIdeal.τ).loc Cert.RefAdPIdeal.main_arg2) = m ((c.tc : Thread Cert.AdPIdeal.nD Cert.AdPIdeal.τ).loc Cert.AdPIdeal.main_arg2)
      ∧ m' ((c.tc : Thread Cert.RefAdPIdeal.nD Cert.RefAdPIdeal.τ).loc Cert.RefAdPIdeal.main_arg3) = m ((c.tc : Thread Cert.AdPIdeal.nD Cert.AdPIdeal.τ).loc Cert.AdPIdeal.main_arg3)) →
    ∃ (v0 : (c : Dev Cert.AdPIdeal.nD) → Buf (Elt Ideal) ((c.tc : Thread Cert.AdPIdeal.nD Cert.AdPIdeal.τ).loc Cert.AdPIdeal.main_v0_0)) (v1 : (c : Dev Cert.AdPIdeal.nD) → Buf (Elt Ideal) ((c.tc : Thread Cert.AdPIdeal.nD Cert.AdPIdeal.τ).loc Cert.AdPIdeal.main_v0_1)) (v2 : (c : Dev Cert.AdPIdeal.nD) → Buf (Elt Ideal) ((c.tc : Thread Cert.AdPIdeal.nD Cert.AdPIdeal.τ).loc Cert.AdPIdeal.main_v0_2)),
      θ_run (Cert.AdPIdeal.defs (F := Ideal)) (onTc (τ := Cert.AdPIdeal.τ) (Cert.AdPIdeal.main (F := Ideal))) ⟨m, fun _ => 0, g⟩ (fun r => ∀ c : Dev Cert.AdPIdeal.nD,
          r.2.mem ((c.tc : Thread Cert.AdPIdeal.nD Cert.AdPIdeal.τ).loc Cert.AdPIdeal.main_v0_0) = v0 c
          ∧ r.2.mem ((c.tc : Thread Cert.AdPIdeal.nD Cert.AdPIdeal.τ).loc Cert.AdPIdeal.main_v0_1) = v1 c
          ∧ r.2.mem ((c.tc : Thread Cert.AdPIdeal.nD Cert.AdPIdeal.τ).loc Cert.AdPIdeal.main_v0_2) = v2 c
          ∧ r.2.mem ((c.tc : Thread Cert.AdPIdeal.nD Cert.AdPIdeal.τ).loc Cert.AdPIdeal.main_arg0) = m ((c.tc : Thread Cert.AdPIdeal.nD Cert.AdPIdeal.τ).loc Cert.AdPIdeal.main_arg0)
          ∧ r.2.mem ((c.tc : Thread Cert.AdPIdeal.nD Cert.AdPIdeal.τ).loc Cert.AdPIdeal.main_arg1) = m ((c.tc : Thread Cert.AdPIdeal.nD Cert.AdPIdeal.τ).loc Cert.AdPIdeal.main_arg1)
          ∧ r.2.mem ((c.tc : Thread Cert.AdPIdeal.nD Cert.AdPIdeal.τ).loc Cert.AdPIdeal.main_arg2) = m ((c.tc : Thread Cert.AdPIdeal.nD Cert.AdPIdeal.τ).loc Cert.AdPIdeal.main_arg2)
          ∧ r.2.mem ((c.tc : Thread Cert.AdPIdeal.nD Cert.AdPIdeal.τ).loc Cert.AdPIdeal.main_arg3) = m ((c.tc : Thread Cert.AdPIdeal.nD Cert.AdPIdeal.τ).loc Cert.AdPIdeal.main_arg3))
      ∧ θ_run (Cert.RefAdPIdeal.defs (F := Ideal)) (onTc (τ := Cert.RefAdPIdeal.τ) (Cert.RefAdPIdeal.main (F := Ideal))) ⟨m', fun _ => 0, g'⟩ (fun r => ∀ c : Dev Cert.RefAdPIdeal.nD,
          r.2.mem ((c.tc : Thread Cert.RefAdPIdeal.nD Cert.RefAdPIdeal.τ).loc Cert.RefAdPIdeal.main_v23) = v0 c
          ∧ r.2.mem ((c.tc : Thread Cert.RefAdPIdeal.nD Cert.RefAdPIdeal.τ).loc Cert.RefAdPIdeal.main_v4) = v1 c
          ∧ r.2.mem ((c.tc : Thread Cert.RefAdPIdeal.nD Cert.RefAdPIdeal.τ).loc Cert.RefAdPIdeal.main_v10) = v2 c
          ∧ r.2.mem ((c.tc : Thread Cert.RefAdPIdeal.nD Cert.RefAdPIdeal.τ).loc Cert.RefAdPIdeal.main_arg0) = m' ((c.tc : Thread Cert.RefAdPIdeal.nD Cert.RefAdPIdeal.τ).loc Cert.RefAdPIdeal.main_arg0)
          ∧ r.2.mem ((c.tc : Thread Cert.RefAdPIdeal.nD Cert.RefAdPIdeal.τ).loc Cert.RefAdPIdeal.main_arg1) = m' ((c.tc : Thread Cert.RefAdPIdeal.nD Cert.RefAdPIdeal.τ).loc Cert.RefAdPIdeal.main_arg1)
          ∧ r.2.mem ((c.tc : Thread Cert.RefAdPIdeal.nD Cert.RefAdPIdeal.τ).loc Cert.RefAdPIdeal.main_arg2) = m' ((c.tc : Thread Cert.RefAdPIdeal.nD Cert.RefAdPIdeal.τ).loc Cert.RefAdPIdeal.main_arg2)
          ∧ r.2.mem ((c.tc : Thread Cert.RefAdPIdeal.nD Cert.RefAdPIdeal.τ).loc Cert.RefAdPIdeal.main_arg3) = m' ((c.tc : Thread Cert.RefAdPIdeal.nD Cert.RefAdPIdeal.τ).loc Cert.RefAdPIdeal.main_arg3))

def preserves_AdOut_AdOutIdeal : Prop :=
  IdealRules.named_const.Statement Cert.AdOutIdeal.κ "c1" .f32 0x3FC48605#32 (((5463681 / 8388608)⁻¹ : ℝ) : EReal)
  ∧ IdealRules.named_const.Statement Cert.AdOutIdeal.κ "c2" .f32 0x42C8E6D3#32 (((2672307 / 268435456)⁻¹ : ℝ) : EReal)

def algebraic_AdOutIdeal_RefAdOutIdeal [hAdOutIdeal : Cert.AdOutIdeal.Facts] [hRefAdOutIdeal : Cert.RefAdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.RefAdOutIdeal.nD Cert.RefAdOutIdeal.τ Cert.RefAdOutIdeal.sig) → Buf (Elt Ideal) ℓ) (g' : Dev Cert.RefAdOutIdeal.nD → PrngReg), Pre_AdOutIdeal m →
    (∀ c : Dev Cert.AdOutIdeal.nD,
      m' ((c.tc : Thread Cert.RefAdOutIdeal.nD Cert.RefAdOutIdeal.τ).loc Cert.RefAdOutIdeal.main_arg0) = m ((c.tc : Thread Cert.AdOutIdeal.nD Cert.AdOutIdeal.τ).loc Cert.AdOutIdeal.main_arg0)
      ∧ m' ((c.tc : Thread Cert.RefAdOutIdeal.nD Cert.RefAdOutIdeal.τ).loc Cert.RefAdOutIdeal.main_arg1) = m ((c.tc : Thread Cert.AdOutIdeal.nD Cert.AdOutIdeal.τ).loc Cert.AdOutIdeal.main_arg1)
      ∧ m' ((c.tc : Thread Cert.RefAdOutIdeal.nD Cert.RefAdOutIdeal.τ).loc Cert.RefAdOutIdeal.main_arg2) = m ((c.tc : Thread Cert.AdOutIdeal.nD Cert.AdOutIdeal.τ).loc Cert.AdOutIdeal.main_arg2)
      ∧ m' ((c.tc : Thread Cert.RefAdOutIdeal.nD Cert.RefAdOutIdeal.τ).loc Cert.RefAdOutIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.RefAdOutIdeal.defs (F := Ideal)) (onTc (τ := Cert.RefAdOutIdeal.τ) (Cert.RefAdOutIdeal.main (F := Ideal))) ⟨m', fun _ => 0, g'⟩ (fun r => ∀ c : Dev Cert.RefAdOutIdeal.nD,
          r.2.mem ((c.tc : Thread Cert.RefAdOutIdeal.nD Cert.RefAdOutIdeal.τ).loc Cert.RefAdOutIdeal.main_v23) = v0 c
          ∧ r.2.mem ((c.tc : Thread Cert.RefAdOutIdeal.nD Cert.RefAdOutIdeal.τ).loc Cert.RefAdOutIdeal.main_v4) = v1 c
          ∧ r.2.mem ((c.tc : Thread Cert.RefAdOutIdeal.nD Cert.RefAdOutIdeal.τ).loc Cert.RefAdOutIdeal.main_v10) = v2 c
          ∧ r.2.mem ((c.tc : Thread Cert.RefAdOutIdeal.nD Cert.RefAdOutIdeal.τ).loc Cert.RefAdOutIdeal.main_arg0) = m' ((c.tc : Thread Cert.RefAdOutIdeal.nD Cert.RefAdOutIdeal.τ).loc Cert.RefAdOutIdeal.main_arg0)
          ∧ r.2.mem ((c.tc : Thread Cert.RefAdOutIdeal.nD Cert.RefAdOutIdeal.τ).loc Cert.RefAdOutIdeal.main_arg1) = m' ((c.tc : Thread Cert.RefAdOutIdeal.nD Cert.RefAdOutIdeal.τ).loc Cert.RefAdOutIdeal.main_arg1)
          ∧ r.2.mem ((c.tc : Thread Cert.RefAdOutIdeal.nD Cert.RefAdOutIdeal.τ).loc Cert.RefAdOutIdeal.main_arg2) = m' ((c.tc : Thread Cert.RefAdOutIdeal.nD Cert.RefAdOutIdeal.τ).loc Cert.RefAdOutIdeal.main_arg2)
          ∧ r.2.mem ((c.tc : Thread Cert.RefAdOutIdeal.nD Cert.RefAdOutIdeal.τ).loc Cert.RefAdOutIdeal.main_arg3) = m' ((c.tc : Thread Cert.RefAdOutIdeal.nD Cert.RefAdOutIdeal.τ).loc Cert.RefAdOutIdeal.main_arg3))

def preserves_AdRow_AdRowIdeal : Prop :=
  IdealRules.named_const.Statement Cert.AdRowIdeal.κ "c1" .f32 0x3FC48605#32 (((5463681 / 8388608)⁻¹ : ℝ) : EReal)
  ∧ IdealRules.named_const.Statement Cert.AdRowIdeal.κ "c2" .f32 0x42C8E6D3#32 (((2672307 / 268435456)⁻¹ : ℝ) : EReal)

def algebraic_AdRowIdeal_RefAdRowIdeal [hAdRowIdeal : Cert.AdRowIdeal.Facts] [hRefAdRowIdeal : Cert.RefAdRowIdeal.Facts] : Prop :=
  ∀ (m : (ℓ : Loc Cert.AdRowIdeal.nD Cert.AdRowIdeal.τ Cert.AdRowIdeal.sig) → Buf (Elt Ideal) ℓ) (g : Dev Cert.AdRowIdeal.nD → PrngReg)
    (m' : (ℓ : Loc Cert.RefAdRowIdeal.nD Cert.RefAdRowIdeal.τ Cert.RefAdRowIdeal.sig) → Buf (Elt Ideal) ℓ) (g' : Dev Cert.RefAdRowIdeal.nD → PrngReg), Pre_AdRowIdeal m →
    (∀ c : Dev Cert.AdRowIdeal.nD,
      m' ((c.tc : Thread Cert.RefAdRowIdeal.nD Cert.RefAdRowIdeal.τ).loc Cert.RefAdRowIdeal.main_arg0) = m ((c.tc : Thread Cert.AdRowIdeal.nD Cert.AdRowIdeal.τ).loc Cert.AdRowIdeal.main_arg0)
      ∧ m' ((c.tc : Thread Cert.RefAdRowIdeal.nD Cert.RefAdRowIdeal.τ).loc Cert.RefAdRowIdeal.main_arg1) = m ((c.tc : Thread Cert.AdRowIdeal.nD Cert.AdRowIdeal.τ).loc Cert.AdRowIdeal.main_arg1)
      ∧ m' ((c.tc : Thread Cert.RefAdRowIdeal.nD Cert.RefAdRowIdeal.τ).loc Cert.RefAdRowIdeal.main_arg2) = m ((c.tc : Thread Cert.AdRowIdeal.nD Cert.AdRowIdeal.τ).loc Cert.AdRowIdeal.main_arg2)
      ∧ m' ((c.tc : Thread Cert.RefAdRowIdeal.nD Cert.RefAdRowIdeal.τ).loc Cert.RefAdRowIdeal.main_arg3) = m ((c.tc : Thread Cert.AdRowIdeal.nD Cert.AdRowIdeal.τ).loc Cert.AdRowIdeal.main_arg3)) →
    ∃ (v0 : (c : Dev Cert.AdRowIdeal.nD) → Buf (Elt Ideal) ((c.tc : Thread Cert.AdRowIdeal.nD Cert.AdRowIdeal.τ).loc Cert.AdRowIdeal.main_v0_0)) (v1 : (c : Dev Cert.AdRowIdeal.nD) → Buf (Elt Ideal) ((c.tc : Thread Cert.AdRowIdeal.nD Cert.AdRowIdeal.τ).loc Cert.AdRowIdeal.main_v0_1)) (v2 : (c : Dev Cert.AdRowIdeal.nD) → Buf (Elt Ideal) ((c.tc : Thread Cert.AdRowIdeal.nD Cert.AdRowIdeal.τ).loc Cert.AdRowIdeal.main_v0_2)),
      θ_run (Cert.AdRowIdeal.defs (F := Ideal)) (onTc (τ := Cert.AdRowIdeal.τ) (Cert.AdRowIdeal.main (F := Ideal))) ⟨m, fun _ => 0, g⟩ (fun r => ∀ c : Dev Cert.AdRowIdeal.nD,
          r.2.mem ((c.tc : Thread Cert.AdRowIdeal.nD Cert.AdRowIdeal.τ).loc Cert.AdRowIdeal.main_v0_0) = v0 c
          ∧ r.2.mem ((c.tc : Thread Cert.AdRowIdeal.nD Cert.AdRowIdeal.τ).loc Cert.AdRowIdeal.main_v0_1) = v1 c
          ∧ r.2.mem ((c.tc : Thread Cert.AdRowIdeal.nD Cert.AdRowIdeal.τ).loc Cert.AdRowIdeal.main_v0_2) = v2 c
          ∧ r.2.mem ((c.tc : Thread Cert.AdRowIdeal.nD Cert.AdRowIdeal.τ).loc Cert.AdRowIdeal.main_arg0) = m ((c.tc : Thread Cert.AdRowIdeal.nD Cert.AdRowIdeal.τ).loc Cert.AdRowIdeal.main_arg0)
          ∧ r.2.mem ((c.tc : Thread Cert.AdRowIdeal.nD Cert.AdRowIdeal.τ).loc Cert.AdRowIdeal.main_arg1) = m ((c.tc : Thread Cert.AdRowIdeal.nD Cert.AdRowIdeal.τ).loc Cert.AdRowIdeal.main_arg1)
          ∧ r.2.mem ((c.tc : Thread Cert.AdRowIdeal.nD Cert.AdRowIdeal.τ).loc Cert.AdRowIdeal.main_arg2) = m ((c.tc : Thread Cert.AdRowIdeal.nD Cert.AdRowIdeal.τ).loc Cert.AdRowIdeal.main_arg2)
          ∧ r.2.mem ((c.tc : Thread Cert.AdRowIdeal.nD Cert.AdRowIdeal.τ).loc Cert.AdRowIdeal.main_arg3) = m ((c.tc : Thread Cert.AdRowIdeal.nD Cert.AdRowIdeal.τ).loc Cert.AdRowIdeal.main_arg3))
      ∧ θ_run (Cert.RefAdRowIdeal.defs (F := Ideal)) (onTc (τ := Cert.RefAdRowIdeal.τ) (Cert.RefAdRowIdeal.main (F := Ideal))) ⟨m', fun _ => 0, g'⟩ (fun r => ∀ c : Dev Cert.RefAdRowIdeal.nD,
          r.2.mem ((c.tc : Thread Cert.RefAdRowIdeal.nD Cert.RefAdRowIdeal.τ).loc Cert.RefAdRowIdeal.main_v23) = v0 c
          ∧ r.2.mem ((c.tc : Thread Cert.RefAdRowIdeal.nD Cert.RefAdRowIdeal.τ).loc Cert.RefAdRowIdeal.main_v4) = v1 c
          ∧ r.2.mem ((c.tc : Thread Cert.RefAdRowIdeal.nD Cert.RefAdRowIdeal.τ).loc Cert.RefAdRowIdeal.main_v10) = v2 c
          ∧ r.2.mem ((c.tc : Thread Cert.RefAdRowIdeal.nD Cert.RefAdRowIdeal.τ).loc Cert.RefAdRowIdeal.main_arg0) = m' ((c.tc : Thread Cert.RefAdRowIdeal.nD Cert.RefAdRowIdeal.τ).loc Cert.RefAdRowIdeal.main_arg0)
          ∧ r.2.mem ((c.tc : Thread Cert.RefAdRowIdeal.nD Cert.RefAdRowIdeal.τ).loc Cert.RefAdRowIdeal.main_arg1) = m' ((c.tc : Thread Cert.RefAdRowIdeal.nD Cert.RefAdRowIdeal.τ).loc Cert.RefAdRowIdeal.main_arg1)
          ∧ r.2.mem ((c.tc : Thread Cert.RefAdRowIdeal.nD Cert.RefAdRowIdeal.τ).loc Cert.RefAdRowIdeal.main_arg2) = m' ((c.tc : Thread Cert.RefAdRowIdeal.nD Cert.RefAdRowIdeal.τ).loc Cert.RefAdRowIdeal.main_arg2)
          ∧ r.2.mem ((c.tc : Thread Cert.RefAdRowIdeal.nD Cert.RefAdRowIdeal.τ).loc Cert.RefAdRowIdeal.main_arg3) = m' ((c.tc : Thread Cert.RefAdRowIdeal.nD Cert.RefAdRowIdeal.τ).loc Cert.RefAdRowIdeal.main_arg3))

def preserves_AdB_AdBIdeal : Prop :=
  IdealRules.named_const.Statement Cert.AdBIdeal.κ "c1" .f32 0x3FC48605#32 (((5463681 / 8388608)⁻¹ : ℝ) : EReal)
  ∧ IdealRules.named_const.Statement Cert.AdBIdeal.κ "c2" .f32 0x42C8E6D3#32 (((2672307 / 268435456)⁻¹ : ℝ) : EReal)

def algebraic_AdBIdeal_RefAdBIdeal [hAdBIdeal : Cert.AdBIdeal.Facts] [hRefAdBIdeal : Cert.RefAdBIdeal.Facts] : Prop :=
  ∀ (m : (ℓ : Loc Cert.AdBIdeal.nD Cert.AdBIdeal.τ Cert.AdBIdeal.sig) → Buf (Elt Ideal) ℓ) (g : Dev Cert.AdBIdeal.nD → PrngReg)
    (m' : (ℓ : Loc Cert.RefAdBIdeal.nD Cert.RefAdBIdeal.τ Cert.RefAdBIdeal.sig) → Buf (Elt Ideal) ℓ) (g' : Dev Cert.RefAdBIdeal.nD → PrngReg), Pre_AdBIdeal m →
    (∀ c : Dev Cert.AdBIdeal.nD,
      m' ((c.tc : Thread Cert.RefAdBIdeal.nD Cert.RefAdBIdeal.τ).loc Cert.RefAdBIdeal.main_arg0) = m ((c.tc : Thread Cert.AdBIdeal.nD Cert.AdBIdeal.τ).loc Cert.AdBIdeal.main_arg0)
      ∧ m' ((c.tc : Thread Cert.RefAdBIdeal.nD Cert.RefAdBIdeal.τ).loc Cert.RefAdBIdeal.main_arg1) = m ((c.tc : Thread Cert.AdBIdeal.nD Cert.AdBIdeal.τ).loc Cert.AdBIdeal.main_arg1)
      ∧ m' ((c.tc : Thread Cert.RefAdBIdeal.nD Cert.RefAdBIdeal.τ).loc Cert.RefAdBIdeal.main_arg2) = m ((c.tc : Thread Cert.AdBIdeal.nD Cert.AdBIdeal.τ).loc Cert.AdBIdeal.main_arg2)
      ∧ m' ((c.tc : Thread Cert.RefAdBIdeal.nD Cert.RefAdBIdeal.τ).loc Cert.RefAdBIdeal.main_arg3) = m ((c.tc : Thread Cert.AdBIdeal.nD Cert.AdBIdeal.τ).loc Cert.AdBIdeal.main_arg3)) →
    ∃ (v0 : (c : Dev Cert.AdBIdeal.nD) → Buf (Elt Ideal) ((c.tc : Thread Cert.AdBIdeal.nD Cert.AdBIdeal.τ).loc Cert.AdBIdeal.main_v0_0)) (v1 : (c : Dev Cert.AdBIdeal.nD) → Buf (Elt Ideal) ((c.tc : Thread Cert.AdBIdeal.nD Cert.AdBIdeal.τ).loc Cert.AdBIdeal.main_v0_1)) (v2 : (c : Dev Cert.AdBIdeal.nD) → Buf (Elt Ideal) ((c.tc : Thread Cert.AdBIdeal.nD Cert.AdBIdeal.τ).loc Cert.AdBIdeal.main_v0_2)),
      θ_run (Cert.AdBIdeal.defs (F := Ideal)) (onTc (τ := Cert.AdBIdeal.τ) (Cert.AdBIdeal.main (F := Ideal))) ⟨m, fun _ => 0, g⟩ (fun r => ∀ c : Dev Cert.AdBIdeal.nD,
          r.2.mem ((c.tc : Thread Cert.AdBIdeal.nD Cert.AdBIdeal.τ).loc Cert.AdBIdeal.main_v0_0) = v0 c
          ∧ r.2.mem ((c.tc : Thread Cert.AdBIdeal.nD Cert.AdBIdeal.τ).loc Cert.AdBIdeal.main_v0_1) = v1 c
          ∧ r.2.mem ((c.tc : Thread Cert.AdBIdeal.nD Cert.AdBIdeal.τ).loc Cert.AdBIdeal.main_v0_2) = v2 c
          ∧ r.2.mem ((c.tc : Thread Cert.AdBIdeal.nD Cert.AdBIdeal.τ).loc Cert.AdBIdeal.main_arg0) = m ((c.tc : Thread Cert.AdBIdeal.nD Cert.AdBIdeal.τ).loc Cert.AdBIdeal.main_arg0)
          ∧ r.2.mem ((c.tc : Thread Cert.AdBIdeal.nD Cert.AdBIdeal.τ).loc Cert.AdBIdeal.main_arg1) = m ((c.tc : Thread Cert.AdBIdeal.nD Cert.AdBIdeal.τ).loc Cert.AdBIdeal.main_arg1)
          ∧ r.2.mem ((c.tc : Thread Cert.AdBIdeal.nD Cert.AdBIdeal.τ).loc Cert.AdBIdeal.main_arg2) = m ((c.tc : Thread Cert.AdBIdeal.nD Cert.AdBIdeal.τ).loc Cert.AdBIdeal.main_arg2)
          ∧ r.2.mem ((c.tc : Thread Cert.AdBIdeal.nD Cert.AdBIdeal.τ).loc Cert.AdBIdeal.main_arg3) = m ((c.tc : Thread Cert.AdBIdeal.nD Cert.AdBIdeal.τ).loc Cert.AdBIdeal.main_arg3))
      ∧ θ_run (Cert.RefAdBIdeal.defs (F := Ideal)) (onTc (τ := Cert.RefAdBIdeal.τ) (Cert.RefAdBIdeal.main (F := Ideal))) ⟨m', fun _ => 0, g'⟩ (fun r => ∀ c : Dev Cert.RefAdBIdeal.nD,
          r.2.mem ((c.tc : Thread Cert.RefAdBIdeal.nD Cert.RefAdBIdeal.τ).loc Cert.RefAdBIdeal.main_v23) = v0 c
          ∧ r.2.mem ((c.tc : Thread Cert.RefAdBIdeal.nD Cert.RefAdBIdeal.τ).loc Cert.RefAdBIdeal.main_v4) = v1 c
          ∧ r.2.mem ((c.tc : Thread Cert.RefAdBIdeal.nD Cert.RefAdBIdeal.τ).loc Cert.RefAdBIdeal.main_v10) = v2 c
          ∧ r.2.mem ((c.tc : Thread Cert.RefAdBIdeal.nD Cert.RefAdBIdeal.τ).loc Cert.RefAdBIdeal.main_arg0) = m' ((c.tc : Thread Cert.RefAdBIdeal.nD Cert.RefAdBIdeal.τ).loc Cert.RefAdBIdeal.main_arg0)
          ∧ r.2.mem ((c.tc : Thread Cert.RefAdBIdeal.nD Cert.RefAdBIdeal.τ).loc Cert.RefAdBIdeal.main_arg1) = m' ((c.tc : Thread Cert.RefAdBIdeal.nD Cert.RefAdBIdeal.τ).loc Cert.RefAdBIdeal.main_arg1)
          ∧ r.2.mem ((c.tc : Thread Cert.RefAdBIdeal.nD Cert.RefAdBIdeal.τ).loc Cert.RefAdBIdeal.main_arg2) = m' ((c.tc : Thread Cert.RefAdBIdeal.nD Cert.RefAdBIdeal.τ).loc Cert.RefAdBIdeal.main_arg2)
          ∧ r.2.mem ((c.tc : Thread Cert.RefAdBIdeal.nD Cert.RefAdBIdeal.τ).loc Cert.RefAdBIdeal.main_arg3) = m' ((c.tc : Thread Cert.RefAdBIdeal.nD Cert.RefAdBIdeal.τ).loc Cert.RefAdBIdeal.main_arg3))

def preserves_AdRpb_AdRpbIdeal : Prop :=
  IdealRules.named_const.Statement Cert.AdRpbIdeal.κ "c1" .f32 0x3FC48605#32 (((5463681 / 8388608)⁻¹ : ℝ) : EReal)
  ∧ IdealRules.named_const.Statement Cert.AdRpbIdeal.κ "c2" .f32 0x42C8E6D3#32 (((2672307 / 268435456)⁻¹ : ℝ) : EReal)

def algebraic_AdRpbIdeal_RefAdRpbIdeal [hAdRpbIdeal : Cert.AdRpbIdeal.Facts] [hRefAdRpbIdeal : Cert.RefAdRpbIdeal.Facts] : Prop :=
  ∀ (m : (ℓ : Loc Cert.AdRpbIdeal.nD Cert.AdRpbIdeal.τ Cert.AdRpbIdeal.sig) → Buf (Elt Ideal) ℓ) (g : Dev Cert.AdRpbIdeal.nD → PrngReg)
    (m' : (ℓ : Loc Cert.RefAdRpbIdeal.nD Cert.RefAdRpbIdeal.τ Cert.RefAdRpbIdeal.sig) → Buf (Elt Ideal) ℓ) (g' : Dev Cert.RefAdRpbIdeal.nD → PrngReg), Pre_AdRpbIdeal m →
    (∀ c : Dev Cert.AdRpbIdeal.nD,
      m' ((c.tc : Thread Cert.RefAdRpbIdeal.nD Cert.RefAdRpbIdeal.τ).loc Cert.RefAdRpbIdeal.main_arg0) = m ((c.tc : Thread Cert.AdRpbIdeal.nD Cert.AdRpbIdeal.τ).loc Cert.AdRpbIdeal.main_arg0)
      ∧ m' ((c.tc : Thread Cert.RefAdRpbIdeal.nD Cert.RefAdRpbIdeal.τ).loc Cert.RefAdRpbIdeal.main_arg1) = m ((c.tc : Thread Cert.AdRpbIdeal.nD Cert.AdRpbIdeal.τ).loc Cert.AdRpbIdeal.main_arg1)
      ∧ m' ((c.tc : Thread Cert.RefAdRpbIdeal.nD Cert.RefAdRpbIdeal.τ).loc Cert.RefAdRpbIdeal.main_arg2) = m ((c.tc : Thread Cert.AdRpbIdeal.nD Cert.AdRpbIdeal.τ).loc Cert.AdRpbIdeal.main_arg2)
      ∧ m' ((c.tc : Thread Cert.RefAdRpbIdeal.nD Cert.RefAdRpbIdeal.τ).loc Cert.RefAdRpbIdeal.main_arg3) = m ((c.tc : Thread Cert.AdRpbIdeal.nD Cert.AdRpbIdeal.τ).loc Cert.AdRpbIdeal.main_arg3)) →
    ∃ (v0 : (c : Dev Cert.AdRpbIdeal.nD) → Buf (Elt Ideal) ((c.tc : Thread Cert.AdRpbIdeal.nD Cert.AdRpbIdeal.τ).loc Cert.AdRpbIdeal.main_v0_0)) (v1 : (c : Dev Cert.AdRpbIdeal.nD) → Buf (Elt Ideal) ((c.tc : Thread Cert.AdRpbIdeal.nD Cert.AdRpbIdeal.τ).loc Cert.AdRpbIdeal.main_v0_1)) (v2 : (c : Dev Cert.AdRpbIdeal.nD) → Buf (Elt Ideal) ((c.tc : Thread Cert.AdRpbIdeal.nD Cert.AdRpbIdeal.τ).loc Cert.AdRpbIdeal.main_v0_2)),
      θ_run (Cert.AdRpbIdeal.defs (F := Ideal)) (onTc (τ := Cert.AdRpbIdeal.τ) (Cert.AdRpbIdeal.main (F := Ideal))) ⟨m, fun _ => 0, g⟩ (fun r => ∀ c : Dev Cert.AdRpbIdeal.nD,
          r.2.mem ((c.tc : Thread Cert.AdRpbIdeal.nD Cert.AdRpbIdeal.τ).loc Cert.AdRpbIdeal.main_v0_0) = v0 c
          ∧ r.2.mem ((c.tc : Thread Cert.AdRpbIdeal.nD Cert.AdRpbIdeal.τ).loc Cert.AdRpbIdeal.main_v0_1) = v1 c
          ∧ r.2.mem ((c.tc : Thread Cert.AdRpbIdeal.nD Cert.AdRpbIdeal.τ).loc Cert.AdRpbIdeal.main_v0_2) = v2 c
          ∧ r.2.mem ((c.tc : Thread Cert.AdRpbIdeal.nD Cert.AdRpbIdeal.τ).loc Cert.AdRpbIdeal.main_arg0) = m ((c.tc : Thread Cert.AdRpbIdeal.nD Cert.AdRpbIdeal.τ).loc Cert.AdRpbIdeal.main_arg0)
          ∧ r.2.mem ((c.tc : Thread Cert.AdRpbIdeal.nD Cert.AdRpbIdeal.τ).loc Cert.AdRpbIdeal.main_arg1) = m ((c.tc : Thread Cert.AdRpbIdeal.nD Cert.AdRpbIdeal.τ).loc Cert.AdRpbIdeal.main_arg1)
          ∧ r.2.mem ((c.tc : Thread Cert.AdRpbIdeal.nD Cert.AdRpbIdeal.τ).loc Cert.AdRpbIdeal.main_arg2) = m ((c.tc : Thread Cert.AdRpbIdeal.nD Cert.AdRpbIdeal.τ).loc Cert.AdRpbIdeal.main_arg2)
          ∧ r.2.mem ((c.tc : Thread Cert.AdRpbIdeal.nD Cert.AdRpbIdeal.τ).loc Cert.AdRpbIdeal.main_arg3) = m ((c.tc : Thread Cert.AdRpbIdeal.nD Cert.AdRpbIdeal.τ).loc Cert.AdRpbIdeal.main_arg3))
      ∧ θ_run (Cert.RefAdRpbIdeal.defs (F := Ideal)) (onTc (τ := Cert.RefAdRpbIdeal.τ) (Cert.RefAdRpbIdeal.main (F := Ideal))) ⟨m', fun _ => 0, g'⟩ (fun r => ∀ c : Dev Cert.RefAdRpbIdeal.nD,
          r.2.mem ((c.tc : Thread Cert.RefAdRpbIdeal.nD Cert.RefAdRpbIdeal.τ).loc Cert.RefAdRpbIdeal.main_v23) = v0 c
          ∧ r.2.mem ((c.tc : Thread Cert.RefAdRpbIdeal.nD Cert.RefAdRpbIdeal.τ).loc Cert.RefAdRpbIdeal.main_v4) = v1 c
          ∧ r.2.mem ((c.tc : Thread Cert.RefAdRpbIdeal.nD Cert.RefAdRpbIdeal.τ).loc Cert.RefAdRpbIdeal.main_v10) = v2 c
          ∧ r.2.mem ((c.tc : Thread Cert.RefAdRpbIdeal.nD Cert.RefAdRpbIdeal.τ).loc Cert.RefAdRpbIdeal.main_arg0) = m' ((c.tc : Thread Cert.RefAdRpbIdeal.nD Cert.RefAdRpbIdeal.τ).loc Cert.RefAdRpbIdeal.main_arg0)
          ∧ r.2.mem ((c.tc : Thread Cert.RefAdRpbIdeal.nD Cert.RefAdRpbIdeal.τ).loc Cert.RefAdRpbIdeal.main_arg1) = m' ((c.tc : Thread Cert.RefAdRpbIdeal.nD Cert.RefAdRpbIdeal.τ).loc Cert.RefAdRpbIdeal.main_arg1)
          ∧ r.2.mem ((c.tc : Thread Cert.RefAdRpbIdeal.nD Cert.RefAdRpbIdeal.τ).loc Cert.RefAdRpbIdeal.main_arg2) = m' ((c.tc : Thread Cert.RefAdRpbIdeal.nD Cert.RefAdRpbIdeal.τ).loc Cert.RefAdRpbIdeal.main_arg2)
          ∧ r.2.mem ((c.tc : Thread Cert.RefAdRpbIdeal.nD Cert.RefAdRpbIdeal.τ).loc Cert.RefAdRpbIdeal.main_arg3) = m' ((c.tc : Thread Cert.RefAdRpbIdeal.nD Cert.RefAdRpbIdeal.τ).loc Cert.RefAdRpbIdeal.main_arg3))

def preserves_AdLb_AdLbIdeal : Prop :=
  IdealRules.named_const.Statement Cert.AdLbIdeal.κ "c1" .f32 0x3FC48605#32 (((5463681 / 8388608)⁻¹ : ℝ) : EReal)
  ∧ IdealRules.named_const.Statement Cert.AdLbIdeal.κ "c2" .f32 0x42C8E6D3#32 (((2672307 / 268435456)⁻¹ : ℝ) : EReal)

def algebraic_AdLbIdeal_RefAdLbIdeal [hAdLbIdeal : Cert.AdLbIdeal.Facts] [hRefAdLbIdeal : Cert.RefAdLbIdeal.Facts] : Prop :=
  ∀ (m : (ℓ : Loc Cert.AdLbIdeal.nD Cert.AdLbIdeal.τ Cert.AdLbIdeal.sig) → Buf (Elt Ideal) ℓ) (g : Dev Cert.AdLbIdeal.nD → PrngReg)
    (m' : (ℓ : Loc Cert.RefAdLbIdeal.nD Cert.RefAdLbIdeal.τ Cert.RefAdLbIdeal.sig) → Buf (Elt Ideal) ℓ) (g' : Dev Cert.RefAdLbIdeal.nD → PrngReg), Pre_AdLbIdeal m →
    (∀ c : Dev Cert.AdLbIdeal.nD,
      m' ((c.tc : Thread Cert.RefAdLbIdeal.nD Cert.RefAdLbIdeal.τ).loc Cert.RefAdLbIdeal.main_arg0) = m ((c.tc : Thread Cert.AdLbIdeal.nD Cert.AdLbIdeal.τ).loc Cert.AdLbIdeal.main_arg0)
      ∧ m' ((c.tc : Thread Cert.RefAdLbIdeal.nD Cert.RefAdLbIdeal.τ).loc Cert.RefAdLbIdeal.main_arg1) = m ((c.tc : Thread Cert.AdLbIdeal.nD Cert.AdLbIdeal.τ).loc Cert.AdLbIdeal.main_arg1)
      ∧ m' ((c.tc : Thread Cert.RefAdLbIdeal.nD Cert.RefAdLbIdeal.τ).loc Cert.RefAdLbIdeal.main_arg2) = m ((c.tc : Thread Cert.AdLbIdeal.nD Cert.AdLbIdeal.τ).loc Cert.AdLbIdeal.main_arg2)
      ∧ m' ((c.tc : Thread Cert.RefAdLbIdeal.nD Cert.RefAdLbIdeal.τ).loc Cert.RefAdLbIdeal.main_arg3) = m ((c.tc : Thread Cert.AdLbIdeal.nD Cert.AdLbIdeal.τ).loc Cert.AdLbIdeal.main_arg3)) →
    ∃ (v0 : (c : Dev Cert.AdLbIdeal.nD) → Buf (Elt Ideal) ((c.tc : Thread Cert.AdLbIdeal.nD Cert.AdLbIdeal.τ).loc Cert.AdLbIdeal.main_v0_0)) (v1 : (c : Dev Cert.AdLbIdeal.nD) → Buf (Elt Ideal) ((c.tc : Thread Cert.AdLbIdeal.nD Cert.AdLbIdeal.τ).loc Cert.AdLbIdeal.main_v0_1)) (v2 : (c : Dev Cert.AdLbIdeal.nD) → Buf (Elt Ideal) ((c.tc : Thread Cert.AdLbIdeal.nD Cert.AdLbIdeal.τ).loc Cert.AdLbIdeal.main_v0_2)),
      θ_run (Cert.AdLbIdeal.defs (F := Ideal)) (onTc (τ := Cert.AdLbIdeal.τ) (Cert.AdLbIdeal.main (F := Ideal))) ⟨m, fun _ => 0, g⟩ (fun r => ∀ c : Dev Cert.AdLbIdeal.nD,
          r.2.mem ((c.tc : Thread Cert.AdLbIdeal.nD Cert.AdLbIdeal.τ).loc Cert.AdLbIdeal.main_v0_0) = v0 c
          ∧ r.2.mem ((c.tc : Thread Cert.AdLbIdeal.nD Cert.AdLbIdeal.τ).loc Cert.AdLbIdeal.main_v0_1) = v1 c
          ∧ r.2.mem ((c.tc : Thread Cert.AdLbIdeal.nD Cert.AdLbIdeal.τ).loc Cert.AdLbIdeal.main_v0_2) = v2 c
          ∧ r.2.mem ((c.tc : Thread Cert.AdLbIdeal.nD Cert.AdLbIdeal.τ).loc Cert.AdLbIdeal.main_arg0) = m ((c.tc : Thread Cert.AdLbIdeal.nD Cert.AdLbIdeal.τ).loc Cert.AdLbIdeal.main_arg0)
          ∧ r.2.mem ((c.tc : Thread Cert.AdLbIdeal.nD Cert.AdLbIdeal.τ).loc Cert.AdLbIdeal.main_arg1) = m ((c.tc : Thread Cert.AdLbIdeal.nD Cert.AdLbIdeal.τ).loc Cert.AdLbIdeal.main_arg1)
          ∧ r.2.mem ((c.tc : Thread Cert.AdLbIdeal.nD Cert.AdLbIdeal.τ).loc Cert.AdLbIdeal.main_arg2) = m ((c.tc : Thread Cert.AdLbIdeal.nD Cert.AdLbIdeal.τ).loc Cert.AdLbIdeal.main_arg2)
          ∧ r.2.mem ((c.tc : Thread Cert.AdLbIdeal.nD Cert.AdLbIdeal.τ).loc Cert.AdLbIdeal.main_arg3) = m ((c.tc : Thread Cert.AdLbIdeal.nD Cert.AdLbIdeal.τ).loc Cert.AdLbIdeal.main_arg3))
      ∧ θ_run (Cert.RefAdLbIdeal.defs (F := Ideal)) (onTc (τ := Cert.RefAdLbIdeal.τ) (Cert.RefAdLbIdeal.main (F := Ideal))) ⟨m', fun _ => 0, g'⟩ (fun r => ∀ c : Dev Cert.RefAdLbIdeal.nD,
          r.2.mem ((c.tc : Thread Cert.RefAdLbIdeal.nD Cert.RefAdLbIdeal.τ).loc Cert.RefAdLbIdeal.main_v23) = v0 c
          ∧ r.2.mem ((c.tc : Thread Cert.RefAdLbIdeal.nD Cert.RefAdLbIdeal.τ).loc Cert.RefAdLbIdeal.main_v4) = v1 c
          ∧ r.2.mem ((c.tc : Thread Cert.RefAdLbIdeal.nD Cert.RefAdLbIdeal.τ).loc Cert.RefAdLbIdeal.main_v10) = v2 c
          ∧ r.2.mem ((c.tc : Thread Cert.RefAdLbIdeal.nD Cert.RefAdLbIdeal.τ).loc Cert.RefAdLbIdeal.main_arg0) = m' ((c.tc : Thread Cert.RefAdLbIdeal.nD Cert.RefAdLbIdeal.τ).loc Cert.RefAdLbIdeal.main_arg0)
          ∧ r.2.mem ((c.tc : Thread Cert.RefAdLbIdeal.nD Cert.RefAdLbIdeal.τ).loc Cert.RefAdLbIdeal.main_arg1) = m' ((c.tc : Thread Cert.RefAdLbIdeal.nD Cert.RefAdLbIdeal.τ).loc Cert.RefAdLbIdeal.main_arg1)
          ∧ r.2.mem ((c.tc : Thread Cert.RefAdLbIdeal.nD Cert.RefAdLbIdeal.τ).loc Cert.RefAdLbIdeal.main_arg2) = m' ((c.tc : Thread Cert.RefAdLbIdeal.nD Cert.RefAdLbIdeal.τ).loc Cert.RefAdLbIdeal.main_arg2)
          ∧ r.2.mem ((c.tc : Thread Cert.RefAdLbIdeal.nD Cert.RefAdLbIdeal.τ).loc Cert.RefAdLbIdeal.main_arg3) = m' ((c.tc : Thread Cert.RefAdLbIdeal.nD Cert.RefAdLbIdeal.τ).loc Cert.RefAdLbIdeal.main_arg3))

def preserves_AdHn_AdHnIdeal : Prop :=
  IdealRules.named_const.Statement Cert.AdHnIdeal.κ "c1" .f32 0x3FC48605#32 (((5463681 / 8388608)⁻¹ : ℝ) : EReal)
  ∧ IdealRules.named_const.Statement Cert.AdHnIdeal.κ "c2" .f32 0x42C8E6D3#32 (((2672307 / 268435456)⁻¹ : ℝ) : EReal)

def algebraic_AdHnIdeal_RefAdHnIdeal [hAdHnIdeal : Cert.AdHnIdeal.Facts] [hRefAdHnIdeal : Cert.RefAdHnIdeal.Facts] : Prop :=
  ∀ (m : (ℓ : Loc Cert.AdHnIdeal.nD Cert.AdHnIdeal.τ Cert.AdHnIdeal.sig) → Buf (Elt Ideal) ℓ) (g : Dev Cert.AdHnIdeal.nD → PrngReg)
    (m' : (ℓ : Loc Cert.RefAdHnIdeal.nD Cert.RefAdHnIdeal.τ Cert.RefAdHnIdeal.sig) → Buf (Elt Ideal) ℓ) (g' : Dev Cert.RefAdHnIdeal.nD → PrngReg), Pre_AdHnIdeal m →
    (∀ c : Dev Cert.AdHnIdeal.nD,
      m' ((c.tc : Thread Cert.RefAdHnIdeal.nD Cert.RefAdHnIdeal.τ).loc Cert.RefAdHnIdeal.main_arg0) = m ((c.tc : Thread Cert.AdHnIdeal.nD Cert.AdHnIdeal.τ).loc Cert.AdHnIdeal.main_arg0)
      ∧ m' ((c.tc : Thread Cert.RefAdHnIdeal.nD Cert.RefAdHnIdeal.τ).loc Cert.RefAdHnIdeal.main_arg1) = m ((c.tc : Thread Cert.AdHnIdeal.nD Cert.AdHnIdeal.τ).loc Cert.AdHnIdeal.main_arg1)
      ∧ m' ((c.tc : Thread Cert.RefAdHnIdeal.nD Cert.RefAdHnIdeal.τ).loc Cert.RefAdHnIdeal.main_arg2) = m ((c.tc : Thread Cert.AdHnIdeal.nD Cert.AdHnIdeal.τ).loc Cert.AdHnIdeal.main_arg2)
      ∧ m' ((c.tc : Thread Cert.RefAdHnIdeal.nD Cert.RefAdHnIdeal.τ).loc Cert.RefAdHnIdeal.main_arg3) = m ((c.tc : Thread Cert.AdHnIdeal.nD Cert.AdHnIdeal.τ).loc Cert.AdHnIdeal.main_arg3)) →
    ∃ (v0 : (c : Dev Cert.AdHnIdeal.nD) → Buf (Elt Ideal) ((c.tc : Thread Cert.AdHnIdeal.nD Cert.AdHnIdeal.τ).loc Cert.AdHnIdeal.main_v0_0)) (v1 : (c : Dev Cert.AdHnIdeal.nD) → Buf (Elt Ideal) ((c.tc : Thread Cert.AdHnIdeal.nD Cert.AdHnIdeal.τ).loc Cert.AdHnIdeal.main_v0_1)) (v2 : (c : Dev Cert.AdHnIdeal.nD) → Buf (Elt Ideal) ((c.tc : Thread Cert.AdHnIdeal.nD Cert.AdHnIdeal.τ).loc Cert.AdHnIdeal.main_v0_2)),
      θ_run (Cert.AdHnIdeal.defs (F := Ideal)) (onTc (τ := Cert.AdHnIdeal.τ) (Cert.AdHnIdeal.main (F := Ideal))) ⟨m, fun _ => 0, g⟩ (fun r => ∀ c : Dev Cert.AdHnIdeal.nD,
          r.2.mem ((c.tc : Thread Cert.AdHnIdeal.nD Cert.AdHnIdeal.τ).loc Cert.AdHnIdeal.main_v0_0) = v0 c
          ∧ r.2.mem ((c.tc : Thread Cert.AdHnIdeal.nD Cert.AdHnIdeal.τ).loc Cert.AdHnIdeal.main_v0_1) = v1 c
          ∧ r.2.mem ((c.tc : Thread Cert.AdHnIdeal.nD Cert.AdHnIdeal.τ).loc Cert.AdHnIdeal.main_v0_2) = v2 c
          ∧ r.2.mem ((c.tc : Thread Cert.AdHnIdeal.nD Cert.AdHnIdeal.τ).loc Cert.AdHnIdeal.main_arg0) = m ((c.tc : Thread Cert.AdHnIdeal.nD Cert.AdHnIdeal.τ).loc Cert.AdHnIdeal.main_arg0)
          ∧ r.2.mem ((c.tc : Thread Cert.AdHnIdeal.nD Cert.AdHnIdeal.τ).loc Cert.AdHnIdeal.main_arg1) = m ((c.tc : Thread Cert.AdHnIdeal.nD Cert.AdHnIdeal.τ).loc Cert.AdHnIdeal.main_arg1)
          ∧ r.2.mem ((c.tc : Thread Cert.AdHnIdeal.nD Cert.AdHnIdeal.τ).loc Cert.AdHnIdeal.main_arg2) = m ((c.tc : Thread Cert.AdHnIdeal.nD Cert.AdHnIdeal.τ).loc Cert.AdHnIdeal.main_arg2)
          ∧ r.2.mem ((c.tc : Thread Cert.AdHnIdeal.nD Cert.AdHnIdeal.τ).loc Cert.AdHnIdeal.main_arg3) = m ((c.tc : Thread Cert.AdHnIdeal.nD Cert.AdHnIdeal.τ).loc Cert.AdHnIdeal.main_arg3))
      ∧ θ_run (Cert.RefAdHnIdeal.defs (F := Ideal)) (onTc (τ := Cert.RefAdHnIdeal.τ) (Cert.RefAdHnIdeal.main (F := Ideal))) ⟨m', fun _ => 0, g'⟩ (fun r => ∀ c : Dev Cert.RefAdHnIdeal.nD,
          r.2.mem ((c.tc : Thread Cert.RefAdHnIdeal.nD Cert.RefAdHnIdeal.τ).loc Cert.RefAdHnIdeal.main_v23) = v0 c
          ∧ r.2.mem ((c.tc : Thread Cert.RefAdHnIdeal.nD Cert.RefAdHnIdeal.τ).loc Cert.RefAdHnIdeal.main_v4) = v1 c
          ∧ r.2.mem ((c.tc : Thread Cert.RefAdHnIdeal.nD Cert.RefAdHnIdeal.τ).loc Cert.RefAdHnIdeal.main_v10) = v2 c
          ∧ r.2.mem ((c.tc : Thread Cert.RefAdHnIdeal.nD Cert.RefAdHnIdeal.τ).loc Cert.RefAdHnIdeal.main_arg0) = m' ((c.tc : Thread Cert.RefAdHnIdeal.nD Cert.RefAdHnIdeal.τ).loc Cert.RefAdHnIdeal.main_arg0)
          ∧ r.2.mem ((c.tc : Thread Cert.RefAdHnIdeal.nD Cert.RefAdHnIdeal.τ).loc Cert.RefAdHnIdeal.main_arg1) = m' ((c.tc : Thread Cert.RefAdHnIdeal.nD Cert.RefAdHnIdeal.τ).loc Cert.RefAdHnIdeal.main_arg1)
          ∧ r.2.mem ((c.tc : Thread Cert.RefAdHnIdeal.nD Cert.RefAdHnIdeal.τ).loc Cert.RefAdHnIdeal.main_arg2) = m' ((c.tc : Thread Cert.RefAdHnIdeal.nD Cert.RefAdHnIdeal.τ).loc Cert.RefAdHnIdeal.main_arg2)
          ∧ r.2.mem ((c.tc : Thread Cert.RefAdHnIdeal.nD Cert.RefAdHnIdeal.τ).loc Cert.RefAdHnIdeal.main_arg3) = m' ((c.tc : Thread Cert.RefAdHnIdeal.nD Cert.RefAdHnIdeal.τ).loc Cert.RefAdHnIdeal.main_arg3))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v19) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2))

def preserves_AdaFwd_AdaFwdIdeal : Prop :=
  True

def algebraic_AdaFwdIdeal_RefAdaFwdIdeal [hAdaFwdIdeal : Cert.AdaFwdIdeal.Facts] [hRefAdaFwdIdeal : Cert.RefAdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.RefAdaFwdIdeal.nD Cert.RefAdaFwdIdeal.τ Cert.RefAdaFwdIdeal.sig) → Buf (Elt Ideal) ℓ) (g' : Dev Cert.RefAdaFwdIdeal.nD → PrngReg), Pre_AdaFwdIdeal m →
    (∀ c : Dev Cert.AdaFwdIdeal.nD,
      m' ((c.tc : Thread Cert.RefAdaFwdIdeal.nD Cert.RefAdaFwdIdeal.τ).loc Cert.RefAdaFwdIdeal.main_arg0) = m ((c.tc : Thread Cert.AdaFwdIdeal.nD Cert.AdaFwdIdeal.τ).loc Cert.AdaFwdIdeal.main_arg0)
      ∧ m' ((c.tc : Thread Cert.RefAdaFwdIdeal.nD Cert.RefAdaFwdIdeal.τ).loc Cert.RefAdaFwdIdeal.main_arg1) = m ((c.tc : Thread Cert.AdaFwdIdeal.nD Cert.AdaFwdIdeal.τ).loc Cert.AdaFwdIdeal.main_arg1)
      ∧ m' ((c.tc : Thread Cert.RefAdaFwdIdeal.nD Cert.RefAdaFwdIdeal.τ).loc Cert.RefAdaFwdIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.RefAdaFwdIdeal.defs (F := Ideal)) (onTc (τ := Cert.RefAdaFwdIdeal.τ) (Cert.RefAdaFwdIdeal.main (F := Ideal))) ⟨m', fun _ => 0, g'⟩ (fun r => ∀ c : Dev Cert.RefAdaFwdIdeal.nD,
          r.2.mem ((c.tc : Thread Cert.RefAdaFwdIdeal.nD Cert.RefAdaFwdIdeal.τ).loc Cert.RefAdaFwdIdeal.main_v3) = v0 c
          ∧ r.2.mem ((c.tc : Thread Cert.RefAdaFwdIdeal.nD Cert.RefAdaFwdIdeal.τ).loc Cert.RefAdaFwdIdeal.main_arg0) = m' ((c.tc : Thread Cert.RefAdaFwdIdeal.nD Cert.RefAdaFwdIdeal.τ).loc Cert.RefAdaFwdIdeal.main_arg0)
          ∧ r.2.mem ((c.tc : Thread Cert.RefAdaFwdIdeal.nD Cert.RefAdaFwdIdeal.τ).loc Cert.RefAdaFwdIdeal.main_arg1) = m' ((c.tc : Thread Cert.RefAdaFwdIdeal.nD Cert.RefAdaFwdIdeal.τ).loc Cert.RefAdaFwdIdeal.main_arg1)
          ∧ r.2.mem ((c.tc : Thread Cert.RefAdaFwdIdeal.nD Cert.RefAdaFwdIdeal.τ).loc Cert.RefAdaFwdIdeal.main_arg2) = m' ((c.tc : Thread Cert.RefAdaFwdIdeal.nD Cert.RefAdaFwdIdeal.τ).loc Cert.RefAdaFwdIdeal.main_arg2))

def preserves_AdaBwd_AdaBwdIdeal : Prop :=
  True

def algebraic_AdaBwdIdeal_RefAdaBwdIdeal [hAdaBwdIdeal : Cert.AdaBwdIdeal.Facts] [hRefAdaBwdIdeal : Cert.RefAdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.RefAdaBwdIdeal.nD Cert.RefAdaBwdIdeal.τ Cert.RefAdaBwdIdeal.sig) → Buf (Elt Ideal) ℓ) (g' : Dev Cert.RefAdaBwdIdeal.nD → PrngReg), Pre_AdaBwdIdeal m →
    (∀ c : Dev Cert.AdaBwdIdeal.nD,
      m' ((c.tc : Thread Cert.RefAdaBwdIdeal.nD Cert.RefAdaBwdIdeal.τ).loc Cert.RefAdaBwdIdeal.main_arg0) = m ((c.tc : Thread Cert.AdaBwdIdeal.nD Cert.AdaBwdIdeal.τ).loc Cert.AdaBwdIdeal.main_arg0)
      ∧ m' ((c.tc : Thread Cert.RefAdaBwdIdeal.nD Cert.RefAdaBwdIdeal.τ).loc Cert.RefAdaBwdIdeal.main_arg1) = m ((c.tc : Thread Cert.AdaBwdIdeal.nD Cert.AdaBwdIdeal.τ).loc Cert.AdaBwdIdeal.main_arg1)
      ∧ m' ((c.tc : Thread Cert.RefAdaBwdIdeal.nD Cert.RefAdaBwdIdeal.τ).loc Cert.RefAdaBwdIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.RefAdaBwdIdeal.defs (F := Ideal)) (onTc (τ := Cert.RefAdaBwdIdeal.τ) (Cert.RefAdaBwdIdeal.main (F := Ideal))) ⟨m', fun _ => 0, g'⟩ (fun r => ∀ c : Dev Cert.RefAdaBwdIdeal.nD,
          r.2.mem ((c.tc : Thread Cert.RefAdaBwdIdeal.nD Cert.RefAdaBwdIdeal.τ).loc Cert.RefAdaBwdIdeal.main_v3) = v0 c
          ∧ r.2.mem ((c.tc : Thread Cert.RefAdaBwdIdeal.nD Cert.RefAdaBwdIdeal.τ).loc Cert.RefAdaBwdIdeal.main_v4) = v1 c
          ∧ r.2.mem ((c.tc : Thread Cert.RefAdaBwdIdeal.nD Cert.RefAdaBwdIdeal.τ).loc Cert.RefAdaBwdIdeal.main_arg0) = m' ((c.tc : Thread Cert.RefAdaBwdIdeal.nD Cert.RefAdaBwdIdeal.τ).loc Cert.RefAdaBwdIdeal.main_arg0)
          ∧ r.2.mem ((c.tc : Thread Cert.RefAdaBwdIdeal.nD Cert.RefAdaBwdIdeal.τ).loc Cert.RefAdaBwdIdeal.main_arg1) = m' ((c.tc : Thread Cert.RefAdaBwdIdeal.nD Cert.RefAdaBwdIdeal.τ).loc Cert.RefAdaBwdIdeal.main_arg1)
          ∧ r.2.mem ((c.tc : Thread Cert.RefAdaBwdIdeal.nD Cert.RefAdaBwdIdeal.τ).loc Cert.RefAdaBwdIdeal.main_arg2) = m' ((c.tc : Thread Cert.RefAdaBwdIdeal.nD Cert.RefAdaBwdIdeal.τ).loc Cert.RefAdaBwdIdeal.main_arg2))

def preserves_Sum8_Sum8Ideal : Prop :=
  True

def algebraic_Sum8Ideal_RefSum8Ideal [hSum8Ideal : Cert.Sum8Ideal.Facts] [hRefSum8Ideal : Cert.RefSum8Ideal.Facts] : Prop :=
  ∀ (m : (ℓ : Loc Cert.Sum8Ideal.nD Cert.Sum8Ideal.τ Cert.Sum8Ideal.sig) → Buf (Elt Ideal) ℓ) (g : Dev Cert.Sum8Ideal.nD → PrngReg)
    (m' : (ℓ : Loc Cert.RefSum8Ideal.nD Cert.RefSum8Ideal.τ Cert.RefSum8Ideal.sig) → Buf (Elt Ideal) ℓ) (g' : Dev Cert.RefSum8Ideal.nD → PrngReg), Pre_Sum8Ideal m →
    (∀ c : Dev Cert.Sum8Ideal.nD,
      m' ((c.tc : Thread Cert.RefSum8Ideal.nD Cert.RefSum8Ideal.τ).loc Cert.RefSum8Ideal.main_arg0) = m ((c.tc : Thread Cert.Sum8Ideal.nD Cert.Sum8Ideal.τ).loc Cert.Sum8Ideal.main_arg0)) →
    ∃ (v0 : (c : Dev Cert.Sum8Ideal.nD) → Buf (Elt Ideal) ((c.tc : Thread Cert.Sum8Ideal.nD Cert.Sum8Ideal.τ).loc Cert.Sum8Ideal.main_v0)),
      θ_run (Cert.Sum8Ideal.defs (F := Ideal)) (onTc (τ := Cert.Sum8Ideal.τ) (Cert.Sum8Ideal.main (F := Ideal))) ⟨m, fun _ => 0, g⟩ (fun r => ∀ c : Dev Cert.Sum8Ideal.nD,
          r.2.mem ((c.tc : Thread Cert.Sum8Ideal.nD Cert.Sum8Ideal.τ).loc Cert.Sum8Ideal.main_v0) = v0 c
          ∧ r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ θ_run (Cert.RefSum8Ideal.defs (F := Ideal)) (onTc (τ := Cert.RefSum8Ideal.τ) (Cert.RefSum8Ideal.main (F := Ideal))) ⟨m', fun _ => 0, g'⟩ (fun r => ∀ c : Dev Cert.RefSum8Ideal.nD,
          r.2.mem ((c.tc : Thread Cert.RefSum8Ideal.nD Cert.RefSum8Ideal.τ).loc Cert.RefSum8Ideal.main_v0) = v0 c
          ∧ r.2.mem ((c.tc : Thread Cert.RefSum8Ideal.nD Cert.RefSum8Ideal.τ).loc Cert.RefSum8Ideal.main_arg0) = m' ((c.tc : Thread Cert.RefSum8Ideal.nD Cert.RefSum8Ideal.τ).loc Cert.RefSum8Ideal.main_arg0))

def preserves_Ln1_Ln1Ideal : Prop :=
  True

def algebraic_Ln1Ideal_RefLn1Ideal [hLn1Ideal : Cert.Ln1Ideal.Facts] [hRefLn1Ideal : Cert.RefLn1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.RefLn1Ideal.nD Cert.RefLn1Ideal.τ Cert.RefLn1Ideal.sig) → Buf (Elt Ideal) ℓ) (g' : Dev Cert.RefLn1Ideal.nD → PrngReg), Pre_Ln1Ideal m →
    (∀ c : Dev Cert.Ln1Ideal.nD,
      m' ((c.tc : Thread Cert.RefLn1Ideal.nD Cert.RefLn1Ideal.τ).loc Cert.RefLn1Ideal.main_arg0) = m ((c.tc : Thread Cert.Ln1Ideal.nD Cert.Ln1Ideal.τ).loc Cert.Ln1Ideal.main_arg0)
      ∧ m' ((c.tc : Thread Cert.RefLn1Ideal.nD Cert.RefLn1Ideal.τ).loc Cert.RefLn1Ideal.main_arg1) = m ((c.tc : Thread Cert.Ln1Ideal.nD Cert.Ln1Ideal.τ).loc Cert.Ln1Ideal.main_arg1)
      ∧ m' ((c.tc : Thread Cert.RefLn1Ideal.nD Cert.RefLn1Ideal.τ).loc Cert.RefLn1Ideal.main_arg2) = m ((c.tc : Thread Cert.Ln1Ideal.nD Cert.Ln1Ideal.τ).loc Cert.Ln1Ideal.main_arg2)
      ∧ m' ((c.tc : Thread Cert.RefLn1Ideal.nD Cert.RefLn1Ideal.τ).loc Cert.RefLn1Ideal.main_arg3) = m ((c.tc : Thread Cert.Ln1Ideal.nD Cert.Ln1Ideal.τ).loc Cert.Ln1Ideal.main_arg3)
      ∧ m' ((c.tc : Thread Cert.RefLn1Ideal.nD Cert.RefLn1Ideal.τ).loc Cert.RefLn1Ideal.main_arg4) = m ((c.tc : Thread Cert.Ln1Ideal.nD Cert.Ln1Ideal.τ).loc Cert.Ln1Ideal.main_arg4)) →
    ∃ (v0 : (c : Dev Cert.Ln1Ideal.nD) → Buf (Elt Ideal) ((c.tc : Thread Cert.Ln1Ideal.nD Cert.Ln1Ideal.τ).loc Cert.Ln1Ideal.main_v0_0)) (v1 : (c : Dev Cert.Ln1Ideal.nD) → Buf (Elt Ideal) ((c.tc : Thread Cert.Ln1Ideal.nD Cert.Ln1Ideal.τ).loc Cert.Ln1Ideal.main_v0_1)) (v2 : (c : Dev Cert.Ln1Ideal.nD) → Buf (Elt Ideal) ((c.tc : Thread Cert.Ln1Ideal.nD Cert.Ln1Ideal.τ).loc Cert.Ln1Ideal.main_v0_2)) (v3 : (c : Dev Cert.Ln1Ideal.nD) → Buf (Elt Ideal) ((c.tc : Thread Cert.Ln1Ideal.nD Cert.Ln1Ideal.τ).loc Cert.Ln1Ideal.main_v0_3)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v0_0) = v0 c
          ∧ r.2.mem ((c.tc : Thread Cert.Ln1Ideal.nD Cert.Ln1Ideal.τ).loc Cert.Ln1Ideal.main_v0_1) = v1 c
          ∧ r.2.mem ((c.tc : Thread Cert.Ln1Ideal.nD Cert.Ln1Ideal.τ).loc Cert.Ln1Ideal.main_v0_2) = v2 c
          ∧ r.2.mem ((c.tc : Thread Cert.Ln1Ideal.nD Cert.Ln1Ideal.τ).loc Cert.Ln1Ideal.main_v0_3) = v3 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
          ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4))
      ∧ θ_run (Cert.RefLn1Ideal.defs (F := Ideal)) (onTc (τ := Cert.RefLn1Ideal.τ) (Cert.RefLn1Ideal.main (F := Ideal))) ⟨m', fun _ => 0, g'⟩ (fun r => ∀ c : Dev Cert.RefLn1Ideal.nD,
          r.2.mem ((c.tc : Thread Cert.RefLn1Ideal.nD Cert.RefLn1Ideal.τ).loc Cert.RefLn1Ideal.main_v50) = v0 c
          ∧ r.2.mem ((c.tc : Thread Cert.RefLn1Ideal.nD Cert.RefLn1Ideal.τ).loc Cert.RefLn1Ideal.main_v25) = v1 c
          ∧ r.2.mem ((c.tc : Thread Cert.RefLn1Ideal.nD Cert.RefLn1Ideal.τ).loc Cert.RefLn1Ideal.main_v28) = v2 c
          ∧ r.2.mem ((c.tc : Thread Cert.RefLn1Ideal.nD Cert.RefLn1Ideal.τ).loc Cert.RefLn1Ideal.main_v33) = v3 c
          ∧ r.2.mem ((c.tc : Thread Cert.RefLn1Ideal.nD Cert.RefLn1Ideal.τ).loc Cert.RefLn1Ideal.main_arg0) = m' ((c.tc : Thread Cert.RefLn1Ideal.nD Cert.RefLn1Ideal.τ).loc Cert.RefLn1Ideal.main_arg0)
          ∧ r.2.mem ((c.tc : Thread Cert.RefLn1Ideal.nD Cert.RefLn1Ideal.τ).loc Cert.RefLn1Ideal.main_arg1) = m' ((c.tc : Thread Cert.RefLn1Ideal.nD Cert.RefLn1Ideal.τ).loc Cert.RefLn1Ideal.main_arg1)
          ∧ r.2.mem ((c.tc : Thread Cert.RefLn1Ideal.nD Cert.RefLn1Ideal.τ).loc Cert.RefLn1Ideal.main_arg2) = m' ((c.tc : Thread Cert.RefLn1Ideal.nD Cert.RefLn1Ideal.τ).loc Cert.RefLn1Ideal.main_arg2)
          ∧ r.2.mem ((c.tc : Thread Cert.RefLn1Ideal.nD Cert.RefLn1Ideal.τ).loc Cert.RefLn1Ideal.main_arg3) = m' ((c.tc : Thread Cert.RefLn1Ideal.nD Cert.RefLn1Ideal.τ).loc Cert.RefLn1Ideal.main_arg3)
          ∧ r.2.mem ((c.tc : Thread Cert.RefLn1Ideal.nD Cert.RefLn1Ideal.τ).loc Cert.RefLn1Ideal.main_arg4) = m' ((c.tc : Thread Cert.RefLn1Ideal.nD Cert.RefLn1Ideal.τ).loc Cert.RefLn1Ideal.main_arg4))

def Claim : Prop :=
  ∃ (hKernel : Cert.Kernel.Facts) (hKernelIdeal : Cert.KernelIdeal.Facts) (hReferenceIdeal : Cert.ReferenceIdeal.Facts) (hFfnOut : Cert.FfnOut.Facts) (hFfnOutIdeal : Cert.FfnOutIdeal.Facts) (hRefFfnOutIdeal : Cert.RefFfnOutIdeal.Facts) (hDH2 : Cert.DH2.Facts) (hDH2Ideal : Cert.DH2Ideal.Facts) (hRefDH2Ideal : Cert.RefDH2Ideal.Facts) (hDwFfnIn : Cert.DwFfnIn.Facts) (hDwFfnInIdeal : Cert.DwFfnInIdeal.Facts) (hRefDwFfnInIdeal : Cert.RefDwFfnInIdeal.Facts) (hDwFfnOut : Cert.DwFfnOut.Facts) (hDwFfnOutIdeal : Cert.DwFfnOutIdeal.Facts) (hRefDwFfnOutIdeal : Cert.RefDwFfnOutIdeal.Facts) (hFfnIn : Cert.FfnIn.Facts) (hFfnInIdeal : Cert.FfnInIdeal.Facts) (hRefFfnInIdeal : Cert.RefFfnInIdeal.Facts) (hProjP : Cert.ProjP.Facts) (hProjPIdeal : Cert.ProjPIdeal.Facts) (hRefProjPIdeal : Cert.RefProjPIdeal.Facts) (hProjOut : Cert.ProjOut.Facts) (hProjOutIdeal : Cert.ProjOutIdeal.Facts) (hRefProjOutIdeal : Cert.RefProjOutIdeal.Facts) (hDwOut : Cert.DwOut.Facts) (hDwOutIdeal : Cert.DwOutIdeal.Facts) (hRefDwOutIdeal : Cert.RefDwOutIdeal.Facts) (hDOna : Cert.DOna.Facts) (hDOnaIdeal : Cert.DOnaIdeal.Facts) (hRefDOnaIdeal : Cert.RefDOnaIdeal.Facts) (hDOb : Cert.DOb.Facts) (hDObIdeal : Cert.DObIdeal.Facts) (hRefDObIdeal : Cert.RefDObIdeal.Facts) (hDwP : Cert.DwP.Facts) (hDwPIdeal : Cert.DwPIdeal.Facts) (hRefDwPIdeal : Cert.RefDwPIdeal.Facts) (hDSw : Cert.DSw.Facts) (hDSwIdeal : Cert.DSwIdeal.Facts) (hRefDSwIdeal : Cert.RefDSwIdeal.Facts) (hDY : Cert.DY.Facts) (hDYIdeal : Cert.DYIdeal.Facts) (hRefDYIdeal : Cert.RefDYIdeal.Facts) (hAdIn : Cert.AdIn.Facts) (hAdInIdeal : Cert.AdInIdeal.Facts) (hRefAdInIdeal : Cert.RefAdInIdeal.Facts) (hAdFi : Cert.AdFi.Facts) (hAdFiIdeal : Cert.AdFiIdeal.Facts) (hRefAdFiIdeal : Cert.RefAdFiIdeal.Facts) (hAdFo : Cert.AdFo.Facts) (hAdFoIdeal : Cert.AdFoIdeal.Facts) (hRefAdFoIdeal : Cert.RefAdFoIdeal.Facts) (hAdP : Cert.AdP.Facts) (hAdPIdeal : Cert.AdPIdeal.Facts) (hRefAdPIdeal : Cert.RefAdPIdeal.Facts) (hAdOut : Cert.AdOut.Facts) (hAdOutIdeal : Cert.AdOutIdeal.Facts) (hRefAdOutIdeal : Cert.RefAdOutIdeal.Facts) (hAdRow : Cert.AdRow.Facts) (hAdRowIdeal : Cert.AdRowIdeal.Facts) (hRefAdRowIdeal : Cert.RefAdRowIdeal.Facts) (hAdB : Cert.AdB.Facts) (hAdBIdeal : Cert.AdBIdeal.Facts) (hRefAdBIdeal : Cert.RefAdBIdeal.Facts) (hAdRpb : Cert.AdRpb.Facts) (hAdRpbIdeal : Cert.AdRpbIdeal.Facts) (hRefAdRpbIdeal : Cert.RefAdRpbIdeal.Facts) (hAdLb : Cert.AdLb.Facts) (hAdLbIdeal : Cert.AdLbIdeal.Facts) (hRefAdLbIdeal : Cert.RefAdLbIdeal.Facts) (hAdHn : Cert.AdHn.Facts) (hAdHnIdeal : Cert.AdHnIdeal.Facts) (hRefAdHnIdeal : Cert.RefAdHnIdeal.Facts) (hMerge : Cert.Merge.Facts) (hMergeIdeal : Cert.MergeIdeal.Facts) (hRefMergeIdeal : Cert.RefMergeIdeal.Facts) (hAdaFwd : Cert.AdaFwd.Facts) (hAdaFwdIdeal : Cert.AdaFwdIdeal.Facts) (hRefAdaFwdIdeal : Cert.RefAdaFwdIdeal.Facts) (hAdaBwd : Cert.AdaBwd.Facts) (hAdaBwdIdeal : Cert.AdaBwdIdeal.Facts) (hRefAdaBwdIdeal : Cert.RefAdaBwdIdeal.Facts) (hSum8 : Cert.Sum8.Facts) (hSum8Ideal : Cert.Sum8Ideal.Facts) (hRefSum8Ideal : Cert.RefSum8Ideal.Facts) (hLn1 : Cert.Ln1.Facts) (hLn1Ideal : Cert.Ln1Ideal.Facts) (hRefLn1Ideal : Cert.RefLn1Ideal.Facts) (hPre_gates_in_range : Cert.Pre_gates_in_range.Facts) (hPre_factors_finite : Cert.Pre_factors_finite.Facts),
    quiescent_Kernel (hKernel := hKernel)
    ∧ quiescent_KernelIdeal (hKernelIdeal := hKernelIdeal)
    ∧ quiescent_KernelIdeal_pre_gates_in_range (hKernelIdeal := hKernelIdeal) (hPre_gates_in_range := hPre_gates_in_range)
    ∧ quiescent_ReferenceIdeal (hReferenceIdeal := hReferenceIdeal)
    ∧ quiescent_ReferenceIdeal_pre_gates_in_range (hReferenceIdeal := hReferenceIdeal) (hPre_gates_in_range := hPre_gates_in_range)
    ∧ quiescent_FfnOut (hFfnOut := hFfnOut)
    ∧ quiescent_FfnOutIdeal (hFfnOutIdeal := hFfnOutIdeal)
    ∧ quiescent_RefFfnOutIdeal (hRefFfnOutIdeal := hRefFfnOutIdeal)
    ∧ quiescent_DH2 (hDH2 := hDH2)
    ∧ quiescent_DH2Ideal (hDH2Ideal := hDH2Ideal)
    ∧ quiescent_RefDH2Ideal (hRefDH2Ideal := hRefDH2Ideal)
    ∧ quiescent_DwFfnIn (hDwFfnIn := hDwFfnIn)
    ∧ quiescent_DwFfnInIdeal (hDwFfnInIdeal := hDwFfnInIdeal)
    ∧ quiescent_RefDwFfnInIdeal (hRefDwFfnInIdeal := hRefDwFfnInIdeal)
    ∧ quiescent_DwFfnOut (hDwFfnOut := hDwFfnOut)
    ∧ quiescent_DwFfnOutIdeal (hDwFfnOutIdeal := hDwFfnOutIdeal)
    ∧ quiescent_RefDwFfnOutIdeal (hRefDwFfnOutIdeal := hRefDwFfnOutIdeal)
    ∧ quiescent_FfnIn (hFfnIn := hFfnIn)
    ∧ quiescent_FfnInIdeal (hFfnInIdeal := hFfnInIdeal)
    ∧ quiescent_RefFfnInIdeal (hRefFfnInIdeal := hRefFfnInIdeal)
    ∧ quiescent_ProjP (hProjP := hProjP)
    ∧ quiescent_ProjPIdeal (hProjPIdeal := hProjPIdeal)
    ∧ quiescent_RefProjPIdeal (hRefProjPIdeal := hRefProjPIdeal)
    ∧ quiescent_ProjOut (hProjOut := hProjOut)
    ∧ quiescent_ProjOutIdeal (hProjOutIdeal := hProjOutIdeal)
    ∧ quiescent_RefProjOutIdeal (hRefProjOutIdeal := hRefProjOutIdeal)
    ∧ quiescent_DwOut (hDwOut := hDwOut)
    ∧ quiescent_DwOutIdeal (hDwOutIdeal := hDwOutIdeal)
    ∧ quiescent_RefDwOutIdeal (hRefDwOutIdeal := hRefDwOutIdeal)
    ∧ quiescent_DOna (hDOna := hDOna)
    ∧ quiescent_DOnaIdeal (hDOnaIdeal := hDOnaIdeal)
    ∧ quiescent_RefDOnaIdeal (hRefDOnaIdeal := hRefDOnaIdeal)
    ∧ quiescent_DOb (hDOb := hDOb)
    ∧ quiescent_DObIdeal (hDObIdeal := hDObIdeal)
    ∧ quiescent_RefDObIdeal (hRefDObIdeal := hRefDObIdeal)
    ∧ quiescent_DwP (hDwP := hDwP)
    ∧ quiescent_DwPIdeal (hDwPIdeal := hDwPIdeal)
    ∧ quiescent_RefDwPIdeal (hRefDwPIdeal := hRefDwPIdeal)
    ∧ quiescent_DSw (hDSw := hDSw)
    ∧ quiescent_DSwIdeal (hDSwIdeal := hDSwIdeal)
    ∧ quiescent_DSwIdeal_pre_factors_finite (hDSwIdeal := hDSwIdeal) (hPre_factors_finite := hPre_factors_finite)
    ∧ quiescent_RefDSwIdeal (hRefDSwIdeal := hRefDSwIdeal)
    ∧ quiescent_RefDSwIdeal_pre_factors_finite (hRefDSwIdeal := hRefDSwIdeal) (hPre_factors_finite := hPre_factors_finite)
    ∧ quiescent_DY (hDY := hDY)
    ∧ quiescent_DYIdeal (hDYIdeal := hDYIdeal)
    ∧ quiescent_RefDYIdeal (hRefDYIdeal := hRefDYIdeal)
    ∧ quiescent_AdIn (hAdIn := hAdIn)
    ∧ quiescent_AdInIdeal (hAdInIdeal := hAdInIdeal)
    ∧ quiescent_RefAdInIdeal (hRefAdInIdeal := hRefAdInIdeal)
    ∧ quiescent_AdFi (hAdFi := hAdFi)
    ∧ quiescent_AdFiIdeal (hAdFiIdeal := hAdFiIdeal)
    ∧ quiescent_RefAdFiIdeal (hRefAdFiIdeal := hRefAdFiIdeal)
    ∧ quiescent_AdFo (hAdFo := hAdFo)
    ∧ quiescent_AdFoIdeal (hAdFoIdeal := hAdFoIdeal)
    ∧ quiescent_RefAdFoIdeal (hRefAdFoIdeal := hRefAdFoIdeal)
    ∧ quiescent_AdP (hAdP := hAdP)
    ∧ quiescent_AdPIdeal (hAdPIdeal := hAdPIdeal)
    ∧ quiescent_RefAdPIdeal (hRefAdPIdeal := hRefAdPIdeal)
    ∧ quiescent_AdOut (hAdOut := hAdOut)
    ∧ quiescent_AdOutIdeal (hAdOutIdeal := hAdOutIdeal)
    ∧ quiescent_RefAdOutIdeal (hRefAdOutIdeal := hRefAdOutIdeal)
    ∧ quiescent_AdRow (hAdRow := hAdRow)
    ∧ quiescent_AdRowIdeal (hAdRowIdeal := hAdRowIdeal)
    ∧ quiescent_RefAdRowIdeal (hRefAdRowIdeal := hRefAdRowIdeal)
    ∧ quiescent_AdB (hAdB := hAdB)
    ∧ quiescent_AdBIdeal (hAdBIdeal := hAdBIdeal)
    ∧ quiescent_RefAdBIdeal (hRefAdBIdeal := hRefAdBIdeal)
    ∧ quiescent_AdRpb (hAdRpb := hAdRpb)
    ∧ quiescent_AdRpbIdeal (hAdRpbIdeal := hAdRpbIdeal)
    ∧ quiescent_RefAdRpbIdeal (hRefAdRpbIdeal := hRefAdRpbIdeal)
    ∧ quiescent_AdLb (hAdLb := hAdLb)
    ∧ quiescent_AdLbIdeal (hAdLbIdeal := hAdLbIdeal)
    ∧ quiescent_RefAdLbIdeal (hRefAdLbIdeal := hRefAdLbIdeal)
    ∧ quiescent_AdHn (hAdHn := hAdHn)
    ∧ quiescent_AdHnIdeal (hAdHnIdeal := hAdHnIdeal)
    ∧ quiescent_RefAdHnIdeal (hRefAdHnIdeal := hRefAdHnIdeal)
    ∧ quiescent_Merge (hMerge := hMerge)
    ∧ quiescent_MergeIdeal (hMergeIdeal := hMergeIdeal)
    ∧ quiescent_RefMergeIdeal (hRefMergeIdeal := hRefMergeIdeal)
    ∧ quiescent_AdaFwd (hAdaFwd := hAdaFwd)
    ∧ quiescent_AdaFwdIdeal (hAdaFwdIdeal := hAdaFwdIdeal)
    ∧ quiescent_RefAdaFwdIdeal (hRefAdaFwdIdeal := hRefAdaFwdIdeal)
    ∧ quiescent_AdaBwd (hAdaBwd := hAdaBwd)
    ∧ quiescent_AdaBwdIdeal (hAdaBwdIdeal := hAdaBwdIdeal)
    ∧ quiescent_RefAdaBwdIdeal (hRefAdaBwdIdeal := hRefAdaBwdIdeal)
    ∧ quiescent_Sum8 (hSum8 := hSum8)
    ∧ quiescent_Sum8Ideal (hSum8Ideal := hSum8Ideal)
    ∧ quiescent_RefSum8Ideal (hRefSum8Ideal := hRefSum8Ideal)
    ∧ quiescent_Ln1 (hLn1 := hLn1)
    ∧ quiescent_Ln1Ideal (hLn1Ideal := hLn1Ideal)
    ∧ quiescent_RefLn1Ideal (hRefLn1Ideal := hRefLn1Ideal)
    ∧ preserves_Kernel_KernelIdeal
    ∧ algebraic_KernelIdeal_ReferenceIdeal_pre_gates_in_range (hKernelIdeal := hKernelIdeal) (hReferenceIdeal := hReferenceIdeal) (hPre_gates_in_range := hPre_gates_in_range)
    ∧ preserves_FfnOut_FfnOutIdeal
    ∧ algebraic_FfnOutIdeal_RefFfnOutIdeal (hFfnOutIdeal := hFfnOutIdeal) (hRefFfnOutIdeal := hRefFfnOutIdeal)
    ∧ preserves_DH2_DH2Ideal
    ∧ algebraic_DH2Ideal_RefDH2Ideal (hDH2Ideal := hDH2Ideal) (hRefDH2Ideal := hRefDH2Ideal)
    ∧ preserves_DwFfnIn_DwFfnInIdeal
    ∧ algebraic_DwFfnInIdeal_RefDwFfnInIdeal (hDwFfnInIdeal := hDwFfnInIdeal) (hRefDwFfnInIdeal := hRefDwFfnInIdeal)
    ∧ preserves_DwFfnOut_DwFfnOutIdeal
    ∧ algebraic_DwFfnOutIdeal_RefDwFfnOutIdeal (hDwFfnOutIdeal := hDwFfnOutIdeal) (hRefDwFfnOutIdeal := hRefDwFfnOutIdeal)
    ∧ preserves_FfnIn_FfnInIdeal
    ∧ algebraic_FfnInIdeal_RefFfnInIdeal (hFfnInIdeal := hFfnInIdeal) (hRefFfnInIdeal := hRefFfnInIdeal)
    ∧ preserves_ProjP_ProjPIdeal
    ∧ algebraic_ProjPIdeal_RefProjPIdeal (hProjPIdeal := hProjPIdeal) (hRefProjPIdeal := hRefProjPIdeal)
    ∧ preserves_ProjOut_ProjOutIdeal
    ∧ algebraic_ProjOutIdeal_RefProjOutIdeal (hProjOutIdeal := hProjOutIdeal) (hRefProjOutIdeal := hRefProjOutIdeal)
    ∧ preserves_DwOut_DwOutIdeal
    ∧ algebraic_DwOutIdeal_RefDwOutIdeal (hDwOutIdeal := hDwOutIdeal) (hRefDwOutIdeal := hRefDwOutIdeal)
    ∧ preserves_DOna_DOnaIdeal
    ∧ algebraic_DOnaIdeal_RefDOnaIdeal (hDOnaIdeal := hDOnaIdeal) (hRefDOnaIdeal := hRefDOnaIdeal)
    ∧ preserves_DOb_DObIdeal
    ∧ algebraic_DObIdeal_RefDObIdeal (hDObIdeal := hDObIdeal) (hRefDObIdeal := hRefDObIdeal)
    ∧ preserves_DwP_DwPIdeal
    ∧ algebraic_DwPIdeal_RefDwPIdeal (hDwPIdeal := hDwPIdeal) (hRefDwPIdeal := hRefDwPIdeal)
    ∧ preserves_DSw_DSwIdeal
    ∧ algebraic_DSwIdeal_RefDSwIdeal_pre_factors_finite (hDSwIdeal := hDSwIdeal) (hRefDSwIdeal := hRefDSwIdeal) (hPre_factors_finite := hPre_factors_finite)
    ∧ preserves_DY_DYIdeal
    ∧ algebraic_DYIdeal_RefDYIdeal (hDYIdeal := hDYIdeal) (hRefDYIdeal := hRefDYIdeal)
    ∧ preserves_AdIn_AdInIdeal
    ∧ algebraic_AdInIdeal_RefAdInIdeal (hAdInIdeal := hAdInIdeal) (hRefAdInIdeal := hRefAdInIdeal)
    ∧ preserves_AdFi_AdFiIdeal
    ∧ algebraic_AdFiIdeal_RefAdFiIdeal (hAdFiIdeal := hAdFiIdeal) (hRefAdFiIdeal := hRefAdFiIdeal)
    ∧ preserves_AdFo_AdFoIdeal
    ∧ algebraic_AdFoIdeal_RefAdFoIdeal (hAdFoIdeal := hAdFoIdeal) (hRefAdFoIdeal := hRefAdFoIdeal)
    ∧ preserves_AdP_AdPIdeal
    ∧ algebraic_AdPIdeal_RefAdPIdeal (hAdPIdeal := hAdPIdeal) (hRefAdPIdeal := hRefAdPIdeal)
    ∧ preserves_AdOut_AdOutIdeal
    ∧ algebraic_AdOutIdeal_RefAdOutIdeal (hAdOutIdeal := hAdOutIdeal) (hRefAdOutIdeal := hRefAdOutIdeal)
    ∧ preserves_AdRow_AdRowIdeal
    ∧ algebraic_AdRowIdeal_RefAdRowIdeal (hAdRowIdeal := hAdRowIdeal) (hRefAdRowIdeal := hRefAdRowIdeal)
    ∧ preserves_AdB_AdBIdeal
    ∧ algebraic_AdBIdeal_RefAdBIdeal (hAdBIdeal := hAdBIdeal) (hRefAdBIdeal := hRefAdBIdeal)
    ∧ preserves_AdRpb_AdRpbIdeal
    ∧ algebraic_AdRpbIdeal_RefAdRpbIdeal (hAdRpbIdeal := hAdRpbIdeal) (hRefAdRpbIdeal := hRefAdRpbIdeal)
    ∧ preserves_AdLb_AdLbIdeal
    ∧ algebraic_AdLbIdeal_RefAdLbIdeal (hAdLbIdeal := hAdLbIdeal) (hRefAdLbIdeal := hRefAdLbIdeal)
    ∧ preserves_AdHn_AdHnIdeal
    ∧ algebraic_AdHnIdeal_RefAdHnIdeal (hAdHnIdeal := hAdHnIdeal) (hRefAdHnIdeal := hRefAdHnIdeal)
    ∧ preserves_Merge_MergeIdeal
    ∧ algebraic_MergeIdeal_RefMergeIdeal (hMergeIdeal := hMergeIdeal) (hRefMergeIdeal := hRefMergeIdeal)
    ∧ preserves_AdaFwd_AdaFwdIdeal
    ∧ algebraic_AdaFwdIdeal_RefAdaFwdIdeal (hAdaFwdIdeal := hAdaFwdIdeal) (hRefAdaFwdIdeal := hRefAdaFwdIdeal)
    ∧ preserves_AdaBwd_AdaBwdIdeal
    ∧ algebraic_AdaBwdIdeal_RefAdaBwdIdeal (hAdaBwdIdeal := hAdaBwdIdeal) (hRefAdaBwdIdeal := hRefAdaBwdIdeal)
    ∧ preserves_Sum8_Sum8Ideal
    ∧ algebraic_Sum8Ideal_RefSum8Ideal (hSum8Ideal := hSum8Ideal) (hRefSum8Ideal := hRefSum8Ideal)
    ∧ preserves_Ln1_Ln1Ideal
    ∧ algebraic_Ln1Ideal_RefLn1Ideal (hLn1Ideal := hLn1Ideal) (hRefLn1Ideal := hRefLn1Ideal)
-- ==== Pre_factors_finite.lean ====
abbrev S8192x2048 : Shape := ⟨2, ![8192, 2048]⟩
abbrev S5632x2048 : Shape := ⟨2, ![5632, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S_ : Shape := ⟨0, ![]⟩

class Facts : Prop where
  slices_S2x8192x5632_S1x8192x5632_1_0_0 : S2x8192x5632.Slices ![1, 0, 0] S1x8192x5632
  shapeCasts_S1x8192x5632_S8192x5632 : S1x8192x5632.ShapeCasts S8192x5632
  bitsLt_bf16_f32 : FTy.bits .bf16 < FTy.bits .f32
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S8192x5632 : S_.BroadcastsInDim S8192x5632 (![] : Fin 0 → Fin S8192x5632.rank)

variable [Facts]

def fn {F : FTy → Type} [FloatOps F] (main_arg0 : FVec F S8192x2048 .bf16) (main_arg1 : FVec F S5632x2048 .bf16) (main_arg2 : FVec F S2x8192x5632 .bf16) : IVec S8192x2048 1 × IVec S5632x2048 1 × IVec S8192x5632 1 :=
  let main_v0 : FVec F S1x8192x5632 .bf16 := (extractStridedSlice S1x8192x5632 ![1, 0, 0] · slices_S2x8192x5632_S1x8192x5632_1_0_0) main_arg2
  let main_v1 : FVec F S8192x5632 .bf16 := shapeCast S8192x5632 main_v0 shapeCasts_S1x8192x5632_S8192x5632
  let main_v2 : FVec F S8192x2048 .f32 := (extf .f32 · bitsLt_bf16_f32) main_arg0
  let main_v3 : FVec F S8192x2048 .f32 := Host.absf main_v2
  let main_cst : FVec F S_ .f32 := constant S_ .f32 0x7F800000#32
  let main_v4 : FVec F S8192x2048 .f32 := broadcastInDim S8192x2048 ![] bcast_S_S8192x2048 main_cst
  let main_v5 : IVec S8192x2048 1 := cmpf .olt main_v3 main_v4
  let main_v6 : FVec F S5632x2048 .f32 := (extf .f32 · bitsLt_bf16_f32) main_arg1
  let main_v7 : FVec F S5632x2048 .f32 := Host.absf main_v6
  let main_cst_0 : FVec F S_ .f32 := constant S_ .f32 0x7F800000#32
  let main_v8 : FVec F S5632x2048 .f32 := broadcastInDim S5632x2048 ![] bcast_S_S5632x2048 main_cst_0
  let main_v9 : IVec S5632x2048 1 := cmpf .olt main_v7 main_v8
  let main_v10 : FVec F S8192x5632 .f32 := (extf .f32 · bitsLt_bf16_f32) main_v1
  let main_v11 : FVec F S8192x5632 .f32 := Host.absf main_v10
  let main_cst_1 : FVec F S_ .f32 := constant S_ .f32 0x7F800000#32
  let main_v12 : FVec F S8192x5632 .f32 := broadcastInDim S8192x5632 ![] bcast_S_S8192x5632 main_cst_1
  let main_v13 : IVec S8192x5632 1 := cmpf .olt main_v11 main_v12
  (main_v5, main_v9, main_v13)
-- ==== Pre_gates_in_range.lean ====
abbrev S8448x12288 : Shape := ⟨2, ![8448, 12288]⟩
abbrev S1x1024 : Shape := ⟨2, ![1, 1024]⟩
abbrev S8192x1024 : Shape := ⟨2, ![8192, 1024]⟩
abbrev S64x64 : Shape := ⟨2, ![64, 64]⟩
abbrev S8448x4096 : Shape := ⟨2, ![8448, 4096]⟩
abbrev S_ : Shape := ⟨0, ![]⟩
abbrev S8448x8192 : Shape := ⟨2, ![8448, 8192]⟩
abbrev S8448x1024 : Shape := ⟨2, ![8448, 1024]⟩
abbrev S1x64x64x1 : Shape := ⟨4, ![1, 64, 64, 1]⟩
abbrev S132x1x64x1024 : Shape := ⟨4, ![132, 1, 64, 1024]⟩
abbrev S132x64x64x1024 : Shape := ⟨4, ![132, 64, 64, 1024]⟩
abbrev S132x64x1024 : Shape := ⟨3, ![132, 64, 1024]⟩
abbrev S132x1x1024 : Shape := ⟨3, ![132, 1, 1024]⟩
abbrev S8448x7168 : Shape := ⟨2, ![8448, 7168]⟩

class Facts : Prop where
  slices_S8448x12288_S8448x4096_0_3072 : S8448x12288.Slices ![0, 3072] S8448x4096
  bcast_S_S8448x4096 : S_.BroadcastsInDim S8448x4096 (![] : Fin 0 → Fin S8448x4096.rank)
  bcast_S_S8192x1024 : S_.BroadcastsInDim S8192x1024 (![] : Fin 0 → Fin S8192x1024.rank)
  slices_S8448x12288_S8448x8192_0_4096 : S8448x12288.Slices ![0, 4096] S8448x8192
  slices_S8448x8192_S8448x1024_0_0 : S8448x8192.Slices ![0, 0] S8448x1024
  bcast_S_S1x1024 : S_.BroadcastsInDim S1x1024 (![] : Fin 0 → Fin S1x1024.rank)
  bcast_S_S8448x1024 : S_.BroadcastsInDim S8448x1024 (![] : Fin 0 → Fin S8448x1024.rank)
  bcast_S1x1024_S8448x1024_0_1 : S1x1024.BroadcastsInDim S8448x1024 (![0, 1] : Fin 2 → Fin S8448x1024.rank)
  bcast_S64x64_S1x64x64x1_1_2 : S64x64.BroadcastsInDim S1x64x64x1 (![1, 2] : Fin 2 → Fin S1x64x64x1.rank)
  shapeCasts_S8448x1024_S132x1x64x1024 : S8448x1024.ShapeCasts S132x1x64x1024
  bcast_S1x64x64x1_S132x64x64x1024_0_1_2_3 : S1x64x64x1.BroadcastsInDim S132x64x64x1024 (![0, 1, 2, 3] : Fin 4 → Fin S132x64x64x1024.rank)
  bcast_S132x1x64x1024_S132x64x64x1024_0_1_2_3 : S132x1x64x1024.BroadcastsInDim S132x64x64x1024 (![0, 1, 2, 3] : Fin 4 → Fin S132x64x64x1024.rank)
  bcast_S_S132x64x64x1024 : S_.BroadcastsInDim S132x64x64x1024 (![] : Fin 0 → Fin S132x64x64x1024.rank)
  reducesTo_S132x64x64x1024_S132x64x1024_d2 : S132x64x64x1024.ReducesTo [2] S132x64x1024
  h_S_ : 0 < S_.numel
  slices_S132x64x1024_S132x1x1024_0_32_0 : S132x64x1024.Slices ![0, 32, 0] S132x1x1024
  bcast_S132x1x1024_S132x64x1024_0_1_2 : S132x1x1024.BroadcastsInDim S132x64x1024 (![0, 1, 2] : Fin 3 → Fin S132x64x1024.rank)
  bcast_S_S132x64x1024 : S_.BroadcastsInDim S132x64x1024 (![] : Fin 0 → Fin S132x64x1024.rank)
  slices_S8448x12288_S8448x7168_0_5120 : S8448x12288.Slices ![0, 5120] S8448x7168
  slices_S8448x7168_S8448x1024_0_0 : S8448x7168.Slices ![0, 0] S8448x1024

variable [Facts]

def fn_where {F : FTy → Type} [FloatOps F] (arg0 : IVec S1x64x64x1 1) (arg1 : FVec F S132x1x64x1024 .f32) (arg2 : FVec F S_ .f32) : FVec F S132x64x64x1024 .f32 :=
  let v0 : FVec F S_ .f32 := id arg2
  let v1 : IVec S132x64x64x1024 1 := broadcastInDim S132x64x64x1024 ![0, 1, 2, 3] bcast_S1x64x64x1_S132x64x64x1024_0_1_2_3 arg0
  let v2 : FVec F S132x64x64x1024 .f32 := broadcastInDim S132x64x64x1024 ![0, 1, 2, 3] bcast_S132x1x64x1024_S132x64x64x1024_0_1_2_3 arg1
  let v3 : FVec F S132x64x64x1024 .f32 := broadcastInDim S132x64x64x1024 ![] bcast_S_S132x64x64x1024 v0
  let v4 : FVec F S132x64x64x1024 .f32 := select v1 v2 v3
  v4

def fn_part3 {F : FTy → Type} [FloatOps F] (main_arg2 : FVec F S1x1024 .f32) (main_v0 : IVec S64x64 32) (main_v1 : IVec S64x64 32) (main_v5 : IVec S8448x4096 1) (main_v8 : IVec S8192x1024 1) (main_v34 : IVec S1x1024 1) (main_v36 : IVec S8448x1024 1) (main_v41 : IVec S132x64x1024 1) (main_v55 : FVec F S8448x1024 .f32) (main_v56 : FVec F S8448x1024 .f32) (main_cst_13 : FVec F S_ .f32) : IVec S8448x4096 1 × IVec S8192x1024 1 × IVec S1x1024 1 × IVec S8448x1024 1 × IVec S132x64x1024 1 × IVec S1x1024 1 × IVec S8448x1024 1 × IVec S132x64x1024 1 :=
  let main_v57 : FVec F S8448x1024 .f32 := broadcastInDim S8448x1024 ![] bcast_S_S8448x1024 main_cst_13
  let main_v58 : FVec F S8448x1024 .f32 := subf main_v57 main_v55
  let main_v59 : IVec S64x64 1 := cmpi .sge main_v1 main_v0
  let main_v60 : IVec S1x64x64x1 1 := broadcastInDim S1x64x64x1 ![1, 2] bcast_S64x64_S1x64x64x1_1_2 main_v59
  let main_v61 : FVec F S132x1x64x1024 .f32 := shapeCast S132x1x64x1024 main_v56 shapeCasts_S8448x1024_S132x1x64x1024
  let main_cst_14 : FVec F S_ .f32 := constant S_ .f32 0x00000000#32
  let main_v62 : FVec F S132x64x64x1024 .f32 := fn_where (F := F) main_v60 main_v61 main_cst_14
  let main_cst_15 : FVec F S_ .f32 := constant S_ .f32 0x00000000#32
  let main_v63 : FVec F S132x64x1024 .f32 := (fun x v => Host.reduceAdd x v reducesTo_S132x64x64x1024_S132x64x1024_d2 h_S_) main_v62 main_cst_15
  let main_v64 : FVec F S132x1x1024 .f32 := (extractStridedSlice S132x1x1024 ![0, 32, 0] · slices_S132x64x1024_S132x1x1024_0_32_0) main_v63
  let main_v65 : FVec F S1x1024 .f32 := Host.absf main_arg2
  let main_cst_16 : FVec F S_ .f32 := constant S_ .f32 0x7F800000#32
  let main_v66 : FVec F S1x1024 .f32 := broadcastInDim S1x1024 ![] bcast_S_S1x1024 main_cst_16
  let main_v67 : IVec S1x1024 1 := cmpf .olt main_v65 main_v66
  let main_cst_17 : FVec F S_ .f32 := constant S_ .f32 0x3F800000#32
  let main_v68 : FVec F S8448x1024 .f32 := broadcastInDim S8448x1024 ![] bcast_S_S8448x1024 main_cst_17
  let main_v69 : IVec S8448x1024 1 := cmpf .olt main_v58 main_v68
  let main_v70 : FVec F S132x64x1024 .f32 := broadcastInDim S132x64x1024 ![0, 1, 2] bcast_S132x1x1024_S132x64x1024_0_1_2 main_v64
  let main_v71 : FVec F S132x64x1024 .f32 := subf main_v63 main_v70
  let main_v72 : FVec F S132x64x1024 .f32 := Host.absf main_v71
  let main_cst_18 : FVec F S_ .f32 := constant S_ .f32 0x42A00000#32
  let main_v73 : FVec F S132x64x1024 .f32 := broadcastInDim S132x64x1024 ![] bcast_S_S132x64x1024 main_cst_18
  let main_v74 : IVec S132x64x1024 1 := cmpf .ole main_v72 main_v73
  (main_v5, main_v8, main_v34, main_v36, main_v41, main_v67, main_v69, main_v74)

def fn_part2 {F : FTy → Type} [FloatOps F] (main_arg0 : FVec F S8448x12288 .f32) (main_arg2 : FVec F S1x1024 .f32) (main_v0 : IVec S64x64 32) (main_v1 : IVec S64x64 32) (main_v5 : IVec S8448x4096 1) (main_v8 : IVec S8192x1024 1) (main_v30 : FVec F S132x64x1024 .f32) (main_v34 : IVec S1x1024 1) (main_v36 : IVec S8448x1024 1) (main_v37 : FVec F S132x64x1024 .f32) : IVec S8448x4096 1 × IVec S8192x1024 1 × IVec S1x1024 1 × IVec S8448x1024 1 × IVec S132x64x1024 1 × IVec S1x1024 1 × IVec S8448x1024 1 × IVec S132x64x1024 1 :=
  let main_v38 : FVec F S132x64x1024 .f32 := subf main_v30 main_v37
  let main_v39 : FVec F S132x64x1024 .f32 := Host.absf main_v38
  let main_cst_9 : FVec F S_ .f32 := constant S_ .f32 0x42A00000#32
  let main_v40 : FVec F S132x64x1024 .f32 := broadcastInDim S132x64x1024 ![] bcast_S_S132x64x1024 main_cst_9
  let main_v41 : IVec S132x64x1024 1 := cmpf .ole main_v39 main_v40
  let main_v42 : FVec F S8448x7168 .f32 := (extractStridedSlice S8448x7168 ![0, 5120] · slices_S8448x12288_S8448x7168_0_5120) main_arg0
  let main_v43 : FVec F S8448x1024 .f32 := (extractStridedSlice S8448x1024 ![0, 0] · slices_S8448x7168_S8448x1024_0_0) main_v42
  let main_cst_10 : FVec F S_ .f32 := constant S_ .f32 0x3F800000#32
  let main_v44 : FVec F S1x1024 .f32 := broadcastInDim S1x1024 ![] bcast_S_S1x1024 main_cst_10
  let main_v45 : FVec F S1x1024 .f32 := subf main_v44 main_arg2
  let main_v46 : FVec F S8448x1024 .f32 := Host.negf main_v43
  let main_v47 : FVec F S8448x1024 .f32 := Host.exp main_v46
  let main_cst_11 : FVec F S_ .f32 := constant S_ .f32 0x3F800000#32
  let main_v48 : FVec F S8448x1024 .f32 := broadcastInDim S8448x1024 ![] bcast_S_S8448x1024 main_cst_11
  let main_v49 : FVec F S8448x1024 .f32 := addf main_v48 main_v47
  let main_cst_12 : FVec F S_ .f32 := constant S_ .f32 0x3F800000#32
  let main_v50 : FVec F S8448x1024 .f32 := broadcastInDim S8448x1024 ![] bcast_S_S8448x1024 main_cst_12
  let main_v51 : FVec F S8448x1024 .f32 := Host.divf main_v50 main_v49
  let main_v52 : FVec F S8448x1024 .f32 := broadcastInDim S8448x1024 ![0, 1] bcast_S1x1024_S8448x1024_0_1 main_v45
  let main_v53 : FVec F S8448x1024 .f32 := mulf main_v52 main_v51
  let main_v54 : FVec F S8448x1024 .f32 := broadcastInDim S8448x1024 ![0, 1] bcast_S1x1024_S8448x1024_0_1 main_arg2
  let main_v55 : FVec F S8448x1024 .f32 := addf main_v54 main_v53
  let main_v56 : FVec F S8448x1024 .f32 := Host.log main_v55
  let main_cst_13 : FVec F S_ .f32 := constant S_ .f32 0x3F800000#32
  fn_part3 (F := F) main_arg2 main_v0 main_v1 main_v5 main_v8 main_v34 main_v36 main_v41 main_v55 main_v56 main_cst_13

def fn_part1 {F : FTy → Type} [FloatOps F] (main_arg0 : FVec F S8448x12288 .f32) (main_arg1 : FVec F S1x1024 .f32) (main_arg2 : FVec F S1x1024 .f32) (main_v0 : IVec S64x64 32) (main_v1 : IVec S64x64 32) (main_v5 : IVec S8448x4096 1) (main_v8 : IVec S8192x1024 1) (main_v12 : FVec F S1x1024 .f32) (main_v18 : FVec F S8448x1024 .f32) : IVec S8448x4096 1 × IVec S8192x1024 1 × IVec S1x1024 1 × IVec S8448x1024 1 × IVec S132x64x1024 1 × IVec S1x1024 1 × IVec S8448x1024 1 × IVec S132x64x1024 1 :=
  let main_v19 : FVec F S8448x1024 .f32 := broadcastInDim S8448x1024 ![0, 1] bcast_S1x1024_S8448x1024_0_1 main_v12
  let main_v20 : FVec F S8448x1024 .f32 := mulf main_v19 main_v18
  let main_v21 : FVec F S8448x1024 .f32 := broadcastInDim S8448x1024 ![0, 1] bcast_S1x1024_S8448x1024_0_1 main_arg1
  let main_v22 : FVec F S8448x1024 .f32 := addf main_v21 main_v20
  let main_v23 : FVec F S8448x1024 .f32 := Host.log main_v22
  let main_cst_4 : FVec F S_ .f32 := constant S_ .f32 0x3F800000#32
  let main_v24 : FVec F S8448x1024 .f32 := broadcastInDim S8448x1024 ![] bcast_S_S8448x1024 main_cst_4
  let main_v25 : FVec F S8448x1024 .f32 := subf main_v24 main_v22
  let main_v26 : IVec S64x64 1 := cmpi .sle main_v1 main_v0
  let main_v27 : IVec S1x64x64x1 1 := broadcastInDim S1x64x64x1 ![1, 2] bcast_S64x64_S1x64x64x1_1_2 main_v26
  let main_v28 : FVec F S132x1x64x1024 .f32 := shapeCast S132x1x64x1024 main_v23 shapeCasts_S8448x1024_S132x1x64x1024
  let main_cst_5 : FVec F S_ .f32 := constant S_ .f32 0x00000000#32
  let main_v29 : FVec F S132x64x64x1024 .f32 := fn_where (F := F) main_v27 main_v28 main_cst_5
  let main_cst_6 : FVec F S_ .f32 := constant S_ .f32 0x00000000#32
  let main_v30 : FVec F S132x64x1024 .f32 := (fun x v => Host.reduceAdd x v reducesTo_S132x64x64x1024_S132x64x1024_d2 h_S_) main_v29 main_cst_6
  let main_v31 : FVec F S132x1x1024 .f32 := (extractStridedSlice S132x1x1024 ![0, 32, 0] · slices_S132x64x1024_S132x1x1024_0_32_0) main_v30
  let main_v32 : FVec F S1x1024 .f32 := Host.absf main_arg1
  let main_cst_7 : FVec F S_ .f32 := constant S_ .f32 0x7F800000#32
  let main_v33 : FVec F S1x1024 .f32 := broadcastInDim S1x1024 ![] bcast_S_S1x1024 main_cst_7
  let main_v34 : IVec S1x1024 1 := cmpf .olt main_v32 main_v33
  let main_cst_8 : FVec F S_ .f32 := constant S_ .f32 0x3F800000#32
  let main_v35 : FVec F S8448x1024 .f32 := broadcastInDim S8448x1024 ![] bcast_S_S8448x1024 main_cst_8
  let main_v36 : IVec S8448x1024 1 := cmpf .olt main_v25 main_v35
  let main_v37 : FVec F S132x64x1024 .f32 := broadcastInDim S132x64x1024 ![0, 1, 2] bcast_S132x1x1024_S132x64x1024_0_1_2 main_v31
  fn_part2 (F := F) main_arg0 main_arg2 main_v0 main_v1 main_v5 main_v8 main_v30 main_v34 main_v36 main_v37

def fn {F : FTy → Type} [FloatOps F] (main_arg0 : FVec F S8448x12288 .f32) (main_arg1 : FVec F S1x1024 .f32) (main_arg2 : FVec F S1x1024 .f32) (main_arg3 : FVec F S8192x1024 .f32) : IVec S8448x4096 1 × IVec S8192x1024 1 × IVec S1x1024 1 × IVec S8448x1024 1 × IVec S132x64x1024 1 × IVec S1x1024 1 × IVec S8448x1024 1 × IVec S132x64x1024 1 :=
  let main_v0 : IVec S64x64 32 := iotaInDim S64x64 32 0
  let main_v1 : IVec S64x64 32 := iotaInDim S64x64 32 1
  let main_v2 : FVec F S8448x4096 .f32 := (extractStridedSlice S8448x4096 ![0, 3072] · slices_S8448x12288_S8448x4096_0_3072) main_arg0
  let main_v3 : FVec F S8448x4096 .f32 := Host.absf main_v2
  let main_cst : FVec F S_ .f32 := constant S_ .f32 0x7F800000#32
  let main_v4 : FVec F S8448x4096 .f32 := broadcastInDim S8448x4096 ![] bcast_S_S8448x4096 main_cst
  let main_v5 : IVec S8448x4096 1 := cmpf .olt main_v3 main_v4
  let main_v6 : FVec F S8192x1024 .f32 := Host.absf main_arg3
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_v9 : FVec F S8448x8192 .f32 := (extractStridedSlice S8448x8192 ![0, 4096] · slices_S8448x12288_S8448x8192_0_4096) main_arg0
  let main_v10 : FVec F S8448x1024 .f32 := (extractStridedSlice S8448x1024 ![0, 0] · slices_S8448x8192_S8448x1024_0_0) main_v9
  let main_cst_1 : FVec F S_ .f32 := constant S_ .f32 0x3F800000#32
  let main_v11 : FVec F S1x1024 .f32 := broadcastInDim S1x1024 ![] bcast_S_S1x1024 main_cst_1
  let main_v12 : FVec F S1x1024 .f32 := subf main_v11 main_arg1
  let main_v13 : FVec F S8448x1024 .f32 := Host.negf main_v10
  let main_v14 : FVec F S8448x1024 .f32 := Host.exp main_v13
  let main_cst_2 : FVec F S_ .f32 := constant S_ .f32 0x3F800000#32
  let main_v15 : FVec F S8448x1024 .f32 := broadcastInDim S8448x1024 ![] bcast_S_S8448x1024 main_cst_2
  let main_v16 : FVec F S8448x1024 .f32 := addf main_v15 main_v14
  let main_cst_3 : FVec F S_ .f32 := constant S_ .f32 0x3F800000#32
  let main_v17 : FVec F S8448x1024 .f32 := broadcastInDim S8448x1024 ![] bcast_S_S8448x1024 main_cst_3
  let main_v18 : FVec F S8448x1024 .f32 := Host.divf main_v17 main_v16
  fn_part1 (F := F) main_arg0 main_arg1 main_arg2 main_v0 main_v1 main_v5 main_v8 main_v12 main_v18
-- ==== Kernel.lean ====
abbrev S8448x12288 : Shape := ⟨2, ![8448, 12288]⟩
abbrev S1x1024 : Shape := ⟨2, ![1, 1024]⟩
abbrev S8192x1024 : Shape := ⟨2, ![8192, 1024]⟩
abbrev S8448x8192 : Shape := ⟨2, ![8448, 8192]⟩
abbrev S8448x1024 : Shape := ⟨2, ![8448, 1024]⟩
abbrev S8448x6144 : Shape := ⟨2, ![8448, 6144]⟩
abbrev S_ : Shape := ⟨0, ![]⟩
abbrev S8448 : Shape := ⟨1, ![8448]⟩
abbrev S132 : Shape := ⟨1, ![132]⟩
abbrev S1x8448 : Shape := ⟨2, ![1, 8448]⟩
abbrev S132x1 : Shape := ⟨2, ![132, 1]⟩
abbrev S132x8448 : Shape := ⟨2, ![132, 8448]⟩
abbrev S8448x1 : Shape := ⟨2, ![8448, 1]⟩
abbrev S8448x8448 : Shape := ⟨2, ![8448, 8448]⟩
abbrev S8448x8448x1 : Shape := ⟨3, ![8448, 8448, 1]⟩
abbrev S1x8448x1024 : Shape := ⟨3, ![1, 8448, 1024]⟩
abbrev S8448x8448x1024 : Shape := ⟨3, ![8448, 8448, 1024]⟩
abbrev S132x8448x1 : Shape := ⟨3, ![132, 8448, 1]⟩
abbrev S132x8448x1024 : Shape := ⟨3, ![132, 8448, 1024]⟩
abbrev S132x1024 : Shape := ⟨2, ![132, 1024]⟩
abbrev S132x1x1024 : Shape := ⟨3, ![132, 1, 1024]⟩
abbrev S132x8448x8x128 : Shape := ⟨4, ![132, 8448, 8, 128]⟩
abbrev S8448x8x128 : Shape := ⟨3, ![8448, 8, 128]⟩
abbrev S8x128x132x128 : Shape := ⟨4, ![8, 128, 132, 128]⟩
abbrev S132x8x128x128 : Shape := ⟨4, ![132, 8, 128, 128]⟩
abbrev S8448x7168 : Shape := ⟨2, ![8448, 7168]⟩
abbrev S64x1024 : Shape := ⟨2, ![64, 1024]⟩
abbrev S1x8x128x128 : Shape := ⟨4, ![1, 8, 128, 128]⟩
abbrev S8x128x128 : Shape := ⟨3, ![8, 128, 128]⟩
abbrev S64x64 : Shape := ⟨2, ![64, 64]⟩
abbrev S64x128 : Shape := ⟨2, ![64, 128]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩
abbrev S1024 : Shape := ⟨1, ![1024]⟩

abbrev nBuf : Space → Nat
  | .hbm => 173
  | .vmem => 48
  | .smem => 0
  | _ => 0

abbrev hbmTy0_0 (i : Nat) : BufTy := match i % 128 with
  | 0 => ⟨S8448x12288, .f32⟩
  | 1 => ⟨S1x1024, .f32⟩
  | 2 => ⟨S1x1024, .f32⟩
  | 3 => ⟨S8192x1024, .f32⟩
  | 4 => ⟨S8448x8192, .f32⟩
  | 5 => ⟨S8448x1024, .f32⟩
  | 6 => ⟨S8448x6144, .f32⟩
  | 7 => ⟨S8448x1024, .f32⟩
  | 8 => ⟨S_, .f32⟩
  | 9 => ⟨S1x1024, .f32⟩
  | 10 => ⟨S1x1024, .f32⟩
  | 11 => ⟨S8448x1024, .f32⟩
  | 12 => ⟨S8448x1024, .f32⟩
  | 13 => ⟨S_, .f32⟩
  | 14 => ⟨S8448x1024, .f32⟩
  | 15 => ⟨S8448x1024, .f32⟩
  | 16 => ⟨S_, .f32⟩
  | 17 => ⟨S8448x1024, .f32⟩
  | 18 => ⟨S8448x1024, .f32⟩
  | 19 => ⟨S8448x1024, .f32⟩
  | 20 => ⟨S8448x1024, .f32⟩
  | 21 => ⟨S8448x1024, .f32⟩
  | 22 => ⟨S8448x1024, .f32⟩
  | 23 => ⟨S8448x1024, .f32⟩
  | 24 => ⟨S_, .f32⟩
  | 25 => ⟨S8448x1024, .f32⟩
  | 26 => ⟨S8448x1024, .f32⟩
  | 27 => ⟨S8448, .i32⟩
  | 28 => ⟨S_, .i32⟩
  | 29 => ⟨S8448, .i32⟩
  | 30 => ⟨S8448, .i1⟩
  | 31 => ⟨S_, .i32⟩
  | 32 => ⟨S8448, .i32⟩
  | 33 => ⟨S8448, .i32⟩
  | 34 => ⟨S_, .i32⟩
  | 35 => ⟨S8448, .i32⟩
  | 36 => ⟨S8448, .i32⟩
  | 37 => ⟨S8448, .i32⟩
  | 38 => ⟨S132, .i32⟩
  | 39 => ⟨S1x8448, .i32⟩
  | 40 => ⟨S132x1, .i32⟩
  | 41 => ⟨S132x8448, .i32⟩
  | 42 => ⟨S132x8448, .i32⟩
  | 43 => ⟨S132x8448, .i1⟩
  | 44 => ⟨S1x8448, .i32⟩
  | 45 => ⟨S8448x1, .i32⟩
  | 46 => ⟨S8448x8448, .i32⟩
  | 47 => ⟨S8448x8448, .i32⟩
  | 48 => ⟨S8448x8448, .i1⟩
  | 49 => ⟨S8448x8448x1, .i1⟩
  | 50 => ⟨S1x8448x1024, .f32⟩
  | 51 => ⟨S_, .f32⟩
  | 52 => ⟨S_, .f32⟩
  | 53 => ⟨S8448x8448x1024, .i1⟩
  | 54 => ⟨S8448x8448x1024, .f32⟩
  | 55 => ⟨S8448x8448x1024, .f32⟩
  | 56 => ⟨S8448x8448x1024, .f32⟩
  | 57 => ⟨S_, .f32⟩
  | 58 => ⟨S8448x1024, .f32⟩
  | 59 => ⟨S132x8448x1, .i1⟩
  | 60 => ⟨S1x8448x1024, .f32⟩
  | 61 => ⟨S_, .f32⟩
  | 62 => ⟨S_, .f32⟩
  | 63 => ⟨S132x8448x1024, .i1⟩
  | 64 => ⟨S132x8448x1024, .f32⟩
  | 65 => ⟨S132x8448x1024, .f32⟩
  | 66 => ⟨S132x8448x1024, .f32⟩
  | 67 => ⟨S_, .f32⟩
  | 68 => ⟨S132x1024, .f32⟩
  | 69 => ⟨S132x8448x1, .i1⟩
  | 70 => ⟨S132x1x1024, .f32⟩
  | 71 => ⟨S1x8448x1024, .f32⟩
  | 72 => ⟨S132x8448x1024, .f32⟩
  | 73 => ⟨S132x8448x1024, .f32⟩
  | 74 => ⟨S132x8448x1024, .f32⟩
  | 75 => ⟨S_, .f32⟩
  | 76 => ⟨S_, .f32⟩
  | 77 => ⟨S132x8448x1024, .i1⟩
  | 78 => ⟨S132x8448x1024, .f32⟩
  | 79 => ⟨S132x8448x1024, .f32⟩
  | 80 => ⟨S132x8448x1024, .f32⟩
  | 81 => ⟨S1x8448x1024, .f32⟩
  | 82 => ⟨S132x8448x1024, .f32⟩
  | 83 => ⟨S132x8448x1024, .f32⟩
  | 84 => ⟨S132x8448x8x128, .f32⟩
  | 85 => ⟨S8448x8x128, .f32⟩
  | 86 => ⟨S8x128x132x128, .f32⟩
  | 87 => ⟨S132x8x128x128, .f32⟩
  | 88 => ⟨S8448x7168, .f32⟩
  | 89 => ⟨S8448x1024, .f32⟩
  | 90 => ⟨S8448x6144, .f32⟩
  | 91 => ⟨S8448x1024, .f32⟩
  | 92 => ⟨S_, .f32⟩
  | 93 => ⟨S1x1024, .f32⟩
  | 94 => ⟨S1x1024, .f32⟩
  | 95 => ⟨S8448x1024, .f32⟩
  | 96 => ⟨S8448x1024, .f32⟩
  | 97 => ⟨S_, .f32⟩
  | 98 => ⟨S8448x1024, .f32⟩
  | 99 => ⟨S8448x1024, .f32⟩
  | 100 => ⟨S_, .f32⟩
  | 101 => ⟨S8448x1024, .f32⟩
  | 102 => ⟨S8448x1024, .f32⟩
  | 103 => ⟨S8448x1024, .f32⟩
  | 104 => ⟨S8448x1024, .f32⟩
  | 105 => ⟨S8448x1024, .f32⟩
  | 106 => ⟨S8448x1024, .f32⟩
  | 107 => ⟨S8448x1024, .f32⟩
  | 108 => ⟨S_, .f32⟩
  | 109 => ⟨S8448x1024, .f32⟩
  | 110 => ⟨S8448x1024, .f32⟩
  | 111 => ⟨S8448, .i32⟩
  | 112 => ⟨S_, .i32⟩
  | 113 => ⟨S8448, .i32⟩
  | 114 => ⟨S8448, .i32⟩
  | 115 => ⟨S132, .i32⟩
  | 116 => ⟨S1x8448, .i32⟩
  | 117 => ⟨S132x1, .i32⟩
  | 118 => ⟨S132x8448, .i32⟩
  | 119 => ⟨S132x8448, .i32⟩
  | 120 => ⟨S132x8448, .i1⟩
  | 121 => ⟨S1x8448, .i32⟩
  | 122 => ⟨S8448x1, .i32⟩
  | 123 => ⟨S8448x8448, .i32⟩
  | 124 => ⟨S8448x8448, .i32⟩
  | 125 => ⟨S8448x8448, .i1⟩
  | 126 => ⟨S8448x8448x1, .i1⟩
  | 127 => ⟨S1x8448x1024, .f32⟩
  | _ => ⟨S8448x12288, .f32⟩

abbrev hbmTy0_1 (i : Nat) : BufTy := match i % 128 with
  | 0 => ⟨S_, .f32⟩
  | 1 => ⟨S_, .f32⟩
  | 2 => ⟨S8448x8448x1024, .i1⟩
  | 3 => ⟨S8448x8448x1024, .f32⟩
  | 4 => ⟨S8448x8448x1024, .f32⟩
  | 5 => ⟨S8448x8448x1024, .f32⟩
  | 6 => ⟨S_, .f32⟩
  | 7 => ⟨S8448x1024, .f32⟩
  | 8 => ⟨S132x8448x1, .i1⟩
  | 9 => ⟨S1x8448x1024, .f32⟩
  | 10 => ⟨S_, .f32⟩
  | 11 => ⟨S_, .f32⟩
  | 12 => ⟨S132x8448x1024, .i1⟩
  | 13 => ⟨S132x8448x1024, .f32⟩
  | 14 => ⟨S132x8448x1024, .f32⟩
  | 15 => ⟨S132x8448x1024, .f32⟩
  | 16 => ⟨S_, .f32⟩
  | 17 => ⟨S132x1024, .f32⟩
  | 18 => ⟨S132x8448x1, .i1⟩
  | 19 => ⟨S132x1x1024, .f32⟩
  | 20 => ⟨S1x8448x1024, .f32⟩
  | 21 => ⟨S132x8448x1024, .f32⟩
  | 22 => ⟨S132x8448x1024, .f32⟩
  | 23 => ⟨S132x8448x1024, .f32⟩
  | 24 => ⟨S_, .f32⟩
  | 25 => ⟨S_, .f32⟩
  | 26 => ⟨S132x8448x1024, .i1⟩
  | 27 => ⟨S132x8448x1024, .f32⟩
  | 28 => ⟨S132x8448x1024, .f32⟩
  | 29 => ⟨S132x8448x1024, .f32⟩
  | 30 => ⟨S1x8448x1024, .f32⟩
  | 31 => ⟨S132x8448x1024, .f32⟩
  | 32 => ⟨S132x8448x1024, .f32⟩
  | 33 => ⟨S132x8448x8x128, .f32⟩
  | 34 => ⟨S8448x8x128, .f32⟩
  | 35 => ⟨S8x128x132x128, .f32⟩
  | 36 => ⟨S132x8x128x128, .f32⟩
  | 37 => ⟨S8448x1024, .bf16⟩
  | 38 => ⟨S8448x1024, .bf16⟩
  | 39 => ⟨S8448x1024, .bf16⟩
  | 40 => ⟨S1x1024, .f32⟩
  | 41 => ⟨S8448x1024, .bf16⟩
  | 42 => ⟨S8448x1024, .bf16⟩
  | 43 => ⟨S8448x1024, .bf16⟩
  | 44 => ⟨S1x1024, .f32⟩
  | _ => ⟨S8448x12288, .f32⟩

abbrev hbmTy (i : Nat) : BufTy := match i / 128 with
  | 0 => hbmTy0_0 i
  | 1 => hbmTy0_1 i
  | _ => ⟨S8448x12288, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x1024, .f32⟩
  | .local _ .vmem, ⟨7, _⟩ => ⟨S1x8x128x128, .f32⟩
  | .local _ .vmem, ⟨8, _⟩ => ⟨S1x8x128x128, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S1x1024, .f32⟩
  | .local _ .vmem, ⟨18, _⟩ => ⟨S1x8x128x128, .f32⟩
  | .local _ .vmem, ⟨19, _⟩ => ⟨S1x8x128x128, .f32⟩
  | .local _ .vmem, ⟨20, _⟩ => ⟨S64x1024, .f32⟩
  | .local _ .vmem, ⟨21, _⟩ => ⟨S64x1024, .f32⟩
  | .local _ .vmem, ⟨22, _⟩ => ⟨S64x1024, .bf16⟩
  | .local _ .vmem, ⟨23, _⟩ => ⟨S64x1024, .bf16⟩
  | .local _ .vmem, ⟨24, _⟩ => ⟨S64x1024, .bf16⟩
  | .local _ .vmem, ⟨25, _⟩ => ⟨S64x1024, .bf16⟩
  | .local _ .vmem, ⟨26, _⟩ => ⟨S64x1024, .bf16⟩
  | .local _ .vmem, ⟨27, _⟩ => ⟨S64x1024, .bf16⟩
  | .local _ .vmem, ⟨28, _⟩ => ⟨S1x1024, .f32⟩
  | .local _ .vmem, ⟨29, _⟩ => ⟨S64x1024, .bf16⟩
  | .local _ .vmem, ⟨30, _⟩ => ⟨S64x1024, .bf16⟩
  | .local _ .vmem, ⟨31, _⟩ => ⟨S64x1024, .bf16⟩
  | .local _ .vmem, ⟨32, _⟩ => ⟨S64x1024, .bf16⟩
  | .local _ .vmem, ⟨33, _⟩ => ⟨S64x1024, .bf16⟩
  | .local _ .vmem, ⟨34, _⟩ => ⟨S64x1024, .bf16⟩
  | .local _ .vmem, ⟨35, _⟩ => ⟨S1x1024, .f32⟩
  | .local _ .vmem, ⟨36, _⟩ => ⟨S8x128x128, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S1x1024, .f32⟩
  | .local _ .vmem, ⟨42, _⟩ => ⟨S8x128x128, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S1x1024, .f32⟩
  | _, _ => ⟨S8448x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_11 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_15 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_v96 : Ref sig .tc := ⟨.hbm, 133, rfl⟩
abbrev main_cst_16 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_17 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_v100 : Ref sig .tc := ⟨.hbm, 143, rfl⟩
abbrev main_cst_18 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_19 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117_0 : Ref sig .tc := ⟨.hbm, 165, rfl⟩
abbrev main_v117_1 : Ref sig .tc := ⟨.hbm, 166, rfl⟩
abbrev main_v117_2 : Ref sig .tc := ⟨.hbm, 167, rfl⟩
abbrev main_v117_3 : Ref sig .tc := ⟨.hbm, 168, rfl⟩
abbrev main_v117_4 : Ref sig .tc := ⟨.hbm, 169, rfl⟩
abbrev main_v117_5 : Ref sig .tc := ⟨.hbm, 170, rfl⟩
abbrev main_v117_6 : Ref sig .tc := ⟨.hbm, 171, rfl⟩
abbrev main_v117_7 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_scratch9 : Ref sig .tc := ⟨.vmem, 45, rfl⟩
abbrev cc0_scratch10 : Ref sig .tc := ⟨.vmem, 46, rfl⟩
abbrev cc0_scratch11 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c3_i32 : BitVec 32 := 3#32
  let c0_i32 : BitVec 32 := 0#32
  ![v4.toNat, c3_i32.toNat]

def cc0_transform_1 (i : grid0.Coords) : Fin 2 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c4_i32_1 : BitVec 32 := 4#32
  let c0_i32 : BitVec 32 := 0#32
  ![v4.toNat, c4_i32_1.toNat]

def cc0_transform_2 (i : grid0.Coords) : Fin 2 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c6_i32 : BitVec 32 := 6#32
  let c0_i32 : BitVec 32 := 0#32
  ![v4.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c0_i32 : BitVec 32 := 0#32
  let c0_i32_1 : BitVec 32 := 0#32
  let c0_i32_2 : BitVec 32 := 0#32
  let c0_i32_3 : BitVec 32 := 0#32
  ![v4.toNat, c0_i32.toNat, c0_i32_1.toNat, c0_i32_2.toNat]

def cc0_transform_5 (i : grid0.Coords) : Fin 2 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c127_i32 : BitVec 32 := 127#32
  let v5 : BitVec 32 := Scalar.minsi v4 c127_i32
  let c0_i32 : BitVec 32 := 0#32
  let c0_i32_1 : BitVec 32 := 0#32
  ![v5.toNat, c0_i32.toNat]

def cc0_transform_6 (i : grid0.Coords) : Fin 2 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c3_i32 : BitVec 32 := 3#32
  let c0_i32 : BitVec 32 := 0#32
  ![v1.toNat, c3_i32.toNat]

def cc0_transform_7 (i : grid0.Coords) : Fin 2 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c5_i32 : BitVec 32 := 5#32
  let c0_i32 : BitVec 32 := 0#32
  ![v1.toNat, c5_i32.toNat]

def cc0_transform_8 (i : grid0.Coords) : Fin 2 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c6_i32 : BitVec 32 := 6#32
  let c0_i32 : BitVec 32 := 0#32
  ![v1.toNat, c6_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c0_i32 : BitVec 32 := 0#32
  let c0_i32_1 : BitVec 32 := 0#32
  let c0_i32_2 : BitVec 32 := 0#32
  let c0_i32_3 : BitVec 32 := 0#32
  ![v1.toNat, c0_i32.toNat, c0_i32_1.toNat, c0_i32_2.toNat]

def cc0_transform_11 (i : grid0.Coords) : Fin 2 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c127_i32 : BitVec 32 := 127#32
  let v2 : BitVec 32 := Scalar.minsi v1 c127_i32
  let c0_i32 : BitVec 32 := 0#32
  let c0_i32_1 : BitVec 32 := 0#32
  ![v2.toNat, c0_i32.toNat]

def cc0_transform_12 (i : grid0.Coords) : Fin 2 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c0_i32 : BitVec 32 := 0#32
  let c0_i32_1 : BitVec 32 := 0#32
  ![v4.toNat, c0_i32.toNat]

def cc0_transform_13 (i : grid0.Coords) : Fin 2 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c0_i32 : BitVec 32 := 0#32
  let c0_i32_1 : BitVec 32 := 0#32
  ![v4.toNat, c0_i32.toNat]

def cc0_transform_14 (i : grid0.Coords) : Fin 2 → Nat :=
  let arg0 : BitVec 32 := BitVec.ofNat 32 (i 0).val
  let c131_i32 : BitVec 32 := 131#32
  let v0 : BitVec 32 := Scalar.subi c131_i32 arg0
  let c4_i32 : BitVec 32 := 4#32
  let v1 : BitVec 1 := Scalar.cmpi .slt v0 c4_i32
  let c128_i32 : BitVec 32 := 128#32
  let v2 : BitVec 32 := Scalar.addi c128_i32 v0
  let c4_i32_0 : BitVec 32 := 4#32
  let v3 : BitVec 32 := Scalar.subi v0 c4_i32_0
  let v4 : BitVec 32 := Scalar.select v1 v2 v3
  let c0_i32 : BitVec 32 := 0#32
  let c0_i32_1 : BitVec 32 := 0#32
  ![v4.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c0_i32 : BitVec 32 := 0#32
  let c0_i32_1 : BitVec 32 := 0#32
  ![v1.toNat, c0_i32.toNat]

def cc0_transform_17 (i : grid0.Coords) : Fin 2 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c0_i32 : BitVec 32 := 0#32
  let c0_i32_1 : BitVec 32 := 0#32
  ![v1.toNat, c0_i32.toNat]

def cc0_transform_18 (i : grid0.Coords) : Fin 2 → Nat :=
  let arg0 : BitVec 32 := BitVec.ofNat 32 (i 0).val
  let c131_i32 : BitVec 32 := 131#32
  let v0 : BitVec 32 := Scalar.subi c131_i32 arg0
  let c131_i32_0 : BitVec 32 := 131#32
  let v1 : BitVec 32 := Scalar.subi c131_i32_0 v0
  let c0_i32 : BitVec 32 := 0#32
  let c0_i32_1 : BitVec 32 := 0#32
  ![v1.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8448x12288 : Shape := ⟨2, ![8448, 12288]⟩
abbrev S1x1024 : Shape := ⟨2, ![1, 1024]⟩
abbrev S8192x1024 : Shape := ⟨2, ![8192, 1024]⟩
abbrev S8448x9216 : Shape := ⟨2, ![8448, 9216]⟩
abbrev S8448x1024 : Shape := ⟨2, ![8448, 1024]⟩
abbrev S8448x8192 : Shape := ⟨2, ![8448, 8192]⟩
abbrev S8448x7168 : Shape := ⟨2, ![8448, 7168]⟩
abbrev S8448x6144 : Shape := ⟨2, ![8448, 6144]⟩
abbrev S_ : Shape := ⟨0, ![]⟩
abbrev S8448x8x128 : Shape := ⟨3, ![8448, 8, 128]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S8448x8448x1x1 : Shape := ⟨4, ![8448, 8448, 1, 1]⟩
abbrev S1x8448x8x128 : Shape := ⟨4, ![1, 8448, 8, 128]⟩
abbrev S8448x8448x8x128 : Shape := ⟨4, ![8448, 8448, 8, 128]⟩
abbrev S8448x1x8x128 : Shape := ⟨4, ![8448, 1, 8, 128]⟩
abbrev S8448x8448x8 : Shape := ⟨3, ![8448, 8448, 8]⟩
abbrev S8x128x8448 : Shape := ⟨3, ![8, 128, 8448]⟩
abbrev S8192x8x128 : Shape := ⟨3, ![8192, 8, 128]⟩
abbrev S8x8448x8448 : Shape := ⟨3, ![8, 8448, 8448]⟩
abbrev S1024 : Shape := ⟨1, ![1024]⟩

abbrev nBuf : Space → Nat
  | .hbm => 309
  | .vmem => 0
  | .smem => 0
  | _ => 0

abbrev hbmTy0_0 (i : Nat) : BufTy := match i % 128 with
  | 0 => ⟨S8448x12288, .f32⟩
  | 1 => ⟨S1x1024, .f32⟩
  | 2 => ⟨S1x1024, .f32⟩
  | 3 => ⟨S8192x1024, .f32⟩
  | 4 => ⟨S8448x9216, .f32⟩
  | 5 => ⟨S8448x1024, .f32⟩
  | 6 => ⟨S8448x8192, .f32⟩
  | 7 => ⟨S8448x1024, .f32⟩
  | 8 => ⟨S8448x7168, .f32⟩
  | 9 => ⟨S8448x1024, .f32⟩
  | 10 => ⟨S8448x6144, .f32⟩
  | 11 => ⟨S8448x1024, .f32⟩
  | 12 => ⟨S_, .f32⟩
  | 13 => ⟨S1x1024, .f32⟩
  | 14 => ⟨S1x1024, .f32⟩
  | 15 => ⟨S8448x1024, .f32⟩
  | 16 => ⟨S8448x1024, .f32⟩
  | 17 => ⟨S_, .f32⟩
  | 18 => ⟨S8448x1024, .f32⟩
  | 19 => ⟨S8448x1024, .f32⟩
  | 20 => ⟨S_, .f32⟩
  | 21 => ⟨S8448x1024, .f32⟩
  | 22 => ⟨S8448x1024, .f32⟩
  | 23 => ⟨S_, .f32⟩
  | 24 => ⟨S8448x1024, .f32⟩
  | 25 => ⟨S8448x1024, .f32⟩
  | 26 => ⟨S8448x1024, .f32⟩
  | 27 => ⟨S8448x1024, .f32⟩
  | 28 => ⟨S8448x1024, .f32⟩
  | 29 => ⟨S8448x1024, .f32⟩
  | 30 => ⟨S8448x1024, .f32⟩
  | 31 => ⟨S8448x1024, .f32⟩
  | 32 => ⟨S_, .f32⟩
  | 33 => ⟨S8448x1024, .f32⟩
  | 34 => ⟨S8448x1024, .f32⟩
  | 35 => ⟨S8448x8x128, .f32⟩
  | 36 => ⟨S8448x8x128, .f32⟩
  | 37 => ⟨S8448x8x128, .f32⟩
  | 38 => ⟨S8448x8x128, .f32⟩
  | 39 => ⟨S8448, .i32⟩
  | 40 => ⟨S_, .i32⟩
  | 41 => ⟨S8448, .i32⟩
  | 42 => ⟨S8448, .i1⟩
  | 43 => ⟨S_, .i32⟩
  | 44 => ⟨S8448, .i32⟩
  | 45 => ⟨S8448, .i32⟩
  | 46 => ⟨S_, .i32⟩
  | 47 => ⟨S8448, .i32⟩
  | 48 => ⟨S8448, .i32⟩
  | 49 => ⟨S8448, .i32⟩
  | 50 => ⟨S1x8448, .i32⟩
  | 51 => ⟨S8448x1, .i32⟩
  | 52 => ⟨S8448x8448, .i32⟩
  | 53 => ⟨S8448x8448, .i32⟩
  | 54 => ⟨S8448x8448, .i1⟩
  | 55 => ⟨S8448x8448x1x1, .i1⟩
  | 56 => ⟨S1x8448x8x128, .f32⟩
  | 57 => ⟨S_, .f32⟩
  | 58 => ⟨S_, .f32⟩
  | 59 => ⟨S8448x8448x8x128, .i1⟩
  | 60 => ⟨S8448x8448x8x128, .f32⟩
  | 61 => ⟨S8448x8448x8x128, .f32⟩
  | 62 => ⟨S8448x8448x8x128, .f32⟩
  | 63 => ⟨S_, .f32⟩
  | 64 => ⟨S8448x8448x8x128, .f32⟩
  | 65 => ⟨S_, .f32⟩
  | 66 => ⟨S8448x8x128, .f32⟩
  | 67 => ⟨S8448x8448x1x1, .i1⟩
  | 68 => ⟨S8448x1x8x128, .f32⟩
  | 69 => ⟨S1x8448x8x128, .f32⟩
  | 70 => ⟨S8448x8448x8x128, .f32⟩
  | 71 => ⟨S8448x8448x8x128, .f32⟩
  | 72 => ⟨S8448x8448x8x128, .f32⟩
  | 73 => ⟨S_, .f32⟩
  | 74 => ⟨S_, .f32⟩
  | 75 => ⟨S8448x8448x8x128, .i1⟩
  | 76 => ⟨S8448x8448x8x128, .f32⟩
  | 77 => ⟨S8448x8448x8x128, .f32⟩
  | 78 => ⟨S_, .f32⟩
  | 79 => ⟨S8448x8448x8x128, .f32⟩
  | 80 => ⟨S8448x8448x8x128, .f32⟩
  | 81 => ⟨S8448x1x8x128, .f32⟩
  | 82 => ⟨S1x8448x8x128, .f32⟩
  | 83 => ⟨S8448x8448x8x128, .f32⟩
  | 84 => ⟨S8448x8448x8x128, .f32⟩
  | 85 => ⟨S8448x8448x8x128, .f32⟩
  | 86 => ⟨S8448x8448x8x128, .f32⟩
  | 87 => ⟨S_, .f32⟩
  | 88 => ⟨S8448x8448x8, .f32⟩
  | 89 => ⟨S8x128x8448, .f32⟩
  | 90 => ⟨S8448x8x128, .f32⟩
  | 91 => ⟨S8192x8x128, .f32⟩
  | 92 => ⟨S8192x8x128, .f32⟩
  | 93 => ⟨S_, .f32⟩
  | 94 => ⟨S8448x8x128, .f32⟩
  | 95 => ⟨S8x128x8448, .f32⟩
  | 96 => ⟨S8x8448x8448, .f32⟩
  | 97 => ⟨S8448x8448x8, .f32⟩
  | 98 => ⟨S8x128x8448, .f32⟩
  | 99 => ⟨S8448x8x128, .f32⟩
  | 100 => ⟨S8448x8448x8x128, .f32⟩
  | 101 => ⟨S8448x8448x8x128, .f32⟩
  | 102 => ⟨S8448x8448x8x128, .f32⟩
  | 103 => ⟨S8448x8448x8x128, .f32⟩
  | 104 => ⟨S8448x8448x8x128, .f32⟩
  | 105 => ⟨S_, .f32⟩
  | 106 => ⟨S8448x8x128, .f32⟩
  | 107 => ⟨S1x8448x8x128, .f32⟩
  | 108 => ⟨S8448x8448x8x128, .f32⟩
  | 109 => ⟨S8448x8448x8x128, .f32⟩
  | 110 => ⟨S_, .f32⟩
  | 111 => ⟨S8448x8x128, .f32⟩
  | 112 => ⟨S8448x1x8x128, .f32⟩
  | 113 => ⟨S_, .f32⟩
  | 114 => ⟨S8448x8x128, .f32⟩
  | 115 => ⟨S_, .f32⟩
  | 116 => ⟨S8448x8x128, .f32⟩
  | 117 => ⟨S8448x8448x8x128, .f32⟩
  | 118 => ⟨S_, .f32⟩
  | 119 => ⟨S8448x8448x8x128, .f32⟩
  | 120 => ⟨S8448x8448x8x128, .f32⟩
  | 121 => ⟨S_, .f32⟩
  | 122 => ⟨S8448x8x128, .f32⟩
  | 123 => ⟨S8448x1x8x128, .f32⟩
  | 124 => ⟨S8448x8448x8x128, .f32⟩
  | 125 => ⟨S_, .f32⟩
  | 126 => ⟨S8448x8x128, .f32⟩
  | 127 => ⟨S1x8448x8x128, .f32⟩
  | _ => ⟨S8448x12288, .f32⟩

abbrev hbmTy0_1 (i : Nat) : BufTy := match i % 128 with
  | 0 => ⟨S_, .f32⟩
  | 1 => ⟨S8448x8x128, .f32⟩
  | 2 => ⟨S_, .f32⟩
  | 3 => ⟨S8448x8x128, .f32⟩
  | 4 => ⟨S8448x8x128, .f32⟩
  | 5 => ⟨S8448x8448x8x128, .f32⟩
  | 6 => ⟨S_, .f32⟩
  | 7 => ⟨S8448x8448x8x128, .f32⟩
  | 8 => ⟨S8448x8448x8x128, .f32⟩
  | 9 => ⟨S_, .f32⟩
  | 10 => ⟨S8448x8x128, .f32⟩
  | 11 => ⟨S1x8448x8x128, .f32⟩
  | 12 => ⟨S_, .f32⟩
  | 13 => ⟨S8448x8x128, .f32⟩
  | 14 => ⟨S8448x1024, .f32⟩
  | 15 => ⟨S8448x1024, .f32⟩
  | 16 => ⟨S8448x1024, .f32⟩
  | 17 => ⟨S8448x1024, .f32⟩
  | 18 => ⟨S8448x1024, .f32⟩
  | 19 => ⟨S8448x1024, .f32⟩
  | 20 => ⟨S8448x1024, .f32⟩
  | 21 => ⟨S_, .f32⟩
  | 22 => ⟨S1024, .f32⟩
  | 23 => ⟨S1x1024, .f32⟩
  | 24 => ⟨S8448x1024, .f32⟩
  | 25 => ⟨S8448x1024, .f32⟩
  | 26 => ⟨S8448x1024, .f32⟩
  | 27 => ⟨S_, .f32⟩
  | 28 => ⟨S1024, .f32⟩
  | 29 => ⟨S1x1024, .f32⟩
  | 30 => ⟨S8448x1024, .f32⟩
  | 31 => ⟨S1x1024, .f32⟩
  | 32 => ⟨S1x1024, .f32⟩
  | 33 => ⟨S8448x1024, .bf16⟩
  | 34 => ⟨S8448x1024, .bf16⟩
  | 35 => ⟨S8448x1024, .bf16⟩
  | 36 => ⟨S_, .f32⟩
  | 37 => ⟨S1x1024, .f32⟩
  | 38 => ⟨S1x1024, .f32⟩
  | 39 => ⟨S8448x1024, .f32⟩
  | 40 => ⟨S8448x1024, .f32⟩
  | 41 => ⟨S_, .f32⟩
  | 42 => ⟨S8448x1024, .f32⟩
  | 43 => ⟨S8448x1024, .f32⟩
  | 44 => ⟨S_, .f32⟩
  | 45 => ⟨S8448x1024, .f32⟩
  | 46 => ⟨S8448x1024, .f32⟩
  | 47 => ⟨S_, .f32⟩
  | 48 => ⟨S8448x1024, .f32⟩
  | 49 => ⟨S8448x1024, .f32⟩
  | 50 => ⟨S8448x1024, .f32⟩
  | 51 => ⟨S8448x1024, .f32⟩
  | 52 => ⟨S8448x1024, .f32⟩
  | 53 => ⟨S8448x1024, .f32⟩
  | 54 => ⟨S8448x1024, .f32⟩
  | 55 => ⟨S8448x1024, .f32⟩
  | 56 => ⟨S_, .f32⟩
  | 57 => ⟨S8448x1024, .f32⟩
  | 58 => ⟨S8448x1024, .f32⟩
  | 59 => ⟨S8448x8x128, .f32⟩
  | 60 => ⟨S8448x8x128, .f32⟩
  | 61 => ⟨S8448x8x128, .f32⟩
  | 62 => ⟨S8448x8x128, .f32⟩
  | 63 => ⟨S8448, .i32⟩
  | 64 => ⟨S_, .i32⟩
  | 65 => ⟨S8448, .i32⟩
  | 66 => ⟨S8448, .i32⟩
  | 67 => ⟨S1x8448, .i32⟩
  | 68 => ⟨S8448x1, .i32⟩
  | 69 => ⟨S8448x8448, .i32⟩
  | 70 => ⟨S8448x8448, .i32⟩
  | 71 => ⟨S8448x8448, .i1⟩
  | 72 => ⟨S8448x8448x1x1, .i1⟩
  | 73 => ⟨S1x8448x8x128, .f32⟩
  | 74 => ⟨S_, .f32⟩
  | 75 => ⟨S_, .f32⟩
  | 76 => ⟨S8448x8448x8x128, .i1⟩
  | 77 => ⟨S8448x8448x8x128, .f32⟩
  | 78 => ⟨S8448x8448x8x128, .f32⟩
  | 79 => ⟨S8448x8448x8x128, .f32⟩
  | 80 => ⟨S_, .f32⟩
  | 81 => ⟨S8448x8448x8x128, .f32⟩
  | 82 => ⟨S_, .f32⟩
  | 83 => ⟨S8448x8x128, .f32⟩
  | 84 => ⟨S8448x8448x1x1, .i1⟩
  | 85 => ⟨S8448x1x8x128, .f32⟩
  | 86 => ⟨S1x8448x8x128, .f32⟩
  | 87 => ⟨S8448x8448x8x128, .f32⟩
  | 88 => ⟨S8448x8448x8x128, .f32⟩
  | 89 => ⟨S8448x8448x8x128, .f32⟩
  | 90 => ⟨S_, .f32⟩
  | 91 => ⟨S_, .f32⟩
  | 92 => ⟨S8448x8448x8x128, .i1⟩
  | 93 => ⟨S8448x8448x8x128, .f32⟩
  | 94 => ⟨S8448x8448x8x128, .f32⟩
  | 95 => ⟨S_, .f32⟩
  | 96 => ⟨S8448x8448x8x128, .f32⟩
  | 97 => ⟨S8448x8448x8x128, .f32⟩
  | 98 => ⟨S8448x1x8x128, .f32⟩
  | 99 => ⟨S1x8448x8x128, .f32⟩
  | 100 => ⟨S8448x8448x8x128, .f32⟩
  | 101 => ⟨S8448x8448x8x128, .f32⟩
  | 102 => ⟨S8448x8448x8x128, .f32⟩
  | 103 => ⟨S8448x8448x8x128, .f32⟩
  | 104 => ⟨S_, .f32⟩
  | 105 => ⟨S8448x8448x8, .f32⟩
  | 106 => ⟨S8x128x8448, .f32⟩
  | 107 => ⟨S8448x8x128, .f32⟩
  | 108 => ⟨S8192x8x128, .f32⟩
  | 109 => ⟨S8192x8x128, .f32⟩
  | 110 => ⟨S_, .f32⟩
  | 111 => ⟨S8448x8x128, .f32⟩
  | 112 => ⟨S8x128x8448, .f32⟩
  | 113 => ⟨S8x8448x8448, .f32⟩
  | 114 => ⟨S8448x8448x8, .f32⟩
  | 115 => ⟨S8x128x8448, .f32⟩
  | 116 => ⟨S8448x8x128, .f32⟩
  | 117 => ⟨S8448x8448x8x128, .f32⟩
  | 118 => ⟨S8448x8448x8x128, .f32⟩
  | 119 => ⟨S8448x8448x8x128, .f32⟩
  | 120 => ⟨S8448x8448x8x128, .f32⟩
  | 121 => ⟨S8448x8448x8x128, .f32⟩
  | 122 => ⟨S_, .f32⟩
  | 123 => ⟨S8448x8x128, .f32⟩
  | 124 => ⟨S1x8448x8x128, .f32⟩
  | 125 => ⟨S8448x8448x8x128, .f32⟩
  | 126 => ⟨S8448x8448x8x128, .f32⟩
  | 127 => ⟨S_, .f32⟩
  | _ => ⟨S8448x12288, .f32⟩

abbrev hbmTy0_2 (i : Nat) : BufTy := match i % 128 with
  | 0 => ⟨S8448x8x128, .f32⟩
  | 1 => ⟨S8448x1x8x128, .f32⟩
  | 2 => ⟨S_, .f32⟩
  | 3 => ⟨S8448x8x128, .f32⟩
  | 4 => ⟨S_, .f32⟩
  | 5 => ⟨S8448x8x128, .f32⟩
  | 6 => ⟨S8448x8448x8x128, .f32⟩
  | 7 => ⟨S_, .f32⟩
  | 8 => ⟨S8448x8448x8x128, .f32⟩
  | 9 => ⟨S8448x8448x8x128, .f32⟩
  | 10 => ⟨S_, .f32⟩
  | 11 => ⟨S8448x8x128, .f32⟩
  | 12 => ⟨S8448x1x8x128, .f32⟩
  | 13 => ⟨S8448x8448x8x128, .f32⟩
  | 14 => ⟨S_, .f32⟩
  | 15 => ⟨S8448x8x128, .f32⟩
  | 16 => ⟨S1x8448x8x128, .f32⟩
  | 17 => ⟨S_, .f32⟩
  | 18 => ⟨S8448x8x128, .f32⟩
  | 19 => ⟨S_, .f32⟩
  | 20 => ⟨S8448x8x128, .f32⟩
  | 21 => ⟨S8448x8x128, .f32⟩
  | 22 => ⟨S8448x8448x8x128, .f32⟩
  | 23 => ⟨S_, .f32⟩
  | 24 => ⟨S8448x8448x8x128, .f32⟩
  | 25 => ⟨S8448x8448x8x128, .f32⟩
  | 26 => ⟨S_, .f32⟩
  | 27 => ⟨S8448x8x128, .f32⟩
  | 28 => ⟨S1x8448x8x128, .f32⟩
  | 29 => ⟨S_, .f32⟩
  | 30 => ⟨S8448x8x128, .f32⟩
  | 31 => ⟨S8448x1024, .f32⟩
  | 32 => ⟨S8448x1024, .f32⟩
  | 33 => ⟨S8448x1024, .f32⟩
  | 34 => ⟨S8448x1024, .f32⟩
  | 35 => ⟨S8448x1024, .f32⟩
  | 36 => ⟨S8448x1024, .f32⟩
  | 37 => ⟨S8448x1024, .f32⟩
  | 38 => ⟨S_, .f32⟩
  | 39 => ⟨S1024, .f32⟩
  | 40 => ⟨S1x1024, .f32⟩
  | 41 => ⟨S8448x1024, .f32⟩
  | 42 => ⟨S8448x1024, .f32⟩
  | 43 => ⟨S8448x1024, .f32⟩
  | 44 => ⟨S_, .f32⟩
  | 45 => ⟨S1024, .f32⟩
  | 46 => ⟨S1x1024, .f32⟩
  | 47 => ⟨S8448x1024, .f32⟩
  | 48 => ⟨S1x1024, .f32⟩
  | 49 => ⟨S1x1024, .f32⟩
  | 50 => ⟨S8448x1024, .bf16⟩
  | 51 => ⟨S8448x1024, .bf16⟩
  | 52 => ⟨S8448x1024, .bf16⟩
  | _ => ⟨S8448x12288, .f32⟩

abbrev hbmTy (i : Nat) : BufTy := match i / 128 with
  | 0 => hbmTy0_0 i
  | 1 => hbmTy0_1 i
  | 2 => hbmTy0_2 i
  | _ => ⟨S8448x12288, .f32⟩

abbrev bufTy : (tb : Table) → Fin (tcTables nBuf tb) → BufTy
  | .hbm, ⟨i, _⟩ => hbmTy i
  | _, _ => ⟨S8448x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_call1_v0 : Ref sig .tc := ⟨.hbm, 58, rfl⟩
abbrev main_v45_1 : Ref sig .tc := ⟨.hbm, 59, rfl⟩
abbrev main_call1_v2 : Ref sig .tc := ⟨.hbm, 60, rfl⟩
abbrev main_call1_v3 : Ref sig .tc := ⟨.hbm, 61, rfl⟩
abbrev main_v45_0 : Ref sig .tc := ⟨.hbm, 62, rfl⟩
abbrev main_call1_cst : Ref sig .tc := ⟨.hbm, 63, rfl⟩
abbrev main_v45_2 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_call2_v0 : Ref sig .tc := ⟨.hbm, 74, rfl⟩
abbrev main_v53_1 : Ref sig .tc := ⟨.hbm, 75, rfl⟩
abbrev main_call2_v2 : Ref sig .tc := ⟨.hbm, 76, rfl⟩
abbrev main_v53_0 : Ref sig .tc := ⟨.hbm, 77, rfl⟩
abbrev main_call2_cst : Ref sig .tc := ⟨.hbm, 78, rfl⟩
abbrev main_v53_2 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_cst_13 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_call3_cst : Ref sig .tc := ⟨.hbm, 118, rfl⟩
abbrev main_call3_v0 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_v91 : Ref sig .tc := ⟨.hbm, 127, rfl⟩
abbrev main_cst_17 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call4_cst : Ref sig .tc := ⟨.hbm, 134, rfl⟩
abbrev main_call4_v0 : Ref sig .tc := ⟨.hbm, 135, rfl⟩
abbrev main_call4_v1 : Ref sig .tc := ⟨.hbm, 136, rfl⟩
abbrev main_call4_cst_0 : Ref sig .tc := ⟨.hbm, 137, rfl⟩
abbrev main_call4_v2 : Ref sig .tc := ⟨.hbm, 138, rfl⟩
abbrev main_v96 : Ref sig .tc := ⟨.hbm, 139, rfl⟩
abbrev main_cst_19 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_20 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_21 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_22 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_23 : Ref sig .tc := ⟨.hbm, 169, rfl⟩
abbrev main_v122 : Ref sig .tc := ⟨.hbm, 170, rfl⟩
abbrev main_v123 : Ref sig .tc := ⟨.hbm, 171, rfl⟩
abbrev main_cst_24 : Ref sig .tc := ⟨.hbm, 172, rfl⟩
abbrev main_v124 : Ref sig .tc := ⟨.hbm, 173, rfl⟩
abbrev main_v125 : Ref sig .tc := ⟨.hbm, 174, rfl⟩
abbrev main_cst_25 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_26 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_c_27 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_28 : Ref sig .tc := ⟨.hbm, 202, rfl⟩
abbrev main_call5_v0 : Ref sig .tc := ⟨.hbm, 203, rfl⟩
abbrev main_v150_1 : Ref sig .tc := ⟨.hbm, 204, rfl⟩
abbrev main_call5_v2 : Ref sig .tc := ⟨.hbm, 205, rfl⟩
abbrev main_call5_v3 : Ref sig .tc := ⟨.hbm, 206, rfl⟩
abbrev main_v150_0 : Ref sig .tc := ⟨.hbm, 207, rfl⟩
abbrev main_call5_cst : Ref sig .tc := ⟨.hbm, 208, rfl⟩
abbrev main_v150_2 : Ref sig .tc := ⟨.hbm, 209, rfl⟩
abbrev main_cst_29 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_30 : Ref sig .tc := ⟨.hbm, 218, rfl⟩
abbrev main_call6_v0 : Ref sig .tc := ⟨.hbm, 219, rfl⟩
abbrev main_v158_1 : Ref sig .tc := ⟨.hbm, 220, rfl⟩
abbrev main_call6_v2 : Ref sig .tc := ⟨.hbm, 221, rfl⟩
abbrev main_v158_0 : Ref sig .tc := ⟨.hbm, 222, rfl⟩
abbrev main_call6_cst : Ref sig .tc := ⟨.hbm, 223, rfl⟩
abbrev main_v158_2 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_31 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_32 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_cst_33 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_cst_34 : Ref sig .tc := ⟨.hbm, 255, rfl⟩
abbrev main_v186 : Ref sig .tc := ⟨.hbm, 256, rfl⟩
abbrev main_v187 : Ref sig .tc := ⟨.hbm, 257, rfl⟩
abbrev main_cst_35 : Ref sig .tc := ⟨.hbm, 258, rfl⟩
abbrev main_v188 : Ref sig .tc := ⟨.hbm, 259, rfl⟩
abbrev main_cst_36 : Ref sig .tc := ⟨.hbm, 260, rfl⟩
abbrev main_v189 : Ref sig .tc := ⟨.hbm, 261, rfl⟩
abbrev main_v190 : Ref sig .tc := ⟨.hbm, 262, rfl⟩
abbrev main_call7_cst : Ref sig .tc := ⟨.hbm, 263, rfl⟩
abbrev main_call7_v0 : Ref sig .tc := ⟨.hbm, 264, rfl⟩
abbrev main_v191 : Ref sig .tc := ⟨.hbm, 265, rfl⟩
abbrev main_cst_37 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_cst_38 : Ref sig .tc := ⟨.hbm, 270, rfl⟩
abbrev main_v195 : Ref sig .tc := ⟨.hbm, 271, rfl⟩
abbrev main_v196 : Ref sig .tc := ⟨.hbm, 272, rfl⟩
abbrev main_cst_39 : Ref sig .tc := ⟨.hbm, 273, rfl⟩
abbrev main_v197 : Ref sig .tc := ⟨.hbm, 274, rfl⟩
abbrev main_cst_40 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_call8_cst : Ref sig .tc := ⟨.hbm, 279, rfl⟩
abbrev main_call8_v0 : Ref sig .tc := ⟨.hbm, 280, rfl⟩
abbrev main_call8_v1 : Ref sig .tc := ⟨.hbm, 281, rfl⟩
abbrev main_call8_cst_0 : Ref sig .tc := ⟨.hbm, 282, rfl⟩
abbrev main_call8_v2 : Ref sig .tc := ⟨.hbm, 283, rfl⟩
abbrev main_v201 : Ref sig .tc := ⟨.hbm, 284, rfl⟩
abbrev main_cst_41 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_cst_42 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_cst_43 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩

abbrev nD : Nat := 1
abbrev τ : Topo := Topo.v7x

variable {F : FTy → Type} [FloatOps F]
-- ==== FfnOut.lean ====
abbrev S8192x5632 : Shape := ⟨2, ![8192, 5632]⟩
abbrev S5632x2048 : Shape := ⟨2, ![5632, 2048]⟩
abbrev S1x5632x2048 : Shape := ⟨3, ![1, 5632, 2048]⟩
abbrev S8192x2048 : Shape := ⟨2, ![8192, 2048]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S1x5632x2048, .bf16⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFfnOutIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DH2.lean ====
abbrev S2x8192x5632 : Shape := ⟨3, ![2, 8192, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S8192x2048 : Shape := ⟨2, ![8192, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S2048x4x2816, .bf16⟩
  | .hbm, ⟨3, _⟩ => ⟨S4x2048x2816, .bf16⟩
  | .hbm, ⟨4, _⟩ => ⟨S8192x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDH2Ideal.lean ====
abbrev S2x8192x5632 : Shape := ⟨3, ![2, 8192, 5632]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩
abbrev S1x8192x5632 : Shape := ⟨3, ![1, 8192, 5632]⟩
abbrev S8192x5632 : Shape := ⟨2, ![8192, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S2x8192x5632, .f32⟩
  | .hbm, ⟨3, _⟩ => ⟨S2048x11264, .f32⟩
  | .hbm, ⟨4, _⟩ => ⟨S_, .f32⟩
  | .hbm, ⟨5, _⟩ => ⟨S8192x2048, .f32⟩
  | .hbm, ⟨6, _⟩ => ⟨S8192x11264, .f32⟩
  | .hbm, ⟨7, _⟩ => ⟨S1x8192x5632, .f32⟩
  | .hbm, ⟨8, _⟩ => ⟨S8192x5632, .f32⟩
  | .hbm, ⟨9, _⟩ => ⟨S1x8192x5632, .f32⟩
  | .hbm, ⟨10, _⟩ => ⟨S8192x5632, .f32⟩
  | .hbm, ⟨11, _⟩ => ⟨S8192x11264, .f32⟩
  | .hbm, ⟨12, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwFfnIn.lean ====
abbrev S2048x8192 : Shape := ⟨2, ![2048, 8192]⟩
abbrev S2x8192x5632 : Shape := ⟨3, ![2, 8192, 5632]⟩
abbrev S4x2x1024x2816 : Shape := ⟨4, ![4, 2, 1024, 2816]⟩
abbrev S1024x2048 : Shape := ⟨2, ![1024, 2048]⟩
abbrev S1x2048x1408 : Shape := ⟨3, ![1, 2048, 1408]⟩
abbrev S1x1x1024x1408 : Shape := ⟨4, ![1, 1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2x8192x5632, .bf16⟩
  | .hbm, ⟨2, _⟩ => ⟨S4x2x1024x2816, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwFfnInIdeal.lean ====
abbrev S2048x8192 : Shape := ⟨2, ![2048, 8192]⟩
abbrev S2x8192x5632 : Shape := ⟨3, ![2, 8192, 5632]⟩
abbrev S8192x2048 : Shape := ⟨2, ![8192, 2048]⟩
abbrev S_ : Shape := ⟨0, ![]⟩
abbrev S2048x11264 : Shape := ⟨2, ![2048, 11264]⟩
abbrev S8192x11264 : Shape := ⟨2, ![8192, 11264]⟩
abbrev S1x8192x5632 : Shape := ⟨3, ![1, 8192, 5632]⟩
abbrev S8192x5632 : Shape := ⟨2, ![8192, 5632]⟩
abbrev S11264x2048 : Shape := ⟨2, ![11264, 2048]⟩
abbrev S2x1024x4x2816 : Shape := ⟨4, ![2, 1024, 4, 2816]⟩
abbrev S4x2x1024x2816 : Shape := ⟨4, ![4, 2, 1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2x8192x5632, .bf16⟩
  | .hbm, ⟨2, _⟩ => ⟨S2048x8192, .f32⟩
  | .hbm, ⟨3, _⟩ => ⟨S8192x2048, .f32⟩
  | .hbm, ⟨4, _⟩ => ⟨S2x8192x5632, .f32⟩
  | .hbm, ⟨5, _⟩ => ⟨S_, .f32⟩
  | .hbm, ⟨6, _⟩ => ⟨S2048x11264, .f32⟩
  | .hbm, ⟨7, _⟩ => ⟨S8192x11264, .f32⟩
  | .hbm, ⟨8, _⟩ => ⟨S1x8192x5632, .f32⟩
  | .hbm, ⟨9, _⟩ => ⟨S8192x5632, .f32⟩
  | .hbm, ⟨10, _⟩ => ⟨S1x8192x5632, .f32⟩
  | .hbm, ⟨11, _⟩ => ⟨S8192x5632, .f32⟩
  | .hbm, ⟨12, _⟩ => ⟨S8192x11264, .f32⟩
  | .hbm, ⟨13, _⟩ => ⟨S11264x2048, .f32⟩
  | .hbm, ⟨14, _⟩ => ⟨S2048x11264, .f32⟩
  | .hbm, ⟨15, _⟩ => ⟨S2x1024x4x2816, .f32⟩
  | .hbm, ⟨16, _⟩ => ⟨S4x2x1024x2816, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== DwFfnOut.lean ====
abbrev S5632x8192 : Shape := ⟨2, ![5632, 8192]⟩
abbrev S8192x2048 : Shape := ⟨2, ![8192, 2048]⟩
abbrev S1x8192x2048 : Shape := ⟨3, ![1, 8192, 2048]⟩
abbrev S1x2x2816x2048 : Shape := ⟨4, ![1, 2, 2816, 2048]⟩
abbrev S1408x2048 : Shape := ⟨2, ![1408, 2048]⟩
abbrev S1x2048x1024 : Shape := ⟨3, ![1, 2048, 1024]⟩
abbrev S1x1x1408x1024 : Shape := ⟨4, ![1, 1, 1408, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S5632x8192, .bf16⟩
  | .hbm, ⟨1, _⟩ => ⟨S8192x2048, .bf16⟩
  | .hbm, ⟨2, _⟩ => ⟨S1x8192x2048, .bf16⟩
  | .hbm, ⟨3, _⟩ => ⟨S1x2x2816x2048, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1408x1024, .f32⟩
  | .local _ .vmem, ⟨5, _⟩ => ⟨S1x1x1408x1024, .f32⟩
  | .local _ .vmem, ⟨6, _⟩ => ⟨S1408x1024, .f32⟩
  | _, _ => ⟨S5632x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi arg0 c2_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi arg0 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwFfnOutIdeal.lean ====
abbrev S5632x8192 : Shape := ⟨2, ![5632, 8192]⟩
abbrev S8192x2048 : Shape := ⟨2, ![8192, 2048]⟩
abbrev S8192x5632 : Shape := ⟨2, ![8192, 5632]⟩
abbrev S_ : Shape := ⟨0, ![]⟩
abbrev S5632x2048 : Shape := ⟨2, ![5632, 2048]⟩
abbrev S2048x5632 : Shape := ⟨2, ![2048, 5632]⟩
abbrev S1x2x2816x2048 : Shape := ⟨4, ![1, 2, 2816, 2048]⟩

abbrev nBuf : Space → Nat
  | .hbm => 11
  | .vmem => 0
  | .smem => 0
  | _ => 0

abbrev bufTy : (tb : Table) → Fin (tcTables nBuf tb) → BufTy
  | .hbm, ⟨0, _⟩ => ⟨S5632x8192, .bf16⟩
  | .hbm, ⟨1, _⟩ => ⟨S8192x2048, .bf16⟩
  | .hbm, ⟨2, _⟩ => ⟨S5632x8192, .f32⟩
  | .hbm, ⟨3, _⟩ => ⟨S8192x5632, .f32⟩
  | .hbm, ⟨4, _⟩ => ⟨S8192x2048, .f32⟩
  | .hbm, ⟨5, _⟩ => ⟨S_, .f32⟩
  | .hbm, ⟨6, _⟩ => ⟨S5632x2048, .f32⟩
  | .hbm, ⟨7, _⟩ => ⟨S8192x2048, .f32⟩
  | .hbm, ⟨8, _⟩ => ⟨S2048x5632, .f32⟩
  | .hbm, ⟨9, _⟩ => ⟨S5632x2048, .f32⟩
  | .hbm, ⟨10, _⟩ => ⟨S1x2x2816x2048, .f32⟩
  | _, _ => ⟨S5632x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnIn.lean ====
abbrev S8192x2048 : Shape := ⟨2, ![8192, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x8192x5632 : Shape := ⟨3, ![2, 8192, 5632]⟩
abbrev S8192x5632 : Shape := ⟨2, ![8192, 5632]⟩
abbrev S5632x8192 : Shape := ⟨2, ![5632, 8192]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S1408x512 : Shape := ⟨2, ![1408, 512]⟩
abbrev S2048x1408 : Shape := ⟨2, ![2048, 1408]⟩
abbrev S1x512x1408 : Shape := ⟨3, ![1, 512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2048x4x2816, .bf16⟩
  | .hbm, ⟨3, _⟩ => ⟨S4x2048x2816, .bf16⟩
  | .hbm, ⟨4, _⟩ => ⟨S2x8192x5632, .bf16⟩
  | .hbm, ⟨5, _⟩ => ⟨S8192x5632, .bf16⟩
  | .hbm, ⟨6, _⟩ => ⟨S5632x8192, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S1408x512, .bf16⟩
  | .local _ .vmem, ⟨11, _⟩ => ⟨S1408x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefFfnInIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩
abbrev S5632x8192 : Shape := ⟨2, ![5632, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x8192x5632, .f32⟩
  | .hbm, ⟨18, _⟩ => ⟨S1x8192x5632, .f32⟩
  | .hbm, ⟨19, _⟩ => ⟨S2x8192x5632, .f32⟩
  | .hbm, ⟨20, _⟩ => ⟨S2x8192x5632, .bf16⟩
  | .hbm, ⟨21, _⟩ => ⟨S8192x5632, .bf16⟩
  | .hbm, ⟨22, _⟩ => ⟨S5632x8192, .f32⟩
  | .hbm, ⟨23, _⟩ => ⟨S5632x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== ProjP.lean ====
abbrev S8192x1024 : Shape := ⟨2, ![8192, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjPIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjOut.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjOutIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwOut.lean ====
abbrev S8192x2048 : Shape := ⟨2, ![8192, 2048]⟩
abbrev S1x8192x2048 : Shape := ⟨3, ![1, 8192, 2048]⟩
abbrev S1x2x1024x2048 : Shape := ⟨4, ![1, 2, 1024, 2048]⟩
abbrev S2048x1024 : Shape := ⟨2, ![2048, 1024]⟩
abbrev S1x2048x1024 : Shape := ⟨3, ![1, 2048, 1024]⟩
abbrev S1x1x1024x1024 : Shape := ⟨4, ![1, 1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x8192x2048, .bf16⟩
  | .hbm, ⟨3, _⟩ => ⟨S1x2x1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwOutIdeal.lean ====
abbrev S8192x2048 : Shape := ⟨2, ![8192, 2048]⟩
abbrev S_ : Shape := ⟨0, ![]⟩
abbrev S2048x2048 : Shape := ⟨2, ![2048, 2048]⟩
abbrev S1x2x1024x2048 : Shape := ⟨4, ![1, 2, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S1x2x1024x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DOna.lean ====
abbrev S8192x2048 : Shape := ⟨2, ![8192, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S1x8192x2048 : Shape := ⟨3, ![1, 8192, 2048]⟩
abbrev S8192x1024 : Shape := ⟨2, ![8192, 1024]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S1x8192x2048, .bf16⟩
  | .hbm, ⟨5, _⟩ => ⟨S8192x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDOnaIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DOb.lean ====
abbrev S8192x2048 : Shape := ⟨2, ![8192, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S1x8192x2048 : Shape := ⟨3, ![1, 8192, 2048]⟩
abbrev S8192x1024 : Shape := ⟨2, ![8192, 1024]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S1x8192x2048, .bf16⟩
  | .hbm, ⟨5, _⟩ => ⟨S8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDObIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwP.lean ====
abbrev S8192x1024 : Shape := ⟨2, ![8192, 1024]⟩
abbrev S8192x2048 : Shape := ⟨2, ![8192, 2048]⟩
abbrev S1x8192x2048 : Shape := ⟨3, ![1, 8192, 2048]⟩
abbrev S4x2x512x512 : Shape := ⟨4, ![4, 2, 512, 512]⟩
abbrev S2048x512 : Shape := ⟨2, ![2048, 512]⟩
abbrev S1x2048x512 : Shape := ⟨3, ![1, 2048, 512]⟩
abbrev S1x1x512x512 : Shape := ⟨4, ![1, 1, 512, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x8192x2048, .bf16⟩
  | .hbm, ⟨3, _⟩ => ⟨S4x2x512x512, .f32⟩
  | .local _ .vmem, ⟨0, _⟩ => ⟨S2048x512, .bf16⟩
  | .local _ .vmem, ⟨1, _⟩ => ⟨S2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512x512, .f32⟩
  | .local _ .vmem, ⟨5, _⟩ => ⟨S1x1x512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwPIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S4x2x512x512 : Shape := ⟨4, ![4, 2, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2x512x4x512, .f32⟩
  | .hbm, ⟨10, _⟩ => ⟨S4x2x512x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DSw.lean ====
abbrev S8192x2048 : Shape := ⟨2, ![8192, 2048]⟩
abbrev S5632x2048 : Shape := ⟨2, ![5632, 2048]⟩
abbrev S2x8192x5632 : Shape := ⟨3, ![2, 8192, 5632]⟩
abbrev S1x5632x2048 : Shape := ⟨3, ![1, 5632, 2048]⟩
abbrev S1x8192x2048 : Shape := ⟨3, ![1, 8192, 2048]⟩
abbrev S1x1024x2048 : Shape := ⟨3, ![1, 1024, 2048]⟩
abbrev S1x512x2048 : Shape := ⟨3, ![1, 512, 2048]⟩
abbrev S2x1024x512 : Shape := ⟨3, ![2, 1024, 512]⟩
abbrev S1024x512 : Shape := ⟨2, ![1024, 512]⟩
abbrev S1024x2048 : Shape := ⟨2, ![1024, 2048]⟩
abbrev S512x2048 : Shape := ⟨2, ![512, 2048]⟩
abbrev S1x1024x512 : Shape := ⟨3, ![1, 1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S1x5632x2048, .bf16⟩
  | .hbm, ⟨4, _⟩ => ⟨S1x8192x2048, .bf16⟩
  | .hbm, ⟨5, _⟩ => ⟨S2x8192x5632, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDSwIdeal.lean ====
abbrev S8192x2048 : Shape := ⟨2, ![8192, 2048]⟩
abbrev S5632x2048 : Shape := ⟨2, ![5632, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S8192x2048, .f32⟩
  | .hbm, ⟨4, _⟩ => ⟨S5632x2048, .f32⟩
  | .hbm, ⟨5, _⟩ => ⟨S2x8192x5632, .f32⟩
  | .hbm, ⟨6, _⟩ => ⟨S1x8192x5632, .f32⟩
  | .hbm, ⟨7, _⟩ => ⟨S8192x5632, .f32⟩
  | .hbm, ⟨8, _⟩ => ⟨S1x8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S1x8192x5632, .f32⟩
  | .hbm, ⟨33, _⟩ => ⟨S1x8192x5632, .f32⟩
  | .hbm, ⟨34, _⟩ => ⟨S2x8192x5632, .f32⟩
  | .hbm, ⟨35, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== DY.lean ====
abbrev S8192x2048 : Shape := ⟨2, ![8192, 2048]⟩
abbrev S2048x2048 : Shape := ⟨2, ![2048, 2048]⟩
abbrev S8448x12288 : Shape := ⟨2, ![8448, 12288]⟩
abbrev S1x2048x2048 : Shape := ⟨3, ![1, 2048, 2048]⟩
abbrev S1x8192x2048 : Shape := ⟨3, ![1, 8192, 2048]⟩
abbrev S1x1024x2048 : Shape := ⟨3, ![1, 1024, 2048]⟩
abbrev S1x512x2048 : Shape := ⟨3, ![1, 512, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 11
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .hbm, ⟨4, _⟩ => ⟨S8448x12288, .f32⟩
  | .hbm, ⟨5, _⟩ => ⟨S1x2048x2048, .bf16⟩
  | .hbm, ⟨6, _⟩ => ⟨S1x8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== RefDYIdeal.lean ====
abbrev S8192x2048 : Shape := ⟨2, ![8192, 2048]⟩
abbrev S2048x2048 : Shape := ⟨2, ![2048, 2048]⟩
abbrev S8448x12288 : Shape := ⟨2, ![8448, 12288]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .hbm, ⟨4, _⟩ => ⟨S8448x12288, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | .hbm, ⟨47, _⟩ => ⟨S8192x2048, .bf16⟩
  | .hbm, ⟨48, _⟩ => ⟨S8192x2048, .bf16⟩
  | .hbm, ⟨49, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== AdIn.lean ====
abbrev S2048x3072 : Shape := ⟨2, ![2048, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInIdeal.lean ====
abbrev S2048x3072 : Shape := ⟨2, ![2048, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdInIdeal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFi.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdFiIdeal.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdFiIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFo.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdFoIdeal.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdFoIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdP.lean ====
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPIdeal.lean ====
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdPIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdOutIdeal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdOutIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdRow.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRowIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdRowIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdB.lean ====
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdBIdeal.lean ====
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdBIdeal.lean ====
abbrev S1x12288 : Shape := ⟨2, ![1, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S_, .f32⟩
  | .hbm, ⟨5, _⟩ => ⟨S1x12288, .f32⟩
  | .hbm, ⟨6, _⟩ => ⟨S1x12288, .f32⟩
  | .hbm, ⟨7, _⟩ => ⟨S_, .f32⟩
  | .hbm, ⟨8, _⟩ => ⟨S1x12288, .f32⟩
  | .hbm, ⟨9, _⟩ => ⟨S1x12288, .f32⟩
  | .hbm, ⟨10, _⟩ => ⟨S1x12288, .f32⟩
  | .hbm, ⟨11, _⟩ => ⟨S_, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S_, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S_, .f32⟩
  | .hbm, ⟨20, _⟩ => ⟨S1x12288, .f32⟩
  | .hbm, ⟨21, _⟩ => ⟨S1x12288, .f32⟩
  | .hbm, ⟨22, _⟩ => ⟨S_, .f32⟩
  | .hbm, ⟨23, _⟩ => ⟨S1x12288, .f32⟩
  | .hbm, ⟨24, _⟩ => ⟨S1x12288, .f32⟩
  | .hbm, ⟨25, _⟩ => ⟨S1x12288, .f32⟩
  | .hbm, ⟨26, _⟩ => ⟨S_, .f32⟩
  | .hbm, ⟨27, _⟩ => ⟨S1x12288, .f32⟩
  | .hbm, ⟨28, _⟩ => ⟨S1x12288, .f32⟩
  | .hbm, ⟨29, _⟩ => ⟨S1x12288, .f32⟩
  | .hbm, ⟨30, _⟩ => ⟨S_, .f32⟩
  | .hbm, ⟨31, _⟩ => ⟨S1x12288, .f32⟩
  | .hbm, ⟨32, _⟩ => ⟨S1x12288, .f32⟩
  | .hbm, ⟨33, _⟩ => ⟨S1x12288, .f32⟩
  | .hbm, ⟨34, _⟩ => ⟨S_, .f32⟩
  | .hbm, ⟨35, _⟩ => ⟨S1x12288, .f32⟩
  | .hbm, ⟨36, _⟩ => ⟨S1x12288, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdRpb.lean ====
abbrev S1x7440 : Shape := ⟨2, ![1, 7440]⟩

abbrev nBuf : Space → Nat
  | .hbm => 7
  | .vmem => 7
  | .smem => 0
  | _ => 0

abbrev bufTy : (tb : Table) → Fin (tcTables nBuf tb) → BufTy
  | .hbm, ⟨0, _⟩ => ⟨S1x7440, .f32⟩
  | .hbm, ⟨1, _⟩ => ⟨S1x7440, .f32⟩
  | .hbm, ⟨2, _⟩ => ⟨S1x7440, .f32⟩
  | .hbm, ⟨3, _⟩ => ⟨S1x7440, .f32⟩
  | .hbm, ⟨4, _⟩ => ⟨S1x7440, .f32⟩
  | .hbm, ⟨5, _⟩ => ⟨S1x7440, .f32⟩
  | .hbm, ⟨6, _⟩ => ⟨S1x7440, .f32⟩
  | .local _ .vmem, ⟨0, _⟩ => ⟨S1x7440, .f32⟩
  | .local _ .vmem, ⟨1, _⟩ => ⟨S1x7440, .f32⟩
  | .local _ .vmem, ⟨2, _⟩ => ⟨S1x7440, .f32⟩
  | .local _ .vmem, ⟨3, _⟩ => ⟨S1x7440, .f32⟩
  | .local _ .vmem, ⟨4, _⟩ => ⟨S1x7440, .f32⟩
  | .local _ .vmem, ⟨5, _⟩ => ⟨S1x7440, .f32⟩
  | .local _ .vmem, ⟨6, _⟩ => ⟨S1x7440, .f32⟩
  | _, _ => ⟨S1x7440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x7440 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x7440 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x7440 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x7440 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x7440 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x7440 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x7440 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRpbIdeal.lean ====
abbrev S1x7440 : Shape := ⟨2, ![1, 7440]⟩

abbrev nBuf : Space → Nat
  | .hbm => 7
  | .vmem => 7
  | .smem => 0
  | _ => 0

abbrev bufTy : (tb : Table) → Fin (tcTables nBuf tb) → BufTy
  | .hbm, ⟨0, _⟩ => ⟨S1x7440, .f32⟩
  | .hbm, ⟨1, _⟩ => ⟨S1x7440, .f32⟩
  | .hbm, ⟨2, _⟩ => ⟨S1x7440, .f32⟩
  | .hbm, ⟨3, _⟩ => ⟨S1x7440, .f32⟩
  | .hbm, ⟨4, _⟩ => ⟨S1x7440, .f32⟩
  | .hbm, ⟨5, _⟩ => ⟨S1x7440, .f32⟩
  | .hbm, ⟨6, _⟩ => ⟨S1x7440, .f32⟩
  | .local _ .vmem, ⟨0, _⟩ => ⟨S1x7440, .f32⟩
  | .local _ .vmem, ⟨1, _⟩ => ⟨S1x7440, .f32⟩
  | .local _ .vmem, ⟨2, _⟩ => ⟨S1x7440, .f32⟩
  | .local _ .vmem, ⟨3, _⟩ => ⟨S1x7440, .f32⟩
  | .local _ .vmem, ⟨4, _⟩ => ⟨S1x7440, .f32⟩
  | .local _ .vmem, ⟨5, _⟩ => ⟨S1x7440, .f32⟩
  | .local _ .vmem, ⟨6, _⟩ => ⟨S1x7440, .f32⟩
  | _, _ => ⟨S1x7440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x7440 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x7440 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x7440 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x7440 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x7440 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x7440 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x7440 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdRpbIdeal.lean ====
abbrev S1x7440 : Shape := ⟨2, ![1, 7440]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x7440, .f32⟩
  | .hbm, ⟨1, _⟩ => ⟨S1x7440, .f32⟩
  | .hbm, ⟨2, _⟩ => ⟨S1x7440, .f32⟩
  | .hbm, ⟨3, _⟩ => ⟨S1x7440, .f32⟩
  | .hbm, ⟨4, _⟩ => ⟨S_, .f32⟩
  | .hbm, ⟨5, _⟩ => ⟨S1x7440, .f32⟩
  | .hbm, ⟨6, _⟩ => ⟨S1x7440, .f32⟩
  | .hbm, ⟨7, _⟩ => ⟨S_, .f32⟩
  | .hbm, ⟨8, _⟩ => ⟨S1x7440, .f32⟩
  | .hbm, ⟨9, _⟩ => ⟨S1x7440, .f32⟩
  | .hbm, ⟨10, _⟩ => ⟨S1x7440, .f32⟩
  | .hbm, ⟨11, _⟩ => ⟨S_, .f32⟩
  | .hbm, ⟨12, _⟩ => ⟨S1x7440, .f32⟩
  | .hbm, ⟨13, _⟩ => ⟨S1x7440, .f32⟩
  | .hbm, ⟨14, _⟩ => ⟨S1x7440, .f32⟩
  | .hbm, ⟨15, _⟩ => ⟨S_, .f32⟩
  | .hbm, ⟨16, _⟩ => ⟨S1x7440, .f32⟩
  | .hbm, ⟨17, _⟩ => ⟨S1x7440, .f32⟩
  | .hbm, ⟨18, _⟩ => ⟨S1x7440, .f32⟩
  | .hbm, ⟨19, _⟩ => ⟨S_, .f32⟩
  | .hbm, ⟨20, _⟩ => ⟨S1x7440, .f32⟩
  | .hbm, ⟨21, _⟩ => ⟨S1x7440, .f32⟩
  | .hbm, ⟨22, _⟩ => ⟨S_, .f32⟩
  | .hbm, ⟨23, _⟩ => ⟨S1x7440, .f32⟩
  | .hbm, ⟨24, _⟩ => ⟨S1x7440, .f32⟩
  | .hbm, ⟨25, _⟩ => ⟨S1x7440, .f32⟩
  | .hbm, ⟨26, _⟩ => ⟨S_, .f32⟩
  | .hbm, ⟨27, _⟩ => ⟨S1x7440, .f32⟩
  | .hbm, ⟨28, _⟩ => ⟨S1x7440, .f32⟩
  | .hbm, ⟨29, _⟩ => ⟨S1x7440, .f32⟩
  | .hbm, ⟨30, _⟩ => ⟨S_, .f32⟩
  | .hbm, ⟨31, _⟩ => ⟨S1x7440, .f32⟩
  | .hbm, ⟨32, _⟩ => ⟨S1x7440, .f32⟩
  | .hbm, ⟨33, _⟩ => ⟨S1x7440, .f32⟩
  | .hbm, ⟨34, _⟩ => ⟨S_, .f32⟩
  | .hbm, ⟨35, _⟩ => ⟨S1x7440, .f32⟩
  | .hbm, ⟨36, _⟩ => ⟨S1x7440, .f32⟩
  | _, _ => ⟨S1x7440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdLb.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdLbIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdLbIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdHn.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdHnIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== RefAdHnIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Merge.lean ====
abbrev S8192x2048 : Shape := ⟨2, ![8192, 2048]⟩
abbrev S8448x12288 : Shape := ⟨2, ![8448, 12288]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8448x12288, .f32⟩
  | .hbm, ⟨3, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefMergeIdeal.lean ====
abbrev S8192x2048 : Shape := ⟨2, ![8192, 2048]⟩
abbrev S8448x12288 : Shape := ⟨2, ![8448, 12288]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8448x12288, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AdaFwd.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩
abbrev S2048x512 : Shape := ⟨2, ![2048, 512]⟩
abbrev S1x512 : Shape := ⟨2, ![1, 512]⟩
abbrev S16x512 : Shape := ⟨2, ![16, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .local _ .vmem, ⟨0, _⟩ => ⟨S16x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefAdaFwdIdeal.lean ====
abbrev S16x2048 : Shape := ⟨2, ![16, 2048]⟩
abbrev S2048x3072 : Shape := ⟨2, ![2048, 3072]⟩
abbrev S1x3072 : Shape := ⟨2, ![1, 3072]⟩
abbrev S_ : Shape := ⟨0, ![]⟩
abbrev S16x3072 : Shape := ⟨2, ![16, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x3072, .f32⟩
  | .hbm, ⟨13, _⟩ => ⟨S16x3072, .f32⟩
  | .hbm, ⟨14, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdaBwd.lean ====
abbrev S16x2048 : Shape := ⟨2, ![16, 2048]⟩
abbrev S2048x3072 : Shape := ⟨2, ![2048, 3072]⟩
abbrev S16x3072 : Shape := ⟨2, ![16, 3072]⟩
abbrev S2048x512 : Shape := ⟨2, ![2048, 512]⟩
abbrev S16x512 : Shape := ⟨2, ![16, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S16x3072, .f32⟩
  | .hbm, ⟨3, _⟩ => ⟨S2048x3072, .f32⟩
  | .hbm, ⟨4, _⟩ => ⟨S16x2048, .f32⟩
  | .local _ .vmem, ⟨0, _⟩ => ⟨S16x2048, .f32⟩
  | .local _ .vmem, ⟨1, _⟩ => ⟨S2048x512, .f32⟩
  | .local _ .vmem, ⟨2, _⟩ => ⟨S2048x512, .f32⟩
  | .local _ .vmem, ⟨3, _⟩ => ⟨S16x512, .f32⟩
  | .local _ .vmem, ⟨4, _⟩ => ⟨S16x512, .f32⟩
  | .local _ .vmem, ⟨5, _⟩ => ⟨S2048x512, .f32⟩
  | .local _ .vmem, ⟨6, _⟩ => ⟨S2048x512, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefAdaBwdIdeal.lean ====
abbrev S16x2048 : Shape := ⟨2, ![16, 2048]⟩
abbrev S2048x3072 : Shape := ⟨2, ![2048, 3072]⟩
abbrev S16x3072 : Shape := ⟨2, ![16, 3072]⟩
abbrev S_ : Shape := ⟨0, ![]⟩
abbrev S3072x2048 : Shape := ⟨2, ![3072, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S16x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x3072, .f32⟩
  | .hbm, ⟨13, _⟩ => ⟨S3072x2048, .f32⟩
  | .hbm, ⟨14, _⟩ => ⟨S2048x3072, .f32⟩
  | .hbm, ⟨15, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Sum8.lean ====
abbrev S8x24x2048 : Shape := ⟨3, ![8, 24, 2048]⟩
abbrev S24x2048 : Shape := ⟨2, ![24, 2048]⟩
abbrev S1x24x2048 : Shape := ⟨3, ![1, 24, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x24x2048, .f32⟩
  | .hbm, ⟨1, _⟩ => ⟨S24x2048, .f32⟩
  | .local _ .vmem, ⟨0, _⟩ => ⟨S8x24x2048, .f32⟩
  | .local _ .vmem, ⟨1, _⟩ => ⟨S24x2048, .f32⟩
  | _, _ => ⟨S8x24x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefSum8Ideal.lean ====
abbrev S8x24x2048 : Shape := ⟨3, ![8, 24, 2048]⟩
abbrev S_ : Shape := ⟨0, ![]⟩
abbrev S24x2048 : Shape := ⟨2, ![24, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x24x2048, .f32⟩
  | .hbm, ⟨1, _⟩ => ⟨S_, .f32⟩
  | .hbm, ⟨2, _⟩ => ⟨S24x2048, .f32⟩
  | _, _ => ⟨S8x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ln1.lean ====
abbrev S8448x2048 : Shape := ⟨2, ![8448, 2048]⟩
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S8x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefLn1Ideal.lean ====
abbrev S8448x2048 : Shape := ⟨2, ![8448, 2048]⟩
abbrev S8192x2048 : Shape := ⟨2, ![8192, 2048]⟩
abbrev S1x2048 : Shape := ⟨2, ![1, 2048]⟩
abbrev S8x2048 : Shape := ⟨2, ![8, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.IdealFrame.lean ====
/- The run of the kernel at the exact numbers: what each grid point leaves in the outputs' staging buffers and in the two carried
   scratch buffers, the body at every point, and the frame. What a point leaves is a definition of its own (`atA`, `atB`). -/
module

public import proofs.«01_k».proof.Proof.Gen.KernelIdeal.Frame.RunB
public import Idealize.ShloMosaic.Lib.Claim

@[expose] public section

set_option maxRecDepth 16384

noncomputable section

namespace Cert.KernelIdeal.Step

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section CaseA

variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1x1024 .f32) (harg4 : arg4.IsWhole) (arg5 : Memref sig .tc .vmem S1x8x128x128 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S1x1024 .f32) (harg10 : arg10.IsWhole) (arg11 : Memref sig .tc .vmem S1x8x128x128 .f32) (harg11 : arg11.IsWhole) (arg12 : Memref sig .tc .vmem S64x1024 .f32) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S1x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S1x1024 .f32) (harg20 : arg20.IsWhole) (arg21 : Memref sig .tc .vmem S8x128x128 .f32) (harg21 : arg21.IsWhole) (arg22 : Memref sig .tc .vmem S64x1024 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S64x1024 .f32) (harg28 : arg28.IsWhole) (arg29 : Memref sig .tc .vmem S64x1024 .f32) (harg29 : arg29.IsWhole) (arg30 : Memref sig .tc .vmem S64x1024 .f32) (harg30 : arg30.IsWhole) (arg31 : Memref sig .tc .vmem S64x1024 .f32) (harg31 : arg31.IsWhole) (arg32 : Memref sig .tc .vmem S1x1024 .f32) (harg32 : arg32.IsWhole) (hc0 : cond0_0 i) (hc1 : cond0_1 i)
  (x0 : Vec F S64x1024 .f32) (x1 : Vec F S64x1024 .f32) (x2 : Vec F S64x1024 .f32) (x3 : Vec F S1x1024 .f32) (x4 : Vec F S1x8x128x128 .f32) (x5 : Vec F S64x1024 .f32) (x6 : Vec F S64x1024 .f32) (x7 : Vec F S64x1024 .f32) (x8 : Vec F S64x1024 .f32) (x9 : Vec F S1x1024 .f32) (x10 : Vec F S1x8x128x128 .f32) (x11 : Vec F S64x1024 .f32)

theorem cover0_A_12 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).1, y ∈ pc.1.set :=
  View.cover_of_tiledL _ S64x1024.size (by sl_kernel_rfl) y

def out0_A_12 : Vec F S64x1024 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).1)

theorem cover0_A_13 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.1, y ∈ pc.1.set :=
  View.cover_of_tiledL _ S64x1024.size (by sl_kernel_rfl) y

def out0_A_13 : Vec F S64x1024 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.1)

theorem cover0_A_14 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.1 S64x128.size (by sl_kernel_rfl) y

def out0_A_14 : Vec F S64x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.1)

theorem cover0_A_15 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.1, y ∈ pc.1.set :=
  View.cover_of_tiledL _ S1x1024.size (by sl_kernel_rfl) y

def out0_A_15 : Vec F S1x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.1)

theorem cover0_A_16 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.1, y ∈ pc.1.set :=
  View.cover_of_tiledL _ S64x1024.size (by sl_kernel_rfl) y

def out0_A_16 : Vec F S64x1024 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.1)

theorem cover0_A_17 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.1, y ∈ pc.1.set :=
  View.cover_of_tiledL _ S64x1024.size (by sl_kernel_rfl) y

def out0_A_17 : Vec F S64x1024 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.1)

theorem cover0_A_18 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.1 S64x128.size (by sl_kernel_rfl) y

def out0_A_18 : Vec F S64x1024 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.1)

theorem cover0_A_19 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.2.1, y ∈ pc.1.set :=
  View.cover_of_tiledL _ S1x1024.size (by sl_kernel_rfl) y

def out0_A_19 : Vec F S1x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.2.1)

theorem scover0_A_0 (y : S8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.2.2.1, y ∈ pc.1.set :=
  View.cover_of_wholeMem _ (by sl_whole_mem) y

def sout0_A_0 : Vec F S8x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.2.2.1)

theorem scover0_A_6 (y : S8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.2.2.2.1, y ∈ pc.1.set :=
  View.cover_of_wholeMem _ (by sl_whole_mem) y

def sout0_A_6 : Vec F S8x128x128 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11).2.2.2.2.2.2.2.2.2.1)

end CaseA

section CaseB

variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1x1024 .f32) (harg4 : arg4.IsWhole) (arg5 : Memref sig .tc .vmem S1x8x128x128 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S1x1024 .f32) (harg10 : arg10.IsWhole) (arg11 : Memref sig .tc .vmem S1x8x128x128 .f32) (harg11 : arg11.IsWhole) (arg12 : Memref sig .tc .vmem S64x1024 .f32) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S1x1024 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S64x1024 .bf16) (harg19 : arg19.IsWhole) (arg20 : Memref sig .tc .vmem S1x1024 .f32) (harg20 : arg20.IsWhole) (arg21 : Memref sig .tc .vmem S8x128x128 .f32) (harg21 : arg21.IsWhole) (arg22 : Memref sig .tc .vmem S64x1024 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S1x1024 .f32) (harg26 : arg26.IsWhole) (arg27 : Memref sig .tc .vmem S8x128x128 .f32) (harg27 : arg27.IsWhole) (arg28 : Memref sig .tc .vmem S64x1024 .f32) (harg28 : arg28.IsWhole) (arg29 : Memref sig .tc .vmem S64x1024 .f32) (harg29 : arg29.IsWhole) (arg30 : Memref sig .tc .vmem S64x1024 .f32) (harg30 : arg30.IsWhole) (arg31 : Memref sig .tc .vmem S64x1024 .f32) (harg31 : arg31.IsWhole) (arg32 : Memref sig .tc .vmem S1x1024 .f32) (harg32 : arg32.IsWhole) (hc0 : ¬cond0_0 i) (hc1 : ¬cond0_1 i)
  (x0 : Vec F S64x1024 .f32) (x1 : Vec F S64x1024 .f32) (x2 : Vec F S64x1024 .f32) (x3 : Vec F S1x1024 .f32) (x4 : Vec F S1x8x128x128 .f32) (x5 : Vec F S64x1024 .f32) (x6 : Vec F S64x1024 .f32) (x7 : Vec F S64x1024 .f32) (x8 : Vec F S64x1024 .f32) (x9 : Vec F S1x1024 .f32) (x10 : Vec F S1x8x128x128 .f32) (x11 : Vec F S64x1024 .f32) (xo15 : Vec F S1x1024 .f32) (xo19 : Vec F S1x1024 .f32) (xs0 : Vec F S8x128x128 .f32) (xs6 : Vec F S8x128x128 .f32)

theorem cover0_B_12 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).1, y ∈ pc.1.set :=
  View.cover_of_tiledL _ S64x1024.size (by sl_kernel_rfl) y

def out0_B_12 : Vec F S64x1024 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).1)

theorem cover0_B_13 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.1, y ∈ pc.1.set :=
  View.cover_of_tiledL _ S64x1024.size (by sl_kernel_rfl) y

def out0_B_13 : Vec F S64x1024 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.1)

theorem cover0_B_14 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.1 S64x128.size (by sl_kernel_rfl) y

def out0_B_14 : Vec F S64x1024 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.1)

theorem cover0_B_15 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.1, y ∈ pc.1.set :=
  View.cover_of_tiledL _ S1x1024.size (by sl_kernel_rfl) y

def out0_B_15 : Vec F S1x1024 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.1)

theorem cover0_B_16 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.1, y ∈ pc.1.set :=
  View.cover_of_tiledL _ S64x1024.size (by sl_kernel_rfl) y

def out0_B_16 : Vec F S64x1024 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.1)

theorem cover0_B_17 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.1, y ∈ pc.1.set :=
  View.cover_of_tiledL _ S64x1024.size (by sl_kernel_rfl) y

def out0_B_17 : Vec F S64x1024 .bf16 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.1)

theorem cover0_B_18 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.1 S64x128.size (by sl_kernel_rfl) y

def out0_B_18 : Vec F S64x1024 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.1)

theorem cover0_B_19 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.1, y ∈ pc.1.set :=
  View.cover_of_tiledL _ S1x1024.size (by sl_kernel_rfl) y

def out0_B_19 : Vec F S1x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.1)

theorem scover0_B_0 (y : S8x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.2.1 S1x128x128.size (by sl_kernel_rfl) y

def sout0_B_0 : Vec F S8x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.2.1)

theorem scover0_B_6 (y : S8x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.2.2.1 S1x128x128.size (by sl_kernel_rfl) y

def sout0_B_6 : Vec F S8x128x128 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 x0 x1 x2 x3 x4 x5 x6 x7 x8 x9 x10 x11 xo15 xo19 xs0 xs6).2.2.2.2.2.2.2.2.2.1)

end CaseB

/-- What a point that starts the sweep leaves: the outputs' buffers, then the two carried scratch buffers. -/
def atA (c : Dev nD) (t : Fin cfg0.N) (h0 : t.val % 132 = 0) (h1 : t.val % 132 = 0) :
    Vec F S64x1024 .bf16 × Vec F S64x1024 .bf16 × Vec F S64x1024 .bf16 × Vec F S1x1024 .f32 × Vec F S64x1024 .bf16 × Vec F S64x1024 .bf16 × Vec F S64x1024 .bf16 × Vec F S1x1024 .f32 × Vec F S8x128x128 .f32 × Vec F S8x128x128 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What any other point leaves, over what the point before it left, `p`. -/
def atB (c : Dev nD) (t : Fin cfg0.N) (h0 : ¬t.val % 132 = 0) (h1 : ¬t.val % 132 = 0)
    (p : Vec F S64x1024 .bf16 × Vec F S64x1024 .bf16 × Vec F S64x1024 .bf16 × Vec F S1x1024 .f32 × Vec F S64x1024 .bf16 × Vec F S64x1024 .bf16 × Vec F S64x1024 .bf16 × Vec F S1x1024 .f32 × Vec F S8x128x128 .f32 × Vec F S8x128x128 .f32) :
    Vec F S64x1024 .bf16 × Vec F S64x1024 .bf16 × Vec F S64x1024 .bf16 × Vec F S1x1024 .f32 × Vec F S64x1024 .bf16 × Vec F S64x1024 .bf16 × Vec F S64x1024 .bf16 × Vec F S1x1024 .f32 × Vec F S8x128x128 .f32 × Vec F S8x128x128 .f32 :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.2.2.1 p.2.2.2.2.2.2.2.2.1 p.2.2.2.2.2.2.2.2.2)

/-- What the outputs' buffers and the carried scratch hold after the body at position `n`. -/
def outsAt0 (c : Dev nD) : (n : ℕ) → n < cfg0.N →
    Vec F S64x1024 .bf16 × Vec F S64x1024 .bf16 × Vec F S64x1024 .bf16 × Vec F S1x1024 .f32 × Vec F S64x1024 .bf16 × Vec F S64x1024 .bf16 × Vec F S64x1024 .bf16 × Vec F S1x1024 .f32 × Vec F S8x128x128 .f32 × Vec F S8x128x128 .f32
  | 0, hn => atA m c ⟨0, hn⟩ (Nat.zero_mod _) (Nat.zero_mod _)
  | n + 1, hn =>
    if h : (n + 1) % 132 = 0 then atA m c ⟨n + 1, hn⟩ h h
    else atB m c ⟨n + 1, hn⟩ h h (outsAt0 c n (Nat.lt_of_succ_lt hn))

theorem outsAt0_A (c : Dev nD) (t : Fin cfg0.N) (h0 : t.val % 132 = 0) (h1 : t.val % 132 = 0) :
    outsAt0 m c t.val t.isLt = atA m c t h0 h1 := by
  obtain ⟨n, hn⟩ := t
  cases n with
  | zero => rfl
  | succ n => exact dif_pos h0

theorem outsAt0_B (c : Dev nD) (t : Fin cfg0.N) (h0 : ¬t.val % 132 = 0) (h1 : ¬t.val % 132 = 0) :
    outsAt0 m c t.val t.isLt
      = atB m c t h0 h1 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- Before position `n`: the two carried scratch buffers hold what the point before left in them; the other scratch
    buffers hold anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2.2.2.2.2.2.2) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2.2.2.2.2.2.2) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.2.2.2.2.2.2.2) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  cases n with
  | zero => exact absurd rfl hz
  | succ n => rfl

/-! ## The pipeline's proof data -/

/-- The pipeline's data: what each staging buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨_ + 20, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_15_B (c : Dev nD) (t : Fin cfg0.N) (h0 : ¬t.val % 132 = 0) (h1 : ¬t.val % 132 = 0) (d) :
    (dats m 0 c).before 15 t d = (outsAt0 m c (t.val - 1) (Nat.lt_of_le_of_lt (Nat.sub_le _ _) t.isLt)).2.2.2.1 := by
  have hN : t.val < 132 := lt_of_lt_of_eq t.isLt (show cfg0.N = 132 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_19_B (c : Dev nD) (t : Fin cfg0.N) (h0 : ¬t.val % 132 = 0) (h1 : ¬t.val % 132 = 0) (d) :
    (dats m 0 c).before 19 t d = (outsAt0 m c (t.val - 1) (Nat.lt_of_le_of_lt (Nat.sub_le _ _) t.isLt)).2.2.2.2.2.2.2.1 := by
  have hN : t.val < 132 := lt_of_lt_of_eq t.isLt (show cfg0.N = 132 from N_0)
  rw [Dat.before_out_kept _ 19 rfl t (by omega) (Bool.eq_false_iff.mpr fun h => by have := (flush0_19 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 25600000 in
/-- The body at any point: the case's run, at the inputs' blocks and what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 132 := lt_of_lt_of_eq t.isLt (show cfg0.N = 132 from N_0)
  by_cases h0 : t.val % 132 = 0
  · by_cases h1 : t.val % 132 = 0
    · by_cases hz : t.val = 0
      · rw [PhiS_castSucc m c t, PhiS_zero m c _ _ hz, PhiA0_eq]
        rw [outsAt0_A m c t h0 h1]
        unfold atA out0_A_12 out0_A_13 out0_A_14 out0_A_15 out0_A_16 out0_A_17 out0_A_18 out0_A_19 sout0_A_0 sout0_A_6; (try dsimp only)
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, ⟨%fT1, HS1⟩, ⟨%fT2, HS2⟩, ⟨%fT3, HS3⟩, ⟨%fT4, HS4⟩, ⟨%fT5, HS5⟩, ⟨%es6, HS6⟩, ⟨%fT7, HS7⟩, ⟨%fT8, HS8⟩, ⟨%fT9, HS9⟩, ⟨%fT10, HS10⟩, ⟨%fT11, HS11⟩⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · unfold owns; iexists _; isplitr
              swap; · iexact HS6
              ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            isplitl [HS10]
            · iexists _; unfold owns; iexists _; isplitr
              swap; · iexact HS10
              ipureintro; rfl
            iexists _; unfold owns; iexists _; isplitr
            swap; · iexact HS11
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 132 := lt_of_lt_of_eq t.isLt (show cfg0.N = 132 from N_0); omega
    · exfalso; omega
  · by_cases h1 : t.val % 132 = 0
    · exfalso; omega
    · by_cases hz : t.val = 0
      · exfalso; have hN : t.val < 132 := lt_of_lt_of_eq t.isLt (show cfg0.N = 132 from N_0); omega
      · rw [PhiS_castSucc m c t, PhiS_pos m c _ _ hz]
        rw [outsAt0_B m c t h0 h1]
        simp only [before0_15_B m c t h0 h1, before0_19_B m c t h0 h1]
        unfold atB out0_B_12 out0_B_13 out0_B_14 out0_B_15 out0_B_16 out0_B_17 out0_B_18 out0_B_19 sout0_B_0 sout0_B_6; (try dsimp only)
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2.2.2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexact H15
        isplitl [H16]; · iexists _; iexact H16
        isplitl [H17]; · iexists _; iexact H17
        isplitl [H18]; · iexists _; iexact H18
        isplitl [H19]; · iexact H19
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, ⟨%fT1, HS1⟩, ⟨%fT2, HS2⟩, ⟨%fT3, HS3⟩, ⟨%fT4, HS4⟩, ⟨%fT5, HS5⟩, ⟨%es6, HS6⟩, ⟨%fT7, HS7⟩, ⟨%fT8, HS8⟩, ⟨%fT9, HS9⟩, ⟨%fT10, HS10⟩, ⟨%fT11, HS11⟩⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · unfold owns; iexists _; isplitr
              swap; · iexact HS6
              ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            isplitl [HS10]
            · iexists _; unfold owns; iexists _; isplitr
              swap; · iexact HS10
              ipureintro; rfl
            iexists _; unfold owns; iexists _; isplitr
            swap; · iexact HS11
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11⟩, Hg⟩
  isplitl [HS0 HS1 HS2 HS3 HS4 HS5 HS6 HS7 HS8 HS9 HS10 HS11]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexists _; iexact HS6
    isplitl [HS7]
    · iexact HS7
    isplitl [HS8]
    · iexact HS8
    isplitl [HS9]
    · iexact HS9
    isplitl [HS10]
    · iexact HS10
    iexact HS11
  iexact Hg

theorem hout (c : Dev nD) : (dats m 0 c).Φ (Fin.last cfg0.N) ⊢ Pipeline.ΦA spec0 c :=
  Phi_out m c _ (by rw [Fin.val_last]; have : cfg0.N = 132 := N_0; omega)

/-! ## The run and the frame -/

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Step

end
-- ==== Proof.Scan.lean ====
/- The gradient of one head's gated scan over the reals, twice: as the sums over all tokens that the reference writes
   (`rdq`, `rdk`, `rdv`, `rdlf`), and chunk by chunk, from the state before a chunk and the gradient of the state after it,
   as the kernel computes it (`kdq`, `kdk`, `kdv`, `kdlf`). The two are equal. Tokens are pairs of a chunk and a row; chunks
   are read in the order `ord`, and within a chunk row `a` is read no later than row `b` when `le a b`. -/
module

public import Mathlib.Analysis.SpecialFunctions.Exp
public import Mathlib.Algebra.BigOperators.Ring.Finset
public import Mathlib.Tactic.Ring
public import Mathlib.Tactic.Linarith

@[expose] public section

noncomputable section

namespace Cert.Scan

open Finset

variable {C R K V : Type} [Fintype C] [DecidableEq C] [Fintype R] [DecidableEq R] [Fintype K] [Fintype V]
variable (ord : C → ℕ) (le : R → R → Prop) [DecidableRel le]

/-- Token `s` is read no later than token `t`. -/
def seen (t s : C × R) : Prop := ord s.1 < ord t.1 ∨ (s.1 = t.1 ∧ le s.2 t.2)

instance (t s : C × R) : Decidable (seen ord le t s) := by unfold seen; infer_instance

variable (q kk lf : C × R → K → ℝ) (vv dO : C × R → V → ℝ)

/-! ## The reference's sums -/

/-- The log gates summed over every token read so far. -/
def cum (t : C × R) (k : K) : ℝ := ∑ s, if seen ord le t s then lf s k else 0

/-- The decay between two tokens, zero for a token not yet read. -/
def rel (t s : C × R) (k : K) : ℝ := if seen ord le t s then Real.exp (cum ord le lf t k - cum ord le lf s k) else 0

/-- The gradient of one attention weight. -/
def dA (t s : C × R) : ℝ := ∑ v, dO t v * vv s v

def rdq (t : C × R) (k : K) : ℝ := ∑ s, dA vv dO t s * rel ord le lf t s k * kk s k

def rdk (s : C × R) (k : K) : ℝ := ∑ t, q t k * (dA vv dO t s * rel ord le lf t s k)

def rdv (s : C × R) (v : V) : ℝ := ∑ t, dO t v * ∑ k, q t k * kk s k * rel ord le lf t s k

/-- What the pair `t`, `s` gives to the gradient of the summed log gates. -/
def rW (t s : C × R) (k : K) : ℝ :=
  if seen ord le t s then q t k * kk s k * dA vv dO t s * rel ord le lf t s k else 0

def rdcum (t : C × R) (k : K) : ℝ :=
  (∑ t', -rW ord le q kk lf vv dO t' t k) + ∑ s, rW ord le q kk lf vv dO t s k

def rdlf (r : C × R) (k : K) : ℝ := ∑ t, if seen ord le t r then rdcum ord le q kk lf vv dO t k else 0

/-! ## The chunked computation -/

/-- The log gates summed within the chunk, up to a row. -/
def cl (c : C) (r : R) (k : K) : ℝ := ∑ r', (if le r' r then 1 else 0) * lf (c, r') k

/-- The log gates of all earlier chunks. -/
def G (c : C) (k : K) : ℝ := ∑ s : C × R, if ord s.1 < ord c then lf s k else 0

/-- The log gates of the chunk. -/
def tot (c : C) (k : K) : ℝ := ∑ r, lf (c, r) k

/-- The state before a chunk. -/
def St (c : C) (v : V) (k : K) : ℝ :=
  ∑ s : C × R, vv s v * (kk s k * if ord s.1 < ord c then Real.exp (G ord lf c k - cum ord le lf s k) else 0)

/-- The gradient of the state after a chunk. -/
def Dst (c : C) (v : V) (k : K) : ℝ :=
  ∑ t : C × R, if ord c < ord t.1 then dO t v * q t k * Real.exp (cum ord le lf t k - G ord lf c k - tot lf c k) else 0

variable (mid : C → K → ℝ)

def eq (c : C) (r : R) (k : K) : ℝ := Real.exp (cl le lf c r k - mid c k)
def ek (c : C) (r : R) (k : K) : ℝ := Real.exp (mid c k - cl le lf c r k)
def ec (c : C) (r : R) (k : K) : ℝ := Real.exp (cl le lf c r k)
def el (c : C) (k : K) : ℝ := Real.exp (tot lf c k)
def ekd (c : C) (r : R) (k : K) : ℝ := Real.exp (tot lf c k - cl le lf c r k)

def qe (c : C) (r : R) (k : K) : ℝ := q (c, r) k * eq le lf mid c r k
def ke (c : C) (r : R) (k : K) : ℝ := kk (c, r) k * ek le lf mid c r k
def qd (c : C) (r : R) (k : K) : ℝ := q (c, r) k * ec le lf c r k
def kd (c : C) (r : R) (k : K) : ℝ := kk (c, r) k * ekd le lf c r k

/-- The attention weights within a chunk. -/
def aw (c : C) (r r' : R) : ℝ := if le r' r then ∑ k, qe le q lf mid c r k * ke le kk lf mid c r' k else 0

/-- Their gradient. -/
def da (c : C) (r r' : R) : ℝ := if le r' r then ∑ v, dO (c, r) v * vv (c, r') v else 0

def dqe (c : C) (r : R) (k : K) : ℝ := ∑ r', da le vv dO c r r' * ke le kk lf mid c r' k
def dke (c : C) (r : R) (k : K) : ℝ := ∑ r', da le vv dO c r' r * qe le q lf mid c r' k

variable (S D : C → V → K → ℝ)

def dqd (c : C) (r : R) (k : K) : ℝ := ∑ v, dO (c, r) v * S c v k
def dkd (c : C) (r : R) (k : K) : ℝ := ∑ v, vv (c, r) v * D c v k
def dl (c : C) (k : K) : ℝ := ∑ v, D c v k * S c v k

def kdq (c : C) (r : R) (k : K) : ℝ :=
  dqe le kk lf vv dO mid c r k * eq le lf mid c r k + dqd dO S c r k * ec le lf c r k

def kdk (c : C) (r : R) (k : K) : ℝ :=
  dke le q lf vv dO mid c r k * ek le lf mid c r k + dkd vv D c r k * ekd le lf c r k

def kdv (c : C) (r : R) (v : V) : ℝ :=
  (∑ r', aw le q kk lf mid c r' r * dO (c, r') v) + ∑ k, kd le kk lf c r k * D c v k

def kdcum (c : C) (r : R) (k : K) : ℝ :=
  dqe le kk lf vv dO mid c r k * qe le q lf mid c r k - dke le q lf vv dO mid c r k * ke le kk lf mid c r k
    + dqd dO S c r k * qd le q lf c r k - dkd vv D c r k * kd le kk lf c r k

def kdlast (c : C) (k : K) : ℝ := (∑ r, dkd vv D c r k * kd le kk lf c r k) + el lf c k * dl S D c k

def kdlf (c : C) (r : R) (k : K) : ℝ :=
  (∑ r', (if le r r' then 1 else 0) * kdcum le q kk lf vv dO mid S D c r' k) + kdlast le kk lf vv S D c k

/-! ## They are equal -/

theorem sum_tok (f : C × R → ℝ) : ∑ s, f s = ∑ c, ∑ r, f (c, r) := Fintype.sum_prod_type f

theorem sum_chunk (c : C) (f : C × R → ℝ) : (∑ s : C × R, if s.1 = c then f s else 0) = ∑ r, f (c, r) := by
  rw [sum_tok, Finset.sum_eq_single c]
  · simp
  · intro b _ hb; simp [hb]
  · simp

/-- A sum over the tokens read so far: those of earlier chunks, and those of the chunk. -/
theorem sum_seen (t : C × R) (f : C × R → ℝ) :
    (∑ s, if seen ord le t s then f s else 0)
      = (∑ s : C × R, if ord s.1 < ord t.1 then f s else 0) + ∑ r, if le r t.2 then f (t.1, r) else 0 := by
  rw [← sum_chunk t.1 (fun s => if le s.2 t.2 then f s else 0), ← Finset.sum_add_distrib]
  refine Finset.sum_congr rfl fun s _ => ?_
  unfold seen
  by_cases h : s.1 = t.1
  · by_cases h' : le s.2 t.2 <;> simp [h, h']
  · by_cases h' : ord s.1 < ord t.1 <;> simp [h, h']

/-- A sum over the tokens that read a token: those of later chunks, and those of the chunk. -/
theorem sum_seen' (s : C × R) (f : C × R → ℝ) :
    (∑ t, if seen ord le t s then f t else 0)
      = (∑ t : C × R, if ord s.1 < ord t.1 then f t else 0) + ∑ r, if le s.2 r then f (s.1, r) else 0 := by
  rw [← sum_chunk s.1 (fun t => if le s.2 t.2 then f t else 0), ← Finset.sum_add_distrib]
  refine Finset.sum_congr rfl fun t _ => ?_
  unfold seen
  by_cases h : t.1 = s.1
  · by_cases h' : le s.2 t.2 <;> simp [h, h']
  · by_cases h' : ord s.1 < ord t.1 <;> simp [h, h', Ne.symm h]

theorem cum_eq (c : C) (r : R) (k : K) : cum ord le lf (c, r) k = G ord lf c k + cl le lf c r k := by
  unfold cum G cl
  rw [sum_seen]
  congr 1
  exact Finset.sum_congr rfl fun r' _ => by split <;> simp

theorem ite_mul_sum {ι : Type} [Fintype ι] (p : Prop) [Decidable p] (f : ι → ℝ) :
    (if p then ∑ i, f i else 0) = ∑ i, if p then f i else 0 := by split <;> simp

theorem kdq_eq (c : C) (r : R) (k : K) :
    kdq le kk lf vv dO mid (St ord le kk lf vv) c r k = rdq ord le kk lf vv dO (c, r) k := by
  have e : rdq ord le kk lf vv dO (c, r) k = ∑ s, if seen ord le (c, r) s then
      dA vv dO (c, r) s * Real.exp (cum ord le lf (c, r) k - cum ord le lf s k) * kk s k else 0 := by
    unfold rdq rel
    exact Finset.sum_congr rfl fun s _ => by split <;> simp
  rw [e, sum_seen, add_comm]
  unfold kdq
  congr 1
  · unfold dqe
    rw [Finset.sum_mul]
    refine Finset.sum_congr rfl fun r' _ => ?_
    unfold da ke ek eq dA
    split
    · rw [cum_eq, cum_eq, show G ord lf c k + cl le lf c r k - (G ord lf c k + cl le lf c r' k)
        = (mid c k - cl le lf c r' k) + (cl le lf c r k - mid c k) by ring, Real.exp_add]
      ring
    · simp
  · unfold dqd St ec dA
    simp_rw [Finset.mul_sum, Finset.sum_mul]
    rw [Finset.sum_comm]
    refine Finset.sum_congr rfl fun s _ => ?_
    split
    · rw [cum_eq ord le lf c r, show G ord lf c k + cl le lf c r k - cum ord le lf s k
        = (G ord lf c k - cum ord le lf s k) + cl le lf c r k by ring, Real.exp_add]
      refine Finset.sum_congr rfl fun v _ => ?_
      ring
    · simp

theorem kdk_eq (c : C) (r : R) (k : K) :
    kdk le q lf vv dO mid (Dst ord le q lf dO) c r k = rdk ord le q lf vv dO (c, r) k := by
  have e : rdk ord le q lf vv dO (c, r) k = ∑ t, if seen ord le t (c, r) then
      q t k * (dA vv dO t (c, r) * Real.exp (cum ord le lf t k - cum ord le lf (c, r) k)) else 0 := by
    unfold rdk rel
    exact Finset.sum_congr rfl fun s _ => by split <;> simp
  rw [e, sum_seen', add_comm]
  unfold kdk
  congr 1
  · unfold dke
    rw [Finset.sum_mul]
    refine Finset.sum_congr rfl fun r' _ => ?_
    unfold da qe ek eq dA
    dsimp only
    split
    · rw [cum_eq, cum_eq, show G ord lf c k + cl le lf c r' k - (G ord lf c k + cl le lf c r k)
        = (cl le lf c r' k - mid c k) + (mid c k - cl le lf c r k) by ring, Real.exp_add]
      ring
    · simp
  · unfold dkd Dst ekd dA
    simp_rw [Finset.mul_sum, Finset.sum_mul]
    rw [Finset.sum_comm]
    refine Finset.sum_congr rfl fun t _ => ?_
    split
    · rw [cum_eq ord le lf c r, show cum ord le lf t k - (G ord lf c k + cl le lf c r k)
        = (cum ord le lf t k - G ord lf c k - tot lf c k) + (tot lf c k - cl le lf c r k) by ring, Real.exp_add,
        Finset.mul_sum]
      refine Finset.sum_congr rfl fun v _ => ?_
      ring
    · simp

theorem kdv_eq (c : C) (r : R) (v : V) :
    kdv le q kk lf dO mid (Dst ord le q lf dO) c r v = rdv ord le q kk lf dO (c, r) v := by
  have e : rdv ord le q kk lf dO (c, r) v = ∑ t, if seen ord le t (c, r) then
      dO t v * ∑ k, q t k * kk (c, r) k * Real.exp (cum ord le lf t k - cum ord le lf (c, r) k) else 0 := by
    unfold rdv rel
    exact Finset.sum_congr rfl fun s _ => by split <;> simp
  rw [e, sum_seen', add_comm]
  unfold kdv
  congr 1
  · refine Finset.sum_congr rfl fun r' _ => ?_
    unfold aw qe ke ek eq
    dsimp only
    split
    · rw [mul_comm]
      congr 1
      refine Finset.sum_congr rfl fun k _ => ?_
      rw [cum_eq, cum_eq, show G ord lf c k + cl le lf c r' k - (G ord lf c k + cl le lf c r k)
        = (cl le lf c r' k - mid c k) + (mid c k - cl le lf c r k) by ring, Real.exp_add]
      ring
    · simp
  · unfold kd Dst ekd
    simp_rw [Finset.mul_sum]
    rw [Finset.sum_comm]
    refine Finset.sum_congr rfl fun t _ => ?_
    split
    · refine Finset.sum_congr rfl fun k _ => ?_
      rw [cum_eq ord le lf c r, show cum ord le lf t k - (G ord lf c k + cl le lf c r k)
        = (cum ord le lf t k - G ord lf c k - tot lf c k) + (tot lf c k - cl le lf c r k) by ring, Real.exp_add]
      ring
    · simp

/-- A pair's gift, over the tokens `t` has read: times the query, the gradient of the query. -/
theorem sum_rW_left (t : C × R) (k : K) :
    ∑ s, rW ord le q kk lf vv dO t s k = rdq ord le kk lf vv dO t k * q t k := by
  unfold rW rdq rel
  rw [Finset.sum_mul]
  exact Finset.sum_congr rfl fun s _ => by split <;> ring

theorem sum_rW_right (s : C × R) (k : K) :
    ∑ t, rW ord le q kk lf vv dO t s k = rdk ord le q lf vv dO s k * kk s k := by
  unfold rW rdk rel
  rw [Finset.sum_mul]
  exact Finset.sum_congr rfl fun t _ => by split <;> ring

theorem kdcum_eq (c : C) (r : R) (k : K) :
    kdcum le q kk lf vv dO mid (St ord le kk lf vv) (Dst ord le q lf dO) c r k
      = rdcum ord le q kk lf vv dO (c, r) k := by
  unfold rdcum
  rw [Finset.sum_neg_distrib, sum_rW_left, sum_rW_right, ← kdq_eq ord le kk lf vv dO mid, ← kdk_eq ord le q lf vv dO mid]
  unfold kdcum kdq kdk qe ke qd kd
  ring

/-- What the later chunks give to the summed log gates is what their pairs with the tokens up to the chunk give. -/
theorem sum_later (c : C) (k : K) :
    (∑ t : C × R, if ord c < ord t.1 then rdcum ord le q kk lf vv dO t k else 0)
      = ∑ t : C × R, ∑ s : C × R,
          if ord c < ord t.1 ∧ ¬ ord c < ord s.1 then rW ord le q kk lf vv dO t s k else 0 := by
  unfold rdcum
  have h1 : (∑ t : C × R, if ord c < ord t.1 then (∑ t', -rW ord le q kk lf vv dO t' t k) + ∑ s, rW ord le q kk lf vv dO t s k else 0)
      = (∑ t : C × R, ∑ s, if ord c < ord t.1 then rW ord le q kk lf vv dO t s k else 0)
        - ∑ t : C × R, ∑ s, if ord c < ord s.1 then rW ord le q kk lf vv dO t s k else 0 := by
    rw [Finset.sum_comm (f := fun t s => if ord c < ord s.1 then rW ord le q kk lf vv dO t s k else 0), ← Finset.sum_sub_distrib]
    refine Finset.sum_congr rfl fun t _ => ?_
    split
    · rw [Finset.sum_neg_distrib]; ring
    · simp
  rw [h1, ← Finset.sum_sub_distrib]
  refine Finset.sum_congr rfl fun t _ => ?_
  rw [← Finset.sum_sub_distrib]
  refine Finset.sum_congr rfl fun s _ => ?_
  by_cases ht : ord c < ord t.1 <;> by_cases hs : ord c < ord s.1 <;> simp only [ht, hs, if_true, if_false, and_true, and_false, not_true, not_false_iff, false_and, true_and, sub_self, sub_zero]
  -- a later token read by one that is not later
  unfold rW
  rw [if_neg]
  · simp
  rintro (h | ⟨h, _⟩)
  · omega
  · rw [h] at hs; exact ht hs

theorem kdlast_eq (hord : Function.Injective ord) (c : C) (k : K) :
    kdlast le kk lf vv (St ord le kk lf vv) (Dst ord le q lf dO) c k
      = ∑ t : C × R, if ord c < ord t.1 then rdcum ord le q kk lf vv dO t k else 0 := by
  rw [sum_later]
  have hsplit : ∀ t s : C × R, (if ord c < ord t.1 ∧ ¬ ord c < ord s.1 then rW ord le q kk lf vv dO t s k else 0)
      = (if s.1 = c then (if ord c < ord t.1 then q t k * kk s k * dA vv dO t s * Real.exp (cum ord le lf t k - cum ord le lf s k) else 0) else 0)
        + if ord c < ord t.1 then (if ord s.1 < ord c then q t k * kk s k * dA vv dO t s * Real.exp (cum ord le lf t k - cum ord le lf s k) else 0) else 0 := by
    intro t s
    by_cases ht : ord c < ord t.1
    · rcases lt_trichotomy (ord s.1) (ord c) with h | h | h
      · have hs : seen ord le t s := Or.inl (h.trans ht)
        have hne : s.1 ≠ c := fun e => by rw [e] at h; exact lt_irrefl _ h
        simp [ht, h, h.le, hne, rW, rel, hs]
      · have hs : seen ord le t s := Or.inl (by omega)
        have he : s.1 = c := hord h
        simp [ht, he, rW, rel, hs]
      · have hne : s.1 ≠ c := fun e => by rw [e] at h; exact lt_irrefl _ h
        simp [ht, h, h.le, hne]
    · simp [ht]
  simp_rw [hsplit, Finset.sum_add_distrib]
  unfold kdlast
  congr 1
  · rw [Finset.sum_comm]
    simp_rw [← ite_mul_sum]
    rw [sum_chunk c]
    refine Finset.sum_congr rfl fun r _ => ?_
    unfold dkd Dst kd ekd dA
    simp_rw [Finset.mul_sum, Finset.sum_mul]
    rw [Finset.sum_comm]
    refine Finset.sum_congr rfl fun t _ => ?_
    split
    · refine Finset.sum_congr rfl fun v _ => ?_
      rw [cum_eq ord le lf c r, show cum ord le lf t k - (G ord lf c k + cl le lf c r k)
        = (cum ord le lf t k - G ord lf c k - tot lf c k) + (tot lf c k - cl le lf c r k) by ring, Real.exp_add]
      ring
    · simp
  · unfold dl Dst St el dA
    simp_rw [Finset.mul_sum, Finset.sum_mul, Finset.mul_sum]
    conv_lhs => rw [Finset.sum_comm]
    conv_rhs => rw [Finset.sum_comm]
    refine Finset.sum_congr rfl fun s _ => ?_
    rw [Finset.sum_comm]
    refine Finset.sum_congr rfl fun t _ => ?_
    by_cases ht : ord c < ord t.1
    · by_cases hs : ord s.1 < ord c
      · simp only [ht, hs, if_true]
        refine Finset.sum_congr rfl fun v _ => ?_
        rw [show cum ord le lf t k - cum ord le lf s k
          = tot lf c k + ((cum ord le lf t k - G ord lf c k - tot lf c k) + (G ord lf c k - cum ord le lf s k)) by ring,
          Real.exp_add, Real.exp_add]
        ring
      · simp [ht, hs]
    · simp [ht]

theorem kdlf_eq (hord : Function.Injective ord) (c : C) (r : R) (k : K) :
    kdlf le q kk lf vv dO mid (St ord le kk lf vv) (Dst ord le q lf dO) c r k
      = rdlf ord le q kk lf vv dO (c, r) k := by
  unfold kdlf rdlf
  rw [sum_seen', add_comm, kdlast_eq ord le q kk lf vv dO hord]
  congr 1
  refine Finset.sum_congr rfl fun r' _ => ?_
  rw [kdcum_eq]
  split <;> simp

/-! ## The gradient of the state, chunk after chunk -/

theorem Dst_last (c : C) (hc : ∀ c', ord c' ≤ ord c) (v : V) (k : K) : Dst ord le q lf dO c v k = 0 := by
  unfold Dst
  exact Finset.sum_eq_zero fun t _ => if_neg (by have := hc t.1; omega)

/-- One chunk of the walk back. -/
theorem Dst_step (hord : Function.Injective ord) (c n : C) (hn : ord n = ord c + 1) (v : V) (k : K) :
    Dst ord le q lf dO c v k
      = (∑ r, dO (n, r) v * qd le q lf n r k) + Dst ord le q lf dO n v k * el lf n k := by
  have hG : G ord lf n k = G ord lf c k + tot lf c k := by
    unfold G tot
    rw [← sum_chunk c (fun s => lf s k), ← Finset.sum_add_distrib]
    refine Finset.sum_congr rfl fun s _ => ?_
    by_cases h : s.1 = c
    · simp [h, hn]
    · have : ord s.1 ≠ ord c := fun e => h (hord e)
      by_cases h' : ord s.1 < ord c
      · simp [h, h', show ord s.1 < ord n by omega]
      · simp [h, h', show ¬ ord s.1 < ord n by omega]
  unfold Dst
  rw [← sum_chunk n (fun t => dO t v * qd le q lf t.1 t.2 k), Finset.sum_mul, ← Finset.sum_add_distrib]
  refine Finset.sum_congr rfl fun t _ => ?_
  obtain ⟨tc, tr⟩ := t
  by_cases h : tc = n
  · subst h
    simp only [show ord c < ord tc by omega, if_true, lt_irrefl, if_false, zero_mul, add_zero]
    unfold qd ec
    rw [cum_eq, hG, show G ord lf c k + tot lf c k + cl le lf tc tr k - G ord lf c k - tot lf c k = cl le lf tc tr k by ring]
    ring
  · have hne : ord tc ≠ ord n := fun e => h (hord e)
    by_cases h' : ord c < ord tc
    · simp only [h', h, show ord n < ord tc by omega, if_true, if_false, zero_add]
      unfold el
      rw [hG, show cum ord le lf (tc, tr) k - G ord lf c k - tot lf c k
        = (cum ord le lf (tc, tr) k - (G ord lf c k + tot lf c k) - tot lf n k) + tot lf n k by ring, Real.exp_add]
      ring
    · simp [h', h, show ¬ ord n < ord tc by omega]

end Cert.Scan

end
-- ==== Proof.Up.lean ====
/- Arrays of real numbers seen as arrays of extended reals, and the columns of one head. -/
module

public import proofs.«01_k».proof.Proof.Scan
public import Idealize.ShloMosaic.Lib.Pointwise
public import Idealize.ShloMosaic.Lib.Pipeline.ValueKit
public import Idealize.ShloMosaic.Lib.Pipeline.ReadBack
public import Mathlib.Analysis.SpecialFunctions.Log.Basic

@[expose] public section

noncomputable section

namespace Cert.Up

open Idealize.ShloMosaic

/-- A real matrix as an array of extended reals. -/
def up2 {n m : ℕ} (f : Fin n → Fin m → ℝ) : (⟨2, ![n, m]⟩ : Shape).Idx → EReal := fun i => ((f (i 0) (i 1) : ℝ) : EReal)

/-- A real array of rank three as an array of extended reals. -/
def up3 {n m l : ℕ} (f : Fin n → Fin m → Fin l → ℝ) : (⟨3, ![n, m, l]⟩ : Shape).Idx → EReal :=
  fun i => ((f (i 0) (i 1) (i 2) : ℝ) : EReal)

/-- Column `k` of head `h`. -/
def col (h : Fin 8) (k : Fin 128) : Fin 1024 := ⟨128 * h.val + k.val, by omega⟩

theorem col_zero (k : Fin 128) (h : k.val < 1024) : (⟨k.val, h⟩ : Fin 1024) = col 0 k := Fin.ext (by simp [col])

/-- The head of a column. -/
def hd (x : Fin 1024) : Fin 8 := ⟨x.val / 128, by omega⟩

/-- The place of a column in its head. -/
def ln (x : Fin 1024) : Fin 128 := ⟨x.val % 128, by omega⟩

theorem col_hd_ln (x : Fin 1024) : col (hd x) (ln x) = x := Fin.ext (by simp only [col, hd, ln]; omega)

theorem hd_col (h : Fin 8) (k : Fin 128) : hd (col h k) = h := Fin.ext (by simp only [col, hd]; omega)

theorem ln_col (h : Fin 8) (k : Fin 128) : ln (col h k) = k := Fin.ext (by simp only [col, ln]; omega)

theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

theorem coe_ite (p : Prop) [Decidable p] (a b : ℝ) : (if p then (a : EReal) else b) = ((if p then a else b : ℝ) : EReal) := by
  split <;> rfl

/-! ## The gates of a token -/

section
variable {T : Type} (z : T → Fin 1024 → ℝ) (lb : Fin 1024 → ℝ)

/-- The logistic function of the gate's input. -/
def sg (t : T) (x : Fin 1024) : ℝ := (1 + Real.exp (-z t x))⁻¹

/-- The forget gate, no less than its lower bound. -/
def fg (t : T) (x : Fin 1024) : ℝ := lb x + (1 - lb x) * sg z t x

/-- The key: what the forget gate leaves. -/
def kg (t : T) (x : Fin 1024) : ℝ := 1 - fg z lb t x

/-- The logarithm of the forget gate. -/
def lg (t : T) (x : Fin 1024) : ℝ := Real.log (fg z lb t x)

end

/-- Rows in the order of the forward scan. -/
abbrev leF (s r : Fin 64) : Prop := s.val ≤ r.val

/-- Rows in the order of the reverse scan. -/
abbrev leR (s r : Fin 64) : Prop := r.val ≤ s.val

/-- The log gates summed up to the middle row of a chunk. -/
def md (le : Fin 64 → Fin 64 → Prop) [DecidableRel le] (lf : Fin 132 × Fin 64 → Fin 1024 → ℝ) (c : Fin 132) (x : Fin 1024) : ℝ :=
  Scan.cl le lf c 32 x

/-- The rows of a chunk as an array. -/
def ch (f : Fin 132 × Fin 64 → Fin 1024 → ℝ) (c : Fin 132) : (⟨2, ![64, 1024]⟩ : Shape).Idx → EReal := up2 fun r x => f (c, r) x

/-- One row as an array. -/
def row (f : Fin 1024 → ℝ) : (⟨2, ![1, 1024]⟩ : Shape).Idx → EReal := up2 fun _ x => f x

section

theorem up2_ix {n m : ℕ} (f : Fin n → Fin m → ℝ) (i : Fin n) (j : Fin m) : up2 f (ix2 i j) = ((f i j : ℝ) : EReal) := rfl

theorem up3_ix {n m l : ℕ} (f : Fin n → Fin m → Fin l → ℝ) (i : Fin n) (j : Fin m) (k : Fin l) :
    up3 f (ix3 i j k) = ((f i j k : ℝ) : EReal) := rfl

theorem ch_ix (f : Fin 132 × Fin 64 → Fin 1024 → ℝ) (c : Fin 132) (i : Fin 64) (j : Fin 1024) :
    ch f c (ix2 i j) = ((f (c, i) j : ℝ) : EReal) := rfl

theorem row_ix (f : Fin 1024 → ℝ) (i : Fin 1) (j : Fin 1024) : row f (ix2 i j) = ((f j : ℝ) : EReal) := rfl

end

theorem eighty : Ideal.ofBits FTy.f32 1117782016#32 = ((80 : ℝ) : EReal) := by
  simp [Ideal.ofBits, Ideal.ieee, -EReal.coe_mul]; norm_num

theorem neg_eighty : Ideal.ofBits FTy.f32 3265265664#32 = ((-80 : ℝ) : EReal) := by
  simp [Ideal.ofBits, Ideal.ieee, -EReal.coe_mul]; norm_num

theorem clip (a : ℝ) (h : |a| ≤ 80) : min ((80 : ℝ) : EReal) (max ((-80 : ℝ) : EReal) (a : EReal)) = (a : EReal) := by
  obtain ⟨h1, h2⟩ := abs_le.mp h
  rw [max_eq_right (EReal.coe_le_coe_iff.mpr h1), min_eq_right (EReal.coe_le_coe_iff.mpr h2)]

/-- The mask's bit at row `r` and column `s`. -/
def bit (le : Fin 64 → Fin 64 → Prop) [DecidableRel le] (r s : Fin 64) : BitVec 1 := if le s r then 1#1 else 0#1

/-- The mask of the pairs within a chunk. -/
def mask (le : Fin 64 → Fin 64 → Prop) [DecidableRel le] : (⟨2, ![64, 64]⟩ : Shape).Idx → BitVec 1 := fun i => bit le (i 0) (i 1)

theorem mask_ix (le : Fin 64 → Fin 64 → Prop) [DecidableRel le] (r s : Fin 64) : mask le (ix2 r s) = bit le r s := rfl

theorem sel_bit {α : Type} (le : Fin 64 → Fin 64 → Prop) [DecidableRel le] (r s : Fin 64) (a b : α) :
    Scalar.select (bit le r s) a b = if le s r then a else b := by
  by_cases h : le s r
  · simp only [bit, h, if_true]; rfl
  · simp only [bit, h, if_false]; rfl

/-! ## Heads -/

/-- Eight pieces of `G` stored over anything leave `G`. -/
theorem canon_over {S : Shape} {e : EltTy} (G : S.Idx → Elt Ideal e) (p1 p2 p3 p4 p5 p6 p7 p8 : View.Piece (Elt Ideal) S e)
    (T : List (View.Piece (Elt Ideal) S e)) (hc : ∀ y, ∃ p ∈ [p1, p2, p3, p4, p5, p6, p7, p8], y ∈ p.1.set)
    (hp : View.PiecesOf G [p1, p2, p3, p4, p5, p6, p7, p8]) :
    View.canon (p1 :: p2 :: p3 :: p4 :: p5 :: p6 :: p7 :: p8 :: T) = G :=
  funext fun y => View.canon_append_of_piecesOf G T [p1, p2, p3, p4, p5, p6, p7, p8] hp y (hc y)

/-- A load of the whole of a buffer that was stored in pieces of `G`. -/
theorem readCov_pieces {sig : RefSig} {κ : Kind} {sp : Space} {S : Shape} {e : EltTy} (w : View sig κ sp S e) (L : List (View.Piece (Elt Ideal) S e))
    {off : Fin S.rank → ℕ} (inb : ∀ a, off a + S.size a ≤ S.size a) (h0 : ∀ a, off a = 0) (G : S.Idx → Elt Ideal e)
    (hc : ∀ y, ∃ p ∈ L, y ∈ p.1.set) (hp : View.PiecesOf G L) : w.readCov L (Rect.unit off S.size inb).toLoadRect = G := by
  rw [View.readCov_eq_canon']
  funext y
  have e : (Rect.unit off S.size inb).toLoadRect.idx y = y := funext fun a => Fin.ext ((Rect.idx_unit_val off S.size inb y a).trans (by rw [h0, Nat.zero_add]))
  rw [e]
  exact View.canon_apply_of_pieces G L hp.mem y (hc y)

/-- One head's columns. -/
def hs (f : Fin 132 × Fin 64 → Fin 1024 → ℝ) (h : Fin 8) : Fin 132 × Fin 64 → Fin 128 → ℝ := fun t k => f t (col h k)

/-- One head's states. -/
def st (S : Fin 132 → Fin 8 → Fin 128 → Fin 128 → ℝ) (h : Fin 8) : Fin 132 → Fin 128 → Fin 128 → ℝ := fun c => S c h

/-- One head's middle rows. -/
def hm (le : Fin 64 → Fin 64 → Prop) [DecidableRel le] (lf : Fin 132 × Fin 64 → Fin 1024 → ℝ) (h : Fin 8) : Fin 132 → Fin 128 → ℝ :=
  fun c k => md le lf c (col h k)

/-- A real array of rank three under a leading axis of one as an array of extended reals. -/
def up4 {n m l : ℕ} (f : Fin n → Fin m → Fin l → ℝ) : (⟨4, ![1, n, m, l]⟩ : Shape).Idx → EReal :=
  fun i => ((f (i 1) (i 2) (i 3) : ℝ) : EReal)

theorem up4_ix {n m l : ℕ} (f : Fin n → Fin m → Fin l → ℝ) (a : Fin 1) (i : Fin n) (j : Fin m) (k : Fin l) :
    up4 f (ix4 a i j k) = ((f i j k : ℝ) : EReal) := rfl

/-- An array of rows built head by head, read in the columns of one head. -/
theorem up2_emb (f : Fin 8 → Fin 64 → Fin 128 → ℝ) (h : Fin 8) {o : ℕ} (ho : o = 128 * h.val)
    (inb : ∀ a, (![0, o] : Fin 2 → ℕ) a + (![64, 128] : Fin 2 → ℕ) a ≤ (⟨2, ![64, 1024]⟩ : Shape).size a) (i : Fin 64) (k : Fin 128) :
    up2 (fun r x => f (hd x) r (ln x)) ((Rect.unit (s := ⟨2, ![64, 1024]⟩) ![0, o] ![64, 128] inb).emb (ix2 i k)) = ((f h i k : ℝ) : EReal) := by
  subst ho
  have e0 : ((Rect.unit (s := ⟨2, ![64, 1024]⟩) ![0, 128 * h.val] ![64, 128] inb).emb (ix2 i k)) 0 = i :=
    Fin.ext (by show 0 + 1 * i.val = _; omega)
  have e1 : ((Rect.unit (s := ⟨2, ![64, 1024]⟩) ![0, 128 * h.val] ![64, 128] inb).emb (ix2 i k)) 1 = col h k :=
    Fin.ext (by show 128 * h.val + 1 * k.val = 128 * h.val + k.val; omega)
  show ((f (hd _) _ (ln _) : ℝ) : EReal) = _
  rw [e0, e1, hd_col, ln_col]

theorem row_emb (f : Fin 8 → Fin 128 → ℝ) (h : Fin 8) {o : ℕ} (ho : o = 128 * h.val)
    (inb : ∀ a, (![0, o] : Fin 2 → ℕ) a + (![1, 128] : Fin 2 → ℕ) a ≤ (⟨2, ![1, 1024]⟩ : Shape).size a) (i : Fin 1) (k : Fin 128) :
    row (fun x => f (hd x) (ln x)) ((Rect.unit (s := ⟨2, ![1, 1024]⟩) ![0, o] ![1, 128] inb).emb (ix2 i k)) = ((f h k : ℝ) : EReal) := by
  subst ho
  have e1 : ((Rect.unit (s := ⟨2, ![1, 1024]⟩) ![0, 128 * h.val] ![1, 128] inb).emb (ix2 i k)) 1 = col h k :=
    Fin.ext (by show 128 * h.val + 1 * k.val = 128 * h.val + k.val; omega)
  show ((f (hd _) (ln _) : ℝ) : EReal) = _
  rw [e1, hd_col, ln_col]

theorem up3_emb (f : Fin 8 → Fin 128 → Fin 128 → ℝ) (h : Fin 8) {o : ℕ} (ho : o = h.val)
    (inb : ∀ a, (![o, 0, 0] : Fin 3 → ℕ) a + (![1, 128, 128] : Fin 3 → ℕ) a ≤ (⟨3, ![8, 128, 128]⟩ : Shape).size a) (a : Fin 1) (i k : Fin 128) :
    up3 f ((Rect.unit (s := ⟨3, ![8, 128, 128]⟩) ![o, 0, 0] ![1, 128, 128] inb).emb (ix3 a i k)) = ((f h i k : ℝ) : EReal) := by
  subst ho
  have e0 : ((Rect.unit (s := ⟨3, ![8, 128, 128]⟩) ![h.val, 0, 0] ![1, 128, 128] inb).emb (ix3 a i k)) 0 = h :=
    Fin.ext (by show h.val + 1 * a.val = _; omega)
  have e1 : ((Rect.unit (s := ⟨3, ![8, 128, 128]⟩) ![h.val, 0, 0] ![1, 128, 128] inb).emb (ix3 a i k)) 1 = i :=
    Fin.ext (by show 0 + 1 * i.val = _; omega)
  have e2 : ((Rect.unit (s := ⟨3, ![8, 128, 128]⟩) ![h.val, 0, 0] ![1, 128, 128] inb).emb (ix3 a i k)) 2 = k :=
    Fin.ext (by show 0 + 1 * k.val = _; omega)
  show ((f _ _ _ : ℝ) : EReal) = _
  rw [e0, e1, e2]

/-! ## The gradients of one chunk -/

section
variable (le : Fin 64 → Fin 64 → Prop) [DecidableRel le] (z q v dO : Fin 132 × Fin 64 → Fin 1024 → ℝ) (lb : Fin 1024 → ℝ)
variable (S D : Fin 132 → Fin 8 → Fin 128 → Fin 128 → ℝ) (c : Fin 132)

/-- The gradient of the scaled queries within the chunk. -/
def adqe (r : Fin 64) (x : Fin 1024) : ℝ :=
  Scan.dqe le (hs (kg z lb) (hd x)) (hs (lg z lb) (hd x)) (hs v (hd x)) (hs dO (hd x)) (hm le (lg z lb) (hd x)) c r (ln x)

/-- The gradient of the scaled keys within the chunk. -/
def adke (r : Fin 64) (x : Fin 1024) : ℝ :=
  Scan.dke le (hs q (hd x)) (hs (lg z lb) (hd x)) (hs v (hd x)) (hs dO (hd x)) (hm le (lg z lb) (hd x)) c r (ln x)

/-- The gradient of the scaled queries against the state. -/
def adqd (r : Fin 64) (x : Fin 1024) : ℝ := Scan.dqd (hs dO (hd x)) (st S (hd x)) c r (ln x)

/-- The gradient of the scaled keys put into the state. -/
def adkd (r : Fin 64) (x : Fin 1024) : ℝ := Scan.dkd (hs v (hd x)) (st D (hd x)) c r (ln x)

/-- The gradient of the decay of the state. -/
def adl (x : Fin 1024) : ℝ := Scan.dl (st S (hd x)) (st D (hd x)) c (ln x)

/-- The gradient of the queries. -/
def gdq (r : Fin 64) (x : Fin 1024) : ℝ :=
  Scan.kdq le (hs (kg z lb) (hd x)) (hs (lg z lb) (hd x)) (hs v (hd x)) (hs dO (hd x)) (hm le (lg z lb) (hd x)) (st S (hd x)) c r (ln x)

/-- The gradient of the values. -/
def gdv (r : Fin 64) (x : Fin 1024) : ℝ :=
  Scan.kdv le (hs q (hd x)) (hs (kg z lb) (hd x)) (hs (lg z lb) (hd x)) (hs dO (hd x)) (hm le (lg z lb) (hd x)) (st D (hd x)) c r (ln x)

/-- The gradient of the keys. -/
def gdk (r : Fin 64) (x : Fin 1024) : ℝ :=
  Scan.kdk le (hs q (hd x)) (hs (lg z lb) (hd x)) (hs v (hd x)) (hs dO (hd x)) (hm le (lg z lb) (hd x)) (st D (hd x)) c r (ln x)

/-- The gradient of the log gates. -/
def gdlf (r : Fin 64) (x : Fin 1024) : ℝ :=
  Scan.kdlf le (hs q (hd x)) (hs (kg z lb) (hd x)) (hs (lg z lb) (hd x)) (hs v (hd x)) (hs dO (hd x)) (hm le (lg z lb) (hd x))
    (st S (hd x)) (st D (hd x)) c r (ln x)

/-- The gradient of the gates. -/
def gdf (r : Fin 64) (x : Fin 1024) : ℝ :=
  gdlf le z q v dO lb S D c r x * (1 / fg z lb (c, r) x) - gdk le z q v dO lb D c r x

/-- The gradient of the gates' inputs. -/
def gdz (r : Fin 64) (x : Fin 1024) : ℝ :=
  gdf le z q v dO lb S D c r x * (1 - lb x) * sg z (c, r) x * (1 - sg z (c, r) x)

/-- What the chunk gives to the gradient of the lower bounds. -/
def gdlb (x : Fin 1024) : ℝ := ∑ r, gdf le z q v dO lb S D c r x * (1 - sg z (c, r) x)

/-- The gradient of the state before the chunk. -/
def gst (h : Fin 8) (i k : Fin 128) : ℝ :=
  (∑ r, hs dO h (c, r) i * Scan.qd le (hs q h) (hs (lg z lb) h) c r k) + D c h i k * Scan.el (hs (lg z lb) h) c k

end

/-! ## The order of the chunks -/

/-- When the forward scan reads a chunk: the last four chunks, which hold the context, come first. -/
def ordF (c : Fin 132) : ℕ := (c.val + 4) % 132

/-- When the reverse scan reads a chunk. -/
def ordR (c : Fin 132) : ℕ := 131 - c.val

/-- The chunk of a grid point on the forward scan's way back. -/
def ckF (n : ℕ) : Fin 132 := ⟨(259 - n) % 132, Nat.mod_lt _ (by omega)⟩

/-- The chunk of a grid point on the reverse scan's way back. -/
def ckR (n : ℕ) : Fin 132 := ⟨n % 132, Nat.mod_lt _ (by omega)⟩

theorem ordF_inj : Function.Injective ordF := fun a b h => Fin.ext (by have := a.isLt; have := b.isLt; simp only [ordF] at h; omega)

theorem ordR_inj : Function.Injective ordR := fun a b h => Fin.ext (by have := a.isLt; have := b.isLt; simp only [ordR] at h; omega)

theorem ordF_ck {n : ℕ} (h : n < 132) : ordF (ckF n) = 131 - n := by simp only [ordF, ckF]; omega

theorem ordR_ck {n : ℕ} (h : n < 132) : ordR (ckR n) = 131 - n := by simp only [ordR, ckR]; omega

theorem ordF_le (c : Fin 132) : ordF c ≤ 131 := by simp only [ordF]; omega

theorem ordR_le (c : Fin 132) : ordR c ≤ 131 := by simp only [ordR]; omega

section
variable (ord : Fin 132 → ℕ) (le : Fin 64 → Fin 64 → Prop) [DecidableRel le] (z q v dO : Fin 132 × Fin 64 → Fin 1024 → ℝ) (lb : Fin 1024 → ℝ)

/-- The states before the chunks. -/
def Ss : Fin 132 → Fin 8 → Fin 128 → Fin 128 → ℝ := fun c h => Scan.St ord le (hs (kg z lb) h) (hs (lg z lb) h) (hs v h) c

/-- The gradients of the states after the chunks. -/
def Ds : Fin 132 → Fin 8 → Fin 128 → Fin 128 → ℝ := fun c h => Scan.Dst ord le (hs q h) (hs (lg z lb) h) (hs dO h) c

theorem Ds_last (c : Fin 132) (hc : ∀ c', ord c' ≤ ord c) : Ds ord le z q dO lb c = fun _ _ _ => 0 := by
  funext h i k
  exact Scan.Dst_last ord le _ _ _ c hc i k

theorem Ds_step (hord : Function.Injective ord) (c n : Fin 132) (hn : ord n = ord c + 1) :
    Ds ord le z q dO lb c = gst le z q dO lb (Ds ord le z q dO lb) n := by
  funext h i k
  exact Scan.Dst_step ord le _ _ _ hord c n hn i k

end

/-! ## Tokens -/

/-- The chunk of a token. -/
def ck (t : Fin 8448) : Fin 132 := ⟨t.val / 64, by omega⟩

/-- The place of a token in its chunk. -/
def rwt (t : Fin 8448) : Fin 64 := ⟨t.val % 64, by omega⟩

/-- The token at a place of a chunk. -/
def tk (s : Fin 132 × Fin 64) : Fin 8448 := ⟨64 * s.1.val + s.2.val, by omega⟩

theorem ck_tk (s : Fin 132 × Fin 64) : ck (tk s) = s.1 := Fin.ext (by simp only [ck, tk]; omega)

theorem rwt_tk (s : Fin 132 × Fin 64) : rwt (tk s) = s.2 := Fin.ext (by simp only [rwt, tk]; omega)

theorem tk_ck_rwt (t : Fin 8448) : tk (ck t, rwt t) = t := Fin.ext (by simp only [ck, rwt, tk]; omega)

/-- The rows of the chunks laid out by token. -/
def toks (f : Fin 132 → Fin 64 → Fin 1024 → ℝ) : (⟨2, ![8448, 1024]⟩ : Shape).Idx → EReal := up2 fun t x => f (ck t) (rwt t) x

section

theorem toks_ix (f : Fin 132 → Fin 64 → Fin 1024 → ℝ) (i : Fin 8448) (j : Fin 1024) :
    toks f (ix2 i j) = ((f (ck i) (rwt i) j : ℝ) : EReal) := rfl

end

theorem exists_col (x : Fin 1024) : ∃ h k, x = col h k := ⟨hd x, ln x, (col_hd_ln x).symm⟩

end Cert.Up
-- ==== Proof.GatesF.lean ====
/- The arrays of the forward direction that one grid point computes before it turns to the heads, at inputs that are real
   numbers: the gates, their running sums, and the queries and keys scaled by them. -/
module

public import proofs.«01_k».proof.Proof.IdealFrame
public import proofs.«01_k».proof.Proof.Up

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable (z q v : Fin 132 × Fin 64 → Fin 1024 → ℝ) (lb : Fin 1024 → ℝ) (c : Fin 132)

theorem pay4_up : k0_pay4 = mask leF := by
  funext i
  idx_vars i
  pointwise [k0_pay4, mask_ix]
  simp only [bit, leF]
  revert i0 i1
  decide +kernel

theorem pay5_up : k0_pay5 (F := Ideal) = up2 fun r s => if leF s r then 1 else 0 := by
  funext i
  idx_vars i
  pointwise [k0_pay5, pay4_up, up2_ix, mask_ix]
  by_cases h : leF i1 i0
  · simp only [bit, h, if_true]
    exact (show (((1#32).toInt : ℝ) : EReal) = ((1 : ℝ) : EReal) by simp)
  · simp only [bit, h, if_false]
    exact (show (((0#32).toInt : ℝ) : EReal) = ((0 : ℝ) : EReal) by simp)

theorem pay6_up : k0_pay6 (F := Ideal) (ch z c) = (ch (sg z) c) := by
  funext i
  idx_vars i
  pointwise [k0_pay6, up2_ix, ch_ix, row_ix]
  simp only [sg]
  rw [zero_sub, ← EReal.coe_neg, Ideal.exp_coe, ← EReal.coe_one, ← EReal.coe_add, Ideal.div_coe (by positivity), ← EReal.coe_mul, one_mul, one_div]

theorem pay7_up : k0_pay7 (F := Ideal) (ch z c) (row lb) = (ch (fg z lb) c) := by
  funext i
  idx_vars i
  pointwise [k0_pay7, pay6_up, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay8_up : k0_pay8 (F := Ideal) (ch z c) (row lb) = (ch (kg z lb) c) := by
  funext i
  idx_vars i
  pointwise [k0_pay8, pay7_up, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay9_up (hf : ∀ r x, 0 < fg z lb (c, r) x) : k0_pay9 (F := Ideal) (ch z c) (row lb) = (up2 (Scan.cl leF (lg z lb) c)) := by
  funext i
  idx_vars i
  pointwise [k0_pay9, pay7_up, pay5_up, up2_ix, ch_ix, row_ix]
  simp only [Ideal.log_coe, not_le.mpr (hf _ _), ite_false, ← EReal.coe_mul, coe_sum, ← EReal.coe_zero, ← EReal.coe_add, zero_add]
  rfl

theorem pay10_up (hf : ∀ r x, 0 < fg z lb (c, r) x) : k0_pay10 (F := Ideal) (ch z c) (row lb) = (row ((md leF (lg z lb)) c)) := by
  funext i
  idx_vars i
  pointwise [k0_pay10, pay9_up z lb c hf, up2_ix, ch_ix, row_ix]
  rfl

theorem pay11_up (hf : ∀ r x, 0 < fg z lb (c, r) x) : k0_pay11 (F := Ideal) (ch z c) (row lb) = (row (Scan.tot (lg z lb) c)) := by
  funext i
  idx_vars i
  pointwise [k0_pay11, pay9_up z lb c hf, up2_ix, ch_ix, row_ix]
  simp only [Scan.cl, Scan.tot, leF]
  refine congrArg _ (Finset.sum_congr rfl fun r _ => ?_)
  rw [if_pos (by have := r.isLt; first | exact Nat.zero_le _ | exact Nat.le_of_lt_succ this), one_mul]

theorem pay12_up (hf : ∀ r x, 0 < fg z lb (c, r) x) (hc : ∀ r x, |Scan.cl leF (lg z lb) c r x - (md leF (lg z lb)) c x| ≤ 80) : k0_pay12 (F := Ideal) (ch z c) (row lb) = (up2 (Scan.eq leF (lg z lb) (md leF (lg z lb)) c)) := by
  funext i
  idx_vars i
  pointwise [k0_pay12, pay9_up z lb c hf, pay10_up z lb c hf, up2_ix, ch_ix, row_ix]
  rw [eighty, neg_eighty, ← EReal.coe_sub, clip _ (hc _ _), Ideal.exp_coe]
  rfl

theorem pay13_up (hf : ∀ r x, 0 < fg z lb (c, r) x) : k0_pay13 (F := Ideal) (ch z c) (row lb) = (up2 fun r x => (md leF (lg z lb)) c x - Scan.cl leF (lg z lb) c r x) := by
  funext i
  idx_vars i
  pointwise [k0_pay13, pay9_up z lb c hf, pay10_up z lb c hf, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]

theorem pay14_up (hc : ∀ r x, |Scan.cl leF (lg z lb) c r x - (md leF (lg z lb)) c x| ≤ 80) : k0_pay14 (F := Ideal) (up2 fun r x => (md leF (lg z lb)) c x - Scan.cl leF (lg z lb) c r x) = (up2 (Scan.ek leF (lg z lb) (md leF (lg z lb)) c)) := by
  funext i
  idx_vars i
  pointwise [k0_pay14, up2_ix, ch_ix, row_ix]
  rw [eighty, neg_eighty, clip _ (by rw [abs_sub_comm]; exact hc _ _), Ideal.exp_coe]
  rfl

theorem pay15_up : k0_pay15 (F := Ideal) (up2 (Scan.cl leF (lg z lb) c)) = (up2 (Scan.ec leF (lg z lb) c)) := by
  funext i
  idx_vars i
  pointwise [k0_pay15, up2_ix, ch_ix, row_ix]
  rfl

theorem pay16_up : k0_pay16 (F := Ideal) (row (Scan.tot (lg z lb) c)) = (row (Scan.el (lg z lb) c)) := by
  funext i
  idx_vars i
  pointwise [k0_pay16, up2_ix, ch_ix, row_ix]
  rfl

theorem pay17_up : k0_pay17 (F := Ideal) (up2 (Scan.cl leF (lg z lb) c)) (row (Scan.tot (lg z lb) c)) = (up2 (Scan.ekd leF (lg z lb) c)) := by
  funext i
  idx_vars i
  pointwise [k0_pay17, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay18_up : k0_pay18 (F := Ideal) (ch q c) (up2 (Scan.eq leF (lg z lb) (md leF (lg z lb)) c)) = (up2 (Scan.qe leF q (lg z lb) (md leF (lg z lb)) c)) := by
  funext i
  idx_vars i
  pointwise [k0_pay18, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay19_up (hc : ∀ r x, |Scan.cl leF (lg z lb) c r x - (md leF (lg z lb)) c x| ≤ 80) : k0_pay19 (F := Ideal) (ch (kg z lb) c) (up2 fun r x => (md leF (lg z lb)) c x - Scan.cl leF (lg z lb) c r x) = (up2 (Scan.ke leF (kg z lb) (lg z lb) (md leF (lg z lb)) c)) := by
  funext i
  idx_vars i
  pointwise [k0_pay19, pay14_up z lb c hc, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay20_up : k0_pay20 (F := Ideal) (ch q c) (up2 (Scan.cl leF (lg z lb) c)) = (up2 (Scan.qd leF q (lg z lb) c)) := by
  funext i
  idx_vars i
  pointwise [k0_pay20, pay15_up, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay21_up : k0_pay21 (F := Ideal) (ch (kg z lb) c) (up2 (Scan.cl leF (lg z lb) c)) (row (Scan.tot (lg z lb) c)) = (up2 (Scan.kd leF (kg z lb) (lg z lb) c)) := by
  funext i
  idx_vars i
  pointwise [k0_pay21, pay17_up, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay22_up : k0_pay22 (F := Ideal) (ch q c) (up2 (Scan.cl leF (lg z lb) c)) = (up2 (Scan.qd leF q (lg z lb) c)) := by
  funext i
  idx_vars i
  pointwise [k0_pay22, pay20_up, up2_ix, ch_ix, row_ix]

theorem pay23_up : k0_pay23 (F := Ideal) (ch (kg z lb) c) (up2 (Scan.cl leF (lg z lb) c)) (row (Scan.tot (lg z lb) c)) = (up2 (Scan.kd leF (kg z lb) (lg z lb) c)) := by
  funext i
  idx_vars i
  pointwise [k0_pay23, pay21_up, up2_ix, ch_ix, row_ix]

theorem pay24_up : k0_pay24 (F := Ideal) (ch q c) (up2 (Scan.eq leF (lg z lb) (md leF (lg z lb)) c)) = (up2 (Scan.qe leF q (lg z lb) (md leF (lg z lb)) c)) := by
  funext i
  idx_vars i
  pointwise [k0_pay24, pay18_up, up2_ix, ch_ix, row_ix]

theorem pay25_up : k0_pay25 (F := Ideal) (ch q c) (up2 (Scan.eq leF (lg z lb) (md leF (lg z lb)) c)) = (up2 fun _ _ => 0) := by
  funext i
  idx_vars i
  pointwise [k0_pay25, pay18_up, pay24_up, up2_ix, ch_ix, row_ix]
  rw [← EReal.coe_sub, sub_self]

theorem pay26_up (hc : ∀ r x, |Scan.cl leF (lg z lb) c r x - (md leF (lg z lb)) c x| ≤ 80) : k0_pay26 (F := Ideal) (ch (kg z lb) c) (up2 fun r x => (md leF (lg z lb)) c x - Scan.cl leF (lg z lb) c r x) = (up2 (Scan.ke leF (kg z lb) (lg z lb) (md leF (lg z lb)) c)) := by
  funext i
  idx_vars i
  pointwise [k0_pay26, pay19_up z lb c hc, up2_ix, ch_ix, row_ix]

theorem pay27_up (hc : ∀ r x, |Scan.cl leF (lg z lb) c r x - (md leF (lg z lb)) c x| ≤ 80) : k0_pay27 (F := Ideal) (ch (kg z lb) c) (up2 fun r x => (md leF (lg z lb)) c x - Scan.cl leF (lg z lb) c r x) = (up2 fun _ _ => 0) := by
  funext i
  idx_vars i
  pointwise [k0_pay27, pay19_up z lb c hc, pay26_up z lb c hc, up2_ix, ch_ix, row_ix]
  rw [← EReal.coe_sub, sub_self]

theorem pay28_up : k0_pay28 (F := Ideal) (ch v c) = (ch v c) := by
  funext i
  idx_vars i
  pointwise [k0_pay28, up2_ix, ch_ix, row_ix]

end Cert.KernelIdeal.Step
-- ==== Proof.HeadsF.lean ====
/- What one grid point of the forward direction stores for the eight heads, at inputs that are real numbers. Each array is stored in
   eight pieces, one a head: the gradients of the scaled queries and keys within the chunk and across it, the gradient of the
   decay, the gradient of the values, and the gradient of the state before the chunk. -/
module

public import proofs.«01_k».proof.Proof.GatesF
public import Idealize.ShloMosaic.Lib.Pipeline.ReadBack

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable (z q v dO : Fin 132 × Fin 64 → Fin 1024 → ℝ) (lb : Fin 1024 → ℝ) (S D : Fin 132 → Fin 8 → Fin 128 → Fin 128 → ℝ) (c : Fin 132)

theorem dqeF (hf : ∀ r x, 0 < fg z lb (c, r) x) (hc : ∀ r x, |Scan.cl leF (lg z lb) c r x - md leF (lg z lb) c x| ≤ 80) {X1 : Vec Ideal S64x1024 .f32} (hX1 : X1 = ch z c) {X2 : Vec Ideal S64x1024 .f32} (hX2 : X2 = ch v c) {X3 : Vec Ideal S1x1024 .f32} (hX3 : X3 = row lb) {Xd : Vec Ideal S64x1024 .bf16} (hXd : Xd = ch dO c) :
    (View.whole cc0_scratch1).readCov (Val := Elt Ideal) [⟨Rect.unit ![0, 896] ![64, 128] inb_S64x1024_S64x128_0_896, k0_pay182 k0_pay4 (k0_pay28 X2) (k0_pay171 (k0_pay26 (k0_pay8 X1 X3) (k0_pay13 X1 X3))) (k0_pay172 (k0_pay27 (k0_pay8 X1 X3) (k0_pay13 X1 X3))) (k0_pay178 Xd)⟩, ⟨Rect.unit ![0, 768] ![64, 128] inb_S64x1024_S64x128_0_768, k0_pay162 k0_pay4 (k0_pay28 X2) Xd (k0_pay152 (k0_pay26 (k0_pay8 X1 X3) (k0_pay13 X1 X3))) (k0_pay153 (k0_pay27 (k0_pay8 X1 X3) (k0_pay13 X1 X3)))⟩, ⟨Rect.unit ![0, 640] ![64, 128] inb_S64x1024_S64x128_0_640, k0_pay143 k0_pay4 (k0_pay28 X2) Xd (k0_pay132 (k0_pay26 (k0_pay8 X1 X3) (k0_pay13 X1 X3))) (k0_pay133 (k0_pay27 (k0_pay8 X1 X3) (k0_pay13 X1 X3)))⟩, ⟨Rect.unit ![0, 512] ![64, 128] inb_S64x1024_S64x128_0_512, k0_pay123 k0_pay4 (k0_pay28 X2) Xd (k0_pay111 (k0_pay26 (k0_pay8 X1 X3) (k0_pay13 X1 X3))) (k0_pay112 (k0_pay27 (k0_pay8 X1 X3) (k0_pay13 X1 X3)))⟩, ⟨Rect.unit ![0, 384] ![64, 128] inb_S64x1024_S64x128_0_384, k0_pay102 k0_pay4 (k0_pay28 X2) Xd (k0_pay90 (k0_pay26 (k0_pay8 X1 X3) (k0_pay13 X1 X3))) (k0_pay91 (k0_pay27 (k0_pay8 X1 X3) (k0_pay13 X1 X3)))⟩, ⟨Rect.unit ![0, 256] ![64, 128] inb_S64x1024_S64x128_0_256, k0_pay81 k0_pay4 (k0_pay28 X2) Xd (k0_pay71 (k0_pay26 (k0_pay8 X1 X3) (k0_pay13 X1 X3))) (k0_pay72 (k0_pay27 (k0_pay8 X1 X3) (k0_pay13 X1 X3)))⟩, ⟨Rect.unit ![0, 128] ![64, 128] inb_S64x1024_S64x128_0_128, k0_pay62 k0_pay4 (k0_pay28 X2) Xd (k0_pay52 (k0_pay26 (k0_pay8 X1 X3) (k0_pay13 X1 X3))) (k0_pay53 (k0_pay27 (k0_pay8 X1 X3) (k0_pay13 X1 X3)))⟩, ⟨Rect.unit ![0, 0] ![64, 128] inb_S64x1024_S64x128_0_0, k0_pay43 k0_pay4 (k0_pay28 X2) Xd (k0_pay32 (k0_pay8 X1 X3) (k0_pay13 X1 X3)) (k0_pay33 (k0_pay8 X1 X3) (k0_pay13 X1 X3))⟩] (Rect.unit ![0, 0] ![64, 1024] inb_S64x1024_S64x1024_0_0).toLoadRect = up2 fun r x => (fun h r k => Scan.dqe leF (hs (kg z lb) h) (hs (lg z lb) h) (hs v h) (hs dO h) (hm leF (lg z lb) h) c r k) (hd x) r (ln x) := by
  subst hX1 hX2 hX3 hXd
  refine readCov_pieces (S := S64x1024) (e := .f32) _ _ _ (by decide) (up2 fun r x => (fun h r k => Scan.dqe leF (hs (kg z lb) h) (hs (lg z lb) h) (hs v h) (hs dO h) (hm leF (lg z lb) h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dqe leF (hs (kg z lb) h) (hs (lg z lb) h) (hs v h) (hs dO h) (hm leF (lg z lb) h) c r k) 7 (by rfl) _ x0 x1).symm
    simp only [k0_pay171, k0_pay172, k0_pay178, k0_pay179, k0_pay180, k0_pay181, k0_pay182]
  case' p1 =>
    intro x
    idx_vars x
    refine Eq.trans ?_ (up2_emb (fun h r k => Scan.dqe leF (hs (kg z lb) h) (hs (lg z lb) h) (hs v h) (hs dO h) (hm leF (lg z lb) h) c r k) 6 (by rfl) _ x0 x1).symm
    simp only [k0_pay152, k0_pay153, k0_pay159, k0_pay160, k0_pay161, k0_pay162]
  case' p2 =>
    intro x
    idx_vars x
    refine Eq.trans ?_ (up2_emb (fun h r k => Scan.dqe leF (hs (kg z lb) h) (hs (lg z lb) h) (hs v h) (hs dO h) (hm leF (lg z lb) h) c r k) 5 (by rfl) _ x0 x1).symm
    simp only [k0_pay132, k0_pay133, k0_pay140, k0_pay141, k0_pay142, k0_pay143]
  case' p3 =>
    intro x
    idx_vars x
    refine Eq.trans ?_ (up2_emb (fun h r k => Scan.dqe leF (hs (kg z lb) h) (hs (lg z lb) h) (hs v h) (hs dO h) (hm leF (lg z lb) h) c r k) 4 (by rfl) _ x0 x1).symm
    simp only [k0_pay111, k0_pay112, k0_pay120, k0_pay121, k0_pay122, k0_pay123]
  case' p4 =>
    intro x
    idx_vars x
    refine Eq.trans ?_ (up2_emb (fun h r k => Scan.dqe leF (hs (kg z lb) h) (hs (lg z lb) h) (hs v h) (hs dO h) (hm leF (lg z lb) h) c r k) 3 (by rfl) _ x0 x1).symm
    simp only [k0_pay90, k0_pay91, k0_pay99, k0_pay100, k0_pay101, k0_pay102]
  case' p5 =>
    intro x
    idx_vars x
    refine Eq.trans ?_ (up2_emb (fun h r k => Scan.dqe leF (hs (kg z lb) h) (hs (lg z lb) h) (hs v h) (hs dO h) (hm leF (lg z lb) h) c r k) 2 (by rfl) _ x0 x1).symm
    simp only [k0_pay71, k0_pay72, k0_pay78, k0_pay79, k0_pay80, k0_pay81]
  case' p6 =>
    intro x
    idx_vars x
    refine Eq.trans ?_ (up2_emb (fun h r k => Scan.dqe leF (hs (kg z lb) h) (hs (lg z lb) h) (hs v h) (hs dO h) (hm leF (lg z lb) h) c r k) 1 (by rfl) _ x0 x1).symm
    simp only [k0_pay52, k0_pay53, k0_pay59, k0_pay60, k0_pay61, k0_pay62]
  case' p7 =>
    intro x
    idx_vars x
    refine Eq.trans ?_ (up2_emb (fun h r k => Scan.dqe leF (hs (kg z lb) h) (hs (lg z lb) h) (hs v h) (hs dO h) (hm leF (lg z lb) h) c r k) 0 (by rfl) _ x0 x1).symm
    simp only [k0_pay32, k0_pay33, k0_pay40, k0_pay41, k0_pay42, k0_pay43]
  all_goals
    simp only [pay4_up, pay8_up, pay13_up z lb c hf, pay26_up z lb c hc, pay27_up z lb c hc, pay28_up]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dqe, Scan.da, Scan.ke, mul_zero, sub_self, zero_mul, Finset.sum_const_zero, ite_self, add_zero, ite_mul, mul_ite]
    first | rfl | (simp only [col_zero]; rfl)

theorem dkeF (hf : ∀ r x, 0 < fg z lb (c, r) x) (hc : ∀ r x, |Scan.cl leF (lg z lb) c r x - md leF (lg z lb) c x| ≤ 80) {X0 : Vec Ideal S64x1024 .f32} (hX0 : X0 = ch q c) {X1 : Vec Ideal S64x1024 .f32} (hX1 : X1 = ch z c) {X2 : Vec Ideal S64x1024 .f32} (hX2 : X2 = ch v c) {X3 : Vec Ideal S1x1024 .f32} (hX3 : X3 = row lb) {Xd : Vec Ideal S64x1024 .bf16} (hXd : Xd = ch dO c) :
    (View.whole cc0_scratch2).readCov (Val := Elt Ideal) [⟨Rect.unit ![0, 896] ![64, 128] inb_S64x1024_S64x128_0_896, k0_pay183 k0_pay4 (k0_pay28 X2) (k0_pay169 (k0_pay24 X0 (k0_pay12 X1 X3))) (k0_pay170 (k0_pay25 X0 (k0_pay12 X1 X3))) (k0_pay178 Xd)⟩, ⟨Rect.unit ![0, 768] ![64, 128] inb_S64x1024_S64x128_0_768, k0_pay163 k0_pay4 (k0_pay28 X2) Xd (k0_pay150 (k0_pay24 X0 (k0_pay12 X1 X3))) (k0_pay151 (k0_pay25 X0 (k0_pay12 X1 X3)))⟩, ⟨Rect.unit ![0, 640] ![64, 128] inb_S64x1024_S64x128_0_640, k0_pay144 k0_pay4 (k0_pay28 X2) Xd (k0_pay130 (k0_pay24 X0 (k0_pay12 X1 X3))) (k0_pay131 (k0_pay25 X0 (k0_pay12 X1 X3)))⟩, ⟨Rect.unit ![0, 512] ![64, 128] inb_S64x1024_S64x128_0_512, k0_pay124 k0_pay4 (k0_pay28 X2) Xd (k0_pay109 (k0_pay24 X0 (k0_pay12 X1 X3))) (k0_pay110 (k0_pay25 X0 (k0_pay12 X1 X3)))⟩, ⟨Rect.unit ![0, 384] ![64, 128] inb_S64x1024_S64x128_0_384, k0_pay103 k0_pay4 (k0_pay28 X2) Xd (k0_pay88 (k0_pay24 X0 (k0_pay12 X1 X3))) (k0_pay89 (k0_pay25 X0 (k0_pay12 X1 X3)))⟩, ⟨Rect.unit ![0, 256] ![64, 128] inb_S64x1024_S64x128_0_256, k0_pay82 k0_pay4 (k0_pay28 X2) Xd (k0_pay69 (k0_pay24 X0 (k0_pay12 X1 X3))) (k0_pay70 (k0_pay25 X0 (k0_pay12 X1 X3)))⟩, ⟨Rect.unit ![0, 128] ![64, 128] inb_S64x1024_S64x128_0_128, k0_pay63 k0_pay4 (k0_pay28 X2) Xd (k0_pay50 (k0_pay24 X0 (k0_pay12 X1 X3))) (k0_pay51 (k0_pay25 X0 (k0_pay12 X1 X3)))⟩, ⟨Rect.unit ![0, 0] ![64, 128] inb_S64x1024_S64x128_0_0, k0_pay44 k0_pay4 (k0_pay28 X2) Xd (k0_pay30 X0 (k0_pay12 X1 X3)) (k0_pay31 X0 (k0_pay12 X1 X3))⟩] (Rect.unit ![0, 0] ![64, 1024] inb_S64x1024_S64x1024_0_0).toLoadRect = up2 fun r x => (fun h r k => Scan.dke leF (hs q h) (hs (lg z lb) h) (hs v h) (hs dO h) (hm leF (lg z lb) h) c r k) (hd x) r (ln x) := by
  subst hX0 hX1 hX2 hX3 hXd
  refine readCov_pieces (S := S64x1024) (e := .f32) _ _ _ (by decide) (up2 fun r x => (fun h r k => Scan.dke leF (hs q h) (hs (lg z lb) h) (hs v h) (hs dO h) (hm leF (lg z lb) h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dke leF (hs q h) (hs (lg z lb) h) (hs v h) (hs dO h) (hm leF (lg z lb) h) c r k) 7 (by rfl) _ x0 x1).symm
    simp only [k0_pay169, k0_pay170, k0_pay178, k0_pay179, k0_pay180, k0_pay181, k0_pay183]
  case' p1 =>
    intro x
    idx_vars x
    refine Eq.trans ?_ (up2_emb (fun h r k => Scan.dke leF (hs q h) (hs (lg z lb) h) (hs v h) (hs dO h) (hm leF (lg z lb) h) c r k) 6 (by rfl) _ x0 x1).symm
    simp only [k0_pay150, k0_pay151, k0_pay159, k0_pay160, k0_pay161, k0_pay163]
  case' p2 =>
    intro x
    idx_vars x
    refine Eq.trans ?_ (up2_emb (fun h r k => Scan.dke leF (hs q h) (hs (lg z lb) h) (hs v h) (hs dO h) (hm leF (lg z lb) h) c r k) 5 (by rfl) _ x0 x1).symm
    simp only [k0_pay130, k0_pay131, k0_pay140, k0_pay141, k0_pay142, k0_pay144]
  case' p3 =>
    intro x
    idx_vars x
    refine Eq.trans ?_ (up2_emb (fun h r k => Scan.dke leF (hs q h) (hs (lg z lb) h) (hs v h) (hs dO h) (hm leF (lg z lb) h) c r k) 4 (by rfl) _ x0 x1).symm
    simp only [k0_pay109, k0_pay110, k0_pay120, k0_pay121, k0_pay122, k0_pay124]
  case' p4 =>
    intro x
    idx_vars x
    refine Eq.trans ?_ (up2_emb (fun h r k => Scan.dke leF (hs q h) (hs (lg z lb) h) (hs v h) (hs dO h) (hm leF (lg z lb) h) c r k) 3 (by rfl) _ x0 x1).symm
    simp only [k0_pay88, k0_pay89, k0_pay99, k0_pay100, k0_pay101, k0_pay103]
  case' p5 =>
    intro x
    idx_vars x
    refine Eq.trans ?_ (up2_emb (fun h r k => Scan.dke leF (hs q h) (hs (lg z lb) h) (hs v h) (hs dO h) (hm leF (lg z lb) h) c r k) 2 (by rfl) _ x0 x1).symm
    simp only [k0_pay69, k0_pay70, k0_pay78, k0_pay79, k0_pay80, k0_pay82]
  case' p6 =>
    intro x
    idx_vars x
    refine Eq.trans ?_ (up2_emb (fun h r k => Scan.dke leF (hs q h) (hs (lg z lb) h) (hs v h) (hs dO h) (hm leF (lg z lb) h) c r k) 1 (by rfl) _ x0 x1).symm
    simp only [k0_pay50, k0_pay51, k0_pay59, k0_pay60, k0_pay61, k0_pay63]
  case' p7 =>
    intro x
    idx_vars x
    refine Eq.trans ?_ (up2_emb (fun h r k => Scan.dke leF (hs q h) (hs (lg z lb) h) (hs v h) (hs dO h) (hm leF (lg z lb) h) c r k) 0 (by rfl) _ x0 x1).symm
    simp only [k0_pay30, k0_pay31, k0_pay40, k0_pay41, k0_pay42, k0_pay44]
  all_goals
    simp only [pay4_up, pay12_up z lb c hf hc, pay24_up, pay25_up, pay28_up]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dke, Scan.da, Scan.qe, mul_zero, sub_self, zero_mul, Finset.sum_const_zero, ite_self, add_zero, ite_mul, mul_ite]
    first | rfl | (simp only [col_zero]; rfl)

theorem dqdF (hf : ∀ r x, 0 < fg z lb (c, r) x) (hc : ∀ r x, |Scan.cl leF (lg z lb) c r x - md leF (lg z lb) c x| ≤ 80) {X4 : Vec Ideal S1x8x128x128 .f32} (hX4 : X4 = up4 (S c)) {Xd : Vec Ideal S64x1024 .bf16} (hXd : Xd = ch dO c) :
    (View.whole cc0_scratch3).readCov (Val := Elt Ideal) [⟨Rect.unit ![0, 896] ![64, 128] inb_S64x1024_S64x128_0_896, k0_pay184 Xd (k0_pay175 (View.ld X4 (Rect.unit ![0, 7, 0, 0] ![1, 1, 128, 128] inb_S1x8x128x128_S1x1x128x128_0_7_0_0)))⟩, ⟨Rect.unit ![0, 768] ![64, 128] inb_S64x1024_S64x128_0_768, k0_pay164 Xd (k0_pay156 (View.ld X4 (Rect.unit ![0, 6, 0, 0] ![1, 1, 128, 128] inb_S1x8x128x128_S1x1x128x128_0_6_0_0)))⟩, ⟨Rect.unit ![0, 640] ![64, 128] inb_S64x1024_S64x128_0_640, k0_pay145 Xd (k0_pay136 (View.ld X4 (Rect.unit ![0, 5, 0, 0] ![1, 1, 128, 128] inb_S1x8x128x128_S1x1x128x128_0_5_0_0)))⟩, ⟨Rect.unit ![0, 512] ![64, 128] inb_S64x1024_S64x128_0_512, k0_pay125 Xd (k0_pay115 (View.ld X4 (Rect.unit ![0, 4, 0, 0] ![1, 1, 128, 128] inb_S1x8x128x128_S1x1x128x128_0_4_0_0)))⟩, ⟨Rect.unit ![0, 384] ![64, 128] inb_S64x1024_S64x128_0_384, k0_pay104 Xd (k0_pay95 (View.ld X4 (Rect.unit ![0, 3, 0, 0] ![1, 1, 128, 128] inb_S1x8x128x128_S1x1x128x128_0_3_0_0)))⟩, ⟨Rect.unit ![0, 256] ![64, 128] inb_S64x1024_S64x128_0_256, k0_pay84 (k0_pay83 Xd (k0_pay74 (View.ld X4 (Rect.unit ![0, 2, 0, 0] ![1, 1, 128, 128] inb_S1x8x128x128_S1x1x128x128_0_2_0_0))))⟩, ⟨Rect.unit ![0, 128] ![64, 128] inb_S64x1024_S64x128_0_128, k0_pay65 (k0_pay64 Xd (k0_pay55 (View.ld X4 (Rect.unit ![0, 1, 0, 0] ![1, 1, 128, 128] inb_S1x8x128x128_S1x1x128x128_0_1_0_0))))⟩, ⟨Rect.unit ![0, 0] ![64, 128] inb_S64x1024_S64x128_0_0, k0_pay46 (k0_pay37 (View.ld X4 (Rect.unit ![0, 0, 0, 0] ![1, 1, 128, 128] inb_S1x8x128x128_S1x1x128x128_0_0_0_0))) (k0_pay45 Xd)⟩] (Rect.unit ![0, 0] ![64, 1024] inb_S64x1024_S64x1024_0_0).toLoadRect = up2 fun r x => (fun h r k => Scan.dqd (hs dO h) (st S h) c r k) (hd x) r (ln x) := by
  subst hX4 hXd
  refine readCov_pieces (S := S64x1024) (e := .f32) _ _ _ (by decide) (up2 fun r x => (fun h r k => Scan.dqd (hs dO h) (st S h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dqd (hs dO h) (st S h) c r k) 7 (by rfl) _ x0 x1).symm
    simp only [k0_pay173, k0_pay175, k0_pay184]
  case' p1 =>
    intro x
    idx_vars x
    refine Eq.trans ?_ (up2_emb (fun h r k => Scan.dqd (hs dO h) (st S h) c r k) 6 (by rfl) _ x0 x1).symm
    simp only [k0_pay154, k0_pay156, k0_pay164]
  case' p2 =>
    intro x
    idx_vars x
    refine Eq.trans ?_ (up2_emb (fun h r k => Scan.dqd (hs dO h) (st S h) c r k) 5 (by rfl) _ x0 x1).symm
    simp only [k0_pay134, k0_pay136, k0_pay145]
  case' p3 =>
    intro x
    idx_vars x
    refine Eq.trans ?_ (up2_emb (fun h r k => Scan.dqd (hs dO h) (st S h) c r k) 4 (by rfl) _ x0 x1).symm
    simp only [k0_pay113, k0_pay115, k0_pay125]
  case' p4 =>
    intro x
    idx_vars x
    refine Eq.trans ?_ (up2_emb (fun h r k => Scan.dqd (hs dO h) (st S h) c r k) 3 (by rfl) _ x0 x1).symm
    simp only [k0_pay93, k0_pay95, k0_pay104]
  case' p5 =>
    intro x
    idx_vars x
    refine Eq.trans ?_ (up2_emb (fun h r k => Scan.dqd (hs dO h) (st S h) c r k) 2 (by rfl) _ x0 x1).symm
    simp only [k0_pay74, k0_pay83, k0_pay84]
  case' p6 =>
    intro x
    idx_vars x
    refine Eq.trans ?_ (up2_emb (fun h r k => Scan.dqd (hs dO h) (st S h) c r k) 1 (by rfl) _ x0 x1).symm
    simp only [k0_pay55, k0_pay64, k0_pay65]
  case' p7 =>
    intro x
    idx_vars x
    refine Eq.trans ?_ (up2_emb (fun h r k => Scan.dqd (hs dO h) (st S h) c r k) 0 (by rfl) _ x0 x1).symm
    simp only [k0_pay35, k0_pay37, k0_pay45, k0_pay46]
  all_goals
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dqd, mul_zero, sub_self, zero_mul, Finset.sum_const_zero, ite_self, add_zero, ite_mul, mul_ite]
    first | rfl | (simp only [col_zero]; rfl)

theorem dkdF (hf : ∀ r x, 0 < fg z lb (c, r) x) (hc : ∀ r x, |Scan.cl leF (lg z lb) c r x - md leF (lg z lb) c x| ≤ 80) {X2 : Vec Ideal S64x1024 .f32} (hX2 : X2 = ch v c) {XD : Vec Ideal S8x128x128 .f32} (hXD : XD = up3 (D c)) :
    (View.whole cc0_scratch4).readCov (Val := Elt Ideal) [⟨Rect.unit ![0, 896] ![64, 128] inb_S64x1024_S64x128_0_896, k0_pay185 (k0_pay28 X2) (k0_pay176 (View.ld XD (Rect.unit ![7, 0, 0] ![1, 128, 128] inb_S8x128x128_S1x128x128_7_0_0)))⟩, ⟨Rect.unit ![0, 768] ![64, 128] inb_S64x1024_S64x128_0_768, k0_pay165 (k0_pay28 X2) (k0_pay157 (View.ld XD (Rect.unit ![6, 0, 0] ![1, 128, 128] inb_S8x128x128_S1x128x128_6_0_0)))⟩, ⟨Rect.unit ![0, 640] ![64, 128] inb_S64x1024_S64x128_0_640, k0_pay147 (k0_pay146 (k0_pay28 X2) (k0_pay137 (View.ld XD (Rect.unit ![5, 0, 0] ![1, 128, 128] inb_S8x128x128_S1x128x128_5_0_0))))⟩, ⟨Rect.unit ![0, 512] ![64, 128] inb_S64x1024_S64x128_0_512, k0_pay127 (k0_pay126 (k0_pay28 X2) (k0_pay116 (View.ld XD (Rect.unit ![4, 0, 0] ![1, 128, 128] inb_S8x128x128_S1x128x128_4_0_0))))⟩, ⟨Rect.unit ![0, 384] ![64, 128] inb_S64x1024_S64x128_0_384, k0_pay106 (k0_pay96 (View.ld XD (Rect.unit ![3, 0, 0] ![1, 128, 128] inb_S8x128x128_S1x128x128_3_0_0))) (k0_pay105 (k0_pay28 X2))⟩, ⟨Rect.unit ![0, 256] ![64, 128] inb_S64x1024_S64x128_0_256, k0_pay85 (k0_pay28 X2) (k0_pay76 (k0_pay75 (View.ld XD (Rect.unit ![2, 0, 0] ![1, 128, 128] inb_S8x128x128_S1x128x128_2_0_0))))⟩, ⟨Rect.unit ![0, 128] ![64, 128] inb_S64x1024_S64x128_0_128, k0_pay66 (k0_pay28 X2) (k0_pay57 (View.ld XD (Rect.unit ![1, 0, 0] ![1, 128, 128] inb_S8x128x128_S1x128x128_1_0_0)))⟩, ⟨Rect.unit ![0, 0] ![64, 128] inb_S64x1024_S64x128_0_0, k0_pay47 (k0_pay28 X2) (k0_pay38 (View.ld XD (Rect.unit ![0, 0, 0] ![1, 128, 128] inb_S8x128x128_S1x128x128_0_0_0)))⟩] (Rect.unit ![0, 0] ![64, 1024] inb_S64x1024_S64x1024_0_0).toLoadRect = up2 fun r x => (fun h r k => Scan.dkd (hs v h) (st D h) c r k) (hd x) r (ln x) := by
  subst hX2 hXD
  refine readCov_pieces (S := S64x1024) (e := .f32) _ _ _ (by decide) (up2 fun r x => (fun h r k => Scan.dkd (hs v h) (st D h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dkd (hs v h) (st D h) c r k) 7 (by rfl) _ x0 x1).symm
    simp only [k0_pay174, k0_pay176, k0_pay185]
  case' p1 =>
    intro x
    idx_vars x
    refine Eq.trans ?_ (up2_emb (fun h r k => Scan.dkd (hs v h) (st D h) c r k) 6 (by rfl) _ x0 x1).symm
    simp only [k0_pay155, k0_pay157, k0_pay165]
  case' p2 =>
    intro x
    idx_vars x
    refine Eq.trans ?_ (up2_emb (fun h r k => Scan.dkd (hs v h) (st D h) c r k) 5 (by rfl) _ x0 x1).symm
    simp only [k0_pay135, k0_pay137, k0_pay146, k0_pay147]
  case' p3 =>
    intro x
    idx_vars x
    refine Eq.trans ?_ (up2_emb (fun h r k => Scan.dkd (hs v h) (st D h) c r k) 4 (by rfl) _ x0 x1).symm
    simp only [k0_pay114, k0_pay116, k0_pay126, k0_pay127]
  case' p4 =>
    intro x
    idx_vars x
    refine Eq.trans ?_ (up2_emb (fun h r k => Scan.dkd (hs v h) (st D h) c r k) 3 (by rfl) _ x0 x1).symm
    simp only [k0_pay94, k0_pay96, k0_pay105, k0_pay106]
  case' p5 =>
    intro x
    idx_vars x
    refine Eq.trans ?_ (up2_emb (fun h r k => Scan.dkd (hs v h) (st D h) c r k) 2 (by rfl) _ x0 x1).symm
    simp only [k0_pay75, k0_pay76, k0_pay85]
  case' p6 =>
    intro x
    idx_vars x
    refine Eq.trans ?_ (up2_emb (fun h r k => Scan.dkd (hs v h) (st D h) c r k) 1 (by rfl) _ x0 x1).symm
    simp only [k0_pay56, k0_pay57, k0_pay66]
  case' p7 =>
    intro x
    idx_vars x
    refine Eq.trans ?_ (up2_emb (fun h r k => Scan.dkd (hs v h) (st D h) c r k) 0 (by rfl) _ x0 x1).symm
    simp only [k0_pay36, k0_pay38, k0_pay47]
  all_goals
    simp only [pay28_up]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dkd, mul_zero, sub_self, zero_mul, Finset.sum_const_zero, ite_self, add_zero, ite_mul, mul_ite]
    first | rfl | (simp only [col_zero]; rfl)

theorem dlF (hf : ∀ r x, 0 < fg z lb (c, r) x) (hc : ∀ r x, |Scan.cl leF (lg z lb) c r x - md leF (lg z lb) c x| ≤ 80) {X4 : Vec Ideal S1x8x128x128 .f32} (hX4 : X4 = up4 (S c)) {XD : Vec Ideal S8x128x128 .f32} (hXD : XD = up3 (D c)) :
    (View.whole cc0_scratch5).readCov (Val := Elt Ideal) [⟨Rect.unit ![0, 896] ![1, 128] inb_S1x1024_S1x128_0_896, k0_pay187 (k0_pay186 (k0_pay173 (View.ld X4 (Rect.unit ![0, 7, 0, 0] ![1, 1, 128, 128] inb_S1x8x128x128_S1x1x128x128_0_7_0_0))) (k0_pay174 (View.ld XD (Rect.unit ![7, 0, 0] ![1, 128, 128] inb_S8x128x128_S1x128x128_7_0_0))))⟩, ⟨Rect.unit ![0, 768] ![1, 128] inb_S1x1024_S1x128_0_768, k0_pay167 (k0_pay166 (k0_pay154 (View.ld X4 (Rect.unit ![0, 6, 0, 0] ![1, 1, 128, 128] inb_S1x8x128x128_S1x1x128x128_0_6_0_0))) (k0_pay155 (View.ld XD (Rect.unit ![6, 0, 0] ![1, 128, 128] inb_S8x128x128_S1x128x128_6_0_0))))⟩, ⟨Rect.unit ![0, 640] ![1, 128] inb_S1x1024_S1x128_0_640, k0_pay148 (k0_pay134 (View.ld X4 (Rect.unit ![0, 5, 0, 0] ![1, 1, 128, 128] inb_S1x8x128x128_S1x1x128x128_0_5_0_0))) (k0_pay135 (View.ld XD (Rect.unit ![5, 0, 0] ![1, 128, 128] inb_S8x128x128_S1x128x128_5_0_0)))⟩, ⟨Rect.unit ![0, 512] ![1, 128] inb_S1x1024_S1x128_0_512, k0_pay128 (k0_pay113 (View.ld X4 (Rect.unit ![0, 4, 0, 0] ![1, 1, 128, 128] inb_S1x8x128x128_S1x1x128x128_0_4_0_0))) (k0_pay114 (View.ld XD (Rect.unit ![4, 0, 0] ![1, 128, 128] inb_S8x128x128_S1x128x128_4_0_0)))⟩, ⟨Rect.unit ![0, 384] ![1, 128] inb_S1x1024_S1x128_0_384, k0_pay107 (k0_pay93 (View.ld X4 (Rect.unit ![0, 3, 0, 0] ![1, 1, 128, 128] inb_S1x8x128x128_S1x1x128x128_0_3_0_0))) (k0_pay94 (View.ld XD (Rect.unit ![3, 0, 0] ![1, 128, 128] inb_S8x128x128_S1x128x128_3_0_0)))⟩, ⟨Rect.unit ![0, 256] ![1, 128] inb_S1x1024_S1x128_0_256, k0_pay86 (k0_pay74 (View.ld X4 (Rect.unit ![0, 2, 0, 0] ![1, 1, 128, 128] inb_S1x8x128x128_S1x1x128x128_0_2_0_0))) (k0_pay75 (View.ld XD (Rect.unit ![2, 0, 0] ![1, 128, 128] inb_S8x128x128_S1x128x128_2_0_0)))⟩, ⟨Rect.unit ![0, 128] ![1, 128] inb_S1x1024_S1x128_0_128, k0_pay67 (k0_pay55 (View.ld X4 (Rect.unit ![0, 1, 0, 0] ![1, 1, 128, 128] inb_S1x8x128x128_S1x1x128x128_0_1_0_0))) (k0_pay56 (View.ld XD (Rect.unit ![1, 0, 0] ![1, 128, 128] inb_S8x128x128_S1x128x128_1_0_0)))⟩, ⟨Rect.unit ![0, 0] ![1, 128] inb_S1x1024_S1x128_0_0, k0_pay48 (k0_pay35 (View.ld X4 (Rect.unit ![0, 0, 0, 0] ![1, 1, 128, 128] inb_S1x8x128x128_S1x1x128x128_0_0_0_0))) (k0_pay36 (View.ld XD (Rect.unit ![0, 0, 0] ![1, 128, 128] inb_S8x128x128_S1x128x128_0_0_0)))⟩] (Rect.unit ![0, 0] ![1, 1024] inb_S1x1024_S1x1024_0_0).toLoadRect = row fun x => (fun h k => Scan.dl (st S h) (st D h) c k) (hd x) (ln x) := by
  subst hX4 hXD
  refine readCov_pieces (S := S1x1024) (e := .f32) _ _ _ (by decide) (row fun x => (fun h k => Scan.dl (st S h) (st D h) c k) (hd x) (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (row_emb (fun h k => Scan.dl (st S h) (st D h) c k) 7 (by rfl) _ x0 x1).symm
    simp only [k0_pay173, k0_pay174, k0_pay186, k0_pay187]
  case' p1 =>
    intro x
    idx_vars x
    refine Eq.trans ?_ (row_emb (fun h k => Scan.dl (st S h) (st D h) c k) 6 (by rfl) _ x0 x1).symm
    simp only [k0_pay154, k0_pay155, k0_pay166, k0_pay167]
  case' p2 =>
    intro x
    idx_vars x
    refine Eq.trans ?_ (row_emb (fun h k => Scan.dl (st S h) (st D h) c k) 5 (by rfl) _ x0 x1).symm
    simp only [k0_pay134, k0_pay135, k0_pay148]
  case' p3 =>
    intro x
    idx_vars x
    refine Eq.trans ?_ (row_emb (fun h k => Scan.dl (st S h) (st D h) c k) 4 (by rfl) _ x0 x1).symm
    simp only [k0_pay113, k0_pay114, k0_pay128]
  case' p4 =>
    intro x
    idx_vars x
    refine Eq.trans ?_ (row_emb (fun h k => Scan.dl (st S h) (st D h) c k) 3 (by rfl) _ x0 x1).symm
    simp only [k0_pay93, k0_pay94, k0_pay107]
  case' p5 =>
    intro x
    idx_vars x
    refine Eq.trans ?_ (row_emb (fun h k => Scan.dl (st S h) (st D h) c k) 2 (by rfl) _ x0 x1).symm
    simp only [k0_pay74, k0_pay75, k0_pay86]
  case' p6 =>
    intro x
    idx_vars x
    refine Eq.trans ?_ (row_emb (fun h k => Scan.dl (st S h) (st D h) c k) 1 (by rfl) _ x0 x1).symm
    simp only [k0_pay55, k0_pay56, k0_pay67]
  case' p7 =>
    intro x
    idx_vars x
    refine Eq.trans ?_ (row_emb (fun h k => Scan.dl (st S h) (st D h) c k) 0 (by rfl) _ x0 x1).symm
    simp only [k0_pay35, k0_pay36, k0_pay48]
  all_goals
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dl, mul_zero, sub_self, zero_mul, Finset.sum_const_zero, ite_self, add_zero, ite_mul, mul_ite]
    first | rfl | (simp only [col_zero]; rfl)

theorem dvF (hf : ∀ r x, 0 < fg z lb (c, r) x) (hc : ∀ r x, |Scan.cl leF (lg z lb) c r x - md leF (lg z lb) c x| ≤ 80) {X0 : Vec Ideal S64x1024 .f32} (hX0 : X0 = ch q c) {X1 : Vec Ideal S64x1024 .f32} (hX1 : X1 = ch z c) {X3 : Vec Ideal S1x1024 .f32} (hX3 : X3 = row lb) {XD : Vec Ideal S8x128x128 .f32} (hXD : XD = up3 (D c)) {Xd : Vec Ideal S64x1024 .bf16} (hXd : Xd = ch dO c) :
    View.canon (Val := Elt Ideal) (e := .bf16) [⟨Rect.unit ![0, 896] ![64, 128] inb_S64x1024_S64x128_0_896, k0_pay177 k0_pay4 (k0_pay23 (k0_pay8 X1 X3) (k0_pay9 X1 X3) (k0_pay11 X1 X3)) (k0_pay24 X0 (k0_pay12 X1 X3)) (k0_pay26 (k0_pay8 X1 X3) (k0_pay13 X1 X3)) Xd (View.ld XD (Rect.unit ![7, 0, 0] ![1, 128, 128] inb_S8x128x128_S1x128x128_7_0_0))⟩, ⟨Rect.unit ![0, 768] ![64, 128] inb_S64x1024_S64x128_0_768, k0_pay158 k0_pay4 (k0_pay23 (k0_pay8 X1 X3) (k0_pay9 X1 X3) (k0_pay11 X1 X3)) (k0_pay24 X0 (k0_pay12 X1 X3)) (k0_pay26 (k0_pay8 X1 X3) (k0_pay13 X1 X3)) Xd (View.ld XD (Rect.unit ![6, 0, 0] ![1, 128, 128] inb_S8x128x128_S1x128x128_6_0_0))⟩, ⟨Rect.unit ![0, 640] ![64, 128] inb_S64x1024_S64x128_0_640, k0_pay139 (k0_pay138 k0_pay4 (k0_pay23 (k0_pay8 X1 X3) (k0_pay9 X1 X3) (k0_pay11 X1 X3)) (k0_pay24 X0 (k0_pay12 X1 X3)) (k0_pay26 (k0_pay8 X1 X3) (k0_pay13 X1 X3)) Xd (View.ld XD (Rect.unit ![5, 0, 0] ![1, 128, 128] inb_S8x128x128_S1x128x128_5_0_0)))⟩, ⟨Rect.unit ![0, 512] ![64, 128] inb_S64x1024_S64x128_0_512, k0_pay119 (k0_pay116 (View.ld XD (Rect.unit ![4, 0, 0] ![1, 128, 128] inb_S8x128x128_S1x128x128_4_0_0))) (k0_pay117 k0_pay4 (k0_pay24 X0 (k0_pay12 X1 X3)) (k0_pay26 (k0_pay8 X1 X3) (k0_pay13 X1 X3)) Xd) (k0_pay118 (k0_pay23 (k0_pay8 X1 X3) (k0_pay9 X1 X3) (k0_pay11 X1 X3)))⟩, ⟨Rect.unit ![0, 384] ![64, 128] inb_S64x1024_S64x128_0_384, k0_pay98 (k0_pay23 (k0_pay8 X1 X3) (k0_pay9 X1 X3) (k0_pay11 X1 X3)) (k0_pay92 k0_pay4 (k0_pay24 X0 (k0_pay12 X1 X3)) (k0_pay26 (k0_pay8 X1 X3) (k0_pay13 X1 X3))) (k0_pay96 (View.ld XD (Rect.unit ![3, 0, 0] ![1, 128, 128] inb_S8x128x128_S1x128x128_3_0_0))) (k0_pay97 Xd)⟩, ⟨Rect.unit ![0, 256] ![64, 128] inb_S64x1024_S64x128_0_256, k0_pay77 (k0_pay23 (k0_pay8 X1 X3) (k0_pay9 X1 X3) (k0_pay11 X1 X3)) Xd (k0_pay73 k0_pay4 (k0_pay24 X0 (k0_pay12 X1 X3)) (k0_pay26 (k0_pay8 X1 X3) (k0_pay13 X1 X3))) (k0_pay75 (View.ld XD (Rect.unit ![2, 0, 0] ![1, 128, 128] inb_S8x128x128_S1x128x128_2_0_0)))⟩, ⟨Rect.unit ![0, 128] ![64, 128] inb_S64x1024_S64x128_0_128, k0_pay58 (k0_pay23 (k0_pay8 X1 X3) (k0_pay9 X1 X3) (k0_pay11 X1 X3)) Xd (k0_pay54 k0_pay4 (k0_pay24 X0 (k0_pay12 X1 X3)) (k0_pay26 (k0_pay8 X1 X3) (k0_pay13 X1 X3))) (View.ld XD (Rect.unit ![1, 0, 0] ![1, 128, 128] inb_S8x128x128_S1x128x128_1_0_0))⟩, ⟨Rect.unit ![0, 0] ![64, 128] inb_S64x1024_S64x128_0_0, k0_pay39 (k0_pay23 (k0_pay8 X1 X3) (k0_pay9 X1 X3) (k0_pay11 X1 X3)) Xd (k0_pay34 X0 k0_pay4 (k0_pay8 X1 X3) (k0_pay12 X1 X3) (k0_pay13 X1 X3)) (View.ld XD (Rect.unit ![0, 0, 0] ![1, 128, 128] inb_S8x128x128_S1x128x128_0_0_0))⟩] = up2 fun r x => (fun h r k => Scan.kdv leF (hs q h) (hs (kg z lb) h) (hs (lg z lb) h) (hs dO h) (hm leF (lg z lb) h) (st D h) c r k) (hd x) r (ln x) := by
  subst hX0 hX1 hX3 hXD hXd
  refine canon_over (S := S64x1024) (e := .bf16) (up2 fun r x => (fun h r k => Scan.kdv leF (hs q h) (hs (kg z lb) h) (hs (lg z lb) h) (hs dO h) (hm leF (lg z lb) h) (st D h) c r k) (hd x) r (ln x)) _ _ _ _ _ _ _ _ _ (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.kdv leF (hs q h) (hs (kg z lb) h) (hs (lg z lb) h) (hs dO h) (hm leF (lg z lb) h) (st D h) c r k) 7 (by rfl) _ x0 x1).symm
    simp only [k0_pay169, k0_pay171, k0_pay174, k0_pay176, k0_pay177]
  case' p1 =>
    intro x
    idx_vars x
    refine Eq.trans ?_ (up2_emb (fun h r k => Scan.kdv leF (hs q h) (hs (kg z lb) h) (hs (lg z lb) h) (hs dO h) (hm leF (lg z lb) h) (st D h) c r k) 6 (by rfl) _ x0 x1).symm
    simp only [k0_pay150, k0_pay152, k0_pay155, k0_pay157, k0_pay158]
  case' p2 =>
    intro x
    idx_vars x
    refine Eq.trans ?_ (up2_emb (fun h r k => Scan.kdv leF (hs q h) (hs (kg z lb) h) (hs (lg z lb) h) (hs dO h) (hm leF (lg z lb) h) (st D h) c r k) 5 (by rfl) _ x0 x1).symm
    simp only [k0_pay130, k0_pay132, k0_pay135, k0_pay137, k0_pay138, k0_pay139]
  case' p3 =>
    intro x
    idx_vars x
    refine Eq.trans ?_ (up2_emb (fun h r k => Scan.kdv leF (hs q h) (hs (kg z lb) h) (hs (lg z lb) h) (hs dO h) (hm leF (lg z lb) h) (st D h) c r k) 4 (by rfl) _ x0 x1).symm
    simp only [k0_pay109, k0_pay111, k0_pay114, k0_pay116, k0_pay117, k0_pay118, k0_pay119]
  case' p4 =>
    intro x
    idx_vars x
    refine Eq.trans ?_ (up2_emb (fun h r k => Scan.kdv leF (hs q h) (hs (kg z lb) h) (hs (lg z lb) h) (hs dO h) (hm leF (lg z lb) h) (st D h) c r k) 3 (by rfl) _ x0 x1).symm
    simp only [k0_pay88, k0_pay90, k0_pay92, k0_pay94, k0_pay96, k0_pay97, k0_pay98]
  case' p5 =>
    intro x
    idx_vars x
    refine Eq.trans ?_ (up2_emb (fun h r k => Scan.kdv leF (hs q h) (hs (kg z lb) h) (hs (lg z lb) h) (hs dO h) (hm leF (lg z lb) h) (st D h) c r k) 2 (by rfl) _ x0 x1).symm
    simp only [k0_pay69, k0_pay71, k0_pay73, k0_pay75, k0_pay76, k0_pay77]
  case' p6 =>
    intro x
    idx_vars x
    refine Eq.trans ?_ (up2_emb (fun h r k => Scan.kdv leF (hs q h) (hs (kg z lb) h) (hs (lg z lb) h) (hs dO h) (hm leF (lg z lb) h) (st D h) c r k) 1 (by rfl) _ x0 x1).symm
    simp only [k0_pay50, k0_pay52, k0_pay54, k0_pay56, k0_pay57, k0_pay58]
  case' p7 =>
    intro x
    idx_vars x
    refine Eq.trans ?_ (up2_emb (fun h r k => Scan.kdv leF (hs q h) (hs (kg z lb) h) (hs (lg z lb) h) (hs dO h) (hm leF (lg z lb) h) (st D h) c r k) 0 (by rfl) _ x0 x1).symm
    simp only [k0_pay30, k0_pay32, k0_pay34, k0_pay36, k0_pay38, k0_pay39]
  all_goals
    simp only [pay4_up, pay8_up, pay9_up z lb c hf, pay11_up z lb c hf, pay12_up z lb c hf hc, pay13_up z lb c hf, pay23_up, pay24_up, pay26_up z lb c hc]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.kdv, Scan.aw, Scan.kd, mul_zero, sub_self, zero_mul, Finset.sum_const_zero, ite_self, add_zero, ite_mul, mul_ite]
    first | rfl | (simp only [col_zero]; rfl)

theorem stF (hf : ∀ r x, 0 < fg z lb (c, r) x) (hc : ∀ r x, |Scan.cl leF (lg z lb) c r x - md leF (lg z lb) c x| ≤ 80) {X0 : Vec Ideal S64x1024 .f32} (hX0 : X0 = ch q c) {X1 : Vec Ideal S64x1024 .f32} (hX1 : X1 = ch z c) {X3 : Vec Ideal S1x1024 .f32} (hX3 : X3 = row lb) {XD : Vec Ideal S8x128x128 .f32} (hXD : XD = up3 (D c)) {Xd : Vec Ideal S64x1024 .bf16} (hXd : Xd = ch dO c) (T : List (View.Piece (Elt Ideal) S8x128x128 .f32)) :
    View.canon (Val := Elt Ideal) (e := .f32) ((⟨Rect.unit ![7, 0, 0] ![1, 128, 128] inb_S8x128x128_S1x128x128_7_0_0, k0_pay188 (k0_pay16 (k0_pay11 X1 X3)) (k0_pay22 X0 (k0_pay9 X1 X3)) Xd (k0_pay174 (View.ld XD (Rect.unit ![7, 0, 0] ![1, 128, 128] inb_S8x128x128_S1x128x128_7_0_0)))⟩ : View.Piece (Elt Ideal) S8x128x128 .f32) :: (⟨Rect.unit ![6, 0, 0] ![1, 128, 128] inb_S8x128x128_S1x128x128_6_0_0, k0_pay168 (k0_pay16 (k0_pay11 X1 X3)) (k0_pay22 X0 (k0_pay9 X1 X3)) Xd (k0_pay155 (View.ld XD (Rect.unit ![6, 0, 0] ![1, 128, 128] inb_S8x128x128_S1x128x128_6_0_0)))⟩ : View.Piece (Elt Ideal) S8x128x128 .f32) :: (⟨Rect.unit ![5, 0, 0] ![1, 128, 128] inb_S8x128x128_S1x128x128_5_0_0, k0_pay149 (k0_pay16 (k0_pay11 X1 X3)) (k0_pay22 X0 (k0_pay9 X1 X3)) Xd (k0_pay135 (View.ld XD (Rect.unit ![5, 0, 0] ![1, 128, 128] inb_S8x128x128_S1x128x128_5_0_0)))⟩ : View.Piece (Elt Ideal) S8x128x128 .f32) :: (⟨Rect.unit ![4, 0, 0] ![1, 128, 128] inb_S8x128x128_S1x128x128_4_0_0, k0_pay129 (k0_pay16 (k0_pay11 X1 X3)) (k0_pay22 X0 (k0_pay9 X1 X3)) Xd (k0_pay114 (View.ld XD (Rect.unit ![4, 0, 0] ![1, 128, 128] inb_S8x128x128_S1x128x128_4_0_0)))⟩ : View.Piece (Elt Ideal) S8x128x128 .f32) :: (⟨Rect.unit ![3, 0, 0] ![1, 128, 128] inb_S8x128x128_S1x128x128_3_0_0, k0_pay108 (k0_pay16 (k0_pay11 X1 X3)) (k0_pay22 X0 (k0_pay9 X1 X3)) Xd (k0_pay94 (View.ld XD (Rect.unit ![3, 0, 0] ![1, 128, 128] inb_S8x128x128_S1x128x128_3_0_0)))⟩ : View.Piece (Elt Ideal) S8x128x128 .f32) :: (⟨Rect.unit ![2, 0, 0] ![1, 128, 128] inb_S8x128x128_S1x128x128_2_0_0, k0_pay87 (k0_pay16 (k0_pay11 X1 X3)) (k0_pay22 X0 (k0_pay9 X1 X3)) Xd (k0_pay75 (View.ld XD (Rect.unit ![2, 0, 0] ![1, 128, 128] inb_S8x128x128_S1x128x128_2_0_0)))⟩ : View.Piece (Elt Ideal) S8x128x128 .f32) :: (⟨Rect.unit ![1, 0, 0] ![1, 128, 128] inb_S8x128x128_S1x128x128_1_0_0, k0_pay68 (k0_pay16 (k0_pay11 X1 X3)) (k0_pay22 X0 (k0_pay9 X1 X3)) Xd (k0_pay56 (View.ld XD (Rect.unit ![1, 0, 0] ![1, 128, 128] inb_S8x128x128_S1x128x128_1_0_0)))⟩ : View.Piece (Elt Ideal) S8x128x128 .f32) :: (⟨Rect.unit ![0, 0, 0] ![1, 128, 128] inb_S8x128x128_S1x128x128_0_0_0, k0_pay49 (k0_pay16 (k0_pay11 X1 X3)) (k0_pay22 X0 (k0_pay9 X1 X3)) Xd (k0_pay36 (View.ld XD (Rect.unit ![0, 0, 0] ![1, 128, 128] inb_S8x128x128_S1x128x128_0_0_0)))⟩ : View.Piece (Elt Ideal) S8x128x128 .f32) :: T) = up3 fun h v k => (∑ r, hs dO h (c, r) v * Scan.qd leF (hs q h) (hs (lg z lb) h) c r k) + D c h v k * Scan.el (hs (lg z lb) h) c k := by
  subst hX0 hX1 hX3 hXD hXd
  refine canon_over (S := S8x128x128) (e := .f32) (up3 fun h v k => (∑ r, hs dO h (c, r) v * Scan.qd leF (hs q h) (hs (lg z lb) h) c r k) + D c h v k * Scan.el (hs (lg z lb) h) c k) _ _ _ _ _ _ _ _ _ (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up3_emb (fun h v k => (∑ r, hs dO h (c, r) v * Scan.qd leF (hs q h) (hs (lg z lb) h) c r k) + D c h v k * Scan.el (hs (lg z lb) h) c k) 7 (by rfl) _ x0 x1 x2).symm
    simp only [k0_pay174, k0_pay188]
  case' p1 =>
    intro x
    idx_vars x
    refine Eq.trans ?_ (up3_emb (fun h v k => (∑ r, hs dO h (c, r) v * Scan.qd leF (hs q h) (hs (lg z lb) h) c r k) + D c h v k * Scan.el (hs (lg z lb) h) c k) 6 (by rfl) _ x0 x1 x2).symm
    simp only [k0_pay155, k0_pay168]
  case' p2 =>
    intro x
    idx_vars x
    refine Eq.trans ?_ (up3_emb (fun h v k => (∑ r, hs dO h (c, r) v * Scan.qd leF (hs q h) (hs (lg z lb) h) c r k) + D c h v k * Scan.el (hs (lg z lb) h) c k) 5 (by rfl) _ x0 x1 x2).symm
    simp only [k0_pay135, k0_pay149]
  case' p3 =>
    intro x
    idx_vars x
    refine Eq.trans ?_ (up3_emb (fun h v k => (∑ r, hs dO h (c, r) v * Scan.qd leF (hs q h) (hs (lg z lb) h) c r k) + D c h v k * Scan.el (hs (lg z lb) h) c k) 4 (by rfl) _ x0 x1 x2).symm
    simp only [k0_pay114, k0_pay129]
  case' p4 =>
    intro x
    idx_vars x
    refine Eq.trans ?_ (up3_emb (fun h v k => (∑ r, hs dO h (c, r) v * Scan.qd leF (hs q h) (hs (lg z lb) h) c r k) + D c h v k * Scan.el (hs (lg z lb) h) c k) 3 (by rfl) _ x0 x1 x2).symm
    simp only [k0_pay94, k0_pay108]
  case' p5 =>
    intro x
    idx_vars x
    refine Eq.trans ?_ (up3_emb (fun h v k => (∑ r, hs dO h (c, r) v * Scan.qd leF (hs q h) (hs (lg z lb) h) c r k) + D c h v k * Scan.el (hs (lg z lb) h) c k) 2 (by rfl) _ x0 x1 x2).symm
    simp only [k0_pay75, k0_pay87]
  case' p6 =>
    intro x
    idx_vars x
    refine Eq.trans ?_ (up3_emb (fun h v k => (∑ r, hs dO h (c, r) v * Scan.qd leF (hs q h) (hs (lg z lb) h) c r k) + D c h v k * Scan.el (hs (lg z lb) h) c k) 1 (by rfl) _ x0 x1 x2).symm
    simp only [k0_pay56, k0_pay68]
  case' p7 =>
    intro x
    idx_vars x
    refine Eq.trans ?_ (up3_emb (fun h v k => (∑ r, hs dO h (c, r) v * Scan.qd leF (hs q h) (hs (lg z lb) h) c r k) + D c h v k * Scan.el (hs (lg z lb) h) c k) 0 (by rfl) _ x0 x1 x2).symm
    simp only [k0_pay36, k0_pay49]
  all_goals
    simp only [pay9_up z lb c hf, pay11_up z lb c hf, pay16_up, pay22_up]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.qd, mul_zero, sub_self, zero_mul, Finset.sum_const_zero, ite_self, add_zero, ite_mul, mul_ite]
    first | rfl | (simp only [col_zero]; rfl)

end Cert.KernelIdeal.Step
-- ==== Proof.PointF.lean ====
/- What one grid point of the forward direction leaves in its outputs and in the state it carries, at inputs that are real numbers:
   the gradients of one chunk. -/
module

public import proofs.«01_k».proof.Proof.HeadsF

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

section
variable (z q v dO : Fin 132 × Fin 64 → Fin 1024 → ℝ) (lb : Fin 1024 → ℝ) (S D : Fin 132 → Fin 8 → Fin 128 → Fin 128 → ℝ) (k : Fin 132)

theorem lastdfF (hf : ∀ r x, 0 < fg z lb (k, r) x) : k0_pay193 (F := Ideal) k0_pay5 (ch (fg z lb) k) (k0_pay190 (up2 (Scan.ek leF (lg z lb) (md leF (lg z lb)) k)) (up2 (Scan.ekd leF (lg z lb) k)) (up2 (adke leF z q v dO lb k)) (up2 (adkd v D k))) (k0_pay191 (up2 (Scan.qe leF q (lg z lb) (md leF (lg z lb)) k)) (up2 (Scan.ke leF (kg z lb) (lg z lb) (md leF (lg z lb)) k)) (up2 (Scan.qd leF q (lg z lb) k)) (up2 (Scan.kd leF (kg z lb) (lg z lb) k)) (up2 (adqe leF z v dO lb k)) (up2 (adke leF z q v dO lb k)) (up2 (adqd dO S k)) (up2 (adkd v D k))) (k0_pay192 (row (Scan.el (lg z lb) k)) (up2 (Scan.kd leF (kg z lb) (lg z lb) k)) (up2 (adkd v D k)) (row (adl S D k))) = up2 (gdf leF z q v dO lb S D k) := by
  funext i
  idx_vars i
  pointwise [k0_pay190, k0_pay191, k0_pay192, k0_pay193, pay5_up, up2_ix, ch_ix, row_ix]
  obtain ⟨h, x, rfl⟩ := exists_col i1
  rw [Ideal.div_coe (hf _ _).ne']
  simp only [zero_add, ← EReal.coe_zero, ← EReal.coe_one, ← EReal.coe_mul, coe_sum, coe_ite, ← EReal.coe_sub, ← EReal.coe_add]
  refine congrArg Real.toEReal ?_
  simp only [gdf, gdlf, gdk, adqe, adke, adqd, adkd, adl, Scan.kdlf, Scan.kdlast, Scan.kdcum, Scan.kdk, hd_col, ln_col]
  rfl

theorem lastdqF : k0_pay189 (F := Ideal) (up2 (Scan.eq leF (lg z lb) (md leF (lg z lb)) k)) (up2 (Scan.ec leF (lg z lb) k)) (up2 (adqe leF z v dO lb k)) (up2 (adqd dO S k)) = up2 (gdq leF z v dO lb S k) := by
  funext i
  idx_vars i
  pointwise [k0_pay189, up2_ix, ch_ix, row_ix]
  obtain ⟨h, x, rfl⟩ := exists_col i1
  simp only [zero_add, ← EReal.coe_zero, ← EReal.coe_one, ← EReal.coe_mul, coe_sum, coe_ite, ← EReal.coe_sub, ← EReal.coe_add]
  refine congrArg Real.toEReal ?_
  simp only [gdq, adqe, adqd, Scan.kdq, hd_col, ln_col]
  rfl

theorem lastdzF (hf : ∀ r x, 0 < fg z lb (k, r) x) : k0_pay194 (F := Ideal) (row lb) k0_pay5 (ch (sg z) k) (ch (fg z lb) k) (k0_pay190 (up2 (Scan.ek leF (lg z lb) (md leF (lg z lb)) k)) (up2 (Scan.ekd leF (lg z lb) k)) (up2 (adke leF z q v dO lb k)) (up2 (adkd v D k))) (k0_pay191 (up2 (Scan.qe leF q (lg z lb) (md leF (lg z lb)) k)) (up2 (Scan.ke leF (kg z lb) (lg z lb) (md leF (lg z lb)) k)) (up2 (Scan.qd leF q (lg z lb) k)) (up2 (Scan.kd leF (kg z lb) (lg z lb) k)) (up2 (adqe leF z v dO lb k)) (up2 (adke leF z q v dO lb k)) (up2 (adqd dO S k)) (up2 (adkd v D k))) (k0_pay192 (row (Scan.el (lg z lb) k)) (up2 (Scan.kd leF (kg z lb) (lg z lb) k)) (up2 (adkd v D k)) (row (adl S D k))) = up2 (gdz leF z q v dO lb S D k) := by
  funext i
  idx_vars i
  pointwise [k0_pay194, lastdfF z q v dO lb S D k hf, up2_ix, ch_ix, row_ix]
  simp only [zero_add, ← EReal.coe_zero, ← EReal.coe_one, ← EReal.coe_mul, coe_sum, coe_ite, ← EReal.coe_sub, ← EReal.coe_add]
  rfl

theorem lastdlbF (p : Fin 1024 → ℝ) (hf : ∀ r x, 0 < fg z lb (k, r) x) : k0_pay195 (F := Ideal) k0_pay5 (ch (sg z) k) (ch (fg z lb) k) (k0_pay190 (up2 (Scan.ek leF (lg z lb) (md leF (lg z lb)) k)) (up2 (Scan.ekd leF (lg z lb) k)) (up2 (adke leF z q v dO lb k)) (up2 (adkd v D k))) (k0_pay191 (up2 (Scan.qe leF q (lg z lb) (md leF (lg z lb)) k)) (up2 (Scan.ke leF (kg z lb) (lg z lb) (md leF (lg z lb)) k)) (up2 (Scan.qd leF q (lg z lb) k)) (up2 (Scan.kd leF (kg z lb) (lg z lb) k)) (up2 (adqe leF z v dO lb k)) (up2 (adke leF z q v dO lb k)) (up2 (adqd dO S k)) (up2 (adkd v D k))) (k0_pay192 (row (Scan.el (lg z lb) k)) (up2 (Scan.kd leF (kg z lb) (lg z lb) k)) (up2 (adkd v D k)) (row (adl S D k))) (row p) = row fun x => p x + gdlb leF z q v dO lb S D k x := by
  funext i
  idx_vars i
  pointwise [k0_pay195, lastdfF z q v dO lb S D k hf, up2_ix, ch_ix, row_ix]
  simp only [zero_add, ← EReal.coe_zero, ← EReal.coe_one, ← EReal.coe_mul, coe_sum, coe_ite, ← EReal.coe_sub, ← EReal.coe_add]
  rfl

theorem zeroRowF : k0_pay3 (F := Ideal) = row fun _ => 0 := by
  funext i
  idx_vars i
  pointwise [k0_pay3, row_ix]
  rfl

theorem zeroStateF (hD : D k = fun _ _ _ => 0) : k0_pay2 (F := Ideal) = up3 (D k) := by
  rw [hD]
  funext i
  idx_vars i
  pointwise [k0_pay2, up3_ix]
  rfl

end

/-- What the windows of the forward direction hold at a grid point that does chunk `k`. -/
structure InF (m : (ℓ : Loc nD τ sig) → Buf (Elt Ideal) ℓ) (c : Dev nD) (t : Fin cfg0.N) (z q v dO : Fin 132 × Fin 64 → Fin 1024 → ℝ) (lb : Fin 1024 → ℝ)
    (S : Fin 132 → Fin 8 → Fin 128 → Fin 128 → ℝ) (k : Fin 132) : Prop where
  hq : (iblk m c 0 t : Vec Ideal S64x1024 .f32) = ch q k
  hz : (iblk m c 1 t : Vec Ideal S64x1024 .f32) = ch z k
  hv : (iblk m c 2 t : Vec Ideal S64x1024 .f32) = ch v k
  hlb : (iblk m c 3 t : Vec Ideal S1x1024 .f32) = row lb
  hst : (iblk m c 4 t : Vec Ideal S1x8x128x128 .f32) = up4 (S k)
  hd : (k0_pay29 (F := Ideal) (BitVec.ofNat 32 (grid0.coords t 0).val) (iblk m c 5 t) : Vec Ideal S64x1024 .bf16) = ch dO k
  hf : ∀ r x, 0 < fg z lb (k, r) x
  hcl : ∀ r x, |Scan.cl leF (lg z lb) k r x - md leF (lg z lb) k x| ≤ 80

section
variable {m : (ℓ : Loc nD τ sig) → Buf (Elt Ideal) ℓ} {c : Dev nD} {t : Fin cfg0.N} {z q v dO : Fin 132 × Fin 64 → Fin 1024 → ℝ} {lb : Fin 1024 → ℝ}
variable {S : Fin 132 → Fin 8 → Fin 128 → Fin 128 → ℝ} (D : Fin 132 → Fin 8 → Fin 128 → Fin 128 → ℝ) {k : Fin 132}

theorem dqF_A (hi : InF m c t z q v dO lb S k) (ht : t.val % 132 = 0) :
    (outsAt0 m c t.val t.isLt).1 = up2 (gdq leF z v dO lb S k) := by
  rw [outsAt0_A m c t ht ht]
  frame_open
  simp (disch := decide) only [↓ View.readCov_skip, ↓ View.readCov_cons_toLoadRect, ↓ View.readCov_fill]
  frame_out
  rw [show _ = (up2 (adqe leF z v dO lb k)) from dqeF z v dO lb k hi.hf hi.hcl hi.hz hi.hv hi.hlb hi.hd]
  rw [show _ = (up2 (adqd dO S k)) from dqdF z dO lb S k hi.hf hi.hcl hi.hst hi.hd]
  simp only [hi.hz, hi.hlb]
  simp only [pay9_up z lb k hi.hf, pay11_up z lb k hi.hf, pay13_up z lb k hi.hf, pay6_up, pay7_up, pay8_up, pay12_up z lb k hi.hf hi.hcl, pay14_up z lb k hi.hcl, pay15_up, pay16_up, pay17_up, pay18_up, pay19_up z lb k hi.hcl, pay20_up, pay21_up]
  exact lastdqF z v dO lb S k

theorem dzF_A (hi : InF m c t z q v dO lb S k) (ht : t.val % 132 = 0) (h0 : D k = fun _ _ _ => 0) :
    (outsAt0 m c t.val t.isLt).2.1 = up2 (gdz leF z q v dO lb S D k) := by
  have hD := zeroStateF D k h0
  rw [outsAt0_A m c t ht ht]
  frame_open
  simp (disch := decide) only [↓ View.readCov_skip, ↓ View.readCov_cons_toLoadRect, ↓ View.readCov_fill]
  frame_out
  rw [show _ = (up2 (adqe leF z v dO lb k)) from dqeF z v dO lb k hi.hf hi.hcl hi.hz hi.hv hi.hlb hi.hd]
  rw [show _ = (up2 (adke leF z q v dO lb k)) from dkeF z q v dO lb k hi.hf hi.hcl hi.hq hi.hz hi.hv hi.hlb hi.hd]
  rw [show _ = (up2 (adqd dO S k)) from dqdF z dO lb S k hi.hf hi.hcl hi.hst hi.hd]
  rw [show _ = (up2 (adkd v D k)) from dkdF z v lb D k hi.hf hi.hcl hi.hv hD]
  rw [show _ = (row (adl S D k)) from dlF z lb S D k hi.hf hi.hcl hi.hst hD]
  simp only [hi.hz, hi.hlb, hi.hq]
  simp only [pay9_up z lb k hi.hf, pay11_up z lb k hi.hf, pay13_up z lb k hi.hf, pay6_up, pay7_up, pay8_up, pay12_up z lb k hi.hf hi.hcl, pay14_up z lb k hi.hcl, pay15_up, pay16_up, pay17_up, pay18_up, pay19_up z lb k hi.hcl, pay20_up, pay21_up]
  exact lastdzF z q v dO lb S D k hi.hf

theorem dvF_A (hi : InF m c t z q v dO lb S k) (ht : t.val % 132 = 0) (h0 : D k = fun _ _ _ => 0) :
    (outsAt0 m c t.val t.isLt).2.2.1 = up2 (gdv leF z q dO lb D k) := by
  have hD := zeroStateF D k h0
  rw [outsAt0_A m c t ht ht]
  frame_open
  simp (disch := decide) only [↓ View.readCov_skip, ↓ View.readCov_cons_toLoadRect, ↓ View.readCov_fill]
  frame_out
  exact dvF z q dO lb D k hi.hf hi.hcl hi.hq hi.hz hi.hlb hD hi.hd

theorem dlbF_A (hi : InF m c t z q v dO lb S k) (ht : t.val % 132 = 0) (h0 : D k = fun _ _ _ => 0) :
    (outsAt0 m c t.val t.isLt).2.2.2.1 = row (gdlb leF z q v dO lb S D k) := by
  have hD := zeroStateF D k h0
  rw [outsAt0_A m c t ht ht]
  frame_open
  simp (disch := decide) only [↓ View.readCov_skip, ↓ View.readCov_cons_toLoadRect, ↓ View.readCov_fill]
  frame_out
  rw [show _ = (up2 (adqe leF z v dO lb k)) from dqeF z v dO lb k hi.hf hi.hcl hi.hz hi.hv hi.hlb hi.hd]
  rw [show _ = (up2 (adke leF z q v dO lb k)) from dkeF z q v dO lb k hi.hf hi.hcl hi.hq hi.hz hi.hv hi.hlb hi.hd]
  rw [show _ = (up2 (adqd dO S k)) from dqdF z dO lb S k hi.hf hi.hcl hi.hst hi.hd]
  rw [show _ = (up2 (adkd v D k)) from dkdF z v lb D k hi.hf hi.hcl hi.hv hD]
  rw [show _ = (row (adl S D k)) from dlF z lb S D k hi.hf hi.hcl hi.hst hD]
  simp only [hi.hz, hi.hlb, hi.hq]
  simp only [pay9_up z lb k hi.hf, pay11_up z lb k hi.hf, pay13_up z lb k hi.hf, pay6_up, pay7_up, pay8_up, pay12_up z lb k hi.hf hi.hcl, pay14_up z lb k hi.hcl, pay15_up, pay16_up, pay17_up, pay18_up, pay19_up z lb k hi.hcl, pay20_up, pay21_up]
  rw [zeroRowF]
  exact (lastdlbF z q v dO lb S D k _ hi.hf).trans (congrArg row (funext fun x => zero_add _))

theorem stF_A (hi : InF m c t z q v dO lb S k) (ht : t.val % 132 = 0) (h0 : D k = fun _ _ _ => 0) :
    (outsAt0 m c t.val t.isLt).2.2.2.2.2.2.2.2.1 = up3 (gst leF z q dO lb D k) := by
  have hD := zeroStateF D k h0
  rw [outsAt0_A m c t ht ht]
  frame_open
  simp (disch := decide) only [↓ View.readCov_skip, ↓ View.readCov_cons_toLoadRect, ↓ View.readCov_fill]
  frame_out
  exact stF z q dO lb D k hi.hf hi.hcl hi.hq hi.hz hi.hlb hD hi.hd _

theorem dqF_B (hi : InF m c t z q v dO lb S k) (ht : ¬t.val % 132 = 0) :
    (outsAt0 m c t.val t.isLt).1 = up2 (gdq leF z v dO lb S k) := by
  rw [outsAt0_B m c t ht ht]
  frame_open
  simp (disch := decide) only [↓ View.readCov_skip, ↓ View.readCov_cons_toLoadRect, ↓ View.readCov_fill]
  frame_out
  rw [show _ = (up2 (adqe leF z v dO lb k)) from dqeF z v dO lb k hi.hf hi.hcl hi.hz hi.hv hi.hlb hi.hd]
  rw [show _ = (up2 (adqd dO S k)) from dqdF z dO lb S k hi.hf hi.hcl hi.hst hi.hd]
  simp only [hi.hz, hi.hlb]
  simp only [pay9_up z lb k hi.hf, pay11_up z lb k hi.hf, pay13_up z lb k hi.hf, pay6_up, pay7_up, pay8_up, pay12_up z lb k hi.hf hi.hcl, pay14_up z lb k hi.hcl, pay15_up, pay16_up, pay17_up, pay18_up, pay19_up z lb k hi.hcl, pay20_up, pay21_up]
  exact lastdqF z v dO lb S k

theorem dzF_B (hi : InF m c t z q v dO lb S k) (ht : ¬t.val % 132 = 0) (hD : (outsAt0 m c (t.val - 1) (Nat.lt_of_le_of_lt (Nat.sub_le _ _) t.isLt)).2.2.2.2.2.2.2.2.1 = up3 (D k)) :
    (outsAt0 m c t.val t.isLt).2.1 = up2 (gdz leF z q v dO lb S D k) := by
  rw [outsAt0_B m c t ht ht]
  frame_open
  simp (disch := decide) only [↓ View.readCov_skip, ↓ View.readCov_cons_toLoadRect, ↓ View.readCov_fill]
  frame_out
  try simp only [read_unread_whole]
  rw [show _ = (up2 (adqe leF z v dO lb k)) from dqeF z v dO lb k hi.hf hi.hcl hi.hz hi.hv hi.hlb hi.hd]
  rw [show _ = (up2 (adke leF z q v dO lb k)) from dkeF z q v dO lb k hi.hf hi.hcl hi.hq hi.hz hi.hv hi.hlb hi.hd]
  rw [show _ = (up2 (adqd dO S k)) from dqdF z dO lb S k hi.hf hi.hcl hi.hst hi.hd]
  rw [show _ = (up2 (adkd v D k)) from dkdF z v lb D k hi.hf hi.hcl hi.hv hD]
  rw [show _ = (row (adl S D k)) from dlF z lb S D k hi.hf hi.hcl hi.hst hD]
  simp only [hi.hz, hi.hlb, hi.hq]
  simp only [pay9_up z lb k hi.hf, pay11_up z lb k hi.hf, pay13_up z lb k hi.hf, pay6_up, pay7_up, pay8_up, pay12_up z lb k hi.hf hi.hcl, pay14_up z lb k hi.hcl, pay15_up, pay16_up, pay17_up, pay18_up, pay19_up z lb k hi.hcl, pay20_up, pay21_up]
  exact lastdzF z q v dO lb S D k hi.hf

theorem dvF_B (hi : InF m c t z q v dO lb S k) (ht : ¬t.val % 132 = 0) (hD : (outsAt0 m c (t.val - 1) (Nat.lt_of_le_of_lt (Nat.sub_le _ _) t.isLt)).2.2.2.2.2.2.2.2.1 = up3 (D k)) :
    (outsAt0 m c t.val t.isLt).2.2.1 = up2 (gdv leF z q dO lb D k) := by
  rw [outsAt0_B m c t ht ht]
  frame_open
  simp (disch := decide) only [↓ View.readCov_skip, ↓ View.readCov_cons_toLoadRect, ↓ View.readCov_fill]
  frame_out
  try simp only [read_unread_whole]
  exact dvF z q dO lb D k hi.hf hi.hcl hi.hq hi.hz hi.hlb hD hi.hd

theorem dlbF_B (hi : InF m c t z q v dO lb S k) (ht : ¬t.val % 132 = 0) (hD : (outsAt0 m c (t.val - 1) (Nat.lt_of_le_of_lt (Nat.sub_le _ _) t.isLt)).2.2.2.2.2.2.2.2.1 = up3 (D k)) {p : Fin 1024 → ℝ} (hp : (outsAt0 m c (t.val - 1) (Nat.lt_of_le_of_lt (Nat.sub_le _ _) t.isLt)).2.2.2.1 = row p) :
    (outsAt0 m c t.val t.isLt).2.2.2.1 = row fun x => p x + gdlb leF z q v dO lb S D k x := by
  rw [outsAt0_B m c t ht ht]
  frame_open
  simp (disch := decide) only [↓ View.readCov_skip, ↓ View.readCov_cons_toLoadRect, ↓ View.readCov_fill]
  frame_out
  try simp only [read_unread_whole]
  rw [show _ = (up2 (adqe leF z v dO lb k)) from dqeF z v dO lb k hi.hf hi.hcl hi.hz hi.hv hi.hlb hi.hd]
  rw [show _ = (up2 (adke leF z q v dO lb k)) from dkeF z q v dO lb k hi.hf hi.hcl hi.hq hi.hz hi.hv hi.hlb hi.hd]
  rw [show _ = (up2 (adqd dO S k)) from dqdF z dO lb S k hi.hf hi.hcl hi.hst hi.hd]
  rw [show _ = (up2 (adkd v D k)) from dkdF z v lb D k hi.hf hi.hcl hi.hv hD]
  rw [show _ = (row (adl S D k)) from dlF z lb S D k hi.hf hi.hcl hi.hst hD]
  simp only [hi.hz, hi.hlb, hi.hq]
  simp only [pay9_up z lb k hi.hf, pay11_up z lb k hi.hf, pay13_up z lb k hi.hf, pay6_up, pay7_up, pay8_up, pay12_up z lb k hi.hf hi.hcl, pay14_up z lb k hi.hcl, pay15_up, pay16_up, pay17_up, pay18_up, pay19_up z lb k hi.hcl, pay20_up, pay21_up]
  rw [hp]
  exact lastdlbF z q v dO lb S D k p hi.hf

theorem stF_B (hi : InF m c t z q v dO lb S k) (ht : ¬t.val % 132 = 0) (hD : (outsAt0 m c (t.val - 1) (Nat.lt_of_le_of_lt (Nat.sub_le _ _) t.isLt)).2.2.2.2.2.2.2.2.1 = up3 (D k)) :
    (outsAt0 m c t.val t.isLt).2.2.2.2.2.2.2.2.1 = up3 (gst leF z q dO lb D k) := by
  rw [outsAt0_B m c t ht ht]
  frame_open
  simp (disch := decide) only [↓ View.readCov_skip, ↓ View.readCov_cons_toLoadRect, ↓ View.readCov_fill]
  frame_out
  try simp only [read_unread_whole]
  exact stF z q dO lb D k hi.hf hi.hcl hi.hq hi.hz hi.hlb hD hi.hd _

end

end Cert.KernelIdeal.Step
-- ==== Proof.GridF.lean ====
/- The walk of the forward direction over the grid: the state it carries into each grid point is the gradient of the state after that
   point's chunk, and the sums of the lower bounds' gradients run over the chunks met so far. -/
module

public import proofs.«01_k».proof.Proof.PointF

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable {m : (ℓ : Loc nD τ sig) → Buf (Elt Ideal) ℓ} {c : Dev nD} {z q v dO : Fin 132 × Fin 64 → Fin 1024 → ℝ} {lb : Fin 1024 → ℝ}
variable {S : Fin 132 → Fin 8 → Fin 128 → Fin 128 → ℝ}

theorem DF_first : (Ds ordF leF z q dO lb) (ckF 0) = fun _ _ _ => 0 :=
  Ds_last _ _ _ _ _ _ _ fun c' => by rw [ordF_ck (by omega)]; exact ordF_le c'

theorem DF_next {n : ℕ} (h0 : n ≠ 0) (hn : n < 132) : (Ds ordF leF z q dO lb) (ckF n) = gst leF z q dO lb (Ds ordF leF z q dO lb) (ckF (n - 1)) :=
  Ds_step _ _ _ _ _ _ ordF_inj _ _ (by rw [ordF_ck hn, ordF_ck (by omega)]; omega)

theorem stateF (hin : ∀ t : Fin cfg0.N, InF m c t z q v dO lb S (ckF t.val)) : ∀ (n : ℕ) (hn : n < cfg0.N),
    (outsAt0 m c n hn).2.2.2.2.2.2.2.2.1 = up3 (gst leF z q dO lb (Ds ordF leF z q dO lb) (ckF n))
  | 0, hn => stF_A (Ds ordF leF z q dO lb) (t := ⟨0, hn⟩) (hin _) rfl DF_first
  | n + 1, hn => by
    have h132 : n + 1 < 132 := hn
    refine stF_B (Ds ordF leF z q dO lb) (t := ⟨n + 1, hn⟩) (hin _) (by show ¬(n + 1) % 132 = 0; omega) ?_
    refine (stateF hin n (Nat.lt_of_succ_lt hn)).trans ?_
    exact congrArg up3 (DF_next (by omega) h132).symm

theorem carriedF (hin : ∀ t : Fin cfg0.N, InF m c t z q v dO lb S (ckF t.val)) (t : Fin cfg0.N) (ht : ¬t.val % 132 = 0) :
    (outsAt0 m c (t.val - 1) (Nat.lt_of_le_of_lt (Nat.sub_le _ _) t.isLt)).2.2.2.2.2.2.2.2.1 = up3 ((Ds ordF leF z q dO lb) (ckF t.val)) := by
  rw [DF_next (by omega) t.isLt]
  exact stateF hin _ _

theorem dqF_at (hin : ∀ t : Fin cfg0.N, InF m c t z q v dO lb S (ckF t.val)) (t : Fin cfg0.N) :
    (outsAt0 m c t.val t.isLt).1 = up2 (gdq leF z v dO lb S (ckF t.val)) := by
  by_cases ht : t.val % 132 = 0
  · exact dqF_A  (hin t) ht
  · exact dqF_B  (hin t) ht

theorem dzF_at (hin : ∀ t : Fin cfg0.N, InF m c t z q v dO lb S (ckF t.val)) (t : Fin cfg0.N) :
    (outsAt0 m c t.val t.isLt).2.1 = up2 (gdz leF z q v dO lb S (Ds ordF leF z q dO lb) (ckF t.val)) := by
  by_cases ht : t.val % 132 = 0
  · exact dzF_A (Ds ordF leF z q dO lb) (hin t) ht (by rw [show t.val = 0 by have := t.isLt; have h : t.val < 132 := this; omega]; exact DF_first)
  · exact dzF_B (Ds ordF leF z q dO lb) (hin t) ht (carriedF hin t ht)

theorem dvF_at (hin : ∀ t : Fin cfg0.N, InF m c t z q v dO lb S (ckF t.val)) (t : Fin cfg0.N) :
    (outsAt0 m c t.val t.isLt).2.2.1 = up2 (gdv leF z q dO lb (Ds ordF leF z q dO lb) (ckF t.val)) := by
  by_cases ht : t.val % 132 = 0
  · exact dvF_A (Ds ordF leF z q dO lb) (hin t) ht (by rw [show t.val = 0 by have := t.isLt; have h : t.val < 132 := this; omega]; exact DF_first)
  · exact dvF_B (Ds ordF leF z q dO lb) (hin t) ht (carriedF hin t ht)

theorem dlbF_at (hin : ∀ t : Fin cfg0.N, InF m c t z q v dO lb S (ckF t.val)) : ∀ (n : ℕ) (hn : n < cfg0.N),
    (outsAt0 m c n hn).2.2.2.1 = row fun x => ∑ j ∈ Finset.range (n + 1), gdlb leF z q v dO lb S (Ds ordF leF z q dO lb) (ckF j) x
  | 0, hn => by
    refine (dlbF_A (Ds ordF leF z q dO lb) (t := ⟨0, hn⟩) (hin _) rfl DF_first).trans (congrArg row (funext fun x => ?_))
    rw [Finset.sum_range_one]
  | n + 1, hn => by
    have h132 : n + 1 < 132 := hn
    have ht : ¬(⟨n + 1, hn⟩ : Fin cfg0.N).val % 132 = 0 := by show ¬(n + 1) % 132 = 0; omega
    refine (dlbF_B (Ds ordF leF z q dO lb) (t := ⟨n + 1, hn⟩) (hin _) ht (carriedF hin _ ht) (dlbF_at hin n (Nat.lt_of_succ_lt hn))).trans
      (congrArg row (funext fun x => ?_))
    rw [Finset.sum_range_succ _ (n + 1)]

/-- The last grid point has met every chunk. -/
theorem dlbF_end (hin : ∀ t : Fin cfg0.N, InF m c t z q v dO lb S (ckF t.val)) (hn : 131 < cfg0.N) :
    (outsAt0 m c 131 hn).2.2.2.1 = row fun x => ∑ k, gdlb leF z q v dO lb S (Ds ordF leF z q dO lb) k x := by
  refine (dlbF_at hin 131 hn).trans (congrArg row (funext fun x => ?_))
  rw [Finset.sum_range]
  refine Fintype.sum_bijective (fun j : Fin 132 => ckF j.val) ((Finite.injective_iff_bijective).mp fun a b h => ?_) _ _ fun j => rfl
  have := congrArg ordF h
  simp only [ordF_ck a.isLt, ordF_ck b.isLt] at this
  exact Fin.ext (by have := a.isLt; have := b.isLt; omega)

end Cert.KernelIdeal.Step
-- ==== Proof.GatesR.lean ====
/- The arrays of the reverse direction that one grid point computes before it turns to the heads, at inputs that are real
   numbers: the gates, their running sums, and the queries and keys scaled by them. -/
module

public import proofs.«01_k».proof.Proof.IdealFrame
public import proofs.«01_k».proof.Proof.Up

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable (z q v : Fin 132 × Fin 64 → Fin 1024 → ℝ) (lb : Fin 1024 → ℝ) (c : Fin 132)

theorem pay198_up : k0_pay198 = mask leR := by
  funext i
  idx_vars i
  pointwise [k0_pay198, mask_ix]
  simp only [bit, leR]
  revert i0 i1
  decide +kernel

theorem pay199_up : k0_pay199 (F := Ideal) = up2 fun r s => if leR s r then 1 else 0 := by
  funext i
  idx_vars i
  pointwise [k0_pay199, pay198_up, up2_ix, mask_ix]
  by_cases h : leR i1 i0
  · simp only [bit, h, if_true]
    exact (show (((1#32).toInt : ℝ) : EReal) = ((1 : ℝ) : EReal) by simp)
  · simp only [bit, h, if_false]
    exact (show (((0#32).toInt : ℝ) : EReal) = ((0 : ℝ) : EReal) by simp)

theorem pay200_up : k0_pay200 (F := Ideal) (ch z c) = (ch (sg z) c) := by
  funext i
  idx_vars i
  pointwise [k0_pay200, up2_ix, ch_ix, row_ix]
  simp only [sg]
  rw [zero_sub, ← EReal.coe_neg, Ideal.exp_coe, ← EReal.coe_one, ← EReal.coe_add, Ideal.div_coe (by positivity), ← EReal.coe_mul, one_mul, one_div]

theorem pay201_up : k0_pay201 (F := Ideal) (ch z c) (row lb) = (ch (fg z lb) c) := by
  funext i
  idx_vars i
  pointwise [k0_pay201, pay200_up, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay202_up : k0_pay202 (F := Ideal) (ch z c) (row lb) = (ch (kg z lb) c) := by
  funext i
  idx_vars i
  pointwise [k0_pay202, pay201_up, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay203_up (hf : ∀ r x, 0 < fg z lb (c, r) x) : k0_pay203 (F := Ideal) (ch z c) (row lb) k0_pay199 = (up2 (Scan.cl leR (lg z lb) c)) := by
  funext i
  idx_vars i
  pointwise [k0_pay203, pay201_up, pay199_up, up2_ix, ch_ix, row_ix]
  simp only [Ideal.log_coe, not_le.mpr (hf _ _), ite_false, ← EReal.coe_mul, coe_sum, ← EReal.coe_zero, ← EReal.coe_add, zero_add]
  rfl

theorem pay204_up (hf : ∀ r x, 0 < fg z lb (c, r) x) : k0_pay204 (F := Ideal) (ch z c) (row lb) k0_pay199 = (row ((md leR (lg z lb)) c)) := by
  funext i
  idx_vars i
  pointwise [k0_pay204, pay203_up z lb c hf, up2_ix, ch_ix, row_ix]
  rfl

theorem pay205_up (hf : ∀ r x, 0 < fg z lb (c, r) x) : k0_pay205 (F := Ideal) (ch z c) (row lb) k0_pay199 = (row (Scan.tot (lg z lb) c)) := by
  funext i
  idx_vars i
  pointwise [k0_pay205, pay203_up z lb c hf, up2_ix, ch_ix, row_ix]
  simp only [Scan.cl, Scan.tot, leR]
  refine congrArg _ (Finset.sum_congr rfl fun r _ => ?_)
  rw [if_pos (by have := r.isLt; first | exact Nat.zero_le _ | exact Nat.le_of_lt_succ this), one_mul]

theorem pay206_up (hf : ∀ r x, 0 < fg z lb (c, r) x) (hc : ∀ r x, |Scan.cl leR (lg z lb) c r x - (md leR (lg z lb)) c x| ≤ 80) : k0_pay206 (F := Ideal) (ch z c) (row lb) k0_pay199 = (up2 (Scan.eq leR (lg z lb) (md leR (lg z lb)) c)) := by
  funext i
  idx_vars i
  pointwise [k0_pay206, pay203_up z lb c hf, pay204_up z lb c hf, up2_ix, ch_ix, row_ix]
  rw [eighty, neg_eighty, ← EReal.coe_sub, clip _ (hc _ _), Ideal.exp_coe]
  rfl

theorem pay207_up (hf : ∀ r x, 0 < fg z lb (c, r) x) (hc : ∀ r x, |Scan.cl leR (lg z lb) c r x - (md leR (lg z lb)) c x| ≤ 80) : k0_pay207 (F := Ideal) (ch z c) (row lb) k0_pay199 = (up2 (Scan.ek leR (lg z lb) (md leR (lg z lb)) c)) := by
  funext i
  idx_vars i
  pointwise [k0_pay207, pay203_up z lb c hf, pay204_up z lb c hf, up2_ix, ch_ix, row_ix]
  rw [eighty, neg_eighty, ← EReal.coe_sub, clip _ (by rw [abs_sub_comm]; exact hc _ _), Ideal.exp_coe]
  rfl

theorem pay208_up (hf : ∀ r x, 0 < fg z lb (c, r) x) : k0_pay208 (F := Ideal) (ch z c) (row lb) k0_pay199 = (up2 (Scan.ec leR (lg z lb) c)) := by
  funext i
  idx_vars i
  pointwise [k0_pay208, pay203_up z lb c hf, up2_ix, ch_ix, row_ix]
  rfl

theorem pay209_up (hf : ∀ r x, 0 < fg z lb (c, r) x) : k0_pay209 (F := Ideal) (ch z c) (row lb) k0_pay199 = (row (Scan.el (lg z lb) c)) := by
  funext i
  idx_vars i
  pointwise [k0_pay209, pay205_up z lb c hf, up2_ix, ch_ix, row_ix]
  rfl

theorem pay210_up (hf : ∀ r x, 0 < fg z lb (c, r) x) : k0_pay210 (F := Ideal) (ch z c) (row lb) k0_pay199 = (up2 (Scan.ekd leR (lg z lb) c)) := by
  funext i
  idx_vars i
  pointwise [k0_pay210, pay203_up z lb c hf, pay205_up z lb c hf, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay211_up (hf : ∀ r x, 0 < fg z lb (c, r) x) (hc : ∀ r x, |Scan.cl leR (lg z lb) c r x - (md leR (lg z lb)) c x| ≤ 80) : k0_pay211 (F := Ideal) (ch q c) (ch z c) (row lb) k0_pay199 = (up2 (Scan.qe leR q (lg z lb) (md leR (lg z lb)) c)) := by
  funext i
  idx_vars i
  pointwise [k0_pay211, pay206_up z lb c hf hc, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay212_up (hf : ∀ r x, 0 < fg z lb (c, r) x) (hc : ∀ r x, |Scan.cl leR (lg z lb) c r x - (md leR (lg z lb)) c x| ≤ 80) : k0_pay212 (F := Ideal) (ch z c) (row lb) k0_pay199 = (up2 (Scan.ke leR (kg z lb) (lg z lb) (md leR (lg z lb)) c)) := by
  funext i
  idx_vars i
  pointwise [k0_pay212, pay202_up, pay207_up z lb c hf hc, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay213_up (hf : ∀ r x, 0 < fg z lb (c, r) x) : k0_pay213 (F := Ideal) (ch q c) (ch z c) (row lb) k0_pay199 = (up2 (Scan.qd leR q (lg z lb) c)) := by
  funext i
  idx_vars i
  pointwise [k0_pay213, pay208_up z lb c hf, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay214_up (hf : ∀ r x, 0 < fg z lb (c, r) x) : k0_pay214 (F := Ideal) (ch z c) (row lb) k0_pay199 = (up2 (Scan.kd leR (kg z lb) (lg z lb) c)) := by
  funext i
  idx_vars i
  pointwise [k0_pay214, pay202_up, pay210_up z lb c hf, up2_ix, ch_ix, row_ix]
  simp only [zero_add, zero_sub, Ideal.exp_coe, ← EReal.coe_one, ← EReal.coe_zero, ← EReal.coe_add, ← EReal.coe_mul, ← EReal.coe_sub, ← EReal.coe_neg, coe_ite, coe_sum]
  rfl

theorem pay215_up (hf : ∀ r x, 0 < fg z lb (c, r) x) : k0_pay215 (F := Ideal) (ch q c) (ch z c) (row lb) k0_pay199 = (up2 (Scan.qd leR q (lg z lb) c)) := by
  funext i
  idx_vars i
  pointwise [k0_pay215, pay213_up z q lb c hf, up2_ix, ch_ix, row_ix]

theorem pay216_up (hf : ∀ r x, 0 < fg z lb (c, r) x) : k0_pay216 (F := Ideal) (ch z c) (row lb) k0_pay199 = (up2 (Scan.kd leR (kg z lb) (lg z lb) c)) := by
  funext i
  idx_vars i
  pointwise [k0_pay216, pay214_up z lb c hf, up2_ix, ch_ix, row_ix]

theorem pay217_up (g : Fin 64 → Fin 1024 → ℝ) : k0_pay217 (F := Ideal) (up2 g) = (up2 g) := by
  funext i
  idx_vars i
  pointwise [k0_pay217, up2_ix, ch_ix, row_ix]

theorem pay218_up (g : Fin 64 → Fin 1024 → ℝ) : k0_pay218 (F := Ideal) (up2 g) = (up2 fun _ _ => 0) := by
  funext i
  idx_vars i
  pointwise [k0_pay218, pay217_up, up2_ix, ch_ix, row_ix]
  rw [← EReal.coe_sub, sub_self]

theorem pay219_up (g : Fin 64 → Fin 1024 → ℝ) : k0_pay219 (F := Ideal) (up2 g) = (up2 g) := by
  funext i
  idx_vars i
  pointwise [k0_pay219, up2_ix, ch_ix, row_ix]

theorem pay220_up (g : Fin 64 → Fin 1024 → ℝ) : k0_pay220 (F := Ideal) (up2 g) = (up2 fun _ _ => 0) := by
  funext i
  idx_vars i
  pointwise [k0_pay220, pay219_up, up2_ix, ch_ix, row_ix]
  rw [← EReal.coe_sub, sub_self]

theorem pay221_up : k0_pay221 (F := Ideal) (ch v c) = (ch v c) := by
  funext i
  idx_vars i
  pointwise [k0_pay221, up2_ix, ch_ix, row_ix]

end Cert.KernelIdeal.Step
-- ==== Proof.HeadsR.lean ====
/- What one grid point of the reverse direction stores for the eight heads, at inputs that are real numbers. Each array is stored in
   eight pieces, one a head: the gradients of the scaled queries and keys within the chunk and across it, the gradient of the
   decay, the gradient of the values, and the gradient of the state before the chunk. -/
module

public import proofs.«01_k».proof.Proof.GatesR
public import Idealize.ShloMosaic.Lib.Pipeline.ReadBack

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable (z q v dO : Fin 132 × Fin 64 → Fin 1024 → ℝ) (lb : Fin 1024 → ℝ) (S D : Fin 132 → Fin 8 → Fin 128 → Fin 128 → ℝ) (c : Fin 132)

theorem dqeR (hf : ∀ r x, 0 < fg z lb (c, r) x) (hc : ∀ r x, |Scan.cl leR (lg z lb) c r x - md leR (lg z lb) c x| ≤ 80) {b : BitVec 1} {X1 : Vec Ideal S64x1024 .f32} (hX1 : X1 = ch z c) {X2 : Vec Ideal S64x1024 .f32} (hX2 : X2 = ch v c) {X3 : Vec Ideal S1x1024 .f32} (hX3 : X3 = row lb) {X5 : Vec Ideal S64x1024 .f32} (hX5 : k0_pay222 (F := Ideal) b X5 = ch dO c) :
    (View.whole cc0_scratch7).readCov (Val := Elt Ideal) [⟨Rect.unit ![0, 896] ![64, 128] inb_S64x1024_S64x128_0_896, k0_pay369 k0_pay198 (k0_pay221 X2) (k0_pay222 b X5) (k0_pay359 (k0_pay219 (k0_pay212 X1 X3 k0_pay199))) (k0_pay360 (k0_pay220 (k0_pay212 X1 X3 k0_pay199)))⟩, ⟨Rect.unit ![0, 768] ![64, 128] inb_S64x1024_S64x128_0_768, k0_pay350 k0_pay198 (k0_pay219 (k0_pay212 X1 X3 k0_pay199)) (k0_pay220 (k0_pay212 X1 X3 k0_pay199)) (k0_pay221 X2) (k0_pay222 b X5)⟩, ⟨Rect.unit ![0, 640] ![64, 128] inb_S64x1024_S64x128_0_640, k0_pay333 k0_pay198 (k0_pay219 (k0_pay212 X1 X3 k0_pay199)) (k0_pay220 (k0_pay212 X1 X3 k0_pay199)) (k0_pay221 X2) (k0_pay222 b X5)⟩, ⟨Rect.unit ![0, 512] ![64, 128] inb_S64x1024_S64x128_0_512, k0_pay316 (k0_pay315 k0_pay198 (k0_pay219 (k0_pay212 X1 X3 k0_pay199)) (k0_pay220 (k0_pay212 X1 X3 k0_pay199)) (k0_pay221 X2) (k0_pay222 b X5))⟩, ⟨Rect.unit ![0, 384] ![64, 128] inb_S64x1024_S64x128_0_384, k0_pay297 (k0_pay295 k0_pay198 (k0_pay219 (k0_pay212 X1 X3 k0_pay199)) (k0_pay221 X2) (k0_pay222 b X5)) (k0_pay296 k0_pay198 (k0_pay219 (k0_pay212 X1 X3 k0_pay199)) (k0_pay220 (k0_pay212 X1 X3 k0_pay199)) (k0_pay221 X2) (k0_pay222 b X5))⟩, ⟨Rect.unit ![0, 256] ![64, 128] inb_S64x1024_S64x128_0_256, k0_pay277 (k0_pay266 (k0_pay219 (k0_pay212 X1 X3 k0_pay199))) (k0_pay274 k0_pay198 (k0_pay221 X2) (k0_pay222 b X5)) (k0_pay275 k0_pay198 (k0_pay219 (k0_pay212 X1 X3 k0_pay199)) (k0_pay221 X2) (k0_pay222 b X5)) (k0_pay276 k0_pay198 (k0_pay220 (k0_pay212 X1 X3 k0_pay199)) (k0_pay221 X2) (k0_pay222 b X5))⟩, ⟨Rect.unit ![0, 128] ![64, 128] inb_S64x1024_S64x128_0_128, k0_pay256 (k0_pay246 (k0_pay219 (k0_pay212 X1 X3 k0_pay199))) (k0_pay247 (k0_pay220 (k0_pay212 X1 X3 k0_pay199))) (k0_pay254 k0_pay198 (k0_pay221 X2) (k0_pay222 b X5)) (k0_pay255 k0_pay198 (k0_pay221 X2) (k0_pay222 b X5)) (constant S64x128 FTy.f32 0#32)⟩, ⟨Rect.unit ![0, 0] ![64, 128] inb_S64x1024_S64x128_0_0, k0_pay236 (k0_pay225 (k0_pay212 X1 X3 k0_pay199)) (k0_pay226 (k0_pay212 X1 X3 k0_pay199)) (k0_pay232 X2 k0_pay198 b X5) (k0_pay233 X2 k0_pay198 b X5) (k0_pay234 X2 k0_pay198 b X5)⟩] (Rect.unit ![0, 0] ![64, 1024] inb_S64x1024_S64x1024_0_0).toLoadRect = up2 fun r x => (fun h r k => Scan.dqe leR (hs (kg z lb) h) (hs (lg z lb) h) (hs v h) (hs dO h) (hm leR (lg z lb) h) c r k) (hd x) r (ln x) := by
  subst hX1 hX2 hX3
  refine readCov_pieces (S := S64x1024) (e := .f32) _ _ _ (by decide) (up2 fun r x => (fun h r k => Scan.dqe leR (hs (kg z lb) h) (hs (lg z lb) h) (hs v h) (hs dO h) (hm leR (lg z lb) h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dqe leR (hs (kg z lb) h) (hs (lg z lb) h) (hs v h) (hs dO h) (hm leR (lg z lb) h) c r k) 7 (by rfl) _ x0 x1).symm
    simp only [k0_pay359, k0_pay360, k0_pay366, k0_pay367, k0_pay368, k0_pay369]
  case' p1 =>
    intro x
    idx_vars x
    refine Eq.trans ?_ (up2_emb (fun h r k => Scan.dqe leR (hs (kg z lb) h) (hs (lg z lb) h) (hs v h) (hs dO h) (hm leR (lg z lb) h) c r k) 6 (by rfl) _ x0 x1).symm
    simp only [k0_pay341, k0_pay347, k0_pay348, k0_pay349, k0_pay350]
  case' p2 =>
    intro x
    idx_vars x
    refine Eq.trans ?_ (up2_emb (fun h r k => Scan.dqe leR (hs (kg z lb) h) (hs (lg z lb) h) (hs v h) (hs dO h) (hm leR (lg z lb) h) c r k) 5 (by rfl) _ x0 x1).symm
    simp only [k0_pay324, k0_pay330, k0_pay331, k0_pay332, k0_pay333]
  case' p3 =>
    intro x
    idx_vars x
    refine Eq.trans ?_ (up2_emb (fun h r k => Scan.dqe leR (hs (kg z lb) h) (hs (lg z lb) h) (hs v h) (hs dO h) (hm leR (lg z lb) h) c r k) 4 (by rfl) _ x0 x1).symm
    simp only [k0_pay306, k0_pay312, k0_pay313, k0_pay314, k0_pay315, k0_pay316]
  case' p4 =>
    intro x
    idx_vars x
    refine Eq.trans ?_ (up2_emb (fun h r k => Scan.dqe leR (hs (kg z lb) h) (hs (lg z lb) h) (hs v h) (hs dO h) (hm leR (lg z lb) h) c r k) 3 (by rfl) _ x0 x1).symm
    simp only [k0_pay286, k0_pay292, k0_pay293, k0_pay294, k0_pay295, k0_pay296, k0_pay297]
  case' p5 =>
    intro x
    idx_vars x
    refine Eq.trans ?_ (up2_emb (fun h r k => Scan.dqe leR (hs (kg z lb) h) (hs (lg z lb) h) (hs v h) (hs dO h) (hm leR (lg z lb) h) c r k) 2 (by rfl) _ x0 x1).symm
    simp only [k0_pay266, k0_pay272, k0_pay273, k0_pay274, k0_pay275, k0_pay276, k0_pay277]
  case' p6 =>
    intro x
    idx_vars x
    refine Eq.trans ?_ (up2_emb (fun h r k => Scan.dqe leR (hs (kg z lb) h) (hs (lg z lb) h) (hs v h) (hs dO h) (hm leR (lg z lb) h) c r k) 1 (by rfl) _ x0 x1).symm
    simp only [k0_pay246, k0_pay247, k0_pay253, k0_pay254, k0_pay255, k0_pay256]
  case' p7 =>
    intro x
    idx_vars x
    refine Eq.trans ?_ (up2_emb (fun h r k => Scan.dqe leR (hs (kg z lb) h) (hs (lg z lb) h) (hs v h) (hs dO h) (hm leR (lg z lb) h) c r k) 0 (by rfl) _ x0 x1).symm
    simp only [k0_pay225, k0_pay226, k0_pay232, k0_pay233, k0_pay234, k0_pay235, k0_pay236]
  all_goals
    simp only [pay198_up, pay212_up z lb c hf hc, pay219_up, pay220_up, pay221_up, hX5]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dqe, Scan.da, Scan.ke, mul_zero, sub_self, zero_mul, Finset.sum_const_zero, ite_self, add_zero, ite_mul, mul_ite]
    first | rfl | (simp only [col_zero]; rfl)

theorem dkeR (hf : ∀ r x, 0 < fg z lb (c, r) x) (hc : ∀ r x, |Scan.cl leR (lg z lb) c r x - md leR (lg z lb) c x| ≤ 80) {b : BitVec 1} {X0 : Vec Ideal S64x1024 .f32} (hX0 : X0 = ch q c) {X1 : Vec Ideal S64x1024 .f32} (hX1 : X1 = ch z c) {X2 : Vec Ideal S64x1024 .f32} (hX2 : X2 = ch v c) {X3 : Vec Ideal S1x1024 .f32} (hX3 : X3 = row lb) {X5 : Vec Ideal S64x1024 .f32} (hX5 : k0_pay222 (F := Ideal) b X5 = ch dO c) :
    (View.whole cc0_scratch8).readCov (Val := Elt Ideal) [⟨Rect.unit ![0, 896] ![64, 128] inb_S64x1024_S64x128_0_896, k0_pay372 (k0_pay357 (k0_pay217 (k0_pay211 X0 X1 X3 k0_pay199))) (k0_pay368 k0_pay198 (k0_pay221 X2) (k0_pay222 b X5)) (k0_pay370 k0_pay198 (k0_pay221 X2) (k0_pay222 b X5) (k0_pay357 (k0_pay217 (k0_pay211 X0 X1 X3 k0_pay199)))) (k0_pay371 k0_pay198 (k0_pay221 X2) (k0_pay222 b X5) (k0_pay358 (k0_pay218 (k0_pay211 X0 X1 X3 k0_pay199)))) (constant S64x128 FTy.f32 0#32)⟩, ⟨Rect.unit ![0, 768] ![64, 128] inb_S64x1024_S64x128_0_768, k0_pay352 (k0_pay339 (k0_pay217 (k0_pay211 X0 X1 X3 k0_pay199))) (k0_pay340 (k0_pay218 (k0_pay211 X0 X1 X3 k0_pay199))) (k0_pay348 k0_pay198 (k0_pay221 X2) (k0_pay222 b X5)) (k0_pay349 k0_pay198 (k0_pay221 X2) (k0_pay222 b X5)) (k0_pay351 k0_pay198 (k0_pay221 X2) (k0_pay222 b X5) (k0_pay339 (k0_pay217 (k0_pay211 X0 X1 X3 k0_pay199))))⟩, ⟨Rect.unit ![0, 640] ![64, 128] inb_S64x1024_S64x128_0_640, k0_pay334 (k0_pay322 (k0_pay217 (k0_pay211 X0 X1 X3 k0_pay199))) (k0_pay323 (k0_pay218 (k0_pay211 X0 X1 X3 k0_pay199))) (k0_pay331 k0_pay198 (k0_pay221 X2) (k0_pay222 b X5)) (k0_pay332 k0_pay198 (k0_pay221 X2) (k0_pay222 b X5))⟩, ⟨Rect.unit ![0, 512] ![64, 128] inb_S64x1024_S64x128_0_512, k0_pay317 (k0_pay304 (k0_pay217 (k0_pay211 X0 X1 X3 k0_pay199))) (k0_pay305 (k0_pay218 (k0_pay211 X0 X1 X3 k0_pay199))) (k0_pay313 k0_pay198 (k0_pay221 X2) (k0_pay222 b X5)) (k0_pay314 k0_pay198 (k0_pay221 X2) (k0_pay222 b X5))⟩, ⟨Rect.unit ![0, 384] ![64, 128] inb_S64x1024_S64x128_0_384, k0_pay298 (k0_pay284 (k0_pay217 (k0_pay211 X0 X1 X3 k0_pay199))) (k0_pay285 (k0_pay218 (k0_pay211 X0 X1 X3 k0_pay199))) (k0_pay293 k0_pay198 (k0_pay221 X2) (k0_pay222 b X5)) (k0_pay294 k0_pay198 (k0_pay221 X2) (k0_pay222 b X5))⟩, ⟨Rect.unit ![0, 256] ![64, 128] inb_S64x1024_S64x128_0_256, k0_pay278 (k0_pay264 (k0_pay217 (k0_pay211 X0 X1 X3 k0_pay199))) (k0_pay265 (k0_pay218 (k0_pay211 X0 X1 X3 k0_pay199))) (k0_pay273 k0_pay198 (k0_pay221 X2) (k0_pay222 b X5)) (k0_pay274 k0_pay198 (k0_pay221 X2) (k0_pay222 b X5))⟩, ⟨Rect.unit ![0, 128] ![64, 128] inb_S64x1024_S64x128_0_128, k0_pay257 (k0_pay244 (k0_pay217 (k0_pay211 X0 X1 X3 k0_pay199))) (k0_pay245 (k0_pay218 (k0_pay211 X0 X1 X3 k0_pay199))) (k0_pay254 k0_pay198 (k0_pay221 X2) (k0_pay222 b X5)) (k0_pay255 k0_pay198 (k0_pay221 X2) (k0_pay222 b X5))⟩, ⟨Rect.unit ![0, 0] ![64, 128] inb_S64x1024_S64x128_0_0, k0_pay237 (k0_pay223 (k0_pay211 X0 X1 X3 k0_pay199)) (k0_pay224 (k0_pay211 X0 X1 X3 k0_pay199)) (k0_pay232 X2 k0_pay198 b X5) (k0_pay233 X2 k0_pay198 b X5) (k0_pay234 X2 k0_pay198 b X5)⟩] (Rect.unit ![0, 0] ![64, 1024] inb_S64x1024_S64x1024_0_0).toLoadRect = up2 fun r x => (fun h r k => Scan.dke leR (hs q h) (hs (lg z lb) h) (hs v h) (hs dO h) (hm leR (lg z lb) h) c r k) (hd x) r (ln x) := by
  subst hX0 hX1 hX2 hX3
  refine readCov_pieces (S := S64x1024) (e := .f32) _ _ _ (by decide) (up2 fun r x => (fun h r k => Scan.dke leR (hs q h) (hs (lg z lb) h) (hs v h) (hs dO h) (hm leR (lg z lb) h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dke leR (hs q h) (hs (lg z lb) h) (hs v h) (hs dO h) (hm leR (lg z lb) h) c r k) 7 (by rfl) _ x0 x1).symm
    simp only [k0_pay357, k0_pay358, k0_pay366, k0_pay367, k0_pay368, k0_pay370, k0_pay371, k0_pay372]
  case' p1 =>
    intro x
    idx_vars x
    refine Eq.trans ?_ (up2_emb (fun h r k => Scan.dke leR (hs q h) (hs (lg z lb) h) (hs v h) (hs dO h) (hm leR (lg z lb) h) c r k) 6 (by rfl) _ x0 x1).symm
    simp only [k0_pay339, k0_pay340, k0_pay347, k0_pay348, k0_pay349, k0_pay351, k0_pay352]
  case' p2 =>
    intro x
    idx_vars x
    refine Eq.trans ?_ (up2_emb (fun h r k => Scan.dke leR (hs q h) (hs (lg z lb) h) (hs v h) (hs dO h) (hm leR (lg z lb) h) c r k) 5 (by rfl) _ x0 x1).symm
    simp only [k0_pay322, k0_pay323, k0_pay330, k0_pay331, k0_pay332, k0_pay334]
  case' p3 =>
    intro x
    idx_vars x
    refine Eq.trans ?_ (up2_emb (fun h r k => Scan.dke leR (hs q h) (hs (lg z lb) h) (hs v h) (hs dO h) (hm leR (lg z lb) h) c r k) 4 (by rfl) _ x0 x1).symm
    simp only [k0_pay304, k0_pay305, k0_pay312, k0_pay313, k0_pay314, k0_pay317]
  case' p4 =>
    intro x
    idx_vars x
    refine Eq.trans ?_ (up2_emb (fun h r k => Scan.dke leR (hs q h) (hs (lg z lb) h) (hs v h) (hs dO h) (hm leR (lg z lb) h) c r k) 3 (by rfl) _ x0 x1).symm
    simp only [k0_pay284, k0_pay285, k0_pay292, k0_pay293, k0_pay294, k0_pay298]
  case' p5 =>
    intro x
    idx_vars x
    refine Eq.trans ?_ (up2_emb (fun h r k => Scan.dke leR (hs q h) (hs (lg z lb) h) (hs v h) (hs dO h) (hm leR (lg z lb) h) c r k) 2 (by rfl) _ x0 x1).symm
    simp only [k0_pay264, k0_pay265, k0_pay272, k0_pay273, k0_pay274, k0_pay278]
  case' p6 =>
    intro x
    idx_vars x
    refine Eq.trans ?_ (up2_emb (fun h r k => Scan.dke leR (hs q h) (hs (lg z lb) h) (hs v h) (hs dO h) (hm leR (lg z lb) h) c r k) 1 (by rfl) _ x0 x1).symm
    simp only [k0_pay244, k0_pay245, k0_pay253, k0_pay254, k0_pay255, k0_pay257]
  case' p7 =>
    intro x
    idx_vars x
    refine Eq.trans ?_ (up2_emb (fun h r k => Scan.dke leR (hs q h) (hs (lg z lb) h) (hs v h) (hs dO h) (hm leR (lg z lb) h) c r k) 0 (by rfl) _ x0 x1).symm
    simp only [k0_pay223, k0_pay224, k0_pay232, k0_pay233, k0_pay234, k0_pay235, k0_pay237]
  all_goals
    simp only [pay198_up, pay211_up z q lb c hf hc, pay217_up, pay218_up, pay221_up, hX5]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dke, Scan.da, Scan.qe, mul_zero, sub_self, zero_mul, Finset.sum_const_zero, ite_self, add_zero, ite_mul, mul_ite]
    first | rfl | (simp only [col_zero]; rfl)

theorem dqdR (hf : ∀ r x, 0 < fg z lb (c, r) x) (hc : ∀ r x, |Scan.cl leR (lg z lb) c r x - md leR (lg z lb) c x| ≤ 80) {b : BitVec 1} {X4 : Vec Ideal S1x8x128x128 .f32} (hX4 : X4 = up4 (S c)) {X5 : Vec Ideal S64x1024 .f32} (hX5 : k0_pay222 (F := Ideal) b X5 = ch dO c) :
    (View.whole cc0_scratch9).readCov (Val := Elt Ideal) [⟨Rect.unit ![0, 896] ![64, 128] inb_S64x1024_S64x128_0_896, k0_pay373 (k0_pay222 b X5) (k0_pay363 (View.ld X4 (Rect.unit ![0, 7, 0, 0] ![1, 1, 128, 128] inb_S1x8x128x128_S1x1x128x128_0_7_0_0)))⟩, ⟨Rect.unit ![0, 768] ![64, 128] inb_S64x1024_S64x128_0_768, k0_pay353 (k0_pay222 b X5) (k0_pay344 (View.ld X4 (Rect.unit ![0, 6, 0, 0] ![1, 1, 128, 128] inb_S1x8x128x128_S1x1x128x128_0_6_0_0)))⟩, ⟨Rect.unit ![0, 640] ![64, 128] inb_S64x1024_S64x128_0_640, k0_pay335 (k0_pay222 b X5) (k0_pay327 (View.ld X4 (Rect.unit ![0, 5, 0, 0] ![1, 1, 128, 128] inb_S1x8x128x128_S1x1x128x128_0_5_0_0)))⟩, ⟨Rect.unit ![0, 512] ![64, 128] inb_S64x1024_S64x128_0_512, k0_pay318 (k0_pay222 b X5) (k0_pay309 (View.ld X4 (Rect.unit ![0, 4, 0, 0] ![1, 1, 128, 128] inb_S1x8x128x128_S1x1x128x128_0_4_0_0)))⟩, ⟨Rect.unit ![0, 384] ![64, 128] inb_S64x1024_S64x128_0_384, k0_pay299 (k0_pay222 b X5) (k0_pay289 (View.ld X4 (Rect.unit ![0, 3, 0, 0] ![1, 1, 128, 128] inb_S1x8x128x128_S1x1x128x128_0_3_0_0)))⟩, ⟨Rect.unit ![0, 256] ![64, 128] inb_S64x1024_S64x128_0_256, k0_pay279 (k0_pay222 b X5) (k0_pay269 (View.ld X4 (Rect.unit ![0, 2, 0, 0] ![1, 1, 128, 128] inb_S1x8x128x128_S1x1x128x128_0_2_0_0)))⟩, ⟨Rect.unit ![0, 128] ![64, 128] inb_S64x1024_S64x128_0_128, k0_pay258 (k0_pay222 b X5) (k0_pay250 (View.ld X4 (Rect.unit ![0, 1, 0, 0] ![1, 1, 128, 128] inb_S1x8x128x128_S1x1x128x128_0_1_0_0)))⟩, ⟨Rect.unit ![0, 0] ![64, 128] inb_S64x1024_S64x128_0_0, k0_pay238 (k0_pay222 b X5) (k0_pay229 (View.ld X4 (Rect.unit ![0, 0, 0, 0] ![1, 1, 128, 128] inb_S1x8x128x128_S1x1x128x128_0_0_0_0)))⟩] (Rect.unit ![0, 0] ![64, 1024] inb_S64x1024_S64x1024_0_0).toLoadRect = up2 fun r x => (fun h r k => Scan.dqd (hs dO h) (st S h) c r k) (hd x) r (ln x) := by
  subst hX4
  refine readCov_pieces (S := S64x1024) (e := .f32) _ _ _ (by decide) (up2 fun r x => (fun h r k => Scan.dqd (hs dO h) (st S h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dqd (hs dO h) (st S h) c r k) 7 (by rfl) _ x0 x1).symm
    simp only [k0_pay361, k0_pay363, k0_pay373]
  case' p1 =>
    intro x
    idx_vars x
    refine Eq.trans ?_ (up2_emb (fun h r k => Scan.dqd (hs dO h) (st S h) c r k) 6 (by rfl) _ x0 x1).symm
    simp only [k0_pay342, k0_pay344, k0_pay353]
  case' p2 =>
    intro x
    idx_vars x
    refine Eq.trans ?_ (up2_emb (fun h r k => Scan.dqd (hs dO h) (st S h) c r k) 5 (by rfl) _ x0 x1).symm
    simp only [k0_pay325, k0_pay327, k0_pay335]
  case' p3 =>
    intro x
    idx_vars x
    refine Eq.trans ?_ (up2_emb (fun h r k => Scan.dqd (hs dO h) (st S h) c r k) 4 (by rfl) _ x0 x1).symm
    simp only [k0_pay307, k0_pay309, k0_pay318]
  case' p4 =>
    intro x
    idx_vars x
    refine Eq.trans ?_ (up2_emb (fun h r k => Scan.dqd (hs dO h) (st S h) c r k) 3 (by rfl) _ x0 x1).symm
    simp only [k0_pay287, k0_pay289, k0_pay299]
  case' p5 =>
    intro x
    idx_vars x
    refine Eq.trans ?_ (up2_emb (fun h r k => Scan.dqd (hs dO h) (st S h) c r k) 2 (by rfl) _ x0 x1).symm
    simp only [k0_pay267, k0_pay269, k0_pay279]
  case' p6 =>
    intro x
    idx_vars x
    refine Eq.trans ?_ (up2_emb (fun h r k => Scan.dqd (hs dO h) (st S h) c r k) 1 (by rfl) _ x0 x1).symm
    simp only [k0_pay248, k0_pay250, k0_pay258]
  case' p7 =>
    intro x
    idx_vars x
    refine Eq.trans ?_ (up2_emb (fun h r k => Scan.dqd (hs dO h) (st S h) c r k) 0 (by rfl) _ x0 x1).symm
    simp only [k0_pay227, k0_pay229, k0_pay238]
  all_goals
    simp only [hX5]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dqd, mul_zero, sub_self, zero_mul, Finset.sum_const_zero, ite_self, add_zero, ite_mul, mul_ite]
    first | rfl | (simp only [col_zero]; rfl)

theorem dkdR (hf : ∀ r x, 0 < fg z lb (c, r) x) (hc : ∀ r x, |Scan.cl leR (lg z lb) c r x - md leR (lg z lb) c x| ≤ 80) {X2 : Vec Ideal S64x1024 .f32} (hX2 : X2 = ch v c) {XD : Vec Ideal S8x128x128 .f32} (hXD : XD = up3 (D c)) :
    (View.whole cc0_scratch10).readCov (Val := Elt Ideal) [⟨Rect.unit ![0, 896] ![64, 128] inb_S64x1024_S64x128_0_896, k0_pay374 (k0_pay221 X2) (k0_pay364 (View.ld XD (Rect.unit ![7, 0, 0] ![1, 128, 128] inb_S8x128x128_S1x128x128_7_0_0)))⟩, ⟨Rect.unit ![0, 768] ![64, 128] inb_S64x1024_S64x128_0_768, k0_pay354 (k0_pay221 X2) (k0_pay345 (View.ld XD (Rect.unit ![6, 0, 0] ![1, 128, 128] inb_S8x128x128_S1x128x128_6_0_0)))⟩, ⟨Rect.unit ![0, 640] ![64, 128] inb_S64x1024_S64x128_0_640, k0_pay336 (k0_pay221 X2) (k0_pay328 (View.ld XD (Rect.unit ![5, 0, 0] ![1, 128, 128] inb_S8x128x128_S1x128x128_5_0_0)))⟩, ⟨Rect.unit ![0, 512] ![64, 128] inb_S64x1024_S64x128_0_512, k0_pay319 (k0_pay221 X2) (k0_pay310 (View.ld XD (Rect.unit ![4, 0, 0] ![1, 128, 128] inb_S8x128x128_S1x128x128_4_0_0)))⟩, ⟨Rect.unit ![0, 384] ![64, 128] inb_S64x1024_S64x128_0_384, k0_pay300 (k0_pay221 X2) (k0_pay290 (View.ld XD (Rect.unit ![3, 0, 0] ![1, 128, 128] inb_S8x128x128_S1x128x128_3_0_0)))⟩, ⟨Rect.unit ![0, 256] ![64, 128] inb_S64x1024_S64x128_0_256, k0_pay280 (k0_pay221 X2) (k0_pay270 (View.ld XD (Rect.unit ![2, 0, 0] ![1, 128, 128] inb_S8x128x128_S1x128x128_2_0_0)))⟩, ⟨Rect.unit ![0, 128] ![64, 128] inb_S64x1024_S64x128_0_128, k0_pay259 (k0_pay221 X2) (k0_pay251 (View.ld XD (Rect.unit ![1, 0, 0] ![1, 128, 128] inb_S8x128x128_S1x128x128_1_0_0)))⟩, ⟨Rect.unit ![0, 0] ![64, 128] inb_S64x1024_S64x128_0_0, k0_pay239 (k0_pay221 X2) (k0_pay230 (View.ld XD (Rect.unit ![0, 0, 0] ![1, 128, 128] inb_S8x128x128_S1x128x128_0_0_0)))⟩] (Rect.unit ![0, 0] ![64, 1024] inb_S64x1024_S64x1024_0_0).toLoadRect = up2 fun r x => (fun h r k => Scan.dkd (hs v h) (st D h) c r k) (hd x) r (ln x) := by
  subst hX2 hXD
  refine readCov_pieces (S := S64x1024) (e := .f32) _ _ _ (by decide) (up2 fun r x => (fun h r k => Scan.dkd (hs v h) (st D h) c r k) (hd x) r (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.dkd (hs v h) (st D h) c r k) 7 (by rfl) _ x0 x1).symm
    simp only [k0_pay362, k0_pay364, k0_pay374]
  case' p1 =>
    intro x
    idx_vars x
    refine Eq.trans ?_ (up2_emb (fun h r k => Scan.dkd (hs v h) (st D h) c r k) 6 (by rfl) _ x0 x1).symm
    simp only [k0_pay343, k0_pay345, k0_pay354]
  case' p2 =>
    intro x
    idx_vars x
    refine Eq.trans ?_ (up2_emb (fun h r k => Scan.dkd (hs v h) (st D h) c r k) 5 (by rfl) _ x0 x1).symm
    simp only [k0_pay326, k0_pay328, k0_pay336]
  case' p3 =>
    intro x
    idx_vars x
    refine Eq.trans ?_ (up2_emb (fun h r k => Scan.dkd (hs v h) (st D h) c r k) 4 (by rfl) _ x0 x1).symm
    simp only [k0_pay308, k0_pay310, k0_pay319]
  case' p4 =>
    intro x
    idx_vars x
    refine Eq.trans ?_ (up2_emb (fun h r k => Scan.dkd (hs v h) (st D h) c r k) 3 (by rfl) _ x0 x1).symm
    simp only [k0_pay288, k0_pay290, k0_pay300]
  case' p5 =>
    intro x
    idx_vars x
    refine Eq.trans ?_ (up2_emb (fun h r k => Scan.dkd (hs v h) (st D h) c r k) 2 (by rfl) _ x0 x1).symm
    simp only [k0_pay268, k0_pay270, k0_pay280]
  case' p6 =>
    intro x
    idx_vars x
    refine Eq.trans ?_ (up2_emb (fun h r k => Scan.dkd (hs v h) (st D h) c r k) 1 (by rfl) _ x0 x1).symm
    simp only [k0_pay249, k0_pay251, k0_pay259]
  case' p7 =>
    intro x
    idx_vars x
    refine Eq.trans ?_ (up2_emb (fun h r k => Scan.dkd (hs v h) (st D h) c r k) 0 (by rfl) _ x0 x1).symm
    simp only [k0_pay228, k0_pay230, k0_pay239]
  all_goals
    simp only [pay221_up]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dkd, mul_zero, sub_self, zero_mul, Finset.sum_const_zero, ite_self, add_zero, ite_mul, mul_ite]
    first | rfl | (simp only [col_zero]; rfl)

theorem dlR (hf : ∀ r x, 0 < fg z lb (c, r) x) (hc : ∀ r x, |Scan.cl leR (lg z lb) c r x - md leR (lg z lb) c x| ≤ 80) {X4 : Vec Ideal S1x8x128x128 .f32} (hX4 : X4 = up4 (S c)) {XD : Vec Ideal S8x128x128 .f32} (hXD : XD = up3 (D c)) :
    (View.whole cc0_scratch11).readCov (Val := Elt Ideal) [⟨Rect.unit ![0, 896] ![1, 128] inb_S1x1024_S1x128_0_896, k0_pay375 (k0_pay361 (View.ld X4 (Rect.unit ![0, 7, 0, 0] ![1, 1, 128, 128] inb_S1x8x128x128_S1x1x128x128_0_7_0_0))) (k0_pay362 (View.ld XD (Rect.unit ![7, 0, 0] ![1, 128, 128] inb_S8x128x128_S1x128x128_7_0_0)))⟩, ⟨Rect.unit ![0, 768] ![1, 128] inb_S1x1024_S1x128_0_768, k0_pay355 (k0_pay342 (View.ld X4 (Rect.unit ![0, 6, 0, 0] ![1, 1, 128, 128] inb_S1x8x128x128_S1x1x128x128_0_6_0_0))) (k0_pay343 (View.ld XD (Rect.unit ![6, 0, 0] ![1, 128, 128] inb_S8x128x128_S1x128x128_6_0_0)))⟩, ⟨Rect.unit ![0, 640] ![1, 128] inb_S1x1024_S1x128_0_640, k0_pay337 (k0_pay325 (View.ld X4 (Rect.unit ![0, 5, 0, 0] ![1, 1, 128, 128] inb_S1x8x128x128_S1x1x128x128_0_5_0_0))) (k0_pay326 (View.ld XD (Rect.unit ![5, 0, 0] ![1, 128, 128] inb_S8x128x128_S1x128x128_5_0_0)))⟩, ⟨Rect.unit ![0, 512] ![1, 128] inb_S1x1024_S1x128_0_512, k0_pay320 (k0_pay307 (View.ld X4 (Rect.unit ![0, 4, 0, 0] ![1, 1, 128, 128] inb_S1x8x128x128_S1x1x128x128_0_4_0_0))) (k0_pay308 (View.ld XD (Rect.unit ![4, 0, 0] ![1, 128, 128] inb_S8x128x128_S1x128x128_4_0_0)))⟩, ⟨Rect.unit ![0, 384] ![1, 128] inb_S1x1024_S1x128_0_384, k0_pay301 (k0_pay287 (View.ld X4 (Rect.unit ![0, 3, 0, 0] ![1, 1, 128, 128] inb_S1x8x128x128_S1x1x128x128_0_3_0_0))) (k0_pay288 (View.ld XD (Rect.unit ![3, 0, 0] ![1, 128, 128] inb_S8x128x128_S1x128x128_3_0_0)))⟩, ⟨Rect.unit ![0, 256] ![1, 128] inb_S1x1024_S1x128_0_256, k0_pay281 (k0_pay267 (View.ld X4 (Rect.unit ![0, 2, 0, 0] ![1, 1, 128, 128] inb_S1x8x128x128_S1x1x128x128_0_2_0_0))) (k0_pay268 (View.ld XD (Rect.unit ![2, 0, 0] ![1, 128, 128] inb_S8x128x128_S1x128x128_2_0_0)))⟩, ⟨Rect.unit ![0, 128] ![1, 128] inb_S1x1024_S1x128_0_128, k0_pay260 (k0_pay248 (View.ld X4 (Rect.unit ![0, 1, 0, 0] ![1, 1, 128, 128] inb_S1x8x128x128_S1x1x128x128_0_1_0_0))) (k0_pay249 (View.ld XD (Rect.unit ![1, 0, 0] ![1, 128, 128] inb_S8x128x128_S1x128x128_1_0_0)))⟩, ⟨Rect.unit ![0, 0] ![1, 128] inb_S1x1024_S1x128_0_0, k0_pay240 (k0_pay227 (View.ld X4 (Rect.unit ![0, 0, 0, 0] ![1, 1, 128, 128] inb_S1x8x128x128_S1x1x128x128_0_0_0_0))) (k0_pay228 (View.ld XD (Rect.unit ![0, 0, 0] ![1, 128, 128] inb_S8x128x128_S1x128x128_0_0_0)))⟩] (Rect.unit ![0, 0] ![1, 1024] inb_S1x1024_S1x1024_0_0).toLoadRect = row fun x => (fun h k => Scan.dl (st S h) (st D h) c k) (hd x) (ln x) := by
  subst hX4 hXD
  refine readCov_pieces (S := S1x1024) (e := .f32) _ _ _ (by decide) (row fun x => (fun h k => Scan.dl (st S h) (st D h) c k) (hd x) (ln x)) (View.cover_of_tiled_head _ _ _ ?_) ?_
  · exact rfl
  refine ⟨?p0, ?p1, ?p2, ?p3, ?p4, ?p5, ?p6, ?p7, trivial⟩
  case' p0 =>
    intro x
    idx_vars x
    refine Eq.trans ?_ (row_emb (fun h k => Scan.dl (st S h) (st D h) c k) 7 (by rfl) _ x0 x1).symm
    simp only [k0_pay361, k0_pay362, k0_pay375]
  case' p1 =>
    intro x
    idx_vars x
    refine Eq.trans ?_ (row_emb (fun h k => Scan.dl (st S h) (st D h) c k) 6 (by rfl) _ x0 x1).symm
    simp only [k0_pay342, k0_pay343, k0_pay355]
  case' p2 =>
    intro x
    idx_vars x
    refine Eq.trans ?_ (row_emb (fun h k => Scan.dl (st S h) (st D h) c k) 5 (by rfl) _ x0 x1).symm
    simp only [k0_pay325, k0_pay326, k0_pay337]
  case' p3 =>
    intro x
    idx_vars x
    refine Eq.trans ?_ (row_emb (fun h k => Scan.dl (st S h) (st D h) c k) 4 (by rfl) _ x0 x1).symm
    simp only [k0_pay307, k0_pay308, k0_pay320]
  case' p4 =>
    intro x
    idx_vars x
    refine Eq.trans ?_ (row_emb (fun h k => Scan.dl (st S h) (st D h) c k) 3 (by rfl) _ x0 x1).symm
    simp only [k0_pay287, k0_pay288, k0_pay301]
  case' p5 =>
    intro x
    idx_vars x
    refine Eq.trans ?_ (row_emb (fun h k => Scan.dl (st S h) (st D h) c k) 2 (by rfl) _ x0 x1).symm
    simp only [k0_pay267, k0_pay268, k0_pay281]
  case' p6 =>
    intro x
    idx_vars x
    refine Eq.trans ?_ (row_emb (fun h k => Scan.dl (st S h) (st D h) c k) 1 (by rfl) _ x0 x1).symm
    simp only [k0_pay248, k0_pay249, k0_pay260]
  case' p7 =>
    intro x
    idx_vars x
    refine Eq.trans ?_ (row_emb (fun h k => Scan.dl (st S h) (st D h) c k) 0 (by rfl) _ x0 x1).symm
    simp only [k0_pay227, k0_pay228, k0_pay240]
  all_goals
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.dl, mul_zero, sub_self, zero_mul, Finset.sum_const_zero, ite_self, add_zero, ite_mul, mul_ite]
    first | rfl | (simp only [col_zero]; rfl)

theorem dvR (hf : ∀ r x, 0 < fg z lb (c, r) x) (hc : ∀ r x, |Scan.cl leR (lg z lb) c r x - md leR (lg z lb) c x| ≤ 80) {b : BitVec 1} {X0 : Vec Ideal S64x1024 .f32} (hX0 : X0 = ch q c) {X1 : Vec Ideal S64x1024 .f32} (hX1 : X1 = ch z c) {X3 : Vec Ideal S1x1024 .f32} (hX3 : X3 = row lb) {X5 : Vec Ideal S64x1024 .f32} (hX5 : k0_pay222 (F := Ideal) b X5 = ch dO c) {XD : Vec Ideal S8x128x128 .f32} (hXD : XD = up3 (D c)) :
    View.canon (Val := Elt Ideal) (e := .bf16) [⟨Rect.unit ![0, 896] ![64, 128] inb_S64x1024_S64x128_0_896, k0_pay365 k0_pay198 (k0_pay216 X1 X3 k0_pay199) (k0_pay222 b X5) (k0_pay357 (k0_pay217 (k0_pay211 X0 X1 X3 k0_pay199))) (k0_pay359 (k0_pay219 (k0_pay212 X1 X3 k0_pay199))) (constant S64x64 FTy.f32 0#32) (View.ld XD (Rect.unit ![7, 0, 0] ![1, 128, 128] inb_S8x128x128_S1x128x128_7_0_0))⟩, ⟨Rect.unit ![0, 768] ![64, 128] inb_S64x1024_S64x128_0_768, k0_pay346 k0_pay198 (k0_pay216 X1 X3 k0_pay199) (k0_pay219 (k0_pay212 X1 X3 k0_pay199)) (k0_pay222 b X5) (k0_pay339 (k0_pay217 (k0_pay211 X0 X1 X3 k0_pay199))) (View.ld XD (Rect.unit ![6, 0, 0] ![1, 128, 128] inb_S8x128x128_S1x128x128_6_0_0))⟩, ⟨Rect.unit ![0, 640] ![64, 128] inb_S64x1024_S64x128_0_640, k0_pay329 k0_pay198 (k0_pay216 X1 X3 k0_pay199) (k0_pay217 (k0_pay211 X0 X1 X3 k0_pay199)) (k0_pay219 (k0_pay212 X1 X3 k0_pay199)) (k0_pay222 b X5) (View.ld XD (Rect.unit ![5, 0, 0] ![1, 128, 128] inb_S8x128x128_S1x128x128_5_0_0))⟩, ⟨Rect.unit ![0, 512] ![64, 128] inb_S64x1024_S64x128_0_512, k0_pay311 k0_pay198 (k0_pay216 X1 X3 k0_pay199) (k0_pay217 (k0_pay211 X0 X1 X3 k0_pay199)) (k0_pay219 (k0_pay212 X1 X3 k0_pay199)) (k0_pay222 b X5) (View.ld XD (Rect.unit ![4, 0, 0] ![1, 128, 128] inb_S8x128x128_S1x128x128_4_0_0))⟩, ⟨Rect.unit ![0, 384] ![64, 128] inb_S64x1024_S64x128_0_384, k0_pay291 k0_pay198 (k0_pay216 X1 X3 k0_pay199) (k0_pay217 (k0_pay211 X0 X1 X3 k0_pay199)) (k0_pay219 (k0_pay212 X1 X3 k0_pay199)) (k0_pay222 b X5) (View.ld XD (Rect.unit ![3, 0, 0] ![1, 128, 128] inb_S8x128x128_S1x128x128_3_0_0))⟩, ⟨Rect.unit ![0, 256] ![64, 128] inb_S64x1024_S64x128_0_256, k0_pay271 k0_pay198 (k0_pay216 X1 X3 k0_pay199) (k0_pay217 (k0_pay211 X0 X1 X3 k0_pay199)) (k0_pay219 (k0_pay212 X1 X3 k0_pay199)) (k0_pay222 b X5) (View.ld XD (Rect.unit ![2, 0, 0] ![1, 128, 128] inb_S8x128x128_S1x128x128_2_0_0))⟩, ⟨Rect.unit ![0, 128] ![64, 128] inb_S64x1024_S64x128_0_128, k0_pay252 k0_pay198 (k0_pay216 X1 X3 k0_pay199) (k0_pay217 (k0_pay211 X0 X1 X3 k0_pay199)) (k0_pay219 (k0_pay212 X1 X3 k0_pay199)) (k0_pay222 b X5) (View.ld XD (Rect.unit ![1, 0, 0] ![1, 128, 128] inb_S8x128x128_S1x128x128_1_0_0))⟩, ⟨Rect.unit ![0, 0] ![64, 128] inb_S64x1024_S64x128_0_0, k0_pay231 k0_pay198 (k0_pay211 X0 X1 X3 k0_pay199) (k0_pay212 X1 X3 k0_pay199) (k0_pay216 X1 X3 k0_pay199) b X5 (View.ld XD (Rect.unit ![0, 0, 0] ![1, 128, 128] inb_S8x128x128_S1x128x128_0_0_0))⟩] = up2 fun r x => (fun h r k => Scan.kdv leR (hs q h) (hs (kg z lb) h) (hs (lg z lb) h) (hs dO h) (hm leR (lg z lb) h) (st D h) c r k) (hd x) r (ln x) := by
  subst hX0 hX1 hX3 hXD
  refine canon_over (S := S64x1024) (e := .bf16) (up2 fun r x => (fun h r k => Scan.kdv leR (hs q h) (hs (kg z lb) h) (hs (lg z lb) h) (hs dO h) (hm leR (lg z lb) h) (st D h) c r k) (hd x) r (ln x)) _ _ _ _ _ _ _ _ _ (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up2_emb (fun h r k => Scan.kdv leR (hs q h) (hs (kg z lb) h) (hs (lg z lb) h) (hs dO h) (hm leR (lg z lb) h) (st D h) c r k) 7 (by rfl) _ x0 x1).symm
    simp only [k0_pay357, k0_pay359, k0_pay362, k0_pay364, k0_pay365]
  case' p1 =>
    intro x
    idx_vars x
    refine Eq.trans ?_ (up2_emb (fun h r k => Scan.kdv leR (hs q h) (hs (kg z lb) h) (hs (lg z lb) h) (hs dO h) (hm leR (lg z lb) h) (st D h) c r k) 6 (by rfl) _ x0 x1).symm
    simp only [k0_pay339, k0_pay341, k0_pay343, k0_pay345, k0_pay346]
  case' p2 =>
    intro x
    idx_vars x
    refine Eq.trans ?_ (up2_emb (fun h r k => Scan.kdv leR (hs q h) (hs (kg z lb) h) (hs (lg z lb) h) (hs dO h) (hm leR (lg z lb) h) (st D h) c r k) 5 (by rfl) _ x0 x1).symm
    simp only [k0_pay322, k0_pay324, k0_pay326, k0_pay328, k0_pay329]
  case' p3 =>
    intro x
    idx_vars x
    refine Eq.trans ?_ (up2_emb (fun h r k => Scan.kdv leR (hs q h) (hs (kg z lb) h) (hs (lg z lb) h) (hs dO h) (hm leR (lg z lb) h) (st D h) c r k) 4 (by rfl) _ x0 x1).symm
    simp only [k0_pay304, k0_pay306, k0_pay308, k0_pay310, k0_pay311]
  case' p4 =>
    intro x
    idx_vars x
    refine Eq.trans ?_ (up2_emb (fun h r k => Scan.kdv leR (hs q h) (hs (kg z lb) h) (hs (lg z lb) h) (hs dO h) (hm leR (lg z lb) h) (st D h) c r k) 3 (by rfl) _ x0 x1).symm
    simp only [k0_pay284, k0_pay286, k0_pay288, k0_pay290, k0_pay291]
  case' p5 =>
    intro x
    idx_vars x
    refine Eq.trans ?_ (up2_emb (fun h r k => Scan.kdv leR (hs q h) (hs (kg z lb) h) (hs (lg z lb) h) (hs dO h) (hm leR (lg z lb) h) (st D h) c r k) 2 (by rfl) _ x0 x1).symm
    simp only [k0_pay264, k0_pay266, k0_pay268, k0_pay270, k0_pay271]
  case' p6 =>
    intro x
    idx_vars x
    refine Eq.trans ?_ (up2_emb (fun h r k => Scan.kdv leR (hs q h) (hs (kg z lb) h) (hs (lg z lb) h) (hs dO h) (hm leR (lg z lb) h) (st D h) c r k) 1 (by rfl) _ x0 x1).symm
    simp only [k0_pay244, k0_pay246, k0_pay249, k0_pay251, k0_pay252]
  case' p7 =>
    intro x
    idx_vars x
    refine Eq.trans ?_ (up2_emb (fun h r k => Scan.kdv leR (hs q h) (hs (kg z lb) h) (hs (lg z lb) h) (hs dO h) (hm leR (lg z lb) h) (st D h) c r k) 0 (by rfl) _ x0 x1).symm
    simp only [k0_pay223, k0_pay225, k0_pay228, k0_pay230, k0_pay231]
  all_goals
    simp only [pay198_up, pay211_up z q lb c hf hc, pay212_up z lb c hf hc, pay216_up z lb c hf, pay217_up, pay219_up, hX5]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.kdv, Scan.aw, Scan.kd, mul_zero, sub_self, zero_mul, Finset.sum_const_zero, ite_self, add_zero, ite_mul, mul_ite]
    first | rfl | (simp only [col_zero]; rfl)

theorem stR (hf : ∀ r x, 0 < fg z lb (c, r) x) (hc : ∀ r x, |Scan.cl leR (lg z lb) c r x - md leR (lg z lb) c x| ≤ 80) {b : BitVec 1} {X0 : Vec Ideal S64x1024 .f32} (hX0 : X0 = ch q c) {X1 : Vec Ideal S64x1024 .f32} (hX1 : X1 = ch z c) {X3 : Vec Ideal S1x1024 .f32} (hX3 : X3 = row lb) {X5 : Vec Ideal S64x1024 .f32} (hX5 : k0_pay222 (F := Ideal) b X5 = ch dO c) {XD : Vec Ideal S8x128x128 .f32} (hXD : XD = up3 (D c)) (T : List (View.Piece (Elt Ideal) S8x128x128 .f32)) :
    View.canon (Val := Elt Ideal) (e := .f32) ((⟨Rect.unit ![7, 0, 0] ![1, 128, 128] inb_S8x128x128_S1x128x128_7_0_0, k0_pay376 (k0_pay209 X1 X3 k0_pay199) (k0_pay215 X0 X1 X3 k0_pay199) (k0_pay222 b X5) (k0_pay362 (View.ld XD (Rect.unit ![7, 0, 0] ![1, 128, 128] inb_S8x128x128_S1x128x128_7_0_0)))⟩ : View.Piece (Elt Ideal) S8x128x128 .f32) :: (⟨Rect.unit ![6, 0, 0] ![1, 128, 128] inb_S8x128x128_S1x128x128_6_0_0, k0_pay356 (k0_pay209 X1 X3 k0_pay199) (k0_pay215 X0 X1 X3 k0_pay199) (k0_pay222 b X5) (k0_pay343 (View.ld XD (Rect.unit ![6, 0, 0] ![1, 128, 128] inb_S8x128x128_S1x128x128_6_0_0)))⟩ : View.Piece (Elt Ideal) S8x128x128 .f32) :: (⟨Rect.unit ![5, 0, 0] ![1, 128, 128] inb_S8x128x128_S1x128x128_5_0_0, k0_pay338 (k0_pay209 X1 X3 k0_pay199) (k0_pay215 X0 X1 X3 k0_pay199) (k0_pay222 b X5) (k0_pay326 (View.ld XD (Rect.unit ![5, 0, 0] ![1, 128, 128] inb_S8x128x128_S1x128x128_5_0_0)))⟩ : View.Piece (Elt Ideal) S8x128x128 .f32) :: (⟨Rect.unit ![4, 0, 0] ![1, 128, 128] inb_S8x128x128_S1x128x128_4_0_0, k0_pay321 (k0_pay209 X1 X3 k0_pay199) (k0_pay215 X0 X1 X3 k0_pay199) (k0_pay222 b X5) (k0_pay308 (View.ld XD (Rect.unit ![4, 0, 0] ![1, 128, 128] inb_S8x128x128_S1x128x128_4_0_0)))⟩ : View.Piece (Elt Ideal) S8x128x128 .f32) :: (⟨Rect.unit ![3, 0, 0] ![1, 128, 128] inb_S8x128x128_S1x128x128_3_0_0, k0_pay303 (k0_pay302 (k0_pay209 X1 X3 k0_pay199) (k0_pay215 X0 X1 X3 k0_pay199) (k0_pay222 b X5) (k0_pay288 (View.ld XD (Rect.unit ![3, 0, 0] ![1, 128, 128] inb_S8x128x128_S1x128x128_3_0_0))))⟩ : View.Piece (Elt Ideal) S8x128x128 .f32) :: (⟨Rect.unit ![2, 0, 0] ![1, 128, 128] inb_S8x128x128_S1x128x128_2_0_0, k0_pay283 (k0_pay282 (k0_pay209 X1 X3 k0_pay199) (k0_pay215 X0 X1 X3 k0_pay199) (k0_pay222 b X5) (k0_pay268 (View.ld XD (Rect.unit ![2, 0, 0] ![1, 128, 128] inb_S8x128x128_S1x128x128_2_0_0))))⟩ : View.Piece (Elt Ideal) S8x128x128 .f32) :: (⟨Rect.unit ![1, 0, 0] ![1, 128, 128] inb_S8x128x128_S1x128x128_1_0_0, k0_pay263 (k0_pay249 (View.ld XD (Rect.unit ![1, 0, 0] ![1, 128, 128] inb_S8x128x128_S1x128x128_1_0_0))) (k0_pay261 (k0_pay215 X0 X1 X3 k0_pay199) (k0_pay222 b X5)) (k0_pay262 (k0_pay209 X1 X3 k0_pay199))⟩ : View.Piece (Elt Ideal) S8x128x128 .f32) :: (⟨Rect.unit ![0, 0, 0] ![1, 128, 128] inb_S8x128x128_S1x128x128_0_0_0, k0_pay243 (k0_pay209 X1 X3 k0_pay199) (k0_pay228 (View.ld XD (Rect.unit ![0, 0, 0] ![1, 128, 128] inb_S8x128x128_S1x128x128_0_0_0))) (k0_pay241 (k0_pay222 b X5)) (k0_pay242 (k0_pay215 X0 X1 X3 k0_pay199))⟩ : View.Piece (Elt Ideal) S8x128x128 .f32) :: T) = up3 fun h v k => (∑ r, hs dO h (c, r) v * Scan.qd leR (hs q h) (hs (lg z lb) h) c r k) + D c h v k * Scan.el (hs (lg z lb) h) c k := by
  subst hX0 hX1 hX3 hXD
  refine canon_over (S := S8x128x128) (e := .f32) (up3 fun h v k => (∑ r, hs dO h (c, r) v * Scan.qd leR (hs q h) (hs (lg z lb) h) c r k) + D c h v k * Scan.el (hs (lg z lb) h) c k) _ _ _ _ _ _ _ _ _ (View.cover_of_tiled_head _ _ _ ?_) ?_
  · exact rfl
  refine ⟨?p0, ?p1, ?p2, ?p3, ?p4, ?p5, ?p6, ?p7, trivial⟩
  case' p0 =>
    intro x
    idx_vars x
    refine Eq.trans ?_ (up3_emb (fun h v k => (∑ r, hs dO h (c, r) v * Scan.qd leR (hs q h) (hs (lg z lb) h) c r k) + D c h v k * Scan.el (hs (lg z lb) h) c k) 7 (by rfl) _ x0 x1 x2).symm
    simp only [k0_pay362, k0_pay376]
  case' p1 =>
    intro x
    idx_vars x
    refine Eq.trans ?_ (up3_emb (fun h v k => (∑ r, hs dO h (c, r) v * Scan.qd leR (hs q h) (hs (lg z lb) h) c r k) + D c h v k * Scan.el (hs (lg z lb) h) c k) 6 (by rfl) _ x0 x1 x2).symm
    simp only [k0_pay343, k0_pay356]
  case' p2 =>
    intro x
    idx_vars x
    refine Eq.trans ?_ (up3_emb (fun h v k => (∑ r, hs dO h (c, r) v * Scan.qd leR (hs q h) (hs (lg z lb) h) c r k) + D c h v k * Scan.el (hs (lg z lb) h) c k) 5 (by rfl) _ x0 x1 x2).symm
    simp only [k0_pay326, k0_pay338]
  case' p3 =>
    intro x
    idx_vars x
    refine Eq.trans ?_ (up3_emb (fun h v k => (∑ r, hs dO h (c, r) v * Scan.qd leR (hs q h) (hs (lg z lb) h) c r k) + D c h v k * Scan.el (hs (lg z lb) h) c k) 4 (by rfl) _ x0 x1 x2).symm
    simp only [k0_pay308, k0_pay321]
  case' p4 =>
    intro x
    idx_vars x
    refine Eq.trans ?_ (up3_emb (fun h v k => (∑ r, hs dO h (c, r) v * Scan.qd leR (hs q h) (hs (lg z lb) h) c r k) + D c h v k * Scan.el (hs (lg z lb) h) c k) 3 (by rfl) _ x0 x1 x2).symm
    simp only [k0_pay288, k0_pay302, k0_pay303]
  case' p5 =>
    intro x
    idx_vars x
    refine Eq.trans ?_ (up3_emb (fun h v k => (∑ r, hs dO h (c, r) v * Scan.qd leR (hs q h) (hs (lg z lb) h) c r k) + D c h v k * Scan.el (hs (lg z lb) h) c k) 2 (by rfl) _ x0 x1 x2).symm
    simp only [k0_pay268, k0_pay282, k0_pay283]
  case' p6 =>
    intro x
    idx_vars x
    refine Eq.trans ?_ (up3_emb (fun h v k => (∑ r, hs dO h (c, r) v * Scan.qd leR (hs q h) (hs (lg z lb) h) c r k) + D c h v k * Scan.el (hs (lg z lb) h) c k) 1 (by rfl) _ x0 x1 x2).symm
    simp only [k0_pay249, k0_pay261, k0_pay262, k0_pay263]
  case' p7 =>
    intro x
    idx_vars x
    refine Eq.trans ?_ (up3_emb (fun h v k => (∑ r, hs dO h (c, r) v * Scan.qd leR (hs q h) (hs (lg z lb) h) c r k) + D c h v k * Scan.el (hs (lg z lb) h) c k) 0 (by rfl) _ x0 x1 x2).symm
    simp only [k0_pay228, k0_pay241, k0_pay242, k0_pay243]
  all_goals
    simp only [pay209_up z lb c hf, pay215_up z q lb c hf, hX5]
    pointwise [up2_ix, up3_ix, up4_ix, ch_ix, row_ix, mask_ix]
    simp only [sel_bit, ← EReal.coe_zero, ← EReal.coe_mul, coe_sum, coe_ite, ← EReal.coe_sub, ← EReal.coe_add]
    refine congrArg Real.toEReal ?_
    simp only [Scan.qd, mul_zero, sub_self, zero_mul, Finset.sum_const_zero, ite_self, add_zero, ite_mul, mul_ite]
    first | rfl | (simp only [col_zero]; rfl)

end Cert.KernelIdeal.Step
-- ==== Proof.PointR.lean ====
/- What one grid point of the reverse direction leaves in its outputs and in the state it carries, at inputs that are real numbers:
   the gradients of one chunk. -/
module

public import proofs.«01_k».proof.Proof.HeadsR

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

section
variable (z q v dO : Fin 132 × Fin 64 → Fin 1024 → ℝ) (lb : Fin 1024 → ℝ) (S D : Fin 132 → Fin 8 → Fin 128 → Fin 128 → ℝ) (k : Fin 132)

theorem lastdfR (hf : ∀ r x, 0 < fg z lb (k, r) x) : k0_pay378 (F := Ideal) k0_pay199 (ch (fg z lb) k) (up2 (Scan.ek leR (lg z lb) (md leR (lg z lb)) k)) (row (Scan.el (lg z lb) k)) (up2 (Scan.ekd leR (lg z lb) k)) (up2 (Scan.qe leR q (lg z lb) (md leR (lg z lb)) k)) (up2 (Scan.ke leR (kg z lb) (lg z lb) (md leR (lg z lb)) k)) (up2 (Scan.qd leR q (lg z lb) k)) (up2 (Scan.kd leR (kg z lb) (lg z lb) k)) (up2 (adqe leR z v dO lb k)) (up2 (adke leR z q v dO lb k)) (up2 (adqd dO S k)) (up2 (adkd v D k)) (row (adl S D k)) = up2 (gdf leR z q v dO lb S D k) := by
  funext i
  idx_vars i
  pointwise [k0_pay378, pay199_up, up2_ix, ch_ix, row_ix]
  obtain ⟨h, x, rfl⟩ := exists_col i1
  rw [Ideal.div_coe (hf _ _).ne']
  simp only [zero_add, ← EReal.coe_zero, ← EReal.coe_one, ← EReal.coe_mul, coe_sum, coe_ite, ← EReal.coe_sub, ← EReal.coe_add]
  refine congrArg Real.toEReal ?_
  simp only [gdf, gdlf, gdk, adqe, adke, adqd, adkd, adl, Scan.kdlf, Scan.kdlast, Scan.kdcum, Scan.kdk, hd_col, ln_col]
  rfl

theorem lastdqR : k0_pay377 (F := Ideal) (up2 (Scan.eq leR (lg z lb) (md leR (lg z lb)) k)) (up2 (Scan.ec leR (lg z lb) k)) (up2 (adqe leR z v dO lb k)) (up2 (adqd dO S k)) = up2 (gdq leR z v dO lb S k) := by
  funext i
  idx_vars i
  pointwise [k0_pay377, up2_ix, ch_ix, row_ix]
  obtain ⟨h, x, rfl⟩ := exists_col i1
  simp only [zero_add, ← EReal.coe_zero, ← EReal.coe_one, ← EReal.coe_mul, coe_sum, coe_ite, ← EReal.coe_sub, ← EReal.coe_add]
  refine congrArg Real.toEReal ?_
  simp only [gdq, adqe, adqd, Scan.kdq, hd_col, ln_col]
  rfl

theorem lastdzR (hf : ∀ r x, 0 < fg z lb (k, r) x) : k0_pay379 (F := Ideal) (row lb) k0_pay199 (ch (sg z) k) (ch (fg z lb) k) (up2 (Scan.ek leR (lg z lb) (md leR (lg z lb)) k)) (row (Scan.el (lg z lb) k)) (up2 (Scan.ekd leR (lg z lb) k)) (up2 (Scan.qe leR q (lg z lb) (md leR (lg z lb)) k)) (up2 (Scan.ke leR (kg z lb) (lg z lb) (md leR (lg z lb)) k)) (up2 (Scan.qd leR q (lg z lb) k)) (up2 (Scan.kd leR (kg z lb) (lg z lb) k)) (up2 (adqe leR z v dO lb k)) (up2 (adke leR z q v dO lb k)) (up2 (adqd dO S k)) (up2 (adkd v D k)) (row (adl S D k)) = up2 (gdz leR z q v dO lb S D k) := by
  funext i
  idx_vars i
  pointwise [k0_pay379, lastdfR z q v dO lb S D k hf, up2_ix, ch_ix, row_ix]
  simp only [zero_add, ← EReal.coe_zero, ← EReal.coe_one, ← EReal.coe_mul, coe_sum, coe_ite, ← EReal.coe_sub, ← EReal.coe_add]
  rfl

theorem lastdlbR (p : Fin 1024 → ℝ) (hf : ∀ r x, 0 < fg z lb (k, r) x) : k0_pay1 (F := Ideal) (k0_pay380 (row p)) (k0_pay381 (F := Ideal) k0_pay199 (ch (sg z) k) (ch (fg z lb) k) (up2 (Scan.ek leR (lg z lb) (md leR (lg z lb)) k)) (row (Scan.el (lg z lb) k)) (up2 (Scan.ekd leR (lg z lb) k)) (up2 (Scan.qe leR q (lg z lb) (md leR (lg z lb)) k)) (up2 (Scan.ke leR (kg z lb) (lg z lb) (md leR (lg z lb)) k)) (up2 (Scan.qd leR q (lg z lb) k)) (up2 (Scan.kd leR (kg z lb) (lg z lb) k)) (up2 (adqe leR z v dO lb k)) (up2 (adke leR z q v dO lb k)) (up2 (adqd dO S k)) (up2 (adkd v D k)) (row (adl S D k))) = row fun x => p x + gdlb leR z q v dO lb S D k x := by
  funext i
  idx_vars i
  pointwise [k0_pay1, k0_pay380, k0_pay381, lastdfR z q v dO lb S D k hf, up2_ix, ch_ix, row_ix]
  simp only [zero_add, ← EReal.coe_zero, ← EReal.coe_one, ← EReal.coe_mul, coe_sum, coe_ite, ← EReal.coe_sub, ← EReal.coe_add]
  rfl

theorem zeroRowR : k0_pay197 (F := Ideal) = row fun _ => 0 := by
  funext i
  idx_vars i
  pointwise [k0_pay197, row_ix]
  rfl

theorem zeroStateR (hD : D k = fun _ _ _ => 0) : k0_pay196 (F := Ideal) = up3 (D k) := by
  rw [hD]
  funext i
  idx_vars i
  pointwise [k0_pay196, up3_ix]
  rfl

end

/-- What the windows of the reverse direction hold at a grid point that does chunk `k`. -/
structure InR (m : (ℓ : Loc nD τ sig) → Buf (Elt Ideal) ℓ) (c : Dev nD) (t : Fin cfg0.N) (z q v dO : Fin 132 × Fin 64 → Fin 1024 → ℝ) (lb : Fin 1024 → ℝ)
    (S : Fin 132 → Fin 8 → Fin 128 → Fin 128 → ℝ) (k : Fin 132) : Prop where
  hq : (iblk m c 6 t : Vec Ideal S64x1024 .f32) = ch q k
  hz : (iblk m c 7 t : Vec Ideal S64x1024 .f32) = ch z k
  hv : (iblk m c 8 t : Vec Ideal S64x1024 .f32) = ch v k
  hlb : (iblk m c 9 t : Vec Ideal S1x1024 .f32) = row lb
  hst : (iblk m c 10 t : Vec Ideal S1x8x128x128 .f32) = up4 (S k)
  hd : (k0_pay222 (F := Ideal) (Scalar.cmpi CmpIPredicate.slt (Scalar.subi (131#32) (Scalar.subi (131#32) (BitVec.ofNat 32 (grid0.coords t 0).val))) 128#32) (iblk m c 11 t) : Vec Ideal S64x1024 .bf16) = ch dO k
  hf : ∀ r x, 0 < fg z lb (k, r) x
  hcl : ∀ r x, |Scan.cl leR (lg z lb) k r x - md leR (lg z lb) k x| ≤ 80

section
variable {m : (ℓ : Loc nD τ sig) → Buf (Elt Ideal) ℓ} {c : Dev nD} {t : Fin cfg0.N} {z q v dO : Fin 132 × Fin 64 → Fin 1024 → ℝ} {lb : Fin 1024 → ℝ}
variable {S : Fin 132 → Fin 8 → Fin 128 → Fin 128 → ℝ} (D : Fin 132 → Fin 8 → Fin 128 → Fin 128 → ℝ) {k : Fin 132}

theorem dqR_A (hi : InR m c t z q v dO lb S k) (ht : t.val % 132 = 0) :
    (outsAt0 m c t.val t.isLt).2.2.2.2.1 = up2 (gdq leR z v dO lb S k) := by
  rw [outsAt0_A m c t ht ht]
  frame_open
  simp (disch := decide) only [↓ View.readCov_skip, ↓ View.readCov_cons_toLoadRect, ↓ View.readCov_fill]
  frame_out
  rw [show _ = (up2 (adqe leR z v dO lb k)) from dqeR z v dO lb k hi.hf hi.hcl hi.hz hi.hv hi.hlb hi.hd]
  rw [show _ = (up2 (adqd dO S k)) from dqdR z dO lb S k hi.hf hi.hcl hi.hst hi.hd]
  simp only [hi.hz, hi.hlb]
  simp only [pay200_up, pay201_up, pay202_up, pay206_up z lb k hi.hf hi.hcl, pay207_up z lb k hi.hf hi.hcl, pay208_up z lb k hi.hf, pay209_up z lb k hi.hf, pay210_up z lb k hi.hf, pay211_up z q lb k hi.hf hi.hcl, pay212_up z lb k hi.hf hi.hcl, pay213_up z q lb k hi.hf, pay214_up z lb k hi.hf]
  exact lastdqR z v dO lb S k

theorem dzR_A (hi : InR m c t z q v dO lb S k) (ht : t.val % 132 = 0) (h0 : D k = fun _ _ _ => 0) :
    (outsAt0 m c t.val t.isLt).2.2.2.2.2.1 = up2 (gdz leR z q v dO lb S D k) := by
  have hD := zeroStateR D k h0
  rw [outsAt0_A m c t ht ht]
  frame_open
  simp (disch := decide) only [↓ View.readCov_skip, ↓ View.readCov_cons_toLoadRect, ↓ View.readCov_fill]
  frame_out
  rw [show _ = (up2 (adqe leR z v dO lb k)) from dqeR z v dO lb k hi.hf hi.hcl hi.hz hi.hv hi.hlb hi.hd]
  rw [show _ = (up2 (adke leR z q v dO lb k)) from dkeR z q v dO lb k hi.hf hi.hcl hi.hq hi.hz hi.hv hi.hlb hi.hd]
  rw [show _ = (up2 (adqd dO S k)) from dqdR z dO lb S k hi.hf hi.hcl hi.hst hi.hd]
  rw [show _ = (up2 (adkd v D k)) from dkdR z v lb D k hi.hf hi.hcl hi.hv hD]
  rw [show _ = (row (adl S D k)) from dlR z lb S D k hi.hf hi.hcl hi.hst hD]
  simp only [hi.hz, hi.hlb, hi.hq]
  simp only [pay200_up, pay201_up, pay202_up, pay206_up z lb k hi.hf hi.hcl, pay207_up z lb k hi.hf hi.hcl, pay208_up z lb k hi.hf, pay209_up z lb k hi.hf, pay210_up z lb k hi.hf, pay211_up z q lb k hi.hf hi.hcl, pay212_up z lb k hi.hf hi.hcl, pay213_up z q lb k hi.hf, pay214_up z lb k hi.hf]
  exact lastdzR z q v dO lb S D k hi.hf

theorem dvR_A (hi : InR m c t z q v dO lb S k) (ht : t.val % 132 = 0) (h0 : D k = fun _ _ _ => 0) :
    (outsAt0 m c t.val t.isLt).2.2.2.2.2.2.1 = up2 (gdv leR z q dO lb D k) := by
  have hD := zeroStateR D k h0
  rw [outsAt0_A m c t ht ht]
  frame_open
  simp (disch := decide) only [↓ View.readCov_skip, ↓ View.readCov_cons_toLoadRect, ↓ View.readCov_fill]
  frame_out
  exact dvR z q dO lb D k hi.hf hi.hcl hi.hq hi.hz hi.hlb hi.hd hD

theorem dlbR_A (hi : InR m c t z q v dO lb S k) (ht : t.val % 132 = 0) (h0 : D k = fun _ _ _ => 0) :
    (outsAt0 m c t.val t.isLt).2.2.2.2.2.2.2.1 = row (gdlb leR z q v dO lb S D k) := by
  have hD := zeroStateR D k h0
  rw [outsAt0_A m c t ht ht]
  frame_open
  simp (disch := decide) only [↓ View.readCov_skip, ↓ View.readCov_cons_toLoadRect, ↓ View.readCov_fill]
  frame_out
  rw [show _ = (up2 (adqe leR z v dO lb k)) from dqeR z v dO lb k hi.hf hi.hcl hi.hz hi.hv hi.hlb hi.hd]
  rw [show _ = (up2 (adke leR z q v dO lb k)) from dkeR z q v dO lb k hi.hf hi.hcl hi.hq hi.hz hi.hv hi.hlb hi.hd]
  rw [show _ = (up2 (adqd dO S k)) from dqdR z dO lb S k hi.hf hi.hcl hi.hst hi.hd]
  rw [show _ = (up2 (adkd v D k)) from dkdR z v lb D k hi.hf hi.hcl hi.hv hD]
  rw [show _ = (row (adl S D k)) from dlR z lb S D k hi.hf hi.hcl hi.hst hD]
  simp only [hi.hz, hi.hlb, hi.hq]
  simp only [pay200_up, pay201_up, pay202_up, pay206_up z lb k hi.hf hi.hcl, pay207_up z lb k hi.hf hi.hcl, pay208_up z lb k hi.hf, pay209_up z lb k hi.hf, pay210_up z lb k hi.hf, pay211_up z q lb k hi.hf hi.hcl, pay212_up z lb k hi.hf hi.hcl, pay213_up z q lb k hi.hf, pay214_up z lb k hi.hf]
  rw [zeroRowR]
  exact (lastdlbR z q v dO lb S D k _ hi.hf).trans (congrArg row (funext fun x => zero_add _))

theorem stR_A (hi : InR m c t z q v dO lb S k) (ht : t.val % 132 = 0) (h0 : D k = fun _ _ _ => 0) :
    (outsAt0 m c t.val t.isLt).2.2.2.2.2.2.2.2.2 = up3 (gst leR z q dO lb D k) := by
  have hD := zeroStateR D k h0
  rw [outsAt0_A m c t ht ht]
  frame_open
  simp (disch := decide) only [↓ View.readCov_skip, ↓ View.readCov_cons_toLoadRect, ↓ View.readCov_fill]
  frame_out
  exact stR z q dO lb D k hi.hf hi.hcl hi.hq hi.hz hi.hlb hi.hd hD _

theorem dqR_B (hi : InR m c t z q v dO lb S k) (ht : ¬t.val % 132 = 0) :
    (outsAt0 m c t.val t.isLt).2.2.2.2.1 = up2 (gdq leR z v dO lb S k) := by
  rw [outsAt0_B m c t ht ht]
  frame_open
  simp (disch := decide) only [↓ View.readCov_skip, ↓ View.readCov_cons_toLoadRect, ↓ View.readCov_fill]
  frame_out
  rw [show _ = (up2 (adqe leR z v dO lb k)) from dqeR z v dO lb k hi.hf hi.hcl hi.hz hi.hv hi.hlb hi.hd]
  rw [show _ = (up2 (adqd dO S k)) from dqdR z dO lb S k hi.hf hi.hcl hi.hst hi.hd]
  simp only [hi.hz, hi.hlb]
  simp only [pay200_up, pay201_up, pay202_up, pay206_up z lb k hi.hf hi.hcl, pay207_up z lb k hi.hf hi.hcl, pay208_up z lb k hi.hf, pay209_up z lb k hi.hf, pay210_up z lb k hi.hf, pay211_up z q lb k hi.hf hi.hcl, pay212_up z lb k hi.hf hi.hcl, pay213_up z q lb k hi.hf, pay214_up z lb k hi.hf]
  exact lastdqR z v dO lb S k

theorem dzR_B (hi : InR m c t z q v dO lb S k) (ht : ¬t.val % 132 = 0) (hD : (outsAt0 m c (t.val - 1) (Nat.lt_of_le_of_lt (Nat.sub_le _ _) t.isLt)).2.2.2.2.2.2.2.2.2 = up3 (D k)) :
    (outsAt0 m c t.val t.isLt).2.2.2.2.2.1 = up2 (gdz leR z q v dO lb S D k) := by
  rw [outsAt0_B m c t ht ht]
  frame_open
  simp (disch := decide) only [↓ View.readCov_skip, ↓ View.readCov_cons_toLoadRect, ↓ View.readCov_fill]
  frame_out
  try simp only [read_unread_whole]
  rw [show _ = (up2 (adqe leR z v dO lb k)) from dqeR z v dO lb k hi.hf hi.hcl hi.hz hi.hv hi.hlb hi.hd]
  rw [show _ = (up2 (adke leR z q v dO lb k)) from dkeR z q v dO lb k hi.hf hi.hcl hi.hq hi.hz hi.hv hi.hlb hi.hd]
  rw [show _ = (up2 (adqd dO S k)) from dqdR z dO lb S k hi.hf hi.hcl hi.hst hi.hd]
  rw [show _ = (up2 (adkd v D k)) from dkdR z v lb D k hi.hf hi.hcl hi.hv hD]
  rw [show _ = (row (adl S D k)) from dlR z lb S D k hi.hf hi.hcl hi.hst hD]
  simp only [hi.hz, hi.hlb, hi.hq]
  simp only [pay200_up, pay201_up, pay202_up, pay206_up z lb k hi.hf hi.hcl, pay207_up z lb k hi.hf hi.hcl, pay208_up z lb k hi.hf, pay209_up z lb k hi.hf, pay210_up z lb k hi.hf, pay211_up z q lb k hi.hf hi.hcl, pay212_up z lb k hi.hf hi.hcl, pay213_up z q lb k hi.hf, pay214_up z lb k hi.hf]
  exact lastdzR z q v dO lb S D k hi.hf

theorem dvR_B (hi : InR m c t z q v dO lb S k) (ht : ¬t.val % 132 = 0) (hD : (outsAt0 m c (t.val - 1) (Nat.lt_of_le_of_lt (Nat.sub_le _ _) t.isLt)).2.2.2.2.2.2.2.2.2 = up3 (D k)) :
    (outsAt0 m c t.val t.isLt).2.2.2.2.2.2.1 = up2 (gdv leR z q dO lb D k) := by
  rw [outsAt0_B m c t ht ht]
  frame_open
  simp (disch := decide) only [↓ View.readCov_skip, ↓ View.readCov_cons_toLoadRect, ↓ View.readCov_fill]
  frame_out
  try simp only [read_unread_whole]
  exact dvR z q dO lb D k hi.hf hi.hcl hi.hq hi.hz hi.hlb hi.hd hD

theorem dlbR_B (hi : InR m c t z q v dO lb S k) (ht : ¬t.val % 132 = 0) (hD : (outsAt0 m c (t.val - 1) (Nat.lt_of_le_of_lt (Nat.sub_le _ _) t.isLt)).2.2.2.2.2.2.2.2.2 = up3 (D k)) {p : Fin 1024 → ℝ} (hp : (outsAt0 m c (t.val - 1) (Nat.lt_of_le_of_lt (Nat.sub_le _ _) t.isLt)).2.2.2.2.2.2.2.1 = row p) :
    (outsAt0 m c t.val t.isLt).2.2.2.2.2.2.2.1 = row fun x => p x + gdlb leR z q v dO lb S D k x := by
  rw [outsAt0_B m c t ht ht]
  frame_open
  simp (disch := decide) only [↓ View.readCov_skip, ↓ View.readCov_cons_toLoadRect, ↓ View.readCov_fill]
  frame_out
  try simp only [read_unread_whole]
  rw [show _ = (up2 (adqe leR z v dO lb k)) from dqeR z v dO lb k hi.hf hi.hcl hi.hz hi.hv hi.hlb hi.hd]
  rw [show _ = (up2 (adke leR z q v dO lb k)) from dkeR z q v dO lb k hi.hf hi.hcl hi.hq hi.hz hi.hv hi.hlb hi.hd]
  rw [show _ = (up2 (adqd dO S k)) from dqdR z dO lb S k hi.hf hi.hcl hi.hst hi.hd]
  rw [show _ = (up2 (adkd v D k)) from dkdR z v lb D k hi.hf hi.hcl hi.hv hD]
  rw [show _ = (row (adl S D k)) from dlR z lb S D k hi.hf hi.hcl hi.hst hD]
  simp only [hi.hz, hi.hlb, hi.hq]
  simp only [pay200_up, pay201_up, pay202_up, pay206_up z lb k hi.hf hi.hcl, pay207_up z lb k hi.hf hi.hcl, pay208_up z lb k hi.hf, pay209_up z lb k hi.hf, pay210_up z lb k hi.hf, pay211_up z q lb k hi.hf hi.hcl, pay212_up z lb k hi.hf hi.hcl, pay213_up z q lb k hi.hf, pay214_up z lb k hi.hf]
  rw [hp]
  exact lastdlbR z q v dO lb S D k p hi.hf

theorem stR_B (hi : InR m c t z q v dO lb S k) (ht : ¬t.val % 132 = 0) (hD : (outsAt0 m c (t.val - 1) (Nat.lt_of_le_of_lt (Nat.sub_le _ _) t.isLt)).2.2.2.2.2.2.2.2.2 = up3 (D k)) :
    (outsAt0 m c t.val t.isLt).2.2.2.2.2.2.2.2.2 = up3 (gst leR z q dO lb D k) := by
  rw [outsAt0_B m c t ht ht]
  frame_open
  simp (disch := decide) only [↓ View.readCov_skip, ↓ View.readCov_cons_toLoadRect, ↓ View.readCov_fill]
  frame_out
  try simp only [read_unread_whole]
  exact stR z q dO lb D k hi.hf hi.hcl hi.hq hi.hz hi.hlb hi.hd hD _

end

end Cert.KernelIdeal.Step
-- ==== Proof.GridR.lean ====
/- The walk of the reverse direction over the grid: the state it carries into each grid point is the gradient of the state after that
   point's chunk, and the sums of the lower bounds' gradients run over the chunks met so far. -/
module

public import proofs.«01_k».proof.Proof.PointR

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable {m : (ℓ : Loc nD τ sig) → Buf (Elt Ideal) ℓ} {c : Dev nD} {z q v dO : Fin 132 × Fin 64 → Fin 1024 → ℝ} {lb : Fin 1024 → ℝ}
variable {S : Fin 132 → Fin 8 → Fin 128 → Fin 128 → ℝ}

theorem DR_first : (Ds ordR leR z q dO lb) (ckR 0) = fun _ _ _ => 0 :=
  Ds_last _ _ _ _ _ _ _ fun c' => by rw [ordR_ck (by omega)]; exact ordR_le c'

theorem DR_next {n : ℕ} (h0 : n ≠ 0) (hn : n < 132) : (Ds ordR leR z q dO lb) (ckR n) = gst leR z q dO lb (Ds ordR leR z q dO lb) (ckR (n - 1)) :=
  Ds_step _ _ _ _ _ _ ordR_inj _ _ (by rw [ordR_ck hn, ordR_ck (by omega)]; omega)

theorem stateR (hin : ∀ t : Fin cfg0.N, InR m c t z q v dO lb S (ckR t.val)) : ∀ (n : ℕ) (hn : n < cfg0.N),
    (outsAt0 m c n hn).2.2.2.2.2.2.2.2.2 = up3 (gst leR z q dO lb (Ds ordR leR z q dO lb) (ckR n))
  | 0, hn => stR_A (Ds ordR leR z q dO lb) (t := ⟨0, hn⟩) (hin _) rfl DR_first
  | n + 1, hn => by
    have h132 : n + 1 < 132 := hn
    refine stR_B (Ds ordR leR z q dO lb) (t := ⟨n + 1, hn⟩) (hin _) (by show ¬(n + 1) % 132 = 0; omega) ?_
    refine (stateR hin n (Nat.lt_of_succ_lt hn)).trans ?_
    exact congrArg up3 (DR_next (by omega) h132).symm

theorem carriedR (hin : ∀ t : Fin cfg0.N, InR m c t z q v dO lb S (ckR t.val)) (t : Fin cfg0.N) (ht : ¬t.val % 132 = 0) :
    (outsAt0 m c (t.val - 1) (Nat.lt_of_le_of_lt (Nat.sub_le _ _) t.isLt)).2.2.2.2.2.2.2.2.2 = up3 ((Ds ordR leR z q dO lb) (ckR t.val)) := by
  rw [DR_next (by omega) t.isLt]
  exact stateR hin _ _

theorem dqR_at (hin : ∀ t : Fin cfg0.N, InR m c t z q v dO lb S (ckR t.val)) (t : Fin cfg0.N) :
    (outsAt0 m c t.val t.isLt).2.2.2.2.1 = up2 (gdq leR z v dO lb S (ckR t.val)) := by
  by_cases ht : t.val % 132 = 0
  · exact dqR_A  (hin t) ht
  · exact dqR_B  (hin t) ht

theorem dzR_at (hin : ∀ t : Fin cfg0.N, InR m c t z q v dO lb S (ckR t.val)) (t : Fin cfg0.N) :
    (outsAt0 m c t.val t.isLt).2.2.2.2.2.1 = up2 (gdz leR z q v dO lb S (Ds ordR leR z q dO lb) (ckR t.val)) := by
  by_cases ht : t.val % 132 = 0
  · exact dzR_A (Ds ordR leR z q dO lb) (hin t) ht (by rw [show t.val = 0 by have := t.isLt; have h : t.val < 132 := this; omega]; exact DR_first)
  · exact dzR_B (Ds ordR leR z q dO lb) (hin t) ht (carriedR hin t ht)

theorem dvR_at (hin : ∀ t : Fin cfg0.N, InR m c t z q v dO lb S (ckR t.val)) (t : Fin cfg0.N) :
    (outsAt0 m c t.val t.isLt).2.2.2.2.2.2.1 = up2 (gdv leR z q dO lb (Ds ordR leR z q dO lb) (ckR t.val)) := by
  by_cases ht : t.val % 132 = 0
  · exact dvR_A (Ds ordR leR z q dO lb) (hin t) ht (by rw [show t.val = 0 by have := t.isLt; have h : t.val < 132 := this; omega]; exact DR_first)
  · exact dvR_B (Ds ordR leR z q dO lb) (hin t) ht (carriedR hin t ht)

theorem dlbR_at (hin : ∀ t : Fin cfg0.N, InR m c t z q v dO lb S (ckR t.val)) : ∀ (n : ℕ) (hn : n < cfg0.N),
    (outsAt0 m c n hn).2.2.2.2.2.2.2.1 = row fun x => ∑ j ∈ Finset.range (n + 1), gdlb leR z q v dO lb S (Ds ordR leR z q dO lb) (ckR j) x
  | 0, hn => by
    refine (dlbR_A (Ds ordR leR z q dO lb) (t := ⟨0, hn⟩) (hin _) rfl DR_first).trans (congrArg row (funext fun x => ?_))
    rw [Finset.sum_range_one]
  | n + 1, hn => by
    have h132 : n + 1 < 132 := hn
    have ht : ¬(⟨n + 1, hn⟩ : Fin cfg0.N).val % 132 = 0 := by show ¬(n + 1) % 132 = 0; omega
    refine (dlbR_B (Ds ordR leR z q dO lb) (t := ⟨n + 1, hn⟩) (hin _) ht (carriedR hin _ ht) (dlbR_at hin n (Nat.lt_of_succ_lt hn))).trans
      (congrArg row (funext fun x => ?_))
    rw [Finset.sum_range_succ _ (n + 1)]

/-- The last grid point has met every chunk. -/
theorem dlbR_end (hin : ∀ t : Fin cfg0.N, InR m c t z q v dO lb S (ckR t.val)) (hn : 131 < cfg0.N) :
    (outsAt0 m c 131 hn).2.2.2.2.2.2.2.1 = row fun x => ∑ k, gdlb leR z q v dO lb S (Ds ordR leR z q dO lb) k x := by
  refine (dlbR_at hin 131 hn).trans (congrArg row (funext fun x => ?_))
  rw [Finset.sum_range]
  refine Fintype.sum_bijective (fun j : Fin 132 => ckR j.val) ((Finite.injective_iff_bijective).mp fun a b h => ?_) _ _ fun j => rfl
  have := congrArg ordR h
  simp only [ordR_ck a.isLt, ordR_ck b.isLt] at this
  exact Fin.ext (by have := a.isLt; have := b.isLt; omega)

end Cert.KernelIdeal.Step
-- ==== Proof.Arrays.lean ====
/- The arrays the call leaves, once every grid point has its chunk's inputs: each output row is the gradient of its token. -/
module

public import proofs.«01_k».proof.Proof.GridF
public import proofs.«01_k».proof.Proof.GridR

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

/-- The blocks of the windows at the grid points. -/
theorem idxF : ∀ t : Fin cfg0.N, win0_0.index t = ![(ckF t.val).val, 3] ∧ win0_1.index t = ![(ckF t.val).val, 4]
    ∧ win0_2.index t = ![(ckF t.val).val, 6] ∧ win0_3.index t = ![0, 0] ∧ win0_4.index t = ![(ckF t.val).val, 0, 0, 0]
    ∧ win0_5.index t = ![min (ckF t.val).val 127, 0] ∧ win0_12.index t = ![(ckF t.val).val, 0] ∧ win0_13.index t = ![(ckF t.val).val, 0]
    ∧ win0_14.index t = ![(ckF t.val).val, 0] ∧ win0_15.index t = ![0, 0] :=
  (by decide +kernel : ∀ t : Fin grid0.N, win0_0.index t = ![(ckF t.val).val, 3] ∧ win0_1.index t = ![(ckF t.val).val, 4]
    ∧ win0_2.index t = ![(ckF t.val).val, 6] ∧ win0_3.index t = ![0, 0] ∧ win0_4.index t = ![(ckF t.val).val, 0, 0, 0]
    ∧ win0_5.index t = ![min (ckF t.val).val 127, 0] ∧ win0_12.index t = ![(ckF t.val).val, 0] ∧ win0_13.index t = ![(ckF t.val).val, 0]
    ∧ win0_14.index t = ![(ckF t.val).val, 0] ∧ win0_15.index t = ![0, 0])

theorem idxR : ∀ t : Fin cfg0.N, win0_6.index t = ![(ckR t.val).val, 3] ∧ win0_7.index t = ![(ckR t.val).val, 5]
    ∧ win0_8.index t = ![(ckR t.val).val, 6] ∧ win0_9.index t = ![0, 0] ∧ win0_10.index t = ![(ckR t.val).val, 0, 0, 0]
    ∧ win0_11.index t = ![min (ckR t.val).val 127, 0] ∧ win0_16.index t = ![(ckR t.val).val, 0] ∧ win0_17.index t = ![(ckR t.val).val, 0]
    ∧ win0_18.index t = ![(ckR t.val).val, 0] ∧ win0_19.index t = ![0, 0] :=
  (by decide +kernel : ∀ t : Fin grid0.N, win0_6.index t = ![(ckR t.val).val, 3] ∧ win0_7.index t = ![(ckR t.val).val, 5]
    ∧ win0_8.index t = ![(ckR t.val).val, 6] ∧ win0_9.index t = ![0, 0] ∧ win0_10.index t = ![(ckR t.val).val, 0, 0, 0]
    ∧ win0_11.index t = ![min (ckR t.val).val 127, 0] ∧ win0_16.index t = ![(ckR t.val).val, 0] ∧ win0_17.index t = ![(ckR t.val).val, 0]
    ∧ win0_18.index t = ![(ckR t.val).val, 0] ∧ win0_19.index t = ![0, 0])

theorem last_point (t : Fin cfg0.N) (h : t.val % 132 = 131) : t.val = 131 := by
  have ht : t.val < 132 := t.isLt
  omega

/-- A chunk's rows laid over the tokens, at the block of that chunk. -/
theorem toks_emb (f : Fin 132 → Fin 64 → Fin 1024 → ℝ) (k : Fin 132) (r : Fin 64) (x : Fin 1024) (i : Fin 8448) (j : Fin 1024)
    (hi : i.val = k.val * 64 + r.val) (hj : j.val = x.val) : toks f (ix2 i j) = ((f k r x : ℝ) : EReal) := by
  rw [toks_ix]
  obtain rfl : j = x := Fin.ext hj
  have h1 : ck i = k := Fin.ext (by simp only [ck]; omega)
  have h2 : rwt i = r := Fin.ext (by simp only [rwt]; omega)
  rw [h1, h2]

variable {m : (ℓ : Loc nD τ sig) → Buf (Elt Ideal) ℓ} {c : Dev nD} {z q v dO : Fin 132 × Fin 64 → Fin 1024 → ℝ} {lb : Fin 1024 → ℝ}
variable {S : Fin 132 → Fin 8 → Fin 128 → Fin 128 → ℝ}

theorem arr12 (hin : ∀ t : Fin cfg0.N, InF m c t z q v dO lb S (ckF t.val)) : (dats m 0 c).arrAt 12 cfg0.N = toks (gdq leF z v dO lb S) := by
  refine (dats m 0 c).arrAt_eq_of_covers 12 _ (by decide +kernel) fun t hf y => ?_
  blk_simp
  rw [after0_12]
  frame_out
  rw [dqF_at hin t]
  idx_vars y
  rw [up2_ix]
  symm
  refine (congrArg _ (ix2_eta _)).trans (toks_emb _ _ _ _ _ _ ?_ ?_)
  · blk_simp [idxF t]
  · blk_simp [idxF t]

theorem arr13 (hin : ∀ t : Fin cfg0.N, InF m c t z q v dO lb S (ckF t.val)) : (dats m 0 c).arrAt 13 cfg0.N = toks (gdz leF z q v dO lb S (Ds ordF leF z q dO lb)) := by
  refine (dats m 0 c).arrAt_eq_of_covers 13 _ (by decide +kernel) fun t hf y => ?_
  blk_simp
  rw [after0_13]
  frame_out
  rw [dzF_at hin t]
  idx_vars y
  rw [up2_ix]
  symm
  refine (congrArg _ (ix2_eta _)).trans (toks_emb _ _ _ _ _ _ ?_ ?_)
  · blk_simp [idxF t]
  · blk_simp [idxF t]

theorem arr14 (hin : ∀ t : Fin cfg0.N, InF m c t z q v dO lb S (ckF t.val)) : (dats m 0 c).arrAt 14 cfg0.N = toks (gdv leF z q dO lb (Ds ordF leF z q dO lb)) := by
  refine (dats m 0 c).arrAt_eq_of_covers 14 _ (by decide +kernel) fun t hf y => ?_
  blk_simp
  rw [after0_14]
  frame_out
  rw [dvF_at hin t]
  idx_vars y
  rw [up2_ix]
  symm
  refine (congrArg _ (ix2_eta _)).trans (toks_emb _ _ _ _ _ _ ?_ ?_)
  · blk_simp [idxF t]
  · blk_simp [idxF t]

theorem arr15 (hin : ∀ t : Fin cfg0.N, InF m c t z q v dO lb S (ckF t.val)) :
    (dats m 0 c).arrAt 15 cfg0.N = row fun x => ∑ k, gdlb leF z q v dO lb S (Ds ordF leF z q dO lb) k x := by
  refine (dats m 0 c).arrAt_eq_of_covers 15 _ (by decide +kernel) fun t hf y => ?_
  blk_simp
  rw [after0_15]
  frame_out
  have key : ∀ (n : ℕ) (hn : n < cfg0.N), n = 131 → (outsAt0 m c n hn).2.2.2.1 = row fun x => ∑ k, gdlb leF z q v dO lb S (Ds ordF leF z q dO lb) k x :=
    fun n hn e => by subst e; exact dlbF_end hin hn
  rw [key _ _ (last_point t ((flush0_15 t).mp hf))]
  blk_ext [idxF t]

theorem arr16 (hin : ∀ t : Fin cfg0.N, InR m c t z q v dO lb S (ckR t.val)) : (dats m 0 c).arrAt 16 cfg0.N = toks (gdq leR z v dO lb S) := by
  refine (dats m 0 c).arrAt_eq_of_covers 16 _ (by decide +kernel) fun t hf y => ?_
  blk_simp
  rw [after0_16]
  frame_out
  rw [dqR_at hin t]
  idx_vars y
  rw [up2_ix]
  symm
  refine (congrArg _ (ix2_eta _)).trans (toks_emb _ _ _ _ _ _ ?_ ?_)
  · blk_simp [idxR t]
  · blk_simp [idxR t]

theorem arr17 (hin : ∀ t : Fin cfg0.N, InR m c t z q v dO lb S (ckR t.val)) : (dats m 0 c).arrAt 17 cfg0.N = toks (gdz leR z q v dO lb S (Ds ordR leR z q dO lb)) := by
  refine (dats m 0 c).arrAt_eq_of_covers 17 _ (by decide +kernel) fun t hf y => ?_
  blk_simp
  rw [after0_17]
  frame_out
  rw [dzR_at hin t]
  idx_vars y
  rw [up2_ix]
  symm
  refine (congrArg _ (ix2_eta _)).trans (toks_emb _ _ _ _ _ _ ?_ ?_)
  · blk_simp [idxR t]
  · blk_simp [idxR t]

theorem arr18 (hin : ∀ t : Fin cfg0.N, InR m c t z q v dO lb S (ckR t.val)) : (dats m 0 c).arrAt 18 cfg0.N = toks (gdv leR z q dO lb (Ds ordR leR z q dO lb)) := by
  refine (dats m 0 c).arrAt_eq_of_covers 18 _ (by decide +kernel) fun t hf y => ?_
  blk_simp
  rw [after0_18]
  frame_out
  rw [dvR_at hin t]
  idx_vars y
  rw [up2_ix]
  symm
  refine (congrArg _ (ix2_eta _)).trans (toks_emb _ _ _ _ _ _ ?_ ?_)
  · blk_simp [idxR t]
  · blk_simp [idxR t]

theorem arr19 (hin : ∀ t : Fin cfg0.N, InR m c t z q v dO lb S (ckR t.val)) :
    (dats m 0 c).arrAt 19 cfg0.N = row fun x => ∑ k, gdlb leR z q v dO lb S (Ds ordR leR z q dO lb) k x := by
  refine (dats m 0 c).arrAt_eq_of_covers 19 _ (by decide +kernel) fun t hf y => ?_
  blk_simp
  rw [after0_19]
  frame_out
  have key : ∀ (n : ℕ) (hn : n < cfg0.N), n = 131 → (outsAt0 m c n hn).2.2.2.2.2.2.2.1 = row fun x => ∑ k, gdlb leR z q v dO lb S (Ds ordR leR z q dO lb) k x :=
    fun n hn e => by subst e; exact dlbR_end hin hn
  rw [key _ _ (last_point t ((flush0_19 t).mp hf))]
  blk_ext [idxR t]

end Cert.KernelIdeal.Step
-- ==== Proof.Tok.lean ====
/- Tokens as pairs of a chunk and a row: the words that say when a token is read, compared, and sums over tokens. -/
module

public import proofs.«01_k».proof.Proof.Up

@[expose] public section

set_option maxRecDepth 16384

noncomputable section

namespace Cert.Up

open Idealize.ShloMosaic

/-- A token's chunk and row. -/
def pr (t : Fin 8448) : Fin 132 × Fin 64 := (ck t, rwt t)

theorem pr_tk (s : Fin 132 × Fin 64) : pr (tk s) = s := Prod.ext (ck_tk s) (rwt_tk s)

theorem sum_pr (f : Fin 132 × Fin 64 → ℝ) : ∑ t : Fin 8448, f (pr t) = ∑ s, f s :=
  Fintype.sum_equiv ⟨pr, tk, tk_ck_rwt, pr_tk⟩ _ _ fun _ => rfl

/-- When the forward scan reads a token, as a word. -/
def pwF (t : ℕ) : BitVec 32 :=
  Scalar.select (IntOp.cmpi CmpIPredicate.slt (BitVec.ofNat 32 t) 8192#32) (IntOp.addi (BitVec.ofNat 32 t) 256#32) (IntOp.subi (BitVec.ofNat 32 t) 8192#32)

/-- When the reverse scan reads a token, as a word. -/
def pwR (t : ℕ) : BitVec 32 := IntOp.subi 8447#32 (BitVec.ofNat 32 t)

theorem pwF_eq : ∀ t : Fin 8448, pwF t.val = BitVec.ofNat 32 (64 * ordF (ck t) + (rwt t).val) := by decide +kernel

theorem pwR_eq : ∀ t : Fin 8448, pwR t.val = BitVec.ofNat 32 (64 * ordR (ck t) + (63 - (rwt t).val)) := by decide +kernel

theorem toInt_small (a : ℕ) (h : a < 8448) : (BitVec.ofNat 32 a).toInt = a := by
  have e : (BitVec.ofNat 32 a).toNat = a := by rw [BitVec.toNat_ofNat]; omega
  rw [BitVec.toInt_eq_toNat_cond, e, if_pos (by omega)]

theorem sel_lt {α : Type} (a b : ℕ) (ha : a < 8448) (hb : b < 8448) (x y : α) :
    Scalar.select (IntOp.cmpi CmpIPredicate.slt (BitVec.ofNat 32 a) (BitVec.ofNat 32 b)) x y = if a < b then x else y := by
  have e : (BitVec.ofNat 32 a).slt (BitVec.ofNat 32 b) = decide (a < b) := by
    simp only [BitVec.slt, toInt_small a ha, toInt_small b hb, Nat.cast_lt]
  by_cases h : a < b
  · simp [IntOp.cmpi, e, h, Scalar.select]
  · simp [IntOp.cmpi, e, h, Scalar.select]

theorem sel_le {α : Type} (a b : ℕ) (ha : a < 8448) (hb : b < 8448) (x y : α) :
    Scalar.select (IntOp.cmpi CmpIPredicate.sle (BitVec.ofNat 32 a) (BitVec.ofNat 32 b)) x y = if a ≤ b then x else y := by
  have e : (BitVec.ofNat 32 a).sle (BitVec.ofNat 32 b) = decide (a ≤ b) := by
    simp only [BitVec.sle, toInt_small a ha, toInt_small b hb, Nat.cast_le]
  by_cases h : a ≤ b
  · simp [IntOp.cmpi, e, h, Scalar.select]
  · simp [IntOp.cmpi, e, h, Scalar.select]

theorem ordF_lt (c : Fin 132) : ordF c < 132 := Nat.mod_lt _ (by omega)

theorem ordR_lt (c : Fin 132) : ordR c < 132 := by simp only [ordR]; omega

instance decSeen (ord : Fin 132 → ℕ) (le : Fin 64 → Fin 64 → Prop) [DecidableRel le] (t s : Fin 132 × Fin 64) : Decidable (Scan.seen ord le t s) :=
  inferInstance

/-- The forward scan reads `s` no later than `t`. -/
theorem seenF {α : Type} (t s : Fin 8448) (x y : α) :
    Scalar.select (IntOp.cmpi CmpIPredicate.sle (pwF s.val) (pwF t.val)) x y = if Scan.seen ordF leF (pr t) (pr s) then x else y := by
  have h1 := ordF_lt (ck t); have h2 := ordF_lt (ck s); have h3 := (rwt t).isLt; have h4 := (rwt s).isLt
  rw [pwF_eq, pwF_eq, sel_le _ _ (by omega) (by omega)]
  refine if_congr ?_ rfl rfl
  simp only [Scan.seen, pr, leF, ← ordF_inj.eq_iff]
  omega

theorem seenR {α : Type} (t s : Fin 8448) (x y : α) :
    Scalar.select (IntOp.cmpi CmpIPredicate.sle (pwR s.val) (pwR t.val)) x y = if Scan.seen ordR leR (pr t) (pr s) then x else y := by
  have h1 := ordR_lt (ck t); have h2 := ordR_lt (ck s); have h3 := (rwt t).isLt; have h4 := (rwt s).isLt
  rw [pwR_eq, pwR_eq, sel_le _ _ (by omega) (by omega)]
  refine if_congr ?_ rfl rfl
  simp only [Scan.seen, pr, leR, ← ordR_inj.eq_iff]
  omega

/-- The forward scan reads `s` before the chunk `c`, whose first token it reads first. -/
theorem pastF {α : Type} (c : Fin 132) (s : Fin 8448) (x y : α) :
    Scalar.select (IntOp.cmpi CmpIPredicate.slt (pwF s.val) (pwF (64 * c.val))) x y = if ordF (pr s).1 < ordF c then x else y := by
  have h1 := ordF_lt c; have h2 := ordF_lt (ck s); have h4 := (rwt s).isLt; have h5 := c.isLt
  have e : pwF (64 * c.val) = BitVec.ofNat 32 (64 * ordF c) := by
    have h := pwF_eq (tk (c, 0)); rw [ck_tk, rwt_tk] at h; exact h
  rw [pwF_eq, e, sel_lt _ _ (by omega) (by omega)]
  refine if_congr ?_ rfl rfl
  simp only [pr]
  omega

/-- The reverse scan reads `s` before the chunk `c`, whose last token it reads first. -/
theorem pastR {α : Type} (c : Fin 132) (s : Fin 8448) (x y : α) :
    Scalar.select (IntOp.cmpi CmpIPredicate.slt (pwR s.val) (pwR (63 + 64 * c.val))) x y = if ordR (pr s).1 < ordR c then x else y := by
  have h1 := ordR_lt c; have h2 := ordR_lt (ck s); have h4 := (rwt s).isLt; have h5 := c.isLt
  have e : pwR (63 + 64 * c.val) = BitVec.ofNat 32 (64 * ordR c) := by
    have h := pwR_eq (tk (c, 63)); rw [ck_tk, rwt_tk, show (tk (c, 63)).val = 63 + 64 * c.val from Nat.add_comm _ _] at h; exact h
  rw [pwR_eq, e, sel_lt _ _ (by omega) (by omega)]
  refine if_congr ?_ rfl rfl
  simp only [pr]
  omega

end Cert.Up
-- ==== Proof.Reads.lean ====
/- What one direction of the scan reads: the columns of the projected input, the lower bounds and the gradient of the output
   as real numbers, and the gates made of them. -/
module

public import proofs.«01_k».proof.Proof.Tok

@[expose] public section

set_option maxRecDepth 16384

noncomputable section

namespace Cert.Up

open Idealize.ShloMosaic

section

/-- Queries, gate inputs, values, lower bounds and the output's gradient are the real numbers `q z v lb dO`; the gate inputs begin
    at column `zo`; the gates are positive; within a chunk the summed log gates stay within eighty of those of the middle row. -/
structure Reads (le : Fin 64 → Fin 64 → Prop) [DecidableRel le] (zo : ℕ) (U : (⟨2, ![8448, 12288]⟩ : Shape).Idx → EReal)
    (L : (⟨2, ![1, 1024]⟩ : Shape).Idx → EReal) (O : (⟨2, ![8192, 1024]⟩ : Shape).Idx → EReal)
    (z q v dO : Fin 132 × Fin 64 → Fin 1024 → ℝ) (lb : Fin 1024 → ℝ) : Prop where
  hq : ∀ (s : Fin 8448) (j : Fin 12288) (x : Fin 1024), j.val = 3072 + x.val → U (ix2 s j) = ((q (pr s) x : ℝ) : EReal)
  hz : ∀ (s : Fin 8448) (j : Fin 12288) (x : Fin 1024), j.val = zo + x.val → U (ix2 s j) = ((z (pr s) x : ℝ) : EReal)
  hv : ∀ (s : Fin 8448) (j : Fin 12288) (x : Fin 1024), j.val = 6144 + x.val → U (ix2 s j) = ((v (pr s) x : ℝ) : EReal)
  hl : ∀ x : Fin 1024, L (ix2 0 x) = ((lb x : ℝ) : EReal)
  ho : ∀ (s : Fin 8192) (x : Fin 1024), O (ix2 s x) = ((dO (pr ⟨s.val, by omega⟩) x : ℝ) : EReal)
  hpad : ∀ (c : Fin 132) (r : Fin 64) (x : Fin 1024), 128 ≤ c.val → dO (c, r) x = 0
  hf : ∀ t x, 0 < fg z lb t x
  hcl : ∀ k r x, |Scan.cl le (lg z lb) k r x - md le (lg z lb) k x| ≤ 80

/-- The states of all chunks as an array. -/
def sts (S : Fin 132 → Fin 8 → Fin 128 → Fin 128 → ℝ) : (⟨4, ![132, 8, 128, 128]⟩ : Shape).Idx → EReal :=
  fun i => ((S (i 0) (i 1) (i 2) (i 3) : ℝ) : EReal)

theorem sts_ix (S : Fin 132 → Fin 8 → Fin 128 → Fin 128 → ℝ) (i : Fin 132) (h : Fin 8) (j k : Fin 128) :
    sts S (ix4 i h j k) = ((S i h j k : ℝ) : EReal) := rfl

variable {le : Fin 64 → Fin 64 → Prop} [DecidableRel le] {zo : ℕ} {U : (⟨2, ![8448, 12288]⟩ : Shape).Idx → EReal}
  {L : (⟨2, ![1, 1024]⟩ : Shape).Idx → EReal} {O : (⟨2, ![8192, 1024]⟩ : Shape).Idx → EReal}
  {z q v dO : Fin 132 × Fin 64 → Fin 1024 → ℝ} {lb : Fin 1024 → ℝ}

theorem Reads.q_at (H : Reads le zo U L O z q v dO lb) (s : Fin 8448) (h : Fin 8) (k : Fin 128) (p : 3072 + (h.val * 128 + k.val) < 12288) :
    U (ix2 s ⟨3072 + (h.val * 128 + k.val), p⟩) = ((hs q h (pr s) k : ℝ) : EReal) :=
  H.hq s _ (col h k) (by simp only [col]; omega)

theorem Reads.z_at (H : Reads le zo U L O z q v dO lb) (s : Fin 8448) (h : Fin 8) (k : Fin 128) (p : zo + (h.val * 128 + k.val) < 12288) :
    U (ix2 s ⟨zo + (h.val * 128 + k.val), p⟩) = ((hs z h (pr s) k : ℝ) : EReal) :=
  H.hz s _ (col h k) (by simp only [col]; omega)

theorem Reads.v_at (H : Reads le zo U L O z q v dO lb) (s : Fin 8448) (h : Fin 8) (k : Fin 128) (p : 6144 + (h.val * 128 + k.val) < 12288) :
    U (ix2 s ⟨6144 + (h.val * 128 + k.val), p⟩) = ((hs v h (pr s) k : ℝ) : EReal) :=
  H.hv s _ (col h k) (by simp only [col]; omega)

theorem Reads.l_at (H : Reads le zo U L O z q v dO lb) (h : Fin 8) (k : Fin 128) (p : h.val * 128 + k.val < 1024) :
    L (ix2 0 ⟨h.val * 128 + k.val, p⟩) = ((lb (col h k) : ℝ) : EReal) := by
  rw [← H.hl]
  exact congrArg (fun x => L (ix2 0 x)) (Fin.ext (by simp only [col]; omega))

theorem Reads.f_at (H : Reads le zo U L O z q v dO lb) (s : Fin 8448) (h : Fin 8) (k : Fin 128) :
    ((lb (col h k) : ℝ) : EReal) + (1 - ((lb (col h k) : ℝ) : EReal)) * Ideal.div 1 (1 + Ideal.exp (-((hs z h (pr s) k : ℝ) : EReal)))
      = ((hs (fg z lb) h (pr s) k : ℝ) : EReal) := by
  rw [← EReal.coe_neg, Ideal.exp_coe, ← EReal.coe_one, ← EReal.coe_add, Ideal.div_coe (by positivity)]
  simp only [← EReal.coe_mul, ← EReal.coe_sub, ← EReal.coe_add, hs, fg, sg, one_mul, one_div]

theorem Reads.lf_at (H : Reads le zo U L O z q v dO lb) (s : Fin 8448) (h : Fin 8) (k : Fin 128) :
    Ideal.log ((hs (fg z lb) h (pr s) k : ℝ) : EReal) = ((hs (lg z lb) h (pr s) k : ℝ) : EReal) := by
  rw [Ideal.log_coe, if_neg (not_le.mpr (show 0 < hs (fg z lb) h (pr s) k from H.hf _ _))]
  rfl

theorem Reads.o_at (H : Reads le zo U L O z q v dO lb) (t : Fin 8448) (h : Fin 8) (k : Fin 128) (p : h.val * 128 + k.val < 1024) :
    (if b : t.val < 8192 then O (ix2 ⟨t.val, b⟩ ⟨h.val * 128 + k.val, p⟩) else 0) = ((hs dO h (pr t) k : ℝ) : EReal) := by
  have e : (⟨h.val * 128 + k.val, p⟩ : Fin 1024) = col h k := Fin.ext (by simp only [col]; omega)
  rw [e]
  split
  · exact H.ho _ _
  · exact congrArg Real.toEReal (H.hpad (ck t) (rwt t) (col h k) (by simp only [ck]; omega)).symm

theorem sg_real (z : Fin 132 × Fin 64 → Fin 1024 → ℝ) (t : Fin 8448) (x : Fin 1024) :
    Ideal.div 1 (1 + Ideal.exp (-((z (pr t) x : ℝ) : EReal))) = ((sg z (pr t) x : ℝ) : EReal) := by
  rw [← EReal.coe_neg, Ideal.exp_coe, ← EReal.coe_one, ← EReal.coe_add, Ideal.div_coe (by positivity)]
  simp only [← EReal.coe_mul, sg, one_mul, one_div]

theorem neg_inf : Ideal.ofBits FTy.f32 4286578688#32 = ⊥ := by
  simp [Ideal.ofBits, Ideal.ieee]

theorem exp_ite (p : Prop) [Decidable p] (a : ℝ) : Ideal.exp (if p then ((a : ℝ) : EReal) else ⊥) = ((if p then Real.exp a else 0 : ℝ) : EReal) := by
  split
  · exact Ideal.exp_coe a
  · simp

theorem pwF_def (t : ℕ) : Scalar.select (IntOp.cmpi CmpIPredicate.slt (BitVec.ofNat 32 t) 8192#32) (IntOp.addi (BitVec.ofNat 32 t) 256#32)
    (IntOp.subi (BitVec.ofNat 32 t) 8192#32) = pwF t := rfl

theorem pwR_def (t : ℕ) : IntOp.subi 8447#32 (BitVec.ofNat 32 t) = pwR t := rfl

end

end Cert.Up
-- ==== Proof.States.lean ====
/- The states before the chunks, as the program's host lines compute them: the sums over the tokens already read. -/
module

public import proofs.«01_k».proof.Proof.Arrays
public import proofs.«01_k».proof.Proof.Reads
public import Idealize.ShloMosaic.Lib.Tactic.CleanTypes

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable {m : (ℓ : Loc nD τ sig) → Buf (Elt Ideal) ℓ} {c : Dev nD}

theorem statesF {z q v dO : Fin 132 × Fin 64 → Fin 1024 → ℝ} {lb : Fin 1024 → ℝ}
    (H : Reads leF 4096 (m (c, Proc.devRef .tc main_arg0)) (m (c, Proc.devRef .tc main_arg1)) (m (c, Proc.devRef .tc main_arg3)) z q v dO lb) :
    (V m c main_v60 : FVec Ideal S132x8x128x128 .f32) = sts (Ss ordF leF z v lb) := by
  dsimp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil, List.cons_append,
    List.nil_append]
  after_results
  funext i
  idx_vars i
  simp only [StableHlo.TRef.toBuf, StableHlo.TRef.ofBuf, cast_eq, id]
  clean_types
  pointwise [sts_ix]
  simp only [H.z_at, H.v_at, H.l_at]
  simp only [H.f_at, H.lf_at]
  simp only [pwF_def, pastF, seenF, neg_inf, ← EReal.coe_zero, ← EReal.coe_one, coe_ite, coe_sum, ← EReal.coe_sub, exp_ite,
    ← EReal.coe_mul]
  refine congrArg Real.toEReal ?_
  simp only [Ss, Scan.St, Scan.G, Scan.cum, ← sum_pr]
  rfl

theorem statesR {z q v dO : Fin 132 × Fin 64 → Fin 1024 → ℝ} {lb : Fin 1024 → ℝ}
    (H : Reads leR 5120 (m (c, Proc.devRef .tc main_arg0)) (m (c, Proc.devRef .tc main_arg2)) (m (c, Proc.devRef .tc main_arg3)) z q v dO lb) :
    (V m c main_v116 : FVec Ideal S132x8x128x128 .f32) = sts (Ss ordR leR z v lb) := by
  dsimp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil, List.cons_append,
    List.nil_append]
  after_results
  funext i
  idx_vars i
  simp only [StableHlo.TRef.toBuf, StableHlo.TRef.ofBuf, cast_eq, id]
  clean_types
  pointwise [sts_ix]
  simp only [H.z_at, H.v_at, H.l_at]
  simp only [H.f_at, H.lf_at]
  simp only [pwR_def, pastR, seenR, neg_inf, ← EReal.coe_zero, ← EReal.coe_one, coe_ite, coe_sum, ← EReal.coe_sub, exp_ite,
    ← EReal.coe_mul]
  refine congrArg Real.toEReal ?_
  simp only [Ss, Scan.St, Scan.G, Scan.cum, ← sum_pr]
  rfl

end Cert.KernelIdeal.Step
-- ==== Proof.Inputs.lean ====
/- The blocks the call reads at a grid point are the rows of that point's chunk, once the arguments are real numbers. -/
module

public import proofs.«01_k».proof.Proof.States

@[expose] public section

set_option maxRecDepth 16384

noncomputable section

namespace Cert.KernelIdeal.Step

open Cert.KernelIdeal.Gen Cert.Up
open Idealize.ShloMosaic Idealize.ShloMosaic.TcCoe Idealize.ShloMosaic.Tactic Idealize.SL.Sem

variable {m : (ℓ : Loc nD τ sig) → Buf (Elt Ideal) ℓ} {c : Dev nD} {z q v dO : Fin 132 × Fin 64 → Fin 1024 → ℝ} {lb : Fin 1024 → ℝ}

/-- Where the chunk has an output gradient. -/
theorem maskF : ∀ t : Fin cfg0.N, Scalar.cmpi .slt (Scalar.select (Scalar.cmpi .slt (Scalar.subi 131#32 (BitVec.ofNat 32 (grid0.coords t 0).val)) 4#32)
    (Scalar.addi 128#32 (Scalar.subi 131#32 (BitVec.ofNat 32 (grid0.coords t 0).val)))
    (Scalar.subi (Scalar.subi 131#32 (BitVec.ofNat 32 (grid0.coords t 0).val)) 4#32)) 128#32 = if (ckF t.val).val < 128 then 1#1 else 0#1 :=
  (by decide +kernel : ∀ t : Fin grid0.N, Scalar.cmpi .slt (Scalar.select (Scalar.cmpi .slt (Scalar.subi 131#32 (BitVec.ofNat 32 (grid0.coords t 0).val)) 4#32)
    (Scalar.addi 128#32 (Scalar.subi 131#32 (BitVec.ofNat 32 (grid0.coords t 0).val)))
    (Scalar.subi (Scalar.subi 131#32 (BitVec.ofNat 32 (grid0.coords t 0).val)) 4#32)) 128#32 = if (ckF t.val).val < 128 then 1#1 else 0#1)

theorem read_qF (H : Reads leF 4096 (m (c, Proc.devRef .tc main_arg0)) (m (c, Proc.devRef .tc main_arg1)) (m (c, Proc.devRef .tc main_arg3)) z q v dO lb)
    (t : Fin cfg0.N) : (iblk m c 0 t : Vec Ideal S64x1024 .f32) = ch q (ckF t.val) := by
  funext y
  idx_vars y
  have e : iblk m c 0 t (ix2 y0 y1) = V m c main_arg0 (ix2 (tk (ckF t.val, y0)) ⟨3072 + y1.val, by omega⟩) := by
    blk_ext [iblk, idxF t, tk]
  rw [e, V_main_arg0]
  refine (H.hq _ _ y1 rfl).trans ?_
  rw [pr_tk, ch_ix]

theorem read_zF (H : Reads leF 4096 (m (c, Proc.devRef .tc main_arg0)) (m (c, Proc.devRef .tc main_arg1)) (m (c, Proc.devRef .tc main_arg3)) z q v dO lb)
    (t : Fin cfg0.N) : (iblk m c 1 t : Vec Ideal S64x1024 .f32) = ch z (ckF t.val) := by
  funext y
  idx_vars y
  have e : iblk m c 1 t (ix2 y0 y1) = V m c main_arg0 (ix2 (tk (ckF t.val, y0)) ⟨4096 + y1.val, by omega⟩) := by
    blk_ext [iblk, idxF t, tk]
  rw [e, V_main_arg0]
  refine (H.hz _ _ y1 rfl).trans ?_
  rw [pr_tk, ch_ix]

theorem read_vF (H : Reads leF 4096 (m (c, Proc.devRef .tc main_arg0)) (m (c, Proc.devRef .tc main_arg1)) (m (c, Proc.devRef .tc main_arg3)) z q v dO lb)
    (t : Fin cfg0.N) : (iblk m c 2 t : Vec Ideal S64x1024 .f32) = ch v (ckF t.val) := by
  funext y
  idx_vars y
  have e : iblk m c 2 t (ix2 y0 y1) = V m c main_arg0 (ix2 (tk (ckF t.val, y0)) ⟨6144 + y1.val, by omega⟩) := by
    blk_ext [iblk, idxF t, tk]
  rw [e, V_main_arg0]
  refine (H.hv _ _ y1 rfl).trans ?_
  rw [pr_tk, ch_ix]

theorem read_lbF (H : Reads leF 4096 (m (c, Proc.devRef .tc main_arg0)) (m (c, Proc.devRef .tc main_arg1)) (m (c, Proc.devRef .tc main_arg3)) z q v dO lb)
    (t : Fin cfg0.N) : (iblk m c 3 t : Vec Ideal S1x1024 .f32) = row lb := by
  funext y
  idx_vars y
  have e : iblk m c 3 t (ix2 y0 y1) = V m c main_arg1 (ix2 0 y1) := by
    blk_ext [iblk, idxF t]
  rw [e, V_main_arg1]
  exact H.hl y1

theorem read_stF (H : Reads leF 4096 (m (c, Proc.devRef .tc main_arg0)) (m (c, Proc.devRef .tc main_arg1)) (m (c, Proc.devRef .tc main_arg3)) z q v dO lb)
    (t : Fin cfg0.N) : (iblk m c 4 t : Vec Ideal S1x8x128x128 .f32) = up4 (Ss ordF leF z v lb (ckF t.val)) := by
  funext y
  idx_vars y
  have e : iblk m c 4 t (ix4 y0 y1 y2 y3) = V m c main_v60 (ix4 (ckF t.val) y1 y2 y3) := by
    blk_ext [iblk, idxF t]
  rw [e, statesF H, sts_ix, up4_ix]

theorem read_doF (H : Reads leF 4096 (m (c, Proc.devRef .tc main_arg0)) (m (c, Proc.devRef .tc main_arg1)) (m (c, Proc.devRef .tc main_arg3)) z q v dO lb)
    (t : Fin cfg0.N) : (k0_pay29 (F := Ideal) (BitVec.ofNat 32 (grid0.coords t 0).val) (iblk m c 5 t) : Vec Ideal S64x1024 .bf16) = ch dO (ckF t.val) := by
  dsimp only [k0_pay29]
  rw [maskF t]
  funext y
  idx_vars y
  by_cases h : (ckF t.val).val < 128
  · have e : iblk m c 5 t (ix2 y0 y1) = V m c main_arg3 (ix2 ⟨64 * (ckF t.val).val + y0.val, by omega⟩ y1) := by
      blk_ext [iblk, idxF t, Nat.min_eq_left (show (ckF t.val).val ≤ 127 by omega)]
    rw [if_pos h]
    refine e.trans ?_
    rw [V_main_arg3]
    refine (H.ho _ y1).trans ?_
    rw [ch_ix, ← pr_tk (ckF t.val, y0)]
    rfl
  · rw [if_neg h, ch_ix, H.hpad _ _ _ (by omega)]
    pointwise []
    rfl

theorem inF (H : Reads leF 4096 (m (c, Proc.devRef .tc main_arg0)) (m (c, Proc.devRef .tc main_arg1)) (m (c, Proc.devRef .tc main_arg3)) z q v dO lb)
    (t : Fin cfg0.N) : InF m c t z q v dO lb (Ss ordF leF z v lb) (ckF t.val) :=
  ⟨read_qF H t, read_zF H t, read_vF H t, read_lbF H t, read_stF H t, read_doF H t, fun _ _ => H.hf _ _, fun _ _ => H.hcl _ _ _⟩

/-- Where the chunk has an output gradient. -/
theorem maskR : ∀ t : Fin cfg0.N, Scalar.cmpi .slt (Scalar.subi 131#32 (Scalar.subi 131#32 (BitVec.ofNat 32 (grid0.coords t 0).val))) 128#32 = if (ckR t.val).val < 128 then 1#1 else 0#1 :=
  (by decide +kernel : ∀ t : Fin grid0.N, Scalar.cmpi .slt (Scalar.subi 131#32 (Scalar.subi 131#32 (BitVec.ofNat 32 (grid0.coords t 0).val))) 128#32 = if (ckR t.val).val < 128 then 1#1 else 0#1)

theorem read_qR (H : Reads leR 5120 (m (c, Proc.devRef .tc main_arg0)) (m (c, Proc.devRef .tc main_arg2)) (m (c, Proc.devRef .tc main_arg3)) z q v dO lb)
    (t : Fin cfg0.N) : (iblk m c 6 t : Vec Ideal S64x1024 .f32) = ch q (ckR t.val) := by
  funext y
  idx_vars y
  have e : iblk m c 6 t (ix2 y0 y1) = V m c main_arg0 (ix2 (tk (ckR t.val, y0)) ⟨3072 + y1.val, by omega⟩) := by
    blk_ext [iblk, idxR t, tk]
  rw [e, V_main_arg0]
  refine (H.hq _ _ y1 rfl).trans ?_
  rw [pr_tk, ch_ix]

theorem read_zR (H : Reads leR 5120 (m (c, Proc.devRef .tc main_arg0)) (m (c, Proc.devRef .tc main_arg2)) (m (c, Proc.devRef .tc main_arg3)) z q v dO lb)
    (t : Fin cfg0.N) : (iblk m c 7 t : Vec Ideal S64x1024 .f32) = ch z (ckR t.val) := by
  funext y
  idx_vars y
  have e : iblk m c 7 t (ix2 y0 y1) = V m c main_arg0 (ix2 (tk (ckR t.val, y0)) ⟨5120 + y1.val, by omega⟩) := by
    blk_ext [iblk, idxR t, tk]
  rw [e, V_main_arg0]
  refine (H.hz _ _ y1 rfl).trans ?_
  rw [pr_tk, ch_ix]

theorem read_vR (H : Reads leR 5120 (m (c, Proc.devRef .tc main_arg0)) (m (c, Proc.devRef .tc main_arg2)) (m (c, Proc.devRef .tc main_arg3)) z q v dO lb)
    (t : Fin cfg0.N) : (iblk m c 8 t : Vec Ideal S64x1024 .f32) = ch v (ckR t.val) := by
  funext y
  idx_vars y
  have e : iblk m c 8 t (ix2 y0 y1) = V m c main_arg0 (ix2 (tk (ckR t.val, y0)) ⟨6144 + y1.val, by omega⟩) := by
    blk_ext [iblk, idxR t, tk]
  rw [e, V_main_arg0]
  refine (H.hv _ _ y1 rfl).trans ?_
  rw [pr_tk, ch_ix]

theorem read_lbR (H : Reads leR 5120 (m (c, Proc.devRef .tc main_arg0)) (m (c, Proc.devRef .tc main_arg2)) (m (c, Proc.devRef .tc main_arg3)) z q v dO lb)
    (t : Fin cfg0.N) : (iblk m c 9 t : Vec Ideal S1x1024 .f32) = row lb := by
  funext y
  idx_vars y
  have e : iblk m c 9 t (ix2 y0 y1) = V m c main_arg2 (ix2 0 y1) := by
    blk_ext [iblk, idxR t]
  rw [e, V_main_arg2]
  exact H.hl y1

theorem read_stR (H : Reads leR 5120 (m (c, Proc.devRef .tc main_arg0)) (m (c, Proc.devRef .tc main_arg2)) (m (c, Proc.devRef .tc main_arg3)) z q v dO lb)
    (t : Fin cfg0.N) : (iblk m c 10 t : Vec Ideal S1x8x128x128 .f32) = up4 (Ss ordR leR z v lb (ckR t.val)) := by
  funext y
  idx_vars y
  have e : iblk m c 10 t (ix4 y0 y1 y2 y3) = V m c main_v116 (ix4 (ckR t.val) y1 y2 y3) := by
    blk_ext [iblk, idxR t]
  rw [e, statesR H, sts_ix, up4_ix]

theorem read_doR (H : Reads leR 5120 (m (c, Proc.devRef .tc main_arg0)) (m (c, Proc.devRef .tc main_arg2)) (m (c, Proc.devRef .tc main_arg3)) z q v dO lb)
    (t : Fin cfg0.N) : k0_pay222 (F := Ideal) (Scalar.cmpi CmpIPredicate.slt (Scalar.subi (131#32) (Scalar.subi (131#32) (BitVec.ofNat 32 (grid0.coords t 0).val))) 128#32) (iblk m c 11 t) = ch dO (ckR t.val) := by
  dsimp only [k0_pay222]
  rw [maskR t]
  funext y
  idx_vars y
  by_cases h : (ckR t.val).val < 128
  · have e : iblk m c 11 t (ix2 y0 y1) = V m c main_arg3 (ix2 ⟨64 * (ckR t.val).val + y0.val, by omega⟩ y1) := by
      blk_ext [iblk, idxR t, Nat.min_eq_left (show (ckR t.val).val ≤ 127 by omega)]
    rw [if_pos h]
    refine e.trans ?_
    rw [V_main_arg3]
    refine (H.ho _ y1).trans ?_
    rw [ch_ix, ← pr_tk (ckR t.val, y0)]
    rfl
  · rw [if_neg h, ch_ix, H.hpad _ _ _ (by omega)]
    pointwise []
    rfl

theorem inR (H : Reads leR 5120 (m (c, Proc.devRef .tc main_arg0)) (m (c, Proc.devRef .tc main_arg2)) (m (c, Proc.devRef .tc main_arg3)) z q v dO lb)
    (t : Fin cfg0.N) : InR m c t z q v dO lb (Ss ordR leR z v lb) (ckR t.val) :=
  ⟨read_qR H t, read_zR H t, read_vR H t, read_lbR H t, read_stR H t, read_doR H t, fun _ _ => H.hf _ _, fun _ _ => H.hcl _ _ _⟩

end Cert.KernelIdeal.Step
-- ==== Proof.Exact.lean ====
/- One chunk's gradients, from the states before the chunks and the gradients of the states after them, are the sums over all tokens. -/
module

public import proofs.«01_k».proof.Proof.Reads

@[expose] public section

noncomputable section

namespace Cert.Up

open Idealize.ShloMosaic

section
variable (ord : Fin 132 → ℕ) (le : Fin 64 → Fin 64 → Prop) [DecidableRel le] (z q v dO : Fin 132 × Fin 64 → Fin 1024 → ℝ) (lb : Fin 1024 → ℝ)
variable (t : Fin 132 × Fin 64) (x : Fin 1024)

theorem gdq_eq : gdq le z v dO lb (Ss ord le z v lb) t.1 t.2 x
    = Scan.rdq ord le (hs (kg z lb) (hd x)) (hs (lg z lb) (hd x)) (hs v (hd x)) (hs dO (hd x)) t (ln x) :=
  Scan.kdq_eq ord le _ _ _ _ _ _ _ _

theorem gdk_eq : gdk le z q v dO lb (Ds ord le z q dO lb) t.1 t.2 x
    = Scan.rdk ord le (hs q (hd x)) (hs (lg z lb) (hd x)) (hs v (hd x)) (hs dO (hd x)) t (ln x) :=
  Scan.kdk_eq ord le _ _ _ _ _ _ _ _

theorem gdv_eq : gdv le z q dO lb (Ds ord le z q dO lb) t.1 t.2 x
    = Scan.rdv ord le (hs q (hd x)) (hs (kg z lb) (hd x)) (hs (lg z lb) (hd x)) (hs dO (hd x)) t (ln x) :=
  Scan.kdv_eq ord le _ _ _ _ _ _ _ _

theorem gdlf_eq (hord : Function.Injective ord) : gdlf le z q v dO lb (Ss ord le z v lb) (Ds ord le z q dO lb) t.1 t.2 x
    = Scan.rdlf ord le (hs q (hd x)) (hs (kg z lb) (hd x)) (hs (lg z lb) (hd x)) (hs v (hd x)) (hs dO (hd x)) t (ln x) :=
  Scan.kdlf_eq ord le _ _ _ _ _ _ hord _ _ _

/-- The gradient of the gates, as the sums over all tokens. -/
def rdf : ℝ :=
  -Scan.rdk ord le (hs q (hd x)) (hs (lg z lb) (hd x)) (hs v (hd x)) (hs dO (hd x)) t (ln x)
    + Scan.rdlf ord le (hs q (hd x)) (hs (kg z lb) (hd x)) (hs (lg z lb) (hd x)) (hs v (hd x)) (hs dO (hd x)) t (ln x) * (1 / fg z lb t x)

theorem gdf_eq (hord : Function.Injective ord) : gdf le z q v dO lb (Ss ord le z v lb) (Ds ord le z q dO lb) t.1 t.2 x = rdf ord le z q v dO lb t x := by
  unfold gdf rdf
  rw [gdlf_eq ord le z q v dO lb t x hord, gdk_eq ord le z q v dO lb t x]
  ring

theorem gdz_eq (hord : Function.Injective ord) : gdz le z q v dO lb (Ss ord le z v lb) (Ds ord le z q dO lb) t.1 t.2 x
    = (1 - lb x) * rdf ord le z q v dO lb t x * (sg z t x * (1 - sg z t x)) := by
  unfold gdz
  rw [gdf_eq ord le z q v dO lb t x hord]
  ring

theorem gdlb_eq (hord : Function.Injective ord) : ∑ c, gdlb le z q v dO lb (Ss ord le z v lb) (Ds ord le z q dO lb) c x
    = (∑ t, rdf ord le z q v dO lb t x) + -∑ t, rdf ord le z q v dO lb t x * sg z t x := by
  have e : ∀ c, gdlb le z q v dO lb (Ss ord le z v lb) (Ds ord le z q dO lb) c x
      = ∑ r, (rdf ord le z q v dO lb (c, r) x + -(rdf ord le z q v dO lb (c, r) x * sg z (c, r) x)) := fun c => by
    unfold gdlb
    refine Finset.sum_congr rfl fun r _ => ?_
    rw [show gdf le z q v dO lb (Ss ord le z v lb) (Ds ord le z q dO lb) c r x = rdf ord le z q v dO lb (c, r) x from
      gdf_eq ord le z q v dO lb (c, r) x hord]
    ring
  rw [Finset.sum_congr rfl fun c _ => e c, ← Scan.sum_tok fun t => rdf ord le z q v dO lb t x + -(rdf ord le z q v dO lb t x * sg z t x),
    Finset.sum_add_distrib, Finset.sum_neg_distrib]

end

section

/-- One row of real numbers for each token. -/
def tp (f : Fin 132 × Fin 64 → Fin 1024 → ℝ) : (⟨2, ![8448, 1024]⟩ : Shape).Idx → EReal := up2 fun t x => f (pr t) x

theorem tp_ix (f : Fin 132 × Fin 64 → Fin 1024 → ℝ) (t : Fin 8448) (x : Fin 1024) : tp f (ix2 t x) = ((f (pr t) x : ℝ) : EReal) := rfl

theorem tp_at (f : Fin 132 × Fin 64 → Fin 1024 → ℝ) (t : Fin 8448) (h : Fin 8) (k : Fin 128) (p : h.val * 128 + k.val < 1024) :
    tp f (ix2 t ⟨h.val * 128 + k.val, p⟩) = ((hs f h (pr t) k : ℝ) : EReal) := by
  rw [tp_ix]
  exact congrArg (fun x => ((f (pr t) x : ℝ) : EReal)) (Fin.ext (by simp only [col]; omega))

theorem toks_tp (f : Fin 132 → Fin 64 → Fin 1024 → ℝ) (g : Fin 132 × Fin 64 → Fin 1024 → ℝ) (h : ∀ t x, f t.1 t.2 x = g t x) : toks f = tp g :=
  funext fun i => congrArg Real.toEReal (h (pr (i 0)) (i 1))

theorem hd_def (x : Fin 1024) (p : x.val / 128 < 8) : (⟨x.val / 128, p⟩ : Fin 8) = hd x := rfl

theorem ln_def (x : Fin 1024) (p : x.val % 128 < 128) : (⟨x.val % 128, p⟩ : Fin 128) = ln x := rfl

end

end Cert.Up
-- ==== Proof.RefF.lean ====
/- The reference's arrays, forward direction: at arguments that are real numbers, each is the sum over all tokens that its text spells. -/
module

public import proofs.«01_k».proof.Proof.Exact
public import proofs.«01_k».proof.Proof.Gen.ReferenceIdeal.Run
public import Idealize.ShloMosaic.Lib.Tactic.CleanTypes
public import Idealize.ShloMosaic.Lib.Pipeline.ValueKit

@[expose] public section

set_option maxRecDepth 16384

noncomputable section

namespace Cert.ReferenceIdeal.Step

open Cert.ReferenceIdeal Cert.ReferenceIdeal.Gen Cert.ReferenceIdeal.Value Cert.Up
open Idealize.ShloMosaic Idealize.ShloMosaic.TcCoe Idealize.ShloMosaic.Tactic Idealize.SL.Sem

variable {V0 : Valuation τ sig (Elt Ideal)} {z q v dO : Fin 132 × Fin 64 → Fin 1024 → ℝ} {lb : Fin 1024 → ℝ}
variable (H : Reads leF 4096 (V0 (Proc.devRef .tc main_arg0)) (V0 (Proc.devRef .tc main_arg1)) (V0 (Proc.devRef .tc main_arg3)) z q v dO lb)
include H

theorem sgF_at : (res_main_v15 V0 : FVec Ideal S8448x1024 .f32) = tp (sg z) := by
  funext i
  idx_vars i
  dsimp only [res_main_v15]
  clean_types
  pointwise [tp_ix]
  rw [H.hz i0 _ i1 rfl]
  exact sg_real z i0 i1

theorem fF_at : (res_main_v22 V0 : FVec Ideal S8448x1024 .f32) = tp (fg z lb) := by
  funext i
  idx_vars i
  dsimp only [res_main_v22, res_main_v9]
  clean_types
  pointwise [sgF_at H, tp_ix]
  rw [H.hl]
  simp only [← EReal.coe_one, ← EReal.coe_sub, ← EReal.coe_mul, ← EReal.coe_add]
  rfl

theorem qF_at (t : Fin 8448) (h : Fin 8) (k : Fin 128) : (res_main_v55 V0 : FVec Ideal S8448x1x8x128 .f32) (ix4 t 0 h k) = ((hs q h (pr t) k : ℝ) : EReal) := by
  dsimp only [res_main_v55, res_main_v1]
  clean_types
  pointwise []
  exact H.q_at _ _ _ _

theorem kF_at (s : Fin 8448) (h : Fin 8) (k : Fin 128) : (res_main_v56 V0 : FVec Ideal S1x8448x8x128 .f32) (ix4 0 s h k) = ((hs (kg z lb) h (pr s) k : ℝ) : EReal) := by
  dsimp only [res_main_v56]
  clean_types
  pointwise [fF_at H, tp_at]
  simp only [← EReal.coe_one, ← EReal.coe_sub]
  rfl

theorem cumF_at (t : Fin 8448) (h : Fin 8) (k : Fin 128) : (res_main_v46 V0 : FVec Ideal S8448x8x128 .f32) (ix3 t h k)
    = ((Scan.cum ordF leF (hs (lg z lb) h) (pr t) k : ℝ) : EReal) := by
  dsimp only [res_main_v46, res_main_v45_1, res_main_v42, res_main_v37, res_main_v30]
  simp only [id]
  clean_types
  pointwise [fF_at H, tp_at]
  simp only [H.lf_at, pwF_def, seenF, ← EReal.coe_zero, coe_ite, coe_sum]
  refine congrArg Real.toEReal ?_
  simp only [Scan.cum, ← sum_pr]

theorem relF_at (t s : Fin 8448) (h : Fin 8) (k : Fin 128) : (res_main_v54 V0 : FVec Ideal S8448x8448x8x128 .f32) (ix4 t s h k)
    = ((Scan.rel ordF leF (hs (lg z lb) h) (pr t) (pr s) k : ℝ) : EReal) := by
  dsimp only [res_main_v54, res_main_v53_1, res_main_v42, res_main_v37, res_main_v30]
  simp only [id]
  clean_types
  pointwise [cumF_at H]
  simp only [pwF_def, seenF, neg_inf, ← EReal.coe_sub, exp_ite]
  rfl

theorem doF_at (h : Fin 8) (k : Fin 128) (t : Fin 8448) : (res_main_v67 V0 : FVec Ideal S8x128x8448 .f32) (ix3 h k t)
    = ((hs dO h (pr t) k : ℝ) : EReal) := by
  dsimp only [res_main_v67]
  clean_types
  pointwise []
  exact H.o_at t h k _

theorem dAF_at (t s : Fin 8448) (h : Fin 8) (k : Fin 128) : (res_main_v72 V0 : FVec Ideal S8448x8448x8x128 .f32) (ix4 t s h k)
    = ((Scan.dA (hs v h) (hs dO h) (pr t) (pr s) : ℝ) : EReal) := by
  dsimp only [res_main_v72, res_main_v29, res_main_v7]
  clean_types
  pointwise []
  simp only [H.v_at, doF_at H, ← EReal.coe_mul, coe_sum]
  rfl

theorem drF_at (t s : Fin 8448) (h : Fin 8) (k : Fin 128) : (res_main_v74 V0 : FVec Ideal S8448x8448x8x128 .f32) (ix4 t s h k)
    = ((Scan.dA (hs v h) (hs dO h) (pr t) (pr s) * Scan.rel ordF leF (hs (lg z lb) h) (pr t) (pr s) k : ℝ) : EReal) := by
  dsimp only [res_main_v74]
  clean_types
  pointwise [dAF_at H, relF_at H]
  simp only [← EReal.coe_mul]

theorem attF_at (t s : Fin 8448) (h : Fin 8) : (res_main_v61 V0 : FVec Ideal S8448x8448x8 .f32) (ix3 t s h)
    = ((∑ k, hs q h (pr t) k * hs (kg z lb) h (pr s) k * Scan.rel ordF leF (hs (lg z lb) h) (pr t) (pr s) k : ℝ) : EReal) := by
  dsimp only [res_main_v61, res_main_v59]
  clean_types
  pointwise [qF_at H, kF_at H, relF_at H]
  simp only [← EReal.coe_mul, coe_sum]

theorem WF_at (t s : Fin 8448) (h : Fin 8) (k : Fin 128) : (res_main_v86 V0 : FVec Ideal S8448x8448x8x128 .f32) (ix4 t s h k)
    = ((Scan.rW ordF leF (hs q h) (hs (kg z lb) h) (hs (lg z lb) h) (hs v h) (hs dO h) (pr t) (pr s) k : ℝ) : EReal) := by
  dsimp only [res_main_v86, res_main_v59, res_main_v53_1, res_main_v42, res_main_v37, res_main_v30]
  clean_types
  pointwise [qF_at H, kF_at H, dAF_at H, relF_at H]
  simp only [pwF_def, seenF, ← EReal.coe_mul, ← EReal.coe_zero, coe_ite]
  rfl

theorem dfF_at : (res_main_v104 V0 : FVec Ideal S8448x1024 .f32) = tp (rdf ordF leF z q v dO lb) := by
  funext i
  idx_vars i
  dsimp only [res_main_v104, res_main_v45_1, res_main_v42, res_main_v37, res_main_v30]
  clean_types
  pointwise [tp_ix]
  simp only [hd_def, ln_def, qF_at H, drF_at H, WF_at H, fF_at H, tp_ix]
  rw [Ideal.div_coe (H.hf _ _).ne']
  simp only [pwF_def, seenF, Finset.univ_unique, Finset.sum_singleton, ← EReal.coe_neg, ← EReal.coe_mul, ← EReal.coe_add, ← EReal.coe_zero, coe_ite, coe_sum]
  refine congrArg Real.toEReal ?_
  simp only [rdf, Scan.rdk, Scan.rdlf, Scan.rdcum, ← sum_pr]

theorem res_dqF : (truncf .bf16 (shapeCast _ (Host.reduceAdd (shapeCast _ (Host.reduceAdd (mulf (res_main_v74 V0) (broadcastInDim S8448x8448x8x128 ![0, 1, 2, 3] bcast_S1x8448x8x128_S8448x8448x8x128_0_1_2_3 (res_main_v56 V0))) (constant S_ .f32 0x00000000#32) reducesTo_S8448x8448x8x128_S8448x8x128_d1 h_S_) shapeCasts_S8448x8x128_S8448x1x8x128) (constant S_ .f32 0x00000000#32) reducesTo_S8448x1x8x128_S8448x8x128_d1 h_S_) shapeCasts_S8448x8x128_S8448x1024) bitsLt_bf16_f32 : FVec Ideal S8448x1024 .bf16) = toks (gdq leF z v dO lb (Ss ordF leF z v lb)) := by
  rw [toks_tp _ _ (gdq_eq ordF leF z v dO lb)]
  funext i
  idx_vars i
  clean_types
  pointwise [tp_ix]
  simp only [hd_def, ln_def, kF_at H, drF_at H, Finset.univ_unique, Finset.sum_singleton, ← EReal.coe_mul, coe_sum]
  refine congrArg Real.toEReal ?_
  simp only [Scan.rdq, ← sum_pr]

theorem res_dzF : (truncf .bf16 (mulf (mulf (broadcastInDim S8448x1024 ![0, 1] bcast_S1x1024_S8448x1024_0_1 (res_main_v9 V0)) (res_main_v104 V0)) (mulf (res_main_v15 V0) (subf (broadcastInDim S8448x1024 ![] bcast_S_S8448x1024 (constant S_ .f32 0x3F800000#32)) (res_main_v15 V0)))) bitsLt_bf16_f32 : FVec Ideal S8448x1024 .bf16) = toks (gdz leF z q v dO lb (Ss ordF leF z v lb) (Ds ordF leF z q dO lb)) := by
  rw [toks_tp _ _ fun t x => gdz_eq ordF leF z q v dO lb t x ordF_inj]
  funext i
  idx_vars i
  dsimp only [res_main_v9]
  clean_types
  pointwise [dfF_at H, sgF_at H, tp_ix]
  rw [H.hl]
  simp only [← EReal.coe_one, ← EReal.coe_sub, ← EReal.coe_mul]

theorem res_dvF : (truncf .bf16 (shapeCast _ (transpose S8448x8x128 [2, 0, 1] (Host.dotGeneral (φ₁ := .f32) (φ₂ := .f32) dot_S8x128x8448_S8448x8448x8_S8x128x8448_2_0_1_1_0_2 none (res_main_v67 V0) (res_main_v61 V0)) transposes_S8x128x8448_S8448x8x128_2_0_1) shapeCasts_S8448x8x128_S8448x1024) bitsLt_bf16_f32 : FVec Ideal S8448x1024 .bf16) = toks (gdv leF z q dO lb (Ds ordF leF z q dO lb)) := by
  rw [toks_tp _ _ (gdv_eq ordF leF z q dO lb)]
  funext i
  idx_vars i
  clean_types
  pointwise [tp_ix]
  simp only [hd_def, ln_def, attF_at H, doF_at H, ← EReal.coe_mul, coe_sum]
  refine congrArg Real.toEReal ?_
  simp only [Scan.rdv, ← sum_pr]

theorem res_dlbF : (addf (shapeCast _ (Host.reduceAdd (res_main_v104 V0) (constant S_ .f32 0x00000000#32) reducesTo_S8448x1024_S1024_d0 h_S_) shapeCasts_S1024_S1x1024) (Host.negf (shapeCast _ (Host.reduceAdd (mulf (res_main_v104 V0) (res_main_v15 V0)) (constant S_ .f32 0x00000000#32) reducesTo_S8448x1024_S1024_d0 h_S_) shapeCasts_S1024_S1x1024)) : FVec Ideal S1x1024 .f32)
    = row fun x => ∑ c, gdlb leF z q v dO lb (Ss ordF leF z v lb) (Ds ordF leF z q dO lb) c x := by
  funext i
  idx_vars i
  clean_types
  pointwise [dfF_at H, sgF_at H, tp_ix, row_ix]
  simp only [← EReal.coe_mul, coe_sum, ← EReal.coe_neg, ← EReal.coe_add]
  refine congrArg Real.toEReal ?_
  rw [gdlb_eq ordF leF z q v dO lb _ ordF_inj]
  simp only [← sum_pr]

end Cert.ReferenceIdeal.Step
-- ==== Proof.RefR.lean ====
/- The reference's arrays, reverse direction: at arguments that are real numbers, each is the sum over all tokens that its text spells. -/
module

public import proofs.«01_k».proof.Proof.Exact
public import proofs.«01_k».proof.Proof.Gen.ReferenceIdeal.Run
public import Idealize.ShloMosaic.Lib.Tactic.CleanTypes
public import Idealize.ShloMosaic.Lib.Pipeline.ValueKit

@[expose] public section

set_option maxRecDepth 16384

noncomputable section

namespace Cert.ReferenceIdeal.Step

open Cert.ReferenceIdeal Cert.ReferenceIdeal.Gen Cert.ReferenceIdeal.Value Cert.Up
open Idealize.ShloMosaic Idealize.ShloMosaic.TcCoe Idealize.ShloMosaic.Tactic Idealize.SL.Sem

variable {V0 : Valuation τ sig (Elt Ideal)} {z q v dO : Fin 132 × Fin 64 → Fin 1024 → ℝ} {lb : Fin 1024 → ℝ}
variable (H : Reads leR 5120 (V0 (Proc.devRef .tc main_arg0)) (V0 (Proc.devRef .tc main_arg2)) (V0 (Proc.devRef .tc main_arg3)) z q v dO lb)
include H

theorem sgR_at : (res_main_v125 V0 : FVec Ideal S8448x1024 .f32) = tp (sg z) := by
  funext i
  idx_vars i
  dsimp only [res_main_v125]
  clean_types
  pointwise [tp_ix]
  rw [H.hz i0 _ i1 rfl]
  exact sg_real z i0 i1

theorem fR_at : (res_main_v132 V0 : FVec Ideal S8448x1024 .f32) = tp (fg z lb) := by
  funext i
  idx_vars i
  dsimp only [res_main_v132, res_main_v119]
  clean_types
  pointwise [sgR_at H, tp_ix]
  rw [H.hl]
  simp only [← EReal.coe_one, ← EReal.coe_sub, ← EReal.coe_mul, ← EReal.coe_add]
  rfl

theorem qR_at (t : Fin 8448) (h : Fin 8) (k : Fin 128) : (res_main_v160 V0 : FVec Ideal S8448x1x8x128 .f32) (ix4 t 0 h k) = ((hs q h (pr t) k : ℝ) : EReal) := by
  dsimp only [res_main_v160, res_main_v1]
  clean_types
  pointwise []
  exact H.q_at _ _ _ _

theorem kR_at (s : Fin 8448) (h : Fin 8) (k : Fin 128) : (res_main_v161 V0 : FVec Ideal S1x8448x8x128 .f32) (ix4 0 s h k) = ((hs (kg z lb) h (pr s) k : ℝ) : EReal) := by
  dsimp only [res_main_v161]
  clean_types
  pointwise [fR_at H, tp_at]
  simp only [← EReal.coe_one, ← EReal.coe_sub]
  rfl

theorem cumR_at (t : Fin 8448) (h : Fin 8) (k : Fin 128) : (res_main_v151 V0 : FVec Ideal S8448x8x128 .f32) (ix3 t h k)
    = ((Scan.cum ordR leR (hs (lg z lb) h) (pr t) k : ℝ) : EReal) := by
  dsimp only [res_main_v151, res_main_v150_1, res_main_v147, res_main_v142]
  simp only [id]
  clean_types
  pointwise [fR_at H, tp_at]
  simp only [H.lf_at, pwR_def, seenR, ← EReal.coe_zero, coe_ite, coe_sum]
  refine congrArg Real.toEReal ?_
  simp only [Scan.cum, ← sum_pr]

theorem relR_at (t s : Fin 8448) (h : Fin 8) (k : Fin 128) : (res_main_v159 V0 : FVec Ideal S8448x8448x8x128 .f32) (ix4 t s h k)
    = ((Scan.rel ordR leR (hs (lg z lb) h) (pr t) (pr s) k : ℝ) : EReal) := by
  dsimp only [res_main_v159, res_main_v158_1, res_main_v147, res_main_v142]
  simp only [id]
  clean_types
  pointwise [cumR_at H]
  simp only [pwR_def, seenR, neg_inf, ← EReal.coe_sub, exp_ite]
  rfl

theorem doR_at (h : Fin 8) (k : Fin 128) (t : Fin 8448) : (res_main_v172 V0 : FVec Ideal S8x128x8448 .f32) (ix3 h k t)
    = ((hs dO h (pr t) k : ℝ) : EReal) := by
  dsimp only [res_main_v172]
  clean_types
  pointwise []
  exact H.o_at t h k _

theorem dAR_at (t s : Fin 8448) (h : Fin 8) (k : Fin 128) : (res_main_v177 V0 : FVec Ideal S8448x8448x8x128 .f32) (ix4 t s h k)
    = ((Scan.dA (hs v h) (hs dO h) (pr t) (pr s) : ℝ) : EReal) := by
  dsimp only [res_main_v177, res_main_v139, res_main_v7]
  clean_types
  pointwise []
  simp only [H.v_at, doR_at H, ← EReal.coe_mul, coe_sum]
  rfl

theorem drR_at (t s : Fin 8448) (h : Fin 8) (k : Fin 128) : (res_main_v179 V0 : FVec Ideal S8448x8448x8x128 .f32) (ix4 t s h k)
    = ((Scan.dA (hs v h) (hs dO h) (pr t) (pr s) * Scan.rel ordR leR (hs (lg z lb) h) (pr t) (pr s) k : ℝ) : EReal) := by
  dsimp only [res_main_v179]
  clean_types
  pointwise [dAR_at H, relR_at H]
  simp only [← EReal.coe_mul]

theorem attR_at (t s : Fin 8448) (h : Fin 8) : (res_main_v166 V0 : FVec Ideal S8448x8448x8 .f32) (ix3 t s h)
    = ((∑ k, hs q h (pr t) k * hs (kg z lb) h (pr s) k * Scan.rel ordR leR (hs (lg z lb) h) (pr t) (pr s) k : ℝ) : EReal) := by
  dsimp only [res_main_v166, res_main_v164]
  clean_types
  pointwise [qR_at H, kR_at H, relR_at H]
  simp only [← EReal.coe_mul, coe_sum]

theorem WR_at (t s : Fin 8448) (h : Fin 8) (k : Fin 128) : (res_main_v191 V0 : FVec Ideal S8448x8448x8x128 .f32) (ix4 t s h k)
    = ((Scan.rW ordR leR (hs q h) (hs (kg z lb) h) (hs (lg z lb) h) (hs v h) (hs dO h) (pr t) (pr s) k : ℝ) : EReal) := by
  dsimp only [res_main_v191, res_main_v164, res_main_v158_1, res_main_v147, res_main_v142]
  clean_types
  pointwise [qR_at H, kR_at H, dAR_at H, relR_at H]
  simp only [pwR_def, seenR, ← EReal.coe_mul, ← EReal.coe_zero, coe_ite]
  rfl

theorem dfR_at : (res_main_v209 V0 : FVec Ideal S8448x1024 .f32) = tp (rdf ordR leR z q v dO lb) := by
  funext i
  idx_vars i
  dsimp only [res_main_v209, res_main_v150_1, res_main_v147, res_main_v142]
  clean_types
  pointwise [tp_ix]
  simp only [hd_def, ln_def, qR_at H, drR_at H, WR_at H, fR_at H, tp_ix]
  rw [Ideal.div_coe (H.hf _ _).ne']
  simp only [pwR_def, seenR, Finset.univ_unique, Finset.sum_singleton, ← EReal.coe_neg, ← EReal.coe_mul, ← EReal.coe_add, ← EReal.coe_zero, coe_ite, coe_sum]
  refine congrArg Real.toEReal ?_
  simp only [rdf, Scan.rdk, Scan.rdlf, Scan.rdcum, ← sum_pr]

theorem res_dqR : (truncf .bf16 (shapeCast _ (Host.reduceAdd (shapeCast _ (Host.reduceAdd (mulf (res_main_v179 V0) (broadcastInDim S8448x8448x8x128 ![0, 1, 2, 3] bcast_S1x8448x8x128_S8448x8448x8x128_0_1_2_3 (res_main_v161 V0))) (constant S_ .f32 0x00000000#32) reducesTo_S8448x8448x8x128_S8448x8x128_d1 h_S_) shapeCasts_S8448x8x128_S8448x1x8x128) (constant S_ .f32 0x00000000#32) reducesTo_S8448x1x8x128_S8448x8x128_d1 h_S_) shapeCasts_S8448x8x128_S8448x1024) bitsLt_bf16_f32 : FVec Ideal S8448x1024 .bf16) = toks (gdq leR z v dO lb (Ss ordR leR z v lb)) := by
  rw [toks_tp _ _ (gdq_eq ordR leR z v dO lb)]
  funext i
  idx_vars i
  clean_types
  pointwise [tp_ix]
  simp only [hd_def, ln_def, kR_at H, drR_at H, Finset.univ_unique, Finset.sum_singleton, ← EReal.coe_mul, coe_sum]
  refine congrArg Real.toEReal ?_
  simp only [Scan.rdq, ← sum_pr]

theorem res_dzR : (truncf .bf16 (mulf (mulf (broadcastInDim S8448x1024 ![0, 1] bcast_S1x1024_S8448x1024_0_1 (res_main_v119 V0)) (res_main_v209 V0)) (mulf (res_main_v125 V0) (subf (broadcastInDim S8448x1024 ![] bcast_S_S8448x1024 (constant S_ .f32 0x3F800000#32)) (res_main_v125 V0)))) bitsLt_bf16_f32 : FVec Ideal S8448x1024 .bf16) = toks (gdz leR z q v dO lb (Ss ordR leR z v lb) (Ds ordR leR z q dO lb)) := by
  rw [toks_tp _ _ fun t x => gdz_eq ordR leR z q v dO lb t x ordR_inj]
  funext i
  idx_vars i
  dsimp only [res_main_v119]
  clean_types
  pointwise [dfR_at H, sgR_at H, tp_ix]
  rw [H.hl]
  simp only [← EReal.coe_one, ← EReal.coe_sub, ← EReal.coe_mul]

theorem res_dvR : (truncf .bf16 (shapeCast _ (transpose S8448x8x128 [2, 0, 1] (Host.dotGeneral (φ₁ := .f32) (φ₂ := .f32) dot_S8x128x8448_S8448x8448x8_S8x128x8448_2_0_1_1_0_2 none (res_main_v172 V0) (res_main_v166 V0)) transposes_S8x128x8448_S8448x8x128_2_0_1) shapeCasts_S8448x8x128_S8448x1024) bitsLt_bf16_f32 : FVec Ideal S8448x1024 .bf16) = toks (gdv leR z q dO lb (Ds ordR leR z q dO lb)) := by
  rw [toks_tp _ _ (gdv_eq ordR leR z q dO lb)]
  funext i
  idx_vars i
  clean_types
  pointwise [tp_ix]
  simp only [hd_def, ln_def, attR_at H, doR_at H, ← EReal.coe_mul, coe_sum]
  refine congrArg Real.toEReal ?_
  simp only [Scan.rdv, ← sum_pr]

theorem res_dlbR : (addf (shapeCast _ (Host.reduceAdd (res_main_v209 V0) (constant S_ .f32 0x00000000#32) reducesTo_S8448x1024_S1024_d0 h_S_) shapeCasts_S1024_S1x1024) (Host.negf (shapeCast _ (Host.reduceAdd (mulf (res_main_v209 V0) (res_main_v125 V0)) (constant S_ .f32 0x00000000#32) reducesTo_S8448x1024_S1024_d0 h_S_) shapeCasts_S1024_S1x1024)) : FVec Ideal S1x1024 .f32)
    = row fun x => ∑ c, gdlb leR z q v dO lb (Ss ordR leR z v lb) (Ds ordR leR z q dO lb) c x := by
  funext i
  idx_vars i
  clean_types
  pointwise [dfR_at H, sgR_at H, tp_ix, row_ix]
  simp only [← EReal.coe_mul, coe_sum, ← EReal.coe_neg, ← EReal.coe_add]
  refine congrArg Real.toEReal ?_
  rw [gdlb_eq ordR leR z q v dO lb _ ordR_inj]
  simp only [← sum_pr]

end Cert.ReferenceIdeal.Step
-- ==== Proof.Values.lean ====
/- What the two programs leave in their result arrays, at arguments in the range of the precondition: the same gradients. -/
module

public import proofs.«01_k».proof.Proof.Inputs
public import proofs.«01_k».proof.Proof.RefF
public import proofs.«01_k».proof.Proof.RefR

@[expose] public section

set_option maxRecDepth 16384

noncomputable section

namespace Cert.KernelIdeal.Step

open Cert.KernelIdeal Cert.KernelIdeal.Gen Cert.Up
open Idealize.ShloMosaic Idealize.ShloMosaic.TcCoe Idealize.SL.Sem

/-- What the kernel's run leaves: the eight gradients, and its arguments. -/
theorem values (m : (ℓ : Loc nD τ sig) → Buf (Elt Ideal) ℓ) (ρ : Dev nD → PrngReg)
    {zf zb q v dO : Dev nD → Fin 132 × Fin 64 → Fin 1024 → ℝ} {lf lr : Dev nD → Fin 1024 → ℝ}
    (HF : ∀ c : Dev nD, Reads leF 4096 (m (c, Proc.devRef .tc main_arg0)) (m (c, Proc.devRef .tc main_arg1)) (m (c, Proc.devRef .tc main_arg3)) (zf c) (q c) (v c) (dO c) (lf c))
    (HR : ∀ c : Dev nD, Reads leR 5120 (m (c, Proc.devRef .tc main_arg0)) (m (c, Proc.devRef .tc main_arg2)) (m (c, Proc.devRef .tc main_arg3)) (zb c) (q c) (v c) (dO c) (lr c)) :
    θ_run defs (onTc (τ := τ) (main (F := Ideal))) ⟨m, fun _ => 0, ρ⟩ fun r => ∀ c : Dev nD,
      r.2.mem ((c.tc : Thread nD τ).loc main_v117_0) = toks (gdq leF (zf c) (v c) (dO c) (lf c) (Ss ordF leF (zf c) (v c) (lf c)))
      ∧ r.2.mem ((c.tc : Thread nD τ).loc main_v117_1) = toks (gdz leF (zf c) (q c) (v c) (dO c) (lf c) (Ss ordF leF (zf c) (v c) (lf c)) (Ds ordF leF (zf c) (q c) (dO c) (lf c)))
      ∧ r.2.mem ((c.tc : Thread nD τ).loc main_v117_2) = toks (gdv leF (zf c) (q c) (dO c) (lf c) (Ds ordF leF (zf c) (q c) (dO c) (lf c)))
      ∧ r.2.mem ((c.tc : Thread nD τ).loc main_v117_3) = row (fun x => ∑ k, gdlb leF (zf c) (q c) (v c) (dO c) (lf c) (Ss ordF leF (zf c) (v c) (lf c)) (Ds ordF leF (zf c) (q c) (dO c) (lf c)) k x)
      ∧ r.2.mem ((c.tc : Thread nD τ).loc main_v117_4) = toks (gdq leR (zb c) (v c) (dO c) (lr c) (Ss ordR leR (zb c) (v c) (lr c)))
      ∧ r.2.mem ((c.tc : Thread nD τ).loc main_v117_5) = toks (gdz leR (zb c) (q c) (v c) (dO c) (lr c) (Ss ordR leR (zb c) (v c) (lr c)) (Ds ordR leR (zb c) (q c) (dO c) (lr c)))
      ∧ r.2.mem ((c.tc : Thread nD τ).loc main_v117_6) = toks (gdv leR (zb c) (q c) (dO c) (lr c) (Ds ordR leR (zb c) (q c) (dO c) (lr c)))
      ∧ r.2.mem ((c.tc : Thread nD τ).loc main_v117_7) = row (fun x => ∑ k, gdlb leR (zb c) (q c) (v c) (dO c) (lr c) (Ss ordR leR (zb c) (v c) (lr c)) (Ds ordR leR (zb c) (q c) (dO c) (lr c)) k x)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h.1 c).1 12).trans (arr12 (inF (HF c))), ((h.1 c).1 13).trans (arr13 (inF (HF c))), ((h.1 c).1 14).trans (arr14 (inF (HF c))),
      ((h.1 c).1 15).trans (arr15 (inF (HF c))), ((h.1 c).1 16).trans (arr16 (inR (HR c))), ((h.1 c).1 17).trans (arr17 (inR (HR c))),
      ((h.1 c).1 18).trans (arr18 (inR (HR c))), ((h.1 c).1 19).trans (arr19 (inR (HR c))), h.2 c⟩)
    (θ_run_and (run_main m ρ) (unchanged m ρ))

end Cert.KernelIdeal.Step

namespace Cert.ReferenceIdeal.Step

open Cert.ReferenceIdeal Cert.ReferenceIdeal.Gen Cert.Up
open Idealize.ShloMosaic Idealize.ShloMosaic.TcCoe Idealize.SL.Sem

/-- What the reference's run leaves: the same. -/
theorem values (m : (ℓ : Loc nD τ sig) → Buf (Elt Ideal) ℓ) (ρ : Dev nD → PrngReg)
    {zf zb q v dO : Dev nD → Fin 132 × Fin 64 → Fin 1024 → ℝ} {lf lr : Dev nD → Fin 1024 → ℝ}
    (HF : ∀ c : Dev nD, Reads leF 4096 (m (c, Proc.devRef .tc main_arg0)) (m (c, Proc.devRef .tc main_arg1)) (m (c, Proc.devRef .tc main_arg3)) (zf c) (q c) (v c) (dO c) (lf c))
    (HR : ∀ c : Dev nD, Reads leR 5120 (m (c, Proc.devRef .tc main_arg0)) (m (c, Proc.devRef .tc main_arg2)) (m (c, Proc.devRef .tc main_arg3)) (zb c) (q c) (v c) (dO c) (lr c)) :
    θ_run defs (onTc (τ := τ) (main (F := Ideal))) ⟨m, fun _ => 0, ρ⟩ fun r => ∀ c : Dev nD,
      r.2.mem ((c.tc : Thread nD τ).loc main_v115) = toks (gdq leF (zf c) (v c) (dO c) (lf c) (Ss ordF leF (zf c) (v c) (lf c)))
      ∧ r.2.mem ((c.tc : Thread nD τ).loc main_v116) = toks (gdz leF (zf c) (q c) (v c) (dO c) (lf c) (Ss ordF leF (zf c) (v c) (lf c)) (Ds ordF leF (zf c) (q c) (dO c) (lf c)))
      ∧ r.2.mem ((c.tc : Thread nD τ).loc main_v117) = toks (gdv leF (zf c) (q c) (dO c) (lf c) (Ds ordF leF (zf c) (q c) (dO c) (lf c)))
      ∧ r.2.mem ((c.tc : Thread nD τ).loc main_v114) = row (fun x => ∑ k, gdlb leF (zf c) (q c) (v c) (dO c) (lf c) (Ss ordF leF (zf c) (v c) (lf c)) (Ds ordF leF (zf c) (q c) (dO c) (lf c)) k x)
      ∧ r.2.mem ((c.tc : Thread nD τ).loc main_v220) = toks (gdq leR (zb c) (v c) (dO c) (lr c) (Ss ordR leR (zb c) (v c) (lr c)))
      ∧ r.2.mem ((c.tc : Thread nD τ).loc main_v221) = toks (gdz leR (zb c) (q c) (v c) (dO c) (lr c) (Ss ordR leR (zb c) (v c) (lr c)) (Ds ordR leR (zb c) (q c) (dO c) (lr c)))
      ∧ r.2.mem ((c.tc : Thread nD τ).loc main_v222) = toks (gdv leR (zb c) (q c) (dO c) (lr c) (Ds ordR leR (zb c) (q c) (dO c) (lr c)))
      ∧ r.2.mem ((c.tc : Thread nD τ).loc main_v219) = row (fun x => ∑ k, gdlb leR (zb c) (q c) (v c) (dO c) (lr c) (Ss ordR leR (zb c) (v c) (lr c)) (Ds ordR leR (zb c) (q c) (dO c) (lr c)) k x)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, h6, h7, h8⟩ := h c
    exact ⟨h0.trans (res_dqF (HF c)), h1.trans (res_dzF (HF c)), h2.trans (res_dvF (HF c)), h3.trans (res_dlbF (HF c)),
      h4.trans (res_dqR (HR c)), h5.trans (res_dzR (HR c)), h6.trans (res_dvR (HR c)), h7.trans (res_dlbR (HR c)), h8⟩)
    (Cert.ReferenceIdeal.Value.run m ρ)

/-- Every run ends, with the arguments unchanged and every semaphore at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2.2.2.2.2, sem_eq_zero_of_no_sems (by decide) r.2⟩)
    (Cert.ReferenceIdeal.Value.run m ρ)

end Cert.ReferenceIdeal.Step
-- ==== Proof.KernelFrame.lean ====
/- The kernel's program and the ideal one have the same text: the run of the one is the run of the other. -/
module

public import proofs.«01_k».proof.Defs
public import proofs.«01_k».proof.Proof.Gen.Kernel
public import proofs.«01_k».proof.Proof.IdealFrame

@[expose] public section

set_option maxRecDepth 65536
set_option maxHeartbeats 4000000

noncomputable section

open Idealize.ShloMosaic Idealize.ShloMosaic.TcCoe Idealize.SL.Sem

namespace Cert.Kernel.Same

variable {F : FTy → Type} [FloatOps F]

theorem body_eq : @Cert.Kernel.cc0_hg_bwd F _ _ = @Cert.KernelIdeal.cc0_hg_bwd F _ _ := by
  unfold Cert.Kernel.cc0_hg_bwd Cert.KernelIdeal.cc0_hg_bwd
  rfl

theorem bodies_eq : @Cert.Kernel.defs₀ F _ _ = @Cert.KernelIdeal.defs₀ F _ _ := by
  unfold Cert.Kernel.defs₀ Cert.KernelIdeal.defs₀
  refine congrArg Defs.onTc ?_
  funext n a
  match n, a with
  | 0, (t, s) =>
    dsimp only
    rw [body_eq]
    rfl

theorem defs_eq : @Cert.Kernel.defs F _ _ = @Cert.KernelIdeal.defs F _ _ := by
  unfold Cert.Kernel.defs Cert.KernelIdeal.defs
  rw [bodies_eq]
  rfl

theorem main_eq : @Cert.Kernel.main F _ _ = @Cert.KernelIdeal.main F _ _ := by
  unfold Cert.Kernel.main Cert.KernelIdeal.main
  rfl

theorem frame : Cert.quiescent_Kernel (hKernel := Cert.Kernel.Gen.facts) := fun m g _ => by
  have h := Cert.KernelIdeal.Step.frame (F := Bits) m g
  rw [defs_eq, main_eq]
  exact h

end Cert.Kernel.Same

end
-- ==== Proof.Pre.lean ====
/- What the precondition gives: the arguments read are real numbers, the gates are positive, and within a chunk the summed log gates
   stay within eighty of those of the middle row. -/
module

public import proofs.«01_k».proof.Proof.Exact
public import proofs.«01_k».proof.Pre_gates_in_range
public import Idealize.ShloMosaic.Lib.Tactic.CleanTypes
public import Idealize.ShloMosaic.Lib.Pipeline.ValueKit

@[expose] public section

set_option maxRecDepth 16384

noncomputable section

namespace Cert.Pre_gates_in_range

open Idealize.ShloMosaic Cert.Up Idealize.ShloMosaic.Tactic

theorem facts : Facts := by
  constructor <;> decide +kernel

attribute [local instance] facts

theorem pos_inf : Ideal.ofBits FTy.f32 2139095040#32 = ⊤ := by
  simp [Ideal.ofBits, Ideal.ieee]

theorem of_bit {p : Prop} [Decidable p] (h : BitVec.ofBool (decide p) = 1#1) : p := by
  by_contra hp
  simp [hp] at h

theorem real_of {a : EReal} (h : BitVec.ofBool (decide (FloatOps.absf (F := Ideal) (φ := .f32) a < Ideal.ofBits FTy.f32 2139095040#32)) = 1#1) :
    a = ((a.toReal : ℝ) : EReal) := by
  have h1 := of_bit h
  rw [pos_inf] at h1
  have h2 : max a (-a) < ⊤ := h1
  obtain ⟨h3, h4⟩ := max_lt_iff.mp h2
  refine (EReal.coe_toReal h3.ne ?_).symm
  rintro rfl
  simp at h4

theorem near_of {a b : ℝ} (h : BitVec.ofBool (decide (FloatOps.absf (F := Ideal) (φ := .f32) (((a : ℝ) : EReal) - ((b : ℝ) : EReal)) ≤ Ideal.ofBits FTy.f32 1117782016#32)) = 1#1) :
    |a - b| ≤ 80 := by
  have h1 := of_bit h
  rw [eighty, ← EReal.coe_sub] at h1
  have h2 : max (((a - b : ℝ)) : EReal) (-(((a - b : ℝ)) : EReal)) ≤ ((80 : ℝ) : EReal) := h1
  obtain ⟨h3, h4⟩ := max_le_iff.mp h2
  rw [← EReal.coe_neg] at h4
  exact abs_le.mpr ⟨by have := EReal.coe_le_coe_iff.mp h4; linarith, EReal.coe_le_coe_iff.mp h3⟩

theorem sel_leF {α : Type} (s r : Fin 64) (x y : α) :
    Scalar.select (IntOp.cmpi CmpIPredicate.sle (BitVec.ofNat 32 s.val) (BitVec.ofNat 32 r.val)) x y = if leF s r then x else y :=
  sel_le _ _ (by omega) (by omega) x y

theorem sel_leR {α : Type} (s r : Fin 64) (x y : α) :
    Scalar.select (IntOp.cmpi CmpIPredicate.sge (BitVec.ofNat 32 s.val) (BitVec.ofNat 32 r.val)) x y = if leR s r then x else y :=
  sel_le _ _ (by omega) (by omega) x y

theorem sel_leF_mid {α : Type} (s : Fin 64) (x y : α) :
    Scalar.select (IntOp.cmpi CmpIPredicate.sle (BitVec.ofNat 32 s.val) 32#32) x y = if leF s 32 then x else y := sel_leF s 32 x y

theorem sel_leR_mid {α : Type} (s : Fin 64) (x y : α) :
    Scalar.select (IntOp.cmpi CmpIPredicate.sge (BitVec.ofNat 32 s.val) 32#32) x y = if leR s 32 then x else y := sel_leR s 32 x y

theorem cl_ite (le : Fin 64 → Fin 64 → Prop) [DecidableRel le] (lf : Fin 132 × Fin 64 → Fin 1024 → ℝ) (c : Fin 132) (r : Fin 64) (x : Fin 1024) :
    Scan.cl le lf c r x = ∑ s, if le s r then lf (c, s) x else 0 := by
  unfold Scan.cl
  exact Finset.sum_congr rfl fun s _ => by split <;> simp

/-- The real numbers in the columns from `o` on. -/
def cols (o : ℕ) (ho : o ≤ 8192) (U : FVec Ideal S8448x12288 .f32) : Fin 132 × Fin 64 → Fin 1024 → ℝ :=
  fun t x => EReal.toReal (U (ix2 (tk t) ⟨o + x.val, by omega⟩))

/-- The real numbers of a row. -/
def bounds (L : FVec Ideal S1x1024 .f32) : Fin 1024 → ℝ := fun x => EReal.toReal (L (ix2 0 x))

/-- The real numbers of the output's gradient, zero for the tokens that have none. -/
def outs (O : FVec Ideal S8192x1024 .f32) : Fin 132 × Fin 64 → Fin 1024 → ℝ :=
  fun t x => if h : t.1.val < 128 then EReal.toReal (O (ix2 ⟨64 * t.1.val + t.2.val, by omega⟩ x)) else 0

variable {U : FVec Ideal S8448x12288 .f32} {L1 L2 : FVec Ideal S1x1024 .f32} {O : FVec Ideal S8192x1024 .f32}

theorem cols_real (h : (fn (F := Ideal) U L1 L2 O).1 = fun _ => 1#1) (o : ℕ) (ho : o ≤ 8192) (ho' : 3072 ≤ o) (ho'' : o ≤ 6144) (s : Fin 8448) (j : Fin 12288)
    (x : Fin 1024) (hj : j.val = o + x.val) : U (ix2 s j) = ((cols o ho U (pr s) x : ℝ) : EReal) := by
  have e := congrFun h (ix2 s ⟨j.val - 3072, by omega⟩)
  dsimp only [fn, fn_part1, fn_part2, fn_part3, fn_where, id] at e
  revert e
  pointwise []
  intro e
  have ej : (⟨3072 + (j.val - 3072), by omega⟩ : Fin 12288) = j := Fin.ext (by show 3072 + (j.val - 3072) = j.val; omega)
  rw [ej] at e
  refine (real_of e).trans (congrArg Real.toEReal ?_)
  unfold cols
  rw [show tk (pr s) = s from tk_ck_rwt s]
  exact congrArg (fun j => EReal.toReal (U (ix2 s j))) (Fin.ext hj)

theorem outs_real (h : (fn (F := Ideal) U L1 L2 O).2.1 = fun _ => 1#1) (s : Fin 8192) (x : Fin 1024) :
    O (ix2 s x) = ((outs O (pr ⟨s.val, by omega⟩) x : ℝ) : EReal) := by
  have e := congrFun h (ix2 s x)
  dsimp only [fn, fn_part1, fn_part2, fn_part3, fn_where, id] at e
  revert e
  pointwise []
  intro e
  refine (real_of e).trans (congrArg Real.toEReal ?_)
  unfold outs
  rw [dif_pos (show (pr (⟨s.val, by omega⟩ : Fin 8448)).1.val < 128 from (by omega : s.val / 64 < 128))]
  exact congrArg (fun s => EReal.toReal (O (ix2 s x))) (Fin.ext (show s.val = 64 * (s.val / 64) + s.val % 64 by omega))

theorem bounds_realF (h : (fn (F := Ideal) U L1 L2 O).2.2.1 = fun _ => 1#1) (x : Fin 1024) : L1 (ix2 0 x) = ((bounds L1 x : ℝ) : EReal) := by
  have e := congrFun h (ix2 0 x)
  dsimp only [fn, fn_part1, fn_part2, fn_part3, fn_where, id] at e
  revert e
  pointwise []
  exact real_of

theorem gate_realF (h0 : (fn (F := Ideal) U L1 L2 O).1 = fun _ => 1#1) (h : (fn (F := Ideal) U L1 L2 O).2.2.1 = fun _ => 1#1) (s : Fin 8448) (x : Fin 1024)
    (p : 4096 + x.val < 12288) : L1 (ix2 0 x) + (1 - L1 (ix2 0 x)) * Ideal.div 1 (1 + Ideal.exp (-U (ix2 s ⟨4096 + x.val, p⟩)))
      = ((fg (cols 4096 (by omega) U) (bounds L1) (pr s) x : ℝ) : EReal) := by
  rw [bounds_realF h, cols_real h0 4096 (by omega) (by omega) (by omega) s _ x rfl, sg_real]
  simp only [← EReal.coe_one, ← EReal.coe_sub, ← EReal.coe_mul, ← EReal.coe_add]
  rfl

theorem gate_posF (h0 : (fn (F := Ideal) U L1 L2 O).1 = fun _ => 1#1) (h : (fn (F := Ideal) U L1 L2 O).2.2.1 = fun _ => 1#1)
    (hk : (fn (F := Ideal) U L1 L2 O).2.2.2.1 = fun _ => 1#1) (t : Fin 132 × Fin 64) (x : Fin 1024) : 0 < fg (cols 4096 (by omega) U) (bounds L1) t x := by
  have e := congrFun hk (ix2 (tk t) x)
  dsimp only [fn, fn_part1, fn_part2, fn_part3, fn_where, id] at e
  revert e
  pointwise []
  intro e
  rw [gate_realF h0 h, pr_tk] at e
  have e1 := of_bit e
  rw [← EReal.coe_one, ← EReal.coe_sub, EReal.coe_lt_coe_iff] at e1
  linarith

theorem log_nearF (h0 : (fn (F := Ideal) U L1 L2 O).1 = fun _ => 1#1) (h : (fn (F := Ideal) U L1 L2 O).2.2.1 = fun _ => 1#1)
    (hk : (fn (F := Ideal) U L1 L2 O).2.2.2.1 = fun _ => 1#1) (hc : (fn (F := Ideal) U L1 L2 O).2.2.2.2.1 = fun _ => 1#1) (c : Fin 132) (r : Fin 64) (x : Fin 1024) :
    |Scan.cl leF (lg (cols 4096 (by omega) U) (bounds L1)) c r x - md leF (lg (cols 4096 (by omega) U) (bounds L1)) c x| ≤ 80 := by
  have e := congrFun hc (ix3 c r x)
  dsimp only [fn, fn_part1, fn_part2, fn_part3, fn_where, id] at e
  revert e
  pointwise []
  intro e
  have hl : ∀ (s : Fin 64) (p : c.val * 64 + s.val < 8448) (p' : 4096 + x.val < 12288),
      Ideal.log (L1 (ix2 0 x) + (1 - L1 (ix2 0 x)) * Ideal.div 1 (1 + Ideal.exp (-U (ix2 ⟨c.val * 64 + s.val, p⟩ ⟨4096 + x.val, p'⟩))))
        = ((lg (cols 4096 (by omega) U) (bounds L1) (c, s) x : ℝ) : EReal) := fun s p p' => by
    have es : (⟨c.val * 64 + s.val, p⟩ : Fin 8448) = tk (c, s) := Fin.ext (by simp only [tk]; omega)
    rw [es, gate_realF h0 h, pr_tk, Ideal.log_coe, if_neg (not_le.mpr (gate_posF h0 h hk _ _))]
    rfl
  simp only [hl, sel_leF, sel_leF_mid, ← EReal.coe_zero, coe_ite, coe_sum] at e
  rw [md, cl_ite, cl_ite]
  exact near_of e

theorem readsF (h0 : (fn (F := Ideal) U L1 L2 O).1 = fun _ => 1#1) (ho : (fn (F := Ideal) U L1 L2 O).2.1 = fun _ => 1#1)
    (h : (fn (F := Ideal) U L1 L2 O).2.2.1 = fun _ => 1#1) (hk : (fn (F := Ideal) U L1 L2 O).2.2.2.1 = fun _ => 1#1)
    (hc : (fn (F := Ideal) U L1 L2 O).2.2.2.2.1 = fun _ => 1#1) :
    Reads leF 4096 U L1 O (cols 4096 (by omega) U) (cols 3072 (by omega) U) (cols 6144 (by omega) U) (outs O) (bounds L1) where
  hq := cols_real h0 3072 (by omega) (by omega) (by omega)
  hz := cols_real h0 4096 (by omega) (by omega) (by omega)
  hv := cols_real h0 6144 (by omega) (by omega) (by omega)
  hl := bounds_realF h
  ho := outs_real ho
  hpad c r x hc := by unfold outs; rw [dif_neg (by show ¬c.val < 128; omega)]
  hf := gate_posF h0 h hk
  hcl := log_nearF h0 h hk hc

theorem bounds_realR (h : (fn (F := Ideal) U L1 L2 O).2.2.2.2.2.1 = fun _ => 1#1) (x : Fin 1024) : L2 (ix2 0 x) = ((bounds L2 x : ℝ) : EReal) := by
  have e := congrFun h (ix2 0 x)
  dsimp only [fn, fn_part1, fn_part2, fn_part3, fn_where, id] at e
  revert e
  pointwise []
  exact real_of

theorem gate_realR (h0 : (fn (F := Ideal) U L1 L2 O).1 = fun _ => 1#1) (h : (fn (F := Ideal) U L1 L2 O).2.2.2.2.2.1 = fun _ => 1#1) (s : Fin 8448) (x : Fin 1024)
    (p : 5120 + x.val < 12288) : L2 (ix2 0 x) + (1 - L2 (ix2 0 x)) * Ideal.div 1 (1 + Ideal.exp (-U (ix2 s ⟨5120 + x.val, p⟩)))
      = ((fg (cols 5120 (by omega) U) (bounds L2) (pr s) x : ℝ) : EReal) := by
  rw [bounds_realR h, cols_real h0 5120 (by omega) (by omega) (by omega) s _ x rfl, sg_real]
  simp only [← EReal.coe_one, ← EReal.coe_sub, ← EReal.coe_mul, ← EReal.coe_add]
  rfl

theorem gate_posR (h0 : (fn (F := Ideal) U L1 L2 O).1 = fun _ => 1#1) (h : (fn (F := Ideal) U L1 L2 O).2.2.2.2.2.1 = fun _ => 1#1)
    (hk : (fn (F := Ideal) U L1 L2 O).2.2.2.2.2.2.1 = fun _ => 1#1) (t : Fin 132 × Fin 64) (x : Fin 1024) : 0 < fg (cols 5120 (by omega) U) (bounds L2) t x := by
  have e := congrFun hk (ix2 (tk t) x)
  dsimp only [fn, fn_part1, fn_part2, fn_part3, fn_where, id] at e
  revert e
  pointwise []
  intro e
  rw [gate_realR h0 h, pr_tk] at e
  have e1 := of_bit e
  rw [← EReal.coe_one, ← EReal.coe_sub, EReal.coe_lt_coe_iff] at e1
  linarith

theorem log_nearR (h0 : (fn (F := Ideal) U L1 L2 O).1 = fun _ => 1#1) (h : (fn (F := Ideal) U L1 L2 O).2.2.2.2.2.1 = fun _ => 1#1)
    (hk : (fn (F := Ideal) U L1 L2 O).2.2.2.2.2.2.1 = fun _ => 1#1) (hc : (fn (F := Ideal) U L1 L2 O).2.2.2.2.2.2.2 = fun _ => 1#1) (c : Fin 132) (r : Fin 64) (x : Fin 1024) :
    |Scan.cl leR (lg (cols 5120 (by omega) U) (bounds L2)) c r x - md leR (lg (cols 5120 (by omega) U) (bounds L2)) c x| ≤ 80 := by
  have e := congrFun hc (ix3 c r x)
  dsimp only [fn, fn_part1, fn_part2, fn_part3, fn_where, id] at e
  revert e
  pointwise []
  intro e
  have hl : ∀ (s : Fin 64) (p : c.val * 64 + s.val < 8448) (p' : 5120 + x.val < 12288),
      Ideal.log (L2 (ix2 0 x) + (1 - L2 (ix2 0 x)) * Ideal.div 1 (1 + Ideal.exp (-U (ix2 ⟨c.val * 64 + s.val, p⟩ ⟨5120 + x.val, p'⟩))))
        = ((lg (cols 5120 (by omega) U) (bounds L2) (c, s) x : ℝ) : EReal) := fun s p p' => by
    have es : (⟨c.val * 64 + s.val, p⟩ : Fin 8448) = tk (c, s) := Fin.ext (by simp only [tk]; omega)
    rw [es, gate_realR h0 h, pr_tk, Ideal.log_coe, if_neg (not_le.mpr (gate_posR h0 h hk _ _))]
    rfl
  simp only [hl, sel_leR, sel_leR_mid, ← EReal.coe_zero, coe_ite, coe_sum] at e
  rw [md, cl_ite, cl_ite]
  exact near_of e

theorem readsR (h0 : (fn (F := Ideal) U L1 L2 O).1 = fun _ => 1#1) (ho : (fn (F := Ideal) U L1 L2 O).2.1 = fun _ => 1#1)
    (h : (fn (F := Ideal) U L1 L2 O).2.2.2.2.2.1 = fun _ => 1#1) (hk : (fn (F := Ideal) U L1 L2 O).2.2.2.2.2.2.1 = fun _ => 1#1)
    (hc : (fn (F := Ideal) U L1 L2 O).2.2.2.2.2.2.2 = fun _ => 1#1) :
    Reads leR 5120 U L2 O (cols 5120 (by omega) U) (cols 3072 (by omega) U) (cols 6144 (by omega) U) (outs O) (bounds L2) where
  hq := cols_real h0 3072 (by omega) (by omega) (by omega)
  hz := cols_real h0 5120 (by omega) (by omega) (by omega)
  hv := cols_real h0 6144 (by omega) (by omega) (by omega)
  hl := bounds_realR h
  ho := outs_real ho
  hpad c r x hc := by unfold outs; rw [dif_neg (by show ¬c.val < 128; omega)]
  hf := gate_posR h0 h hk
  hcl := log_nearR h0 h hk hc

end Cert.Pre_gates_in_range
-- ==== Proof.Pieces.lean ====
/- Sums over an axis cut into pieces of equal length. -/
module

public import Idealize.ShloMosaic.Lib.Pointwise

@[expose] public section

namespace Cert.Pieces

/-- Place `j` of piece `q`. -/
def at_ {n k l : ℕ} (h : n = k * l) (q : Fin k) (j : Fin l) : Fin n :=
  ⟨q.val * l + j.val, by
    have h1 : l * (q.val + 1) ≤ l * k := Nat.mul_le_mul_left l q.isLt
    have h2 := j.isLt
    rw [h, Nat.mul_comm k l, Nat.mul_comm q.val l]
    rw [Nat.mul_add, Nat.mul_one] at h1
    omega⟩

theorem sum_at {n k l : ℕ} (h : n = k * l) (f : Fin n → EReal) : ∑ x, f x = ∑ q : Fin k, ∑ j : Fin l, f (at_ h q j) := by
  subst h
  rw [← finProdFinEquiv.sum_comp f, Fintype.sum_prod_type]
  refine Finset.sum_congr rfl fun q _ => Finset.sum_congr rfl fun j _ => congrArg f (Fin.ext ?_)
  simp only [finProdFinEquiv, at_, Equiv.coe_fn_mk, Nat.mul_comm q.val l]
  omega

/-- The arrays of two and of three axes. -/
abbrev Arr2 (a b : ℕ) : Type := (⟨2, ![a, b]⟩ : Idealize.ShloMosaic.Shape).Idx → EReal
abbrev Arr3 (a b c : ℕ) : Type := (⟨3, ![a, b, c]⟩ : Idealize.ShloMosaic.Shape).Idx → EReal

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

end Cert.Pieces

end
-- ==== Proof.FfnOutValue.lean ====
/- The second product of the feed-forward layer: each entry is the sum over the two pieces of the contracted axis. -/
module

public import proofs.«01_k».proof.Defs
public import proofs.«01_k».proof.Proof.Pieces
public import proofs.«01_k».proof.Proof.Gen.FfnOut
public import proofs.«01_k».proof.Proof.Gen.FfnOutIdeal
public import proofs.«01_k».proof.Proof.Gen.FfnOutIdeal.Frame
public import proofs.«01_k».proof.Proof.Gen.FfnOutIdeal.Value
public import proofs.«01_k».proof.Proof.Gen.RefFfnOutIdeal
public import proofs.«01_k».proof.Proof.Gen.RefFfnOutIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.FfnOutIdeal.Product

open Cert.FfnOutIdeal.Gen Cert.Pieces

variable (m : (ℓ : Loc nD τ sig) → Buf (Elt Ideal) ℓ) (ρ : Dev nD → PrngReg) (c : Dev nD)

/-- The product of one pair of blocks. -/
def part (a : Vec Ideal S1024x2816 .bf16) (b : Vec Ideal S1x2816x1024 .bf16) (y0 : Fin 1024) (y1 : Fin 1024) : EReal := ∑ j : Fin 2816, a (ix2 y0 j) * b (ix3 0 j y1)

theorem pay1 (y0 : Fin 1024) (y1 : Fin 1024) : k0_pay1 (F := Ideal) (ix2 y0 y1) = 0 := by
  pointwise [k0_pay1]

theorem pay2 (a : Vec Ideal S1024x2816 .bf16) (b : Vec Ideal S1x2816x1024 .bf16) (x : Vec Ideal S1024x1024 .f32) (y0 : Fin 1024) (y1 : Fin 1024) :
    k0_pay2 (F := Ideal) x a b (ix2 y0 y1) = x (ix2 y0 y1) + part a b y0 y1 := by
  pointwise [k0_pay2]
  rfl

section
variable (i : grid0.Coords) (a3 : Memref sig .tc .vmem S1024x2816 .bf16) (h3 : a3.IsWhole) (a4 : Memref sig .tc .vmem S1x2816x1024 .bf16) (h4 : a4.IsWhole)
variable (a5 : Memref sig .tc .vmem S1024x1024 .f32) (h5 : a5.IsWhole) (a6 : Memref sig .tc .vmem S1024x1024 .f32) (h6 : a6.IsWhole)
variable (x0 : Vec Ideal S1024x2816 .bf16) (x1 : Vec Ideal S1x2816x1024 .bf16) (xs : Vec Ideal S1024x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S1024x2816) hz2, View.ld_unit_zero (S := S1x2816x1024) hz3, shapeCast_self]

theorem last (hc0 : ¬cond0_0 i) (hc1 : cond0_1 i) : out0_B_2 c i a3 h3 a4 h4 a5 h5 a6 h6 hc0 hc1 x0 x1 xs = (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz2]
  simp only [View.readCov_unit_zero (S := S1024x1024) _ hz2, View.readAt_eq_ld, h3.read_unread, h4.read_unread, h6.read_unread, View.ld_unit_zero (S := S1024x2816) hz2, View.ld_unit_zero (S := S1x2816x1024) hz3, View.ld_unit_zero (S := S1024x1024) hz2, shapeCast_self]

end

/-- Piece `k` of the contracted axis in an entry. -/
def term (X : Arr2 8192 5632) (W : Arr3 1 5632 2048) (M : Fin 8192) (N : Fin 2048) (k : ℕ) : EReal :=
  ∑ j : Fin 2816, X (ix2 M ⟨k % 2 * 2816 + j.val, by omega⟩) * W (ix3 0 ⟨k % 2 * 2816 + j.val, by omega⟩ N)

def atM (q : ℕ) (y0 : Fin 1024) (y1 : Fin 1024) : Fin 8192 := ⟨q / 2 % 8 * 1024 + y0.val, by omega⟩
def atN (q : ℕ) (y0 : Fin 1024) (y1 : Fin 1024) : Fin 2048 := ⟨q % 2 * 1024 + y1.val, by omega⟩

theorem idx : ∀ t : Fin cfg0.N, win0_0.index t = ![t.val / 4, t.val % 2] ∧ win0_1.index t = ![0, t.val % 2, t.val / 2 % 2] ∧ win0_2.index t = ![t.val / 4, t.val / 2 % 2] :=
  (by decide +kernel : ∀ t : Fin grid0.N, win0_0.index t = ![t.val / 4, t.val % 2] ∧ win0_1.index t = ![0, t.val % 2, t.val / 2 % 2] ∧ win0_2.index t = ![t.val / 4, t.val / 2 % 2])

theorem part_blk (t : Fin cfg0.N) (y0 : Fin 1024) (y1 : Fin 1024) :
    part (iblk m c 0 t) (iblk m c 1 t) y0 y1 = term (V m c main_arg0) (V m c main_v0) (atM (t.val / 2) y0 y1) (atN (t.val / 2) y0 y1) t.val := by
  have ht : t.val < 32 := t.isLt
  refine Finset.sum_congr rfl fun j _ => ?_
  have hj := j.isLt
  have hy0 := y0.isLt
  have hy1 := y1.isLt
  have e0 : iblk m c 0 t (ix2 y0 j) = V m c main_arg0 (ix2 (atM (t.val / 2) y0 y1) ⟨t.val % 2 * 2816 + j.val, by omega⟩) := by
    blk_ext [iblk, idx t, atM, atN]
  have e1 : iblk m c 1 t (ix3 0 j y1) = V m c main_v0 (ix3 0 ⟨t.val % 2 * 2816 + j.val, by omega⟩ (atN (t.val / 2) y0 y1)) := by
    blk_ext [iblk, idx t, atM, atN]
  rw [e0, e1]

theorem term_mod (X : Arr2 8192 5632) (W : Arr3 1 5632 2048) (M : Fin 8192) (N : Fin 2048) {k l : ℕ} (h : k % 2 = l % 2) : term X W M N k = term X W M N l := by
  simp only [term, h]

set_option maxHeartbeats 2000000 in
theorem scratch : ∀ (r n : ℕ) (hn : n < cfg0.N) (y0 : Fin 1024) (y1 : Fin 1024), n % 2 = r → r < 1 →
    (outsAt0 m c n hn).2 (ix2 y0 y1) = ∑ k ∈ Finset.range (r + 1), term (V m c main_arg0) (V m c main_v0) (atM (n / 2) y0 y1) (atN (n / 2) y0 y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ (by dsimp only; omega)
  | r + 1, n, hn, y0, y1, h, hr => by omega

set_option maxHeartbeats 2000000 in
theorem out (t : Fin cfg0.N) (h : t.val % 2 = 1) (y0 : Fin 1024) (y1 : Fin 1024) :
    (outsAt0 m c t.val t.isLt).1 (ix2 y0 y1) = ∑ k ∈ Finset.range 2, term (V m c main_arg0) (V m c main_v0) (atM (t.val / 2) y0 y1) (atN (t.val / 2) y0 y1) k := by
  rw [outsAt0_B m c t (by omega) h]
  dsimp only
  rw [last, pay2, part_blk, scratch m c 0 (t.val - 1) _ y0 y1 (by omega) (by omega), Finset.sum_range_succ _ 1]
  have e : (t.val - 1) / 2 = t.val / 2 := by omega
  rw [e]
  exact congrArg _ (term_mod _ _ _ _ (by omega))

/-- The array of the sums over the pieces. -/
def whole (X : Arr2 8192 5632) (W : Arr3 1 5632 2048) : Arr2 8192 2048 := fun i => ∑ k ∈ Finset.range 2, term X W (i 0) (i 1) k

theorem whole_at (X : Arr2 8192 5632) (W : Arr3 1 5632 2048) (i : (⟨2, ![8192, 2048]⟩ : Shape).Idx) (M : Fin 8192) (N : Fin 2048) (hM : (i 0).val = M.val) (hN : (i 1).val = N.val) : whole X W i = ∑ k ∈ Finset.range 2, term X W M N k := by
  unfold whole
  rw [show i 0 = M from Fin.ext hM]
  rw [show i 1 = N from Fin.ext hN]

theorem array : (dats m 0 c).arrAt 2 cfg0.N = whole (V m c main_arg0) (V m c main_v0) := by
  refine (dats m 0 c).arrAt_eq_of_covers 2 _ (by decide +kernel) fun t hf y => ?_
  have h : t.val % 2 = 1 := (flush0_2 t).mp hf
  have ht : t.val < 32 := t.isLt
  blk_simp
  rw [after0_2]
  idx_vars y
  refine (out m c t h _ _).trans (whole_at _ _ _ _ _ ?_ ?_).symm
  · blk_simp [idx t, atM]
    first | done | (dsimp only; omega) | omega
  · blk_simp [idx t, atN]
    first | done | (dsimp only; omega) | omega

/-! ## The arrays the call is given -/

theorem arg0 : V m c main_arg0 = m ((c : Thread nD τ).loc main_arg0) := by
  dsimp only [V, hostOps0]
  after_results

theorem arg1 (k : Fin 5632) (N : Fin 2048) : V m c main_v0 (ix3 0 k N) = (m ((c : Thread nD τ).loc main_arg1) : Arr2 5632 2048) (ix2 k N) := by
  dsimp only [V, hostOps0]
  after_results
  clean_types
  pointwise [id]

/-- The product as one sum over the contracted axis. -/
def prod (X : Arr2 8192 5632) (W : Arr2 5632 2048) : Arr2 8192 2048 :=
  fun i => ∑ x : Fin 5632, X (ix2 (i 0) x) * W (ix2 x (i 1))

theorem whole_eq : whole (V m c main_arg0) (V m c main_v0) = prod (m ((c : Thread nD τ).loc main_arg0)) (m ((c : Thread nD τ).loc main_arg1)) := by
  funext i
  unfold whole prod
  simp only [term]
  rw [sum_at (k := 2) (l := 2816) rfl, Finset.sum_range]
  refine Finset.sum_congr rfl fun k _ => Finset.sum_congr rfl fun j _ => ?_
  have hk := k.isLt
  have hj := j.isLt
  have ek : (⟨k.val % 2 * 2816 + j.val, by omega⟩ : Fin 5632) = at_ rfl k j := Fin.ext (by simp only [at_]; omega)
  simp only [ek]
  exact congrArg₂ (· * ·) (congrFun (arg0 m c) _) (arg1 m c _ _)

theorem values : θ_run defs (onTc (τ := τ) (main (F := Ideal))) ⟨m, fun _ => 0, ρ⟩ fun r => ∀ c : Dev nD,
    r.2.mem ((c : Thread nD τ).loc main_v1) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.FfnOutIdeal.Product

namespace Cert.RefFfnOutIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v2) = Cert.FfnOutIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.FfnOutIdeal.Product.prod]

end Cert.RefFfnOutIdeal.Product

end
-- ==== Proof.DH2Value.lean ====
/- The array the product by the columns of the first feed-forward matrix leaves: each entry is the sum over the four pieces of the
   contracted axis. -/
module

public import proofs.«01_k».proof.Defs
public import proofs.«01_k».proof.Proof.Pieces
public import proofs.«01_k».proof.Proof.Gen.DH2Ideal.Value
public import proofs.«01_k».proof.Proof.Gen.RefDH2Ideal.Run
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DH2Ideal.Product

open Cert.DH2Ideal.Gen Cert.Pieces

variable (m : (ℓ : Loc nD τ sig) → Buf (Elt Ideal) ℓ) (ρ : Dev nD → PrngReg) (c : Dev nD)

/-- The product of one pair of blocks. -/
def part (a b : Vec Ideal S1x1024x2816 .bf16) (y0 y1 : Fin 1024) : EReal := ∑ j : Fin 2816, a (ix3 0 y0 j) * b (ix3 0 y1 j)

theorem pay1 (y0 y1 : Fin 1024) : k0_pay1 (F := Ideal) (ix2 y0 y1) = 0 := by
  pointwise [k0_pay1]

theorem pay2 (a b : Vec Ideal S1x1024x2816 .bf16) (x : Vec Ideal S1024x1024 .f32) (y0 y1 : Fin 1024) :
    k0_pay2 (F := Ideal) x a b (ix2 y0 y1) = x (ix2 y0 y1) + part a b y0 y1 := by
  pointwise [k0_pay2]
  rfl

section
variable (i : grid0.Coords) (a3 : Memref sig .tc .vmem S1x1024x2816 .bf16) (h3 : a3.IsWhole) (a4 : Memref sig .tc .vmem S1x1024x2816 .bf16) (h4 : a4.IsWhole)
variable (a5 : Memref sig .tc .vmem S1024x1024 .f32) (h5 : a5.IsWhole) (a6 : Memref sig .tc .vmem S1024x1024 .f32) (h6 : a6.IsWhole)
variable (x0 x1 : Vec Ideal S1x1024x2816 .bf16) (xs : Vec Ideal S1024x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S1x1024x2816) hz3, shapeCast_self]

theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1x1024x2816) hz3, View.ld_unit_zero (S := S1024x1024) hz2, shapeCast_self]

theorem last (hc0 : ¬cond0_0 i) (hc1 : cond0_1 i) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz2]
  simp only [View.readCov_unit_zero (S := S1024x1024) _ hz2, View.readAt_eq_ld, h3.read_unread, h4.read_unread, h6.read_unread, View.ld_unit_zero (S := S1x1024x2816) hz3, View.ld_unit_zero (S := S1024x1024) hz2, shapeCast_self]

end

/-- Piece `k` of the contracted axis in the entry at row `M` and column `N`. -/
def term (X : Arr3 2 8192 5632) (W : Arr3 4 2048 2816) (M : Fin 8192) (N : Fin 2048) (k : ℕ) : EReal :=
  ∑ j : Fin 2816, X (ix3 ⟨k % 4 / 2, by omega⟩ M ⟨k % 2 * 2816 + j.val, by omega⟩) * W (ix3 ⟨k % 4, by omega⟩ N j)

def rowAt (n : ℕ) (y : Fin 1024) : Fin 8192 := ⟨n / 8 % 8 * 1024 + y.val, by omega⟩
def colAt (n : ℕ) (y : Fin 1024) : Fin 2048 := ⟨n / 4 % 2 * 1024 + y.val, by omega⟩

theorem idx : ∀ t : Fin cfg0.N, win0_0.index t = ![t.val % 4 / 2, t.val / 8, t.val % 2] ∧ win0_1.index t = ![t.val % 4, t.val / 4 % 2, 0]
    ∧ win0_2.index t = ![t.val / 8, t.val / 4 % 2] :=
  (by decide +kernel : ∀ t : Fin grid0.N, win0_0.index t = ![t.val % 4 / 2, t.val / 8, t.val % 2] ∧ win0_1.index t = ![t.val % 4, t.val / 4 % 2, 0]
    ∧ win0_2.index t = ![t.val / 8, t.val / 4 % 2])

theorem part_blk (t : Fin cfg0.N) (y0 y1 : Fin 1024) :
    part (iblk m c 0 t) (iblk m c 1 t) y0 y1 = term (V m c main_arg0) (V m c main_v1) (rowAt t.val y0) (colAt t.val y1) t.val := by
  have ht : t.val < 64 := t.isLt
  refine Finset.sum_congr rfl fun j _ => ?_
  have e0 : iblk m c 0 t (ix3 0 y0 j) = V m c main_arg0 (ix3 ⟨t.val % 4 / 2, by omega⟩ (rowAt t.val y0) ⟨t.val % 2 * 2816 + j.val, by omega⟩) := by
    blk_ext [iblk, idx t, rowAt]
  have e1 : iblk m c 1 t (ix3 0 y1 j) = V m c main_v1 (ix3 ⟨t.val % 4, by omega⟩ (colAt t.val y1) j) := by
    blk_ext [iblk, idx t, colAt]
  rw [e0, e1]

theorem term_mod (X : Arr3 2 8192 5632) (W : Arr3 4 2048 2816) (M : Fin 8192) (N : Fin 2048) {k l : ℕ} (h : k % 4 = l % 4) :
    term X W M N k = term X W M N l := by
  have h2 : k % 2 = l % 2 := by omega
  simp only [term, h, h2]

set_option maxHeartbeats 2000000 in
theorem scratch : ∀ (r n : ℕ) (hn : n < cfg0.N) (y0 y1 : Fin 1024), n % 4 = r → r < 3 →
    (outsAt0 m c n hn).2 (ix2 y0 y1) = ∑ k ∈ Finset.range (r + 1), term (V m c main_arg0) (V m c main_v1) (rowAt n y0) (colAt n y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ (by dsimp only; omega)
  | r + 1, n, hn, y0, y1, h, hr => by
    rw [outsAt0_B m c ⟨n, hn⟩ (by dsimp only; omega) (by dsimp only; omega)]
    dsimp only
    rw [next, pay2, part_blk m c ⟨n, hn⟩, scratch r (n - 1) _ y0 y1 (by omega) (by omega), Finset.sum_range_succ _ (r + 1)]
    have e0 : rowAt (n - 1) y0 = rowAt n y0 := by unfold rowAt; congr 3; omega
    have e1 : colAt (n - 1) y1 = colAt n y1 := by unfold colAt; congr 3; omega
    rw [e0, e1]
    exact congrArg _ (term_mod _ _ _ _ (by dsimp only; omega))

set_option maxHeartbeats 2000000 in
theorem out (t : Fin cfg0.N) (h : t.val % 4 = 3) (y0 y1 : Fin 1024) :
    (outsAt0 m c t.val t.isLt).1 (ix2 y0 y1) = ∑ k ∈ Finset.range 4, term (V m c main_arg0) (V m c main_v1) (rowAt t.val y0) (colAt t.val y1) k := by
  rw [outsAt0_C m c t (by omega) h]
  dsimp only
  rw [last, pay2, part_blk, scratch m c 2 (t.val - 1) _ y0 y1 (by omega) (by omega), Finset.sum_range_succ _ 3]
  have e0 : rowAt (t.val - 1) y0 = rowAt t.val y0 := by unfold rowAt; congr 3; omega
  have e1 : colAt (t.val - 1) y1 = colAt t.val y1 := by unfold colAt; congr 3; omega
  rw [e0, e1]
  exact congrArg _ (term_mod _ _ _ _ (by omega))

/-- The array of the sums over the four pieces. -/
def whole (X : Arr3 2 8192 5632) (W : Arr3 4 2048 2816) : Arr2 8192 2048 :=
  fun i => ∑ k ∈ Finset.range 4, term X W (i 0) (i 1) k

theorem whole_at (X : Arr3 2 8192 5632) (W : Arr3 4 2048 2816) (i : (⟨2, ![8192, 2048]⟩ : Shape).Idx) (M : Fin 8192) (N : Fin 2048)
    (h0 : (i 0).val = M.val) (h1 : (i 1).val = N.val) : whole X W i = ∑ k ∈ Finset.range 4, term X W M N k := by
  obtain rfl : i 0 = M := Fin.ext h0
  obtain rfl : i 1 = N := Fin.ext h1
  rfl

theorem array : (dats m 0 c).arrAt 2 cfg0.N = whole (V m c main_arg0) (V m c main_v1) := by
  refine (dats m 0 c).arrAt_eq_of_covers 2 _ (by decide +kernel) fun t hf y => ?_
  have h : t.val % 4 = 3 := (flush0_2 t).mp hf
  have ht : t.val < 64 := t.isLt
  blk_simp
  rw [after0_2]
  idx_vars y
  refine (out m c t h _ _).trans (whole_at _ _ _ _ _ ?_ ?_).symm
  · blk_simp [idx t, rowAt]
    dsimp only
    omega
  · blk_simp [idx t, colAt]

/-! ## The arrays the call is given -/

theorem arg0 : V m c main_arg0 = m ((c : Thread nD τ).loc main_arg0) := by
  dsimp only [V, hostOps0]
  after_results

theorem arg1 (k : Fin 4) (N : Fin 2048) (j : Fin 2816) : V m c main_v1 (ix3 k N j) = (m ((c : Thread nD τ).loc main_arg1) : Arr2 2048 11264) (ix2 N (at_ (n := 11264) rfl k j)) := by
  dsimp only [V, hostOps0]
  after_results
  simp only [StableHlo.TRef.toBuf, StableHlo.TRef.ofBuf, cast_eq, id]
  clean_types
  pointwise [id]
  rfl

/-- The product as one sum over the contracted axis. -/
def prod (X : Arr3 2 8192 5632) (W : Arr2 2048 11264) : Arr2 8192 2048 :=
  fun i => ∑ x : Fin 11264, X (ix3 ⟨x.val / 5632, by omega⟩ (i 0) ⟨x.val % 5632, by omega⟩) * W (ix2 (i 1) x)

theorem whole_eq : whole (V m c main_arg0) (V m c main_v1) = prod (m ((c : Thread nD τ).loc main_arg0)) (m ((c : Thread nD τ).loc main_arg1)) := by
  funext i
  unfold whole prod
  rw [sum_at (k := 4) (l := 2816) rfl, Finset.sum_range]
  refine Finset.sum_congr rfl fun k _ => Finset.sum_congr rfl fun j _ => ?_
  have hk := k.isLt
  have hj := j.isLt
  rw [arg0]
  refine congrArg₂ (· * ·) (congrArg _ ?_) ?_
  · congr 1
    · refine Fin.ext ?_
      simp only [at_]
      omega
    · refine Fin.ext ?_
      simp only [at_]
      omega
  · rw [show (⟨k.val % 4, by omega⟩ : Fin 4) = k from Fin.ext (Nat.mod_eq_of_lt hk)]
    exact arg1 m c k _ j

theorem values : θ_run defs (onTc (τ := τ) (main (F := Ideal))) ⟨m, fun _ => 0, ρ⟩ fun r => ∀ c : Dev nD,
    r.2.mem ((c : Thread nD τ).loc main_v2) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.DH2Ideal.Product

namespace Cert.RefDH2Ideal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v9) = Cert.DH2Ideal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.DH2Ideal.Product.prod]
  rw [sum_at (k := 2) (l := 5632) rfl, Fin.sum_univ_two]
  refine congrArg₂ (· + ·) (Finset.sum_congr rfl fun x _ => ?_) (Finset.sum_congr rfl fun x _ => ?_)
  · have hx := x.isLt
    exact congrArg₂ (· * ·) (congrArg _ (congrArg₂ (fun a b => ix3 a i0 b) (Fin.ext (by simp only [at_, Fin.val_zero] <;> omega)) (Fin.ext (by simp only [at_, Fin.val_zero] <;> omega)))) (congrArg _ (congrArg (ix2 i1) (Fin.ext (by simp only [at_, Fin.val_zero] <;> omega))))
  · have hx := x.isLt
    exact congrArg₂ (· * ·) (congrArg _ (congrArg₂ (fun a b => ix3 a i0 b) (Fin.ext (by simp only [at_, Fin.val_one] <;> omega)) (Fin.ext (by simp only [at_, Fin.val_one] <;> omega)))) (congrArg _ (congrArg (ix2 i1) (Fin.ext (by simp only [at_, Fin.val_one] <;> omega))))

end Cert.RefDH2Ideal.Product

end
-- ==== Proof.DwFfnInValue.lean ====
/- The weight gradient of the first product of the feed-forward layer: each entry is the sum over the four pieces of the tokens. -/
module

public import proofs.«01_k».proof.Defs
public import proofs.«01_k».proof.Proof.Pieces
public import proofs.«01_k».proof.Proof.Gen.DwFfnIn
public import proofs.«01_k».proof.Proof.Gen.DwFfnInIdeal
public import proofs.«01_k».proof.Proof.Gen.DwFfnInIdeal.Frame
public import proofs.«01_k».proof.Proof.Gen.DwFfnInIdeal.Value
public import proofs.«01_k».proof.Proof.Gen.RefDwFfnInIdeal
public import proofs.«01_k».proof.Proof.Gen.RefDwFfnInIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DwFfnInIdeal.Product

open Cert.DwFfnInIdeal.Gen Cert.Pieces

variable (m : (ℓ : Loc nD τ sig) → Buf (Elt Ideal) ℓ) (ρ : Dev nD → PrngReg) (c : Dev nD)

/-- The product of one pair of blocks. -/
def part (a : Vec Ideal S1024x2048 .bf16) (b : Vec Ideal S1x2048x1408 .bf16) (y0 : Fin 1024) (y1 : Fin 1408) : EReal := ∑ j : Fin 2048, a (ix2 y0 j) * b (ix3 0 j y1)

theorem pay1 (y0 : Fin 1024) (y1 : Fin 1408) : k0_pay1 (F := Ideal) (ix2 y0 y1) = 0 := by
  pointwise [k0_pay1]

theorem pay2 (a : Vec Ideal S1024x2048 .bf16) (b : Vec Ideal S1x2048x1408 .bf16) (x : Vec Ideal S1024x1408 .f32) (y0 : Fin 1024) (y1 : Fin 1408) :
    k0_pay2 (F := Ideal) x a b (ix2 y0 y1) = x (ix2 y0 y1) + part a b y0 y1 := by
  pointwise [k0_pay2]
  rfl

theorem pay3 (x : Vec Ideal S1024x1408 .f32) (y0 : Fin 1024) (y1 : Fin 1408) : k0_pay3 (F := Ideal) x (ix4 0 0 y0 y1) = x (ix2 y0 y1) := by
  pointwise [k0_pay3]

section
variable (i : grid0.Coords) (a3 : Memref sig .tc .vmem S1024x2048 .bf16) (h3 : a3.IsWhole) (a4 : Memref sig .tc .vmem S1x2048x1408 .bf16) (h4 : a4.IsWhole)
variable (a5 : Memref sig .tc .vmem S1x1x1024x1408 .f32) (h5 : a5.IsWhole) (a6 : Memref sig .tc .vmem S1024x1408 .f32) (h6 : a6.IsWhole)
variable (x0 : Vec Ideal S1024x2048 .bf16) (x1 : Vec Ideal S1x2048x1408 .bf16) (xs : Vec Ideal S1024x1408 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S1024x2048) hz2, View.ld_unit_zero (S := S1x2048x1408) hz3, shapeCast_self]

theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1024x2048) hz2, View.ld_unit_zero (S := S1x2048x1408) hz3, View.ld_unit_zero (S := S1024x1408) hz2, shapeCast_self]

theorem last (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz4]
  simp only [View.readCov_unit_zero (S := S1024x1408) _ hz2, View.readAt_eq_ld, h3.read_unread, h4.read_unread, h6.read_unread, View.ld_unit_zero (S := S1024x2048) hz2, View.ld_unit_zero (S := S1x2048x1408) hz3, View.ld_unit_zero (S := S1024x1408) hz2, shapeCast_self]

end

/-- The branch and the column of a shard's column. -/
def grp (s : Fin 4) : Fin 2 := ⟨s.val / 2, by omega⟩
def col (s : Fin 4) (x : Fin 2816) : Fin 5632 := ⟨s.val % 2 * 2816 + x.val, by omega⟩

/-- Piece `k` of the contracted axis in an entry. -/
def term (X : Arr2 2048 8192) (W : Arr3 2 8192 5632) (S : Fin 4) (H : Fin 2) (R : Fin 1024) (Q : Fin 2816) (k : ℕ) : EReal :=
  ∑ j : Fin 2048, X (ix2 (at_ (n := 2048) (k := 2) (l := 1024) rfl H R) ⟨k % 4 * 2048 + j.val, by omega⟩) * W (ix3 (grp S) ⟨k % 4 * 2048 + j.val, by omega⟩ (col S Q))

def atS (q : ℕ) (y0 : Fin 1024) (y1 : Fin 1408) : Fin 4 := ⟨q % 8 / 2, by omega⟩
def atH (q : ℕ) (y0 : Fin 1024) (y1 : Fin 1408) : Fin 2 := ⟨q / 8 % 2, by omega⟩
def atR (q : ℕ) (y0 : Fin 1024) (y1 : Fin 1408) : Fin 1024 := ⟨y0.val, by omega⟩
def atQ (q : ℕ) (y0 : Fin 1024) (y1 : Fin 1408) : Fin 2816 := ⟨q % 2 * 1408 + y1.val, by omega⟩

theorem idx : ∀ t : Fin cfg0.N, win0_0.index t = ![t.val / 32, t.val % 4] ∧ win0_1.index t = ![t.val / 4 % 8 / 4, t.val % 4, t.val / 4 % 4] ∧ win0_2.index t = ![t.val / 4 % 8 / 2, t.val / 32, 0, t.val / 4 % 2] :=
  (by decide +kernel : ∀ t : Fin grid0.N, win0_0.index t = ![t.val / 32, t.val % 4] ∧ win0_1.index t = ![t.val / 4 % 8 / 4, t.val % 4, t.val / 4 % 4] ∧ win0_2.index t = ![t.val / 4 % 8 / 2, t.val / 32, 0, t.val / 4 % 2])

theorem part_blk (t : Fin cfg0.N) (y0 : Fin 1024) (y1 : Fin 1408) :
    part (iblk m c 0 t) (iblk m c 1 t) y0 y1 = term (V m c main_arg0) (V m c main_arg1) (atS (t.val / 4) y0 y1) (atH (t.val / 4) y0 y1) (atR (t.val / 4) y0 y1) (atQ (t.val / 4) y0 y1) t.val := by
  have ht : t.val < 64 := t.isLt
  refine Finset.sum_congr rfl fun j _ => ?_
  have hj := j.isLt
  have hy0 := y0.isLt
  have hy1 := y1.isLt
  have e0 : iblk m c 0 t (ix2 y0 j) = V m c main_arg0 (ix2 (at_ (n := 2048) (k := 2) (l := 1024) rfl (atH (t.val / 4) y0 y1) (atR (t.val / 4) y0 y1)) ⟨t.val % 4 * 2048 + j.val, by omega⟩) := by
    blk_ext [iblk, idx t, atS, atH, atR, atQ, at_, grp, col]
  have e1 : iblk m c 1 t (ix3 0 j y1) = V m c main_arg1 (ix3 (grp (atS (t.val / 4) y0 y1)) ⟨t.val % 4 * 2048 + j.val, by omega⟩ (col (atS (t.val / 4) y0 y1) (atQ (t.val / 4) y0 y1))) := by
    blk_ext [iblk, idx t, atS, atH, atR, atQ, at_, grp, col]
  rw [e0, e1]

theorem term_mod (X : Arr2 2048 8192) (W : Arr3 2 8192 5632) (S : Fin 4) (H : Fin 2) (R : Fin 1024) (Q : Fin 2816) {k l : ℕ} (h : k % 4 = l % 4) : term X W S H R Q k = term X W S H R Q l := by
  simp only [term, h]

set_option maxHeartbeats 2000000 in
theorem scratch : ∀ (r n : ℕ) (hn : n < cfg0.N) (y0 : Fin 1024) (y1 : Fin 1408), n % 4 = r → r < 3 →
    (outsAt0 m c n hn).2 (ix2 y0 y1) = ∑ k ∈ Finset.range (r + 1), term (V m c main_arg0) (V m c main_arg1) (atS (n / 4) y0 y1) (atH (n / 4) y0 y1) (atR (n / 4) y0 y1) (atQ (n / 4) y0 y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ _ _ (by dsimp only; omega)
  | r + 1, n, hn, y0, y1, h, hr => by
    rw [outsAt0_B m c ⟨n, hn⟩ (by dsimp only; omega) (by dsimp only; omega)]
    dsimp only
    rw [next, pay2, part_blk m c ⟨n, hn⟩, scratch r (n - 1) _ y0 y1 (by omega) (by omega), Finset.sum_range_succ _ (r + 1)]
    have e : (n - 1) / 4 = n / 4 := by omega
    rw [e]
    exact congrArg _ (term_mod _ _ _ _ _ _ (by dsimp only; omega))

set_option maxHeartbeats 2000000 in
theorem out (t : Fin cfg0.N) (h : t.val % 4 = 3) (y0 : Fin 1024) (y1 : Fin 1408) :
    (outsAt0 m c t.val t.isLt).1 (ix4 0 0 y0 y1) = ∑ k ∈ Finset.range 4, term (V m c main_arg0) (V m c main_arg1) (atS (t.val / 4) y0 y1) (atH (t.val / 4) y0 y1) (atR (t.val / 4) y0 y1) (atQ (t.val / 4) y0 y1) k := by
  rw [outsAt0_C m c t (by omega) h]
  dsimp only
  rw [last, pay3, pay2, part_blk, scratch m c 2 (t.val - 1) _ y0 y1 (by omega) (by omega), Finset.sum_range_succ _ 3]
  have e : (t.val - 1) / 4 = t.val / 4 := by omega
  rw [e]
  exact congrArg _ (term_mod _ _ _ _ _ _ (by omega))

/-- The array of the sums over the pieces. -/
def whole (X : Arr2 2048 8192) (W : Arr3 2 8192 5632) : (⟨4, ![4, 2, 1024, 2816]⟩ : Shape).Idx → EReal := fun i => ∑ k ∈ Finset.range 4, term X W (i 0) (i 1) (i 2) (i 3) k

theorem whole_at (X : Arr2 2048 8192) (W : Arr3 2 8192 5632) (i : (⟨4, ![4, 2, 1024, 2816]⟩ : Shape).Idx) (S : Fin 4) (H : Fin 2) (R : Fin 1024) (Q : Fin 2816) (hS : (i 0).val = S.val) (hH : (i 1).val = H.val) (hR : (i 2).val = R.val) (hQ : (i 3).val = Q.val) : whole X W i = ∑ k ∈ Finset.range 4, term X W S H R Q k := by
  unfold whole
  rw [show i 0 = S from Fin.ext hS]
  rw [show i 1 = H from Fin.ext hH]
  rw [show i 2 = R from Fin.ext hR]
  rw [show i 3 = Q from Fin.ext hQ]

theorem array : (dats m 0 c).arrAt 2 cfg0.N = whole (V m c main_arg0) (V m c main_arg1) := by
  refine (dats m 0 c).arrAt_eq_of_covers 2 _ (by decide +kernel) fun t hf y => ?_
  have h : t.val % 4 = 3 := (flush0_2 t).mp hf
  have ht : t.val < 64 := t.isLt
  blk_simp
  rw [after0_2]
  idx_vars y
  obtain rfl : y0 = (0 : Fin 1) := Subsingleton.elim (α := Fin 1) _ _
  obtain rfl : y1 = (0 : Fin 1) := Subsingleton.elim (α := Fin 1) _ _
  refine (out m c t h _ _).trans (whole_at _ _ _ _ _ _ _ ?_ ?_ ?_ ?_).symm
  · blk_simp [idx t, atS]
    first | done | (dsimp only; omega) | omega
  · blk_simp [idx t, atH]
    first | done | (dsimp only; omega) | omega
  · blk_simp [idx t, atR]
    first | done | (dsimp only; omega) | omega
  · blk_simp [idx t, atQ]
    first | done | (dsimp only; omega) | omega

/-! ## The arrays the call is given -/

theorem arg0 : V m c main_arg0 = m ((c : Thread nD τ).loc main_arg0) := rfl

/-- The product as one sum over the contracted axis. -/
def prod (X : Arr2 2048 8192) (W : Arr3 2 8192 5632) : (⟨4, ![4, 2, 1024, 2816]⟩ : Shape).Idx → EReal :=
  fun i => ∑ x : Fin 8192, X (ix2 (at_ (n := 2048) (k := 2) (l := 1024) rfl (i 1) (i 2)) x) * W (ix3 (grp (i 0)) x (col (i 0) (i 3)))

theorem whole_eq : whole (V m c main_arg0) (V m c main_arg1) = prod (m ((c : Thread nD τ).loc main_arg0)) (m ((c : Thread nD τ).loc main_arg1)) := by
  funext i
  unfold whole prod
  simp only [term]
  rw [sum_at (k := 4) (l := 2048) rfl, Finset.sum_range]
  refine Finset.sum_congr rfl fun k _ => Finset.sum_congr rfl fun j _ => ?_
  have hk := k.isLt
  have hj := j.isLt
  have ek : (⟨k.val % 4 * 2048 + j.val, by omega⟩ : Fin 8192) = at_ rfl k j := Fin.ext (by simp only [at_]; omega)
  simp only [ek]

theorem values : θ_run defs (onTc (τ := τ) (main (F := Ideal))) ⟨m, fun _ => 0, ρ⟩ fun r => ∀ c : Dev nD,
    r.2.mem ((c : Thread nD τ).loc main_v0) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.DwFfnInIdeal.Product

namespace Cert.RefDwFfnInIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v13) = Cert.DwFfnInIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.DwFfnInIdeal.Product.prod]
  refine Finset.sum_congr rfl fun x _ => (mul_comm _ _).trans (congrArg₂ (· * ·) rfl ?_)
  have h0 := i0.isLt
  have h3 := i3.isLt
  unfold Cert.DwFfnInIdeal.Product.grp Cert.DwFfnInIdeal.Product.col
  split
  · exact congrArg _ (congrArg₂ (fun a b => ix3 a x b) (Fin.ext (by dsimp only [Fin.val_zero]; omega)) (Fin.ext (by dsimp only; omega)))
  · exact congrArg _ (congrArg₂ (fun a b => ix3 a x b) (Fin.ext (by dsimp only [Fin.val_one]; omega)) (Fin.ext (by dsimp only; omega)))

end Cert.RefDwFfnInIdeal.Product

end
-- ==== Proof.DwFfnOutValue.lean ====
/- The weight gradient of the second product of the feed-forward layer: each entry is the sum over the four pieces of the tokens. -/
module

public import proofs.«01_k».proof.Defs
public import proofs.«01_k».proof.Proof.Pieces
public import proofs.«01_k».proof.Proof.Gen.DwFfnOut
public import proofs.«01_k».proof.Proof.Gen.DwFfnOutIdeal
public import proofs.«01_k».proof.Proof.Gen.DwFfnOutIdeal.Frame
public import proofs.«01_k».proof.Proof.Gen.DwFfnOutIdeal.Value
public import proofs.«01_k».proof.Proof.Gen.RefDwFfnOutIdeal
public import proofs.«01_k».proof.Proof.Gen.RefDwFfnOutIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DwFfnOutIdeal.Product

open Cert.DwFfnOutIdeal.Gen Cert.Pieces

variable (m : (ℓ : Loc nD τ sig) → Buf (Elt Ideal) ℓ) (ρ : Dev nD → PrngReg) (c : Dev nD)

/-- The product of one pair of blocks. -/
def part (a : Vec Ideal S1408x2048 .bf16) (b : Vec Ideal S1x2048x1024 .bf16) (y0 : Fin 1408) (y1 : Fin 1024) : EReal := ∑ j : Fin 2048, a (ix2 y0 j) * b (ix3 0 j y1)

theorem pay1 (y0 : Fin 1408) (y1 : Fin 1024) : k0_pay1 (F := Ideal) (ix2 y0 y1) = 0 := by
  pointwise [k0_pay1]

theorem pay2 (a : Vec Ideal S1408x2048 .bf16) (b : Vec Ideal S1x2048x1024 .bf16) (x : Vec Ideal S1408x1024 .f32) (y0 : Fin 1408) (y1 : Fin 1024) :
    k0_pay2 (F := Ideal) x a b (ix2 y0 y1) = x (ix2 y0 y1) + part a b y0 y1 := by
  pointwise [k0_pay2]
  rfl

theorem pay3 (x : Vec Ideal S1408x1024 .f32) (y0 : Fin 1408) (y1 : Fin 1024) : k0_pay3 (F := Ideal) x (ix4 0 0 y0 y1) = x (ix2 y0 y1) := by
  pointwise [k0_pay3]

section
variable (i : grid0.Coords) (a3 : Memref sig .tc .vmem S1408x2048 .bf16) (h3 : a3.IsWhole) (a4 : Memref sig .tc .vmem S1x2048x1024 .bf16) (h4 : a4.IsWhole)
variable (a5 : Memref sig .tc .vmem S1x1x1408x1024 .f32) (h5 : a5.IsWhole) (a6 : Memref sig .tc .vmem S1408x1024 .f32) (h6 : a6.IsWhole)
variable (x0 : Vec Ideal S1408x2048 .bf16) (x1 : Vec Ideal S1x2048x1024 .bf16) (xs : Vec Ideal S1408x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S1408x2048) hz2, View.ld_unit_zero (S := S1x2048x1024) hz3, shapeCast_self]

theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1408x2048) hz2, View.ld_unit_zero (S := S1x2048x1024) hz3, View.ld_unit_zero (S := S1408x1024) hz2, shapeCast_self]

theorem last (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz4]
  simp only [View.readCov_unit_zero (S := S1408x1024) _ hz2, View.readAt_eq_ld, h3.read_unread, h4.read_unread, h6.read_unread, View.ld_unit_zero (S := S1408x2048) hz2, View.ld_unit_zero (S := S1x2048x1024) hz3, View.ld_unit_zero (S := S1408x1024) hz2, shapeCast_self]

end

/-- Piece `k` of the contracted axis in an entry. -/
def term (X : Arr2 5632 8192) (W : Arr3 1 8192 2048) (S : Fin 1) (H : Fin 2) (R : Fin 2816) (Q : Fin 2048) (k : ℕ) : EReal :=
  ∑ j : Fin 2048, X (ix2 (at_ (n := 5632) (k := 2) (l := 2816) rfl H R) ⟨k % 4 * 2048 + j.val, by omega⟩) * W (ix3 S ⟨k % 4 * 2048 + j.val, by omega⟩ Q)

def atS (q : ℕ) (y0 : Fin 1408) (y1 : Fin 1024) : Fin 1 := ⟨0, by omega⟩
def atH (q : ℕ) (y0 : Fin 1408) (y1 : Fin 1024) : Fin 2 := ⟨q / 2 % 4 / 2, by omega⟩
def atR (q : ℕ) (y0 : Fin 1408) (y1 : Fin 1024) : Fin 2816 := ⟨q / 2 % 2 * 1408 + y0.val, by omega⟩
def atQ (q : ℕ) (y0 : Fin 1408) (y1 : Fin 1024) : Fin 2048 := ⟨q % 2 * 1024 + y1.val, by omega⟩

theorem idx : ∀ t : Fin cfg0.N, win0_0.index t = ![t.val / 8, t.val % 4] ∧ win0_1.index t = ![0, t.val % 4, t.val / 4 % 2] ∧ win0_2.index t = ![0, t.val / 16, t.val / 8 % 2, t.val / 4 % 2] :=
  (by decide +kernel : ∀ t : Fin grid0.N, win0_0.index t = ![t.val / 8, t.val % 4] ∧ win0_1.index t = ![0, t.val % 4, t.val / 4 % 2] ∧ win0_2.index t = ![0, t.val / 16, t.val / 8 % 2, t.val / 4 % 2])

theorem part_blk (t : Fin cfg0.N) (y0 : Fin 1408) (y1 : Fin 1024) :
    part (iblk m c 0 t) (iblk m c 1 t) y0 y1 = term (V m c main_arg0) (V m c main_v0) (atS (t.val / 4) y0 y1) (atH (t.val / 4) y0 y1) (atR (t.val / 4) y0 y1) (atQ (t.val / 4) y0 y1) t.val := by
  have ht : t.val < 32 := t.isLt
  refine Finset.sum_congr rfl fun j _ => ?_
  have hj := j.isLt
  have hy0 := y0.isLt
  have hy1 := y1.isLt
  have e0 : iblk m c 0 t (ix2 y0 j) = V m c main_arg0 (ix2 (at_ (n := 5632) (k := 2) (l := 2816) rfl (atH (t.val / 4) y0 y1) (atR (t.val / 4) y0 y1)) ⟨t.val % 4 * 2048 + j.val, by omega⟩) := by
    blk_ext [iblk, idx t, atS, atH, atR, atQ, at_]
  have e1 : iblk m c 1 t (ix3 0 j y1) = V m c main_v0 (ix3 (atS (t.val / 4) y0 y1) ⟨t.val % 4 * 2048 + j.val, by omega⟩ (atQ (t.val / 4) y0 y1)) := by
    blk_ext [iblk, idx t, atS, atH, atR, atQ, at_]
  rw [e0, e1]

theorem term_mod (X : Arr2 5632 8192) (W : Arr3 1 8192 2048) (S : Fin 1) (H : Fin 2) (R : Fin 2816) (Q : Fin 2048) {k l : ℕ} (h : k % 4 = l % 4) : term X W S H R Q k = term X W S H R Q l := by
  simp only [term, h]

set_option maxHeartbeats 2000000 in
theorem scratch : ∀ (r n : ℕ) (hn : n < cfg0.N) (y0 : Fin 1408) (y1 : Fin 1024), n % 4 = r → r < 3 →
    (outsAt0 m c n hn).2 (ix2 y0 y1) = ∑ k ∈ Finset.range (r + 1), term (V m c main_arg0) (V m c main_v0) (atS (n / 4) y0 y1) (atH (n / 4) y0 y1) (atR (n / 4) y0 y1) (atQ (n / 4) y0 y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ _ _ (by dsimp only; omega)
  | r + 1, n, hn, y0, y1, h, hr => by
    rw [outsAt0_B m c ⟨n, hn⟩ (by dsimp only; omega) (by dsimp only; omega)]
    dsimp only
    rw [next, pay2, part_blk m c ⟨n, hn⟩, scratch r (n - 1) _ y0 y1 (by omega) (by omega), Finset.sum_range_succ _ (r + 1)]
    have e : (n - 1) / 4 = n / 4 := by omega
    rw [e]
    exact congrArg _ (term_mod _ _ _ _ _ _ (by dsimp only; omega))

set_option maxHeartbeats 2000000 in
theorem out (t : Fin cfg0.N) (h : t.val % 4 = 3) (y0 : Fin 1408) (y1 : Fin 1024) :
    (outsAt0 m c t.val t.isLt).1 (ix4 0 0 y0 y1) = ∑ k ∈ Finset.range 4, term (V m c main_arg0) (V m c main_v0) (atS (t.val / 4) y0 y1) (atH (t.val / 4) y0 y1) (atR (t.val / 4) y0 y1) (atQ (t.val / 4) y0 y1) k := by
  rw [outsAt0_C m c t (by omega) h]
  dsimp only
  rw [last, pay3, pay2, part_blk, scratch m c 2 (t.val - 1) _ y0 y1 (by omega) (by omega), Finset.sum_range_succ _ 3]
  have e : (t.val - 1) / 4 = t.val / 4 := by omega
  rw [e]
  exact congrArg _ (term_mod _ _ _ _ _ _ (by omega))

/-- The array of the sums over the pieces. -/
def whole (X : Arr2 5632 8192) (W : Arr3 1 8192 2048) : (⟨4, ![1, 2, 2816, 2048]⟩ : Shape).Idx → EReal := fun i => ∑ k ∈ Finset.range 4, term X W (i 0) (i 1) (i 2) (i 3) k

theorem whole_at (X : Arr2 5632 8192) (W : Arr3 1 8192 2048) (i : (⟨4, ![1, 2, 2816, 2048]⟩ : Shape).Idx) (S : Fin 1) (H : Fin 2) (R : Fin 2816) (Q : Fin 2048) (hS : (i 0).val = S.val) (hH : (i 1).val = H.val) (hR : (i 2).val = R.val) (hQ : (i 3).val = Q.val) : whole X W i = ∑ k ∈ Finset.range 4, term X W S H R Q k := by
  unfold whole
  rw [show i 0 = S from Fin.ext hS]
  rw [show i 1 = H from Fin.ext hH]
  rw [show i 2 = R from Fin.ext hR]
  rw [show i 3 = Q from Fin.ext hQ]

theorem array : (dats m 0 c).arrAt 2 cfg0.N = whole (V m c main_arg0) (V m c main_v0) := by
  refine (dats m 0 c).arrAt_eq_of_covers 2 _ (by decide +kernel) fun t hf y => ?_
  have h : t.val % 4 = 3 := (flush0_2 t).mp hf
  have ht : t.val < 32 := t.isLt
  blk_simp
  rw [after0_2]
  idx_vars y
  obtain rfl : y0 = (0 : Fin 1) := Subsingleton.elim (α := Fin 1) _ _
  obtain rfl : y1 = (0 : Fin 1) := Subsingleton.elim (α := Fin 1) _ _
  refine (out m c t h _ _).trans (whole_at _ _ _ _ _ _ _ ?_ ?_ ?_ ?_).symm
  · blk_simp [idx t, atS]
    first | done | (dsimp only; omega) | omega
  · blk_simp [idx t, atH]
    first | done | (dsimp only; omega) | omega
  · blk_simp [idx t, atR]
    first | done | (dsimp only; omega) | omega
  · blk_simp [idx t, atQ]
    first | done | (dsimp only; omega) | omega

/-! ## The arrays the call is given -/

theorem arg0 : V m c main_arg0 = m ((c : Thread nD τ).loc main_arg0) := by
  dsimp only [V, hostOps0]
  after_results

theorem arg1 (k : Fin 8192) (N : Fin 2048) : V m c main_v0 (ix3 0 k N) = (m ((c : Thread nD τ).loc main_arg1) : Arr2 8192 2048) (ix2 k N) := by
  dsimp only [V, hostOps0]
  after_results
  clean_types
  pointwise [id]

/-- The product as one sum over the contracted axis. -/
def prod (X : Arr2 5632 8192) (W : Arr2 8192 2048) : (⟨4, ![1, 2, 2816, 2048]⟩ : Shape).Idx → EReal :=
  fun i => ∑ x : Fin 8192, X (ix2 (at_ (n := 5632) (k := 2) (l := 2816) rfl (i 1) (i 2)) x) * W (ix2 x (i 3))

theorem whole_eq : whole (V m c main_arg0) (V m c main_v0) = prod (m ((c : Thread nD τ).loc main_arg0)) (m ((c : Thread nD τ).loc main_arg1)) := by
  funext i
  unfold whole prod
  simp only [term]
  rw [sum_at (k := 4) (l := 2048) rfl, Finset.sum_range]
  refine Finset.sum_congr rfl fun k _ => Finset.sum_congr rfl fun j _ => ?_
  have hk := k.isLt
  have hj := j.isLt
  have ek : (⟨k.val % 4 * 2048 + j.val, by omega⟩ : Fin 8192) = at_ rfl k j := Fin.ext (by simp only [at_]; omega)
  simp only [ek]
  rw [show i 0 = (0 : Fin 1) from Subsingleton.elim (α := Fin 1) (i 0) 0]
  exact congrArg₂ (· * ·) (congrFun (arg0 m c) _) (arg1 m c _ _)

theorem values : θ_run defs (onTc (τ := τ) (main (F := Ideal))) ⟨m, fun _ => 0, ρ⟩ fun r => ∀ c : Dev nD,
    r.2.mem ((c : Thread nD τ).loc main_v1) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.DwFfnOutIdeal.Product

namespace Cert.RefDwFfnOutIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v7) = Cert.DwFfnOutIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.DwFfnOutIdeal.Product.prod]
  exact Finset.sum_congr rfl fun x _ => mul_comm _ _

end Cert.RefDwFfnOutIdeal.Product

end
-- ==== Proof.FfnInValue.lean ====
/- The first product of the feed-forward layer with its gate: both halves of the columns, and the gated product twice. -/
module

public import proofs.«01_k».proof.Defs
public import proofs.«01_k».proof.Proof.Pieces
public import proofs.«01_k».proof.Proof.Gen.FfnIn
public import proofs.«01_k».proof.Proof.Gen.FfnInIdeal
public import proofs.«01_k».proof.Proof.Gen.FfnInIdeal.Frame
public import proofs.«01_k».proof.Proof.Gen.FfnInIdeal.Value
public import proofs.«01_k».proof.Proof.Gen.RefFfnInIdeal
public import proofs.«01_k».proof.Proof.Gen.RefFfnInIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.FfnInIdeal.Product

open Cert.FfnInIdeal.Gen Cert.Pieces

variable (m : (ℓ : Loc nD τ sig) → Buf (Elt Ideal) ℓ) (ρ : Dev nD → PrngReg) (c : Dev nD)

/-- The product of one pair of blocks. -/
def part (a : Vec Ideal S512x2048 .bf16) (b : Vec Ideal S1x2048x1408 .bf16) (y0 : Fin 512) (y1 : Fin 1408) : EReal := ∑ j : Fin 2048, a (ix2 y0 j) * b (ix3 0 j y1)

/-- The gated product of a pair of entries. -/
def sw (a u : EReal) : EReal := a * Ideal.div 1 (1 + Ideal.exp (-a)) * u

theorem pay1 (a : Vec Ideal S512x2048 .bf16) (b : Vec Ideal S1x2048x1408 .bf16) (y0 : Fin 512) (y1 : Fin 1408) :
    k0_pay1 (F := Ideal) a b (ix2 y0 y1) = part a b y0 y1 := by
  pointwise [k0_pay1]
  rfl

theorem pay2 (a : Vec Ideal S512x2048 .bf16) (b : Vec Ideal S1x2048x1408 .bf16) (y0 : Fin 512) (y1 : Fin 1408) :
    k0_pay2 (F := Ideal) a b (ix2 y0 y1) = part a b y0 y1 := by
  pointwise [k0_pay2]
  rfl

theorem pay3 (a : Vec Ideal S512x2048 .bf16) (b : Vec Ideal S1x2048x1408 .bf16) (y0 : Fin 512) (y1 : Fin 1408) :
    k0_pay3 (F := Ideal) a b (ix3 0 y0 y1) = part a b y0 y1 := by
  pointwise [k0_pay3, pay1]

theorem pay4 (a : Vec Ideal S512x2048 .bf16) (b : Vec Ideal S1x2048x1408 .bf16) (y0 : Fin 512) (y1 : Fin 1408) :
    k0_pay4 (F := Ideal) a b (ix3 0 y0 y1) = part a b y0 y1 := by
  pointwise [k0_pay4, pay2]

theorem pay5 (a : Vec Ideal S512x2048 .bf16) (b b' : Vec Ideal S1x2048x1408 .bf16) (y0 : Fin 512) (y1 : Fin 1408) :
    k0_pay5 (F := Ideal) a b b' (ix2 y0 y1) = sw (part a b y0 y1) (part a b' y0 y1) := by
  pointwise [k0_pay5, pay1, pay2]
  rw [zero_sub]
  rfl

theorem pay6 (a : Vec Ideal S512x2048 .bf16) (b b' : Vec Ideal S1x2048x1408 .bf16) (y1 : Fin 1408) (y0 : Fin 512) :
    k0_pay6 (F := Ideal) a b b' (ix2 y1 y0) = sw (part a b y0 y1) (part a b' y0 y1) := by
  pointwise [k0_pay6, pay5]

/-! ## The blocks a point leaves -/

section
variable (a : Vec Ideal S512x2048 .bf16) (b d : Vec Ideal S1x2048x1408 .bf16)

theorem block4 (y0 : Fin 512) (y1 : Fin 1408) : out0_4 a b d (ix2 y0 y1) = sw (part a b y0 y1) (part a d y0 y1) := by
  unfold out0_4
  rw [View.canon_unit_zero hz2, pay5, View.ld_unit_zero (S := S512x2048) hz2, View.ld_unit_zero (S := S1x2048x1408) hz3, View.ld_unit_zero (S := S1x2048x1408) hz3]

theorem block5 (y1 : Fin 1408) (y0 : Fin 512) : out0_5 a b d (ix2 y1 y0) = sw (part a b y0 y1) (part a d y0 y1) := by
  unfold out0_5
  rw [View.canon_unit_zero hz2, pay6, View.ld_unit_zero (S := S512x2048) hz2, View.ld_unit_zero (S := S1x2048x1408) hz3, View.ld_unit_zero (S := S1x2048x1408) hz3]

/-- Both halves: first the gate's, then the other's. -/
def both : S2x512x1408.Idx → EReal := fun i => part a (if (i 0).val = 0 then b else d) (i 1) (i 2)

theorem both_at (i : S2x512x1408.Idx) (s : Fin 2) (y0 : Fin 512) (y1 : Fin 1408) (h0 : (i 0).val = s.val) (h1 : (i 1).val = y0.val) (h2 : (i 2).val = y1.val) :
    both a b d i = part a (if s.val = 0 then b else d) y0 y1 := by
  unfold both
  rw [show i 1 = y0 from Fin.ext h1, show i 2 = y1 from Fin.ext h2, h0]

theorem block3 : out0_3 a b d = both a b d := by
  funext y
  unfold out0_3
  rw [View.ld_unit_zero (S := S512x2048) hz2, View.ld_unit_zero (S := S1x2048x1408) hz3, View.ld_unit_zero (S := S1x2048x1408) hz3]
  have hp : View.PiecesOf (Val := Elt Ideal) (s := S2x512x1408) (e := .bf16) (both a b d) [⟨r0_3, k0_pay4 a d⟩, ⟨r0_2, k0_pay3 a b⟩] := by
    refine ⟨?_, ?_, trivial⟩
    · intro x
      idx_vars x
      obtain rfl : x0 = (0 : Fin 1) := Subsingleton.elim (α := Fin 1) _ _
      refine (pay4 a d x1 x2).trans (both_at a b d _ 1 x1 x2 ?_ ?_ ?_).symm
      · rfl
      · show 0 + 1 * x1.val = x1.val
        omega
      · show 0 + 1 * x2.val = x2.val
        omega
    · intro x
      idx_vars x
      obtain rfl : x0 = (0 : Fin 1) := Subsingleton.elim (α := Fin 1) _ _
      refine (pay3 a b x1 x2).trans (both_at a b d _ 0 x1 x2 ?_ ?_ ?_).symm
      · rfl
      · show 0 + 1 * x1.val = x1.val
        omega
      · show 0 + 1 * x2.val = x2.val
        omega
  exact View.canon_apply_of_pieces _ _ hp.mem y (cover0_3 _ _ y)

end

/-! ## The entries of the results -/

/-- The shard of a column of a half, and its place in the shard. -/
def sh (s : Fin 2) (q : Fin 5632) : Fin 4 := ⟨2 * s.val + q.val / 2816, by omega⟩
def sc (q : Fin 5632) : Fin 2816 := ⟨q.val % 2816, by omega⟩

/-- An entry of half `s` of the product. -/
def entry (X : Arr2 8192 2048) (W : Arr3 4 2048 2816) (s : Fin 2) (r : Fin 8192) (q : Fin 5632) : EReal :=
  ∑ j : Fin 2048, X (ix2 r j) * W (ix3 (sh s q) j (sc q))

def row (t : ℕ) (y0 : Fin 512) : Fin 8192 := ⟨t / 4 % 16 * 512 + y0.val, by omega⟩
def col (t : ℕ) (y1 : Fin 1408) : Fin 5632 := ⟨t % 4 * 1408 + y1.val, by omega⟩

theorem idx : ∀ t : Fin cfg0.N, win0_0.index t = ![t.val / 4, 0] ∧ win0_1.index t = ![t.val % 4 / 2, 0, t.val % 2] ∧ win0_2.index t = ![2 + t.val % 4 / 2, 0, t.val % 2]
    ∧ win0_3.index t = ![0, t.val / 4, t.val % 4] ∧ win0_4.index t = ![t.val / 4, t.val % 4] ∧ win0_5.index t = ![t.val % 4, t.val / 4] :=
  (by decide +kernel : ∀ t : Fin grid0.N, win0_0.index t = ![t.val / 4, 0] ∧ win0_1.index t = ![t.val % 4 / 2, 0, t.val % 2] ∧ win0_2.index t = ![2 + t.val % 4 / 2, 0, t.val % 2]
    ∧ win0_3.index t = ![0, t.val / 4, t.val % 4] ∧ win0_4.index t = ![t.val / 4, t.val % 4] ∧ win0_5.index t = ![t.val % 4, t.val / 4])

theorem part_gate (t : Fin cfg0.N) (y0 : Fin 512) (y1 : Fin 1408) :
    part (iblk m c 0 t) (iblk m c 1 t) y0 y1 = entry (V m c main_arg0) (V m c main_v1) 0 (row t.val y0) (col t.val y1) := by
  have ht : t.val < 64 := t.isLt
  refine Finset.sum_congr rfl fun j _ => ?_
  have hj := j.isLt
  have hy0 := y0.isLt
  have hy1 := y1.isLt
  have e0 : iblk m c 0 t (ix2 y0 j) = V m c main_arg0 (ix2 (row t.val y0) j) := by
    blk_ext [iblk, idx t, row]
  have e1 : iblk m c 1 t (ix3 0 j y1) = V m c main_v1 (ix3 (sh 0 (col t.val y1)) j (sc (col t.val y1))) := by
    blk_ext [iblk, idx t, col, sh, sc]
  rw [e0, e1]

theorem part_up (t : Fin cfg0.N) (y0 : Fin 512) (y1 : Fin 1408) :
    part (iblk m c 0 t) (iblk m c 2 t) y0 y1 = entry (V m c main_arg0) (V m c main_v1) 1 (row t.val y0) (col t.val y1) := by
  have ht : t.val < 64 := t.isLt
  refine Finset.sum_congr rfl fun j _ => ?_
  have hj := j.isLt
  have hy0 := y0.isLt
  have hy1 := y1.isLt
  have e0 : iblk m c 0 t (ix2 y0 j) = V m c main_arg0 (ix2 (row t.val y0) j) := by
    blk_ext [iblk, idx t, row]
  have e1 : iblk m c 2 t (ix3 0 j y1) = V m c main_v1 (ix3 (sh 1 (col t.val y1)) j (sc (col t.val y1))) := by
    blk_ext [iblk, idx t, col, sh, sc]
  rw [e0, e1]

/-- The three results, over the product's entries. -/
def halves (E : Fin 2 → Fin 8192 → Fin 5632 → EReal) : Arr3 2 8192 5632 := fun i => E (i 0) (i 1) (i 2)
def gated (E : Fin 2 → Fin 8192 → Fin 5632 → EReal) : Arr2 8192 5632 := fun i => sw (E 0 (i 0) (i 1)) (E 1 (i 0) (i 1))
def gatedT (E : Fin 2 → Fin 8192 → Fin 5632 → EReal) : Arr2 5632 8192 := fun i => sw (E 0 (i 1) (i 0)) (E 1 (i 1) (i 0))

theorem halves_at (E : Fin 2 → Fin 8192 → Fin 5632 → EReal) (i : (⟨3, ![2, 8192, 5632]⟩ : Shape).Idx) (s : Fin 2) (r : Fin 8192) (q : Fin 5632)
    (h0 : (i 0).val = s.val) (h1 : (i 1).val = r.val) (h2 : (i 2).val = q.val) : halves E i = E s r q := by
  unfold halves
  rw [show i 0 = s from Fin.ext h0, show i 1 = r from Fin.ext h1, show i 2 = q from Fin.ext h2]

theorem gated_at (E : Fin 2 → Fin 8192 → Fin 5632 → EReal) (i : (⟨2, ![8192, 5632]⟩ : Shape).Idx) (r : Fin 8192) (q : Fin 5632)
    (h0 : (i 0).val = r.val) (h1 : (i 1).val = q.val) : gated E i = sw (E 0 r q) (E 1 r q) := by
  unfold gated
  rw [show i 0 = r from Fin.ext h0, show i 1 = q from Fin.ext h1]

theorem gatedT_at (E : Fin 2 → Fin 8192 → Fin 5632 → EReal) (i : (⟨2, ![5632, 8192]⟩ : Shape).Idx) (r : Fin 8192) (q : Fin 5632)
    (h0 : (i 0).val = q.val) (h1 : (i 1).val = r.val) : gatedT E i = sw (E 0 r q) (E 1 r q) := by
  unfold gatedT
  rw [show i 0 = q from Fin.ext h0, show i 1 = r from Fin.ext h1]

theorem array3 : (dats m 0 c).arrAt 3 cfg0.N = halves (entry (V m c main_arg0) (V m c main_v1)) := by
  refine (dats m 0 c).arrAt_eq_of_covers 3 _ (by decide +kernel) fun t _ y => ?_
  have ht : t.val < 64 := t.isLt
  blk_simp
  rw [after0_3, block3]
  idx_vars y
  have hs : both (iblk m c 0 t) (iblk m c 1 t) (iblk m c 2 t) (ix3 y0 y1 y2) = entry (V m c main_arg0) (V m c main_v1) y0 (row t.val y1) (col t.val y2) := by
    rw [both_at _ _ _ _ y0 y1 y2 rfl rfl rfl]
    obtain ⟨s, hs⟩ := y0
    obtain rfl | rfl : s = 0 ∨ s = 1 := by
      have h2 : s < 2 := hs
      omega
    · exact part_gate m c t y1 y2
    · exact part_up m c t y1 y2
  refine hs.trans (halves_at _ _ _ _ _ ?_ ?_ ?_).symm
  · blk_simp [idx t]
    first | done | omega
  · blk_simp [idx t, row]
    first | done | (dsimp only; omega) | omega
  · blk_simp [idx t, col]
    first | done | (dsimp only; omega) | omega

theorem array4 : (dats m 0 c).arrAt 4 cfg0.N = gated (entry (V m c main_arg0) (V m c main_v1)) := by
  refine (dats m 0 c).arrAt_eq_of_covers 4 _ (by decide +kernel) fun t _ y => ?_
  have ht : t.val < 64 := t.isLt
  blk_simp
  rw [after0_4]
  idx_vars y
  refine (block4 _ _ _ _ _).trans ?_
  rw [part_gate, part_up]
  refine (gated_at _ _ _ _ ?_ ?_).symm
  · blk_simp [idx t, row]
    first | done | (dsimp only; omega) | omega
  · blk_simp [idx t, col]
    first | done | (dsimp only; omega) | omega

theorem array5 : (dats m 0 c).arrAt 5 cfg0.N = gatedT (entry (V m c main_arg0) (V m c main_v1)) := by
  refine (dats m 0 c).arrAt_eq_of_covers 5 _ (by decide +kernel) fun t _ y => ?_
  have ht : t.val < 64 := t.isLt
  blk_simp
  rw [after0_5]
  idx_vars y
  refine (block5 _ _ _ _ _).trans ?_
  rw [part_gate, part_up]
  refine (gatedT_at _ _ _ _ ?_ ?_).symm
  · blk_simp [idx t, col]
    first | done | (dsimp only; omega) | omega
  · blk_simp [idx t, row]
    first | done | (dsimp only; omega) | omega

/-! ## The arrays the call is given -/

theorem arg0 : V m c main_arg0 = m ((c : Thread nD τ).loc main_arg0) := by
  dsimp only [V, hostOps0]
  after_results

theorem arg1 (s : Fin 2) (k : Fin 2048) (q : Fin 5632) : V m c main_v1 (ix3 (sh s q) k (sc q)) = (m ((c : Thread nD τ).loc main_arg1) : Arr2 2048 11264) (ix2 k (at_ (n := 11264) rfl s q)) := by
  dsimp only [V, hostOps0]
  after_results
  simp only [StableHlo.TRef.toBuf, StableHlo.TRef.ofBuf, cast_eq, id]
  clean_types
  pointwise [id]
  unfold sh sc at_
  exact congrArg _ (congrArg (ix2 k) (Fin.ext (by dsimp only; omega)))

/-- An entry of half `s` of the product of the arguments. -/
def prod (X : Arr2 8192 2048) (W : Arr2 2048 11264) (s : Fin 2) (r : Fin 8192) (q : Fin 5632) : EReal :=
  ∑ j : Fin 2048, X (ix2 r j) * W (ix2 j (at_ (n := 11264) rfl s q))

theorem entry_eq : entry (V m c main_arg0) (V m c main_v1) = prod (m ((c : Thread nD τ).loc main_arg0)) (m ((c : Thread nD τ).loc main_arg1)) := by
  funext s r q
  exact Finset.sum_congr rfl fun j _ => congrArg₂ (· * ·) (congrFun (arg0 m c) _) (arg1 m c s j q)

theorem values : θ_run defs (onTc (τ := τ) (main (F := Ideal))) ⟨m, fun _ => 0, ρ⟩ fun r => ∀ c : Dev nD,
    r.2.mem ((c : Thread nD τ).loc main_v2_0) = halves (prod (m ((c : Thread nD τ).loc main_arg0)) (m ((c : Thread nD τ).loc main_arg1)))
    ∧ r.2.mem ((c : Thread nD τ).loc main_v2_1) = gated (prod (m ((c : Thread nD τ).loc main_arg0)) (m ((c : Thread nD τ).loc main_arg1)))
    ∧ r.2.mem ((c : Thread nD τ).loc main_v2_2) = gatedT (prod (m ((c : Thread nD τ).loc main_arg0)) (m ((c : Thread nD τ).loc main_arg1)))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array3 m c).trans (congrArg halves (entry_eq m c))), (h c).2.1.trans ((array4 m c).trans (congrArg gated (entry_eq m c))),
    (h c).2.2.1.trans ((array5 m c).trans (congrArg gatedT (entry_eq m c))), (h c).2.2.2⟩) (Value.run_blocks m ρ)

end Cert.FfnInIdeal.Product

namespace Cert.RefFfnInIdeal.Product

open Cert.Pieces
open Cert.FfnInIdeal.Product (prod halves gated gatedT sw)

variable (m : (ℓ : Loc nD τ sig) → Buf (Elt Ideal) ℓ) (ρ : Dev nD → PrngReg)

theorem col0 (q : Fin 5632) : at_ (n := 11264) (k := 2) (l := 5632) rfl 0 q = ⟨q.val, by omega⟩ := Fin.ext (by simp only [at_, Fin.val_zero, zero_mul, zero_add])
theorem col1 (q : Fin 5632) : at_ (n := 11264) (k := 2) (l := 5632) rfl 1 q = ⟨5632 + q.val, by omega⟩ := Fin.ext (by simp only [at_, Fin.val_one, one_mul])

theorem values : θ_run defs (onTc (τ := τ) (main (F := Ideal))) ⟨m, fun _ => 0, ρ⟩ fun r => ∀ c : Dev nD,
    r.2.mem ((c : Thread nD τ).loc main_v10) = halves (prod (m ((c : Thread nD τ).loc main_arg0)) (m ((c : Thread nD τ).loc main_arg1)))
    ∧ r.2.mem ((c : Thread nD τ).loc main_v11) = gated (prod (m ((c : Thread nD τ).loc main_arg0)) (m ((c : Thread nD τ).loc main_arg1)))
    ∧ r.2.mem ((c : Thread nD τ).loc main_v13) = gatedT (prod (m ((c : Thread nD τ).loc main_arg0)) (m ((c : Thread nD τ).loc main_arg1)))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2.1.trans ?_, (h c).2.2.1.trans ?_, (h c).2.2.2⟩) (Value.run m ρ)
  · funext i
    idx_vars i
    pointwise [halves, prod]
    split
    · rename_i h0
      obtain rfl : i0 = (0 : Fin 2) := Fin.ext (by rw [Fin.val_zero]; omega)
      rw [col0 i2]
    · rename_i h0
      obtain rfl : i0 = (1 : Fin 2) := Fin.ext (by rw [Fin.val_one]; have := Fin.isLt i0; omega)
      rw [col1 i2]
  · funext i
    idx_vars i
    pointwise [gated, prod, sw]
    rw [col0 i1, col1 i1]
  · funext i
    idx_vars i
    pointwise [gatedT, prod, sw]
    rw [col0 i0, col1 i0]

end Cert.RefFfnInIdeal.Product

end
-- ==== Proof.ProjPValue.lean ====
/- The product of a projection before the recurrence: each entry is one sum over the contracted axis. -/
module

public import proofs.«01_k».proof.Defs
public import proofs.«01_k».proof.Proof.Pieces
public import proofs.«01_k».proof.Proof.Gen.ProjP
public import proofs.«01_k».proof.Proof.Gen.ProjPIdeal
public import proofs.«01_k».proof.Proof.Gen.ProjPIdeal.Frame
public import proofs.«01_k».proof.Proof.Gen.ProjPIdeal.Value
public import proofs.«01_k».proof.Proof.Gen.RefProjPIdeal
public import proofs.«01_k».proof.Proof.Gen.RefProjPIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.ProjPIdeal.Product

open Cert.ProjPIdeal.Gen Cert.Pieces

variable (m : (ℓ : Loc nD τ sig) → Buf (Elt Ideal) ℓ) (ρ : Dev nD → PrngReg) (c : Dev nD)

/-- The product of one pair of blocks. -/
def part (a : Vec Ideal S1024x1024 .bf16) (b : Vec Ideal S1x1024x512 .bf16) (y0 : Fin 1024) (y1 : Fin 512) : EReal := ∑ j : Fin 1024, a (ix2 y0 j) * b (ix3 0 j y1)

theorem pay1 (y0 : Fin 1024) (y1 : Fin 512) : k0_pay1 (F := Ideal) (ix2 y0 y1) = 0 := by
  pointwise [k0_pay1]

theorem pay2 (a : Vec Ideal S1024x1024 .bf16) (b : Vec Ideal S1x1024x512 .bf16) (x : Vec Ideal S1024x512 .f32) (y0 : Fin 1024) (y1 : Fin 512) :
    k0_pay2 (F := Ideal) x a b (ix2 y0 y1) = x (ix2 y0 y1) + part a b y0 y1 := by
  pointwise [k0_pay2]
  rfl

theorem pay3 (x : Vec Ideal S1024x512 .f32) (y0 : Fin 1024) (y1 : Fin 512) : k0_pay3 (F := Ideal) x (ix2 y0 y1) = x (ix2 y0 y1) := by
  pointwise [k0_pay3]

section
variable (i : grid0.Coords) (a3 : Memref sig .tc .vmem S1024x1024 .bf16) (h3 : a3.IsWhole) (a4 : Memref sig .tc .vmem S1x1024x512 .bf16) (h4 : a4.IsWhole)
variable (a5 : Memref sig .tc .vmem S1024x512 .bf16) (h5 : a5.IsWhole) (a6 : Memref sig .tc .vmem S1024x512 .f32) (h6 : a6.IsWhole)
variable (x0 : Vec Ideal S1024x1024 .bf16) (x1 : Vec Ideal S1x1024x512 .bf16) (xs : Vec Ideal S1024x512 .f32)

theorem only (hc0 : cond0_0 i) (hc1 : cond0_1 i) : out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  rw [View.readCov_cons_unit_lit' (S := S1024x512) _ _ _ _ _ (congrFun hz2) (congrFun hz2)]
  simp only [View.readCov_unit_zero (S := S1024x512) _ hz2, View.readAt_eq_ld, h3.read_unread, h4.read_unread, View.ld_unit_zero (S := S1024x1024) hz2, View.ld_unit_zero (S := S1x1024x512) hz3, View.ld_unit_zero (S := S1024x512) hz2, shapeCast_self]

end

/-- The shard of a column, and its place in the shard. -/
def sh (N : Fin 2048) : Fin 4 := ⟨N.val / 512, by omega⟩
def sc (N : Fin 2048) : Fin 512 := ⟨N.val % 512, by omega⟩

/-- An entry, its place given by the row and the column. -/
def entry (X : Arr2 8192 1024) (W : Arr3 4 1024 512) (M : Fin 8192) (N : Fin 2048) : EReal :=
  ∑ j : Fin 1024, X (ix2 M j) * W (ix3 (sh N) j (sc N))

def atM (q : ℕ) (y0 : Fin 1024) (y1 : Fin 512) : Fin 8192 := ⟨q / 4 % 8 * 1024 + y0.val, by omega⟩
def atN (q : ℕ) (y0 : Fin 1024) (y1 : Fin 512) : Fin 2048 := ⟨q % 4 * 512 + y1.val, by omega⟩

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, win0_0.index t = ![t.val / 4, 0] ∧ win0_1.index t = ![t.val % 4, 0, 0] ∧ win0_2.index t = ![t.val / 4, t.val % 4])

theorem part_blk (t : Fin cfg0.N) (y0 : Fin 1024) (y1 : Fin 512) :
    part (iblk m c 0 t) (iblk m c 1 t) y0 y1 = entry (V m c main_arg0) (V m c main_v1) (atM (t.val / 1) y0 y1) (atN (t.val / 1) y0 y1) := by
  have ht : t.val < 32 := t.isLt
  refine Finset.sum_congr rfl fun j _ => ?_
  have hj := j.isLt
  have hy0 := y0.isLt
  have hy1 := y1.isLt
  have e0 : iblk m c 0 t (ix2 y0 j) = V m c main_arg0 (ix2 (atM (t.val / 1) y0 y1) j) := by
    blk_ext [iblk, idx t, atM, atN, sh, sc]
  have e1 : iblk m c 1 t (ix3 0 j y1) = V m c main_v1 (ix3 (sh (atN (t.val / 1) y0 y1)) j (sc (atN (t.val / 1) y0 y1))) := by
    blk_ext [iblk, idx t, atM, atN, sh, sc]
  rw [e0, e1]

theorem out (t : Fin cfg0.N) (y0 : Fin 1024) (y1 : Fin 512) :
    outsAt0 m c t (ix2 y0 y1) = entry (V m c main_arg0) (V m c main_v1) (atM (t.val / 1) y0 y1) (atN (t.val / 1) y0 y1) := by
  unfold outsAt0
  rw [only, pay3, pay2, part_blk, pay1, zero_add]

/-- The array of the entries. -/
def whole (X : Arr2 8192 1024) (W : Arr3 4 1024 512) : Arr2 8192 2048 := fun i => entry X W (i 0) (i 1)

theorem whole_at (X : Arr2 8192 1024) (W : Arr3 4 1024 512) (i : (⟨2, ![8192, 2048]⟩ : Shape).Idx) (M : Fin 8192) (N : Fin 2048) (hM : (i 0).val = M.val) (hN : (i 1).val = N.val) : whole X W i = entry X W M N := by
  unfold whole
  rw [show i 0 = M from Fin.ext hM]
  rw [show i 1 = N from Fin.ext hN]

theorem array : (dats m 0 c).arrAt 2 cfg0.N = whole (V m c main_arg0) (V m c main_v1) := by
  refine (dats m 0 c).arrAt_eq_of_covers 2 _ (by decide +kernel) fun t _ y => ?_
  have ht : t.val < 32 := t.isLt
  blk_simp
  rw [after0_2]
  idx_vars y
  refine (out m c t _ _).trans (whole_at _ _ _ _ _ ?_ ?_).symm
  · blk_simp [idx t, atM]
    first | done | (dsimp only; omega) | omega
  · blk_simp [idx t, atN]
    first | done | (dsimp only; omega) | omega

/-! ## The arrays the call is given -/

theorem arg0 : V m c main_arg0 = m ((c : Thread nD τ).loc main_arg0) := by
  dsimp only [V, hostOps0]
  after_results

theorem arg1 (N : Fin 2048) (k : Fin 1024) : V m c main_v1 (ix3 (sh N) k (sc N)) = (m ((c : Thread nD τ).loc main_arg1) : Arr2 1024 2048) (ix2 k N) := by
  dsimp only [V, hostOps0]
  after_results
  simp only [StableHlo.TRef.toBuf, StableHlo.TRef.ofBuf, cast_eq, id]
  clean_types
  pointwise [id]
  unfold sh sc
  exact congrArg _ (congrArg (ix2 k) (Fin.ext (by dsimp only; omega)))

/-- The product as one sum over the contracted axis. -/
def prod (X : Arr2 8192 1024) (W : Arr2 1024 2048) : Arr2 8192 2048 :=
  fun i => ∑ x : Fin 1024, X (ix2 (i 0) x) * W (ix2 x (i 1))

theorem whole_eq : whole (V m c main_arg0) (V m c main_v1) = prod (m ((c : Thread nD τ).loc main_arg0)) (m ((c : Thread nD τ).loc main_arg1)) := by
  funext i
  unfold whole prod entry
  refine Finset.sum_congr rfl fun j _ => ?_
  exact congrArg₂ (· * ·) (congrFun (arg0 m c) _) (arg1 m c (i 1) j)

theorem values : θ_run defs (onTc (τ := τ) (main (F := Ideal))) ⟨m, fun _ => 0, ρ⟩ fun r => ∀ c : Dev nD,
    r.2.mem ((c : Thread nD τ).loc main_v2) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.ProjPIdeal.Product

namespace Cert.RefProjPIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v3) = Cert.ProjPIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.ProjPIdeal.Product.prod]

end Cert.RefProjPIdeal.Product

end
-- ==== Proof.ProjOutValue.lean ====
/- The product after the recurrence: each entry is one sum over the contracted axis. -/
module

public import proofs.«01_k».proof.Defs
public import proofs.«01_k».proof.Proof.Pieces
public import proofs.«01_k».proof.Proof.Gen.ProjOut
public import proofs.«01_k».proof.Proof.Gen.ProjOutIdeal
public import proofs.«01_k».proof.Proof.Gen.ProjOutIdeal.Frame
public import proofs.«01_k».proof.Proof.Gen.ProjOutIdeal.Value
public import proofs.«01_k».proof.Proof.Gen.RefProjOutIdeal
public import proofs.«01_k».proof.Proof.Gen.RefProjOutIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.ProjOutIdeal.Product

open Cert.ProjOutIdeal.Gen Cert.Pieces

variable (m : (ℓ : Loc nD τ sig) → Buf (Elt Ideal) ℓ) (ρ : Dev nD → PrngReg) (c : Dev nD)

/-- The product of one pair of blocks. -/
def part (a : Vec Ideal S1024x2048 .bf16) (b : Vec Ideal S1x2048x1024 .bf16) (y0 : Fin 1024) (y1 : Fin 1024) : EReal := ∑ j : Fin 2048, a (ix2 y0 j) * b (ix3 0 j y1)

theorem pay1 (y0 : Fin 1024) (y1 : Fin 1024) : k0_pay1 (F := Ideal) (ix2 y0 y1) = 0 := by
  pointwise [k0_pay1]

theorem pay2 (a : Vec Ideal S1024x2048 .bf16) (b : Vec Ideal S1x2048x1024 .bf16) (x : Vec Ideal S1024x1024 .f32) (y0 : Fin 1024) (y1 : Fin 1024) :
    k0_pay2 (F := Ideal) x a b (ix2 y0 y1) = x (ix2 y0 y1) + part a b y0 y1 := by
  pointwise [k0_pay2]
  rfl

section
variable (i : grid0.Coords) (a3 : Memref sig .tc .vmem S1024x2048 .bf16) (h3 : a3.IsWhole) (a4 : Memref sig .tc .vmem S1x2048x1024 .bf16) (h4 : a4.IsWhole)
variable (a5 : Memref sig .tc .vmem S1024x1024 .f32) (h5 : a5.IsWhole) (a6 : Memref sig .tc .vmem S1024x1024 .f32) (h6 : a6.IsWhole)
variable (x0 : Vec Ideal S1024x2048 .bf16) (x1 : Vec Ideal S1x2048x1024 .bf16) (xs : Vec Ideal S1024x1024 .f32)

theorem only (hc0 : cond0_0 i) (hc1 : cond0_1 i) : out0_A_2 c i a3 h3 a4 h4 a5 h5 a6 h6 hc0 hc1 x0 x1 = (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  rw [View.readCov_cons_unit_lit' (S := S1024x1024) _ _ _ _ _ (congrFun hz2) (congrFun hz2)]
  simp only [View.readCov_unit_zero (S := S1024x1024) _ hz2, View.readAt_eq_ld, h3.read_unread, h4.read_unread, View.ld_unit_zero (S := S1024x2048) hz2, View.ld_unit_zero (S := S1x2048x1024) hz3, View.ld_unit_zero (S := S1024x1024) hz2, shapeCast_self]

end

/-- An entry, its place given by the row and the column. -/
def entry (X : Arr2 8192 2048) (W : Arr3 1 2048 2048) (M : Fin 8192) (N : Fin 2048) : EReal :=
  ∑ j : Fin 2048, X (ix2 M j) * W (ix3 0 j N)

def atM (q : ℕ) (y0 : Fin 1024) (y1 : Fin 1024) : Fin 8192 := ⟨q / 2 % 8 * 1024 + y0.val, by omega⟩
def atN (q : ℕ) (y0 : Fin 1024) (y1 : Fin 1024) : Fin 2048 := ⟨q % 2 * 1024 + y1.val, by omega⟩

theorem idx : ∀ t : Fin cfg0.N, win0_0.index t = ![t.val / 2, 0] ∧ win0_1.index t = ![0, 0, t.val % 2] ∧ win0_2.index t = ![t.val / 2, t.val % 2] :=
  (by decide +kernel : ∀ t : Fin grid0.N, win0_0.index t = ![t.val / 2, 0] ∧ win0_1.index t = ![0, 0, t.val % 2] ∧ win0_2.index t = ![t.val / 2, t.val % 2])

theorem part_blk (t : Fin cfg0.N) (y0 : Fin 1024) (y1 : Fin 1024) :
    part (iblk m c 0 t) (iblk m c 1 t) y0 y1 = entry (V m c main_arg0) (V m c main_v0) (atM (t.val / 1) y0 y1) (atN (t.val / 1) y0 y1) := by
  have ht : t.val < 16 := t.isLt
  refine Finset.sum_congr rfl fun j _ => ?_
  have hj := j.isLt
  have hy0 := y0.isLt
  have hy1 := y1.isLt
  have e0 : iblk m c 0 t (ix2 y0 j) = V m c main_arg0 (ix2 (atM (t.val / 1) y0 y1) j) := by
    blk_ext [iblk, idx t, atM, atN]
  have e1 : iblk m c 1 t (ix3 0 j y1) = V m c main_v0 (ix3 0 j (atN (t.val / 1) y0 y1)) := by
    blk_ext [iblk, idx t, atM, atN]
  rw [e0, e1]

theorem out (t : Fin cfg0.N) (y0 : Fin 1024) (y1 : Fin 1024) :
    outsAt0 m c t (ix2 y0 y1) = entry (V m c main_arg0) (V m c main_v0) (atM (t.val / 1) y0 y1) (atN (t.val / 1) y0 y1) := by
  unfold outsAt0
  rw [only, pay2, part_blk, pay1, zero_add]

/-- The array of the entries. -/
def whole (X : Arr2 8192 2048) (W : Arr3 1 2048 2048) : Arr2 8192 2048 := fun i => entry X W (i 0) (i 1)

theorem whole_at (X : Arr2 8192 2048) (W : Arr3 1 2048 2048) (i : (⟨2, ![8192, 2048]⟩ : Shape).Idx) (M : Fin 8192) (N : Fin 2048) (hM : (i 0).val = M.val) (hN : (i 1).val = N.val) : whole X W i = entry X W M N := by
  unfold whole
  rw [show i 0 = M from Fin.ext hM]
  rw [show i 1 = N from Fin.ext hN]

theorem array : (dats m 0 c).arrAt 2 cfg0.N = whole (V m c main_arg0) (V m c main_v0) := by
  refine (dats m 0 c).arrAt_eq_of_covers 2 _ (by decide +kernel) fun t _ y => ?_
  have ht : t.val < 16 := t.isLt
  blk_simp
  rw [after0_2]
  idx_vars y
  refine (out m c t _ _).trans (whole_at _ _ _ _ _ ?_ ?_).symm
  · blk_simp [idx t, atM]
    first | done | (dsimp only; omega) | omega
  · blk_simp [idx t, atN]
    first | done | (dsimp only; omega) | omega

/-! ## The arrays the call is given -/

theorem arg0 : V m c main_arg0 = m ((c : Thread nD τ).loc main_arg0) := by
  dsimp only [V, hostOps0]
  after_results

theorem arg1 (k : Fin 2048) (N : Fin 2048) : V m c main_v0 (ix3 0 k N) = (m ((c : Thread nD τ).loc main_arg1) : Arr2 2048 2048) (ix2 k N) := by
  dsimp only [V, hostOps0]
  after_results
  clean_types
  pointwise [id]

/-- The product as one sum over the contracted axis. -/
def prod (X : Arr2 8192 2048) (W : Arr2 2048 2048) : Arr2 8192 2048 :=
  fun i => ∑ x : Fin 2048, X (ix2 (i 0) x) * W (ix2 x (i 1))

theorem whole_eq : whole (V m c main_arg0) (V m c main_v0) = prod (m ((c : Thread nD τ).loc main_arg0)) (m ((c : Thread nD τ).loc main_arg1)) := by
  funext i
  unfold whole prod entry
  refine Finset.sum_congr rfl fun j _ => ?_
  exact congrArg₂ (· * ·) (congrFun (arg0 m c) _) (arg1 m c j (i 1))

theorem values : θ_run defs (onTc (τ := τ) (main (F := Ideal))) ⟨m, fun _ => 0, ρ⟩ fun r => ∀ c : Dev nD,
    r.2.mem ((c : Thread nD τ).loc main_v1) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.ProjOutIdeal.Product

namespace Cert.RefProjOutIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v2) = Cert.ProjOutIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.ProjOutIdeal.Product.prod]

end Cert.RefProjOutIdeal.Product

end
-- ==== Proof.DwOutValue.lean ====
/- The weight gradient of the product after the recurrence: each entry is the sum over the four pieces of the tokens. -/
module

public import proofs.«01_k».proof.Defs
public import proofs.«01_k».proof.Proof.Pieces
public import proofs.«01_k».proof.Proof.Gen.DwOut
public import proofs.«01_k».proof.Proof.Gen.DwOutIdeal
public import proofs.«01_k».proof.Proof.Gen.DwOutIdeal.Frame
public import proofs.«01_k».proof.Proof.Gen.DwOutIdeal.Value
public import proofs.«01_k».proof.Proof.Gen.RefDwOutIdeal
public import proofs.«01_k».proof.Proof.Gen.RefDwOutIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DwOutIdeal.Product

open Cert.DwOutIdeal.Gen Cert.Pieces

variable (m : (ℓ : Loc nD τ sig) → Buf (Elt Ideal) ℓ) (ρ : Dev nD → PrngReg) (c : Dev nD)

/-- The product of one pair of blocks. -/
def part (a : Vec Ideal S2048x1024 .bf16) (b : Vec Ideal S1x2048x1024 .bf16) (y0 : Fin 1024) (y1 : Fin 1024) : EReal := ∑ j : Fin 2048, a (ix2 j y0) * b (ix3 0 j y1)

theorem pay1 (y0 : Fin 1024) (y1 : Fin 1024) : k0_pay1 (F := Ideal) (ix2 y0 y1) = 0 := by
  pointwise [k0_pay1]

theorem pay2 (a : Vec Ideal S2048x1024 .bf16) (b : Vec Ideal S1x2048x1024 .bf16) (x : Vec Ideal S1024x1024 .f32) (y0 : Fin 1024) (y1 : Fin 1024) :
    k0_pay2 (F := Ideal) x a b (ix2 y0 y1) = x (ix2 y0 y1) + part a b y0 y1 := by
  pointwise [k0_pay2]
  rfl

theorem pay3 (x : Vec Ideal S1024x1024 .f32) (y0 : Fin 1024) (y1 : Fin 1024) : k0_pay3 (F := Ideal) x (ix4 0 0 y0 y1) = x (ix2 y0 y1) := by
  pointwise [k0_pay3]

section
variable (i : grid0.Coords) (a3 : Memref sig .tc .vmem S2048x1024 .bf16) (h3 : a3.IsWhole) (a4 : Memref sig .tc .vmem S1x2048x1024 .bf16) (h4 : a4.IsWhole)
variable (a5 : Memref sig .tc .vmem S1x1x1024x1024 .f32) (h5 : a5.IsWhole) (a6 : Memref sig .tc .vmem S1024x1024 .f32) (h6 : a6.IsWhole)
variable (x0 : Vec Ideal S2048x1024 .bf16) (x1 : Vec Ideal S1x2048x1024 .bf16) (xs : Vec Ideal S1024x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S2048x1024) hz2, View.ld_unit_zero (S := S1x2048x1024) hz3, shapeCast_self]

theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S2048x1024) hz2, View.ld_unit_zero (S := S1x2048x1024) hz3, View.ld_unit_zero (S := S1024x1024) hz2, shapeCast_self]

theorem last (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz4]
  simp only [View.readCov_unit_zero (S := S1024x1024) _ hz2, View.readAt_eq_ld, h3.read_unread, h4.read_unread, h6.read_unread, View.ld_unit_zero (S := S2048x1024) hz2, View.ld_unit_zero (S := S1x2048x1024) hz3, View.ld_unit_zero (S := S1024x1024) hz2, shapeCast_self]

end

/-- Piece `k` of the contracted axis in an entry. -/
def term (X : Arr2 8192 2048) (W : Arr3 1 8192 2048) (S : Fin 1) (H : Fin 2) (R : Fin 1024) (Q : Fin 2048) (k : ℕ) : EReal :=
  ∑ j : Fin 2048, X (ix2 ⟨k % 4 * 2048 + j.val, by omega⟩ (at_ (n := 2048) (k := 2) (l := 1024) rfl H R)) * W (ix3 S ⟨k % 4 * 2048 + j.val, by omega⟩ Q)

def atS (q : ℕ) (y0 : Fin 1024) (y1 : Fin 1024) : Fin 1 := ⟨0, by omega⟩
def atH (q : ℕ) (y0 : Fin 1024) (y1 : Fin 1024) : Fin 2 := ⟨q / 2 % 2, by omega⟩
def atR (q : ℕ) (y0 : Fin 1024) (y1 : Fin 1024) : Fin 1024 := ⟨y0.val, by omega⟩
def atQ (q : ℕ) (y0 : Fin 1024) (y1 : Fin 1024) : Fin 2048 := ⟨q % 2 * 1024 + y1.val, by omega⟩

theorem idx : ∀ t : Fin cfg0.N, win0_0.index t = ![t.val % 4, t.val / 8] ∧ win0_1.index t = ![0, t.val % 4, t.val / 4 % 2] ∧ win0_2.index t = ![0, t.val / 8, 0, t.val / 4 % 2] :=
  (by decide +kernel : ∀ t : Fin grid0.N, win0_0.index t = ![t.val % 4, t.val / 8] ∧ win0_1.index t = ![0, t.val % 4, t.val / 4 % 2] ∧ win0_2.index t = ![0, t.val / 8, 0, t.val / 4 % 2])

theorem part_blk (t : Fin cfg0.N) (y0 : Fin 1024) (y1 : Fin 1024) :
    part (iblk m c 0 t) (iblk m c 1 t) y0 y1 = term (V m c main_arg0) (V m c main_v0) (atS (t.val / 4) y0 y1) (atH (t.val / 4) y0 y1) (atR (t.val / 4) y0 y1) (atQ (t.val / 4) y0 y1) t.val := by
  have ht : t.val < 16 := t.isLt
  refine Finset.sum_congr rfl fun j _ => ?_
  have hj := j.isLt
  have hy0 := y0.isLt
  have hy1 := y1.isLt
  have e0 : iblk m c 0 t (ix2 j y0) = V m c main_arg0 (ix2 ⟨t.val % 4 * 2048 + j.val, by omega⟩ (at_ (n := 2048) (k := 2) (l := 1024) rfl (atH (t.val / 4) y0 y1) (atR (t.val / 4) y0 y1))) := by
    blk_ext [iblk, idx t, atS, atH, atR, atQ, at_]
  have e1 : iblk m c 1 t (ix3 0 j y1) = V m c main_v0 (ix3 (atS (t.val / 4) y0 y1) ⟨t.val % 4 * 2048 + j.val, by omega⟩ (atQ (t.val / 4) y0 y1)) := by
    blk_ext [iblk, idx t, atS, atH, atR, atQ, at_]
  rw [e0, e1]

theorem term_mod (X : Arr2 8192 2048) (W : Arr3 1 8192 2048) (S : Fin 1) (H : Fin 2) (R : Fin 1024) (Q : Fin 2048) {k l : ℕ} (h : k % 4 = l % 4) : term X W S H R Q k = term X W S H R Q l := by
  simp only [term, h]

set_option maxHeartbeats 2000000 in
theorem scratch : ∀ (r n : ℕ) (hn : n < cfg0.N) (y0 : Fin 1024) (y1 : Fin 1024), n % 4 = r → r < 3 →
    (outsAt0 m c n hn).2 (ix2 y0 y1) = ∑ k ∈ Finset.range (r + 1), term (V m c main_arg0) (V m c main_v0) (atS (n / 4) y0 y1) (atH (n / 4) y0 y1) (atR (n / 4) y0 y1) (atQ (n / 4) y0 y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ _ _ (by dsimp only; omega)
  | r + 1, n, hn, y0, y1, h, hr => by
    rw [outsAt0_B m c ⟨n, hn⟩ (by dsimp only; omega) (by dsimp only; omega)]
    dsimp only
    rw [next, pay2, part_blk m c ⟨n, hn⟩, scratch r (n - 1) _ y0 y1 (by omega) (by omega), Finset.sum_range_succ _ (r + 1)]
    have e : (n - 1) / 4 = n / 4 := by omega
    rw [e]
    exact congrArg _ (term_mod _ _ _ _ _ _ (by dsimp only; omega))

set_option maxHeartbeats 2000000 in
theorem out (t : Fin cfg0.N) (h : t.val % 4 = 3) (y0 : Fin 1024) (y1 : Fin 1024) :
    (outsAt0 m c t.val t.isLt).1 (ix4 0 0 y0 y1) = ∑ k ∈ Finset.range 4, term (V m c main_arg0) (V m c main_v0) (atS (t.val / 4) y0 y1) (atH (t.val / 4) y0 y1) (atR (t.val / 4) y0 y1) (atQ (t.val / 4) y0 y1) k := by
  rw [outsAt0_C m c t (by omega) h]
  dsimp only
  rw [last, pay3, pay2, part_blk, scratch m c 2 (t.val - 1) _ y0 y1 (by omega) (by omega), Finset.sum_range_succ _ 3]
  have e : (t.val - 1) / 4 = t.val / 4 := by omega
  rw [e]
  exact congrArg _ (term_mod _ _ _ _ _ _ (by omega))

/-- The array of the sums over the pieces. -/
def whole (X : Arr2 8192 2048) (W : Arr3 1 8192 2048) : (⟨4, ![1, 2, 1024, 2048]⟩ : Shape).Idx → EReal := fun i => ∑ k ∈ Finset.range 4, term X W (i 0) (i 1) (i 2) (i 3) k

theorem whole_at (X : Arr2 8192 2048) (W : Arr3 1 8192 2048) (i : (⟨4, ![1, 2, 1024, 2048]⟩ : Shape).Idx) (S : Fin 1) (H : Fin 2) (R : Fin 1024) (Q : Fin 2048) (hS : (i 0).val = S.val) (hH : (i 1).val = H.val) (hR : (i 2).val = R.val) (hQ : (i 3).val = Q.val) : whole X W i = ∑ k ∈ Finset.range 4, term X W S H R Q k := by
  unfold whole
  rw [show i 0 = S from Fin.ext hS]
  rw [show i 1 = H from Fin.ext hH]
  rw [show i 2 = R from Fin.ext hR]
  rw [show i 3 = Q from Fin.ext hQ]

theorem array : (dats m 0 c).arrAt 2 cfg0.N = whole (V m c main_arg0) (V m c main_v0) := by
  refine (dats m 0 c).arrAt_eq_of_covers 2 _ (by decide +kernel) fun t hf y => ?_
  have h : t.val % 4 = 3 := (flush0_2 t).mp hf
  have ht : t.val < 16 := t.isLt
  blk_simp
  rw [after0_2]
  idx_vars y
  obtain rfl : y0 = (0 : Fin 1) := Subsingleton.elim (α := Fin 1) _ _
  obtain rfl : y1 = (0 : Fin 1) := Subsingleton.elim (α := Fin 1) _ _
  refine (out m c t h _ _).trans (whole_at _ _ _ _ _ _ _ ?_ ?_ ?_ ?_).symm
  · blk_simp [idx t, atS]
    first | done | (dsimp only; omega) | omega
  · blk_simp [idx t, atH]
    first | done | (dsimp only; omega) | omega
  · blk_simp [idx t, atR]
    first | done | (dsimp only; omega) | omega
  · blk_simp [idx t, atQ]
    first | done | (dsimp only; omega) | omega

/-! ## The arrays the call is given -/

theorem arg0 : V m c main_arg0 = m ((c : Thread nD τ).loc main_arg0) := by
  dsimp only [V, hostOps0]
  after_results

theorem arg1 (k : Fin 8192) (N : Fin 2048) : V m c main_v0 (ix3 0 k N) = (m ((c : Thread nD τ).loc main_arg1) : Arr2 8192 2048) (ix2 k N) := by
  dsimp only [V, hostOps0]
  after_results
  clean_types
  pointwise [id]

/-- The product as one sum over the contracted axis. -/
def prod (X : Arr2 8192 2048) (W : Arr2 8192 2048) : (⟨4, ![1, 2, 1024, 2048]⟩ : Shape).Idx → EReal :=
  fun i => ∑ x : Fin 8192, X (ix2 x (at_ (n := 2048) (k := 2) (l := 1024) rfl (i 1) (i 2))) * W (ix2 x (i 3))

theorem whole_eq : whole (V m c main_arg0) (V m c main_v0) = prod (m ((c : Thread nD τ).loc main_arg0)) (m ((c : Thread nD τ).loc main_arg1)) := by
  funext i
  unfold whole prod
  simp only [term]
  rw [sum_at (k := 4) (l := 2048) rfl, Finset.sum_range]
  refine Finset.sum_congr rfl fun k _ => Finset.sum_congr rfl fun j _ => ?_
  have hk := k.isLt
  have hj := j.isLt
  have ek : (⟨k.val % 4 * 2048 + j.val, by omega⟩ : Fin 8192) = at_ rfl k j := Fin.ext (by simp only [at_]; omega)
  simp only [ek]
  rw [show i 0 = (0 : Fin 1) from Subsingleton.elim (α := Fin 1) (i 0) 0]
  exact congrArg₂ (· * ·) (congrFun (arg0 m c) _) (arg1 m c _ _)

theorem values : θ_run defs (onTc (τ := τ) (main (F := Ideal))) ⟨m, fun _ => 0, ρ⟩ fun r => ∀ c : Dev nD,
    r.2.mem ((c : Thread nD τ).loc main_v1) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.DwOutIdeal.Product

namespace Cert.RefDwOutIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v6) = Cert.DwOutIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.DwOutIdeal.Product.prod]
  exact Finset.sum_congr rfl fun x _ => mul_comm _ _

end Cert.RefDwOutIdeal.Product

end
-- ==== Proof.DOnaValue.lean ====
/- The input gradient of the first projection: each entry is the sum over the four shards of the contracted axis. -/
module

public import proofs.«01_k».proof.Defs
public import proofs.«01_k».proof.Proof.Pieces
public import proofs.«01_k».proof.Proof.Gen.DOna
public import proofs.«01_k».proof.Proof.Gen.DOnaIdeal
public import proofs.«01_k».proof.Proof.Gen.DOnaIdeal.Frame
public import proofs.«01_k».proof.Proof.Gen.DOnaIdeal.Value
public import proofs.«01_k».proof.Proof.Gen.RefDOnaIdeal
public import proofs.«01_k».proof.Proof.Gen.RefDOnaIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DOnaIdeal.Product

open Cert.DOnaIdeal.Gen Cert.Pieces

variable (m : (ℓ : Loc nD τ sig) → Buf (Elt Ideal) ℓ) (ρ : Dev nD → PrngReg) (c : Dev nD)

/-- The product of one pair of blocks. -/
def part (a : Vec Ideal S1x1024x512 .bf16) (b : Vec Ideal S1x1024x512 .bf16) (y0 : Fin 1024) (y1 : Fin 1024) : EReal := ∑ j : Fin 512, a (ix3 0 y0 j) * b (ix3 0 y1 j)

theorem pay1 (y0 : Fin 1024) (y1 : Fin 1024) : k0_pay1 (F := Ideal) (ix2 y0 y1) = 0 := by
  pointwise [k0_pay1]

theorem pay2 (a : Vec Ideal S1x1024x512 .bf16) (b : Vec Ideal S1x1024x512 .bf16) (x : Vec Ideal S1024x1024 .f32) (y0 : Fin 1024) (y1 : Fin 1024) :
    k0_pay2 (F := Ideal) x a b (ix2 y0 y1) = x (ix2 y0 y1) + part a b y0 y1 := by
  pointwise [k0_pay2]
  rfl

theorem pay3 (x : Vec Ideal S1024x1024 .f32) (y0 : Fin 1024) (y1 : Fin 1024) : k0_pay3 (F := Ideal) x (ix2 y0 y1) = x (ix2 y0 y1) := by
  pointwise [k0_pay3]

section
variable (i : grid0.Coords) (a3 : Memref sig .tc .vmem S1x1024x512 .bf16) (h3 : a3.IsWhole) (a4 : Memref sig .tc .vmem S1x1024x512 .bf16) (h4 : a4.IsWhole)
variable (a5 : Memref sig .tc .vmem S1024x1024 .bf16) (h5 : a5.IsWhole) (a6 : Memref sig .tc .vmem S1024x1024 .f32) (h6 : a6.IsWhole)
variable (x0 : Vec Ideal S1x1024x512 .bf16) (x1 : Vec Ideal S1x1024x512 .bf16) (xs : Vec Ideal S1024x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S1x1024x512) hz3, View.ld_unit_zero (S := S1x1024x512) hz3, shapeCast_self]

theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1x1024x512) hz3, View.ld_unit_zero (S := S1x1024x512) hz3, View.ld_unit_zero (S := S1024x1024) hz2, shapeCast_self]

theorem last (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz2]
  simp only [View.readCov_unit_zero (S := S1024x1024) _ hz2, View.readAt_eq_ld, h3.read_unread, h4.read_unread, h6.read_unread, View.ld_unit_zero (S := S1x1024x512) hz3, View.ld_unit_zero (S := S1x1024x512) hz3, View.ld_unit_zero (S := S1024x1024) hz2, shapeCast_self]

end

/-- Piece `k` of the contracted axis in an entry. -/
def term (X : Arr3 1 8192 2048) (W : Arr3 4 1024 512) (M : Fin 8192) (N : Fin 1024) (k : ℕ) : EReal :=
  ∑ j : Fin 512, X (ix3 0 M ⟨k % 4 * 512 + j.val, by omega⟩) * W (ix3 ⟨k % 4, by omega⟩ N j)

def atM (q : ℕ) (y0 : Fin 1024) (y1 : Fin 1024) : Fin 8192 := ⟨q % 8 * 1024 + y0.val, by omega⟩
def atN (q : ℕ) (y0 : Fin 1024) (y1 : Fin 1024) : Fin 1024 := ⟨y1.val, by omega⟩

theorem idx : ∀ t : Fin cfg0.N, win0_0.index t = ![0, t.val / 4, t.val % 4] ∧ win0_1.index t = ![t.val % 4, 0, 0] ∧ win0_2.index t = ![t.val / 4, 0] :=
  (by decide +kernel : ∀ t : Fin grid0.N, win0_0.index t = ![0, t.val / 4, t.val % 4] ∧ win0_1.index t = ![t.val % 4, 0, 0] ∧ win0_2.index t = ![t.val / 4, 0])

theorem part_blk (t : Fin cfg0.N) (y0 : Fin 1024) (y1 : Fin 1024) :
    part (iblk m c 0 t) (iblk m c 1 t) y0 y1 = term (V m c main_v2) (V m c main_v1) (atM (t.val / 4) y0 y1) (atN (t.val / 4) y0 y1) t.val := by
  have ht : t.val < 32 := t.isLt
  refine Finset.sum_congr rfl fun j _ => ?_
  have hj := j.isLt
  have hy0 := y0.isLt
  have hy1 := y1.isLt
  have e0 : iblk m c 0 t (ix3 0 y0 j) = V m c main_v2 (ix3 0 (atM (t.val / 4) y0 y1) ⟨t.val % 4 * 512 + j.val, by omega⟩) := by
    blk_ext [iblk, idx t, atM, atN]
  have e1 : iblk m c 1 t (ix3 0 y1 j) = V m c main_v1 (ix3 ⟨t.val % 4, by omega⟩ (atN (t.val / 4) y0 y1) j) := by
    blk_ext [iblk, idx t, atM, atN]
  rw [e0, e1]

theorem term_mod (X : Arr3 1 8192 2048) (W : Arr3 4 1024 512) (M : Fin 8192) (N : Fin 1024) {k l : ℕ} (h : k % 4 = l % 4) : term X W M N k = term X W M N l := by
  simp only [term, h]

set_option maxHeartbeats 2000000 in
theorem scratch : ∀ (r n : ℕ) (hn : n < cfg0.N) (y0 : Fin 1024) (y1 : Fin 1024), n % 4 = r → r < 3 →
    (outsAt0 m c n hn).2 (ix2 y0 y1) = ∑ k ∈ Finset.range (r + 1), term (V m c main_v2) (V m c main_v1) (atM (n / 4) y0 y1) (atN (n / 4) y0 y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ (by dsimp only; omega)
  | r + 1, n, hn, y0, y1, h, hr => by
    rw [outsAt0_B m c ⟨n, hn⟩ (by dsimp only; omega) (by dsimp only; omega)]
    dsimp only
    rw [next, pay2, part_blk m c ⟨n, hn⟩, scratch r (n - 1) _ y0 y1 (by omega) (by omega), Finset.sum_range_succ _ (r + 1)]
    have e : (n - 1) / 4 = n / 4 := by omega
    rw [e]
    exact congrArg _ (term_mod _ _ _ _ (by dsimp only; omega))

set_option maxHeartbeats 2000000 in
theorem out (t : Fin cfg0.N) (h : t.val % 4 = 3) (y0 : Fin 1024) (y1 : Fin 1024) :
    (outsAt0 m c t.val t.isLt).1 (ix2 y0 y1) = ∑ k ∈ Finset.range 4, term (V m c main_v2) (V m c main_v1) (atM (t.val / 4) y0 y1) (atN (t.val / 4) y0 y1) k := by
  rw [outsAt0_C m c t (by omega) h]
  dsimp only
  rw [last, pay3, pay2, part_blk, scratch m c 2 (t.val - 1) _ y0 y1 (by omega) (by omega), Finset.sum_range_succ _ 3]
  have e : (t.val - 1) / 4 = t.val / 4 := by omega
  rw [e]
  exact congrArg _ (term_mod _ _ _ _ (by omega))

/-- The array of the sums over the pieces. -/
def whole (X : Arr3 1 8192 2048) (W : Arr3 4 1024 512) : Arr2 8192 1024 := fun i => ∑ k ∈ Finset.range 4, term X W (i 0) (i 1) k

theorem whole_at (X : Arr3 1 8192 2048) (W : Arr3 4 1024 512) (i : (⟨2, ![8192, 1024]⟩ : Shape).Idx) (M : Fin 8192) (N : Fin 1024) (hM : (i 0).val = M.val) (hN : (i 1).val = N.val) : whole X W i = ∑ k ∈ Finset.range 4, term X W M N k := by
  unfold whole
  rw [show i 0 = M from Fin.ext hM]
  rw [show i 1 = N from Fin.ext hN]

theorem array : (dats m 0 c).arrAt 2 cfg0.N = whole (V m c main_v2) (V m c main_v1) := by
  refine (dats m 0 c).arrAt_eq_of_covers 2 _ (by decide +kernel) fun t hf y => ?_
  have h : t.val % 4 = 3 := (flush0_2 t).mp hf
  have ht : t.val < 32 := t.isLt
  blk_simp
  rw [after0_2]
  idx_vars y
  refine (out m c t h _ _).trans (whole_at _ _ _ _ _ ?_ ?_).symm
  · blk_simp [idx t, atM]
    first | done | (dsimp only; omega) | omega
  · blk_simp [idx t, atN]
    first | done | (dsimp only; omega) | omega

/-! ## The arrays the call is given -/

theorem arg0 (M : Fin 8192) (k : Fin 2048) : V m c main_v2 (ix3 0 M k) = (m ((c : Thread nD τ).loc main_arg0) : Arr2 8192 2048) (ix2 M k) := by
  dsimp only [V, hostOps0]
  after_results
  clean_types
  pointwise [id]

theorem arg1 (k : Fin 4) (N : Fin 1024) (j : Fin 512) : V m c main_v1 (ix3 k N j) = (m ((c : Thread nD τ).loc main_arg1) : Arr2 1024 2048) (ix2 N (at_ (n := 2048) rfl k j)) := by
  dsimp only [V, hostOps0]
  after_results
  simp only [StableHlo.TRef.toBuf, StableHlo.TRef.ofBuf, cast_eq, id]
  clean_types
  pointwise [id]
  rfl

/-- The product as one sum over the contracted axis. -/
def prod (X : Arr2 8192 2048) (W : Arr2 1024 2048) : Arr2 8192 1024 :=
  fun i => ∑ x : Fin 2048, X (ix2 (i 0) x) * W (ix2 (i 1) x)

theorem whole_eq : whole (V m c main_v2) (V m c main_v1) = prod (m ((c : Thread nD τ).loc main_arg0)) (m ((c : Thread nD τ).loc main_arg1)) := by
  funext i
  unfold whole prod
  simp only [term]
  rw [sum_at (k := 4) (l := 512) rfl, Finset.sum_range]
  refine Finset.sum_congr rfl fun k _ => Finset.sum_congr rfl fun j _ => ?_
  have hk := k.isLt
  have hj := j.isLt
  have ek : (⟨k.val % 4 * 512 + j.val, by omega⟩ : Fin 2048) = at_ rfl k j := Fin.ext (by simp only [at_]; omega)
  have es : (⟨k.val % 4, by omega⟩ : Fin 4) = k := Fin.ext (by dsimp only; omega)
  simp only [ek, es]
  exact congrArg₂ (· * ·) (arg0 m c _ _) (arg1 m c _ _ _)

theorem values : θ_run defs (onTc (τ := τ) (main (F := Ideal))) ⟨m, fun _ => 0, ρ⟩ fun r => ∀ c : Dev nD,
    r.2.mem ((c : Thread nD τ).loc main_v3) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.DOnaIdeal.Product

namespace Cert.RefDOnaIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v5) = Cert.DOnaIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.DOnaIdeal.Product.prod]

end Cert.RefDOnaIdeal.Product

end
-- ==== Proof.DObValue.lean ====
/- The input gradient of the second projection: each entry is the sum over the four shards of the contracted axis. -/
module

public import proofs.«01_k».proof.Defs
public import proofs.«01_k».proof.Proof.Pieces
public import proofs.«01_k».proof.Proof.Gen.DOb
public import proofs.«01_k».proof.Proof.Gen.DObIdeal
public import proofs.«01_k».proof.Proof.Gen.DObIdeal.Frame
public import proofs.«01_k».proof.Proof.Gen.DObIdeal.Value
public import proofs.«01_k».proof.Proof.Gen.RefDObIdeal
public import proofs.«01_k».proof.Proof.Gen.RefDObIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DObIdeal.Product

open Cert.DObIdeal.Gen Cert.Pieces

variable (m : (ℓ : Loc nD τ sig) → Buf (Elt Ideal) ℓ) (ρ : Dev nD → PrngReg) (c : Dev nD)

/-- The product of one pair of blocks. -/
def part (a : Vec Ideal S1x1024x512 .bf16) (b : Vec Ideal S1x1024x512 .bf16) (y0 : Fin 1024) (y1 : Fin 1024) : EReal := ∑ j : Fin 512, a (ix3 0 y0 j) * b (ix3 0 y1 j)

theorem pay1 (y0 : Fin 1024) (y1 : Fin 1024) : k0_pay1 (F := Ideal) (ix2 y0 y1) = 0 := by
  pointwise [k0_pay1]

theorem pay2 (a : Vec Ideal S1x1024x512 .bf16) (b : Vec Ideal S1x1024x512 .bf16) (x : Vec Ideal S1024x1024 .f32) (y0 : Fin 1024) (y1 : Fin 1024) :
    k0_pay2 (F := Ideal) x a b (ix2 y0 y1) = x (ix2 y0 y1) + part a b y0 y1 := by
  pointwise [k0_pay2]
  rfl

section
variable (i : grid0.Coords) (a3 : Memref sig .tc .vmem S1x1024x512 .bf16) (h3 : a3.IsWhole) (a4 : Memref sig .tc .vmem S1x1024x512 .bf16) (h4 : a4.IsWhole)
variable (a5 : Memref sig .tc .vmem S1024x1024 .f32) (h5 : a5.IsWhole) (a6 : Memref sig .tc .vmem S1024x1024 .f32) (h6 : a6.IsWhole)
variable (x0 : Vec Ideal S1x1024x512 .bf16) (x1 : Vec Ideal S1x1024x512 .bf16) (xs : Vec Ideal S1024x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S1x1024x512) hz3, View.ld_unit_zero (S := S1x1024x512) hz3, shapeCast_self]

theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1x1024x512) hz3, View.ld_unit_zero (S := S1x1024x512) hz3, View.ld_unit_zero (S := S1024x1024) hz2, shapeCast_self]

theorem last (hc0 : ¬cond0_0 i) (hc1 : cond0_1 i) : out0_C_2 c i a3 h3 a4 h4 a5 h5 a6 h6 hc0 hc1 x0 x1 xs = (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz2]
  simp only [View.readCov_unit_zero (S := S1024x1024) _ hz2, View.readAt_eq_ld, h3.read_unread, h4.read_unread, h6.read_unread, View.ld_unit_zero (S := S1x1024x512) hz3, View.ld_unit_zero (S := S1x1024x512) hz3, View.ld_unit_zero (S := S1024x1024) hz2, shapeCast_self]

end

/-- Piece `k` of the contracted axis in an entry. -/
def term (X : Arr3 1 8192 2048) (W : Arr3 4 1024 512) (M : Fin 8192) (N : Fin 1024) (k : ℕ) : EReal :=
  ∑ j : Fin 512, X (ix3 0 M ⟨k % 4 * 512 + j.val, by omega⟩) * W (ix3 ⟨k % 4, by omega⟩ N j)

def atM (q : ℕ) (y0 : Fin 1024) (y1 : Fin 1024) : Fin 8192 := ⟨q % 8 * 1024 + y0.val, by omega⟩
def atN (q : ℕ) (y0 : Fin 1024) (y1 : Fin 1024) : Fin 1024 := ⟨y1.val, by omega⟩

theorem idx : ∀ t : Fin cfg0.N, win0_0.index t = ![0, t.val / 4, t.val % 4] ∧ win0_1.index t = ![t.val % 4, 0, 0] ∧ win0_2.index t = ![t.val / 4, 0] :=
  (by decide +kernel : ∀ t : Fin grid0.N, win0_0.index t = ![0, t.val / 4, t.val % 4] ∧ win0_1.index t = ![t.val % 4, 0, 0] ∧ win0_2.index t = ![t.val / 4, 0])

theorem part_blk (t : Fin cfg0.N) (y0 : Fin 1024) (y1 : Fin 1024) :
    part (iblk m c 0 t) (iblk m c 1 t) y0 y1 = term (V m c main_v2) (V m c main_v1) (atM (t.val / 4) y0 y1) (atN (t.val / 4) y0 y1) t.val := by
  have ht : t.val < 32 := t.isLt
  refine Finset.sum_congr rfl fun j _ => ?_
  have hj := j.isLt
  have hy0 := y0.isLt
  have hy1 := y1.isLt
  have e0 : iblk m c 0 t (ix3 0 y0 j) = V m c main_v2 (ix3 0 (atM (t.val / 4) y0 y1) ⟨t.val % 4 * 512 + j.val, by omega⟩) := by
    blk_ext [iblk, idx t, atM, atN]
  have e1 : iblk m c 1 t (ix3 0 y1 j) = V m c main_v1 (ix3 ⟨t.val % 4, by omega⟩ (atN (t.val / 4) y0 y1) j) := by
    blk_ext [iblk, idx t, atM, atN]
  rw [e0, e1]

theorem term_mod (X : Arr3 1 8192 2048) (W : Arr3 4 1024 512) (M : Fin 8192) (N : Fin 1024) {k l : ℕ} (h : k % 4 = l % 4) : term X W M N k = term X W M N l := by
  simp only [term, h]

set_option maxHeartbeats 2000000 in
theorem scratch : ∀ (r n : ℕ) (hn : n < cfg0.N) (y0 : Fin 1024) (y1 : Fin 1024), n % 4 = r → r < 3 →
    (outsAt0 m c n hn).2 (ix2 y0 y1) = ∑ k ∈ Finset.range (r + 1), term (V m c main_v2) (V m c main_v1) (atM (n / 4) y0 y1) (atN (n / 4) y0 y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ (by dsimp only; omega)
  | r + 1, n, hn, y0, y1, h, hr => by
    rw [outsAt0_B m c ⟨n, hn⟩ (by dsimp only; omega) (by dsimp only; omega)]
    dsimp only
    rw [next, pay2, part_blk m c ⟨n, hn⟩, scratch r (n - 1) _ y0 y1 (by omega) (by omega), Finset.sum_range_succ _ (r + 1)]
    have e : (n - 1) / 4 = n / 4 := by omega
    rw [e]
    exact congrArg _ (term_mod _ _ _ _ (by dsimp only; omega))

set_option maxHeartbeats 2000000 in
theorem out (t : Fin cfg0.N) (h : t.val % 4 = 3) (y0 : Fin 1024) (y1 : Fin 1024) :
    (outsAt0 m c t.val t.isLt).1 (ix2 y0 y1) = ∑ k ∈ Finset.range 4, term (V m c main_v2) (V m c main_v1) (atM (t.val / 4) y0 y1) (atN (t.val / 4) y0 y1) k := by
  rw [outsAt0_C m c t (by omega) h]
  dsimp only
  rw [last, pay2, part_blk, scratch m c 2 (t.val - 1) _ y0 y1 (by omega) (by omega), Finset.sum_range_succ _ 3]
  have e : (t.val - 1) / 4 = t.val / 4 := by omega
  rw [e]
  exact congrArg _ (term_mod _ _ _ _ (by omega))

/-- The array of the sums over the pieces. -/
def whole (X : Arr3 1 8192 2048) (W : Arr3 4 1024 512) : Arr2 8192 1024 := fun i => ∑ k ∈ Finset.range 4, term X W (i 0) (i 1) k

theorem whole_at (X : Arr3 1 8192 2048) (W : Arr3 4 1024 512) (i : (⟨2, ![8192, 1024]⟩ : Shape).Idx) (M : Fin 8192) (N : Fin 1024) (hM : (i 0).val = M.val) (hN : (i 1).val = N.val) : whole X W i = ∑ k ∈ Finset.range 4, term X W M N k := by
  unfold whole
  rw [show i 0 = M from Fin.ext hM]
  rw [show i 1 = N from Fin.ext hN]

theorem array : (dats m 0 c).arrAt 2 cfg0.N = whole (V m c main_v2) (V m c main_v1) := by
  refine (dats m 0 c).arrAt_eq_of_covers 2 _ (by decide +kernel) fun t hf y => ?_
  have h : t.val % 4 = 3 := (flush0_2 t).mp hf
  have ht : t.val < 32 := t.isLt
  blk_simp
  rw [after0_2]
  idx_vars y
  refine (out m c t h _ _).trans (whole_at _ _ _ _ _ ?_ ?_).symm
  · blk_simp [idx t, atM]
    first | done | (dsimp only; omega) | omega
  · blk_simp [idx t, atN]
    first | done | (dsimp only; omega) | omega

/-! ## The arrays the call is given -/

theorem arg0 (M : Fin 8192) (k : Fin 2048) : V m c main_v2 (ix3 0 M k) = (m ((c : Thread nD τ).loc main_arg0) : Arr2 8192 2048) (ix2 M k) := by
  dsimp only [V, hostOps0]
  after_results
  clean_types
  pointwise [id]

theorem arg1 (k : Fin 4) (N : Fin 1024) (j : Fin 512) : V m c main_v1 (ix3 k N j) = (m ((c : Thread nD τ).loc main_arg1) : Arr2 1024 2048) (ix2 N (at_ (n := 2048) rfl k j)) := by
  dsimp only [V, hostOps0]
  after_results
  simp only [StableHlo.TRef.toBuf, StableHlo.TRef.ofBuf, cast_eq, id]
  clean_types
  pointwise [id]
  rfl

/-- The product as one sum over the contracted axis. -/
def prod (X : Arr2 8192 2048) (W : Arr2 1024 2048) : Arr2 8192 1024 :=
  fun i => ∑ x : Fin 2048, X (ix2 (i 0) x) * W (ix2 (i 1) x)

theorem whole_eq : whole (V m c main_v2) (V m c main_v1) = prod (m ((c : Thread nD τ).loc main_arg0)) (m ((c : Thread nD τ).loc main_arg1)) := by
  funext i
  unfold whole prod
  simp only [term]
  rw [sum_at (k := 4) (l := 512) rfl, Finset.sum_range]
  refine Finset.sum_congr rfl fun k _ => Finset.sum_congr rfl fun j _ => ?_
  have hk := k.isLt
  have hj := j.isLt
  have ek : (⟨k.val % 4 * 512 + j.val, by omega⟩ : Fin 2048) = at_ rfl k j := Fin.ext (by simp only [at_]; omega)
  have es : (⟨k.val % 4, by omega⟩ : Fin 4) = k := Fin.ext (by dsimp only; omega)
  simp only [ek, es]
  exact congrArg₂ (· * ·) (arg0 m c _ _) (arg1 m c _ _ _)

theorem values : θ_run defs (onTc (τ := τ) (main (F := Ideal))) ⟨m, fun _ => 0, ρ⟩ fun r => ∀ c : Dev nD,
    r.2.mem ((c : Thread nD τ).loc main_v3) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.DObIdeal.Product

namespace Cert.RefDObIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v4) = Cert.DObIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.DObIdeal.Product.prod]

end Cert.RefDObIdeal.Product

end
-- ==== Proof.DwPValue.lean ====
/- The weight gradient of a projection: each entry is the sum over the four pieces of the tokens. -/
module

public import proofs.«01_k».proof.Defs
public import proofs.«01_k».proof.Proof.Pieces
public import proofs.«01_k».proof.Proof.Gen.DwP
public import proofs.«01_k».proof.Proof.Gen.DwPIdeal
public import proofs.«01_k».proof.Proof.Gen.DwPIdeal.Frame
public import proofs.«01_k».proof.Proof.Gen.DwPIdeal.Value
public import proofs.«01_k».proof.Proof.Gen.RefDwPIdeal
public import proofs.«01_k».proof.Proof.Gen.RefDwPIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DwPIdeal.Product

open Cert.DwPIdeal.Gen Cert.Pieces

variable (m : (ℓ : Loc nD τ sig) → Buf (Elt Ideal) ℓ) (ρ : Dev nD → PrngReg) (c : Dev nD)

/-- The product of one pair of blocks. -/
def part (a : Vec Ideal S2048x512 .bf16) (b : Vec Ideal S1x2048x512 .bf16) (y0 : Fin 512) (y1 : Fin 512) : EReal := ∑ j : Fin 2048, a (ix2 j y0) * b (ix3 0 j y1)

theorem pay1 (y0 : Fin 512) (y1 : Fin 512) : k0_pay1 (F := Ideal) (ix2 y0 y1) = 0 := by
  pointwise [k0_pay1]

theorem pay2 (a : Vec Ideal S2048x512 .bf16) (b : Vec Ideal S1x2048x512 .bf16) (x : Vec Ideal S512x512 .f32) (y0 : Fin 512) (y1 : Fin 512) :
    k0_pay2 (F := Ideal) x a b (ix2 y0 y1) = x (ix2 y0 y1) + part a b y0 y1 := by
  pointwise [k0_pay2]
  rfl

theorem pay3 (x : Vec Ideal S512x512 .f32) (y0 : Fin 512) (y1 : Fin 512) : k0_pay3 (F := Ideal) x (ix4 0 0 y0 y1) = x (ix2 y0 y1) := by
  pointwise [k0_pay3]

section
variable (i : grid0.Coords) (a3 : Memref sig .tc .vmem S2048x512 .bf16) (h3 : a3.IsWhole) (a4 : Memref sig .tc .vmem S1x2048x512 .bf16) (h4 : a4.IsWhole)
variable (a5 : Memref sig .tc .vmem S1x1x512x512 .f32) (h5 : a5.IsWhole) (a6 : Memref sig .tc .vmem S512x512 .f32) (h6 : a6.IsWhole)
variable (x0 : Vec Ideal S2048x512 .bf16) (x1 : Vec Ideal S1x2048x512 .bf16) (xs : Vec Ideal S512x512 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  simp only [View.readAt_eq_ld, h3.read_unread, h4.read_unread, View.ld_unit_zero (S := S2048x512) hz2, View.ld_unit_zero (S := S1x2048x512) hz3, shapeCast_self]

theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S2048x512) hz2, View.ld_unit_zero (S := S1x2048x512) hz3, View.ld_unit_zero (S := S512x512) hz2, shapeCast_self]

theorem last (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz4]
  simp only [View.readCov_unit_zero (S := S512x512) _ hz2, View.readAt_eq_ld, h3.read_unread, h4.read_unread, h6.read_unread, View.ld_unit_zero (S := S2048x512) hz2, View.ld_unit_zero (S := S1x2048x512) hz3, View.ld_unit_zero (S := S512x512) hz2, shapeCast_self]

end

/-- Piece `k` of the contracted axis in an entry. -/
def term (X : Arr2 8192 1024) (W : Arr3 1 8192 2048) (S : Fin 4) (H : Fin 2) (R : Fin 512) (Q : Fin 512) (k : ℕ) : EReal :=
  ∑ j : Fin 2048, X (ix2 ⟨k % 4 * 2048 + j.val, by omega⟩ (at_ (n := 1024) (k := 2) (l := 512) rfl H R)) * W (ix3 0 ⟨k % 4 * 2048 + j.val, by omega⟩ (at_ (n := 2048) (k := 4) (l := 512) rfl S Q))

def atS (q : ℕ) (y0 : Fin 512) (y1 : Fin 512) : Fin 4 := ⟨q % 4, by omega⟩
def atH (q : ℕ) (y0 : Fin 512) (y1 : Fin 512) : Fin 2 := ⟨q / 4 % 2, by omega⟩
def atR (q : ℕ) (y0 : Fin 512) (y1 : Fin 512) : Fin 512 := ⟨y0.val, by omega⟩
def atQ (q : ℕ) (y0 : Fin 512) (y1 : Fin 512) : Fin 512 := ⟨y1.val, by omega⟩

theorem idx : ∀ t : Fin cfg0.N, win0_0.index t = ![t.val % 4, t.val / 16] ∧ win0_1.index t = ![0, t.val % 4, t.val / 4 % 4] ∧ win0_2.index t = ![t.val / 4 % 4, t.val / 16, 0, 0] :=
  (by decide +kernel : ∀ t : Fin grid0.N, win0_0.index t = ![t.val % 4, t.val / 16] ∧ win0_1.index t = ![0, t.val % 4, t.val / 4 % 4] ∧ win0_2.index t = ![t.val / 4 % 4, t.val / 16, 0, 0])

theorem part_blk (t : Fin cfg0.N) (y0 : Fin 512) (y1 : Fin 512) :
    part (iblk m c 0 t) (iblk m c 1 t) y0 y1 = term (V m c main_arg0) (V m c main_v0) (atS (t.val / 4) y0 y1) (atH (t.val / 4) y0 y1) (atR (t.val / 4) y0 y1) (atQ (t.val / 4) y0 y1) t.val := by
  have ht : t.val < 32 := t.isLt
  refine Finset.sum_congr rfl fun j _ => ?_
  have hj := j.isLt
  have hy0 := y0.isLt
  have hy1 := y1.isLt
  have e0 : iblk m c 0 t (ix2 j y0) = V m c main_arg0 (ix2 ⟨t.val % 4 * 2048 + j.val, by omega⟩ (at_ (n := 1024) (k := 2) (l := 512) rfl (atH (t.val / 4) y0 y1) (atR (t.val / 4) y0 y1))) := by
    blk_ext [iblk, idx t, atS, atH, atR, atQ, at_]
  have e1 : iblk m c 1 t (ix3 0 j y1) = V m c main_v0 (ix3 0 ⟨t.val % 4 * 2048 + j.val, by omega⟩ (at_ (n := 2048) (k := 4) (l := 512) rfl (atS (t.val / 4) y0 y1) (atQ (t.val / 4) y0 y1))) := by
    blk_ext [iblk, idx t, atS, atH, atR, atQ, at_]
  rw [e0, e1]

theorem term_mod (X : Arr2 8192 1024) (W : Arr3 1 8192 2048) (S : Fin 4) (H : Fin 2) (R : Fin 512) (Q : Fin 512) {k l : ℕ} (h : k % 4 = l % 4) : term X W S H R Q k = term X W S H R Q l := by
  simp only [term, h]

set_option maxHeartbeats 2000000 in
theorem scratch : ∀ (r n : ℕ) (hn : n < cfg0.N) (y0 : Fin 512) (y1 : Fin 512), n % 4 = r → r < 3 →
    (outsAt0 m c n hn).2 (ix2 y0 y1) = ∑ k ∈ Finset.range (r + 1), term (V m c main_arg0) (V m c main_v0) (atS (n / 4) y0 y1) (atH (n / 4) y0 y1) (atR (n / 4) y0 y1) (atQ (n / 4) y0 y1) k
  | 0, n, hn, y0, y1, h, _ => by
    rw [outsAt0_A m c ⟨n, hn⟩ h (by dsimp only; omega)]
    dsimp only
    rw [first, pay2, pay1, part_blk m c ⟨n, hn⟩, zero_add, Finset.sum_range_one]
    exact term_mod _ _ _ _ _ _ (by dsimp only; omega)
  | r + 1, n, hn, y0, y1, h, hr => by
    rw [outsAt0_B m c ⟨n, hn⟩ (by dsimp only; omega) (by dsimp only; omega)]
    dsimp only
    rw [next, pay2, part_blk m c ⟨n, hn⟩, scratch r (n - 1) _ y0 y1 (by omega) (by omega), Finset.sum_range_succ _ (r + 1)]
    have e : (n - 1) / 4 = n / 4 := by omega
    rw [e]
    exact congrArg _ (term_mod _ _ _ _ _ _ (by dsimp only; omega))

set_option maxHeartbeats 2000000 in
theorem out (t : Fin cfg0.N) (h : t.val % 4 = 3) (y0 : Fin 512) (y1 : Fin 512) :
    (outsAt0 m c t.val t.isLt).1 (ix4 0 0 y0 y1) = ∑ k ∈ Finset.range 4, term (V m c main_arg0) (V m c main_v0) (atS (t.val / 4) y0 y1) (atH (t.val / 4) y0 y1) (atR (t.val / 4) y0 y1) (atQ (t.val / 4) y0 y1) k := by
  rw [outsAt0_C m c t (by omega) h]
  dsimp only
  rw [last, pay3, pay2, part_blk, scratch m c 2 (t.val - 1) _ y0 y1 (by omega) (by omega), Finset.sum_range_succ _ 3]
  have e : (t.val - 1) / 4 = t.val / 4 := by omega
  rw [e]
  exact congrArg _ (term_mod _ _ _ _ _ _ (by omega))

/-- The array of the sums over the pieces. -/
def whole (X : Arr2 8192 1024) (W : Arr3 1 8192 2048) : (⟨4, ![4, 2, 512, 512]⟩ : Shape).Idx → EReal := fun i => ∑ k ∈ Finset.range 4, term X W (i 0) (i 1) (i 2) (i 3) k

theorem whole_at (X : Arr2 8192 1024) (W : Arr3 1 8192 2048) (i : (⟨4, ![4, 2, 512, 512]⟩ : Shape).Idx) (S : Fin 4) (H : Fin 2) (R : Fin 512) (Q : Fin 512) (hS : (i 0).val = S.val) (hH : (i 1).val = H.val) (hR : (i 2).val = R.val) (hQ : (i 3).val = Q.val) : whole X W i = ∑ k ∈ Finset.range 4, term X W S H R Q k := by
  unfold whole
  rw [show i 0 = S from Fin.ext hS]
  rw [show i 1 = H from Fin.ext hH]
  rw [show i 2 = R from Fin.ext hR]
  rw [show i 3 = Q from Fin.ext hQ]

theorem array : (dats m 0 c).arrAt 2 cfg0.N = whole (V m c main_arg0) (V m c main_v0) := by
  refine (dats m 0 c).arrAt_eq_of_covers 2 _ (by decide +kernel) fun t hf y => ?_
  have h : t.val % 4 = 3 := (flush0_2 t).mp hf
  have ht : t.val < 32 := t.isLt
  blk_simp
  rw [after0_2]
  idx_vars y
  obtain rfl : y0 = (0 : Fin 1) := Subsingleton.elim (α := Fin 1) _ _
  obtain rfl : y1 = (0 : Fin 1) := Subsingleton.elim (α := Fin 1) _ _
  refine (out m c t h _ _).trans (whole_at _ _ _ _ _ _ _ ?_ ?_ ?_ ?_).symm
  · blk_simp [idx t, atS]
    first | done | (dsimp only; omega) | omega
  · blk_simp [idx t, atH]
    first | done | (dsimp only; omega) | omega
  · blk_simp [idx t, atR]
    first | done | (dsimp only; omega) | omega
  · blk_simp [idx t, atQ]
    first | done | (dsimp only; omega) | omega

/-! ## The arrays the call is given -/

theorem arg0 : V m c main_arg0 = m ((c : Thread nD τ).loc main_arg0) := by
  dsimp only [V, hostOps0]
  after_results

theorem arg1 (k : Fin 8192) (N : Fin 2048) : V m c main_v0 (ix3 0 k N) = (m ((c : Thread nD τ).loc main_arg1) : Arr2 8192 2048) (ix2 k N) := by
  dsimp only [V, hostOps0]
  after_results
  clean_types
  pointwise [id]

/-- The product as one sum over the contracted axis. -/
def prod (X : Arr2 8192 1024) (W : Arr2 8192 2048) : (⟨4, ![4, 2, 512, 512]⟩ : Shape).Idx → EReal :=
  fun i => ∑ x : Fin 8192, X (ix2 x (at_ (n := 1024) (k := 2) (l := 512) rfl (i 1) (i 2))) * W (ix2 x (at_ (n := 2048) (k := 4) (l := 512) rfl (i 0) (i 3)))

theorem whole_eq : whole (V m c main_arg0) (V m c main_v0) = prod (m ((c : Thread nD τ).loc main_arg0)) (m ((c : Thread nD τ).loc main_arg1)) := by
  funext i
  unfold whole prod
  simp only [term]
  rw [sum_at (k := 4) (l := 2048) rfl, Finset.sum_range]
  refine Finset.sum_congr rfl fun k _ => Finset.sum_congr rfl fun j _ => ?_
  have hk := k.isLt
  have hj := j.isLt
  have ek : (⟨k.val % 4 * 2048 + j.val, by omega⟩ : Fin 8192) = at_ rfl k j := Fin.ext (by simp only [at_]; omega)
  simp only [ek]
  exact congrArg₂ (· * ·) (congrFun (arg0 m c) _) (arg1 m c _ _)

theorem values : θ_run defs (onTc (τ := τ) (main (F := Ideal))) ⟨m, fun _ => 0, ρ⟩ fun r => ∀ c : Dev nD,
    r.2.mem ((c : Thread nD τ).loc main_v1) = prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans ((array m c).trans (whole_eq m c)), (h c).2⟩) (Value.run_blocks m ρ)

end Cert.DwPIdeal.Product

namespace Cert.RefDwPIdeal.Product

open Cert.Pieces

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v7) = Cert.DwPIdeal.Product.prod (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  funext i
  idx_vars i
  pointwise [Cert.DwPIdeal.Product.prod]
  exact Finset.sum_congr rfl fun x _ => mul_comm _ _

end Cert.RefDwPIdeal.Product

end
-- ==== Proof.DSwValue.lean ====
/- The gradient of the gated product: the product's own gradient is one matrix product, and both factors' gradients are multiples of it. Where that
   gradient and the ungated factor are finite, the kernel's factored slope is the reference's sum of two terms. -/
module

public import proofs.«01_k».proof.Defs
public import proofs.«01_k».proof.Proof.Pieces
public import proofs.«01_k».proof.Proof.Pre
public import proofs.«01_k».proof.Pre_factors_finite
public import proofs.«01_k».proof.Proof.Gen.DSw
public import proofs.«01_k».proof.Proof.Gen.DSwIdeal
public import proofs.«01_k».proof.Proof.Gen.DSwIdeal.Frame
public import proofs.«01_k».proof.Proof.Gen.DSwIdeal.Value
public import proofs.«01_k».proof.Proof.Gen.RefDSwIdeal
public import proofs.«01_k».proof.Proof.Gen.RefDSwIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DSwIdeal.Product

open Cert.DSwIdeal.Gen Cert.Pieces

variable (m : (ℓ : Loc nD τ sig) → Buf (Elt Ideal) ℓ) (ρ : Dev nD → PrngReg) (c : Dev nD)

/-- The product of one pair of blocks. -/
def part (a : Vec Ideal S1x1024x2048 .bf16) (b : Vec Ideal S1x512x2048 .bf16) (y0 : Fin 1024) (y1 : Fin 512) : EReal := ∑ j : Fin 2048, a (ix3 0 y0 j) * b (ix3 0 y1 j)

/-- The logistic function, and the gradients of the two factors of `a * sg a * u`. -/
def sg (v : EReal) : EReal := Ideal.div 1 (1 + Ideal.exp (-v))
def gradA (e a u : EReal) : EReal := e * u * (sg a * (1 + a * (1 - sg a)))
def gradU (e a : EReal) : EReal := e * (a * sg a)

theorem pay1 (y0 : Fin 1024) (y1 : Fin 512) : k0_pay1 (F := Ideal) (ix2 y0 y1) = 0 := by
  pointwise [k0_pay1]

theorem pay2 (a : Vec Ideal S1x1024x2048 .bf16) (b : Vec Ideal S1x512x2048 .bf16) (x : Vec Ideal S1024x512 .f32) (y0 : Fin 1024) (y1 : Fin 512) :
    k0_pay2 (F := Ideal) x a b (ix2 y0 y1) = x (ix2 y0 y1) + part a b y0 y1 := by
  pointwise [k0_pay2]
  rfl

theorem pay4 (x : Vec Ideal S1024x512 .f32) (v : Vec Ideal S2x1024x512 .bf16) (y0 : Fin 1024) (y1 : Fin 512) :
    k0_pay4 (F := Ideal) x v (ix3 0 y0 y1) = gradA (x (ix2 y0 y1)) (v (ix3 0 y0 y1)) (v (ix3 1 y0 y1)) := by
  pointwise [k0_pay4, k0_pay3]
  rw [zero_sub]
  rfl

theorem pay5 (x : Vec Ideal S1024x512 .f32) (v : Vec Ideal S2x1024x512 .bf16) (y0 : Fin 1024) (y1 : Fin 512) :
    k0_pay5 (F := Ideal) x v (ix3 0 y0 y1) = gradU (x (ix2 y0 y1)) (v (ix3 0 y0 y1)) := by
  pointwise [k0_pay5, k0_pay3]
  rw [zero_sub]
  rfl

/-- Both halves of a block: first the gate's gradient, then the other factor's. -/
def both (d : Fin 1024 → Fin 512 → EReal) (v : S2x1024x512.Idx → EReal) : S2x1024x512.Idx → EReal := fun i =>
  if (i 0).val = 0 then gradA (d (i 1) (i 2)) (v (ix3 0 (i 1) (i 2))) (v (ix3 1 (i 1) (i 2))) else gradU (d (i 1) (i 2)) (v (ix3 0 (i 1) (i 2)))

theorem both_at (d : Fin 1024 → Fin 512 → EReal) (v : S2x1024x512.Idx → EReal) (i : S2x1024x512.Idx) (s : Fin 2) (y0 : Fin 1024) (y1 : Fin 512) (h0 : (i 0).val = s.val) (h1 : (i 1).val = y0.val) (h2 : (i 2).val = y1.val) :
    both d v i = if s.val = 0 then gradA (d y0 y1) (v (ix3 0 y0 y1)) (v (ix3 1 y0 y1)) else gradU (d y0 y1) (v (ix3 0 y0 y1)) := by
  unfold both
  rw [show i 1 = y0 from Fin.ext h1, show i 2 = y1 from Fin.ext h2, h0]

section
variable (i : grid0.Coords)
variable (arg3 : Memref sig .tc .vmem S1x1024x2048 .bf16) (h3 : arg3.IsWhole)
variable (arg4 : Memref sig .tc .vmem S1x512x2048 .bf16) (h4 : arg4.IsWhole)
variable (arg5 : Memref sig .tc .vmem S2x1024x512 .bf16) (h5 : arg5.IsWhole)
variable (arg6 : Memref sig .tc .vmem S2x1024x512 .bf16) (h6 : arg6.IsWhole)
variable (arg7 : Memref sig .tc .vmem S1024x512 .f32) (h7 : arg7.IsWhole)
variable (x0 : Vec Ideal S1x1024x2048 .bf16) (x1 : Vec Ideal S1x512x2048 .bf16) (x2 : Vec Ideal S2x1024x512 .bf16)
variable (hc0 : cond0_0 i) (hc1 : cond0_1 i)

theorem pieces : View.PiecesOf (Val := Elt Ideal) (s := S2x1024x512) (e := .bf16) (both (part x0 x1) x2) (kernelRun0_A c i arg3 h3 arg4 h4 arg5 h5 arg6 h6 arg7 h7 hc0 hc1 x0 x1 x2).1 := by
  unfold kernelRun0_A
  dsimp only
  sl_unfold_words
  simp only [View.readCov_cons_unit_lit' (S := S1024x512) _ _ _ _ _ (congrFun hz2) (congrFun hz2), View.readCov_unit_zero (S := S1024x512) _ hz2, View.readAt_eq_ld, h3.read_unread, h4.read_unread, h5.read_unread,
    View.ld_unit_zero (S := S1x1024x2048) hz3, View.ld_unit_zero (S := S1x512x2048) hz3, View.ld_unit_zero (S := S2x1024x512) hz3, shapeCast_self]
  refine ⟨?_, ?_, trivial⟩
  · intro x
    idx_vars x
    obtain rfl : x0 = (0 : Fin 1) := Subsingleton.elim (α := Fin 1) _ _
    refine (pay5 _ _ x1 x2).trans ?_
    rw [pay2, pay1, zero_add]
    refine (both_at _ _ _ 1 x1 x2 ?_ ?_ ?_).symm
    · rfl
    · show 0 + 1 * x1.val = x1.val
      omega
    · show 0 + 1 * x2.val = x2.val
      omega
  · intro x
    idx_vars x
    obtain rfl : x0 = (0 : Fin 1) := Subsingleton.elim (α := Fin 1) _ _
    refine (pay4 _ _ x1 x2).trans ?_
    rw [pay2, pay1, zero_add]
    refine (both_at _ _ _ 0 x1 x2 ?_ ?_ ?_).symm
    · rfl
    · show 0 + 1 * x1.val = x1.val
      omega
    · show 0 + 1 * x2.val = x2.val
      omega

theorem only : out0_A_3 c i arg3 h3 arg4 h4 arg5 h5 arg6 h6 arg7 h7 hc0 hc1 x0 x1 x2 = both (part x0 x1) x2 := by
  funext y
  unfold out0_A_3
  rw [View.read_writes_eq_canon _ _ _ (cover0_A_3 c i arg3 h3 arg4 h4 arg5 h5 arg6 h6 arg7 h7 hc0 hc1 x0 x1 x2)]
  exact View.canon_apply_of_pieces _ _ (pieces c i arg3 h3 arg4 h4 arg5 h5 arg6 h6 arg7 h7 x0 x1 x2 hc0 hc1).mem y (cover0_A_3 c i arg3 h3 arg4 h4 arg5 h5 arg6 h6 arg7 h7 hc0 hc1 x0 x1 x2 y)

end

/-- An entry of the product's gradient, its place given by the row and the column. -/
def entry (X : Arr3 1 8192 2048) (W : Arr3 1 5632 2048) (M : Fin 8192) (N : Fin 5632) : EReal :=
  ∑ j : Fin 2048, X (ix3 0 M j) * W (ix3 0 N j)

def row (q : ℕ) (y0 : Fin 1024) : Fin 8192 := ⟨q / 11 % 8 * 1024 + y0.val, by omega⟩
def col (q : ℕ) (y1 : Fin 512) : Fin 5632 := ⟨q % 11 * 512 + y1.val, by omega⟩

theorem idx : ∀ t : Fin cfg0.N, win0_0.index t = ![0, t.val / 11, 0]
    ∧ win0_1.index t = ![0, t.val % 11, 0]
    ∧ win0_2.index t = ![0, t.val / 11, t.val % 11]
    ∧ win0_3.index t = ![0, t.val / 11, t.val % 11] :=
  (by decide +kernel : ∀ t : Fin grid0.N, win0_0.index t = ![0, t.val / 11, 0]
    ∧ win0_1.index t = ![0, t.val % 11, 0]
    ∧ win0_2.index t = ![0, t.val / 11, t.val % 11]
    ∧ win0_3.index t = ![0, t.val / 11, t.val % 11])

theorem part_blk (t : Fin cfg0.N) (y0 : Fin 1024) (y1 : Fin 512) :
    part (iblk m c 0 t) (iblk m c 1 t) y0 y1 = entry (V m c main_v1) (V m c main_v0) (row t.val y0) (col t.val y1) := by
  have ht : t.val < 88 := t.isLt
  refine Finset.sum_congr rfl fun j _ => ?_
  have hj := j.isLt
  have hy0 := y0.isLt
  have hy1 := y1.isLt
  have e0 : iblk m c 0 t (ix3 0 y0 j) = V m c main_v1 (ix3 0 (row t.val y0) j) := by
    blk_ext [iblk, idx t, row, col]
  have e1 : iblk m c 1 t (ix3 0 y1 j) = V m c main_v0 (ix3 0 (col t.val y1) j) := by
    blk_ext [iblk, idx t, row, col]
  rw [e0, e1]

theorem blk2 (t : Fin cfg0.N) (s : Fin 2) (y0 : Fin 1024) (y1 : Fin 512) : (iblk m c 2 t (ix3 s y0 y1) : EReal) = V m c main_arg2 (ix3 s (row t.val y0) (col t.val y1)) := by
  have ht : t.val < 88 := t.isLt
  have hs := s.isLt
  have hy0 := y0.isLt
  have hy1 := y1.isLt
  blk_ext [iblk, idx t, row, col]

/-- The result over the entries. -/
def grad (E : Fin 8192 → Fin 5632 → EReal) (A : Arr3 2 8192 5632) : Arr3 2 8192 5632 := fun i =>
  if (i 0).val = 0 then gradA (E (i 1) (i 2)) (A (ix3 0 (i 1) (i 2))) (A (ix3 1 (i 1) (i 2))) else gradU (E (i 1) (i 2)) (A (ix3 0 (i 1) (i 2)))

theorem grad_at (E : Fin 8192 → Fin 5632 → EReal) (A : Arr3 2 8192 5632) (i : (⟨3, ![2, 8192, 5632]⟩ : Shape).Idx) (s : Fin 2) (M : Fin 8192) (N : Fin 5632) (h0 : (i 0).val = s.val) (h1 : (i 1).val = M.val) (h2 : (i 2).val = N.val) :
    grad E A i = if s.val = 0 then gradA (E M N) (A (ix3 0 M N)) (A (ix3 1 M N)) else gradU (E M N) (A (ix3 0 M N)) := by
  unfold grad
  rw [show i 1 = M from Fin.ext h1, show i 2 = N from Fin.ext h2, h0]

theorem array : (dats m 0 c).arrAt 3 cfg0.N = grad (entry (V m c main_v1) (V m c main_v0)) (V m c main_arg2) := by
  refine (dats m 0 c).arrAt_eq_of_covers 3 _ (by decide +kernel) fun t _ y => ?_
  have ht : t.val < 88 := t.isLt
  blk_simp
  rw [after0_3]
  unfold outsAt0
  rw [only]
  idx_vars y
  rw [both_at _ _ _ y0 y1 y2 rfl rfl rfl, part_blk, blk2, blk2]
  refine (grad_at _ _ _ _ _ _ ?_ ?_ ?_).symm
  · blk_simp [idx t]
    first | done | omega
  · blk_simp [idx t, row]
    first | done | (dsimp only; omega) | omega
  · blk_simp [idx t, col]
    first | done | (dsimp only; omega) | omega

/-! ## The arrays the call is given -/

theorem arg0 (M : Fin 8192) (k : Fin 2048) : V m c main_v1 (ix3 0 M k) = (m ((c : Thread nD τ).loc main_arg0) : Arr2 8192 2048) (ix2 M k) := by
  dsimp only [V, hostOps0]
  after_results
  clean_types
  pointwise [id]

theorem arg1 (N : Fin 5632) (k : Fin 2048) : V m c main_v0 (ix3 0 N k) = (m ((c : Thread nD τ).loc main_arg1) : Arr2 5632 2048) (ix2 N k) := by
  dsimp only [V, hostOps0]
  after_results
  clean_types
  pointwise [id]

/-- The product's gradient from the arguments. -/
def prod (X : Arr2 8192 2048) (W : Arr2 5632 2048) (M : Fin 8192) (N : Fin 5632) : EReal :=
  ∑ j : Fin 2048, X (ix2 M j) * W (ix2 N j)

theorem entry_eq : entry (V m c main_v1) (V m c main_v0) = prod (m ((c : Thread nD τ).loc main_arg0)) (m ((c : Thread nD τ).loc main_arg1)) := by
  funext M N
  exact Finset.sum_congr rfl fun j _ => congrArg₂ (· * ·) (arg0 m c M j) (arg1 m c N j)

theorem values : θ_run defs (onTc (τ := τ) (main (F := Ideal))) ⟨m, fun _ => 0, ρ⟩ fun r => ∀ c : Dev nD,
    r.2.mem ((c : Thread nD τ).loc main_v2) = grad (prod (m ((c : Thread nD τ).loc main_arg0)) (m ((c : Thread nD τ).loc main_arg1))) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨(h c).1.trans ((array m c).trans ?_), (h c).2⟩) (Value.run_blocks m ρ)
  rw [entry_eq, V_main_arg2]

/-! ## The factored slope -/

/-- The arguments the precondition keeps finite. -/
def Finite (X : Arr2 8192 2048) (W : Arr2 5632 2048) (A : Arr3 2 8192 5632) : Prop :=
  (∀ M j, ∃ x : ℝ, X (ix2 M j) = (x : EReal)) ∧ (∀ N j, ∃ x : ℝ, W (ix2 N j) = (x : EReal)) ∧ ∀ M N, ∃ x : ℝ, A (ix3 1 M N) = (x : EReal)

theorem real_sum {n : ℕ} (f : Fin n → EReal) (h : ∀ j, ∃ x : ℝ, f j = (x : EReal)) : ∃ x : ℝ, ∑ j, f j = (x : EReal) := by
  choose g hg using h
  refine ⟨∑ j, g j, ?_⟩
  rw [Finset.sum_congr rfl fun j _ => hg j]
  exact (map_sum (⟨⟨Real.toEReal, EReal.coe_zero⟩, EReal.coe_add⟩ : ℝ →+ EReal) g Finset.univ).symm

theorem real_prod {X : Arr2 8192 2048} {W : Arr2 5632 2048} {A : Arr3 2 8192 5632} (h : Finite X W A) (M : Fin 8192) (N : Fin 5632) :
    ∃ x : ℝ, prod X W M N = (x : EReal) := by
  refine real_sum _ fun j => ?_
  obtain ⟨x, hx⟩ := h.1 M j
  obtain ⟨w, hw⟩ := h.2.1 N j
  exact ⟨x * w, by rw [hx, hw, EReal.coe_mul]⟩

/-- The two terms of the reference's gradient are the kernel's one product, at an infinite gate too. -/
theorem slope_eq (t : ℝ) (a : EReal) : (t : EReal) * sg a + a * t * (sg a * (1 - sg a)) = t * (sg a * (1 + a * (1 - sg a))) := by
  have e : sg a = Ideal.logistic a := rfl
  rw [e]
  induction a with
  | bot => rw [Ideal.logistic_bot]; simp
  | top =>
    have h1 : (1 : EReal) - 1 = 0 := by rw [← EReal.coe_one, ← EReal.coe_sub, sub_self, EReal.coe_zero]
    rw [Ideal.logistic_top, h1]; simp
  | coe r =>
    rw [Ideal.logistic_coe]
    simp only [← EReal.coe_one, ← EReal.coe_sub, ← EReal.coe_mul, ← EReal.coe_add]
    exact congrArg _ (by ring)

end Cert.DSwIdeal.Product

namespace Cert.RefDSwIdeal.Product

open Cert.Pieces
open Cert.DSwIdeal.Product (prod grad sg gradA gradU Finite real_prod slope_eq)

variable (m : (ℓ : Loc nD τ sig) → Buf (Elt Ideal) ℓ) (ρ : Dev nD → PrngReg)

theorem values (H : ∀ c : Dev nD, Finite (m ((c : Thread nD τ).loc main_arg0)) (m ((c : Thread nD τ).loc main_arg1)) (m ((c : Thread nD τ).loc main_arg2))) : θ_run defs (onTc (τ := τ) (main (F := Ideal))) ⟨m, fun _ => 0, ρ⟩ fun r => ∀ c : Dev nD,
    r.2.mem ((c : Thread nD τ).loc main_v17) = grad (prod (m ((c : Thread nD τ).loc main_arg0)) (m ((c : Thread nD τ).loc main_arg1))) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨(h c).1.trans ?_, (h c).2⟩) (Value.run m ρ)
  clear h
  funext i
  idx_vars i
  pointwise [grad]
  split
  · rename_i h0
    have h0' : i0.val = 0 := by omega
    obtain ⟨d, hd⟩ := real_prod (H c) i1 i2
    obtain ⟨u, hu⟩ := (H c).2.2 i1 i2
    rw [if_pos h0']
    unfold gradA
    rw [hd, hu, ← EReal.coe_mul]
    unfold prod at hd
    rw [hd, ← EReal.coe_mul]
    exact slope_eq (d * u) _
  · rename_i h0
    rw [if_neg (by omega)]
    exact mul_comm _ _

end Cert.RefDSwIdeal.Product

namespace Cert.Pre_factors_finite

theorem facts : Facts := by
  constructor <;> decide +kernel

attribute [local instance] facts

variable {X : FVec Ideal S8192x2048 .bf16} {W : FVec Ideal S5632x2048 .bf16} {A : FVec Ideal S2x8192x5632 .bf16}

theorem finite (h0 : (fn (F := Ideal) X W A).1 = fun _ => 1#1) (h1 : (fn (F := Ideal) X W A).2.1 = fun _ => 1#1) (h2 : (fn (F := Ideal) X W A).2.2 = fun _ => 1#1) :
    Cert.DSwIdeal.Product.Finite X W A := by
  refine ⟨fun M j => ⟨EReal.toReal (X (ix2 M j)), ?_⟩, fun N j => ⟨EReal.toReal (W (ix2 N j)), ?_⟩, fun M N => ⟨EReal.toReal (A (ix3 1 M N)), ?_⟩⟩
  · have e := congrFun h0 (ix2 M j)
    dsimp only [fn, id] at e
    revert e
    pointwise []
    exact Cert.Pre_gates_in_range.real_of
  · have e := congrFun h1 (ix2 N j)
    dsimp only [fn, id] at e
    revert e
    pointwise []
    exact Cert.Pre_gates_in_range.real_of
  · have e := congrFun h2 (ix2 M N)
    dsimp only [fn, id] at e
    revert e
    pointwise []
    exact Cert.Pre_gates_in_range.real_of

end Cert.Pre_factors_finite

end
-- ==== Proof.DYValue.lean ====
/- The gradient of the gated sum of the two projections: the gradient of the sum is one product, and each of the four results multiplies it. -/
module

public import proofs.«01_k».proof.Defs
public import proofs.«01_k».proof.Proof.Pieces
public import proofs.«01_k».proof.Proof.Gen.DY
public import proofs.«01_k».proof.Proof.Gen.DYIdeal
public import proofs.«01_k».proof.Proof.Gen.DYIdeal.Frame
public import proofs.«01_k».proof.Proof.Gen.DYIdeal.Value
public import proofs.«01_k».proof.Proof.Gen.RefDYIdeal
public import proofs.«01_k».proof.Proof.Gen.RefDYIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.DYIdeal.Product

open Cert.DYIdeal.Gen Cert.Pieces

variable (m : (ℓ : Loc nD τ sig) → Buf (Elt Ideal) ℓ) (ρ : Dev nD → PrngReg) (c : Dev nD)

/-- The product of one pair of blocks. -/
def part (a : Vec Ideal S1x1024x2048 .bf16) (b : Vec Ideal S1x512x2048 .bf16) (y0 : Fin 1024) (y1 : Fin 512) : EReal := ∑ j : Fin 2048, a (ix3 0 y0 j) * b (ix3 0 y1 j)

/-- The logistic function. -/
def sg (v : EReal) : EReal := Ideal.div 1 (1 + Ideal.exp (-v))

theorem pay1 (y0 : Fin 1024) (y1 : Fin 512) : k0_pay1 (F := Ideal) (ix2 y0 y1) = 0 := by
  pointwise [k0_pay1]

theorem pay2 (a : Vec Ideal S1x1024x2048 .bf16) (b : Vec Ideal S1x512x2048 .bf16) (x : Vec Ideal S1024x512 .f32) (y0 : Fin 1024) (y1 : Fin 512) :
    k0_pay2 (F := Ideal) x a b (ix2 y0 y1) = x (ix2 y0 y1) + part a b y0 y1 := by
  pointwise [k0_pay2]
  rfl

theorem pay5 (v : Vec Ideal S1024x512 .f32) (y0 : Fin 1024) (y1 : Fin 512) : k0_pay5 (F := Ideal) v (ix2 y0 y1) = sg (v (ix2 y0 y1)) := by
  pointwise [k0_pay5]
  rw [zero_sub]
  rfl

theorem pay6 (v : Vec Ideal S1024x512 .f32) (y0 : Fin 1024) (y1 : Fin 512) : k0_pay6 (F := Ideal) v (ix2 y0 y1) = sg (v (ix2 y0 y1)) := by
  pointwise [k0_pay6]
  rw [zero_sub]
  rfl

theorem pay9 (x v : Vec Ideal S1024x512 .f32) (y0 : Fin 1024) (y1 : Fin 512) : k0_pay9 (F := Ideal) x v (ix2 y0 y1) = x (ix2 y0 y1) * sg (v (ix2 y0 y1)) := by
  pointwise [k0_pay9, pay5]

theorem pay10 (x v : Vec Ideal S1024x512 .f32) (y0 : Fin 1024) (y1 : Fin 512) : k0_pay10 (F := Ideal) x v (ix2 y0 y1) = x (ix2 y0 y1) * sg (v (ix2 y0 y1)) := by
  pointwise [k0_pay10, pay6]

theorem pay37 (x : Vec Ideal S1024x512 .f32) (a : Vec Ideal S1024x512 .bf16) (v : Vec Ideal S1024x512 .f32) (y0 : Fin 1024) (y1 : Fin 512) :
    k0_pay3 (F := Ideal) (k0_pay7 x a v) (ix2 y0 y1) = x (ix2 y0 y1) * a (ix2 y0 y1) * sg (v (ix2 y0 y1)) * (1 - sg (v (ix2 y0 y1))) := by
  pointwise [k0_pay3, k0_pay7, pay5]

theorem pay48 (x : Vec Ideal S1024x512 .f32) (a : Vec Ideal S1024x512 .bf16) (v : Vec Ideal S1024x512 .f32) (y0 : Fin 1024) (y1 : Fin 512) :
    k0_pay4 (F := Ideal) (k0_pay8 x a v) (ix2 y0 y1) = x (ix2 y0 y1) * a (ix2 y0 y1) * sg (v (ix2 y0 y1)) * (1 - sg (v (ix2 y0 y1))) := by
  pointwise [k0_pay4, k0_pay8, pay6]

section
variable (i : grid0.Coords)
variable (arg3 : Memref sig .tc .vmem S1x1024x2048 .bf16) (h3 : arg3.IsWhole)
variable (arg4 : Memref sig .tc .vmem S1x512x2048 .bf16) (h4 : arg4.IsWhole)
variable (arg5 : Memref sig .tc .vmem S1024x512 .bf16) (h5 : arg5.IsWhole)
variable (arg6 : Memref sig .tc .vmem S1024x512 .bf16) (h6 : arg6.IsWhole)
variable (arg7 : Memref sig .tc .vmem S1024x512 .f32) (h7 : arg7.IsWhole)
variable (arg8 : Memref sig .tc .vmem S1024x512 .f32) (h8 : arg8.IsWhole)
variable (arg9 : Memref sig .tc .vmem S1024x512 .bf16) (h9 : arg9.IsWhole)
variable (arg10 : Memref sig .tc .vmem S1024x512 .bf16) (h10 : arg10.IsWhole)
variable (arg11 : Memref sig .tc .vmem S1024x512 .bf16) (h11 : arg11.IsWhole)
variable (arg12 : Memref sig .tc .vmem S1024x512 .bf16) (h12 : arg12.IsWhole)
variable (arg13 : Memref sig .tc .vmem S1024x512 .f32) (h13 : arg13.IsWhole)
variable (x0 : Vec Ideal S1x1024x2048 .bf16) (x1 : Vec Ideal S1x512x2048 .bf16) (x2 x3 : Vec Ideal S1024x512 .bf16) (x4 x5 : Vec Ideal S1024x512 .f32)
variable (hc0 : cond0_0 i) (hc1 : cond0_1 i)

theorem only6 : out0_A_6 c i arg3 h3 arg4 h4 arg5 h5 arg6 h6 arg7 h7 arg8 h8 arg9 h9 arg10 h10 arg11 h11 arg12 h12 arg13 h13 hc0 hc1 x0 x1 x2 x3 x4 x5 = k0_pay9 (k0_pay2 k0_pay1 x0 x1) x4 := by
  unfold out0_A_6
  rw [View.read_writes_eq_canon _ _ _ (cover0_A_6 c i arg3 h3 arg4 h4 arg5 h5 arg6 h6 arg7 h7 arg8 h8 arg9 h9 arg10 h10 arg11 h11 arg12 h12 arg13 h13 hc0 hc1 x0 x1 x2 x3 x4 x5)]
  unfold kernelRun0_A
  dsimp only
  sl_unfold_words
  rw [View.canon_unit_zero hz2]
  simp only [View.readCov_cons_unit_lit' (S := S1024x512) _ _ _ _ _ (congrFun hz2) (congrFun hz2), View.readCov_unit_zero (S := S1024x512) _ hz2, View.readAt_eq_ld, h3.read_unread, h4.read_unread, h5.read_unread, h6.read_unread, h7.read_unread, h8.read_unread,
    View.ld_unit_zero (S := S1x1024x2048) hz3, View.ld_unit_zero (S := S1x512x2048) hz3, View.ld_unit_zero (S := S1024x512) hz2, shapeCast_self]

theorem only7 : out0_A_7 c i arg3 h3 arg4 h4 arg5 h5 arg6 h6 arg7 h7 arg8 h8 arg9 h9 arg10 h10 arg11 h11 arg12 h12 arg13 h13 hc0 hc1 x0 x1 x2 x3 x4 x5 = k0_pay10 (k0_pay2 k0_pay1 x0 x1) x5 := by
  unfold out0_A_7
  rw [View.read_writes_eq_canon _ _ _ (cover0_A_7 c i arg3 h3 arg4 h4 arg5 h5 arg6 h6 arg7 h7 arg8 h8 arg9 h9 arg10 h10 arg11 h11 arg12 h12 arg13 h13 hc0 hc1 x0 x1 x2 x3 x4 x5)]
  unfold kernelRun0_A
  dsimp only
  sl_unfold_words
  rw [View.canon_unit_zero hz2]
  simp only [View.readCov_cons_unit_lit' (S := S1024x512) _ _ _ _ _ (congrFun hz2) (congrFun hz2), View.readCov_unit_zero (S := S1024x512) _ hz2, View.readAt_eq_ld, h3.read_unread, h4.read_unread, h5.read_unread, h6.read_unread, h7.read_unread, h8.read_unread,
    View.ld_unit_zero (S := S1x1024x2048) hz3, View.ld_unit_zero (S := S1x512x2048) hz3, View.ld_unit_zero (S := S1024x512) hz2, shapeCast_self]

theorem only8 : out0_A_8 c i arg3 h3 arg4 h4 arg5 h5 arg6 h6 arg7 h7 arg8 h8 arg9 h9 arg10 h10 arg11 h11 arg12 h12 arg13 h13 hc0 hc1 x0 x1 x2 x3 x4 x5 = k0_pay3 (k0_pay7 (k0_pay2 k0_pay1 x0 x1) x2 x4) := by
  unfold out0_A_8
  rw [View.read_writes_eq_canon _ _ _ (cover0_A_8 c i arg3 h3 arg4 h4 arg5 h5 arg6 h6 arg7 h7 arg8 h8 arg9 h9 arg10 h10 arg11 h11 arg12 h12 arg13 h13 hc0 hc1 x0 x1 x2 x3 x4 x5)]
  unfold kernelRun0_A
  dsimp only
  sl_unfold_words
  rw [View.canon_unit_zero hz2]
  simp only [View.readCov_cons_unit_lit' (S := S1024x512) _ _ _ _ _ (congrFun hz2) (congrFun hz2), View.readCov_unit_zero (S := S1024x512) _ hz2, View.readAt_eq_ld, h3.read_unread, h4.read_unread, h5.read_unread, h6.read_unread, h7.read_unread, h8.read_unread,
    View.ld_unit_zero (S := S1x1024x2048) hz3, View.ld_unit_zero (S := S1x512x2048) hz3, View.ld_unit_zero (S := S1024x512) hz2, shapeCast_self]

theorem only9 : out0_A_9 c i arg3 h3 arg4 h4 arg5 h5 arg6 h6 arg7 h7 arg8 h8 arg9 h9 arg10 h10 arg11 h11 arg12 h12 arg13 h13 hc0 hc1 x0 x1 x2 x3 x4 x5 = k0_pay4 (k0_pay8 (k0_pay2 k0_pay1 x0 x1) x3 x5) := by
  unfold out0_A_9
  rw [View.read_writes_eq_canon _ _ _ (cover0_A_9 c i arg3 h3 arg4 h4 arg5 h5 arg6 h6 arg7 h7 arg8 h8 arg9 h9 arg10 h10 arg11 h11 arg12 h12 arg13 h13 hc0 hc1 x0 x1 x2 x3 x4 x5)]
  unfold kernelRun0_A
  dsimp only
  sl_unfold_words
  rw [View.canon_unit_zero hz2]
  simp only [View.readCov_cons_unit_lit' (S := S1024x512) _ _ _ _ _ (congrFun hz2) (congrFun hz2), View.readCov_unit_zero (S := S1024x512) _ hz2, View.readAt_eq_ld, h3.read_unread, h4.read_unread, h5.read_unread, h6.read_unread, h7.read_unread, h8.read_unread,
    View.ld_unit_zero (S := S1x1024x2048) hz3, View.ld_unit_zero (S := S1x512x2048) hz3, View.ld_unit_zero (S := S1024x512) hz2, shapeCast_self]

end

/-- An entry of the sum's gradient, its place given by the row and the column. -/
def entry (X : Arr3 1 8192 2048) (W : Arr3 1 2048 2048) (M : Fin 8192) (N : Fin 2048) : EReal :=
  ∑ j : Fin 2048, X (ix3 0 M j) * W (ix3 0 N j)

/-- The gates of the two branches, columns of the combined projection. -/
def gateA (U : Arr2 8448 12288) (M : Fin 8192) (N : Fin 2048) : EReal := U (ix2 ⟨M.val, by omega⟩ ⟨8192 + N.val, by omega⟩)
def gateB (U : Arr2 8448 12288) (M : Fin 8192) (N : Fin 2048) : EReal := U (ix2 ⟨M.val, by omega⟩ ⟨10240 + N.val, by omega⟩)

def row (q : ℕ) (y0 : Fin 1024) : Fin 8192 := ⟨q / 4 % 8 * 1024 + y0.val, by omega⟩
def col (q : ℕ) (y1 : Fin 512) : Fin 2048 := ⟨q % 4 * 512 + y1.val, by omega⟩

theorem idx : ∀ t : Fin cfg0.N, win0_0.index t = ![0, t.val / 4, 0]
    ∧ win0_1.index t = ![0, t.val % 4, 0]
    ∧ win0_2.index t = ![t.val / 4, t.val % 4]
    ∧ win0_3.index t = ![t.val / 4, t.val % 4]
    ∧ win0_4.index t = ![t.val / 4, 16 + t.val % 4]
    ∧ win0_5.index t = ![t.val / 4, 20 + t.val % 4]
    ∧ win0_6.index t = ![t.val / 4, t.val % 4]
    ∧ win0_7.index t = ![t.val / 4, t.val % 4]
    ∧ win0_8.index t = ![t.val / 4, t.val % 4]
    ∧ win0_9.index t = ![t.val / 4, t.val % 4] :=
  (by decide +kernel : ∀ t : Fin grid0.N, win0_0.index t = ![0, t.val / 4, 0]
    ∧ win0_1.index t = ![0, t.val % 4, 0]
    ∧ win0_2.index t = ![t.val / 4, t.val % 4]
    ∧ win0_3.index t = ![t.val / 4, t.val % 4]
    ∧ win0_4.index t = ![t.val / 4, 16 + t.val % 4]
    ∧ win0_5.index t = ![t.val / 4, 20 + t.val % 4]
    ∧ win0_6.index t = ![t.val / 4, t.val % 4]
    ∧ win0_7.index t = ![t.val / 4, t.val % 4]
    ∧ win0_8.index t = ![t.val / 4, t.val % 4]
    ∧ win0_9.index t = ![t.val / 4, t.val % 4])

theorem part_blk (t : Fin cfg0.N) (y0 : Fin 1024) (y1 : Fin 512) :
    part (iblk m c 0 t) (iblk m c 1 t) y0 y1 = entry (V m c main_v1) (V m c main_v0) (row t.val y0) (col t.val y1) := by
  have ht : t.val < 32 := t.isLt
  refine Finset.sum_congr rfl fun j _ => ?_
  have hj := j.isLt
  have hy0 := y0.isLt
  have hy1 := y1.isLt
  have e0 : iblk m c 0 t (ix3 0 y0 j) = V m c main_v1 (ix3 0 (row t.val y0) j) := by
    blk_ext [iblk, idx t, row, col]
  have e1 : iblk m c 1 t (ix3 0 y1 j) = V m c main_v0 (ix3 0 (col t.val y1) j) := by
    blk_ext [iblk, idx t, row, col]
  rw [e0, e1]

theorem blk2 (t : Fin cfg0.N) (y0 : Fin 1024) (y1 : Fin 512) : (iblk m c 2 t (ix2 y0 y1) : EReal) = V m c main_arg2 (ix2 (row t.val y0) (col t.val y1)) := by
  have ht : t.val < 32 := t.isLt
  have hy0 := y0.isLt
  have hy1 := y1.isLt
  blk_ext [iblk, idx t, row, col]

theorem blk3 (t : Fin cfg0.N) (y0 : Fin 1024) (y1 : Fin 512) : (iblk m c 3 t (ix2 y0 y1) : EReal) = V m c main_arg3 (ix2 (row t.val y0) (col t.val y1)) := by
  have ht : t.val < 32 := t.isLt
  have hy0 := y0.isLt
  have hy1 := y1.isLt
  blk_ext [iblk, idx t, row, col]

theorem blk4 (t : Fin cfg0.N) (y0 : Fin 1024) (y1 : Fin 512) : (X0_4 m c t (ix2 y0 y1) : EReal) = gateA (V m c main_arg4) (row t.val y0) (col t.val y1) := by
  have ht : t.val < 32 := t.isLt
  have hy0 := y0.isLt
  have hy1 := y1.isLt
  unfold X0_4 Pipeline.Window.fill
  rw [dif_pos (moved0_4 t _)]
  unfold gateA
  blk_ext [iblk, idx t, row, col]

theorem blk5 (t : Fin cfg0.N) (y0 : Fin 1024) (y1 : Fin 512) : (X0_5 m c t (ix2 y0 y1) : EReal) = gateB (V m c main_arg4) (row t.val y0) (col t.val y1) := by
  have ht : t.val < 32 := t.isLt
  have hy0 := y0.isLt
  have hy1 := y1.isLt
  unfold X0_5 Pipeline.Window.fill
  rw [dif_pos (moved0_5 t _)]
  unfold gateB
  blk_ext [iblk, idx t, row, col]

/-- The results over the entries: the gradients of the projections, and those of the gates. -/
def branch (E g : Fin 8192 → Fin 2048 → EReal) : Arr2 8192 2048 := fun i => E (i 0) (i 1) * sg (g (i 0) (i 1))
def gateGrad (E g : Fin 8192 → Fin 2048 → EReal) (y : Arr2 8192 2048) : Arr2 8192 2048 :=
  fun i => E (i 0) (i 1) * y (ix2 (i 0) (i 1)) * sg (g (i 0) (i 1)) * (1 - sg (g (i 0) (i 1)))

theorem branch_at (E g : Fin 8192 → Fin 2048 → EReal) (i : (⟨2, ![8192, 2048]⟩ : Shape).Idx) (M : Fin 8192) (N : Fin 2048) (h0 : (i 0).val = M.val) (h1 : (i 1).val = N.val) :
    branch E g i = E M N * sg (g M N) := by
  unfold branch
  rw [show i 0 = M from Fin.ext h0, show i 1 = N from Fin.ext h1]

theorem gateGrad_at (E g : Fin 8192 → Fin 2048 → EReal) (y : Arr2 8192 2048) (i : (⟨2, ![8192, 2048]⟩ : Shape).Idx) (M : Fin 8192) (N : Fin 2048)
    (h0 : (i 0).val = M.val) (h1 : (i 1).val = N.val) : gateGrad E g y i = E M N * y (ix2 M N) * sg (g M N) * (1 - sg (g M N)) := by
  unfold gateGrad
  rw [show i 0 = M from Fin.ext h0, show i 1 = N from Fin.ext h1]

theorem out6 (t : Fin cfg0.N) (y0 : Fin 1024) (y1 : Fin 512) : (outsAt0 m c t).1 (ix2 y0 y1) = entry (V m c main_v1) (V m c main_v0) (row t.val y0) (col t.val y1) * sg (gateA (V m c main_arg4) (row t.val y0) (col t.val y1)) := by
  unfold outsAt0
  dsimp only
  rw [only6, pay9, pay2, pay1, zero_add, part_blk, blk4]

theorem array6 : (dats m 0 c).arrAt 6 cfg0.N = branch (entry (V m c main_v1) (V m c main_v0)) (gateA (V m c main_arg4)) := by
  refine (dats m 0 c).arrAt_eq_of_covers 6 _ (by decide +kernel) fun t _ y => ?_
  have ht : t.val < 32 := t.isLt
  blk_simp
  rw [after0_6]
  idx_vars y
  refine (out6 m c t _ _).trans (branch_at _ _ _ _ _ ?_ ?_).symm
  · blk_simp [idx t, row]
    first | done | (dsimp only; omega) | omega
  · blk_simp [idx t, col]
    first | done | (dsimp only; omega) | omega

theorem out7 (t : Fin cfg0.N) (y0 : Fin 1024) (y1 : Fin 512) : (outsAt0 m c t).2.1 (ix2 y0 y1) = entry (V m c main_v1) (V m c main_v0) (row t.val y0) (col t.val y1) * sg (gateB (V m c main_arg4) (row t.val y0) (col t.val y1)) := by
  unfold outsAt0
  dsimp only
  rw [only7, pay10, pay2, pay1, zero_add, part_blk, blk5]

theorem array7 : (dats m 0 c).arrAt 7 cfg0.N = branch (entry (V m c main_v1) (V m c main_v0)) (gateB (V m c main_arg4)) := by
  refine (dats m 0 c).arrAt_eq_of_covers 7 _ (by decide +kernel) fun t _ y => ?_
  have ht : t.val < 32 := t.isLt
  blk_simp
  rw [after0_7]
  idx_vars y
  refine (out7 m c t _ _).trans (branch_at _ _ _ _ _ ?_ ?_).symm
  · blk_simp [idx t, row]
    first | done | (dsimp only; omega) | omega
  · blk_simp [idx t, col]
    first | done | (dsimp only; omega) | omega

theorem out8 (t : Fin cfg0.N) (y0 : Fin 1024) (y1 : Fin 512) : (outsAt0 m c t).2.2.1 (ix2 y0 y1) = entry (V m c main_v1) (V m c main_v0) (row t.val y0) (col t.val y1) * (V m c main_arg2) (ix2 (row t.val y0) (col t.val y1)) * sg (gateA (V m c main_arg4) (row t.val y0) (col t.val y1)) * (1 - sg (gateA (V m c main_arg4) (row t.val y0) (col t.val y1))) := by
  unfold outsAt0
  dsimp only
  rw [only8, pay37, pay2, pay1, zero_add, part_blk, blk2, blk4]

theorem array8 : (dats m 0 c).arrAt 8 cfg0.N = gateGrad (entry (V m c main_v1) (V m c main_v0)) (gateA (V m c main_arg4)) (V m c main_arg2) := by
  refine (dats m 0 c).arrAt_eq_of_covers 8 _ (by decide +kernel) fun t _ y => ?_
  have ht : t.val < 32 := t.isLt
  blk_simp
  rw [after0_8]
  idx_vars y
  refine (out8 m c t _ _).trans (gateGrad_at _ _ _ _ _ _ ?_ ?_).symm
  · blk_simp [idx t, row]
    first | done | (dsimp only; omega) | omega
  · blk_simp [idx t, col]
    first | done | (dsimp only; omega) | omega

theorem out9 (t : Fin cfg0.N) (y0 : Fin 1024) (y1 : Fin 512) : (outsAt0 m c t).2.2.2 (ix2 y0 y1) = entry (V m c main_v1) (V m c main_v0) (row t.val y0) (col t.val y1) * (V m c main_arg3) (ix2 (row t.val y0) (col t.val y1)) * sg (gateB (V m c main_arg4) (row t.val y0) (col t.val y1)) * (1 - sg (gateB (V m c main_arg4) (row t.val y0) (col t.val y1))) := by
  unfold outsAt0
  dsimp only
  rw [only9, pay48, pay2, pay1, zero_add, part_blk, blk3, blk5]

theorem array9 : (dats m 0 c).arrAt 9 cfg0.N = gateGrad (entry (V m c main_v1) (V m c main_v0)) (gateB (V m c main_arg4)) (V m c main_arg3) := by
  refine (dats m 0 c).arrAt_eq_of_covers 9 _ (by decide +kernel) fun t _ y => ?_
  have ht : t.val < 32 := t.isLt
  blk_simp
  rw [after0_9]
  idx_vars y
  refine (out9 m c t _ _).trans (gateGrad_at _ _ _ _ _ _ ?_ ?_).symm
  · blk_simp [idx t, row]
    first | done | (dsimp only; omega) | omega
  · blk_simp [idx t, col]
    first | done | (dsimp only; omega) | omega

/-! ## The arrays the call is given -/

theorem arg0 (M : Fin 8192) (k : Fin 2048) : V m c main_v1 (ix3 0 M k) = (m ((c : Thread nD τ).loc main_arg0) : Arr2 8192 2048) (ix2 M k) := by
  dsimp only [V, hostOps0]
  after_results
  clean_types
  pointwise [id]

theorem arg1 (N : Fin 2048) (k : Fin 2048) : V m c main_v0 (ix3 0 N k) = (m ((c : Thread nD τ).loc main_arg1) : Arr2 2048 2048) (ix2 N k) := by
  dsimp only [V, hostOps0]
  after_results
  clean_types
  pointwise [id]

/-- The sum's gradient from the arguments. -/
def prod (X : Arr2 8192 2048) (W : Arr2 2048 2048) (M : Fin 8192) (N : Fin 2048) : EReal :=
  ∑ j : Fin 2048, X (ix2 M j) * W (ix2 N j)

theorem entry_eq : entry (V m c main_v1) (V m c main_v0) = prod (m ((c : Thread nD τ).loc main_arg0)) (m ((c : Thread nD τ).loc main_arg1)) := by
  funext M N
  exact Finset.sum_congr rfl fun j _ => congrArg₂ (· * ·) (arg0 m c M j) (arg1 m c N j)

theorem values : θ_run defs (onTc (τ := τ) (main (F := Ideal))) ⟨m, fun _ => 0, ρ⟩ fun r => ∀ c : Dev nD,
    r.2.mem ((c : Thread nD τ).loc main_v2_0) = branch (prod (m ((c : Thread nD τ).loc main_arg0)) (m ((c : Thread nD τ).loc main_arg1))) (gateA (m ((c : Thread nD τ).loc main_arg4)))
    ∧ r.2.mem ((c : Thread nD τ).loc main_v2_1) = branch (prod (m ((c : Thread nD τ).loc main_arg0)) (m ((c : Thread nD τ).loc main_arg1))) (gateB (m ((c : Thread nD τ).loc main_arg4)))
    ∧ r.2.mem ((c : Thread nD τ).loc main_v2_2) = gateGrad (prod (m ((c : Thread nD τ).loc main_arg0)) (m ((c : Thread nD τ).loc main_arg1))) (gateA (m ((c : Thread nD τ).loc main_arg4))) (m ((c : Thread nD τ).loc main_arg2))
    ∧ r.2.mem ((c : Thread nD τ).loc main_v2_3) = gateGrad (prod (m ((c : Thread nD τ).loc main_arg0)) (m ((c : Thread nD τ).loc main_arg1))) (gateB (m ((c : Thread nD τ).loc main_arg4))) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ⟨(h c).1.trans ((array6 m c).trans ?_), (h c).2.1.trans ((array7 m c).trans ?_), (h c).2.2.1.trans ((array8 m c).trans ?_), (h c).2.2.2.1.trans ((array9 m c).trans ?_), (h c).2.2.2.2⟩) (Value.run_blocks m ρ)
  · rw [entry_eq, V_main_arg4]
  · rw [entry_eq, V_main_arg4]
  · rw [entry_eq, V_main_arg4, V_main_arg2]
  · rw [entry_eq, V_main_arg4, V_main_arg3]

end Cert.DYIdeal.Product

namespace Cert.RefDYIdeal.Product

open Cert.Pieces
open Cert.DYIdeal.Product (prod branch gateGrad gateA gateB sg)

variable (m : (ℓ : Loc nD τ sig) → Buf (Elt Ideal) ℓ) (ρ : Dev nD → PrngReg)

theorem values : θ_run defs (onTc (τ := τ) (main (F := Ideal))) ⟨m, fun _ => 0, ρ⟩ fun r => ∀ c : Dev nD,
    r.2.mem ((c : Thread nD τ).loc main_v35) = branch (prod (m ((c : Thread nD τ).loc main_arg0)) (m ((c : Thread nD τ).loc main_arg1))) (gateA (m ((c : Thread nD τ).loc main_arg4)))
    ∧ r.2.mem ((c : Thread nD τ).loc main_v36) = branch (prod (m ((c : Thread nD τ).loc main_arg0)) (m ((c : Thread nD τ).loc main_arg1))) (gateB (m ((c : Thread nD τ).loc main_arg4)))
    ∧ r.2.mem ((c : Thread nD τ).loc main_v37) = gateGrad (prod (m ((c : Thread nD τ).loc main_arg0)) (m ((c : Thread nD τ).loc main_arg1))) (gateA (m ((c : Thread nD τ).loc main_arg4))) (m ((c : Thread nD τ).loc main_arg2))
    ∧ r.2.mem ((c : Thread nD τ).loc main_v38) = gateGrad (prod (m ((c : Thread nD τ).loc main_arg0)) (m ((c : Thread nD τ).loc main_arg1))) (gateB (m ((c : Thread nD τ).loc main_arg4))) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ⟨(h c).1.trans ?_, (h c).2.1.trans ?_, (h c).2.2.1.trans ?_, (h c).2.2.2.1.trans ?_, (h c).2.2.2.2⟩) (Value.run m ρ)
  · funext i
    idx_vars i
    pointwise [branch, prod, gateA, sg]
    exact mul_comm _ _
  · funext i
    idx_vars i
    pointwise [branch, prod, gateB, sg]
    exact mul_comm _ _
  · funext i
    idx_vars i
    pointwise [gateGrad, prod, gateA, sg]
    exact (mul_assoc _ _ _).symm
  · funext i
    idx_vars i
    pointwise [gateGrad, prod, gateB, sg]
    exact (mul_assoc _ _ _).symm

end Cert.RefDYIdeal.Product

end
-- ==== Proof.Products.lean ====
/- The products' claims: every run ends with the arguments unchanged and every semaphore at zero, and each product is the reference's. -/
module

public import proofs.«01_k».proof.Defs
public import proofs.«01_k».proof.Proof.Gen.FfnOut.Frame
public import proofs.«01_k».proof.Proof.FfnOutValue
public import proofs.«01_k».proof.Proof.Gen.DH2.Frame
public import proofs.«01_k».proof.Proof.DH2Value
public import proofs.«01_k».proof.Proof.Gen.DwFfnIn.Frame
public import proofs.«01_k».proof.Proof.DwFfnInValue
public import proofs.«01_k».proof.Proof.Gen.DwFfnOut.Frame
public import proofs.«01_k».proof.Proof.DwFfnOutValue
public import proofs.«01_k».proof.Proof.Gen.FfnIn.Frame
public import proofs.«01_k».proof.Proof.FfnInValue
public import proofs.«01_k».proof.Proof.Gen.ProjP.Frame
public import proofs.«01_k».proof.Proof.ProjPValue
public import proofs.«01_k».proof.Proof.Gen.ProjOut.Frame
public import proofs.«01_k».proof.Proof.ProjOutValue
public import proofs.«01_k».proof.Proof.Gen.DwOut.Frame
public import proofs.«01_k».proof.Proof.DwOutValue
public import proofs.«01_k».proof.Proof.Gen.DOna.Frame
public import proofs.«01_k».proof.Proof.DOnaValue
public import proofs.«01_k».proof.Proof.Gen.DOb.Frame
public import proofs.«01_k».proof.Proof.DObValue
public import proofs.«01_k».proof.Proof.Gen.DwP.Frame
public import proofs.«01_k».proof.Proof.DwPValue
public import proofs.«01_k».proof.Proof.Gen.DSw.Frame
public import proofs.«01_k».proof.Proof.DSwValue
public import proofs.«01_k».proof.Proof.Gen.DY.Frame
public import proofs.«01_k».proof.Proof.DYValue

@[expose] public section

set_option maxRecDepth 16384

noncomputable section

namespace Cert.Products

open Idealize.ShloMosaic Idealize.SL.Sem

/-! ## FfnOut -/

theorem frame_FfnOut : quiescent_FfnOut (hFfnOut := Cert.FfnOut.Gen.facts) := fun m g _ => Cert.FfnOut.Gen.frame m g

theorem frame_FfnOutIdeal : quiescent_FfnOutIdeal (hFfnOutIdeal := Cert.FfnOutIdeal.Gen.facts) := fun m g _ => Cert.FfnOutIdeal.Gen.frame m g

theorem frame_RefFfnOut : quiescent_RefFfnOutIdeal (hRefFfnOutIdeal := Cert.RefFfnOutIdeal.Gen.facts) := fun m g _ =>
  (θ_run _ _ _).mono (fun r h => ⟨fun c => (h c).2, sem_eq_zero_of_no_sems (by decide) r.2⟩) (Cert.RefFfnOutIdeal.Product.values m g)

theorem value_FfnOut : algebraic_FfnOutIdeal_RefFfnOutIdeal (hFfnOutIdeal := Cert.FfnOutIdeal.Gen.facts) (hRefFfnOutIdeal := Cert.RefFfnOutIdeal.Gen.facts) := by
  intro m g m' g' _ ha
  exact ⟨_, Cert.FfnOutIdeal.Product.values m g, (θ_run _ _ _).mono
    (fun r h c => ⟨(h c).1.trans (congrArg₂ Cert.FfnOutIdeal.Product.prod (ha c).1 (ha c).2), (h c).2⟩) (Cert.RefFfnOutIdeal.Product.values m' g')⟩

/-! ## DH2 -/

theorem frame_DH2 : quiescent_DH2 (hDH2 := Cert.DH2.Gen.facts) := fun m g _ => Cert.DH2.Gen.frame m g

theorem frame_DH2Ideal : quiescent_DH2Ideal (hDH2Ideal := Cert.DH2Ideal.Gen.facts) := fun m g _ => Cert.DH2Ideal.Gen.frame m g

theorem frame_RefDH2 : quiescent_RefDH2Ideal (hRefDH2Ideal := Cert.RefDH2Ideal.Gen.facts) := fun m g _ =>
  (θ_run _ _ _).mono (fun r h => ⟨fun c => (h c).2, sem_eq_zero_of_no_sems (by decide) r.2⟩) (Cert.RefDH2Ideal.Product.values m g)

theorem value_DH2 : algebraic_DH2Ideal_RefDH2Ideal (hDH2Ideal := Cert.DH2Ideal.Gen.facts) (hRefDH2Ideal := Cert.RefDH2Ideal.Gen.facts) := by
  intro m g m' g' _ ha
  exact ⟨_, Cert.DH2Ideal.Product.values m g, (θ_run _ _ _).mono
    (fun r h c => ⟨(h c).1.trans (congrArg₂ Cert.DH2Ideal.Product.prod (ha c).1 (ha c).2), (h c).2⟩) (Cert.RefDH2Ideal.Product.values m' g')⟩

/-! ## DwFfnIn -/

theorem frame_DwFfnIn : quiescent_DwFfnIn (hDwFfnIn := Cert.DwFfnIn.Gen.facts) := fun m g _ => Cert.DwFfnIn.Gen.frame m g

theorem frame_DwFfnInIdeal : quiescent_DwFfnInIdeal (hDwFfnInIdeal := Cert.DwFfnInIdeal.Gen.facts) := fun m g _ => Cert.DwFfnInIdeal.Gen.frame m g

theorem frame_RefDwFfnIn : quiescent_RefDwFfnInIdeal (hRefDwFfnInIdeal := Cert.RefDwFfnInIdeal.Gen.facts) := fun m g _ =>
  (θ_run _ _ _).mono (fun r h => ⟨fun c => (h c).2, sem_eq_zero_of_no_sems (by decide) r.2⟩) (Cert.RefDwFfnInIdeal.Product.values m g)

theorem value_DwFfnIn : algebraic_DwFfnInIdeal_RefDwFfnInIdeal (hDwFfnInIdeal := Cert.DwFfnInIdeal.Gen.facts) (hRefDwFfnInIdeal := Cert.RefDwFfnInIdeal.Gen.facts) := by
  intro m g m' g' _ ha
  exact ⟨_, Cert.DwFfnInIdeal.Product.values m g, (θ_run _ _ _).mono
    (fun r h c => ⟨(h c).1.trans (congrArg₂ Cert.DwFfnInIdeal.Product.prod (ha c).1 (ha c).2), (h c).2⟩) (Cert.RefDwFfnInIdeal.Product.values m' g')⟩

/-! ## DwFfnOut -/

theorem frame_DwFfnOut : quiescent_DwFfnOut (hDwFfnOut := Cert.DwFfnOut.Gen.facts) := fun m g _ => Cert.DwFfnOut.Gen.frame m g

theorem frame_DwFfnOutIdeal : quiescent_DwFfnOutIdeal (hDwFfnOutIdeal := Cert.DwFfnOutIdeal.Gen.facts) := fun m g _ => Cert.DwFfnOutIdeal.Gen.frame m g

theorem frame_RefDwFfnOut : quiescent_RefDwFfnOutIdeal (hRefDwFfnOutIdeal := Cert.RefDwFfnOutIdeal.Gen.facts) := fun m g _ =>
  (θ_run _ _ _).mono (fun r h => ⟨fun c => (h c).2, sem_eq_zero_of_no_sems (by decide) r.2⟩) (Cert.RefDwFfnOutIdeal.Product.values m g)

theorem value_DwFfnOut : algebraic_DwFfnOutIdeal_RefDwFfnOutIdeal (hDwFfnOutIdeal := Cert.DwFfnOutIdeal.Gen.facts) (hRefDwFfnOutIdeal := Cert.RefDwFfnOutIdeal.Gen.facts) := by
  intro m g m' g' _ ha
  exact ⟨_, Cert.DwFfnOutIdeal.Product.values m g, (θ_run _ _ _).mono
    (fun r h c => ⟨(h c).1.trans (congrArg₂ Cert.DwFfnOutIdeal.Product.prod (ha c).1 (ha c).2), (h c).2⟩) (Cert.RefDwFfnOutIdeal.Product.values m' g')⟩

/-! ## FfnIn -/

theorem frame_FfnIn : quiescent_FfnIn (hFfnIn := Cert.FfnIn.Gen.facts) := fun m g _ => Cert.FfnIn.Gen.frame m g

theorem frame_FfnInIdeal : quiescent_FfnInIdeal (hFfnInIdeal := Cert.FfnInIdeal.Gen.facts) := fun m g _ => Cert.FfnInIdeal.Gen.frame m g

theorem frame_RefFfnIn : quiescent_RefFfnInIdeal (hRefFfnInIdeal := Cert.RefFfnInIdeal.Gen.facts) := fun m g _ =>
  (θ_run _ _ _).mono (fun r h => ⟨fun c => (h c).2.2.2, sem_eq_zero_of_no_sems (by decide) r.2⟩) (Cert.RefFfnInIdeal.Product.values m g)

theorem value_FfnIn : algebraic_FfnInIdeal_RefFfnInIdeal (hFfnInIdeal := Cert.FfnInIdeal.Gen.facts) (hRefFfnInIdeal := Cert.RefFfnInIdeal.Gen.facts) := by
  intro m g m' g' _ ha
  have e := fun c => congrArg₂ Cert.FfnInIdeal.Product.prod (ha c).1 (ha c).2
  exact ⟨_, _, _, Cert.FfnInIdeal.Product.values m g, (θ_run _ _ _).mono
    (fun r h c => ⟨(h c).1.trans (congrArg Cert.FfnInIdeal.Product.halves (e c)), (h c).2.1.trans (congrArg Cert.FfnInIdeal.Product.gated (e c)),
      (h c).2.2.1.trans (congrArg Cert.FfnInIdeal.Product.gatedT (e c)), (h c).2.2.2⟩) (Cert.RefFfnInIdeal.Product.values m' g')⟩

/-! ## ProjP -/

theorem frame_ProjP : quiescent_ProjP (hProjP := Cert.ProjP.Gen.facts) := fun m g _ => Cert.ProjP.Gen.frame m g

theorem frame_ProjPIdeal : quiescent_ProjPIdeal (hProjPIdeal := Cert.ProjPIdeal.Gen.facts) := fun m g _ => Cert.ProjPIdeal.Gen.frame m g

theorem frame_RefProjP : quiescent_RefProjPIdeal (hRefProjPIdeal := Cert.RefProjPIdeal.Gen.facts) := fun m g _ =>
  (θ_run _ _ _).mono (fun r h => ⟨fun c => (h c).2, sem_eq_zero_of_no_sems (by decide) r.2⟩) (Cert.RefProjPIdeal.Product.values m g)

theorem value_ProjP : algebraic_ProjPIdeal_RefProjPIdeal (hProjPIdeal := Cert.ProjPIdeal.Gen.facts) (hRefProjPIdeal := Cert.RefProjPIdeal.Gen.facts) := by
  intro m g m' g' _ ha
  exact ⟨_, Cert.ProjPIdeal.Product.values m g, (θ_run _ _ _).mono
    (fun r h c => ⟨(h c).1.trans (congrArg₂ Cert.ProjPIdeal.Product.prod (ha c).1 (ha c).2), (h c).2⟩) (Cert.RefProjPIdeal.Product.values m' g')⟩

/-! ## ProjOut -/

theorem frame_ProjOut : quiescent_ProjOut (hProjOut := Cert.ProjOut.Gen.facts) := fun m g _ => Cert.ProjOut.Gen.frame m g

theorem frame_ProjOutIdeal : quiescent_ProjOutIdeal (hProjOutIdeal := Cert.ProjOutIdeal.Gen.facts) := fun m g _ => Cert.ProjOutIdeal.Gen.frame m g

theorem frame_RefProjOut : quiescent_RefProjOutIdeal (hRefProjOutIdeal := Cert.RefProjOutIdeal.Gen.facts) := fun m g _ =>
  (θ_run _ _ _).mono (fun r h => ⟨fun c => (h c).2, sem_eq_zero_of_no_sems (by decide) r.2⟩) (Cert.RefProjOutIdeal.Product.values m g)

theorem value_ProjOut : algebraic_ProjOutIdeal_RefProjOutIdeal (hProjOutIdeal := Cert.ProjOutIdeal.Gen.facts) (hRefProjOutIdeal := Cert.RefProjOutIdeal.Gen.facts) := by
  intro m g m' g' _ ha
  exact ⟨_, Cert.ProjOutIdeal.Product.values m g, (θ_run _ _ _).mono
    (fun r h c => ⟨(h c).1.trans (congrArg₂ Cert.ProjOutIdeal.Product.prod (ha c).1 (ha c).2), (h c).2⟩) (Cert.RefProjOutIdeal.Product.values m' g')⟩

/-! ## DwOut -/

theorem frame_DwOut : quiescent_DwOut (hDwOut := Cert.DwOut.Gen.facts) := fun m g _ => Cert.DwOut.Gen.frame m g

theorem frame_DwOutIdeal : quiescent_DwOutIdeal (hDwOutIdeal := Cert.DwOutIdeal.Gen.facts) := fun m g _ => Cert.DwOutIdeal.Gen.frame m g

theorem frame_RefDwOut : quiescent_RefDwOutIdeal (hRefDwOutIdeal := Cert.RefDwOutIdeal.Gen.facts) := fun m g _ =>
  (θ_run _ _ _).mono (fun r h => ⟨fun c => (h c).2, sem_eq_zero_of_no_sems (by decide) r.2⟩) (Cert.RefDwOutIdeal.Product.values m g)

theorem value_DwOut : algebraic_DwOutIdeal_RefDwOutIdeal (hDwOutIdeal := Cert.DwOutIdeal.Gen.facts) (hRefDwOutIdeal := Cert.RefDwOutIdeal.Gen.facts) := by
  intro m g m' g' _ ha
  exact ⟨_, Cert.DwOutIdeal.Product.values m g, (θ_run _ _ _).mono
    (fun r h c => ⟨(h c).1.trans (congrArg₂ Cert.DwOutIdeal.Product.prod (ha c).1 (ha c).2), (h c).2⟩) (Cert.RefDwOutIdeal.Product.values m' g')⟩

/-! ## DOna -/

theorem frame_DOna : quiescent_DOna (hDOna := Cert.DOna.Gen.facts) := fun m g _ => Cert.DOna.Gen.frame m g

theorem frame_DOnaIdeal : quiescent_DOnaIdeal (hDOnaIdeal := Cert.DOnaIdeal.Gen.facts) := fun m g _ => Cert.DOnaIdeal.Gen.frame m g

theorem frame_RefDOna : quiescent_RefDOnaIdeal (hRefDOnaIdeal := Cert.RefDOnaIdeal.Gen.facts) := fun m g _ =>
  (θ_run _ _ _).mono (fun r h => ⟨fun c => (h c).2, sem_eq_zero_of_no_sems (by decide) r.2⟩) (Cert.RefDOnaIdeal.Product.values m g)

theorem value_DOna : algebraic_DOnaIdeal_RefDOnaIdeal (hDOnaIdeal := Cert.DOnaIdeal.Gen.facts) (hRefDOnaIdeal := Cert.RefDOnaIdeal.Gen.facts) := by
  intro m g m' g' _ ha
  exact ⟨_, Cert.DOnaIdeal.Product.values m g, (θ_run _ _ _).mono
    (fun r h c => ⟨(h c).1.trans (congrArg₂ Cert.DOnaIdeal.Product.prod (ha c).1 (ha c).2), (h c).2⟩) (Cert.RefDOnaIdeal.Product.values m' g')⟩

/-! ## DOb -/

theorem frame_DOb : quiescent_DOb (hDOb := Cert.DOb.Gen.facts) := fun m g _ => Cert.DOb.Gen.frame m g

theorem frame_DObIdeal : quiescent_DObIdeal (hDObIdeal := Cert.DObIdeal.Gen.facts) := fun m g _ => Cert.DObIdeal.Gen.frame m g

theorem frame_RefDOb : quiescent_RefDObIdeal (hRefDObIdeal := Cert.RefDObIdeal.Gen.facts) := fun m g _ =>
  (θ_run _ _ _).mono (fun r h => ⟨fun c => (h c).2, sem_eq_zero_of_no_sems (by decide) r.2⟩) (Cert.RefDObIdeal.Product.values m g)

theorem value_DOb : algebraic_DObIdeal_RefDObIdeal (hDObIdeal := Cert.DObIdeal.Gen.facts) (hRefDObIdeal := Cert.RefDObIdeal.Gen.facts) := by
  intro m g m' g' _ ha
  exact ⟨_, Cert.DObIdeal.Product.values m g, (θ_run _ _ _).mono
    (fun r h c => ⟨(h c).1.trans (congrArg₂ Cert.DObIdeal.Product.prod (ha c).1 (ha c).2), (h c).2⟩) (Cert.RefDObIdeal.Product.values m' g')⟩

/-! ## DwP -/

theorem frame_DwP : quiescent_DwP (hDwP := Cert.DwP.Gen.facts) := fun m g _ => Cert.DwP.Gen.frame m g

theorem frame_DwPIdeal : quiescent_DwPIdeal (hDwPIdeal := Cert.DwPIdeal.Gen.facts) := fun m g _ => Cert.DwPIdeal.Gen.frame m g

theorem frame_RefDwP : quiescent_RefDwPIdeal (hRefDwPIdeal := Cert.RefDwPIdeal.Gen.facts) := fun m g _ =>
  (θ_run _ _ _).mono (fun r h => ⟨fun c => (h c).2, sem_eq_zero_of_no_sems (by decide) r.2⟩) (Cert.RefDwPIdeal.Product.values m g)

theorem value_DwP : algebraic_DwPIdeal_RefDwPIdeal (hDwPIdeal := Cert.DwPIdeal.Gen.facts) (hRefDwPIdeal := Cert.RefDwPIdeal.Gen.facts) := by
  intro m g m' g' _ ha
  exact ⟨_, Cert.DwPIdeal.Product.values m g, (θ_run _ _ _).mono
    (fun r h c => ⟨(h c).1.trans (congrArg₂ Cert.DwPIdeal.Product.prod (ha c).1 (ha c).2), (h c).2⟩) (Cert.RefDwPIdeal.Product.values m' g')⟩

/-! ## DSw -/

theorem frame_DSw : quiescent_DSw (hDSw := Cert.DSw.Gen.facts) := fun m g _ => Cert.DSw.Gen.frame m g

theorem frame_DSwIdeal : quiescent_DSwIdeal (hDSwIdeal := Cert.DSwIdeal.Gen.facts) := fun m g _ => Cert.DSwIdeal.Gen.frame m g

theorem frame_RefDSw : quiescent_RefDSwIdeal (hRefDSwIdeal := Cert.RefDSwIdeal.Gen.facts) := fun m g _ =>
  (θ_run _ _ _).mono (fun r h => ⟨fun c => (h c).2, sem_eq_zero_of_no_sems (by decide) r.2⟩) (Cert.RefDSwIdeal.Value.run m g)

theorem value_DSw : algebraic_DSwIdeal_RefDSwIdeal_pre_factors_finite (hDSwIdeal := Cert.DSwIdeal.Gen.facts) (hRefDSwIdeal := Cert.RefDSwIdeal.Gen.facts)
    (hPre_factors_finite := Cert.Pre_factors_finite.facts) := by
  intro m g m' g' hp ha
  refine ⟨_, Cert.DSwIdeal.Product.values m g, (θ_run _ _ _).mono (fun r h c => ⟨(h c).1.trans ?_, (h c).2⟩) (Cert.RefDSwIdeal.Product.values m' g' fun c => ?_)⟩
  · obtain ⟨h0, h1, h2⟩ := ha c
    show Cert.DSwIdeal.Product.Finite (m' ((c.tc : Thread Cert.RefDSwIdeal.nD Cert.RefDSwIdeal.τ).loc Cert.RefDSwIdeal.main_arg0)) (m' ((c.tc : Thread Cert.RefDSwIdeal.nD Cert.RefDSwIdeal.τ).loc Cert.RefDSwIdeal.main_arg1))
      (m' ((c.tc : Thread Cert.RefDSwIdeal.nD Cert.RefDSwIdeal.τ).loc Cert.RefDSwIdeal.main_arg2))
    rw [h0, h1, h2]
    exact Cert.Pre_factors_finite.finite (hp c).1 (hp c).2.1 (hp c).2.2
  · obtain ⟨h0, h1, h2⟩ := ha c
    exact congrArg₂ Cert.DSwIdeal.Product.grad (congrArg₂ Cert.DSwIdeal.Product.prod h0 h1) h2

/-! ## DY -/

theorem frame_DY : quiescent_DY (hDY := Cert.DY.Gen.facts) := fun m g _ => Cert.DY.Gen.frame m g

theorem frame_DYIdeal : quiescent_DYIdeal (hDYIdeal := Cert.DYIdeal.Gen.facts) := fun m g _ => Cert.DYIdeal.Gen.frame m g

theorem frame_RefDY : quiescent_RefDYIdeal (hRefDYIdeal := Cert.RefDYIdeal.Gen.facts) := fun m g _ =>
  (θ_run _ _ _).mono (fun r h => ⟨fun c => (h c).2.2.2.2, sem_eq_zero_of_no_sems (by decide) r.2⟩) (Cert.RefDYIdeal.Product.values m g)

theorem value_DY : algebraic_DYIdeal_RefDYIdeal (hDYIdeal := Cert.DYIdeal.Gen.facts) (hRefDYIdeal := Cert.RefDYIdeal.Gen.facts) := by
  intro m g m' g' _ ha
  have e := fun c => congrArg₂ Cert.DYIdeal.Product.prod (ha c).1 (ha c).2.1
  have ea := fun c => congrArg Cert.DYIdeal.Product.gateA (ha c).2.2.2.2
  have eb := fun c => congrArg Cert.DYIdeal.Product.gateB (ha c).2.2.2.2
  exact ⟨_, _, _, _, Cert.DYIdeal.Product.values m g, (θ_run _ _ _).mono
    (fun r h c => ⟨(h c).1.trans (congrArg₂ Cert.DYIdeal.Product.branch (e c) (ea c)), (h c).2.1.trans (congrArg₂ Cert.DYIdeal.Product.branch (e c) (eb c)),
      (h c).2.2.1.trans (congr (congrArg₂ Cert.DYIdeal.Product.gateGrad (e c) (ea c)) (ha c).2.2.1), (h c).2.2.2.1.trans (congr (congrArg₂ Cert.DYIdeal.Product.gateGrad (e c) (eb c)) (ha c).2.2.2.1),
      (h c).2.2.2.2⟩) (Cert.RefDYIdeal.Product.values m' g')⟩

end Cert.Products

end
-- ==== Proof.AdamW.lean ====
/- The optimiser's step on one weight array of any shape. The kernel multiplies the moments by the reciprocals of the bias
   corrections, the reference divides by the corrections themselves: on the extended reals these are the same. -/
module

public import Idealize.ShloMosaic.Lib.Pointwise
public import Idealize.ShloMosaic.PureOps.IdealRules

@[expose] public section

noncomputable section

namespace Cert.AdamW

open Idealize.ShloMosaic

/-- The words of `1 - β₁ ^ 10` and `1 - β₂ ^ 10`. -/
theorem correction1 : Ideal.ofBits (φ := .f32) 0x3F26BD02#32 = ((5463681 / 8388608 : ℝ) : EReal) := by
  simp [Ideal.ofBits, Ideal.ieee, -EReal.coe_mul]
  norm_num

theorem correction2 : Ideal.ofBits (φ := .f32) 0x3C231ACC#32 = ((2672307 / 268435456 : ℝ) : EReal) := by
  simp [Ideal.ofBits, Ideal.ieee, -EReal.coe_mul]
  norm_num

/-- Dividing by a nonzero real is multiplying by its reciprocal. -/
theorem div_eq {y : ℝ} (h : y ≠ 0) (x : EReal) : Ideal.div x (y : EReal) = x * ((y⁻¹ : ℝ) : EReal) := by
  rw [Ideal.div_coe h, one_div]

variable {I : Type}

/-- The new first moment. -/
def mean (g m : I → Ideal .f32) : I → Ideal .f32 := fun i =>
  FloatOps.addf (F := Ideal) (FloatOps.mulf (F := Ideal) (Scalar.ofBits .f32 0x3F666666#32) (m i)) (FloatOps.mulf (F := Ideal) (Scalar.ofBits .f32 0x3DCCCCCD#32) (g i))

/-- The new second moment. -/
def square (g v : I → Ideal .f32) : I → Ideal .f32 := fun i =>
  FloatOps.addf (F := Ideal) (FloatOps.mulf (F := Ideal) (Scalar.ofBits .f32 0x3F7FBE77#32) (v i)) (FloatOps.mulf (F := Ideal) (Scalar.ofBits .f32 0x3A83126F#32) (FloatOps.mulf (F := Ideal) (g i) (g i)))

/-- The weight's change, the corrections' reciprocals being `r` and `s`. -/
def change (r s : Ideal .f32) (w g m v : I → Ideal .f32) : I → Ideal .f32 := fun i =>
  FloatOps.mulf (F := Ideal) (Scalar.ofBits .f32 0xBA83126F#32)
    (FloatOps.addf (F := Ideal) (FloatOps.divf (F := Ideal) (FloatOps.mulf (F := Ideal) (mean g m i) r) (FloatOps.addf (F := Ideal) (FloatOps.sqrt (F := Ideal) (FloatOps.mulf (F := Ideal) (square g v i) s)) (Scalar.ofBits .f32 0x322BCC77#32)))
      (FloatOps.mulf (F := Ideal) (Scalar.ofBits .f32 0x3C23D70A#32) (w i)))

/-- The reciprocals of the two corrections. -/
abbrev r1 : Ideal .f32 := (((5463681 / 8388608)⁻¹ : ℝ) : EReal)
abbrev r2 : Ideal .f32 := (((2672307 / 268435456)⁻¹ : ℝ) : EReal)

variable {Z S : Shape} {d : Fin Z.rank → Fin S.rank} (h : Z.BroadcastsInDim S d)

/-- A constant spread over an array. -/
abbrev lit (b : BitVec 32) : S.Idx → Ideal .f32 := broadcastInDim S d h (constant Z .f32 b : FVec Ideal Z .f32)

theorem mean_eq (g m : FVec Ideal S .f32) : addf (mulf (lit h 0x3F666666#32) m) (mulf (lit h 0x3DCCCCCD#32) g) = mean g m := rfl

theorem square_eq (g v : FVec Ideal S .f32) : addf (mulf (lit h 0x3F7FBE77#32) v) (mulf (lit h 0x3A83126F#32) (mulf g g)) = square g v := rfl

/-- The reference's change is the kernel's. -/
theorem change_eq (w g m v : FVec Ideal S .f32) :
    mulf (lit h 0xBA83126F#32)
      (addf (Host.divf (Host.divf (addf (mulf (lit h 0x3F666666#32) m) (mulf (lit h 0x3DCCCCCD#32) g)) (lit h 0x3F26BD02#32))
          (addf (Host.sqrt (Host.divf (addf (mulf (lit h 0x3F7FBE77#32) v) (mulf (lit h 0x3A83126F#32) (mulf g g))) (lit h 0x3C231ACC#32))) (lit h 0x322BCC77#32)))
        (mulf (lit h 0x3C23D70A#32) w))
    = change r1 r2 w g m v := by
  rw [mean_eq, square_eq]
  funext i
  have e1 : ∀ x : EReal, Ideal.div x (Ideal.ofBits (φ := .f32) 0x3F26BD02#32) = x * r1 := fun x => by
    rw [correction1]; exact div_eq (by norm_num) x
  have e2 : ∀ x : EReal, Ideal.div x (Ideal.ofBits (φ := .f32) 0x3C231ACC#32) = x * r2 := fun x => by
    rw [correction2]; exact div_eq (by norm_num) x
  simp only [change, mulf, addf, Host.divf, Host.sqrt, broadcastInDim, constant, Ideal.hostDivf_def, Ideal.hostUnary_sqrt_def, Ideal.mulf_def, Ideal.addf_def,
    Ideal.divf_def, Ideal.sqrt_def, Ideal.ofBits_def, e1, e2]

/-- With the reciprocals named, on equal arguments the reference's three results are the kernel's. -/
theorem change_agree {κ : String → Option EReal} (h1 : κ "c1" = some r1) (h2 : κ "c2" = some r2) {w g m v w' g' m' v' : FVec Ideal S .f32}
    (e : w' = w ∧ g' = g ∧ m' = m ∧ v' = v) :
    mulf (lit h 0xBA83126F#32)
      (addf (Host.divf (Host.divf (addf (mulf (lit h 0x3F666666#32) m') (mulf (lit h 0x3DCCCCCD#32) g')) (lit h 0x3F26BD02#32))
          (addf (Host.sqrt (Host.divf (addf (mulf (lit h 0x3F7FBE77#32) v') (mulf (lit h 0x3A83126F#32) (mulf g' g'))) (lit h 0x3C231ACC#32))) (lit h 0x322BCC77#32)))
        (mulf (lit h 0x3C23D70A#32) w'))
    = change (Named.named κ "c1" (φ := .f32) 0x3FC48605#32) (Named.named κ "c2" (φ := .f32) 0x42C8E6D3#32) w g m v := by
  obtain ⟨rfl, rfl, rfl, rfl⟩ := e
  rw [change_eq, IdealRules.named_const.ideal_named_scalar κ "c1" (φ := .f32) _ _ h1, IdealRules.named_const.ideal_named_scalar κ "c2" (φ := .f32) _ _ h2]

theorem mean_agree {w g m v w' g' m' v' : FVec Ideal S .f32} (e : w' = w ∧ g' = g ∧ m' = m ∧ v' = v) :
    addf (mulf (lit h 0x3F666666#32) m') (mulf (lit h 0x3DCCCCCD#32) g') = mean g m := by
  obtain ⟨rfl, rfl, rfl, rfl⟩ := e
  exact mean_eq h _ _

theorem square_agree {w g m v w' g' m' v' : FVec Ideal S .f32} (e : w' = w ∧ g' = g ∧ m' = m ∧ v' = v) :
    addf (mulf (lit h 0x3F7FBE77#32) v') (mulf (lit h 0x3A83126F#32) (mulf g' g')) = square g v := by
  obtain ⟨rfl, rfl, rfl, rfl⟩ := e
  exact square_eq h _ _

end Cert.AdamW

end
-- ==== Proof.Optimiser.lean ====
/- The optimiser's claims, for each of the weights' shapes: every run ends with the arguments unchanged and every semaphore at zero,
   and the change and the two moments are the reference's. -/
module

public import proofs.«01_k».proof.Defs
public import proofs.«01_k».proof.Proof.Gen.AdIn.Frame
public import proofs.«01_k».proof.Proof.Gen.AdInIdeal.Value
public import proofs.«01_k».proof.Proof.Gen.RefAdInIdeal.Run
public import proofs.«01_k».proof.Proof.Gen.AdFi.Frame
public import proofs.«01_k».proof.Proof.Gen.AdFiIdeal.Value
public import proofs.«01_k».proof.Proof.Gen.RefAdFiIdeal.Run
public import proofs.«01_k».proof.Proof.Gen.AdFo.Frame
public import proofs.«01_k».proof.Proof.Gen.AdFoIdeal.Value
public import proofs.«01_k».proof.Proof.Gen.RefAdFoIdeal.Run
public import proofs.«01_k».proof.Proof.Gen.AdP.Frame
public import proofs.«01_k».proof.Proof.Gen.AdPIdeal.Value
public import proofs.«01_k».proof.Proof.Gen.RefAdPIdeal.Run
public import proofs.«01_k».proof.Proof.Gen.AdOut.Frame
public import proofs.«01_k».proof.Proof.Gen.AdOutIdeal.Value
public import proofs.«01_k».proof.Proof.Gen.RefAdOutIdeal.Run
public import proofs.«01_k».proof.Proof.Gen.AdRow.Frame
public import proofs.«01_k».proof.Proof.Gen.AdRowIdeal.Value
public import proofs.«01_k».proof.Proof.Gen.RefAdRowIdeal.Run
public import proofs.«01_k».proof.Proof.Gen.AdB.Frame
public import proofs.«01_k».proof.Proof.Gen.AdBIdeal.Value
public import proofs.«01_k».proof.Proof.Gen.RefAdBIdeal.Run
public import proofs.«01_k».proof.Proof.Gen.AdRpb.Frame
public import proofs.«01_k».proof.Proof.Gen.AdRpbIdeal.Value
public import proofs.«01_k».proof.Proof.Gen.RefAdRpbIdeal.Run
public import proofs.«01_k».proof.Proof.Gen.AdLb.Frame
public import proofs.«01_k».proof.Proof.Gen.AdLbIdeal.Value
public import proofs.«01_k».proof.Proof.Gen.RefAdLbIdeal.Run
public import proofs.«01_k».proof.Proof.Gen.AdHn.Frame
public import proofs.«01_k».proof.Proof.Gen.AdHnIdeal.Value
public import proofs.«01_k».proof.Proof.Gen.RefAdHnIdeal.Run
public import proofs.«01_k».proof.Proof.AdamW
public import Idealize.ShloMosaic.Lib.Quiescent

@[expose] public section

set_option maxRecDepth 16384

noncomputable section

namespace Cert.Optimiser

open Idealize.ShloMosaic Idealize.SL.Sem

/-! ## The input projection and the modulation -/

theorem frame_AdIn : quiescent_AdIn (hAdIn := Cert.AdIn.Gen.facts) := fun m g _ => Cert.AdIn.Gen.frame m g

theorem frame_AdInIdeal : quiescent_AdInIdeal (hAdInIdeal := Cert.AdInIdeal.Gen.facts) := fun m g _ => Cert.AdInIdeal.Gen.frame m g

theorem frame_RefAdIn : quiescent_RefAdInIdeal (hRefAdInIdeal := Cert.RefAdInIdeal.Gen.facts) := fun m g _ =>
  (θ_run _ _ _).mono (fun r h => ⟨fun c => (h c).2.2.2, sem_eq_zero_of_no_sems (by decide) r.2⟩) (Cert.RefAdInIdeal.Value.run m g)

theorem names_AdIn : preserves_AdIn_AdInIdeal :=
  ⟨IdealRules.named_const.statement Cert.AdInIdeal.κ "c1" .f32 0x3FC48605#32 _ rfl, IdealRules.named_const.statement Cert.AdInIdeal.κ "c2" .f32 0x42C8E6D3#32 _ rfl⟩

theorem value_AdIn : algebraic_AdInIdeal_RefAdInIdeal (hAdInIdeal := Cert.AdInIdeal.Gen.facts) (hRefAdInIdeal := Cert.RefAdInIdeal.Gen.facts) := by
  intro m g m' g' _ ha
  exact ⟨_, _, _, Cert.AdInIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdInIdeal.Value.run m' g')⟩

/-! ## The feed-forward's first layer -/

theorem frame_AdFi : quiescent_AdFi (hAdFi := Cert.AdFi.Gen.facts) := fun m g _ => Cert.AdFi.Gen.frame m g

theorem frame_AdFiIdeal : quiescent_AdFiIdeal (hAdFiIdeal := Cert.AdFiIdeal.Gen.facts) := fun m g _ => Cert.AdFiIdeal.Gen.frame m g

theorem frame_RefAdFi : quiescent_RefAdFiIdeal (hRefAdFiIdeal := Cert.RefAdFiIdeal.Gen.facts) := fun m g _ =>
  (θ_run _ _ _).mono (fun r h => ⟨fun c => (h c).2.2.2, sem_eq_zero_of_no_sems (by decide) r.2⟩) (Cert.RefAdFiIdeal.Value.run m g)

theorem names_AdFi : preserves_AdFi_AdFiIdeal :=
  ⟨IdealRules.named_const.statement Cert.AdFiIdeal.κ "c1" .f32 0x3FC48605#32 _ rfl, IdealRules.named_const.statement Cert.AdFiIdeal.κ "c2" .f32 0x42C8E6D3#32 _ rfl⟩

theorem value_AdFi : algebraic_AdFiIdeal_RefAdFiIdeal (hAdFiIdeal := Cert.AdFiIdeal.Gen.facts) (hRefAdFiIdeal := Cert.RefAdFiIdeal.Gen.facts) := by
  intro m g m' g' _ ha
  exact ⟨_, _, _, Cert.AdFiIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdFiIdeal.Value.run m' g')⟩

/-! ## The feed-forward's second layer -/

theorem frame_AdFo : quiescent_AdFo (hAdFo := Cert.AdFo.Gen.facts) := fun m g _ => Cert.AdFo.Gen.frame m g

theorem frame_AdFoIdeal : quiescent_AdFoIdeal (hAdFoIdeal := Cert.AdFoIdeal.Gen.facts) := fun m g _ => Cert.AdFoIdeal.Gen.frame m g

theorem frame_RefAdFo : quiescent_RefAdFoIdeal (hRefAdFoIdeal := Cert.RefAdFoIdeal.Gen.facts) := fun m g _ =>
  (θ_run _ _ _).mono (fun r h => ⟨fun c => (h c).2.2.2, sem_eq_zero_of_no_sems (by decide) r.2⟩) (Cert.RefAdFoIdeal.Value.run m g)

theorem names_AdFo : preserves_AdFo_AdFoIdeal :=
  ⟨IdealRules.named_const.statement Cert.AdFoIdeal.κ "c1" .f32 0x3FC48605#32 _ rfl, IdealRules.named_const.statement Cert.AdFoIdeal.κ "c2" .f32 0x42C8E6D3#32 _ rfl⟩

theorem value_AdFo : algebraic_AdFoIdeal_RefAdFoIdeal (hAdFoIdeal := Cert.AdFoIdeal.Gen.facts) (hRefAdFoIdeal := Cert.RefAdFoIdeal.Gen.facts) := by
  intro m g m' g' _ ha
  exact ⟨_, _, _, Cert.AdFoIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdFoIdeal.Value.run m' g')⟩

/-! ## The two branch projections -/

theorem frame_AdP : quiescent_AdP (hAdP := Cert.AdP.Gen.facts) := fun m g _ => Cert.AdP.Gen.frame m g

theorem frame_AdPIdeal : quiescent_AdPIdeal (hAdPIdeal := Cert.AdPIdeal.Gen.facts) := fun m g _ => Cert.AdPIdeal.Gen.frame m g

theorem frame_RefAdP : quiescent_RefAdPIdeal (hRefAdPIdeal := Cert.RefAdPIdeal.Gen.facts) := fun m g _ =>
  (θ_run _ _ _).mono (fun r h => ⟨fun c => (h c).2.2.2, sem_eq_zero_of_no_sems (by decide) r.2⟩) (Cert.RefAdPIdeal.Value.run m g)

theorem names_AdP : preserves_AdP_AdPIdeal :=
  ⟨IdealRules.named_const.statement Cert.AdPIdeal.κ "c1" .f32 0x3FC48605#32 _ rfl, IdealRules.named_const.statement Cert.AdPIdeal.κ "c2" .f32 0x42C8E6D3#32 _ rfl⟩

theorem value_AdP : algebraic_AdPIdeal_RefAdPIdeal (hAdPIdeal := Cert.AdPIdeal.Gen.facts) (hRefAdPIdeal := Cert.RefAdPIdeal.Gen.facts) := by
  intro m g m' g' _ ha
  exact ⟨_, _, _, Cert.AdPIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdPIdeal.Value.run m' g')⟩

/-! ## The output projection -/

theorem frame_AdOut : quiescent_AdOut (hAdOut := Cert.AdOut.Gen.facts) := fun m g _ => Cert.AdOut.Gen.frame m g

theorem frame_AdOutIdeal : quiescent_AdOutIdeal (hAdOutIdeal := Cert.AdOutIdeal.Gen.facts) := fun m g _ => Cert.AdOutIdeal.Gen.frame m g

theorem frame_RefAdOut : quiescent_RefAdOutIdeal (hRefAdOutIdeal := Cert.RefAdOutIdeal.Gen.facts) := fun m g _ =>
  (θ_run _ _ _).mono (fun r h => ⟨fun c => (h c).2.2.2, sem_eq_zero_of_no_sems (by decide) r.2⟩) (Cert.RefAdOutIdeal.Value.run m g)

theorem names_AdOut : preserves_AdOut_AdOutIdeal :=
  ⟨IdealRules.named_const.statement Cert.AdOutIdeal.κ "c1" .f32 0x3FC48605#32 _ rfl, IdealRules.named_const.statement Cert.AdOutIdeal.κ "c2" .f32 0x42C8E6D3#32 _ rfl⟩

theorem value_AdOut : algebraic_AdOutIdeal_RefAdOutIdeal (hAdOutIdeal := Cert.AdOutIdeal.Gen.facts) (hRefAdOutIdeal := Cert.RefAdOutIdeal.Gen.facts) := by
  intro m g m' g' _ ha
  exact ⟨_, _, _, Cert.AdOutIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdOutIdeal.Value.run m' g')⟩

/-! ## The four vectors of the model's width -/

theorem frame_AdRow : quiescent_AdRow (hAdRow := Cert.AdRow.Gen.facts) := fun m g _ => Cert.AdRow.Gen.frame m g

theorem frame_AdRowIdeal : quiescent_AdRowIdeal (hAdRowIdeal := Cert.AdRowIdeal.Gen.facts) := fun m g _ => Cert.AdRowIdeal.Gen.frame m g

theorem frame_RefAdRow : quiescent_RefAdRowIdeal (hRefAdRowIdeal := Cert.RefAdRowIdeal.Gen.facts) := fun m g _ =>
  (θ_run _ _ _).mono (fun r h => ⟨fun c => (h c).2.2.2, sem_eq_zero_of_no_sems (by decide) r.2⟩) (Cert.RefAdRowIdeal.Value.run m g)

theorem names_AdRow : preserves_AdRow_AdRowIdeal :=
  ⟨IdealRules.named_const.statement Cert.AdRowIdeal.κ "c1" .f32 0x3FC48605#32 _ rfl, IdealRules.named_const.statement Cert.AdRowIdeal.κ "c2" .f32 0x42C8E6D3#32 _ rfl⟩

theorem value_AdRow : algebraic_AdRowIdeal_RefAdRowIdeal (hAdRowIdeal := Cert.AdRowIdeal.Gen.facts) (hRefAdRowIdeal := Cert.RefAdRowIdeal.Gen.facts) := by
  intro m g m' g' _ ha
  exact ⟨_, _, _, Cert.AdRowIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdRowIdeal.Value.run m' g')⟩

/-! ## The modulation's bias -/

theorem frame_AdB : quiescent_AdB (hAdB := Cert.AdB.Gen.facts) := fun m g _ => Cert.AdB.Gen.frame m g

theorem frame_AdBIdeal : quiescent_AdBIdeal (hAdBIdeal := Cert.AdBIdeal.Gen.facts) := fun m g _ => Cert.AdBIdeal.Gen.frame m g

theorem frame_RefAdB : quiescent_RefAdBIdeal (hRefAdBIdeal := Cert.RefAdBIdeal.Gen.facts) := fun m g _ =>
  (θ_run _ _ _).mono (fun r h => ⟨fun c => (h c).2.2.2, sem_eq_zero_of_no_sems (by decide) r.2⟩) (Cert.RefAdBIdeal.Value.run m g)

theorem names_AdB : preserves_AdB_AdBIdeal :=
  ⟨IdealRules.named_const.statement Cert.AdBIdeal.κ "c1" .f32 0x3FC48605#32 _ rfl, IdealRules.named_const.statement Cert.AdBIdeal.κ "c2" .f32 0x42C8E6D3#32 _ rfl⟩

theorem value_AdB : algebraic_AdBIdeal_RefAdBIdeal (hAdBIdeal := Cert.AdBIdeal.Gen.facts) (hRefAdBIdeal := Cert.RefAdBIdeal.Gen.facts) := by
  intro m g m' g' _ ha
  exact ⟨_, _, _, Cert.AdBIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdBIdeal.Value.run m' g')⟩

/-! ## The attention's position bias -/

theorem frame_AdRpb : quiescent_AdRpb (hAdRpb := Cert.AdRpb.Gen.facts) := fun m g _ => Cert.AdRpb.Gen.frame m g

theorem frame_AdRpbIdeal : quiescent_AdRpbIdeal (hAdRpbIdeal := Cert.AdRpbIdeal.Gen.facts) := fun m g _ => Cert.AdRpbIdeal.Gen.frame m g

theorem frame_RefAdRpb : quiescent_RefAdRpbIdeal (hRefAdRpbIdeal := Cert.RefAdRpbIdeal.Gen.facts) := fun m g _ =>
  (θ_run _ _ _).mono (fun r h => ⟨fun c => (h c).2.2.2, sem_eq_zero_of_no_sems (by decide) r.2⟩) (Cert.RefAdRpbIdeal.Value.run m g)

theorem names_AdRpb : preserves_AdRpb_AdRpbIdeal :=
  ⟨IdealRules.named_const.statement Cert.AdRpbIdeal.κ "c1" .f32 0x3FC48605#32 _ rfl, IdealRules.named_const.statement Cert.AdRpbIdeal.κ "c2" .f32 0x42C8E6D3#32 _ rfl⟩

theorem value_AdRpb : algebraic_AdRpbIdeal_RefAdRpbIdeal (hAdRpbIdeal := Cert.AdRpbIdeal.Gen.facts) (hRefAdRpbIdeal := Cert.RefAdRpbIdeal.Gen.facts) := by
  intro m g m' g' _ ha
  exact ⟨_, _, _, Cert.AdRpbIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdRpbIdeal.Value.run m' g')⟩

/-! ## The gates' lower bounds -/

theorem frame_AdLb : quiescent_AdLb (hAdLb := Cert.AdLb.Gen.facts) := fun m g _ => Cert.AdLb.Gen.frame m g

theorem frame_AdLbIdeal : quiescent_AdLbIdeal (hAdLbIdeal := Cert.AdLbIdeal.Gen.facts) := fun m g _ => Cert.AdLbIdeal.Gen.frame m g

theorem frame_RefAdLb : quiescent_RefAdLbIdeal (hRefAdLbIdeal := Cert.RefAdLbIdeal.Gen.facts) := fun m g _ =>
  (θ_run _ _ _).mono (fun r h => ⟨fun c => (h c).2.2.2, sem_eq_zero_of_no_sems (by decide) r.2⟩) (Cert.RefAdLbIdeal.Value.run m g)

theorem names_AdLb : preserves_AdLb_AdLbIdeal :=
  ⟨IdealRules.named_const.statement Cert.AdLbIdeal.κ "c1" .f32 0x3FC48605#32 _ rfl, IdealRules.named_const.statement Cert.AdLbIdeal.κ "c2" .f32 0x42C8E6D3#32 _ rfl⟩

theorem value_AdLb : algebraic_AdLbIdeal_RefAdLbIdeal (hAdLbIdeal := Cert.AdLbIdeal.Gen.facts) (hRefAdLbIdeal := Cert.RefAdLbIdeal.Gen.facts) := by
  intro m g m' g' _ ha
  exact ⟨_, _, _, Cert.AdLbIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdLbIdeal.Value.run m' g')⟩

/-! ## The readout norm's scale -/

theorem frame_AdHn : quiescent_AdHn (hAdHn := Cert.AdHn.Gen.facts) := fun m g _ => Cert.AdHn.Gen.frame m g

theorem frame_AdHnIdeal : quiescent_AdHnIdeal (hAdHnIdeal := Cert.AdHnIdeal.Gen.facts) := fun m g _ => Cert.AdHnIdeal.Gen.frame m g

theorem frame_RefAdHn : quiescent_RefAdHnIdeal (hRefAdHnIdeal := Cert.RefAdHnIdeal.Gen.facts) := fun m g _ =>
  (θ_run _ _ _).mono (fun r h => ⟨fun c => (h c).2.2.2, sem_eq_zero_of_no_sems (by decide) r.2⟩) (Cert.RefAdHnIdeal.Value.run m g)

theorem names_AdHn : preserves_AdHn_AdHnIdeal :=
  ⟨IdealRules.named_const.statement Cert.AdHnIdeal.κ "c1" .f32 0x3FC48605#32 _ rfl, IdealRules.named_const.statement Cert.AdHnIdeal.κ "c2" .f32 0x42C8E6D3#32 _ rfl⟩

theorem value_AdHn : algebraic_AdHnIdeal_RefAdHnIdeal (hAdHnIdeal := Cert.AdHnIdeal.Gen.facts) (hRefAdHnIdeal := Cert.RefAdHnIdeal.Gen.facts) := by
  intro m g m' g' _ ha
  exact ⟨_, _, _, Cert.AdHnIdeal.Value.run m g, (θ_run _ _ _).mono (fun r h c => ⟨(h c).1.trans (AdamW.change_agree _ rfl rfl (ha c)),
    (h c).2.1.trans (AdamW.mean_agree _ (ha c)), (h c).2.2.1.trans (AdamW.square_agree _ (ha c)), (h c).2.2.2⟩) (Cert.RefAdHnIdeal.Value.run m' g')⟩

end Cert.Optimiser

end
-- ==== Proof.MergeValue.lean ====
/- The merge of the two branches and the sum of the small gradients over the devices: the two calls that work entry by entry. -/
module

public import proofs.«01_k».proof.Defs
public import proofs.«01_k».proof.Proof.Pieces
public import proofs.«01_k».proof.Proof.Gen.Merge.Frame
public import proofs.«01_k».proof.Proof.Gen.MergeIdeal.Value
public import proofs.«01_k».proof.Proof.Gen.RefMergeIdeal.Run
public import proofs.«01_k».proof.Proof.Gen.Sum8.Frame
public import proofs.«01_k».proof.Proof.Gen.Sum8Ideal.Value
public import proofs.«01_k».proof.Proof.Gen.RefSum8Ideal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.Entries

theorem frame_Merge : quiescent_Merge (hMerge := Cert.Merge.Gen.facts) := fun m g _ => Cert.Merge.Gen.frame m g

theorem frame_MergeIdeal : quiescent_MergeIdeal (hMergeIdeal := Cert.MergeIdeal.Gen.facts) := fun m g _ => Cert.MergeIdeal.Gen.frame m g

theorem frame_RefMerge : quiescent_RefMergeIdeal (hRefMergeIdeal := Cert.RefMergeIdeal.Gen.facts) := fun m g _ =>
  (θ_run _ _ _).mono (fun r h => ⟨fun c => (h c).2, sem_eq_zero_of_no_sems (by decide) r.2⟩) (Cert.RefMergeIdeal.Value.run m g)

theorem value_Merge : algebraic_MergeIdeal_RefMergeIdeal (hMergeIdeal := Cert.MergeIdeal.Gen.facts) (hRefMergeIdeal := Cert.RefMergeIdeal.Gen.facts) := by
  intro m g m' g' _ ha
  refine ⟨_, Cert.MergeIdeal.Value.run m g, (θ_run _ _ _).mono (fun r h c => ⟨(h c).1.trans ?_, (h c).2⟩) (Cert.RefMergeIdeal.Value.run m' g')⟩
  obtain ⟨h0, h1, h2⟩ := ha c
  rw [h0, h1, h2]
  funext i
  idx_vars i
  pointwise [Cert.MergeIdeal.Value.G4]
  simp only [zero_sub]
  rw [show (Cert.MergeIdeal.Value.inIdx4_2 (ix2 i0 i1)) = ix2 ⟨i0.val, by omega⟩ ⟨8192 + i1.val, by omega⟩ from by blk_ext []]
  rw [show (Cert.MergeIdeal.Value.inIdx4_3 (ix2 i0 i1)) = ix2 ⟨i0.val, by omega⟩ ⟨10240 + i1.val, by omega⟩ from by blk_ext []]

theorem sum8 (P0 P1 P2 P3 P4 P5 P6 P7 : Vec Ideal Cert.Sum8Ideal.S1x24x2048 .f32) (y0 : Fin 24) (y1 : Fin 2048) :
    Cert.Sum8Ideal.Gen.k0_pay1 (F := Ideal) P0 P1 P2 P3 P4 P5 P6 P7 (ix2 y0 y1)
      = P0 (ix3 0 y0 y1) + P1 (ix3 0 y0 y1) + P2 (ix3 0 y0 y1) + P3 (ix3 0 y0 y1) + P4 (ix3 0 y0 y1) + P5 (ix3 0 y0 y1) + P6 (ix3 0 y0 y1) + P7 (ix3 0 y0 y1) := by
  pointwise [Cert.Sum8Ideal.Gen.k0_pay1]

theorem frame_Sum8 : quiescent_Sum8 (hSum8 := Cert.Sum8.Gen.facts) := fun m g _ => Cert.Sum8.Gen.frame m g

theorem frame_Sum8Ideal : quiescent_Sum8Ideal (hSum8Ideal := Cert.Sum8Ideal.Gen.facts) := fun m g _ => Cert.Sum8Ideal.Gen.frame m g

theorem frame_RefSum8 : quiescent_RefSum8Ideal (hRefSum8Ideal := Cert.RefSum8Ideal.Gen.facts) := fun m g _ =>
  (θ_run _ _ _).mono (fun r h => ⟨fun c => (h c).2, sem_eq_zero_of_no_sems (by decide) r.2⟩) (Cert.RefSum8Ideal.Value.run m g)

theorem value_Sum8 : algebraic_Sum8Ideal_RefSum8Ideal (hSum8Ideal := Cert.Sum8Ideal.Gen.facts) (hRefSum8Ideal := Cert.RefSum8Ideal.Gen.facts) := by
  intro m g m' g' _ ha
  refine ⟨_, Cert.Sum8Ideal.Value.run m g, (θ_run _ _ _).mono (fun r h c => ⟨(h c).1.trans ?_, (h c).2⟩) (Cert.RefSum8Ideal.Value.run m' g')⟩
  rw [ha c]
  funext i
  idx_vars i
  pointwise [Cert.Sum8Ideal.Value.G1]
  rw [sum8, Fin.sum_univ_eight]
  pointwise [View.ld]

end Cert.Entries

end
-- ==== Proof.AdaBwdValue.lean ====
/- The gradients through the modulation: of its weight, and of the vectors it is computed from. -/
module

public import proofs.«01_k».proof.Defs
public import proofs.«01_k».proof.Proof.Pieces
public import proofs.«01_k».proof.Proof.Gen.AdaBwd.Frame
public import proofs.«01_k».proof.Proof.Gen.AdaBwdIdeal.Value
public import proofs.«01_k».proof.Proof.Gen.RefAdaBwdIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.AdaBwdIdeal.Product

open Cert.AdaBwdIdeal.Gen Cert.Pieces

variable (m : (ℓ : Loc nD τ sig) → Buf (Elt Ideal) ℓ) (ρ : Dev nD → PrngReg) (c : Dev nD)

/-- `v` times its logistic. -/
def silu (v : EReal) : EReal := v * Ideal.div 1 (1 + Ideal.exp (-v))

theorem pay1 (y0 : Fin 16) (y1 : Fin 2048) : k0_pay1 (F := Ideal) (ix2 y0 y1) = 0 := by
  pointwise [k0_pay1]

theorem pay2 (a : Vec Ideal S16x2048 .f32) (d : Vec Ideal S16x512 .f32) (y0 : Fin 2048) (y1 : Fin 512) :
    k0_pay2 (F := Ideal) a d (ix2 y0 y1) = ∑ j : Fin 16, silu (a (ix2 j y0)) * d (ix2 j y1) := by
  pointwise [k0_pay2]
  simp only [zero_sub]
  rfl

theorem pay3 (x : Vec Ideal S16x2048 .f32) (d : Vec Ideal S16x512 .f32) (w : Vec Ideal S2048x512 .f32) (y0 : Fin 16) (y1 : Fin 2048) :
    k0_pay3 (F := Ideal) x d w (ix2 y0 y1) = x (ix2 y0 y1) + ∑ j : Fin 512, d (ix2 y0 j) * w (ix2 y1 j) := by
  pointwise [k0_pay3]

section
variable (i : grid0.Coords) (arg1 : Memref sig .tc .vmem S16x2048 .f32) (h1 : arg1.IsWhole) (arg2 : Memref sig .tc .vmem S2048x512 .f32) (h2 : arg2.IsWhole)
variable (arg3 : Memref sig .tc .vmem S16x512 .f32) (h3 : arg3.IsWhole) (arg4 : Memref sig .tc .vmem S2048x512 .f32) (h4 : arg4.IsWhole)
variable (arg5 : Memref sig .tc .vmem S16x2048 .f32) (h5 : arg5.IsWhole)
variable (x0 : Vec Ideal S16x2048 .f32) (x1 : Vec Ideal S2048x512 .f32) (x2 : Vec Ideal S16x512 .f32) (xs : Vec Ideal S16x2048 .f32)

theorem firstW (hc : cond0_0 i) : out0_A_3 c i arg1 h1 arg2 h2 arg3 h3 arg4 h4 arg5 h5 hc x0 x1 x2 = k0_pay2 x0 x2 := by
  unfold out0_A_3
  rw [View.read_writes_eq_canon _ _ _ (cover0_A_3 c i arg1 h1 arg2 h2 arg3 h3 arg4 h4 arg5 h5 hc x0 x1 x2)]
  unfold kernelRun0_A
  dsimp only
  sl_unfold_words
  rw [View.canon_unit_zero hz2]
  simp only [View.readCov_unit_zero (S := S16x2048) _ hz2, View.readAt_eq_ld, h1.read_unread, h2.read_unread, h3.read_unread, h5.read_unread,
    View.ld_unit_zero (S := S16x2048) hz2, View.ld_unit_zero (S := S2048x512) hz2, View.ld_unit_zero (S := S16x512) hz2, shapeCast_self]

theorem first (hc : cond0_0 i) : out0_A_4 c i arg1 h1 arg2 h2 arg3 h3 arg4 h4 arg5 h5 hc x0 x1 x2 = k0_pay3 k0_pay1 x2 x1 := by
  unfold out0_A_4
  rw [View.read_writes_eq_canon _ _ _ (cover0_A_4 c i arg1 h1 arg2 h2 arg3 h3 arg4 h4 arg5 h5 hc x0 x1 x2)]
  unfold kernelRun0_A
  dsimp only
  sl_unfold_words
  rw [View.canon_cons_unit_zero hz2]
  simp only [View.readCov_unit_zero (S := S16x2048) _ hz2, View.readAt_eq_ld, h1.read_unread, h2.read_unread, h3.read_unread, h5.read_unread,
    View.ld_unit_zero (S := S16x2048) hz2, View.ld_unit_zero (S := S2048x512) hz2, View.ld_unit_zero (S := S16x512) hz2, shapeCast_self]

theorem laterW (hc : ¬cond0_0 i) : out0_B_3 c i arg1 h1 arg2 h2 arg3 h3 arg4 h4 arg5 h5 hc x0 x1 x2 xs = k0_pay2 x0 x2 := by
  unfold out0_B_3
  rw [View.read_writes_eq_canon _ _ _ (cover0_B_3 c i arg1 h1 arg2 h2 arg3 h3 arg4 h4 arg5 h5 hc x0 x1 x2 xs)]
  unfold kernelRun0_B
  dsimp only
  sl_unfold_words
  rw [View.canon_unit_zero hz2]
  simp only [View.readCov_unit_zero (S := S16x2048) _ hz2, View.readAt_eq_ld, h1.read_unread, h2.read_unread, h3.read_unread, h5.read_unread,
    View.ld_unit_zero (S := S16x2048) hz2, View.ld_unit_zero (S := S2048x512) hz2, View.ld_unit_zero (S := S16x512) hz2, shapeCast_self]

theorem later (hc : ¬cond0_0 i) : out0_B_4 c i arg1 h1 arg2 h2 arg3 h3 arg4 h4 arg5 h5 hc x0 x1 x2 xs = k0_pay3 xs x2 x1 := by
  unfold out0_B_4
  rw [View.read_writes_eq_canon _ _ _ (cover0_B_4 c i arg1 h1 arg2 h2 arg3 h3 arg4 h4 arg5 h5 hc x0 x1 x2 xs)]
  unfold kernelRun0_B
  dsimp only
  sl_unfold_words
  rw [View.canon_unit_zero hz2]
  simp only [View.readCov_unit_zero (S := S16x2048) _ hz2, View.readAt_eq_ld, h1.read_unread, h2.read_unread, h3.read_unread, h5.read_unread,
    View.ld_unit_zero (S := S16x2048) hz2, View.ld_unit_zero (S := S2048x512) hz2, View.ld_unit_zero (S := S16x512) hz2, shapeCast_self]

end

/-- Piece `k` of the contracted axis in an entry of the vectors' gradient. -/
def term (D : Arr2 16 3072) (W : Arr2 2048 3072) (M : Fin 16) (N : Fin 2048) (k : ℕ) : EReal :=
  ∑ j : Fin 512, D (ix2 M ⟨k % 6 * 512 + j.val, by omega⟩) * W (ix2 N ⟨k % 6 * 512 + j.val, by omega⟩)

/-- The weight's gradient, and the gradient of the vectors after `silu`. -/
def weight (C : Arr2 16 2048) (D : Arr2 16 3072) : Arr2 2048 3072 :=
  fun i => ∑ j : Fin 16, silu (C (ix2 j (i 0))) * D (ix2 j (i 1))
def vectors (D : Arr2 16 3072) (W : Arr2 2048 3072) : Arr2 16 2048 :=
  fun i => ∑ j : Fin 3072, D (ix2 (i 0) j) * W (ix2 (i 1) j)

theorem idx : ∀ t : Fin cfg0.N, win0_0.index t = ![0, 0] ∧ win0_1.index t = ![0, t.val] ∧ win0_2.index t = ![0, t.val] ∧ win0_3.index t = ![0, t.val] ∧ win0_4.index t = ![0, 0] :=
  (by decide +kernel : ∀ t : Fin grid0.N, win0_0.index t = ![0, 0] ∧ win0_1.index t = ![0, t.val] ∧ win0_2.index t = ![0, t.val] ∧ win0_3.index t = ![0, t.val] ∧ win0_4.index t = ![0, 0])

theorem blk0 (t : Fin cfg0.N) (y0 : Fin 16) (y1 : Fin 2048) : iblk m c 0 t (ix2 y0 y1) = V m c main_arg0 (ix2 y0 y1) := by
  blk_ext [iblk, idx t]

theorem blk1 (t : Fin cfg0.N) (y0 : Fin 2048) (y1 : Fin 512) :
    iblk m c 1 t (ix2 y0 y1) = V m c main_arg1 (ix2 y0 ⟨t.val % 6 * 512 + y1.val, by have := y1.isLt; omega⟩) := by
  have ht : t.val < 6 := t.isLt
  blk_ext [iblk, idx t]

theorem blk2 (t : Fin cfg0.N) (y0 : Fin 16) (y1 : Fin 512) :
    iblk m c 2 t (ix2 y0 y1) = V m c main_arg2 (ix2 y0 ⟨t.val % 6 * 512 + y1.val, by have := y1.isLt; omega⟩) := by
  have ht : t.val < 6 := t.isLt
  blk_ext [iblk, idx t]

theorem piece (x : Vec Ideal S16x2048 .f32) (t : Fin cfg0.N) (y0 : Fin 16) (y1 : Fin 2048) :
    k0_pay3 (F := Ideal) x (iblk m c 2 t) (iblk m c 1 t) (ix2 y0 y1) = x (ix2 y0 y1) + term (V m c main_arg2) (V m c main_arg1) y0 y1 t.val :=
  (pay3 x _ _ y0 y1).trans (congrArg _ (Finset.sum_congr rfl fun j _ => congrArg₂ (· * ·) (blk2 m c t y0 j) (blk1 m c t y1 j)))

theorem out3 (t : Fin cfg0.N) : (outsAt0 m c t.val t.isLt).1 = k0_pay2 (F := Ideal) (iblk m c 0 t) (iblk m c 2 t) := by
  by_cases h : t.val % 6 = 0
  · rw [outsAt0_A m c t h]
    dsimp only
    rw [firstW]
  · rw [outsAt0_B m c t h]
    dsimp only
    rw [laterW]

theorem out4 : ∀ (n : ℕ) (hn : n < cfg0.N) (y0 : Fin 16) (y1 : Fin 2048),
    (outsAt0 m c n hn).2 (ix2 y0 y1) = ∑ k ∈ Finset.range (n + 1), term (V m c main_arg2) (V m c main_arg1) y0 y1 k
  | 0, hn, y0, y1 => by
    rw [outsAt0_A m c ⟨0, hn⟩ rfl]
    dsimp only
    rw [first, piece, pay1, zero_add, Finset.sum_range_one]
  | n + 1, hn, y0, y1 => by
    have h6 : n + 1 < 6 := hn
    rw [outsAt0_B m c ⟨n + 1, hn⟩ (by dsimp only; omega)]
    dsimp only
    rw [later, piece, Finset.sum_range_succ _ (n + 1)]
    exact congrArg (· + _) (out4 n (by omega) y0 y1)

theorem weight_at (C : Arr2 16 2048) (D : Arr2 16 3072) (i : (⟨2, ![2048, 3072]⟩ : Shape).Idx) (M : Fin 2048) (N : Fin 3072)
    (hM : (i 0).val = M.val) (hN : (i 1).val = N.val) : weight C D i = ∑ j : Fin 16, silu (C (ix2 j M)) * D (ix2 j N) := by
  unfold weight
  rw [show i 0 = M from Fin.ext hM, show i 1 = N from Fin.ext hN]

theorem array3 : (dats m 0 c).arrAt 3 cfg0.N = weight (V m c main_arg0) (V m c main_arg2) := by
  refine (dats m 0 c).arrAt_eq_of_covers 3 _ (by decide +kernel) fun t _ y => ?_
  have ht : t.val < 6 := t.isLt
  blk_simp
  rw [after0_3, out3]
  idx_vars y
  rw [pay2]
  refine (Finset.sum_congr rfl fun j _ => congrArg₂ (fun a b => silu a * b) (blk0 m c t j _) (blk2 m c t j _)).trans (weight_at _ _ _ _ _ ?_ ?_).symm
  · blk_simp [idx t]
    first | done | (dsimp only; omega) | omega
  · blk_simp [idx t]
    first | done | (dsimp only; omega) | omega

theorem vectors_eq (D : Arr2 16 3072) (W : Arr2 2048 3072) (i : (⟨2, ![16, 2048]⟩ : Shape).Idx) (M : Fin 16) (N : Fin 2048)
    (hM : (i 0).val = M.val) (hN : (i 1).val = N.val) : vectors D W i = ∑ k ∈ Finset.range 6, term D W M N k := by
  unfold vectors
  rw [show i 0 = M from Fin.ext hM, show i 1 = N from Fin.ext hN, sum_at (k := 6) (l := 512) rfl, Finset.sum_range]
  refine Finset.sum_congr rfl fun k _ => Finset.sum_congr rfl fun j _ => ?_
  have hk := k.isLt
  have ek : (⟨k.val % 6 * 512 + j.val, by have := j.isLt; omega⟩ : Fin 3072) = at_ rfl k j := Fin.ext (by simp only [at_]; omega)
  simp only [ek]

theorem array4 : (dats m 0 c).arrAt 4 cfg0.N = vectors (V m c main_arg2) (V m c main_arg1) := by
  refine (dats m 0 c).arrAt_eq_of_covers 4 _ (by decide +kernel) fun t hf y => ?_
  have h5 : t.val = 5 := (by decide +kernel : ∀ t : Fin grid0.N, win0_4.flush t = true → t.val = 5) t hf
  blk_simp
  rw [after0_4]
  idx_vars y
  refine (out4 m c t.val t.isLt _ _).trans ?_
  rw [h5]
  refine (vectors_eq _ _ _ _ _ ?_ ?_).symm
  · blk_simp [idx t]
    first | done | (dsimp only; omega) | omega
  · blk_simp [idx t]
    first | done | (dsimp only; omega) | omega

theorem values : θ_run defs (onTc (τ := τ) (main (F := Ideal))) ⟨m, fun _ => 0, ρ⟩ fun r => ∀ c : Dev nD,
    r.2.mem ((c : Thread nD τ).loc main_v0_0) = weight (m ((c : Thread nD τ).loc main_arg0)) (m ((c : Thread nD τ).loc main_arg2))
    ∧ r.2.mem ((c : Thread nD τ).loc main_v0_1) = vectors (m ((c : Thread nD τ).loc main_arg2)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨(h c).1.trans ((array3 m c).trans ?_), (h c).2.1.trans ((array4 m c).trans ?_), (h c).2.2⟩) (Value.run_blocks m ρ)
  · rw [V_main_arg0, V_main_arg2]
  · rw [V_main_arg1, V_main_arg2]

end Cert.AdaBwdIdeal.Product

namespace Cert.Modulation

theorem frame_AdaBwd : quiescent_AdaBwd (hAdaBwd := Cert.AdaBwd.Gen.facts) := fun m g _ => Cert.AdaBwd.Gen.frame m g

theorem frame_AdaBwdIdeal : quiescent_AdaBwdIdeal (hAdaBwdIdeal := Cert.AdaBwdIdeal.Gen.facts) := fun m g _ => Cert.AdaBwdIdeal.Gen.frame m g

theorem frame_RefAdaBwd : quiescent_RefAdaBwdIdeal (hRefAdaBwdIdeal := Cert.RefAdaBwdIdeal.Gen.facts) := fun m g _ =>
  (θ_run _ _ _).mono (fun r h => ⟨fun c => (h c).2.2, sem_eq_zero_of_no_sems (by decide) r.2⟩) (Cert.RefAdaBwdIdeal.Value.run m g)

theorem value_AdaBwd : algebraic_AdaBwdIdeal_RefAdaBwdIdeal (hAdaBwdIdeal := Cert.AdaBwdIdeal.Gen.facts) (hRefAdaBwdIdeal := Cert.RefAdaBwdIdeal.Gen.facts) := by
  intro m g m' g' _ ha
  refine ⟨_, _, Cert.AdaBwdIdeal.Product.values m g, (θ_run _ _ _).mono (fun r h c => ⟨(h c).1.trans ?_, (h c).2.1.trans ?_, (h c).2.2⟩) (Cert.RefAdaBwdIdeal.Value.run m' g')⟩
  all_goals obtain ⟨h0, h1, h2⟩ := ha c
  · rw [h0, h2]
    funext i
    idx_vars i
    pointwise [Cert.AdaBwdIdeal.Product.weight, Cert.AdaBwdIdeal.Product.silu]
    exact Finset.sum_congr rfl fun j _ => mul_comm _ _
  · rw [h1, h2]
    funext i
    idx_vars i
    pointwise [Cert.AdaBwdIdeal.Product.vectors]

end Cert.Modulation

end
-- ==== Proof.AdaFwdValue.lean ====
/- The modulation's forward call: the vectors after `silu` times the weight, plus the bias. -/
module

public import proofs.«01_k».proof.Defs
public import proofs.«01_k».proof.Proof.AdaBwdValue
public import proofs.«01_k».proof.Proof.Gen.AdaFwd.Frame
public import proofs.«01_k».proof.Proof.Gen.AdaFwdIdeal.Value
public import proofs.«01_k».proof.Proof.Gen.RefAdaFwdIdeal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.AdaFwdIdeal.Product

open Cert.AdaFwdIdeal.Gen Cert.Pieces
open Cert.AdaBwdIdeal.Product (silu)

variable (m : (ℓ : Loc nD τ sig) → Buf (Elt Ideal) ℓ) (ρ : Dev nD → PrngReg) (c : Dev nD)

theorem pay1 (a : Vec Ideal S16x2048 .f32) (w : Vec Ideal S2048x512 .f32) (b : Vec Ideal S1x512 .f32) (y0 : Fin 16) (y1 : Fin 512) :
    k0_pay1 (F := Ideal) a w b (ix2 y0 y1) = (∑ j : Fin 2048, silu (a (ix2 y0 j)) * w (ix2 j y1)) + b (ix2 0 y1) := by
  pointwise [k0_pay1]
  simp only [zero_sub]
  rfl

theorem pay (x0 : Vec Ideal S16x2048 .f32) (x1 : Vec Ideal S2048x512 .f32) (x2 : Vec Ideal S1x512 .f32) : out0_3 (F := Ideal) x0 x1 x2 = k0_pay1 x0 x1 x2 := by
  unfold out0_3
  rw [View.canon_unit_zero hz2]
  simp only [View.ld_unit_zero (S := S16x2048) hz2, View.ld_unit_zero (S := S2048x512) hz2, View.ld_unit_zero (S := S1x512) hz2]

/-- The modulation of every vector. -/
def modulation (C : Arr2 16 2048) (W : Arr2 2048 3072) (B : Arr2 1 3072) : Arr2 16 3072 :=
  fun i => (∑ j : Fin 2048, silu (C (ix2 (i 0) j)) * W (ix2 j (i 1))) + B (ix2 0 (i 1))

theorem modulation_at (C : Arr2 16 2048) (W : Arr2 2048 3072) (B : Arr2 1 3072) (i : (⟨2, ![16, 3072]⟩ : Shape).Idx) (M : Fin 16) (N : Fin 3072)
    (hM : (i 0).val = M.val) (hN : (i 1).val = N.val) : modulation C W B i = (∑ j : Fin 2048, silu (C (ix2 M j)) * W (ix2 j N)) + B (ix2 0 N) := by
  unfold modulation
  rw [show i 0 = M from Fin.ext hM, show i 1 = N from Fin.ext hN]

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, win0_0.index t = ![0, 0] ∧ win0_1.index t = ![0, t.val] ∧ win0_2.index t = ![0, t.val] ∧ win0_3.index t = ![0, t.val])

theorem blk0 (t : Fin cfg0.N) (y0 : Fin 16) (y1 : Fin 2048) : iblk m c 0 t (ix2 y0 y1) = V m c main_arg0 (ix2 y0 y1) := by
  blk_ext [iblk, idx t]

theorem blk1 (t : Fin cfg0.N) (y0 : Fin 2048) (y1 : Fin 512) :
    iblk m c 1 t (ix2 y0 y1) = V m c main_arg1 (ix2 y0 ⟨t.val % 6 * 512 + y1.val, by have := y1.isLt; omega⟩) := by
  have ht : t.val < 6 := t.isLt
  blk_ext [iblk, idx t]

theorem blk2 (t : Fin cfg0.N) (y1 : Fin 512) :
    iblk m c 2 t (ix2 0 y1) = V m c main_arg2 (ix2 0 ⟨t.val % 6 * 512 + y1.val, by have := y1.isLt; omega⟩) := by
  have ht : t.val < 6 := t.isLt
  blk_ext [iblk, idx t]

theorem array : (dats m 0 c).arrAt 3 cfg0.N = modulation (V m c main_arg0) (V m c main_arg1) (V m c main_arg2) := by
  refine (dats m 0 c).arrAt_eq_of_covers 3 _ (by decide +kernel) fun t _ y => ?_
  have ht : t.val < 6 := t.isLt
  blk_simp
  rw [after0_3, pay]
  idx_vars y
  rw [pay1]
  refine (congrArg₂ (· + ·) (Finset.sum_congr rfl fun j _ => congrArg₂ (fun a b => silu a * b) (blk0 m c t _ j) (blk1 m c t j _)) (blk2 m c t _)).trans (modulation_at _ _ _ _ _ _ ?_ ?_).symm
  · blk_simp [idx t]
    first | done | (dsimp only; omega) | omega
  · blk_simp [idx t]
    first | done | (dsimp only; omega) | omega

theorem values : θ_run defs (onTc (τ := τ) (main (F := Ideal))) ⟨m, fun _ => 0, ρ⟩ fun r => ∀ c : Dev nD,
    r.2.mem ((c : Thread nD τ).loc main_v0) = modulation (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨(h c).1.trans ((array m c).trans ?_), (h c).2⟩) (Value.run_blocks m ρ)
  rw [V_main_arg0, V_main_arg1, V_main_arg2]

end Cert.AdaFwdIdeal.Product

namespace Cert.Modulation

theorem frame_AdaFwd : quiescent_AdaFwd (hAdaFwd := Cert.AdaFwd.Gen.facts) := fun m g _ => Cert.AdaFwd.Gen.frame m g

theorem frame_AdaFwdIdeal : quiescent_AdaFwdIdeal (hAdaFwdIdeal := Cert.AdaFwdIdeal.Gen.facts) := fun m g _ => Cert.AdaFwdIdeal.Gen.frame m g

theorem frame_RefAdaFwd : quiescent_RefAdaFwdIdeal (hRefAdaFwdIdeal := Cert.RefAdaFwdIdeal.Gen.facts) := fun m g _ =>
  (θ_run _ _ _).mono (fun r h => ⟨fun c => (h c).2, sem_eq_zero_of_no_sems (by decide) r.2⟩) (Cert.RefAdaFwdIdeal.Value.run m g)

theorem value_AdaFwd : algebraic_AdaFwdIdeal_RefAdaFwdIdeal (hAdaFwdIdeal := Cert.AdaFwdIdeal.Gen.facts) (hRefAdaFwdIdeal := Cert.RefAdaFwdIdeal.Gen.facts) := by
  intro m g m' g' _ ha
  refine ⟨_, Cert.AdaFwdIdeal.Product.values m g, (θ_run _ _ _).mono (fun r h c => ⟨(h c).1.trans ?_, (h c).2⟩) (Cert.RefAdaFwdIdeal.Value.run m' g')⟩
  obtain ⟨h0, h1, h2⟩ := ha c
  rw [h0, h1, h2]
  funext i
  idx_vars i
  pointwise [Cert.AdaFwdIdeal.Product.modulation, Cert.AdaBwdIdeal.Product.silu]

end Cert.Modulation

end
-- ==== Proof.NormValue.lean ====
/- The gradients through the first norm and its modulation, over the latent rows: of the rows, of the shift, of the scale and of the gain. -/
module

public import proofs.«01_k».proof.Defs
public import proofs.«01_k».proof.Proof.Pieces
public import proofs.«01_k».proof.Proof.AdamW
public import proofs.«01_k».proof.Proof.Gen.Ln1.Frame
public import proofs.«01_k».proof.Proof.Gen.Ln1Ideal.Value
public import proofs.«01_k».proof.Proof.Gen.RefLn1Ideal.Run
public import Idealize.ShloMosaic.Lib.Pointwise
public import Idealize.ShloMosaic.Lib.Quiescent
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.Norm

open Cert.AdamW (div_eq)

/-- The float32 words of 2048, of the small number under the root, and of -1/2. -/
theorem width : Ideal.ofBits FTy.f32 0x45000000#32 = ((2048 : ℝ) : EReal) := by
  simp [Ideal.ofBits, Ideal.ieee, -EReal.coe_mul]
  norm_num

theorem small : ∃ e : ℝ, 0 < e ∧ Ideal.ofBits FTy.f32 0x358637BD#32 = (e : EReal) := by
  refine ⟨8796093 / 8796093022208, by norm_num, ?_⟩
  simp [Ideal.ofBits, Ideal.ieee, -EReal.coe_mul]
  norm_num

theorem half : Ideal.ofBits FTy.f32 0xBF000000#32 = ((-1 / 2 : ℝ) : EReal) := by
  simp [Ideal.ofBits, Ideal.ieee, -EReal.coe_mul]
  norm_num

/-- The mean square of a row plus the small number, and one over its root. -/
def square (x : Fin 2048 → EReal) : EReal := Ideal.div (∑ j, x j * x j) (Ideal.ofBits FTy.f32 0x45000000#32) + Ideal.ofBits FTy.f32 0x358637BD#32
def rms (x : Fin 2048 → EReal) : EReal := Ideal.rsqrt (square x)

/-- The gradient of a row `x` through its norm, where `c` is the gradient of the normed row: in the kernel's form. -/
def slope (x c : Fin 2048 → EReal) (j : Fin 2048) : EReal :=
  rms x * (c j - x j * rms x * Ideal.div (∑ k, c k * (x k * rms x)) (Ideal.ofBits FTy.f32 0x45000000#32))

/-- The part of the gradient that passes through the mean square, for one entry of the row's square. -/
def spread (x c : Fin 2048 → EReal) : EReal :=
  Ideal.div ((∑ k, x k * c k) * (Ideal.ofBits FTy.f32 0xBF000000#32 * Ideal.div (rms x) (square x))) (Ideal.ofBits FTy.f32 0x45000000#32)

theorem square_nonneg (a : EReal) : 0 ≤ a * a := by
  induction a using EReal.rec with
  | bot => simp
  | top => simp
  | coe a => exact_mod_cast mul_self_nonneg a

/-- A row's mean square is infinite, or a positive real whose inverse the norm's factor squares to. -/
theorem square_cases (x : Fin 2048 → EReal) : square x = ⊤ ∨ ∃ v r : ℝ, 0 < v ∧ 0 ≤ r ∧ r * r = v⁻¹ ∧ square x = (v : EReal) ∧ rms x = (r : EReal) := by
  obtain ⟨e, he, hE⟩ := small
  have hS : 0 ≤ ∑ j, x j * x j := Finset.sum_nonneg fun j _ => square_nonneg _
  unfold rms square
  rw [width, hE, div_eq (by norm_num)]
  induction hs : ∑ j, x j * x j using EReal.rec with
  | bot => rw [hs] at hS; simp at hS
  | top =>
    left
    rw [EReal.top_mul_coe_of_pos (by norm_num)]
    rfl
  | coe s =>
    right
    rw [hs] at hS
    have hs0 : 0 ≤ s := by exact_mod_cast hS
    have hv : 0 < s * 2048⁻¹ + e := by positivity
    refine ⟨s * 2048⁻¹ + e, (Real.sqrt (s * 2048⁻¹ + e))⁻¹, hv, by positivity, ?_, by push_cast; rfl, ?_⟩
    · rw [← mul_inv, Real.mul_self_sqrt hv.le]
    · rw [← EReal.coe_mul, ← EReal.coe_add]
      show (if _ then _ else if _ then _ else _ : EReal) = _
      rw [if_neg (not_lt.mpr hv.le), if_neg hv.ne']

theorem mul_add_real {r : ℝ} (hr : 0 ≤ r) (a b : EReal) : (r : EReal) * (a + b) = r * a + r * b :=
  EReal.left_distrib_of_nonneg_of_ne_top (by exact_mod_cast hr) (EReal.coe_ne_top r) a b

theorem mul_sum_real {ι : Type} (s : Finset ι) (r : ℝ) (hr : 0 ≤ r) (f : ι → EReal) : ∑ i ∈ s, (r : EReal) * f i = (r : EReal) * ∑ i ∈ s, f i :=
  (map_sum ({ toFun := fun y => (r : EReal) * y, map_zero' := mul_zero _, map_add' := fun a b => mul_add_real hr a b } : EReal →+ EReal) f s).symm

/-- The derivative of the norm, taken operation by operation, is the kernel's form, for any row and any incoming gradient. -/
theorem slope_eq (x c : Fin 2048 → EReal) (j : Fin 2048) : c j * rms x + x j * spread x c + spread x c * x j = slope x c j := by
  unfold slope spread
  rw [width, half]
  rcases square_cases x with h | ⟨v, r, hv, hr, hrr, h, h'⟩
  · have h' : rms x = 0 := by unfold rms; rw [h]; rfl
    rw [h', h, zero_mul, Ideal.div, if_neg (by simp)]
    simp [Ideal.div]
  · rw [h', h, div_eq (y := 2048) (by norm_num), div_eq (y := 2048) (by norm_num), div_eq hv.ne', add_assoc, mul_comm _ (x j)]
    have two : ∀ y : EReal, y + y = ((2 : ℝ) : EReal) * y := fun y => by
      have := EReal.right_distrib_of_nonneg (a := 1) (b := 1) (c := y) zero_le_one zero_le_one
      rw [one_mul] at this
      rw [← this, one_add_one_eq_two]
      rfl
    have es : ∑ k, c k * (x k * (r : EReal)) = (r : EReal) * ∑ k, x k * c k := by
      rw [← mul_sum_real _ r hr]
      exact Finset.sum_congr rfl fun k _ => by ac_rfl
    rw [two, es, sub_eq_add_neg, mul_add_real hr, mul_comm (c j)]
    refine congrArg _ ?_
    generalize ∑ k, x k * c k = D
    have e1 : ((2 : ℝ) : EReal) * (x j * (D * (((-1 / 2 : ℝ) : EReal) * ((r : EReal) * ((v⁻¹ : ℝ) : EReal))) * ((2048⁻¹ : ℝ) : EReal)))
        = x j * D * (((2 : ℝ) : EReal) * ((-1 / 2 : ℝ) : EReal) * (r : EReal) * ((v⁻¹ : ℝ) : EReal) * ((2048⁻¹ : ℝ) : EReal)) := by ac_rfl
    have e2 : (r : EReal) * (x j * (r : EReal) * ((r : EReal) * D * ((2048⁻¹ : ℝ) : EReal))) = x j * D * ((r : EReal) * (r : EReal) * (r : EReal) * ((2048⁻¹ : ℝ) : EReal)) := by ac_rfl
    rw [e1, mul_neg, e2, ← mul_neg]
    refine congrArg _ ?_
    simp only [← EReal.coe_mul, ← EReal.coe_neg]
    rw [← hrr]
    exact congrArg _ (by ring)

theorem slope_swap (x d g s : Fin 2048 → EReal) (j : Fin 2048) :
    d j * (1 + s j) * g j * rms x + x j * spread x (fun k => d k * (1 + s k) * g k) + spread x (fun k => d k * (1 + s k) * g k) * x j
      = slope x (fun k => d k * g k * (1 + s k)) j :=
  (slope_eq x (fun k => d k * (1 + s k) * g k) j).trans (congrArg (slope x · j) (funext fun k => mul_right_comm _ _ _))

end Cert.Norm

namespace Cert.Ln1Ideal.Product

open Cert.Ln1Ideal.Gen Cert.Pieces Cert.Norm

variable (m : (ℓ : Loc nD τ sig) → Buf (Elt Ideal) ℓ) (ρ : Dev nD → PrngReg) (c : Dev nD)

theorem pay9 (d x e : Vec Ideal S256x2048 .f32) (g : Vec Ideal S1x2048 .f32) (s : Vec Ideal S8x2048 .f32) (y0 : Fin 256) (y1 : Fin 2048) :
    k0_pay9 (F := Ideal) d x e g s (ix2 y0 y1)
      = e (ix2 y0 y1) + slope (fun k => x (ix2 y0 k)) (fun k => d (ix2 y0 k) * g (ix2 0 k) * (1 + s (ix2 1 k))) y1 := by
  pointwise [k0_pay9, k0_pay8, k0_pay7]
  rfl

theorem pay4 (d : Vec Ideal S256x2048 .f32) (a : Vec Ideal S1x2048 .f32) (y1 : Fin 2048) :
    k0_pay4 (F := Ideal) (k0_pay10 d) a (ix2 0 y1) = a (ix2 0 y1) + ∑ r : Fin 256, d (ix2 r y1) := by
  pointwise [k0_pay4, k0_pay10]

theorem pay5 (d x : Vec Ideal S256x2048 .f32) (g a : Vec Ideal S1x2048 .f32) (y1 : Fin 2048) :
    k0_pay5 (F := Ideal) (k0_pay11 d x g) a (ix2 0 y1) = a (ix2 0 y1) + ∑ r : Fin 256, d (ix2 r y1) * (x (ix2 r y1) * rms (fun k => x (ix2 r k))) * g (ix2 0 y1) := by
  pointwise [k0_pay5, k0_pay11, k0_pay8, k0_pay7]
  rfl

theorem pay6 (d x : Vec Ideal S256x2048 .f32) (a : Vec Ideal S1x2048 .f32) (s : Vec Ideal S8x2048 .f32) (y1 : Fin 2048) :
    k0_pay6 (F := Ideal) s (k0_pay12 d x) a (ix2 0 y1) = a (ix2 0 y1) + ∑ r : Fin 256, d (ix2 r y1) * (x (ix2 r y1) * rms (fun k => x (ix2 r k))) * (1 + s (ix2 1 y1)) := by
  pointwise [k0_pay6, k0_pay12, k0_pay8, k0_pay7]
  rfl

theorem zeros (y1 : Fin 2048) : k0_pay1 (F := Ideal) (ix2 0 y1) = 0 ∧ k0_pay2 (F := Ideal) (ix2 0 y1) = 0 ∧ k0_pay3 (F := Ideal) (ix2 0 y1) = 0 := by
  refine ⟨?_, ?_, ?_⟩ <;> pointwise [k0_pay1, k0_pay2, k0_pay3]

section
variable (i : grid0.Coords) (a1 : Memref sig .tc .vmem S256x2048 .f32) (h1 : a1.IsWhole) (a2 : Memref sig .tc .vmem S256x2048 .f32) (h2 : a2.IsWhole)
variable (a3 : Memref sig .tc .vmem S256x2048 .f32) (h3 : a3.IsWhole) (a4 : Memref sig .tc .vmem S1x2048 .f32) (h4 : a4.IsWhole)
variable (a5 : Memref sig .tc .vmem S8x2048 .f32) (h5 : a5.IsWhole) (a6 : Memref sig .tc .vmem S256x2048 .f32) (h6 : a6.IsWhole)
variable (a7 : Memref sig .tc .vmem S1x2048 .f32) (h7 : a7.IsWhole) (a8 : Memref sig .tc .vmem S1x2048 .f32) (h8 : a8.IsWhole) (a9 : Memref sig .tc .vmem S1x2048 .f32) (h9 : a9.IsWhole)
variable (x0 x1 x2 : Vec Ideal S256x2048 .f32) (x3 : Vec Ideal S1x2048 .f32) (x4 : Vec Ideal S8x2048 .f32) (z6 z7 z8 : Vec Ideal S1x2048 .f32)

theorem first (hc : cond0_0 i) :
    out0_A_5 c i a1 h1 a2 h2 a3 h3 a4 h4 a5 h5 a6 h6 a7 h7 a8 h8 a9 h9 hc x0 x1 x2 x3 x4 = k0_pay9 x0 x1 x2 x3 x4
    ∧ out0_A_6 c i a1 h1 a2 h2 a3 h3 a4 h4 a5 h5 a6 h6 a7 h7 a8 h8 a9 h9 hc x0 x1 x2 x3 x4 = k0_pay4 (k0_pay10 x0) (k0_pay1 (F := Ideal))
    ∧ out0_A_7 c i a1 h1 a2 h2 a3 h3 a4 h4 a5 h5 a6 h6 a7 h7 a8 h8 a9 h9 hc x0 x1 x2 x3 x4 = k0_pay5 (k0_pay11 x0 x1 x3) (k0_pay2 (F := Ideal))
    ∧ out0_A_8 c i a1 h1 a2 h2 a3 h3 a4 h4 a5 h5 a6 h6 a7 h7 a8 h8 a9 h9 hc x0 x1 x2 x3 x4 = k0_pay6 x4 (k0_pay12 x0 x1) (k0_pay3 (F := Ideal)) := by
  refine ⟨?_, ?_, ?_, ?_⟩
  · rw [out0_A_5, View.read_writes_eq_canon _ _ _ (cover0_A_5 c i a1 h1 a2 h2 a3 h3 a4 h4 a5 h5 a6 h6 a7 h7 a8 h8 a9 h9 hc x0 x1 x2 x3 x4)]
    unfold kernelRun0_A; dsimp only; sl_unfold_words
    rw [View.canon_unit_zero hz2]
    simp only [View.readAt_eq_ld, h1.read_unread, h2.read_unread, h3.read_unread, h4.read_unread, h5.read_unread,
      View.ld_unit_zero (S := S256x2048) hz2, View.ld_unit_zero (S := S1x2048) hz2, View.ld_unit_zero (S := S8x2048) hz2]
  · rw [out0_A_6, View.read_writes_eq_canon _ _ _ (cover0_A_6 c i a1 h1 a2 h2 a3 h3 a4 h4 a5 h5 a6 h6 a7 h7 a8 h8 a9 h9 hc x0 x1 x2 x3 x4)]
    unfold kernelRun0_A; dsimp only; sl_unfold_words
    rw [View.canon_cons_unit_zero hz2]
    simp only [View.readCov_unit_zero (S := S1x2048) _ hz2, View.readAt_eq_ld, h1.read_unread, View.ld_unit_zero (S := S256x2048) hz2, View.ld_unit_zero (S := S1x2048) hz2]
  · rw [out0_A_7, View.read_writes_eq_canon _ _ _ (cover0_A_7 c i a1 h1 a2 h2 a3 h3 a4 h4 a5 h5 a6 h6 a7 h7 a8 h8 a9 h9 hc x0 x1 x2 x3 x4)]
    unfold kernelRun0_A; dsimp only; sl_unfold_words
    rw [View.canon_cons_unit_zero hz2]
    simp only [View.readCov_unit_zero (S := S1x2048) _ hz2, View.readAt_eq_ld, h1.read_unread, h2.read_unread, h4.read_unread,
      View.ld_unit_zero (S := S256x2048) hz2, View.ld_unit_zero (S := S1x2048) hz2]
  · rw [out0_A_8, View.read_writes_eq_canon _ _ _ (cover0_A_8 c i a1 h1 a2 h2 a3 h3 a4 h4 a5 h5 a6 h6 a7 h7 a8 h8 a9 h9 hc x0 x1 x2 x3 x4)]
    unfold kernelRun0_A; dsimp only; sl_unfold_words
    rw [View.canon_cons_unit_zero hz2]
    simp only [View.readCov_unit_zero (S := S1x2048) _ hz2, View.readAt_eq_ld, h1.read_unread, h2.read_unread, h5.read_unread,
      View.ld_unit_zero (S := S256x2048) hz2, View.ld_unit_zero (S := S1x2048) hz2, View.ld_unit_zero (S := S8x2048) hz2]

theorem later (hc : ¬cond0_0 i) :
    out0_B_5 c i a1 h1 a2 h2 a3 h3 a4 h4 a5 h5 a6 h6 a7 h7 a8 h8 a9 h9 hc x0 x1 x2 x3 x4 z6 z7 z8 = k0_pay9 x0 x1 x2 x3 x4
    ∧ out0_B_6 c i a1 h1 a2 h2 a3 h3 a4 h4 a5 h5 a6 h6 a7 h7 a8 h8 a9 h9 hc x0 x1 x2 x3 x4 z6 z7 z8 = k0_pay4 (k0_pay10 x0) z6
    ∧ out0_B_7 c i a1 h1 a2 h2 a3 h3 a4 h4 a5 h5 a6 h6 a7 h7 a8 h8 a9 h9 hc x0 x1 x2 x3 x4 z6 z7 z8 = k0_pay5 (k0_pay11 x0 x1 x3) z7
    ∧ out0_B_8 c i a1 h1 a2 h2 a3 h3 a4 h4 a5 h5 a6 h6 a7 h7 a8 h8 a9 h9 hc x0 x1 x2 x3 x4 z6 z7 z8 = k0_pay6 x4 (k0_pay12 x0 x1) z8 := by
  refine ⟨?_, ?_, ?_, ?_⟩
  · rw [out0_B_5, View.read_writes_eq_canon _ _ _ (cover0_B_5 c i a1 h1 a2 h2 a3 h3 a4 h4 a5 h5 a6 h6 a7 h7 a8 h8 a9 h9 hc x0 x1 x2 x3 x4 z6 z7 z8)]
    unfold kernelRun0_B; dsimp only; sl_unfold_words
    rw [View.canon_unit_zero hz2]
    simp only [View.readAt_eq_ld, h1.read_unread, h2.read_unread, h3.read_unread, h4.read_unread, h5.read_unread,
      View.ld_unit_zero (S := S256x2048) hz2, View.ld_unit_zero (S := S1x2048) hz2, View.ld_unit_zero (S := S8x2048) hz2]
  · rw [out0_B_6, View.read_writes_eq_canon _ _ _ (cover0_B_6 c i a1 h1 a2 h2 a3 h3 a4 h4 a5 h5 a6 h6 a7 h7 a8 h8 a9 h9 hc x0 x1 x2 x3 x4 z6 z7 z8)]
    unfold kernelRun0_B; dsimp only; sl_unfold_words
    rw [View.canon_unit_zero hz2]
    simp only [View.readAt_eq_ld, h1.read_unread, h7.read_unread, View.ld_unit_zero (S := S256x2048) hz2, View.ld_unit_zero (S := S1x2048) hz2]
  · rw [out0_B_7, View.read_writes_eq_canon _ _ _ (cover0_B_7 c i a1 h1 a2 h2 a3 h3 a4 h4 a5 h5 a6 h6 a7 h7 a8 h8 a9 h9 hc x0 x1 x2 x3 x4 z6 z7 z8)]
    unfold kernelRun0_B; dsimp only; sl_unfold_words
    rw [View.canon_unit_zero hz2]
    simp only [View.readAt_eq_ld, h1.read_unread, h2.read_unread, h4.read_unread, h8.read_unread, View.ld_unit_zero (S := S256x2048) hz2, View.ld_unit_zero (S := S1x2048) hz2]
  · rw [out0_B_8, View.read_writes_eq_canon _ _ _ (cover0_B_8 c i a1 h1 a2 h2 a3 h3 a4 h4 a5 h5 a6 h6 a7 h7 a8 h8 a9 h9 hc x0 x1 x2 x3 x4 z6 z7 z8)]
    unfold kernelRun0_B; dsimp only; sl_unfold_words
    rw [View.canon_unit_zero hz2]
    simp only [View.readAt_eq_ld, h1.read_unread, h2.read_unread, h5.read_unread, h9.read_unread,
      View.ld_unit_zero (S := S256x2048) hz2, View.ld_unit_zero (S := S1x2048) hz2, View.ld_unit_zero (S := S8x2048) hz2]

end

/-- A latent row among the rows of latents and context. -/
abbrev up (r : Fin 8192) : Fin 8448 := ⟨r.val, by have := r.isLt; omega⟩

/-- Row `j` of block `k` of the latent rows. -/
abbrev lat (k : ℕ) (j : Fin 256) : Fin 8192 := ⟨k % 32 * 256 + j.val, by have := j.isLt; omega⟩

/-- The sum over block `k` of the rows. -/
def part (f : Fin 8192 → EReal) (k : ℕ) : EReal := ∑ j : Fin 256, f (lat k j)

def forShift (D : Arr2 8448 2048) (y : Fin 2048) (r : Fin 8192) : EReal := D (ix2 (up r) y)

def forScale (D : Arr2 8448 2048) (X : Arr2 8192 2048) (G : Arr2 1 2048) (y : Fin 2048) (r : Fin 8192) : EReal :=
  D (ix2 (up r) y) * (X (ix2 r y) * rms fun k => X (ix2 r k)) * G (ix2 0 y)

def forGain (D : Arr2 8448 2048) (X : Arr2 8192 2048) (M : Arr2 8 2048) (y : Fin 2048) (r : Fin 8192) : EReal :=
  D (ix2 (up r) y) * (X (ix2 r y) * rms fun k => X (ix2 r k)) * (1 + M (ix2 1 y))

/-- The gradient of the rows, added to what the residual carries. -/
def rowsAt (D : Arr2 8448 2048) (X E : Arr2 8192 2048) (G : Arr2 1 2048) (M : Arr2 8 2048) (r : Fin 8192) (y : Fin 2048) : EReal :=
  E (ix2 r y) + slope (fun k => X (ix2 r k)) (fun k => D (ix2 (up r) k) * G (ix2 0 k) * (1 + M (ix2 1 k))) y

def rows (D : Arr2 8448 2048) (X E : Arr2 8192 2048) (G : Arr2 1 2048) (M : Arr2 8 2048) : Arr2 8192 2048 :=
  fun i => rowsAt D X E G M (i 0) (i 1)

def columns (f : Fin 2048 → Fin 8192 → EReal) : Arr2 1 2048 := fun i => ∑ r, f (i 1) r

theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![0, 0] ∧ win0_7.index t = ![0, 0] ∧ win0_8.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![0, 0] ∧ win0_7.index t = ![0, 0] ∧ win0_8.index t = ![0, 0])

theorem blk0 (t : Fin cfg0.N) (y0 : Fin 256) (y1 : Fin 2048) : iblk m c 0 t (ix2 y0 y1) = V m c main_arg0 (ix2 (up (lat t.val y0)) y1) := by
  have ht : t.val < 32 := t.isLt
  blk_ext [iblk, idx t]

theorem blk1 (t : Fin cfg0.N) (y0 : Fin 256) (y1 : Fin 2048) : iblk m c 1 t (ix2 y0 y1) = V m c main_arg1 (ix2 (lat t.val y0) y1) := by
  have ht : t.val < 32 := t.isLt
  blk_ext [iblk, idx t]

theorem blk2 (t : Fin cfg0.N) (y0 : Fin 256) (y1 : Fin 2048) : iblk m c 2 t (ix2 y0 y1) = V m c main_arg2 (ix2 (lat t.val y0) y1) := by
  have ht : t.val < 32 := t.isLt
  blk_ext [iblk, idx t]

theorem blk3 (t : Fin cfg0.N) (y1 : Fin 2048) : iblk m c 3 t (ix2 0 y1) = V m c main_arg3 (ix2 0 y1) := by
  blk_ext [iblk, idx t]

theorem blk4 (t : Fin cfg0.N) (y1 : Fin 2048) : iblk m c 4 t (ix2 1 y1) = V m c main_arg4 (ix2 1 y1) := by
  blk_ext [iblk, idx t]

theorem row_congr {d d' x x' g g' : EReal} {u u' : Fin 2048 → EReal} (hd : d = d') (hx : x = x') (hu : u = u') (hg : g = g') :
    d * (x * rms u) * g = d' * (x' * rms u') * g' := by
  rw [hd, hx, hu, hg]

theorem slope_congr {e e' : EReal} {u u' w w' : Fin 2048 → EReal} (he : e = e') (hu : u = u') (hw : w = w') (y : Fin 2048) :
    e + slope u w y = e' + slope u' w' y := by
  rw [he, hu, hw]

theorem weigh_congr {d d' g g' s s' : EReal} (hd : d = d') (hg : g = g') (hs : s = s') : d * g * (1 + s) = d' * g' * (1 + s') := by
  rw [hd, hg, hs]

theorem piece5 (t : Fin cfg0.N) (y0 : Fin 256) (y1 : Fin 2048) :
    k0_pay9 (F := Ideal) (iblk m c 0 t) (iblk m c 1 t) (iblk m c 2 t) (iblk m c 3 t) (iblk m c 4 t) (ix2 y0 y1)
      = rowsAt (V m c main_arg0) (V m c main_arg1) (V m c main_arg2) (V m c main_arg3) (V m c main_arg4) (lat t.val y0) y1 :=
  (pay9 _ _ _ _ _ y0 y1).trans (slope_congr (blk2 m c t y0 y1) (funext fun k => blk1 m c t y0 k)
    (funext fun k => weigh_congr (blk0 m c t y0 k) (blk3 m c t k) (blk4 m c t k)) y1)

theorem piece6 (a : Vec Ideal S1x2048 .f32) (t : Fin cfg0.N) (y1 : Fin 2048) :
    k0_pay4 (F := Ideal) (k0_pay10 (iblk m c 0 t)) a (ix2 0 y1) = a (ix2 0 y1) + part (forShift (V m c main_arg0) y1) t.val :=
  (pay4 _ a y1).trans (congrArg _ (Finset.sum_congr rfl fun r _ => blk0 m c t r y1))

theorem piece7 (a : Vec Ideal S1x2048 .f32) (t : Fin cfg0.N) (y1 : Fin 2048) :
    k0_pay5 (F := Ideal) (k0_pay11 (iblk m c 0 t) (iblk m c 1 t) (iblk m c 3 t)) a (ix2 0 y1)
      = a (ix2 0 y1) + part (forScale (V m c main_arg0) (V m c main_arg1) (V m c main_arg3) y1) t.val :=
  (pay5 _ _ _ a y1).trans (congrArg _ (Finset.sum_congr rfl fun r _ =>
    row_congr (blk0 m c t r y1) (blk1 m c t r y1) (funext fun k => blk1 m c t r k) (blk3 m c t y1)))

theorem piece8 (a : Vec Ideal S1x2048 .f32) (t : Fin cfg0.N) (y1 : Fin 2048) :
    k0_pay6 (F := Ideal) (iblk m c 4 t) (k0_pay12 (iblk m c 0 t) (iblk m c 1 t)) a (ix2 0 y1)
      = a (ix2 0 y1) + part (forGain (V m c main_arg0) (V m c main_arg1) (V m c main_arg4) y1) t.val :=
  (pay6 _ _ a _ y1).trans (congrArg _ (Finset.sum_congr rfl fun r _ =>
    row_congr (blk0 m c t r y1) (blk1 m c t r y1) (funext fun k => blk1 m c t r k) (congrArg (1 + ·) (blk4 m c t y1))))

theorem out5 (t : Fin cfg0.N) : (outsAt0 m c t.val t.isLt).1 = k0_pay9 (F := Ideal) (iblk m c 0 t) (iblk m c 1 t) (iblk m c 2 t) (iblk m c 3 t) (iblk m c 4 t) := by
  by_cases h : t.val % 32 = 0
  · rw [outsAt0_A m c t h]
    dsimp only
    rw [(first ..).1]
  · rw [outsAt0_B m c t h]
    dsimp only
    rw [(later ..).1]

theorem sums : ∀ (n : ℕ) (hn : n < cfg0.N) (y1 : Fin 2048),
    (outsAt0 m c n hn).2.1 (ix2 0 y1) = ∑ k ∈ Finset.range (n + 1), part (forShift (V m c main_arg0) y1) k
    ∧ (outsAt0 m c n hn).2.2.1 (ix2 0 y1) = ∑ k ∈ Finset.range (n + 1), part (forScale (V m c main_arg0) (V m c main_arg1) (V m c main_arg3) y1) k
    ∧ (outsAt0 m c n hn).2.2.2 (ix2 0 y1) = ∑ k ∈ Finset.range (n + 1), part (forGain (V m c main_arg0) (V m c main_arg1) (V m c main_arg4) y1) k
  | 0, hn, y1 => by
    rw [outsAt0_A m c ⟨0, hn⟩ rfl]
    dsimp only
    refine ⟨?_, ?_, ?_⟩
    · rw [(first ..).2.1, piece6, (zeros y1).1, zero_add, Finset.sum_range_one]
    · rw [(first ..).2.2.1, piece7, (zeros y1).2.1, zero_add, Finset.sum_range_one]
    · rw [(first ..).2.2.2, piece8, (zeros y1).2.2, zero_add, Finset.sum_range_one]
  | n + 1, hn, y1 => by
    have h32 : n + 1 < 32 := hn
    have ih := sums n (by omega) y1
    rw [outsAt0_B m c ⟨n + 1, hn⟩ (by dsimp only; omega)]
    dsimp only
    refine ⟨?_, ?_, ?_⟩
    · rw [(later ..).2.1, piece6, Finset.sum_range_succ _ (n + 1)]
      exact congrArg (· + _) ih.1
    · rw [(later ..).2.2.1, piece7, Finset.sum_range_succ _ (n + 1)]
      exact congrArg (· + _) ih.2.1
    · rw [(later ..).2.2.2, piece8, Finset.sum_range_succ _ (n + 1)]
      exact congrArg (· + _) ih.2.2

theorem columns_eq (f : Fin 2048 → Fin 8192 → EReal) (i : (⟨2, ![1, 2048]⟩ : Shape).Idx) (N : Fin 2048)
    (hN : (i 1).val = N.val) : columns f i = ∑ k ∈ Finset.range 32, part (f N) k := by
  unfold columns
  rw [show i 1 = N from Fin.ext hN, sum_at (k := 32) (l := 256) rfl, Finset.sum_range]
  refine Finset.sum_congr rfl fun k _ => Finset.sum_congr rfl fun j _ => congrArg (f N) (Fin.ext ?_)
  have hk := k.isLt
  simp only [at_]
  omega

theorem rows_eq (D : Arr2 8448 2048) (X E : Arr2 8192 2048) (G : Arr2 1 2048) (M : Arr2 8 2048) (i : (⟨2, ![8192, 2048]⟩ : Shape).Idx) (r : Fin 8192) (y : Fin 2048)
    (hr : (i 0).val = r.val) (hy : (i 1).val = y.val) : rows D X E G M i = rowsAt D X E G M r y := by
  unfold rows
  rw [show i 0 = r from Fin.ext hr, show i 1 = y from Fin.ext hy]

theorem array5 : (dats m 0 c).arrAt 5 cfg0.N = rows (V m c main_arg0) (V m c main_arg1) (V m c main_arg2) (V m c main_arg3) (V m c main_arg4) := by
  refine (dats m 0 c).arrAt_eq_of_covers 5 _ (by decide +kernel) fun t _ y => ?_
  have ht : t.val < 32 := t.isLt
  blk_simp
  rw [after0_5, out5]
  idx_vars y
  refine (piece5 m c t _ _).trans (rows_eq _ _ _ _ _ _ _ _ ?_ ?_).symm
  · blk_simp [idx t]
    first | done | (dsimp only; omega) | omega
  · blk_simp [idx t]
    first | done | (dsimp only; omega) | omega

theorem array6 : (dats m 0 c).arrAt 6 cfg0.N = columns (forShift (V m c main_arg0)) := by
  refine (dats m 0 c).arrAt_eq_of_covers 6 _ (by decide +kernel) fun t hf y => ?_
  have h5 : t.val = 31 := (by decide +kernel : ∀ t : Fin grid0.N, win0_6.flush t = true → t.val = 31) t hf
  blk_simp
  rw [after0_6]
  idx_vars y
  obtain rfl : y0 = 0 := Subsingleton.elim _ _
  refine (sums m c t.val t.isLt _).1.trans ?_
  rw [h5]
  refine (columns_eq _ _ _ ?_).symm
  blk_simp [idx t]

theorem array7 : (dats m 0 c).arrAt 7 cfg0.N = columns (forScale (V m c main_arg0) (V m c main_arg1) (V m c main_arg3)) := by
  refine (dats m 0 c).arrAt_eq_of_covers 7 _ (by decide +kernel) fun t hf y => ?_
  have h5 : t.val = 31 := (by decide +kernel : ∀ t : Fin grid0.N, win0_7.flush t = true → t.val = 31) t hf
  blk_simp
  rw [after0_7]
  idx_vars y
  obtain rfl : y0 = 0 := Subsingleton.elim _ _
  refine (sums m c t.val t.isLt _).2.1.trans ?_
  rw [h5]
  refine (columns_eq _ _ _ ?_).symm
  blk_simp [idx t]

theorem array8 : (dats m 0 c).arrAt 8 cfg0.N = columns (forGain (V m c main_arg0) (V m c main_arg1) (V m c main_arg4)) := by
  refine (dats m 0 c).arrAt_eq_of_covers 8 _ (by decide +kernel) fun t hf y => ?_
  have h5 : t.val = 31 := (by decide +kernel : ∀ t : Fin grid0.N, win0_8.flush t = true → t.val = 31) t hf
  blk_simp
  rw [after0_8]
  idx_vars y
  obtain rfl : y0 = 0 := Subsingleton.elim _ _
  refine (sums m c t.val t.isLt _).2.2.trans ?_
  rw [h5]
  refine (columns_eq _ _ _ ?_).symm
  blk_simp [idx t]

theorem values : θ_run defs (onTc (τ := τ) (main (F := Ideal))) ⟨m, fun _ => 0, ρ⟩ fun r => ∀ c : Dev nD,
    r.2.mem ((c : Thread nD τ).loc main_v0_0) = rows (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v0_1) = columns (forShift (m ((c : Thread nD τ).loc main_arg0)))
    ∧ r.2.mem ((c : Thread nD τ).loc main_v0_2) = columns (forScale (m ((c : Thread nD τ).loc main_arg0)) (m ((c : Thread nD τ).loc main_arg1)) (m ((c : Thread nD τ).loc main_arg3)))
    ∧ r.2.mem ((c : Thread nD τ).loc main_v0_3) = columns (forGain (m ((c : Thread nD τ).loc main_arg0)) (m ((c : Thread nD τ).loc main_arg1)) (m ((c : Thread nD τ).loc main_arg4)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ⟨(h c).1.trans ((array5 m c).trans ?_), (h c).2.1.trans ((array6 m c).trans ?_),
    (h c).2.2.1.trans ((array7 m c).trans ?_), (h c).2.2.2.1.trans ((array8 m c).trans ?_), (h c).2.2.2.2⟩) (Value.run_blocks m ρ)
  · rw [V_main_arg0, V_main_arg1, V_main_arg2, V_main_arg3, V_main_arg4]
  · rw [V_main_arg0]
  · rw [V_main_arg0, V_main_arg1, V_main_arg3]
  · rw [V_main_arg0, V_main_arg1, V_main_arg4]

end Cert.Ln1Ideal.Product

namespace Cert.Norm

theorem frame_Ln1 : quiescent_Ln1 (hLn1 := Cert.Ln1.Gen.facts) := fun m g _ => Cert.Ln1.Gen.frame m g

theorem frame_Ln1Ideal : quiescent_Ln1Ideal (hLn1Ideal := Cert.Ln1Ideal.Gen.facts) := fun m g _ => Cert.Ln1Ideal.Gen.frame m g

theorem frame_RefLn1 : quiescent_RefLn1Ideal (hRefLn1Ideal := Cert.RefLn1Ideal.Gen.facts) := fun m g _ =>
  (θ_run _ _ _).mono (fun r h => ⟨fun c => (h c).2.2.2.2, sem_eq_zero_of_no_sems (by decide) r.2⟩) (Cert.RefLn1Ideal.Value.run m g)

theorem value_Ln1 : algebraic_Ln1Ideal_RefLn1Ideal (hLn1Ideal := Cert.Ln1Ideal.Gen.facts) (hRefLn1Ideal := Cert.RefLn1Ideal.Gen.facts) := by
  intro m g m' g' _ ha
  refine ⟨_, _, _, _, Cert.Ln1Ideal.Product.values m g, (θ_run _ _ _).mono (fun r h c => ⟨(h c).1.trans ?_, (h c).2.1.trans ?_, (h c).2.2.1.trans ?_, (h c).2.2.2.1.trans ?_, (h c).2.2.2.2⟩) (Cert.RefLn1Ideal.Value.run m' g')⟩
  all_goals obtain ⟨h0, h1, h2, h3, h4⟩ := ha c
  · unfold Cert.RefLn1Ideal.Value.res_main_v50
    rw [h0, h1, h2, h3, h4]
    funext i
    idx_vars i
    pointwise [Cert.Ln1Ideal.Product.rows, Cert.Ln1Ideal.Product.rowsAt, Finset.univ_unique, Finset.sum_singleton]
    exact congrArg _ (slope_swap _ (fun k => m (c.tc.loc Cert.Ln1Ideal.main_arg0) (ix2 (Cert.Ln1Ideal.Product.up i0) k))
      (fun k => m (c.tc.loc Cert.Ln1Ideal.main_arg3) (ix2 0 k)) (fun k => m (c.tc.loc Cert.Ln1Ideal.main_arg4) (ix2 1 k)) i1)
  · rw [h0]
    funext i
    idx_vars i
    pointwise [Cert.Ln1Ideal.Product.columns, Cert.Ln1Ideal.Product.forShift]
  · rw [h0, h1, h3]
    funext i
    idx_vars i
    pointwise [Cert.Ln1Ideal.Product.columns, Cert.Ln1Ideal.Product.forScale]
    refine Finset.sum_congr rfl fun j _ => ?_
    exact (mul_comm _ _).trans (mul_assoc _ _ _).symm
  · rw [h0, h1, h4]
    funext i
    idx_vars i
    pointwise [Cert.Ln1Ideal.Product.columns, Cert.Ln1Ideal.Product.forGain]
    refine Finset.sum_congr rfl fun j _ => ?_
    exact (mul_left_comm _ _ _).trans (mul_assoc _ _ _).symm

end Cert.Norm

end
-- ==== Proof.lean ====
/- The claims: both programs of the kernel and the reference end with their arguments unchanged and every semaphore at zero, the ideal
   program is the kernel's, and it computes the reference's gradients where the gates are in range; so for each of the products, of the optimiser's steps and of the five smaller calls. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Values
public import proofs.«01_k».proof.Proof.KernelFrame
public import proofs.«01_k».proof.Proof.Pre
public import proofs.«01_k».proof.Proof.Products
public import proofs.«01_k».proof.Proof.Optimiser
public import proofs.«01_k».proof.Proof.MergeValue
public import proofs.«01_k».proof.Proof.AdaFwdValue
public import proofs.«01_k».proof.Proof.AdaBwdValue
public import proofs.«01_k».proof.Proof.NormValue

@[expose] public section

noncomputable section

namespace Cert.Proof

open Idealize.ShloMosaic Idealize.SL.Sem Cert.Up

theorem algebraic : algebraic_KernelIdeal_ReferenceIdeal_pre_gates_in_range (hKernelIdeal := Cert.KernelIdeal.Gen.facts)
    (hReferenceIdeal := Cert.ReferenceIdeal.Gen.facts) (hPre_gates_in_range := Cert.Pre_gates_in_range.facts) := by
  intro m g m' g' hp ha
  have HF := fun c => Cert.Pre_gates_in_range.readsF (hp c).1 (hp c).2.1 (hp c).2.2.1 (hp c).2.2.2.1 (hp c).2.2.2.2.1
  have HR := fun c => Cert.Pre_gates_in_range.readsR (hp c).1 (hp c).2.1 (hp c).2.2.2.2.2.1 (hp c).2.2.2.2.2.2.1 (hp c).2.2.2.2.2.2.2
  refine ⟨_, _, _, _, _, _, _, _, Cert.KernelIdeal.Step.values m g HF HR, Cert.ReferenceIdeal.Step.values m' g' (fun c => ?_) fun c => ?_⟩
  · obtain ⟨h0, h1, h2, h3⟩ := ha c
    show Reads leF 4096 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3)) _ _ _ _ _
    rw [h0, h1, h3]
    exact HF c
  · obtain ⟨h0, h1, h2, h3⟩ := ha c
    show Reads leR 5120 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) _ _ _ _ _
    rw [h0, h2, h3]
    exact HR c

theorem claim : Cert.Claim :=
  ⟨Cert.Kernel.Gen.facts, Cert.KernelIdeal.Gen.facts, Cert.ReferenceIdeal.Gen.facts, Cert.FfnOut.Gen.facts, Cert.FfnOutIdeal.Gen.facts, Cert.RefFfnOutIdeal.Gen.facts,
    Cert.DH2.Gen.facts, Cert.DH2Ideal.Gen.facts, Cert.RefDH2Ideal.Gen.facts, Cert.DwFfnIn.Gen.facts, Cert.DwFfnInIdeal.Gen.facts, Cert.RefDwFfnInIdeal.Gen.facts,
    Cert.DwFfnOut.Gen.facts, Cert.DwFfnOutIdeal.Gen.facts, Cert.RefDwFfnOutIdeal.Gen.facts, Cert.FfnIn.Gen.facts, Cert.FfnInIdeal.Gen.facts, Cert.RefFfnInIdeal.Gen.facts,
    Cert.ProjP.Gen.facts, Cert.ProjPIdeal.Gen.facts, Cert.RefProjPIdeal.Gen.facts, Cert.ProjOut.Gen.facts, Cert.ProjOutIdeal.Gen.facts, Cert.RefProjOutIdeal.Gen.facts,
    Cert.DwOut.Gen.facts, Cert.DwOutIdeal.Gen.facts, Cert.RefDwOutIdeal.Gen.facts, Cert.DOna.Gen.facts, Cert.DOnaIdeal.Gen.facts, Cert.RefDOnaIdeal.Gen.facts,
    Cert.DOb.Gen.facts, Cert.DObIdeal.Gen.facts, Cert.RefDObIdeal.Gen.facts, Cert.DwP.Gen.facts, Cert.DwPIdeal.Gen.facts, Cert.RefDwPIdeal.Gen.facts,
    Cert.DSw.Gen.facts, Cert.DSwIdeal.Gen.facts, Cert.RefDSwIdeal.Gen.facts, Cert.DY.Gen.facts, Cert.DYIdeal.Gen.facts, Cert.RefDYIdeal.Gen.facts,
    Cert.AdIn.Gen.facts, Cert.AdInIdeal.Gen.facts, Cert.RefAdInIdeal.Gen.facts, Cert.AdFi.Gen.facts, Cert.AdFiIdeal.Gen.facts, Cert.RefAdFiIdeal.Gen.facts,
    Cert.AdFo.Gen.facts, Cert.AdFoIdeal.Gen.facts, Cert.RefAdFoIdeal.Gen.facts, Cert.AdP.Gen.facts, Cert.AdPIdeal.Gen.facts, Cert.RefAdPIdeal.Gen.facts,
    Cert.AdOut.Gen.facts, Cert.AdOutIdeal.Gen.facts, Cert.RefAdOutIdeal.Gen.facts, Cert.AdRow.Gen.facts, Cert.AdRowIdeal.Gen.facts, Cert.RefAdRowIdeal.Gen.facts,
    Cert.AdB.Gen.facts, Cert.AdBIdeal.Gen.facts, Cert.RefAdBIdeal.Gen.facts, Cert.AdRpb.Gen.facts, Cert.AdRpbIdeal.Gen.facts, Cert.RefAdRpbIdeal.Gen.facts,
    Cert.AdLb.Gen.facts, Cert.AdLbIdeal.Gen.facts, Cert.RefAdLbIdeal.Gen.facts, Cert.AdHn.Gen.facts, Cert.AdHnIdeal.Gen.facts, Cert.RefAdHnIdeal.Gen.facts,
    Cert.Merge.Gen.facts, Cert.MergeIdeal.Gen.facts, Cert.RefMergeIdeal.Gen.facts, Cert.AdaFwd.Gen.facts, Cert.AdaFwdIdeal.Gen.facts, Cert.RefAdaFwdIdeal.Gen.facts,
    Cert.AdaBwd.Gen.facts, Cert.AdaBwdIdeal.Gen.facts, Cert.RefAdaBwdIdeal.Gen.facts, Cert.Sum8.Gen.facts, Cert.Sum8Ideal.Gen.facts, Cert.RefSum8Ideal.Gen.facts,
    Cert.Ln1.Gen.facts, Cert.Ln1Ideal.Gen.facts, Cert.RefLn1Ideal.Gen.facts, Cert.Pre_gates_in_range.facts, Cert.Pre_factors_finite.facts,
    Cert.Kernel.Same.frame, fun m g _ => Cert.KernelIdeal.Step.frame m g, fun m g _ => Cert.KernelIdeal.Step.frame m g,
    fun m g _ => Cert.ReferenceIdeal.Step.frame m g, fun m g _ => Cert.ReferenceIdeal.Step.frame m g,
    Cert.Products.frame_FfnOut, Cert.Products.frame_FfnOutIdeal, Cert.Products.frame_RefFfnOut,
    Cert.Products.frame_DH2, Cert.Products.frame_DH2Ideal, Cert.Products.frame_RefDH2,
    Cert.Products.frame_DwFfnIn, Cert.Products.frame_DwFfnInIdeal, Cert.Products.frame_RefDwFfnIn,
    Cert.Products.frame_DwFfnOut, Cert.Products.frame_DwFfnOutIdeal, Cert.Products.frame_RefDwFfnOut,
    Cert.Products.frame_FfnIn, Cert.Products.frame_FfnInIdeal, Cert.Products.frame_RefFfnIn,
    Cert.Products.frame_ProjP, Cert.Products.frame_ProjPIdeal, Cert.Products.frame_RefProjP,
    Cert.Products.frame_ProjOut, Cert.Products.frame_ProjOutIdeal, Cert.Products.frame_RefProjOut,
    Cert.Products.frame_DwOut, Cert.Products.frame_DwOutIdeal, Cert.Products.frame_RefDwOut,
    Cert.Products.frame_DOna, Cert.Products.frame_DOnaIdeal, Cert.Products.frame_RefDOna,
    Cert.Products.frame_DOb, Cert.Products.frame_DObIdeal, Cert.Products.frame_RefDOb,
    Cert.Products.frame_DwP, Cert.Products.frame_DwPIdeal, Cert.Products.frame_RefDwP,
    Cert.Products.frame_DSw, Cert.Products.frame_DSwIdeal, fun m g _ => Cert.Products.frame_DSwIdeal m g trivial,
    Cert.Products.frame_RefDSw, fun m g _ => Cert.Products.frame_RefDSw m g trivial, Cert.Products.frame_DY,
    Cert.Products.frame_DYIdeal, Cert.Products.frame_RefDY, Cert.Optimiser.frame_AdIn,
    Cert.Optimiser.frame_AdInIdeal, Cert.Optimiser.frame_RefAdIn, Cert.Optimiser.frame_AdFi,
    Cert.Optimiser.frame_AdFiIdeal, Cert.Optimiser.frame_RefAdFi, Cert.Optimiser.frame_AdFo,
    Cert.Optimiser.frame_AdFoIdeal, Cert.Optimiser.frame_RefAdFo, Cert.Optimiser.frame_AdP,
    Cert.Optimiser.frame_AdPIdeal, Cert.Optimiser.frame_RefAdP, Cert.Optimiser.frame_AdOut,
    Cert.Optimiser.frame_AdOutIdeal, Cert.Optimiser.frame_RefAdOut, Cert.Optimiser.frame_AdRow,
    Cert.Optimiser.frame_AdRowIdeal, Cert.Optimiser.frame_RefAdRow, Cert.Optimiser.frame_AdB,
    Cert.Optimiser.frame_AdBIdeal, Cert.Optimiser.frame_RefAdB, Cert.Optimiser.frame_AdRpb,
    Cert.Optimiser.frame_AdRpbIdeal, Cert.Optimiser.frame_RefAdRpb, Cert.Optimiser.frame_AdLb,
    Cert.Optimiser.frame_AdLbIdeal, Cert.Optimiser.frame_RefAdLb, Cert.Optimiser.frame_AdHn,
    Cert.Optimiser.frame_AdHnIdeal, Cert.Optimiser.frame_RefAdHn, Cert.Entries.frame_Merge,
    Cert.Entries.frame_MergeIdeal, Cert.Entries.frame_RefMerge, Cert.Modulation.frame_AdaFwd,
    Cert.Modulation.frame_AdaFwdIdeal, Cert.Modulation.frame_RefAdaFwd, Cert.Modulation.frame_AdaBwd,
    Cert.Modulation.frame_AdaBwdIdeal, Cert.Modulation.frame_RefAdaBwd, Cert.Entries.frame_Sum8,
    Cert.Entries.frame_Sum8Ideal, Cert.Entries.frame_RefSum8, Cert.Norm.frame_Ln1,
    Cert.Norm.frame_Ln1Ideal, Cert.Norm.frame_RefLn1,
    trivial, algebraic,
    trivial, Cert.Products.value_FfnOut,
    trivial, Cert.Products.value_DH2,
    trivial, Cert.Products.value_DwFfnIn,
    trivial, Cert.Products.value_DwFfnOut,
    trivial, Cert.Products.value_FfnIn,
    trivial, Cert.Products.value_ProjP,
    trivial, Cert.Products.value_ProjOut,
    trivial, Cert.Products.value_DwOut,
    trivial, Cert.Products.value_DOna,
    trivial, Cert.Products.value_DOb,
    trivial, Cert.Products.value_DwP,
    trivial, Cert.Products.value_DSw,
    trivial, Cert.Products.value_DY,
    Cert.Optimiser.names_AdIn, Cert.Optimiser.value_AdIn,
    Cert.Optimiser.names_AdFi, Cert.Optimiser.value_AdFi,
    Cert.Optimiser.names_AdFo, Cert.Optimiser.value_AdFo,
    Cert.Optimiser.names_AdP, Cert.Optimiser.value_AdP,
    Cert.Optimiser.names_AdOut, Cert.Optimiser.value_AdOut,
    Cert.Optimiser.names_AdRow, Cert.Optimiser.value_AdRow,
    Cert.Optimiser.names_AdB, Cert.Optimiser.value_AdB,
    Cert.Optimiser.names_AdRpb, Cert.Optimiser.value_AdRpb,
    Cert.Optimiser.names_AdLb, Cert.Optimiser.value_AdLb,
    Cert.Optimiser.names_AdHn, Cert.Optimiser.value_AdHn,
    trivial, Cert.Entries.value_Merge,
    trivial, Cert.Modulation.value_AdaFwd,
    trivial, Cert.Modulation.value_AdaBwd,
    trivial, Cert.Entries.value_Sum8,
    trivial, Cert.Norm.value_Ln1⟩

end Cert.Proof

end
